-- ==== Defs.lean ====
def Pre_EvenDw (m : (ℓ : Loc Cert.EvenDw.nD Cert.EvenDw.τ Cert.EvenDw.sig) → Buf (Elt Bits) ℓ) : Prop :=
  True

def Pre_EvenDwIdeal (m : (ℓ : Loc Cert.EvenDwIdeal.nD Cert.EvenDwIdeal.τ Cert.EvenDwIdeal.sig) → Buf (Elt Ideal) ℓ) : Prop :=
  True

def Pre_EvenDwRefIdeal (m : (ℓ : Loc Cert.EvenDwRefIdeal.nD Cert.EvenDwRefIdeal.τ Cert.EvenDwRefIdeal.sig) → Buf (Elt Ideal) ℓ) : Prop :=
  True

def Pre_OddDw (m : (ℓ : Loc Cert.OddDw.nD Cert.OddDw.τ Cert.OddDw.sig) → Buf (Elt Bits) ℓ) : Prop :=
  True

def Pre_OddDwIdeal (m : (ℓ : Loc Cert.OddDwIdeal.nD Cert.OddDwIdeal.τ Cert.OddDwIdeal.sig) → Buf (Elt Ideal) ℓ) : Prop :=
  True

def Pre_OddDwRefIdeal (m : (ℓ : Loc Cert.OddDwRefIdeal.nD Cert.OddDwRefIdeal.τ Cert.OddDwRefIdeal.sig) → Buf (Elt Ideal) ℓ) : Prop :=
  True

def Pre_EvenDh (m : (ℓ : Loc Cert.EvenDh.nD Cert.EvenDh.τ Cert.EvenDh.sig) → Buf (Elt Bits) ℓ) : Prop :=
  True

def Pre_EvenDhIdeal (m : (ℓ : Loc Cert.EvenDhIdeal.nD Cert.EvenDhIdeal.τ Cert.EvenDhIdeal.sig) → Buf (Elt Ideal) ℓ) : Prop :=
  True

def Pre_EvenDhRefIdeal (m : (ℓ : Loc Cert.EvenDhRefIdeal.nD Cert.EvenDhRefIdeal.τ Cert.EvenDhRefIdeal.sig) → Buf (Elt Ideal) ℓ) : Prop :=
  True

def Pre_OddDh (m : (ℓ : Loc Cert.OddDh.nD Cert.OddDh.τ Cert.OddDh.sig) → Buf (Elt Bits) ℓ) : Prop :=
  True

def Pre_OddDhIdeal (m : (ℓ : Loc Cert.OddDhIdeal.nD Cert.OddDhIdeal.τ Cert.OddDhIdeal.sig) → Buf (Elt Ideal) ℓ) : Prop :=
  True

def Pre_OddDhRefIdeal (m : (ℓ : Loc Cert.OddDhRefIdeal.nD Cert.OddDhRefIdeal.τ Cert.OddDhRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_EvenFwd (m : (ℓ : Loc Cert.EvenFwd.nD Cert.EvenFwd.τ Cert.EvenFwd.sig) → Buf (Elt Bits) ℓ) : Prop :=
  True

def Pre_EvenFwdIdeal (m : (ℓ : Loc Cert.EvenFwdIdeal.nD Cert.EvenFwdIdeal.τ Cert.EvenFwdIdeal.sig) → Buf (Elt Ideal) ℓ) : Prop :=
  True

def Pre_EvenFwdRefIdeal (m : (ℓ : Loc Cert.EvenFwdRefIdeal.nD Cert.EvenFwdRefIdeal.τ Cert.EvenFwdRefIdeal.sig) → Buf (Elt Ideal) ℓ) : Prop :=
  True

def Pre_OddFwd (m : (ℓ : Loc Cert.OddFwd.nD Cert.OddFwd.τ Cert.OddFwd.sig) → Buf (Elt Bits) ℓ) : Prop :=
  True

def Pre_OddFwdIdeal (m : (ℓ : Loc Cert.OddFwdIdeal.nD Cert.OddFwdIdeal.τ Cert.OddFwdIdeal.sig) → Buf (Elt Ideal) ℓ) : Prop :=
  True

def Pre_OddFwdRefIdeal (m : (ℓ : Loc Cert.OddFwdRefIdeal.nD Cert.OddFwdRefIdeal.τ Cert.OddFwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjLast (m : (ℓ : Loc Cert.OutProjLast.nD Cert.OutProjLast.τ Cert.OutProjLast.sig) → Buf (Elt Bits) ℓ) : Prop :=
  True

def Pre_OutProjLastIdeal (m : (ℓ : Loc Cert.OutProjLastIdeal.nD Cert.OutProjLastIdeal.τ Cert.OutProjLastIdeal.sig) → Buf (Elt Ideal) ℓ) : Prop :=
  True

def Pre_OutProjLastRefIdeal (m : (ℓ : Loc Cert.OutProjLastRefIdeal.nD Cert.OutProjLastRefIdeal.τ Cert.OutProjLastRefIdeal.sig) → Buf (Elt Ideal) ℓ) : Prop :=
  True

def Pre_OddMixFwd (m : (ℓ : Loc Cert.OddMixFwd.nD Cert.OddMixFwd.τ Cert.OddMixFwd.sig) → Buf (Elt Bits) ℓ) : Prop :=
  True

def Pre_OddMixFwdIdeal (m : (ℓ : Loc Cert.OddMixFwdIdeal.nD Cert.OddMixFwdIdeal.τ Cert.OddMixFwdIdeal.sig) → Buf (Elt Ideal) ℓ) : Prop :=
  True

def Pre_OddMixFwdRefIdeal (m : (ℓ : Loc Cert.OddMixFwdRefIdeal.nD Cert.OddMixFwdRefIdeal.τ Cert.OddMixFwdRefIdeal.sig) → Buf (Elt Ideal) ℓ) : Prop :=
  True

def Pre_EvenMixFwd (m : (ℓ : Loc Cert.EvenMixFwd.nD Cert.EvenMixFwd.τ Cert.EvenMixFwd.sig) → Buf (Elt Bits) ℓ) : Prop :=
  True

def Pre_EvenMixFwdIdeal (m : (ℓ : Loc Cert.EvenMixFwdIdeal.nD Cert.EvenMixFwdIdeal.τ Cert.EvenMixFwdIdeal.sig) → Buf (Elt Ideal) ℓ) : Prop :=
  True

def Pre_EvenMixFwdRefIdeal (m : (ℓ : Loc Cert.EvenMixFwdRefIdeal.nD Cert.EvenMixFwdRefIdeal.τ Cert.EvenMixFwdRefIdeal.sig) → Buf (Elt Ideal) ℓ) : Prop :=
  True

def Pre_OddMixBwd (m : (ℓ : Loc Cert.OddMixBwd.nD Cert.OddMixBwd.τ Cert.OddMixBwd.sig) → Buf (Elt Bits) ℓ) : Prop :=
  True

def Pre_OddMixBwdIdeal (m : (ℓ : Loc Cert.OddMixBwdIdeal.nD Cert.OddMixBwdIdeal.τ Cert.OddMixBwdIdeal.sig) → Buf (Elt Ideal) ℓ) : Prop :=
  True

def Pre_OddMixBwdIdeal_odd_finite [hPre_odd_finite : Cert.Pre_odd_finite.Facts] (m : (ℓ : Loc Cert.OddMixBwdIdeal.nD Cert.OddMixBwdIdeal.τ Cert.OddMixBwdIdeal.sig) → Buf (Elt Ideal) ℓ) : Prop :=
  ∀ c : Dev Cert.OddMixBwdIdeal.nD,
    (Cert.Pre_odd_finite.fn (F := Ideal) (m ((c.tc : Thread Cert.OddMixBwdIdeal.nD Cert.OddMixBwdIdeal.τ).loc Cert.OddMixBwdIdeal.main_arg0)) (m ((c.tc : Thread Cert.OddMixBwdIdeal.nD Cert.OddMixBwdIdeal.τ).loc Cert.OddMixBwdIdeal.main_arg1)) (m ((c.tc : Thread Cert.OddMixBwdIdeal.nD Cert.OddMixBwdIdeal.τ).loc Cert.OddMixBwdIdeal.main_arg2)) (m ((c.tc : Thread Cert.OddMixBwdIdeal.nD Cert.OddMixBwdIdeal.τ).loc Cert.OddMixBwdIdeal.main_arg3))) = (fun _ => 1#1)

def Pre_OddMixBwdRefIdeal (m : (ℓ : Loc Cert.OddMixBwdRefIdeal.nD Cert.OddMixBwdRefIdeal.τ Cert.OddMixBwdRefIdeal.sig) → Buf (Elt Ideal) ℓ) : Prop :=
  True

def Pre_OddMixBwdRefIdeal_odd_finite [hPre_odd_finite : Cert.Pre_odd_finite.Facts] (m : (ℓ : Loc Cert.OddMixBwdRefIdeal.nD Cert.OddMixBwdRefIdeal.τ Cert.OddMixBwdRefIdeal.sig) → Buf (Elt Ideal) ℓ) : Prop :=
  ∀ c : Dev Cert.OddMixBwdRefIdeal.nD,
    (Cert.Pre_odd_finite.fn (F := Ideal) (m ((c.tc : Thread Cert.OddMixBwdRefIdeal.nD Cert.OddMixBwdRefIdeal.τ).loc Cert.OddMixBwdRefIdeal.main_arg0)) (m ((c.tc : Thread Cert.OddMixBwdRefIdeal.nD Cert.OddMixBwdRefIdeal.τ).loc Cert.OddMixBwdRefIdeal.main_arg1)) (m ((c.tc : Thread Cert.OddMixBwdRefIdeal.nD Cert.OddMixBwdRefIdeal.τ).loc Cert.OddMixBwdRefIdeal.main_arg2)) (m ((c.tc : Thread Cert.OddMixBwdRefIdeal.nD Cert.OddMixBwdRefIdeal.τ).loc Cert.OddMixBwdRefIdeal.main_arg3))) = (fun _ => 1#1)

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdamwEven (m : (ℓ : Loc Cert.AdamwEven.nD Cert.AdamwEven.τ Cert.AdamwEven.sig) → Buf (Elt Bits) ℓ) : Prop :=
  True

def Pre_AdamwEvenIdeal (m : (ℓ : Loc Cert.AdamwEvenIdeal.nD Cert.AdamwEvenIdeal.τ Cert.AdamwEvenIdeal.sig) → Buf (Elt Ideal) ℓ) : Prop :=
  True

def Pre_AdamwEvenRefIdeal (m : (ℓ : Loc Cert.AdamwEvenRefIdeal.nD Cert.AdamwEvenRefIdeal.τ Cert.AdamwEvenRefIdeal.sig) → Buf (Elt Ideal) ℓ) : Prop :=
  True

def Pre_AdamwOdd (m : (ℓ : Loc Cert.AdamwOdd.nD Cert.AdamwOdd.τ Cert.AdamwOdd.sig) → Buf (Elt Bits) ℓ) : Prop :=
  True

def Pre_AdamwOddIdeal (m : (ℓ : Loc Cert.AdamwOddIdeal.nD Cert.AdamwOddIdeal.τ Cert.AdamwOddIdeal.sig) → Buf (Elt Ideal) ℓ) : Prop :=
  True

def Pre_AdamwOddRefIdeal (m : (ℓ : Loc Cert.AdamwOddRefIdeal.nD Cert.AdamwOddRefIdeal.τ Cert.AdamwOddRefIdeal.sig) → Buf (Elt Ideal) ℓ) : Prop :=
  True

def quiescent_EvenDw [hEvenDw : Cert.EvenDw.Facts] : Prop :=
  ∀ (m : (ℓ : Loc Cert.EvenDw.nD Cert.EvenDw.τ Cert.EvenDw.sig) → Buf (Elt Bits) ℓ) (g : Dev Cert.EvenDw.nD → PrngReg), Pre_EvenDw m →
    θ_run (Cert.EvenDw.defs (F := Bits)) (onTc (τ := Cert.EvenDw.τ) (Cert.EvenDw.main (F := Bits))) ⟨m, fun _ => 0, g⟩ (fun r => (∀ c : Dev Cert.EvenDw.nD,
      r.2.mem ((c.tc : Thread Cert.EvenDw.nD Cert.EvenDw.τ).loc Cert.EvenDw.main_arg0) = m ((c.tc : Thread Cert.EvenDw.nD Cert.EvenDw.τ).loc Cert.EvenDw.main_arg0)
      ∧ r.2.mem ((c.tc : Thread Cert.EvenDw.nD Cert.EvenDw.τ).loc Cert.EvenDw.main_arg1) = m ((c.tc : Thread Cert.EvenDw.nD Cert.EvenDw.τ).loc Cert.EvenDw.main_arg1))
      ∧ r.2.sem = fun _ => 0)

def quiescent_EvenDwIdeal [hEvenDwIdeal : Cert.EvenDwIdeal.Facts] : Prop :=
  ∀ (m : (ℓ : Loc Cert.EvenDwIdeal.nD Cert.EvenDwIdeal.τ Cert.EvenDwIdeal.sig) → Buf (Elt Ideal) ℓ) (g : Dev Cert.EvenDwIdeal.nD → PrngReg), Pre_EvenDwIdeal m →
    θ_run (Cert.EvenDwIdeal.defs (F := Ideal)) (onTc (τ := Cert.EvenDwIdeal.τ) (Cert.EvenDwIdeal.main (F := Ideal))) ⟨m, fun _ => 0, g⟩ (fun r => (∀ c : Dev Cert.EvenDwIdeal.nD,
      r.2.mem ((c.tc : Thread Cert.EvenDwIdeal.nD Cert.EvenDwIdeal.τ).loc Cert.EvenDwIdeal.main_arg0) = m ((c.tc : Thread Cert.EvenDwIdeal.nD Cert.EvenDwIdeal.τ).loc Cert.EvenDwIdeal.main_arg0)
      ∧ r.2.mem ((c.tc : Thread Cert.EvenDwIdeal.nD Cert.EvenDwIdeal.τ).loc Cert.EvenDwIdeal.main_arg1) = m ((c.tc : Thread Cert.EvenDwIdeal.nD Cert.EvenDwIdeal.τ).loc Cert.EvenDwIdeal.main_arg1))
      ∧ r.2.sem = fun _ => 0)

def quiescent_EvenDwRefIdeal [hEvenDwRefIdeal : Cert.EvenDwRefIdeal.Facts] : Prop :=
  ∀ (m : (ℓ : Loc Cert.EvenDwRefIdeal.nD Cert.EvenDwRefIdeal.τ Cert.EvenDwRefIdeal.sig) → Buf (Elt Ideal) ℓ) (g : Dev Cert.EvenDwRefIdeal.nD → PrngReg), Pre_EvenDwRefIdeal m →
    θ_run (Cert.EvenDwRefIdeal.defs (F := Ideal)) (onTc (τ := Cert.EvenDwRefIdeal.τ) (Cert.EvenDwRefIdeal.main (F := Ideal))) ⟨m, fun _ => 0, g⟩ (fun r => (∀ c : Dev Cert.EvenDwRefIdeal.nD,
      r.2.mem ((c.tc : Thread Cert.EvenDwRefIdeal.nD Cert.EvenDwRefIdeal.τ).loc Cert.EvenDwRefIdeal.main_arg0) = m ((c.tc : Thread Cert.EvenDwRefIdeal.nD Cert.EvenDwRefIdeal.τ).loc Cert.EvenDwRefIdeal.main_arg0)
      ∧ r.2.mem ((c.tc : Thread Cert.EvenDwRefIdeal.nD Cert.EvenDwRefIdeal.τ).loc Cert.EvenDwRefIdeal.main_arg1) = m ((c.tc : Thread Cert.EvenDwRefIdeal.nD Cert.EvenDwRefIdeal.τ).loc Cert.EvenDwRefIdeal.main_arg1))
      ∧ r.2.sem = fun _ => 0)

def quiescent_OddDw [hOddDw : Cert.OddDw.Facts] : Prop :=
  ∀ (m : (ℓ : Loc Cert.OddDw.nD Cert.OddDw.τ Cert.OddDw.sig) → Buf (Elt Bits) ℓ) (g : Dev Cert.OddDw.nD → PrngReg), Pre_OddDw m →
    θ_run (Cert.OddDw.defs (F := Bits)) (onTc (τ := Cert.OddDw.τ) (Cert.OddDw.main (F := Bits))) ⟨m, fun _ => 0, g⟩ (fun r => (∀ c : Dev Cert.OddDw.nD,
      r.2.mem ((c.tc : Thread Cert.OddDw.nD Cert.OddDw.τ).loc Cert.OddDw.main_arg0) = m ((c.tc : Thread Cert.OddDw.nD Cert.OddDw.τ).loc Cert.OddDw.main_arg0)
      ∧ r.2.mem ((c.tc : Thread Cert.OddDw.nD Cert.OddDw.τ).loc Cert.OddDw.main_arg1) = m ((c.tc : Thread Cert.OddDw.nD Cert.OddDw.τ).loc Cert.OddDw.main_arg1))
      ∧ r.2.sem = fun _ => 0)

def quiescent_OddDwIdeal [hOddDwIdeal : Cert.OddDwIdeal.Facts] : Prop :=
  ∀ (m : (ℓ : Loc Cert.OddDwIdeal.nD Cert.OddDwIdeal.τ Cert.OddDwIdeal.sig) → Buf (Elt Ideal) ℓ) (g : Dev Cert.OddDwIdeal.nD → PrngReg), Pre_OddDwIdeal m →
    θ_run (Cert.OddDwIdeal.defs (F := Ideal)) (onTc (τ := Cert.OddDwIdeal.τ) (Cert.OddDwIdeal.main (F := Ideal))) ⟨m, fun _ => 0, g⟩ (fun r => (∀ c : Dev Cert.OddDwIdeal.nD,
      r.2.mem ((c.tc : Thread Cert.OddDwIdeal.nD Cert.OddDwIdeal.τ).loc Cert.OddDwIdeal.main_arg0) = m ((c.tc : Thread Cert.OddDwIdeal.nD Cert.OddDwIdeal.τ).loc Cert.OddDwIdeal.main_arg0)
      ∧ r.2.mem ((c.tc : Thread Cert.OddDwIdeal.nD Cert.OddDwIdeal.τ).loc Cert.OddDwIdeal.main_arg1) = m ((c.tc : Thread Cert.OddDwIdeal.nD Cert.OddDwIdeal.τ).loc Cert.OddDwIdeal.main_arg1))
      ∧ r.2.sem = fun _ => 0)

def quiescent_OddDwRefIdeal [hOddDwRefIdeal : Cert.OddDwRefIdeal.Facts] : Prop :=
  ∀ (m : (ℓ : Loc Cert.OddDwRefIdeal.nD Cert.OddDwRefIdeal.τ Cert.OddDwRefIdeal.sig) → Buf (Elt Ideal) ℓ) (g : Dev Cert.OddDwRefIdeal.nD → PrngReg), Pre_OddDwRefIdeal m →
    θ_run (Cert.OddDwRefIdeal.defs (F := Ideal)) (onTc (τ := Cert.OddDwRefIdeal.τ) (Cert.OddDwRefIdeal.main (F := Ideal))) ⟨m, fun _ => 0, g⟩ (fun r => (∀ c : Dev Cert.OddDwRefIdeal.nD,
      r.2.mem ((c.tc : Thread Cert.OddDwRefIdeal.nD Cert.OddDwRefIdeal.τ).loc Cert.OddDwRefIdeal.main_arg0) = m ((c.tc : Thread Cert.OddDwRefIdeal.nD Cert.OddDwRefIdeal.τ).loc Cert.OddDwRefIdeal.main_arg0)
      ∧ r.2.mem ((c.tc : Thread Cert.OddDwRefIdeal.nD Cert.OddDwRefIdeal.τ).loc Cert.OddDwRefIdeal.main_arg1) = m ((c.tc : Thread Cert.OddDwRefIdeal.nD Cert.OddDwRefIdeal.τ).loc Cert.OddDwRefIdeal.main_arg1))
      ∧ r.2.sem = fun _ => 0)

def quiescent_EvenDh [hEvenDh : Cert.EvenDh.Facts] : Prop :=
  ∀ (m : (ℓ : Loc Cert.EvenDh.nD Cert.EvenDh.τ Cert.EvenDh.sig) → Buf (Elt Bits) ℓ) (g : Dev Cert.EvenDh.nD → PrngReg), Pre_EvenDh m →
    θ_run (Cert.EvenDh.defs (F := Bits)) (onTc (τ := Cert.EvenDh.τ) (Cert.EvenDh.main (F := Bits))) ⟨m, fun _ => 0, g⟩ (fun r => (∀ c : Dev Cert.EvenDh.nD,
      r.2.mem ((c.tc : Thread Cert.EvenDh.nD Cert.EvenDh.τ).loc Cert.EvenDh.main_arg0) = m ((c.tc : Thread Cert.EvenDh.nD Cert.EvenDh.τ).loc Cert.EvenDh.main_arg0)
      ∧ r.2.mem ((c.tc : Thread Cert.EvenDh.nD Cert.EvenDh.τ).loc Cert.EvenDh.main_arg1) = m ((c.tc : Thread Cert.EvenDh.nD Cert.EvenDh.τ).loc Cert.EvenDh.main_arg1))
      ∧ r.2.sem = fun _ => 0)

def quiescent_EvenDhIdeal [hEvenDhIdeal : Cert.EvenDhIdeal.Facts] : Prop :=
  ∀ (m : (ℓ : Loc Cert.EvenDhIdeal.nD Cert.EvenDhIdeal.τ Cert.EvenDhIdeal.sig) → Buf (Elt Ideal) ℓ) (g : Dev Cert.EvenDhIdeal.nD → PrngReg), Pre_EvenDhIdeal m →
    θ_run (Cert.EvenDhIdeal.defs (F := Ideal)) (onTc (τ := Cert.EvenDhIdeal.τ) (Cert.EvenDhIdeal.main (F := Ideal))) ⟨m, fun _ => 0, g⟩ (fun r => (∀ c : Dev Cert.EvenDhIdeal.nD,
      r.2.mem ((c.tc : Thread Cert.EvenDhIdeal.nD Cert.EvenDhIdeal.τ).loc Cert.EvenDhIdeal.main_arg0) = m ((c.tc : Thread Cert.EvenDhIdeal.nD Cert.EvenDhIdeal.τ).loc Cert.EvenDhIdeal.main_arg0)
      ∧ r.2.mem ((c.tc : Thread Cert.EvenDhIdeal.nD Cert.EvenDhIdeal.τ).loc Cert.EvenDhIdeal.main_arg1) = m ((c.tc : Thread Cert.EvenDhIdeal.nD Cert.EvenDhIdeal.τ).loc Cert.EvenDhIdeal.main_arg1))
      ∧ r.2.sem = fun _ => 0)

def quiescent_EvenDhRefIdeal [hEvenDhRefIdeal : Cert.EvenDhRefIdeal.Facts] : Prop :=
  ∀ (m : (ℓ : Loc Cert.EvenDhRefIdeal.nD Cert.EvenDhRefIdeal.τ Cert.EvenDhRefIdeal.sig) → Buf (Elt Ideal) ℓ) (g : Dev Cert.EvenDhRefIdeal.nD → PrngReg), Pre_EvenDhRefIdeal m →
    θ_run (Cert.EvenDhRefIdeal.defs (F := Ideal)) (onTc (τ := Cert.EvenDhRefIdeal.τ) (Cert.EvenDhRefIdeal.main (F := Ideal))) ⟨m, fun _ => 0, g⟩ (fun r => (∀ c : Dev Cert.EvenDhRefIdeal.nD,
      r.2.mem ((c.tc : Thread Cert.EvenDhRefIdeal.nD Cert.EvenDhRefIdeal.τ).loc Cert.EvenDhRefIdeal.main_arg0) = m ((c.tc : Thread Cert.EvenDhRefIdeal.nD Cert.EvenDhRefIdeal.τ).loc Cert.EvenDhRefIdeal.main_arg0)
      ∧ r.2.mem ((c.tc : Thread Cert.EvenDhRefIdeal.nD Cert.EvenDhRefIdeal.τ).loc Cert.EvenDhRefIdeal.main_arg1) = m ((c.tc : Thread Cert.EvenDhRefIdeal.nD Cert.EvenDhRefIdeal.τ).loc Cert.EvenDhRefIdeal.main_arg1))
      ∧ r.2.sem = fun _ => 0)

def quiescent_OddDh [hOddDh : Cert.OddDh.Facts] : Prop :=
  ∀ (m : (ℓ : Loc Cert.OddDh.nD Cert.OddDh.τ Cert.OddDh.sig) → Buf (Elt Bits) ℓ) (g : Dev Cert.OddDh.nD → PrngReg), Pre_OddDh m →
    θ_run (Cert.OddDh.defs (F := Bits)) (onTc (τ := Cert.OddDh.τ) (Cert.OddDh.main (F := Bits))) ⟨m, fun _ => 0, g⟩ (fun r => (∀ c : Dev Cert.OddDh.nD,
      r.2.mem ((c.tc : Thread Cert.OddDh.nD Cert.OddDh.τ).loc Cert.OddDh.main_arg0) = m ((c.tc : Thread Cert.OddDh.nD Cert.OddDh.τ).loc Cert.OddDh.main_arg0)
      ∧ r.2.mem ((c.tc : Thread Cert.OddDh.nD Cert.OddDh.τ).loc Cert.OddDh.main_arg1) = m ((c.tc : Thread Cert.OddDh.nD Cert.OddDh.τ).loc Cert.OddDh.main_arg1))
      ∧ r.2.sem = fun _ => 0)

def quiescent_OddDhIdeal [hOddDhIdeal : Cert.OddDhIdeal.Facts] : Prop :=
  ∀ (m : (ℓ : Loc Cert.OddDhIdeal.nD Cert.OddDhIdeal.τ Cert.OddDhIdeal.sig) → Buf (Elt Ideal) ℓ) (g : Dev Cert.OddDhIdeal.nD → PrngReg), Pre_OddDhIdeal m →
    θ_run (Cert.OddDhIdeal.defs (F := Ideal)) (onTc (τ := Cert.OddDhIdeal.τ) (Cert.OddDhIdeal.main (F := Ideal))) ⟨m, fun _ => 0, g⟩ (fun r => (∀ c : Dev Cert.OddDhIdeal.nD,
      r.2.mem ((c.tc : Thread Cert.OddDhIdeal.nD Cert.OddDhIdeal.τ).loc Cert.OddDhIdeal.main_arg0) = m ((c.tc : Thread Cert.OddDhIdeal.nD Cert.OddDhIdeal.τ).loc Cert.OddDhIdeal.main_arg0)
      ∧ r.2.mem ((c.tc : Thread Cert.OddDhIdeal.nD Cert.OddDhIdeal.τ).loc Cert.OddDhIdeal.main_arg1) = m ((c.tc : Thread Cert.OddDhIdeal.nD Cert.OddDhIdeal.τ).loc Cert.OddDhIdeal.main_arg1))
      ∧ r.2.sem = fun _ => 0)

def quiescent_OddDhRefIdeal [hOddDhRefIdeal : Cert.OddDhRefIdeal.Facts] : Prop :=
  ∀ (m : (ℓ : Loc Cert.OddDhRefIdeal.nD Cert.OddDhRefIdeal.τ Cert.OddDhRefIdeal.sig) → Buf (Elt Ideal) ℓ) (g : Dev Cert.OddDhRefIdeal.nD → PrngReg), Pre_OddDhRefIdeal m →
    θ_run (Cert.OddDhRefIdeal.defs (F := Ideal)) (onTc (τ := Cert.OddDhRefIdeal.τ) (Cert.OddDhRefIdeal.main (F := Ideal))) ⟨m, fun _ => 0, g⟩ (fun r => (∀ c : Dev Cert.OddDhRefIdeal.nD,
      r.2.mem ((c.tc : Thread Cert.OddDhRefIdeal.nD Cert.OddDhRefIdeal.τ).loc Cert.OddDhRefIdeal.main_arg0) = m ((c.tc : Thread Cert.OddDhRefIdeal.nD Cert.OddDhRefIdeal.τ).loc Cert.OddDhRefIdeal.main_arg0)
      ∧ r.2.mem ((c.tc : Thread Cert.OddDhRefIdeal.nD Cert.OddDhRefIdeal.τ).loc Cert.OddDhRefIdeal.main_arg1) = m ((c.tc : Thread Cert.OddDhRefIdeal.nD Cert.OddDhRefIdeal.τ).loc Cert.OddDhRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2))
      ∧ r.2.sem = fun _ => 0)

def quiescent_EvenFwd [hEvenFwd : Cert.EvenFwd.Facts] : Prop :=
  ∀ (m : (ℓ : Loc Cert.EvenFwd.nD Cert.EvenFwd.τ Cert.EvenFwd.sig) → Buf (Elt Bits) ℓ) (g : Dev Cert.EvenFwd.nD → PrngReg), Pre_EvenFwd m →
    θ_run (Cert.EvenFwd.defs (F := Bits)) (onTc (τ := Cert.EvenFwd.τ) (Cert.EvenFwd.main (F := Bits))) ⟨m, fun _ => 0, g⟩ (fun r => (∀ c : Dev Cert.EvenFwd.nD,
      r.2.mem ((c.tc : Thread Cert.EvenFwd.nD Cert.EvenFwd.τ).loc Cert.EvenFwd.main_arg0) = m ((c.tc : Thread Cert.EvenFwd.nD Cert.EvenFwd.τ).loc Cert.EvenFwd.main_arg0)
      ∧ r.2.mem ((c.tc : Thread Cert.EvenFwd.nD Cert.EvenFwd.τ).loc Cert.EvenFwd.main_arg1) = m ((c.tc : Thread Cert.EvenFwd.nD Cert.EvenFwd.τ).loc Cert.EvenFwd.main_arg1))
      ∧ r.2.sem = fun _ => 0)

def quiescent_EvenFwdIdeal [hEvenFwdIdeal : Cert.EvenFwdIdeal.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg), Pre_EvenFwdIdeal m →
    θ_run (Cert.EvenFwdIdeal.defs (F := Ideal)) (onTc (τ := Cert.EvenFwdIdeal.τ) (Cert.EvenFwdIdeal.main (F := Ideal))) ⟨m, fun _ => 0, g⟩ (fun r => (∀ c : Dev Cert.EvenFwdIdeal.nD,
      r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
      ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1))
      ∧ r.2.sem = fun _ => 0)

def quiescent_EvenFwdRefIdeal [hEvenFwdRefIdeal : Cert.EvenFwdRefIdeal.Facts] : Prop :=
  ∀ (m : (ℓ : Loc Cert.EvenFwdRefIdeal.nD Cert.EvenFwdRefIdeal.τ Cert.EvenFwdRefIdeal.sig) → Buf (Elt Ideal) ℓ) (g : Dev Cert.EvenFwdRefIdeal.nD → PrngReg), Pre_EvenFwdRefIdeal m →
    θ_run (Cert.EvenFwdRefIdeal.defs (F := Ideal)) (onTc (τ := Cert.EvenFwdRefIdeal.τ) (Cert.EvenFwdRefIdeal.main (F := Ideal))) ⟨m, fun _ => 0, g⟩ (fun r => (∀ c : Dev Cert.EvenFwdRefIdeal.nD,
      r.2.mem ((c.tc : Thread Cert.EvenFwdRefIdeal.nD Cert.EvenFwdRefIdeal.τ).loc Cert.EvenFwdRefIdeal.main_arg0) = m ((c.tc : Thread Cert.EvenFwdRefIdeal.nD Cert.EvenFwdRefIdeal.τ).loc Cert.EvenFwdRefIdeal.main_arg0)
      ∧ r.2.mem ((c.tc : Thread Cert.EvenFwdRefIdeal.nD Cert.EvenFwdRefIdeal.τ).loc Cert.EvenFwdRefIdeal.main_arg1) = m ((c.tc : Thread Cert.EvenFwdRefIdeal.nD Cert.EvenFwdRefIdeal.τ).loc Cert.EvenFwdRefIdeal.main_arg1))
      ∧ r.2.sem = fun _ => 0)

def quiescent_OddFwd [hOddFwd : Cert.OddFwd.Facts] : Prop :=
  ∀ (m : (ℓ : Loc Cert.OddFwd.nD Cert.OddFwd.τ Cert.OddFwd.sig) → Buf (Elt Bits) ℓ) (g : Dev Cert.OddFwd.nD → PrngReg), Pre_OddFwd m →
    θ_run (Cert.OddFwd.defs (F := Bits)) (onTc (τ := Cert.OddFwd.τ) (Cert.OddFwd.main (F := Bits))) ⟨m, fun _ => 0, g⟩ (fun r => (∀ c : Dev Cert.OddFwd.nD,
      r.2.mem ((c.tc : Thread Cert.OddFwd.nD Cert.OddFwd.τ).loc Cert.OddFwd.main_arg0) = m ((c.tc : Thread Cert.OddFwd.nD Cert.OddFwd.τ).loc Cert.OddFwd.main_arg0)
      ∧ r.2.mem ((c.tc : Thread Cert.OddFwd.nD Cert.OddFwd.τ).loc Cert.OddFwd.main_arg1) = m ((c.tc : Thread Cert.OddFwd.nD Cert.OddFwd.τ).loc Cert.OddFwd.main_arg1))
      ∧ r.2.sem = fun _ => 0)

def quiescent_OddFwdIdeal [hOddFwdIdeal : Cert.OddFwdIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg), Pre_OddFwdIdeal m →
    θ_run (Cert.OddFwdIdeal.defs (F := Ideal)) (onTc (τ := Cert.OddFwdIdeal.τ) (Cert.OddFwdIdeal.main (F := Ideal))) ⟨m, fun _ => 0, g⟩ (fun r => (∀ c : Dev Cert.OddFwdIdeal.nD,
      r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
      ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1))
      ∧ r.2.sem = fun _ => 0)

def quiescent_OddFwdRefIdeal [hOddFwdRefIdeal : Cert.OddFwdRefIdeal.Facts] : Prop :=
  ∀ (m : (ℓ : Loc Cert.OddFwdRefIdeal.nD Cert.OddFwdRefIdeal.τ Cert.OddFwdRefIdeal.sig) → Buf (Elt Ideal) ℓ) (g : Dev Cert.OddFwdRefIdeal.nD → PrngReg), Pre_OddFwdRefIdeal m →
    θ_run (Cert.OddFwdRefIdeal.defs (F := Ideal)) (onTc (τ := Cert.OddFwdRefIdeal.τ) (Cert.OddFwdRefIdeal.main (F := Ideal))) ⟨m, fun _ => 0, g⟩ (fun r => (∀ c : Dev Cert.OddFwdRefIdeal.nD,
      r.2.mem ((c.tc : Thread Cert.OddFwdRefIdeal.nD Cert.OddFwdRefIdeal.τ).loc Cert.OddFwdRefIdeal.main_arg0) = m ((c.tc : Thread Cert.OddFwdRefIdeal.nD Cert.OddFwdRefIdeal.τ).loc Cert.OddFwdRefIdeal.main_arg0)
      ∧ r.2.mem ((c.tc : Thread Cert.OddFwdRefIdeal.nD Cert.OddFwdRefIdeal.τ).loc Cert.OddFwdRefIdeal.main_arg1) = m ((c.tc : Thread Cert.OddFwdRefIdeal.nD Cert.OddFwdRefIdeal.τ).loc Cert.OddFwdRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_OutProjLast [hOutProjLast : Cert.OutProjLast.Facts] : Prop :=
  ∀ (m : (ℓ : Loc Cert.OutProjLast.nD Cert.OutProjLast.τ Cert.OutProjLast.sig) → Buf (Elt Bits) ℓ) (g : Dev Cert.OutProjLast.nD → PrngReg), Pre_OutProjLast m →
    θ_run (Cert.OutProjLast.defs (F := Bits)) (onTc (τ := Cert.OutProjLast.τ) (Cert.OutProjLast.main (F := Bits))) ⟨m, fun _ => 0, g⟩ (fun r => (∀ c : Dev Cert.OutProjLast.nD,
      r.2.mem ((c.tc : Thread Cert.OutProjLast.nD Cert.OutProjLast.τ).loc Cert.OutProjLast.main_arg0) = m ((c.tc : Thread Cert.OutProjLast.nD Cert.OutProjLast.τ).loc Cert.OutProjLast.main_arg0)
      ∧ r.2.mem ((c.tc : Thread Cert.OutProjLast.nD Cert.OutProjLast.τ).loc Cert.OutProjLast.main_arg1) = m ((c.tc : Thread Cert.OutProjLast.nD Cert.OutProjLast.τ).loc Cert.OutProjLast.main_arg1)
      ∧ r.2.mem ((c.tc : Thread Cert.OutProjLast.nD Cert.OutProjLast.τ).loc Cert.OutProjLast.main_arg2) = m ((c.tc : Thread Cert.OutProjLast.nD Cert.OutProjLast.τ).loc Cert.OutProjLast.main_arg2)
      ∧ r.2.mem ((c.tc : Thread Cert.OutProjLast.nD Cert.OutProjLast.τ).loc Cert.OutProjLast.main_arg3) = m ((c.tc : Thread Cert.OutProjLast.nD Cert.OutProjLast.τ).loc Cert.OutProjLast.main_arg3))
      ∧ r.2.sem = fun _ => 0)

def quiescent_OutProjLastIdeal [hOutProjLastIdeal : Cert.OutProjLastIdeal.Facts] : Prop :=
  ∀ (m : (ℓ : Loc Cert.OutProjLastIdeal.nD Cert.OutProjLastIdeal.τ Cert.OutProjLastIdeal.sig) → Buf (Elt Ideal) ℓ) (g : Dev Cert.OutProjLastIdeal.nD → PrngReg), Pre_OutProjLastIdeal m →
    θ_run (Cert.OutProjLastIdeal.defs (F := Ideal)) (onTc (τ := Cert.OutProjLastIdeal.τ) (Cert.OutProjLastIdeal.main (F := Ideal))) ⟨m, fun _ => 0, g⟩ (fun r => (∀ c : Dev Cert.OutProjLastIdeal.nD,
      r.2.mem ((c.tc : Thread Cert.OutProjLastIdeal.nD Cert.OutProjLastIdeal.τ).loc Cert.OutProjLastIdeal.main_arg0) = m ((c.tc : Thread Cert.OutProjLastIdeal.nD Cert.OutProjLastIdeal.τ).loc Cert.OutProjLastIdeal.main_arg0)
      ∧ r.2.mem ((c.tc : Thread Cert.OutProjLastIdeal.nD Cert.OutProjLastIdeal.τ).loc Cert.OutProjLastIdeal.main_arg1) = m ((c.tc : Thread Cert.OutProjLastIdeal.nD Cert.OutProjLastIdeal.τ).loc Cert.OutProjLastIdeal.main_arg1)
      ∧ r.2.mem ((c.tc : Thread Cert.OutProjLastIdeal.nD Cert.OutProjLastIdeal.τ).loc Cert.OutProjLastIdeal.main_arg2) = m ((c.tc : Thread Cert.OutProjLastIdeal.nD Cert.OutProjLastIdeal.τ).loc Cert.OutProjLastIdeal.main_arg2)
      ∧ r.2.mem ((c.tc : Thread Cert.OutProjLastIdeal.nD Cert.OutProjLastIdeal.τ).loc Cert.OutProjLastIdeal.main_arg3) = m ((c.tc : Thread Cert.OutProjLastIdeal.nD Cert.OutProjLastIdeal.τ).loc Cert.OutProjLastIdeal.main_arg3))
      ∧ r.2.sem = fun _ => 0)

def quiescent_OutProjLastRefIdeal [hOutProjLastRefIdeal : Cert.OutProjLastRefIdeal.Facts] : Prop :=
  ∀ (m : (ℓ : Loc Cert.OutProjLastRefIdeal.nD Cert.OutProjLastRefIdeal.τ Cert.OutProjLastRefIdeal.sig) → Buf (Elt Ideal) ℓ) (g : Dev Cert.OutProjLastRefIdeal.nD → PrngReg), Pre_OutProjLastRefIdeal m →
    θ_run (Cert.OutProjLastRefIdeal.defs (F := Ideal)) (onTc (τ := Cert.OutProjLastRefIdeal.τ) (Cert.OutProjLastRefIdeal.main (F := Ideal))) ⟨m, fun _ => 0, g⟩ (fun r => (∀ c : Dev Cert.OutProjLastRefIdeal.nD,
      r.2.mem ((c.tc : Thread Cert.OutProjLastRefIdeal.nD Cert.OutProjLastRefIdeal.τ).loc Cert.OutProjLastRefIdeal.main_arg0) = m ((c.tc : Thread Cert.OutProjLastRefIdeal.nD Cert.OutProjLastRefIdeal.τ).loc Cert.OutProjLastRefIdeal.main_arg0)
      ∧ r.2.mem ((c.tc : Thread Cert.OutProjLastRefIdeal.nD Cert.OutProjLastRefIdeal.τ).loc Cert.OutProjLastRefIdeal.main_arg1) = m ((c.tc : Thread Cert.OutProjLastRefIdeal.nD Cert.OutProjLastRefIdeal.τ).loc Cert.OutProjLastRefIdeal.main_arg1)
      ∧ r.2.mem ((c.tc : Thread Cert.OutProjLastRefIdeal.nD Cert.OutProjLastRefIdeal.τ).loc Cert.OutProjLastRefIdeal.main_arg2) = m ((c.tc : Thread Cert.OutProjLastRefIdeal.nD Cert.OutProjLastRefIdeal.τ).loc Cert.OutProjLastRefIdeal.main_arg2)
      ∧ r.2.mem ((c.tc : Thread Cert.OutProjLastRefIdeal.nD Cert.OutProjLastRefIdeal.τ).loc Cert.OutProjLastRefIdeal.main_arg3) = m ((c.tc : Thread Cert.OutProjLastRefIdeal.nD Cert.OutProjLastRefIdeal.τ).loc Cert.OutProjLastRefIdeal.main_arg3))
      ∧ r.2.sem = fun _ => 0)

def quiescent_OddMixFwd [hOddMixFwd : Cert.OddMixFwd.Facts] : Prop :=
  ∀ (m : (ℓ : Loc Cert.OddMixFwd.nD Cert.OddMixFwd.τ Cert.OddMixFwd.sig) → Buf (Elt Bits) ℓ) (g : Dev Cert.OddMixFwd.nD → PrngReg), Pre_OddMixFwd m →
    θ_run (Cert.OddMixFwd.defs (F := Bits)) (onTc (τ := Cert.OddMixFwd.τ) (Cert.OddMixFwd.main (F := Bits))) ⟨m, fun _ => 0, g⟩ (fun r => (∀ c : Dev Cert.OddMixFwd.nD,
      r.2.mem ((c.tc : Thread Cert.OddMixFwd.nD Cert.OddMixFwd.τ).loc Cert.OddMixFwd.main_arg0) = m ((c.tc : Thread Cert.OddMixFwd.nD Cert.OddMixFwd.τ).loc Cert.OddMixFwd.main_arg0)
      ∧ r.2.mem ((c.tc : Thread Cert.OddMixFwd.nD Cert.OddMixFwd.τ).loc Cert.OddMixFwd.main_arg1) = m ((c.tc : Thread Cert.OddMixFwd.nD Cert.OddMixFwd.τ).loc Cert.OddMixFwd.main_arg1)
      ∧ r.2.mem ((c.tc : Thread Cert.OddMixFwd.nD Cert.OddMixFwd.τ).loc Cert.OddMixFwd.main_arg2) = m ((c.tc : Thread Cert.OddMixFwd.nD Cert.OddMixFwd.τ).loc Cert.OddMixFwd.main_arg2))
      ∧ r.2.sem = fun _ => 0)

def quiescent_OddMixFwdIdeal [hOddMixFwdIdeal : Cert.OddMixFwdIdeal.Facts] : Prop :=
  ∀ (m : (ℓ : Loc Cert.OddMixFwdIdeal.nD Cert.OddMixFwdIdeal.τ Cert.OddMixFwdIdeal.sig) → Buf (Elt Ideal) ℓ) (g : Dev Cert.OddMixFwdIdeal.nD → PrngReg), Pre_OddMixFwdIdeal m →
    θ_run (Cert.OddMixFwdIdeal.defs (F := Ideal)) (onTc (τ := Cert.OddMixFwdIdeal.τ) (Cert.OddMixFwdIdeal.main (F := Ideal))) ⟨m, fun _ => 0, g⟩ (fun r => (∀ c : Dev Cert.OddMixFwdIdeal.nD,
      r.2.mem ((c.tc : Thread Cert.OddMixFwdIdeal.nD Cert.OddMixFwdIdeal.τ).loc Cert.OddMixFwdIdeal.main_arg0) = m ((c.tc : Thread Cert.OddMixFwdIdeal.nD Cert.OddMixFwdIdeal.τ).loc Cert.OddMixFwdIdeal.main_arg0)
      ∧ r.2.mem ((c.tc : Thread Cert.OddMixFwdIdeal.nD Cert.OddMixFwdIdeal.τ).loc Cert.OddMixFwdIdeal.main_arg1) = m ((c.tc : Thread Cert.OddMixFwdIdeal.nD Cert.OddMixFwdIdeal.τ).loc Cert.OddMixFwdIdeal.main_arg1)
      ∧ r.2.mem ((c.tc : Thread Cert.OddMixFwdIdeal.nD Cert.OddMixFwdIdeal.τ).loc Cert.OddMixFwdIdeal.main_arg2) = m ((c.tc : Thread Cert.OddMixFwdIdeal.nD Cert.OddMixFwdIdeal.τ).loc Cert.OddMixFwdIdeal.main_arg2))
      ∧ r.2.sem = fun _ => 0)

def quiescent_OddMixFwdRefIdeal [hOddMixFwdRefIdeal : Cert.OddMixFwdRefIdeal.Facts] : Prop :=
  ∀ (m : (ℓ : Loc Cert.OddMixFwdRefIdeal.nD Cert.OddMixFwdRefIdeal.τ Cert.OddMixFwdRefIdeal.sig) → Buf (Elt Ideal) ℓ) (g : Dev Cert.OddMixFwdRefIdeal.nD → PrngReg), Pre_OddMixFwdRefIdeal m →
    θ_run (Cert.OddMixFwdRefIdeal.defs (F := Ideal)) (onTc (τ := Cert.OddMixFwdRefIdeal.τ) (Cert.OddMixFwdRefIdeal.main (F := Ideal))) ⟨m, fun _ => 0, g⟩ (fun r => (∀ c : Dev Cert.OddMixFwdRefIdeal.nD,
      r.2.mem ((c.tc : Thread Cert.OddMixFwdRefIdeal.nD Cert.OddMixFwdRefIdeal.τ).loc Cert.OddMixFwdRefIdeal.main_arg0) = m ((c.tc : Thread Cert.OddMixFwdRefIdeal.nD Cert.OddMixFwdRefIdeal.τ).loc Cert.OddMixFwdRefIdeal.main_arg0)
      ∧ r.2.mem ((c.tc : Thread Cert.OddMixFwdRefIdeal.nD Cert.OddMixFwdRefIdeal.τ).loc Cert.OddMixFwdRefIdeal.main_arg1) = m ((c.tc : Thread Cert.OddMixFwdRefIdeal.nD Cert.OddMixFwdRefIdeal.τ).loc Cert.OddMixFwdRefIdeal.main_arg1)
      ∧ r.2.mem ((c.tc : Thread Cert.OddMixFwdRefIdeal.nD Cert.OddMixFwdRefIdeal.τ).loc Cert.OddMixFwdRefIdeal.main_arg2) = m ((c.tc : Thread Cert.OddMixFwdRefIdeal.nD Cert.OddMixFwdRefIdeal.τ).loc Cert.OddMixFwdRefIdeal.main_arg2))
      ∧ r.2.sem = fun _ => 0)

def quiescent_EvenMixFwd [hEvenMixFwd : Cert.EvenMixFwd.Facts] : Prop :=
  ∀ (m : (ℓ : Loc Cert.EvenMixFwd.nD Cert.EvenMixFwd.τ Cert.EvenMixFwd.sig) → Buf (Elt Bits) ℓ) (g : Dev Cert.EvenMixFwd.nD → PrngReg), Pre_EvenMixFwd m →
    θ_run (Cert.EvenMixFwd.defs (F := Bits)) (onTc (τ := Cert.EvenMixFwd.τ) (Cert.EvenMixFwd.main (F := Bits))) ⟨m, fun _ => 0, g⟩ (fun r => (∀ c : Dev Cert.EvenMixFwd.nD,
      r.2.mem ((c.tc : Thread Cert.EvenMixFwd.nD Cert.EvenMixFwd.τ).loc Cert.EvenMixFwd.main_arg0) = m ((c.tc : Thread Cert.EvenMixFwd.nD Cert.EvenMixFwd.τ).loc Cert.EvenMixFwd.main_arg0)
      ∧ r.2.mem ((c.tc : Thread Cert.EvenMixFwd.nD Cert.EvenMixFwd.τ).loc Cert.EvenMixFwd.main_arg1) = m ((c.tc : Thread Cert.EvenMixFwd.nD Cert.EvenMixFwd.τ).loc Cert.EvenMixFwd.main_arg1)
      ∧ r.2.mem ((c.tc : Thread Cert.EvenMixFwd.nD Cert.EvenMixFwd.τ).loc Cert.EvenMixFwd.main_arg2) = m ((c.tc : Thread Cert.EvenMixFwd.nD Cert.EvenMixFwd.τ).loc Cert.EvenMixFwd.main_arg2)
      ∧ r.2.mem ((c.tc : Thread Cert.EvenMixFwd.nD Cert.EvenMixFwd.τ).loc Cert.EvenMixFwd.main_arg3) = m ((c.tc : Thread Cert.EvenMixFwd.nD Cert.EvenMixFwd.τ).loc Cert.EvenMixFwd.main_arg3)
      ∧ r.2.mem ((c.tc : Thread Cert.EvenMixFwd.nD Cert.EvenMixFwd.τ).loc Cert.EvenMixFwd.main_arg4) = m ((c.tc : Thread Cert.EvenMixFwd.nD Cert.EvenMixFwd.τ).loc Cert.EvenMixFwd.main_arg4)
      ∧ r.2.mem ((c.tc : Thread Cert.EvenMixFwd.nD Cert.EvenMixFwd.τ).loc Cert.EvenMixFwd.main_arg5) = m ((c.tc : Thread Cert.EvenMixFwd.nD Cert.EvenMixFwd.τ).loc Cert.EvenMixFwd.main_arg5))
      ∧ r.2.sem = fun _ => 0)

def quiescent_EvenMixFwdIdeal [hEvenMixFwdIdeal : Cert.EvenMixFwdIdeal.Facts] : Prop :=
  ∀ (m : (ℓ : Loc Cert.EvenMixFwdIdeal.nD Cert.EvenMixFwdIdeal.τ Cert.EvenMixFwdIdeal.sig) → Buf (Elt Ideal) ℓ) (g : Dev Cert.EvenMixFwdIdeal.nD → PrngReg), Pre_EvenMixFwdIdeal m →
    θ_run (Cert.EvenMixFwdIdeal.defs (F := Ideal)) (onTc (τ := Cert.EvenMixFwdIdeal.τ) (Cert.EvenMixFwdIdeal.main (F := Ideal))) ⟨m, fun _ => 0, g⟩ (fun r => (∀ c : Dev Cert.EvenMixFwdIdeal.nD,
      r.2.mem ((c.tc : Thread Cert.EvenMixFwdIdeal.nD Cert.EvenMixFwdIdeal.τ).loc Cert.EvenMixFwdIdeal.main_arg0) = m ((c.tc : Thread Cert.EvenMixFwdIdeal.nD Cert.EvenMixFwdIdeal.τ).loc Cert.EvenMixFwdIdeal.main_arg0)
      ∧ r.2.mem ((c.tc : Thread Cert.EvenMixFwdIdeal.nD Cert.EvenMixFwdIdeal.τ).loc Cert.EvenMixFwdIdeal.main_arg1) = m ((c.tc : Thread Cert.EvenMixFwdIdeal.nD Cert.EvenMixFwdIdeal.τ).loc Cert.EvenMixFwdIdeal.main_arg1)
      ∧ r.2.mem ((c.tc : Thread Cert.EvenMixFwdIdeal.nD Cert.EvenMixFwdIdeal.τ).loc Cert.EvenMixFwdIdeal.main_arg2) = m ((c.tc : Thread Cert.EvenMixFwdIdeal.nD Cert.EvenMixFwdIdeal.τ).loc Cert.EvenMixFwdIdeal.main_arg2)
      ∧ r.2.mem ((c.tc : Thread Cert.EvenMixFwdIdeal.nD Cert.EvenMixFwdIdeal.τ).loc Cert.EvenMixFwdIdeal.main_arg3) = m ((c.tc : Thread Cert.EvenMixFwdIdeal.nD Cert.EvenMixFwdIdeal.τ).loc Cert.EvenMixFwdIdeal.main_arg3)
      ∧ r.2.mem ((c.tc : Thread Cert.EvenMixFwdIdeal.nD Cert.EvenMixFwdIdeal.τ).loc Cert.EvenMixFwdIdeal.main_arg4) = m ((c.tc : Thread Cert.EvenMixFwdIdeal.nD Cert.EvenMixFwdIdeal.τ).loc Cert.EvenMixFwdIdeal.main_arg4)
      ∧ r.2.mem ((c.tc : Thread Cert.EvenMixFwdIdeal.nD Cert.EvenMixFwdIdeal.τ).loc Cert.EvenMixFwdIdeal.main_arg5) = m ((c.tc : Thread Cert.EvenMixFwdIdeal.nD Cert.EvenMixFwdIdeal.τ).loc Cert.EvenMixFwdIdeal.main_arg5))
      ∧ r.2.sem = fun _ => 0)

def quiescent_EvenMixFwdRefIdeal [hEvenMixFwdRefIdeal : Cert.EvenMixFwdRefIdeal.Facts] : Prop :=
  ∀ (m : (ℓ : Loc Cert.EvenMixFwdRefIdeal.nD Cert.EvenMixFwdRefIdeal.τ Cert.EvenMixFwdRefIdeal.sig) → Buf (Elt Ideal) ℓ) (g : Dev Cert.EvenMixFwdRefIdeal.nD → PrngReg), Pre_EvenMixFwdRefIdeal m →
    θ_run (Cert.EvenMixFwdRefIdeal.defs (F := Ideal)) (onTc (τ := Cert.EvenMixFwdRefIdeal.τ) (Cert.EvenMixFwdRefIdeal.main (F := Ideal))) ⟨m, fun _ => 0, g⟩ (fun r => (∀ c : Dev Cert.EvenMixFwdRefIdeal.nD,
      r.2.mem ((c.tc : Thread Cert.EvenMixFwdRefIdeal.nD Cert.EvenMixFwdRefIdeal.τ).loc Cert.EvenMixFwdRefIdeal.main_arg0) = m ((c.tc : Thread Cert.EvenMixFwdRefIdeal.nD Cert.EvenMixFwdRefIdeal.τ).loc Cert.EvenMixFwdRefIdeal.main_arg0)
      ∧ r.2.mem ((c.tc : Thread Cert.EvenMixFwdRefIdeal.nD Cert.EvenMixFwdRefIdeal.τ).loc Cert.EvenMixFwdRefIdeal.main_arg1) = m ((c.tc : Thread Cert.EvenMixFwdRefIdeal.nD Cert.EvenMixFwdRefIdeal.τ).loc Cert.EvenMixFwdRefIdeal.main_arg1)
      ∧ r.2.mem ((c.tc : Thread Cert.EvenMixFwdRefIdeal.nD Cert.EvenMixFwdRefIdeal.τ).loc Cert.EvenMixFwdRefIdeal.main_arg2) = m ((c.tc : Thread Cert.EvenMixFwdRefIdeal.nD Cert.EvenMixFwdRefIdeal.τ).loc Cert.EvenMixFwdRefIdeal.main_arg2)
      ∧ r.2.mem ((c.tc : Thread Cert.EvenMixFwdRefIdeal.nD Cert.EvenMixFwdRefIdeal.τ).loc Cert.EvenMixFwdRefIdeal.main_arg3) = m ((c.tc : Thread Cert.EvenMixFwdRefIdeal.nD Cert.EvenMixFwdRefIdeal.τ).loc Cert.EvenMixFwdRefIdeal.main_arg3)
      ∧ r.2.mem ((c.tc : Thread Cert.EvenMixFwdRefIdeal.nD Cert.EvenMixFwdRefIdeal.τ).loc Cert.EvenMixFwdRefIdeal.main_arg4) = m ((c.tc : Thread Cert.EvenMixFwdRefIdeal.nD Cert.EvenMixFwdRefIdeal.τ).loc Cert.EvenMixFwdRefIdeal.main_arg4)
      ∧ r.2.mem ((c.tc : Thread Cert.EvenMixFwdRefIdeal.nD Cert.EvenMixFwdRefIdeal.τ).loc Cert.EvenMixFwdRefIdeal.main_arg5) = m ((c.tc : Thread Cert.EvenMixFwdRefIdeal.nD Cert.EvenMixFwdRefIdeal.τ).loc Cert.EvenMixFwdRefIdeal.main_arg5))
      ∧ r.2.sem = fun _ => 0)

def quiescent_OddMixBwd [hOddMixBwd : Cert.OddMixBwd.Facts] : Prop :=
  ∀ (m : (ℓ : Loc Cert.OddMixBwd.nD Cert.OddMixBwd.τ Cert.OddMixBwd.sig) → Buf (Elt Bits) ℓ) (g : Dev Cert.OddMixBwd.nD → PrngReg), Pre_OddMixBwd m →
    θ_run (Cert.OddMixBwd.defs (F := Bits)) (onTc (τ := Cert.OddMixBwd.τ) (Cert.OddMixBwd.main (F := Bits))) ⟨m, fun _ => 0, g⟩ (fun r => (∀ c : Dev Cert.OddMixBwd.nD,
      r.2.mem ((c.tc : Thread Cert.OddMixBwd.nD Cert.OddMixBwd.τ).loc Cert.OddMixBwd.main_arg0) = m ((c.tc : Thread Cert.OddMixBwd.nD Cert.OddMixBwd.τ).loc Cert.OddMixBwd.main_arg0)
      ∧ r.2.mem ((c.tc : Thread Cert.OddMixBwd.nD Cert.OddMixBwd.τ).loc Cert.OddMixBwd.main_arg1) = m ((c.tc : Thread Cert.OddMixBwd.nD Cert.OddMixBwd.τ).loc Cert.OddMixBwd.main_arg1)
      ∧ r.2.mem ((c.tc : Thread Cert.OddMixBwd.nD Cert.OddMixBwd.τ).loc Cert.OddMixBwd.main_arg2) = m ((c.tc : Thread Cert.OddMixBwd.nD Cert.OddMixBwd.τ).loc Cert.OddMixBwd.main_arg2)
      ∧ r.2.mem ((c.tc : Thread Cert.OddMixBwd.nD Cert.OddMixBwd.τ).loc Cert.OddMixBwd.main_arg3) = m ((c.tc : Thread Cert.OddMixBwd.nD Cert.OddMixBwd.τ).loc Cert.OddMixBwd.main_arg3))
      ∧ r.2.sem = fun _ => 0)

def quiescent_OddMixBwdIdeal [hOddMixBwdIdeal : Cert.OddMixBwdIdeal.Facts] : Prop :=
  ∀ (m : (ℓ : Loc Cert.OddMixBwdIdeal.nD Cert.OddMixBwdIdeal.τ Cert.OddMixBwdIdeal.sig) → Buf (Elt Ideal) ℓ) (g : Dev Cert.OddMixBwdIdeal.nD → PrngReg), Pre_OddMixBwdIdeal m →
    θ_run (Cert.OddMixBwdIdeal.defs (F := Ideal)) (onTc (τ := Cert.OddMixBwdIdeal.τ) (Cert.OddMixBwdIdeal.main (F := Ideal))) ⟨m, fun _ => 0, g⟩ (fun r => (∀ c : Dev Cert.OddMixBwdIdeal.nD,
      r.2.mem ((c.tc : Thread Cert.OddMixBwdIdeal.nD Cert.OddMixBwdIdeal.τ).loc Cert.OddMixBwdIdeal.main_arg0) = m ((c.tc : Thread Cert.OddMixBwdIdeal.nD Cert.OddMixBwdIdeal.τ).loc Cert.OddMixBwdIdeal.main_arg0)
      ∧ r.2.mem ((c.tc : Thread Cert.OddMixBwdIdeal.nD Cert.OddMixBwdIdeal.τ).loc Cert.OddMixBwdIdeal.main_arg1) = m ((c.tc : Thread Cert.OddMixBwdIdeal.nD Cert.OddMixBwdIdeal.τ).loc Cert.OddMixBwdIdeal.main_arg1)
      ∧ r.2.mem ((c.tc : Thread Cert.OddMixBwdIdeal.nD Cert.OddMixBwdIdeal.τ).loc Cert.OddMixBwdIdeal.main_arg2) = m ((c.tc : Thread Cert.OddMixBwdIdeal.nD Cert.OddMixBwdIdeal.τ).loc Cert.OddMixBwdIdeal.main_arg2)
      ∧ r.2.mem ((c.tc : Thread Cert.OddMixBwdIdeal.nD Cert.OddMixBwdIdeal.τ).loc Cert.OddMixBwdIdeal.main_arg3) = m ((c.tc : Thread Cert.OddMixBwdIdeal.nD Cert.OddMixBwdIdeal.τ).loc Cert.OddMixBwdIdeal.main_arg3))
      ∧ r.2.sem = fun _ => 0)

def quiescent_OddMixBwdIdeal_pre_odd_finite [hOddMixBwdIdeal : Cert.OddMixBwdIdeal.Facts] [hPre_odd_finite : Cert.Pre_odd_finite.Facts] : Prop :=
  ∀ (m : (ℓ : Loc Cert.OddMixBwdIdeal.nD Cert.OddMixBwdIdeal.τ Cert.OddMixBwdIdeal.sig) → Buf (Elt Ideal) ℓ) (g : Dev Cert.OddMixBwdIdeal.nD → PrngReg), Pre_OddMixBwdIdeal_odd_finite m →
    θ_run (Cert.OddMixBwdIdeal.defs (F := Ideal)) (onTc (τ := Cert.OddMixBwdIdeal.τ) (Cert.OddMixBwdIdeal.main (F := Ideal))) ⟨m, fun _ => 0, g⟩ (fun r => (∀ c : Dev Cert.OddMixBwdIdeal.nD,
      r.2.mem ((c.tc : Thread Cert.OddMixBwdIdeal.nD Cert.OddMixBwdIdeal.τ).loc Cert.OddMixBwdIdeal.main_arg0) = m ((c.tc : Thread Cert.OddMixBwdIdeal.nD Cert.OddMixBwdIdeal.τ).loc Cert.OddMixBwdIdeal.main_arg0)
      ∧ r.2.mem ((c.tc : Thread Cert.OddMixBwdIdeal.nD Cert.OddMixBwdIdeal.τ).loc Cert.OddMixBwdIdeal.main_arg1) = m ((c.tc : Thread Cert.OddMixBwdIdeal.nD Cert.OddMixBwdIdeal.τ).loc Cert.OddMixBwdIdeal.main_arg1)
      ∧ r.2.mem ((c.tc : Thread Cert.OddMixBwdIdeal.nD Cert.OddMixBwdIdeal.τ).loc Cert.OddMixBwdIdeal.main_arg2) = m ((c.tc : Thread Cert.OddMixBwdIdeal.nD Cert.OddMixBwdIdeal.τ).loc Cert.OddMixBwdIdeal.main_arg2)
      ∧ r.2.mem ((c.tc : Thread Cert.OddMixBwdIdeal.nD Cert.OddMixBwdIdeal.τ).loc Cert.OddMixBwdIdeal.main_arg3) = m ((c.tc : Thread Cert.OddMixBwdIdeal.nD Cert.OddMixBwdIdeal.τ).loc Cert.OddMixBwdIdeal.main_arg3))
      ∧ r.2.sem = fun _ => 0)

def quiescent_OddMixBwdRefIdeal [hOddMixBwdRefIdeal : Cert.OddMixBwdRefIdeal.Facts] : Prop :=
  ∀ (m : (ℓ : Loc Cert.OddMixBwdRefIdeal.nD Cert.OddMixBwdRefIdeal.τ Cert.OddMixBwdRefIdeal.sig) → Buf (Elt Ideal) ℓ) (g : Dev Cert.OddMixBwdRefIdeal.nD → PrngReg), Pre_OddMixBwdRefIdeal m →
    θ_run (Cert.OddMixBwdRefIdeal.defs (F := Ideal)) (onTc (τ := Cert.OddMixBwdRefIdeal.τ) (Cert.OddMixBwdRefIdeal.main (F := Ideal))) ⟨m, fun _ => 0, g⟩ (fun r => (∀ c : Dev Cert.OddMixBwdRefIdeal.nD,
      r.2.mem ((c.tc : Thread Cert.OddMixBwdRefIdeal.nD Cert.OddMixBwdRefIdeal.τ).loc Cert.OddMixBwdRefIdeal.main_arg0) = m ((c.tc : Thread Cert.OddMixBwdRefIdeal.nD Cert.OddMixBwdRefIdeal.τ).loc Cert.OddMixBwdRefIdeal.main_arg0)
      ∧ r.2.mem ((c.tc : Thread Cert.OddMixBwdRefIdeal.nD Cert.OddMixBwdRefIdeal.τ).loc Cert.OddMixBwdRefIdeal.main_arg1) = m ((c.tc : Thread Cert.OddMixBwdRefIdeal.nD Cert.OddMixBwdRefIdeal.τ).loc Cert.OddMixBwdRefIdeal.main_arg1)
      ∧ r.2.mem ((c.tc : Thread Cert.OddMixBwdRefIdeal.nD Cert.OddMixBwdRefIdeal.τ).loc Cert.OddMixBwdRefIdeal.main_arg2) = m ((c.tc : Thread Cert.OddMixBwdRefIdeal.nD Cert.OddMixBwdRefIdeal.τ).loc Cert.OddMixBwdRefIdeal.main_arg2)
      ∧ r.2.mem ((c.tc : Thread Cert.OddMixBwdRefIdeal.nD Cert.OddMixBwdRefIdeal.τ).loc Cert.OddMixBwdRefIdeal.main_arg3) = m ((c.tc : Thread Cert.OddMixBwdRefIdeal.nD Cert.OddMixBwdRefIdeal.τ).loc Cert.OddMixBwdRefIdeal.main_arg3))
      ∧ r.2.sem = fun _ => 0)

def quiescent_OddMixBwdRefIdeal_pre_odd_finite [hOddMixBwdRefIdeal : Cert.OddMixBwdRefIdeal.Facts] [hPre_odd_finite : Cert.Pre_odd_finite.Facts] : Prop :=
  ∀ (m : (ℓ : Loc Cert.OddMixBwdRefIdeal.nD Cert.OddMixBwdRefIdeal.τ Cert.OddMixBwdRefIdeal.sig) → Buf (Elt Ideal) ℓ) (g : Dev Cert.OddMixBwdRefIdeal.nD → PrngReg), Pre_OddMixBwdRefIdeal_odd_finite m →
    θ_run (Cert.OddMixBwdRefIdeal.defs (F := Ideal)) (onTc (τ := Cert.OddMixBwdRefIdeal.τ) (Cert.OddMixBwdRefIdeal.main (F := Ideal))) ⟨m, fun _ => 0, g⟩ (fun r => (∀ c : Dev Cert.OddMixBwdRefIdeal.nD,
      r.2.mem ((c.tc : Thread Cert.OddMixBwdRefIdeal.nD Cert.OddMixBwdRefIdeal.τ).loc Cert.OddMixBwdRefIdeal.main_arg0) = m ((c.tc : Thread Cert.OddMixBwdRefIdeal.nD Cert.OddMixBwdRefIdeal.τ).loc Cert.OddMixBwdRefIdeal.main_arg0)
      ∧ r.2.mem ((c.tc : Thread Cert.OddMixBwdRefIdeal.nD Cert.OddMixBwdRefIdeal.τ).loc Cert.OddMixBwdRefIdeal.main_arg1) = m ((c.tc : Thread Cert.OddMixBwdRefIdeal.nD Cert.OddMixBwdRefIdeal.τ).loc Cert.OddMixBwdRefIdeal.main_arg1)
      ∧ r.2.mem ((c.tc : Thread Cert.OddMixBwdRefIdeal.nD Cert.OddMixBwdRefIdeal.τ).loc Cert.OddMixBwdRefIdeal.main_arg2) = m ((c.tc : Thread Cert.OddMixBwdRefIdeal.nD Cert.OddMixBwdRefIdeal.τ).loc Cert.OddMixBwdRefIdeal.main_arg2)
      ∧ r.2.mem ((c.tc : Thread Cert.OddMixBwdRefIdeal.nD Cert.OddMixBwdRefIdeal.τ).loc Cert.OddMixBwdRefIdeal.main_arg3) = m ((c.tc : Thread Cert.OddMixBwdRefIdeal.nD Cert.OddMixBwdRefIdeal.τ).loc Cert.OddMixBwdRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3)
      ∧ r.2.mem ((c.tc : Thread Cert.AdaBwdRefIdeal.nD Cert.AdaBwdRefIdeal.τ).loc Cert.AdaBwdRefIdeal.main_arg4) = m ((c.tc : Thread Cert.AdaBwdRefIdeal.nD Cert.AdaBwdRefIdeal.τ).loc Cert.AdaBwdRefIdeal.main_arg4))
      ∧ r.2.sem = fun _ => 0)

def quiescent_AdamwEven [hAdamwEven : Cert.AdamwEven.Facts] : Prop :=
  ∀ (m : (ℓ : Loc Cert.AdamwEven.nD Cert.AdamwEven.τ Cert.AdamwEven.sig) → Buf (Elt Bits) ℓ) (g : Dev Cert.AdamwEven.nD → PrngReg), Pre_AdamwEven m →
    θ_run (Cert.AdamwEven.defs (F := Bits)) (onTc (τ := Cert.AdamwEven.τ) (Cert.AdamwEven.main (F := Bits))) ⟨m, fun _ => 0, g⟩ (fun r => (∀ c : Dev Cert.AdamwEven.nD,
      r.2.mem ((c.tc : Thread Cert.AdamwEven.nD Cert.AdamwEven.τ).loc Cert.AdamwEven.main_arg0) = m ((c.tc : Thread Cert.AdamwEven.nD Cert.AdamwEven.τ).loc Cert.AdamwEven.main_arg0)
      ∧ r.2.mem ((c.tc : Thread Cert.AdamwEven.nD Cert.AdamwEven.τ).loc Cert.AdamwEven.main_arg1) = m ((c.tc : Thread Cert.AdamwEven.nD Cert.AdamwEven.τ).loc Cert.AdamwEven.main_arg1)
      ∧ r.2.mem ((c.tc : Thread Cert.AdamwEven.nD Cert.AdamwEven.τ).loc Cert.AdamwEven.main_arg2) = m ((c.tc : Thread Cert.AdamwEven.nD Cert.AdamwEven.τ).loc Cert.AdamwEven.main_arg2)
      ∧ r.2.mem ((c.tc : Thread Cert.AdamwEven.nD Cert.AdamwEven.τ).loc Cert.AdamwEven.main_arg3) = m ((c.tc : Thread Cert.AdamwEven.nD Cert.AdamwEven.τ).loc Cert.AdamwEven.main_arg3)
      ∧ r.2.mem ((c.tc : Thread Cert.AdamwEven.nD Cert.AdamwEven.τ).loc Cert.AdamwEven.main_arg4) = m ((c.tc : Thread Cert.AdamwEven.nD Cert.AdamwEven.τ).loc Cert.AdamwEven.main_arg4)
      ∧ r.2.mem ((c.tc : Thread Cert.AdamwEven.nD Cert.AdamwEven.τ).loc Cert.AdamwEven.main_arg5) = m ((c.tc : Thread Cert.AdamwEven.nD Cert.AdamwEven.τ).loc Cert.AdamwEven.main_arg5)
      ∧ r.2.mem ((c.tc : Thread Cert.AdamwEven.nD Cert.AdamwEven.τ).loc Cert.AdamwEven.main_arg6) = m ((c.tc : Thread Cert.AdamwEven.nD Cert.AdamwEven.τ).loc Cert.AdamwEven.main_arg6)
      ∧ r.2.mem ((c.tc : Thread Cert.AdamwEven.nD Cert.AdamwEven.τ).loc Cert.AdamwEven.main_arg7) = m ((c.tc : Thread Cert.AdamwEven.nD Cert.AdamwEven.τ).loc Cert.AdamwEven.main_arg7)
      ∧ r.2.mem ((c.tc : Thread Cert.AdamwEven.nD Cert.AdamwEven.τ).loc Cert.AdamwEven.main_arg8) = m ((c.tc : Thread Cert.AdamwEven.nD Cert.AdamwEven.τ).loc Cert.AdamwEven.main_arg8)
      ∧ r.2.mem ((c.tc : Thread Cert.AdamwEven.nD Cert.AdamwEven.τ).loc Cert.AdamwEven.main_arg9) = m ((c.tc : Thread Cert.AdamwEven.nD Cert.AdamwEven.τ).loc Cert.AdamwEven.main_arg9)
      ∧ r.2.mem ((c.tc : Thread Cert.AdamwEven.nD Cert.AdamwEven.τ).loc Cert.AdamwEven.main_arg10) = m ((c.tc : Thread Cert.AdamwEven.nD Cert.AdamwEven.τ).loc Cert.AdamwEven.main_arg10)
      ∧ r.2.mem ((c.tc : Thread Cert.AdamwEven.nD Cert.AdamwEven.τ).loc Cert.AdamwEven.main_arg11) = m ((c.tc : Thread Cert.AdamwEven.nD Cert.AdamwEven.τ).loc Cert.AdamwEven.main_arg11)
      ∧ r.2.mem ((c.tc : Thread Cert.AdamwEven.nD Cert.AdamwEven.τ).loc Cert.AdamwEven.main_arg12) = m ((c.tc : Thread Cert.AdamwEven.nD Cert.AdamwEven.τ).loc Cert.AdamwEven.main_arg12)
      ∧ r.2.mem ((c.tc : Thread Cert.AdamwEven.nD Cert.AdamwEven.τ).loc Cert.AdamwEven.main_arg13) = m ((c.tc : Thread Cert.AdamwEven.nD Cert.AdamwEven.τ).loc Cert.AdamwEven.main_arg13)
      ∧ r.2.mem ((c.tc : Thread Cert.AdamwEven.nD Cert.AdamwEven.τ).loc Cert.AdamwEven.main_arg14) = m ((c.tc : Thread Cert.AdamwEven.nD Cert.AdamwEven.τ).loc Cert.AdamwEven.main_arg14)
      ∧ r.2.mem ((c.tc : Thread Cert.AdamwEven.nD Cert.AdamwEven.τ).loc Cert.AdamwEven.main_arg15) = m ((c.tc : Thread Cert.AdamwEven.nD Cert.AdamwEven.τ).loc Cert.AdamwEven.main_arg15))
      ∧ r.2.sem = fun _ => 0)

def quiescent_AdamwEvenIdeal [hAdamwEvenIdeal : Cert.AdamwEvenIdeal.Facts] : Prop :=
  ∀ (m : (ℓ : Loc Cert.AdamwEvenIdeal.nD Cert.AdamwEvenIdeal.τ Cert.AdamwEvenIdeal.sig) → Buf (Elt Ideal) ℓ) (g : Dev Cert.AdamwEvenIdeal.nD → PrngReg), Pre_AdamwEvenIdeal m →
    θ_run (Cert.AdamwEvenIdeal.defs (F := Ideal)) (onTc (τ := Cert.AdamwEvenIdeal.τ) (Cert.AdamwEvenIdeal.main (F := Ideal))) ⟨m, fun _ => 0, g⟩ (fun r => (∀ c : Dev Cert.AdamwEvenIdeal.nD,
      r.2.mem ((c.tc : Thread Cert.AdamwEvenIdeal.nD Cert.AdamwEvenIdeal.τ).loc Cert.AdamwEvenIdeal.main_arg0) = m ((c.tc : Thread Cert.AdamwEvenIdeal.nD Cert.AdamwEvenIdeal.τ).loc Cert.AdamwEvenIdeal.main_arg0)
      ∧ r.2.mem ((c.tc : Thread Cert.AdamwEvenIdeal.nD Cert.AdamwEvenIdeal.τ).loc Cert.AdamwEvenIdeal.main_arg1) = m ((c.tc : Thread Cert.AdamwEvenIdeal.nD Cert.AdamwEvenIdeal.τ).loc Cert.AdamwEvenIdeal.main_arg1)
      ∧ r.2.mem ((c.tc : Thread Cert.AdamwEvenIdeal.nD Cert.AdamwEvenIdeal.τ).loc Cert.AdamwEvenIdeal.main_arg2) = m ((c.tc : Thread Cert.AdamwEvenIdeal.nD Cert.AdamwEvenIdeal.τ).loc Cert.AdamwEvenIdeal.main_arg2)
      ∧ r.2.mem ((c.tc : Thread Cert.AdamwEvenIdeal.nD Cert.AdamwEvenIdeal.τ).loc Cert.AdamwEvenIdeal.main_arg3) = m ((c.tc : Thread Cert.AdamwEvenIdeal.nD Cert.AdamwEvenIdeal.τ).loc Cert.AdamwEvenIdeal.main_arg3)
      ∧ r.2.mem ((c.tc : Thread Cert.AdamwEvenIdeal.nD Cert.AdamwEvenIdeal.τ).loc Cert.AdamwEvenIdeal.main_arg4) = m ((c.tc : Thread Cert.AdamwEvenIdeal.nD Cert.AdamwEvenIdeal.τ).loc Cert.AdamwEvenIdeal.main_arg4)
      ∧ r.2.mem ((c.tc : Thread Cert.AdamwEvenIdeal.nD Cert.AdamwEvenIdeal.τ).loc Cert.AdamwEvenIdeal.main_arg5) = m ((c.tc : Thread Cert.AdamwEvenIdeal.nD Cert.AdamwEvenIdeal.τ).loc Cert.AdamwEvenIdeal.main_arg5)
      ∧ r.2.mem ((c.tc : Thread Cert.AdamwEvenIdeal.nD Cert.AdamwEvenIdeal.τ).loc Cert.AdamwEvenIdeal.main_arg6) = m ((c.tc : Thread Cert.AdamwEvenIdeal.nD Cert.AdamwEvenIdeal.τ).loc Cert.AdamwEvenIdeal.main_arg6)
      ∧ r.2.mem ((c.tc : Thread Cert.AdamwEvenIdeal.nD Cert.AdamwEvenIdeal.τ).loc Cert.AdamwEvenIdeal.main_arg7) = m ((c.tc : Thread Cert.AdamwEvenIdeal.nD Cert.AdamwEvenIdeal.τ).loc Cert.AdamwEvenIdeal.main_arg7)
      ∧ r.2.mem ((c.tc : Thread Cert.AdamwEvenIdeal.nD Cert.AdamwEvenIdeal.τ).loc Cert.AdamwEvenIdeal.main_arg8) = m ((c.tc : Thread Cert.AdamwEvenIdeal.nD Cert.AdamwEvenIdeal.τ).loc Cert.AdamwEvenIdeal.main_arg8)
      ∧ r.2.mem ((c.tc : Thread Cert.AdamwEvenIdeal.nD Cert.AdamwEvenIdeal.τ).loc Cert.AdamwEvenIdeal.main_arg9) = m ((c.tc : Thread Cert.AdamwEvenIdeal.nD Cert.AdamwEvenIdeal.τ).loc Cert.AdamwEvenIdeal.main_arg9)
      ∧ r.2.mem ((c.tc : Thread Cert.AdamwEvenIdeal.nD Cert.AdamwEvenIdeal.τ).loc Cert.AdamwEvenIdeal.main_arg10) = m ((c.tc : Thread Cert.AdamwEvenIdeal.nD Cert.AdamwEvenIdeal.τ).loc Cert.AdamwEvenIdeal.main_arg10)
      ∧ r.2.mem ((c.tc : Thread Cert.AdamwEvenIdeal.nD Cert.AdamwEvenIdeal.τ).loc Cert.AdamwEvenIdeal.main_arg11) = m ((c.tc : Thread Cert.AdamwEvenIdeal.nD Cert.AdamwEvenIdeal.τ).loc Cert.AdamwEvenIdeal.main_arg11)
      ∧ r.2.mem ((c.tc : Thread Cert.AdamwEvenIdeal.nD Cert.AdamwEvenIdeal.τ).loc Cert.AdamwEvenIdeal.main_arg12) = m ((c.tc : Thread Cert.AdamwEvenIdeal.nD Cert.AdamwEvenIdeal.τ).loc Cert.AdamwEvenIdeal.main_arg12)
      ∧ r.2.mem ((c.tc : Thread Cert.AdamwEvenIdeal.nD Cert.AdamwEvenIdeal.τ).loc Cert.AdamwEvenIdeal.main_arg13) = m ((c.tc : Thread Cert.AdamwEvenIdeal.nD Cert.AdamwEvenIdeal.τ).loc Cert.AdamwEvenIdeal.main_arg13)
      ∧ r.2.mem ((c.tc : Thread Cert.AdamwEvenIdeal.nD Cert.AdamwEvenIdeal.τ).loc Cert.AdamwEvenIdeal.main_arg14) = m ((c.tc : Thread Cert.AdamwEvenIdeal.nD Cert.AdamwEvenIdeal.τ).loc Cert.AdamwEvenIdeal.main_arg14)
      ∧ r.2.mem ((c.tc : Thread Cert.AdamwEvenIdeal.nD Cert.AdamwEvenIdeal.τ).loc Cert.AdamwEvenIdeal.main_arg15) = m ((c.tc : Thread Cert.AdamwEvenIdeal.nD Cert.AdamwEvenIdeal.τ).loc Cert.AdamwEvenIdeal.main_arg15))
      ∧ r.2.sem = fun _ => 0)

def quiescent_AdamwEvenRefIdeal [hAdamwEvenRefIdeal : Cert.AdamwEvenRefIdeal.Facts] : Prop :=
  ∀ (m : (ℓ : Loc Cert.AdamwEvenRefIdeal.nD Cert.AdamwEvenRefIdeal.τ Cert.AdamwEvenRefIdeal.sig) → Buf (Elt Ideal) ℓ) (g : Dev Cert.AdamwEvenRefIdeal.nD → PrngReg), Pre_AdamwEvenRefIdeal m →
    θ_run (Cert.AdamwEvenRefIdeal.defs (F := Ideal)) (onTc (τ := Cert.AdamwEvenRefIdeal.τ) (Cert.AdamwEvenRefIdeal.main (F := Ideal))) ⟨m, fun _ => 0, g⟩ (fun r => (∀ c : Dev Cert.AdamwEvenRefIdeal.nD,
      r.2.mem ((c.tc : Thread Cert.AdamwEvenRefIdeal.nD Cert.AdamwEvenRefIdeal.τ).loc Cert.AdamwEvenRefIdeal.main_arg0) = m ((c.tc : Thread Cert.AdamwEvenRefIdeal.nD Cert.AdamwEvenRefIdeal.τ).loc Cert.AdamwEvenRefIdeal.main_arg0)
      ∧ r.2.mem ((c.tc : Thread Cert.AdamwEvenRefIdeal.nD Cert.AdamwEvenRefIdeal.τ).loc Cert.AdamwEvenRefIdeal.main_arg1) = m ((c.tc : Thread Cert.AdamwEvenRefIdeal.nD Cert.AdamwEvenRefIdeal.τ).loc Cert.AdamwEvenRefIdeal.main_arg1)
      ∧ r.2.mem ((c.tc : Thread Cert.AdamwEvenRefIdeal.nD Cert.AdamwEvenRefIdeal.τ).loc Cert.AdamwEvenRefIdeal.main_arg2) = m ((c.tc : Thread Cert.AdamwEvenRefIdeal.nD Cert.AdamwEvenRefIdeal.τ).loc Cert.AdamwEvenRefIdeal.main_arg2)
      ∧ r.2.mem ((c.tc : Thread Cert.AdamwEvenRefIdeal.nD Cert.AdamwEvenRefIdeal.τ).loc Cert.AdamwEvenRefIdeal.main_arg3) = m ((c.tc : Thread Cert.AdamwEvenRefIdeal.nD Cert.AdamwEvenRefIdeal.τ).loc Cert.AdamwEvenRefIdeal.main_arg3)
      ∧ r.2.mem ((c.tc : Thread Cert.AdamwEvenRefIdeal.nD Cert.AdamwEvenRefIdeal.τ).loc Cert.AdamwEvenRefIdeal.main_arg4) = m ((c.tc : Thread Cert.AdamwEvenRefIdeal.nD Cert.AdamwEvenRefIdeal.τ).loc Cert.AdamwEvenRefIdeal.main_arg4)
      ∧ r.2.mem ((c.tc : Thread Cert.AdamwEvenRefIdeal.nD Cert.AdamwEvenRefIdeal.τ).loc Cert.AdamwEvenRefIdeal.main_arg5) = m ((c.tc : Thread Cert.AdamwEvenRefIdeal.nD Cert.AdamwEvenRefIdeal.τ).loc Cert.AdamwEvenRefIdeal.main_arg5)
      ∧ r.2.mem ((c.tc : Thread Cert.AdamwEvenRefIdeal.nD Cert.AdamwEvenRefIdeal.τ).loc Cert.AdamwEvenRefIdeal.main_arg6) = m ((c.tc : Thread Cert.AdamwEvenRefIdeal.nD Cert.AdamwEvenRefIdeal.τ).loc Cert.AdamwEvenRefIdeal.main_arg6)
      ∧ r.2.mem ((c.tc : Thread Cert.AdamwEvenRefIdeal.nD Cert.AdamwEvenRefIdeal.τ).loc Cert.AdamwEvenRefIdeal.main_arg7) = m ((c.tc : Thread Cert.AdamwEvenRefIdeal.nD Cert.AdamwEvenRefIdeal.τ).loc Cert.AdamwEvenRefIdeal.main_arg7)
      ∧ r.2.mem ((c.tc : Thread Cert.AdamwEvenRefIdeal.nD Cert.AdamwEvenRefIdeal.τ).loc Cert.AdamwEvenRefIdeal.main_arg8) = m ((c.tc : Thread Cert.AdamwEvenRefIdeal.nD Cert.AdamwEvenRefIdeal.τ).loc Cert.AdamwEvenRefIdeal.main_arg8)
      ∧ r.2.mem ((c.tc : Thread Cert.AdamwEvenRefIdeal.nD Cert.AdamwEvenRefIdeal.τ).loc Cert.AdamwEvenRefIdeal.main_arg9) = m ((c.tc : Thread Cert.AdamwEvenRefIdeal.nD Cert.AdamwEvenRefIdeal.τ).loc Cert.AdamwEvenRefIdeal.main_arg9)
      ∧ r.2.mem ((c.tc : Thread Cert.AdamwEvenRefIdeal.nD Cert.AdamwEvenRefIdeal.τ).loc Cert.AdamwEvenRefIdeal.main_arg10) = m ((c.tc : Thread Cert.AdamwEvenRefIdeal.nD Cert.AdamwEvenRefIdeal.τ).loc Cert.AdamwEvenRefIdeal.main_arg10)
      ∧ r.2.mem ((c.tc : Thread Cert.AdamwEvenRefIdeal.nD Cert.AdamwEvenRefIdeal.τ).loc Cert.AdamwEvenRefIdeal.main_arg11) = m ((c.tc : Thread Cert.AdamwEvenRefIdeal.nD Cert.AdamwEvenRefIdeal.τ).loc Cert.AdamwEvenRefIdeal.main_arg11)
      ∧ r.2.mem ((c.tc : Thread Cert.AdamwEvenRefIdeal.nD Cert.AdamwEvenRefIdeal.τ).loc Cert.AdamwEvenRefIdeal.main_arg12) = m ((c.tc : Thread Cert.AdamwEvenRefIdeal.nD Cert.AdamwEvenRefIdeal.τ).loc Cert.AdamwEvenRefIdeal.main_arg12)
      ∧ r.2.mem ((c.tc : Thread Cert.AdamwEvenRefIdeal.nD Cert.AdamwEvenRefIdeal.τ).loc Cert.AdamwEvenRefIdeal.main_arg13) = m ((c.tc : Thread Cert.AdamwEvenRefIdeal.nD Cert.AdamwEvenRefIdeal.τ).loc Cert.AdamwEvenRefIdeal.main_arg13)
      ∧ r.2.mem ((c.tc : Thread Cert.AdamwEvenRefIdeal.nD Cert.AdamwEvenRefIdeal.τ).loc Cert.AdamwEvenRefIdeal.main_arg14) = m ((c.tc : Thread Cert.AdamwEvenRefIdeal.nD Cert.AdamwEvenRefIdeal.τ).loc Cert.AdamwEvenRefIdeal.main_arg14)
      ∧ r.2.mem ((c.tc : Thread Cert.AdamwEvenRefIdeal.nD Cert.AdamwEvenRefIdeal.τ).loc Cert.AdamwEvenRefIdeal.main_arg15) = m ((c.tc : Thread Cert.AdamwEvenRefIdeal.nD Cert.AdamwEvenRefIdeal.τ).loc Cert.AdamwEvenRefIdeal.main_arg15))
      ∧ r.2.sem = fun _ => 0)

def quiescent_AdamwOdd [hAdamwOdd : Cert.AdamwOdd.Facts] : Prop :=
  ∀ (m : (ℓ : Loc Cert.AdamwOdd.nD Cert.AdamwOdd.τ Cert.AdamwOdd.sig) → Buf (Elt Bits) ℓ) (g : Dev Cert.AdamwOdd.nD → PrngReg), Pre_AdamwOdd m →
    θ_run (Cert.AdamwOdd.defs (F := Bits)) (onTc (τ := Cert.AdamwOdd.τ) (Cert.AdamwOdd.main (F := Bits))) ⟨m, fun _ => 0, g⟩ (fun r => (∀ c : Dev Cert.AdamwOdd.nD,
      r.2.mem ((c.tc : Thread Cert.AdamwOdd.nD Cert.AdamwOdd.τ).loc Cert.AdamwOdd.main_arg0) = m ((c.tc : Thread Cert.AdamwOdd.nD Cert.AdamwOdd.τ).loc Cert.AdamwOdd.main_arg0)
      ∧ r.2.mem ((c.tc : Thread Cert.AdamwOdd.nD Cert.AdamwOdd.τ).loc Cert.AdamwOdd.main_arg1) = m ((c.tc : Thread Cert.AdamwOdd.nD Cert.AdamwOdd.τ).loc Cert.AdamwOdd.main_arg1)
      ∧ r.2.mem ((c.tc : Thread Cert.AdamwOdd.nD Cert.AdamwOdd.τ).loc Cert.AdamwOdd.main_arg2) = m ((c.tc : Thread Cert.AdamwOdd.nD Cert.AdamwOdd.τ).loc Cert.AdamwOdd.main_arg2)
      ∧ r.2.mem ((c.tc : Thread Cert.AdamwOdd.nD Cert.AdamwOdd.τ).loc Cert.AdamwOdd.main_arg3) = m ((c.tc : Thread Cert.AdamwOdd.nD Cert.AdamwOdd.τ).loc Cert.AdamwOdd.main_arg3)
      ∧ r.2.mem ((c.tc : Thread Cert.AdamwOdd.nD Cert.AdamwOdd.τ).loc Cert.AdamwOdd.main_arg4) = m ((c.tc : Thread Cert.AdamwOdd.nD Cert.AdamwOdd.τ).loc Cert.AdamwOdd.main_arg4)
      ∧ r.2.mem ((c.tc : Thread Cert.AdamwOdd.nD Cert.AdamwOdd.τ).loc Cert.AdamwOdd.main_arg5) = m ((c.tc : Thread Cert.AdamwOdd.nD Cert.AdamwOdd.τ).loc Cert.AdamwOdd.main_arg5)
      ∧ r.2.mem ((c.tc : Thread Cert.AdamwOdd.nD Cert.AdamwOdd.τ).loc Cert.AdamwOdd.main_arg6) = m ((c.tc : Thread Cert.AdamwOdd.nD Cert.AdamwOdd.τ).loc Cert.AdamwOdd.main_arg6)
      ∧ r.2.mem ((c.tc : Thread Cert.AdamwOdd.nD Cert.AdamwOdd.τ).loc Cert.AdamwOdd.main_arg7) = m ((c.tc : Thread Cert.AdamwOdd.nD Cert.AdamwOdd.τ).loc Cert.AdamwOdd.main_arg7)
      ∧ r.2.mem ((c.tc : Thread Cert.AdamwOdd.nD Cert.AdamwOdd.τ).loc Cert.AdamwOdd.main_arg8) = m ((c.tc : Thread Cert.AdamwOdd.nD Cert.AdamwOdd.τ).loc Cert.AdamwOdd.main_arg8)
      ∧ r.2.mem ((c.tc : Thread Cert.AdamwOdd.nD Cert.AdamwOdd.τ).loc Cert.AdamwOdd.main_arg9) = m ((c.tc : Thread Cert.AdamwOdd.nD Cert.AdamwOdd.τ).loc Cert.AdamwOdd.main_arg9)
      ∧ r.2.mem ((c.tc : Thread Cert.AdamwOdd.nD Cert.AdamwOdd.τ).loc Cert.AdamwOdd.main_arg10) = m ((c.tc : Thread Cert.AdamwOdd.nD Cert.AdamwOdd.τ).loc Cert.AdamwOdd.main_arg10)
      ∧ r.2.mem ((c.tc : Thread Cert.AdamwOdd.nD Cert.AdamwOdd.τ).loc Cert.AdamwOdd.main_arg11) = m ((c.tc : Thread Cert.AdamwOdd.nD Cert.AdamwOdd.τ).loc Cert.AdamwOdd.main_arg11)
      ∧ r.2.mem ((c.tc : Thread Cert.AdamwOdd.nD Cert.AdamwOdd.τ).loc Cert.AdamwOdd.main_arg12) = m ((c.tc : Thread Cert.AdamwOdd.nD Cert.AdamwOdd.τ).loc Cert.AdamwOdd.main_arg12)
      ∧ r.2.mem ((c.tc : Thread Cert.AdamwOdd.nD Cert.AdamwOdd.τ).loc Cert.AdamwOdd.main_arg13) = m ((c.tc : Thread Cert.AdamwOdd.nD Cert.AdamwOdd.τ).loc Cert.AdamwOdd.main_arg13)
      ∧ r.2.mem ((c.tc : Thread Cert.AdamwOdd.nD Cert.AdamwOdd.τ).loc Cert.AdamwOdd.main_arg14) = m ((c.tc : Thread Cert.AdamwOdd.nD Cert.AdamwOdd.τ).loc Cert.AdamwOdd.main_arg14)
      ∧ r.2.mem ((c.tc : Thread Cert.AdamwOdd.nD Cert.AdamwOdd.τ).loc Cert.AdamwOdd.main_arg15) = m ((c.tc : Thread Cert.AdamwOdd.nD Cert.AdamwOdd.τ).loc Cert.AdamwOdd.main_arg15)
      ∧ r.2.mem ((c.tc : Thread Cert.AdamwOdd.nD Cert.AdamwOdd.τ).loc Cert.AdamwOdd.main_arg16) = m ((c.tc : Thread Cert.AdamwOdd.nD Cert.AdamwOdd.τ).loc Cert.AdamwOdd.main_arg16)
      ∧ r.2.mem ((c.tc : Thread Cert.AdamwOdd.nD Cert.AdamwOdd.τ).loc Cert.AdamwOdd.main_arg17) = m ((c.tc : Thread Cert.AdamwOdd.nD Cert.AdamwOdd.τ).loc Cert.AdamwOdd.main_arg17)
      ∧ r.2.mem ((c.tc : Thread Cert.AdamwOdd.nD Cert.AdamwOdd.τ).loc Cert.AdamwOdd.main_arg18) = m ((c.tc : Thread Cert.AdamwOdd.nD Cert.AdamwOdd.τ).loc Cert.AdamwOdd.main_arg18)
      ∧ r.2.mem ((c.tc : Thread Cert.AdamwOdd.nD Cert.AdamwOdd.τ).loc Cert.AdamwOdd.main_arg19) = m ((c.tc : Thread Cert.AdamwOdd.nD Cert.AdamwOdd.τ).loc Cert.AdamwOdd.main_arg19)
      ∧ r.2.mem ((c.tc : Thread Cert.AdamwOdd.nD Cert.AdamwOdd.τ).loc Cert.AdamwOdd.main_arg20) = m ((c.tc : Thread Cert.AdamwOdd.nD Cert.AdamwOdd.τ).loc Cert.AdamwOdd.main_arg20)
      ∧ r.2.mem ((c.tc : Thread Cert.AdamwOdd.nD Cert.AdamwOdd.τ).loc Cert.AdamwOdd.main_arg21) = m ((c.tc : Thread Cert.AdamwOdd.nD Cert.AdamwOdd.τ).loc Cert.AdamwOdd.main_arg21)
      ∧ r.2.mem ((c.tc : Thread Cert.AdamwOdd.nD Cert.AdamwOdd.τ).loc Cert.AdamwOdd.main_arg22) = m ((c.tc : Thread Cert.AdamwOdd.nD Cert.AdamwOdd.τ).loc Cert.AdamwOdd.main_arg22)
      ∧ r.2.mem ((c.tc : Thread Cert.AdamwOdd.nD Cert.AdamwOdd.τ).loc Cert.AdamwOdd.main_arg23) = m ((c.tc : Thread Cert.AdamwOdd.nD Cert.AdamwOdd.τ).loc Cert.AdamwOdd.main_arg23))
      ∧ r.2.sem = fun _ => 0)

def quiescent_AdamwOddIdeal [hAdamwOddIdeal : Cert.AdamwOddIdeal.Facts] : Prop :=
  ∀ (m : (ℓ : Loc Cert.AdamwOddIdeal.nD Cert.AdamwOddIdeal.τ Cert.AdamwOddIdeal.sig) → Buf (Elt Ideal) ℓ) (g : Dev Cert.AdamwOddIdeal.nD → PrngReg), Pre_AdamwOddIdeal m →
    θ_run (Cert.AdamwOddIdeal.defs (F := Ideal)) (onTc (τ := Cert.AdamwOddIdeal.τ) (Cert.AdamwOddIdeal.main (F := Ideal))) ⟨m, fun _ => 0, g⟩ (fun r => (∀ c : Dev Cert.AdamwOddIdeal.nD,
      r.2.mem ((c.tc : Thread Cert.AdamwOddIdeal.nD Cert.AdamwOddIdeal.τ).loc Cert.AdamwOddIdeal.main_arg0) = m ((c.tc : Thread Cert.AdamwOddIdeal.nD Cert.AdamwOddIdeal.τ).loc Cert.AdamwOddIdeal.main_arg0)
      ∧ r.2.mem ((c.tc : Thread Cert.AdamwOddIdeal.nD Cert.AdamwOddIdeal.τ).loc Cert.AdamwOddIdeal.main_arg1) = m ((c.tc : Thread Cert.AdamwOddIdeal.nD Cert.AdamwOddIdeal.τ).loc Cert.AdamwOddIdeal.main_arg1)
      ∧ r.2.mem ((c.tc : Thread Cert.AdamwOddIdeal.nD Cert.AdamwOddIdeal.τ).loc Cert.AdamwOddIdeal.main_arg2) = m ((c.tc : Thread Cert.AdamwOddIdeal.nD Cert.AdamwOddIdeal.τ).loc Cert.AdamwOddIdeal.main_arg2)
      ∧ r.2.mem ((c.tc : Thread Cert.AdamwOddIdeal.nD Cert.AdamwOddIdeal.τ).loc Cert.AdamwOddIdeal.main_arg3) = m ((c.tc : Thread Cert.AdamwOddIdeal.nD Cert.AdamwOddIdeal.τ).loc Cert.AdamwOddIdeal.main_arg3)
      ∧ r.2.mem ((c.tc : Thread Cert.AdamwOddIdeal.nD Cert.AdamwOddIdeal.τ).loc Cert.AdamwOddIdeal.main_arg4) = m ((c.tc : Thread Cert.AdamwOddIdeal.nD Cert.AdamwOddIdeal.τ).loc Cert.AdamwOddIdeal.main_arg4)
      ∧ r.2.mem ((c.tc : Thread Cert.AdamwOddIdeal.nD Cert.AdamwOddIdeal.τ).loc Cert.AdamwOddIdeal.main_arg5) = m ((c.tc : Thread Cert.AdamwOddIdeal.nD Cert.AdamwOddIdeal.τ).loc Cert.AdamwOddIdeal.main_arg5)
      ∧ r.2.mem ((c.tc : Thread Cert.AdamwOddIdeal.nD Cert.AdamwOddIdeal.τ).loc Cert.AdamwOddIdeal.main_arg6) = m ((c.tc : Thread Cert.AdamwOddIdeal.nD Cert.AdamwOddIdeal.τ).loc Cert.AdamwOddIdeal.main_arg6)
      ∧ r.2.mem ((c.tc : Thread Cert.AdamwOddIdeal.nD Cert.AdamwOddIdeal.τ).loc Cert.AdamwOddIdeal.main_arg7) = m ((c.tc : Thread Cert.AdamwOddIdeal.nD Cert.AdamwOddIdeal.τ).loc Cert.AdamwOddIdeal.main_arg7)
      ∧ r.2.mem ((c.tc : Thread Cert.AdamwOddIdeal.nD Cert.AdamwOddIdeal.τ).loc Cert.AdamwOddIdeal.main_arg8) = m ((c.tc : Thread Cert.AdamwOddIdeal.nD Cert.AdamwOddIdeal.τ).loc Cert.AdamwOddIdeal.main_arg8)
      ∧ r.2.mem ((c.tc : Thread Cert.AdamwOddIdeal.nD Cert.AdamwOddIdeal.τ).loc Cert.AdamwOddIdeal.main_arg9) = m ((c.tc : Thread Cert.AdamwOddIdeal.nD Cert.AdamwOddIdeal.τ).loc Cert.AdamwOddIdeal.main_arg9)
      ∧ r.2.mem ((c.tc : Thread Cert.AdamwOddIdeal.nD Cert.AdamwOddIdeal.τ).loc Cert.AdamwOddIdeal.main_arg10) = m ((c.tc : Thread Cert.AdamwOddIdeal.nD Cert.AdamwOddIdeal.τ).loc Cert.AdamwOddIdeal.main_arg10)
      ∧ r.2.mem ((c.tc : Thread Cert.AdamwOddIdeal.nD Cert.AdamwOddIdeal.τ).loc Cert.AdamwOddIdeal.main_arg11) = m ((c.tc : Thread Cert.AdamwOddIdeal.nD Cert.AdamwOddIdeal.τ).loc Cert.AdamwOddIdeal.main_arg11)
      ∧ r.2.mem ((c.tc : Thread Cert.AdamwOddIdeal.nD Cert.AdamwOddIdeal.τ).loc Cert.AdamwOddIdeal.main_arg12) = m ((c.tc : Thread Cert.AdamwOddIdeal.nD Cert.AdamwOddIdeal.τ).loc Cert.AdamwOddIdeal.main_arg12)
      ∧ r.2.mem ((c.tc : Thread Cert.AdamwOddIdeal.nD Cert.AdamwOddIdeal.τ).loc Cert.AdamwOddIdeal.main_arg13) = m ((c.tc : Thread Cert.AdamwOddIdeal.nD Cert.AdamwOddIdeal.τ).loc Cert.AdamwOddIdeal.main_arg13)
      ∧ r.2.mem ((c.tc : Thread Cert.AdamwOddIdeal.nD Cert.AdamwOddIdeal.τ).loc Cert.AdamwOddIdeal.main_arg14) = m ((c.tc : Thread Cert.AdamwOddIdeal.nD Cert.AdamwOddIdeal.τ).loc Cert.AdamwOddIdeal.main_arg14)
      ∧ r.2.mem ((c.tc : Thread Cert.AdamwOddIdeal.nD Cert.AdamwOddIdeal.τ).loc Cert.AdamwOddIdeal.main_arg15) = m ((c.tc : Thread Cert.AdamwOddIdeal.nD Cert.AdamwOddIdeal.τ).loc Cert.AdamwOddIdeal.main_arg15)
      ∧ r.2.mem ((c.tc : Thread Cert.AdamwOddIdeal.nD Cert.AdamwOddIdeal.τ).loc Cert.AdamwOddIdeal.main_arg16) = m ((c.tc : Thread Cert.AdamwOddIdeal.nD Cert.AdamwOddIdeal.τ).loc Cert.AdamwOddIdeal.main_arg16)
      ∧ r.2.mem ((c.tc : Thread Cert.AdamwOddIdeal.nD Cert.AdamwOddIdeal.τ).loc Cert.AdamwOddIdeal.main_arg17) = m ((c.tc : Thread Cert.AdamwOddIdeal.nD Cert.AdamwOddIdeal.τ).loc Cert.AdamwOddIdeal.main_arg17)
      ∧ r.2.mem ((c.tc : Thread Cert.AdamwOddIdeal.nD Cert.AdamwOddIdeal.τ).loc Cert.AdamwOddIdeal.main_arg18) = m ((c.tc : Thread Cert.AdamwOddIdeal.nD Cert.AdamwOddIdeal.τ).loc Cert.AdamwOddIdeal.main_arg18)
      ∧ r.2.mem ((c.tc : Thread Cert.AdamwOddIdeal.nD Cert.AdamwOddIdeal.τ).loc Cert.AdamwOddIdeal.main_arg19) = m ((c.tc : Thread Cert.AdamwOddIdeal.nD Cert.AdamwOddIdeal.τ).loc Cert.AdamwOddIdeal.main_arg19)
      ∧ r.2.mem ((c.tc : Thread Cert.AdamwOddIdeal.nD Cert.AdamwOddIdeal.τ).loc Cert.AdamwOddIdeal.main_arg20) = m ((c.tc : Thread Cert.AdamwOddIdeal.nD Cert.AdamwOddIdeal.τ).loc Cert.AdamwOddIdeal.main_arg20)
      ∧ r.2.mem ((c.tc : Thread Cert.AdamwOddIdeal.nD Cert.AdamwOddIdeal.τ).loc Cert.AdamwOddIdeal.main_arg21) = m ((c.tc : Thread Cert.AdamwOddIdeal.nD Cert.AdamwOddIdeal.τ).loc Cert.AdamwOddIdeal.main_arg21)
      ∧ r.2.mem ((c.tc : Thread Cert.AdamwOddIdeal.nD Cert.AdamwOddIdeal.τ).loc Cert.AdamwOddIdeal.main_arg22) = m ((c.tc : Thread Cert.AdamwOddIdeal.nD Cert.AdamwOddIdeal.τ).loc Cert.AdamwOddIdeal.main_arg22)
      ∧ r.2.mem ((c.tc : Thread Cert.AdamwOddIdeal.nD Cert.AdamwOddIdeal.τ).loc Cert.AdamwOddIdeal.main_arg23) = m ((c.tc : Thread Cert.AdamwOddIdeal.nD Cert.AdamwOddIdeal.τ).loc Cert.AdamwOddIdeal.main_arg23))
      ∧ r.2.sem = fun _ => 0)

def quiescent_AdamwOddRefIdeal [hAdamwOddRefIdeal : Cert.AdamwOddRefIdeal.Facts] : Prop :=
  ∀ (m : (ℓ : Loc Cert.AdamwOddRefIdeal.nD Cert.AdamwOddRefIdeal.τ Cert.AdamwOddRefIdeal.sig) → Buf (Elt Ideal) ℓ) (g : Dev Cert.AdamwOddRefIdeal.nD → PrngReg), Pre_AdamwOddRefIdeal m →
    θ_run (Cert.AdamwOddRefIdeal.defs (F := Ideal)) (onTc (τ := Cert.AdamwOddRefIdeal.τ) (Cert.AdamwOddRefIdeal.main (F := Ideal))) ⟨m, fun _ => 0, g⟩ (fun r => (∀ c : Dev Cert.AdamwOddRefIdeal.nD,
      r.2.mem ((c.tc : Thread Cert.AdamwOddRefIdeal.nD Cert.AdamwOddRefIdeal.τ).loc Cert.AdamwOddRefIdeal.main_arg0) = m ((c.tc : Thread Cert.AdamwOddRefIdeal.nD Cert.AdamwOddRefIdeal.τ).loc Cert.AdamwOddRefIdeal.main_arg0)
      ∧ r.2.mem ((c.tc : Thread Cert.AdamwOddRefIdeal.nD Cert.AdamwOddRefIdeal.τ).loc Cert.AdamwOddRefIdeal.main_arg1) = m ((c.tc : Thread Cert.AdamwOddRefIdeal.nD Cert.AdamwOddRefIdeal.τ).loc Cert.AdamwOddRefIdeal.main_arg1)
      ∧ r.2.mem ((c.tc : Thread Cert.AdamwOddRefIdeal.nD Cert.AdamwOddRefIdeal.τ).loc Cert.AdamwOddRefIdeal.main_arg2) = m ((c.tc : Thread Cert.AdamwOddRefIdeal.nD Cert.AdamwOddRefIdeal.τ).loc Cert.AdamwOddRefIdeal.main_arg2)
      ∧ r.2.mem ((c.tc : Thread Cert.AdamwOddRefIdeal.nD Cert.AdamwOddRefIdeal.τ).loc Cert.AdamwOddRefIdeal.main_arg3) = m ((c.tc : Thread Cert.AdamwOddRefIdeal.nD Cert.AdamwOddRefIdeal.τ).loc Cert.AdamwOddRefIdeal.main_arg3)
      ∧ r.2.mem ((c.tc : Thread Cert.AdamwOddRefIdeal.nD Cert.AdamwOddRefIdeal.τ).loc Cert.AdamwOddRefIdeal.main_arg4) = m ((c.tc : Thread Cert.AdamwOddRefIdeal.nD Cert.AdamwOddRefIdeal.τ).loc Cert.AdamwOddRefIdeal.main_arg4)
      ∧ r.2.mem ((c.tc : Thread Cert.AdamwOddRefIdeal.nD Cert.AdamwOddRefIdeal.τ).loc Cert.AdamwOddRefIdeal.main_arg5) = m ((c.tc : Thread Cert.AdamwOddRefIdeal.nD Cert.AdamwOddRefIdeal.τ).loc Cert.AdamwOddRefIdeal.main_arg5)
      ∧ r.2.mem ((c.tc : Thread Cert.AdamwOddRefIdeal.nD Cert.AdamwOddRefIdeal.τ).loc Cert.AdamwOddRefIdeal.main_arg6) = m ((c.tc : Thread Cert.AdamwOddRefIdeal.nD Cert.AdamwOddRefIdeal.τ).loc Cert.AdamwOddRefIdeal.main_arg6)
      ∧ r.2.mem ((c.tc : Thread Cert.AdamwOddRefIdeal.nD Cert.AdamwOddRefIdeal.τ).loc Cert.AdamwOddRefIdeal.main_arg7) = m ((c.tc : Thread Cert.AdamwOddRefIdeal.nD Cert.AdamwOddRefIdeal.τ).loc Cert.AdamwOddRefIdeal.main_arg7)
      ∧ r.2.mem ((c.tc : Thread Cert.AdamwOddRefIdeal.nD Cert.AdamwOddRefIdeal.τ).loc Cert.AdamwOddRefIdeal.main_arg8) = m ((c.tc : Thread Cert.AdamwOddRefIdeal.nD Cert.AdamwOddRefIdeal.τ).loc Cert.AdamwOddRefIdeal.main_arg8)
      ∧ r.2.mem ((c.tc : Thread Cert.AdamwOddRefIdeal.nD Cert.AdamwOddRefIdeal.τ).loc Cert.AdamwOddRefIdeal.main_arg9) = m ((c.tc : Thread Cert.AdamwOddRefIdeal.nD Cert.AdamwOddRefIdeal.τ).loc Cert.AdamwOddRefIdeal.main_arg9)
      ∧ r.2.mem ((c.tc : Thread Cert.AdamwOddRefIdeal.nD Cert.AdamwOddRefIdeal.τ).loc Cert.AdamwOddRefIdeal.main_arg10) = m ((c.tc : Thread Cert.AdamwOddRefIdeal.nD Cert.AdamwOddRefIdeal.τ).loc Cert.AdamwOddRefIdeal.main_arg10)
      ∧ r.2.mem ((c.tc : Thread Cert.AdamwOddRefIdeal.nD Cert.AdamwOddRefIdeal.τ).loc Cert.AdamwOddRefIdeal.main_arg11) = m ((c.tc : Thread Cert.AdamwOddRefIdeal.nD Cert.AdamwOddRefIdeal.τ).loc Cert.AdamwOddRefIdeal.main_arg11)
      ∧ r.2.mem ((c.tc : Thread Cert.AdamwOddRefIdeal.nD Cert.AdamwOddRefIdeal.τ).loc Cert.AdamwOddRefIdeal.main_arg12) = m ((c.tc : Thread Cert.AdamwOddRefIdeal.nD Cert.AdamwOddRefIdeal.τ).loc Cert.AdamwOddRefIdeal.main_arg12)
      ∧ r.2.mem ((c.tc : Thread Cert.AdamwOddRefIdeal.nD Cert.AdamwOddRefIdeal.τ).loc Cert.AdamwOddRefIdeal.main_arg13) = m ((c.tc : Thread Cert.AdamwOddRefIdeal.nD Cert.AdamwOddRefIdeal.τ).loc Cert.AdamwOddRefIdeal.main_arg13)
      ∧ r.2.mem ((c.tc : Thread Cert.AdamwOddRefIdeal.nD Cert.AdamwOddRefIdeal.τ).loc Cert.AdamwOddRefIdeal.main_arg14) = m ((c.tc : Thread Cert.AdamwOddRefIdeal.nD Cert.AdamwOddRefIdeal.τ).loc Cert.AdamwOddRefIdeal.main_arg14)
      ∧ r.2.mem ((c.tc : Thread Cert.AdamwOddRefIdeal.nD Cert.AdamwOddRefIdeal.τ).loc Cert.AdamwOddRefIdeal.main_arg15) = m ((c.tc : Thread Cert.AdamwOddRefIdeal.nD Cert.AdamwOddRefIdeal.τ).loc Cert.AdamwOddRefIdeal.main_arg15)
      ∧ r.2.mem ((c.tc : Thread Cert.AdamwOddRefIdeal.nD Cert.AdamwOddRefIdeal.τ).loc Cert.AdamwOddRefIdeal.main_arg16) = m ((c.tc : Thread Cert.AdamwOddRefIdeal.nD Cert.AdamwOddRefIdeal.τ).loc Cert.AdamwOddRefIdeal.main_arg16)
      ∧ r.2.mem ((c.tc : Thread Cert.AdamwOddRefIdeal.nD Cert.AdamwOddRefIdeal.τ).loc Cert.AdamwOddRefIdeal.main_arg17) = m ((c.tc : Thread Cert.AdamwOddRefIdeal.nD Cert.AdamwOddRefIdeal.τ).loc Cert.AdamwOddRefIdeal.main_arg17)
      ∧ r.2.mem ((c.tc : Thread Cert.AdamwOddRefIdeal.nD Cert.AdamwOddRefIdeal.τ).loc Cert.AdamwOddRefIdeal.main_arg18) = m ((c.tc : Thread Cert.AdamwOddRefIdeal.nD Cert.AdamwOddRefIdeal.τ).loc Cert.AdamwOddRefIdeal.main_arg18)
      ∧ r.2.mem ((c.tc : Thread Cert.AdamwOddRefIdeal.nD Cert.AdamwOddRefIdeal.τ).loc Cert.AdamwOddRefIdeal.main_arg19) = m ((c.tc : Thread Cert.AdamwOddRefIdeal.nD Cert.AdamwOddRefIdeal.τ).loc Cert.AdamwOddRefIdeal.main_arg19)
      ∧ r.2.mem ((c.tc : Thread Cert.AdamwOddRefIdeal.nD Cert.AdamwOddRefIdeal.τ).loc Cert.AdamwOddRefIdeal.main_arg20) = m ((c.tc : Thread Cert.AdamwOddRefIdeal.nD Cert.AdamwOddRefIdeal.τ).loc Cert.AdamwOddRefIdeal.main_arg20)
      ∧ r.2.mem ((c.tc : Thread Cert.AdamwOddRefIdeal.nD Cert.AdamwOddRefIdeal.τ).loc Cert.AdamwOddRefIdeal.main_arg21) = m ((c.tc : Thread Cert.AdamwOddRefIdeal.nD Cert.AdamwOddRefIdeal.τ).loc Cert.AdamwOddRefIdeal.main_arg21)
      ∧ r.2.mem ((c.tc : Thread Cert.AdamwOddRefIdeal.nD Cert.AdamwOddRefIdeal.τ).loc Cert.AdamwOddRefIdeal.main_arg22) = m ((c.tc : Thread Cert.AdamwOddRefIdeal.nD Cert.AdamwOddRefIdeal.τ).loc Cert.AdamwOddRefIdeal.main_arg22)
      ∧ r.2.mem ((c.tc : Thread Cert.AdamwOddRefIdeal.nD Cert.AdamwOddRefIdeal.τ).loc Cert.AdamwOddRefIdeal.main_arg23) = m ((c.tc : Thread Cert.AdamwOddRefIdeal.nD Cert.AdamwOddRefIdeal.τ).loc Cert.AdamwOddRefIdeal.main_arg23))
      ∧ r.2.sem = fun _ => 0)

def preserves_EvenDw_EvenDwIdeal : Prop :=
  True

def algebraic_EvenDwIdeal_EvenDwRefIdeal [hEvenDwIdeal : Cert.EvenDwIdeal.Facts] [hEvenDwRefIdeal : Cert.EvenDwRefIdeal.Facts] : Prop :=
  ∀ (m : (ℓ : Loc Cert.EvenDwIdeal.nD Cert.EvenDwIdeal.τ Cert.EvenDwIdeal.sig) → Buf (Elt Ideal) ℓ) (g : Dev Cert.EvenDwIdeal.nD → PrngReg)
    (m' : (ℓ : Loc Cert.EvenDwRefIdeal.nD Cert.EvenDwRefIdeal.τ Cert.EvenDwRefIdeal.sig) → Buf (Elt Ideal) ℓ) (g' : Dev Cert.EvenDwRefIdeal.nD → PrngReg), Pre_EvenDwIdeal m →
    (∀ c : Dev Cert.EvenDwIdeal.nD,
      m' ((c.tc : Thread Cert.EvenDwRefIdeal.nD Cert.EvenDwRefIdeal.τ).loc Cert.EvenDwRefIdeal.main_arg0) = m ((c.tc : Thread Cert.EvenDwIdeal.nD Cert.EvenDwIdeal.τ).loc Cert.EvenDwIdeal.main_arg0)
      ∧ m' ((c.tc : Thread Cert.EvenDwRefIdeal.nD Cert.EvenDwRefIdeal.τ).loc Cert.EvenDwRefIdeal.main_arg1) = m ((c.tc : Thread Cert.EvenDwIdeal.nD Cert.EvenDwIdeal.τ).loc Cert.EvenDwIdeal.main_arg1)) →
    ∃ (v0 : (c : Dev Cert.EvenDwIdeal.nD) → Buf (Elt Ideal) ((c.tc : Thread Cert.EvenDwIdeal.nD Cert.EvenDwIdeal.τ).loc Cert.EvenDwIdeal.main_v0)),
      θ_run (Cert.EvenDwIdeal.defs (F := Ideal)) (onTc (τ := Cert.EvenDwIdeal.τ) (Cert.EvenDwIdeal.main (F := Ideal))) ⟨m, fun _ => 0, g⟩ (fun r => ∀ c : Dev Cert.EvenDwIdeal.nD,
          r.2.mem ((c.tc : Thread Cert.EvenDwIdeal.nD Cert.EvenDwIdeal.τ).loc Cert.EvenDwIdeal.main_v0) = v0 c
          ∧ r.2.mem ((c.tc : Thread Cert.EvenDwIdeal.nD Cert.EvenDwIdeal.τ).loc Cert.EvenDwIdeal.main_arg0) = m ((c.tc : Thread Cert.EvenDwIdeal.nD Cert.EvenDwIdeal.τ).loc Cert.EvenDwIdeal.main_arg0)
          ∧ r.2.mem ((c.tc : Thread Cert.EvenDwIdeal.nD Cert.EvenDwIdeal.τ).loc Cert.EvenDwIdeal.main_arg1) = m ((c.tc : Thread Cert.EvenDwIdeal.nD Cert.EvenDwIdeal.τ).loc Cert.EvenDwIdeal.main_arg1))
      ∧ θ_run (Cert.EvenDwRefIdeal.defs (F := Ideal)) (onTc (τ := Cert.EvenDwRefIdeal.τ) (Cert.EvenDwRefIdeal.main (F := Ideal))) ⟨m', fun _ => 0, g'⟩ (fun r => ∀ c : Dev Cert.EvenDwRefIdeal.nD,
          r.2.mem ((c.tc : Thread Cert.EvenDwRefIdeal.nD Cert.EvenDwRefIdeal.τ).loc Cert.EvenDwRefIdeal.main_v10) = v0 c
          ∧ r.2.mem ((c.tc : Thread Cert.EvenDwRefIdeal.nD Cert.EvenDwRefIdeal.τ).loc Cert.EvenDwRefIdeal.main_arg0) = m' ((c.tc : Thread Cert.EvenDwRefIdeal.nD Cert.EvenDwRefIdeal.τ).loc Cert.EvenDwRefIdeal.main_arg0)
          ∧ r.2.mem ((c.tc : Thread Cert.EvenDwRefIdeal.nD Cert.EvenDwRefIdeal.τ).loc Cert.EvenDwRefIdeal.main_arg1) = m' ((c.tc : Thread Cert.EvenDwRefIdeal.nD Cert.EvenDwRefIdeal.τ).loc Cert.EvenDwRefIdeal.main_arg1))

def preserves_OddDw_OddDwIdeal : Prop :=
  True

def algebraic_OddDwIdeal_OddDwRefIdeal [hOddDwIdeal : Cert.OddDwIdeal.Facts] [hOddDwRefIdeal : Cert.OddDwRefIdeal.Facts] : Prop :=
  ∀ (m : (ℓ : Loc Cert.OddDwIdeal.nD Cert.OddDwIdeal.τ Cert.OddDwIdeal.sig) → Buf (Elt Ideal) ℓ) (g : Dev Cert.OddDwIdeal.nD → PrngReg)
    (m' : (ℓ : Loc Cert.OddDwRefIdeal.nD Cert.OddDwRefIdeal.τ Cert.OddDwRefIdeal.sig) → Buf (Elt Ideal) ℓ) (g' : Dev Cert.OddDwRefIdeal.nD → PrngReg), Pre_OddDwIdeal m →
    (∀ c : Dev Cert.OddDwIdeal.nD,
      m' ((c.tc : Thread Cert.OddDwRefIdeal.nD Cert.OddDwRefIdeal.τ).loc Cert.OddDwRefIdeal.main_arg0) = m ((c.tc : Thread Cert.OddDwIdeal.nD Cert.OddDwIdeal.τ).loc Cert.OddDwIdeal.main_arg0)
      ∧ m' ((c.tc : Thread Cert.OddDwRefIdeal.nD Cert.OddDwRefIdeal.τ).loc Cert.OddDwRefIdeal.main_arg1) = m ((c.tc : Thread Cert.OddDwIdeal.nD Cert.OddDwIdeal.τ).loc Cert.OddDwIdeal.main_arg1)) →
    ∃ (v0 : (c : Dev Cert.OddDwIdeal.nD) → Buf (Elt Ideal) ((c.tc : Thread Cert.OddDwIdeal.nD Cert.OddDwIdeal.τ).loc Cert.OddDwIdeal.main_v0)),
      θ_run (Cert.OddDwIdeal.defs (F := Ideal)) (onTc (τ := Cert.OddDwIdeal.τ) (Cert.OddDwIdeal.main (F := Ideal))) ⟨m, fun _ => 0, g⟩ (fun r => ∀ c : Dev Cert.OddDwIdeal.nD,
          r.2.mem ((c.tc : Thread Cert.OddDwIdeal.nD Cert.OddDwIdeal.τ).loc Cert.OddDwIdeal.main_v0) = v0 c
          ∧ r.2.mem ((c.tc : Thread Cert.OddDwIdeal.nD Cert.OddDwIdeal.τ).loc Cert.OddDwIdeal.main_arg0) = m ((c.tc : Thread Cert.OddDwIdeal.nD Cert.OddDwIdeal.τ).loc Cert.OddDwIdeal.main_arg0)
          ∧ r.2.mem ((c.tc : Thread Cert.OddDwIdeal.nD Cert.OddDwIdeal.τ).loc Cert.OddDwIdeal.main_arg1) = m ((c.tc : Thread Cert.OddDwIdeal.nD Cert.OddDwIdeal.τ).loc Cert.OddDwIdeal.main_arg1))
      ∧ θ_run (Cert.OddDwRefIdeal.defs (F := Ideal)) (onTc (τ := Cert.OddDwRefIdeal.τ) (Cert.OddDwRefIdeal.main (F := Ideal))) ⟨m', fun _ => 0, g'⟩ (fun r => ∀ c : Dev Cert.OddDwRefIdeal.nD,
          r.2.mem ((c.tc : Thread Cert.OddDwRefIdeal.nD Cert.OddDwRefIdeal.τ).loc Cert.OddDwRefIdeal.main_v10) = v0 c
          ∧ r.2.mem ((c.tc : Thread Cert.OddDwRefIdeal.nD Cert.OddDwRefIdeal.τ).loc Cert.OddDwRefIdeal.main_arg0) = m' ((c.tc : Thread Cert.OddDwRefIdeal.nD Cert.OddDwRefIdeal.τ).loc Cert.OddDwRefIdeal.main_arg0)
          ∧ r.2.mem ((c.tc : Thread Cert.OddDwRefIdeal.nD Cert.OddDwRefIdeal.τ).loc Cert.OddDwRefIdeal.main_arg1) = m' ((c.tc : Thread Cert.OddDwRefIdeal.nD Cert.OddDwRefIdeal.τ).loc Cert.OddDwRefIdeal.main_arg1))

def preserves_EvenDh_EvenDhIdeal : Prop :=
  True

def algebraic_EvenDhIdeal_EvenDhRefIdeal [hEvenDhIdeal : Cert.EvenDhIdeal.Facts] [hEvenDhRefIdeal : Cert.EvenDhRefIdeal.Facts] : Prop :=
  ∀ (m : (ℓ : Loc Cert.EvenDhIdeal.nD Cert.EvenDhIdeal.τ Cert.EvenDhIdeal.sig) → Buf (Elt Ideal) ℓ) (g : Dev Cert.EvenDhIdeal.nD → PrngReg)
    (m' : (ℓ : Loc Cert.EvenDhRefIdeal.nD Cert.EvenDhRefIdeal.τ Cert.EvenDhRefIdeal.sig) → Buf (Elt Ideal) ℓ) (g' : Dev Cert.EvenDhRefIdeal.nD → PrngReg), Pre_EvenDhIdeal m →
    (∀ c : Dev Cert.EvenDhIdeal.nD,
      m' ((c.tc : Thread Cert.EvenDhRefIdeal.nD Cert.EvenDhRefIdeal.τ).loc Cert.EvenDhRefIdeal.main_arg0) = m ((c.tc : Thread Cert.EvenDhIdeal.nD Cert.EvenDhIdeal.τ).loc Cert.EvenDhIdeal.main_arg0)
      ∧ m' ((c.tc : Thread Cert.EvenDhRefIdeal.nD Cert.EvenDhRefIdeal.τ).loc Cert.EvenDhRefIdeal.main_arg1) = m ((c.tc : Thread Cert.EvenDhIdeal.nD Cert.EvenDhIdeal.τ).loc Cert.EvenDhIdeal.main_arg1)) →
    ∃ (v0 : (c : Dev Cert.EvenDhIdeal.nD) → Buf (Elt Ideal) ((c.tc : Thread Cert.EvenDhIdeal.nD Cert.EvenDhIdeal.τ).loc Cert.EvenDhIdeal.main_v0)),
      θ_run (Cert.EvenDhIdeal.defs (F := Ideal)) (onTc (τ := Cert.EvenDhIdeal.τ) (Cert.EvenDhIdeal.main (F := Ideal))) ⟨m, fun _ => 0, g⟩ (fun r => ∀ c : Dev Cert.EvenDhIdeal.nD,
          r.2.mem ((c.tc : Thread Cert.EvenDhIdeal.nD Cert.EvenDhIdeal.τ).loc Cert.EvenDhIdeal.main_v0) = v0 c
          ∧ r.2.mem ((c.tc : Thread Cert.EvenDhIdeal.nD Cert.EvenDhIdeal.τ).loc Cert.EvenDhIdeal.main_arg0) = m ((c.tc : Thread Cert.EvenDhIdeal.nD Cert.EvenDhIdeal.τ).loc Cert.EvenDhIdeal.main_arg0)
          ∧ r.2.mem ((c.tc : Thread Cert.EvenDhIdeal.nD Cert.EvenDhIdeal.τ).loc Cert.EvenDhIdeal.main_arg1) = m ((c.tc : Thread Cert.EvenDhIdeal.nD Cert.EvenDhIdeal.τ).loc Cert.EvenDhIdeal.main_arg1))
      ∧ θ_run (Cert.EvenDhRefIdeal.defs (F := Ideal)) (onTc (τ := Cert.EvenDhRefIdeal.τ) (Cert.EvenDhRefIdeal.main (F := Ideal))) ⟨m', fun _ => 0, g'⟩ (fun r => ∀ c : Dev Cert.EvenDhRefIdeal.nD,
          r.2.mem ((c.tc : Thread Cert.EvenDhRefIdeal.nD Cert.EvenDhRefIdeal.τ).loc Cert.EvenDhRefIdeal.main_v8) = v0 c
          ∧ r.2.mem ((c.tc : Thread Cert.EvenDhRefIdeal.nD Cert.EvenDhRefIdeal.τ).loc Cert.EvenDhRefIdeal.main_arg0) = m' ((c.tc : Thread Cert.EvenDhRefIdeal.nD Cert.EvenDhRefIdeal.τ).loc Cert.EvenDhRefIdeal.main_arg0)
          ∧ r.2.mem ((c.tc : Thread Cert.EvenDhRefIdeal.nD Cert.EvenDhRefIdeal.τ).loc Cert.EvenDhRefIdeal.main_arg1) = m' ((c.tc : Thread Cert.EvenDhRefIdeal.nD Cert.EvenDhRefIdeal.τ).loc Cert.EvenDhRefIdeal.main_arg1))

def preserves_OddDh_OddDhIdeal : Prop :=
  True

def algebraic_OddDhIdeal_OddDhRefIdeal [hOddDhIdeal : Cert.OddDhIdeal.Facts] [hOddDhRefIdeal : Cert.OddDhRefIdeal.Facts] : Prop :=
  ∀ (m : (ℓ : Loc Cert.OddDhIdeal.nD Cert.OddDhIdeal.τ Cert.OddDhIdeal.sig) → Buf (Elt Ideal) ℓ) (g : Dev Cert.OddDhIdeal.nD → PrngReg)
    (m' : (ℓ : Loc Cert.OddDhRefIdeal.nD Cert.OddDhRefIdeal.τ Cert.OddDhRefIdeal.sig) → Buf (Elt Ideal) ℓ) (g' : Dev Cert.OddDhRefIdeal.nD → PrngReg), Pre_OddDhIdeal m →
    (∀ c : Dev Cert.OddDhIdeal.nD,
      m' ((c.tc : Thread Cert.OddDhRefIdeal.nD Cert.OddDhRefIdeal.τ).loc Cert.OddDhRefIdeal.main_arg0) = m ((c.tc : Thread Cert.OddDhIdeal.nD Cert.OddDhIdeal.τ).loc Cert.OddDhIdeal.main_arg0)
      ∧ m' ((c.tc : Thread Cert.OddDhRefIdeal.nD Cert.OddDhRefIdeal.τ).loc Cert.OddDhRefIdeal.main_arg1) = m ((c.tc : Thread Cert.OddDhIdeal.nD Cert.OddDhIdeal.τ).loc Cert.OddDhIdeal.main_arg1)) →
    ∃ (v0 : (c : Dev Cert.OddDhIdeal.nD) → Buf (Elt Ideal) ((c.tc : Thread Cert.OddDhIdeal.nD Cert.OddDhIdeal.τ).loc Cert.OddDhIdeal.main_v0)),
      θ_run (Cert.OddDhIdeal.defs (F := Ideal)) (onTc (τ := Cert.OddDhIdeal.τ) (Cert.OddDhIdeal.main (F := Ideal))) ⟨m, fun _ => 0, g⟩ (fun r => ∀ c : Dev Cert.OddDhIdeal.nD,
          r.2.mem ((c.tc : Thread Cert.OddDhIdeal.nD Cert.OddDhIdeal.τ).loc Cert.OddDhIdeal.main_v0) = v0 c
          ∧ r.2.mem ((c.tc : Thread Cert.OddDhIdeal.nD Cert.OddDhIdeal.τ).loc Cert.OddDhIdeal.main_arg0) = m ((c.tc : Thread Cert.OddDhIdeal.nD Cert.OddDhIdeal.τ).loc Cert.OddDhIdeal.main_arg0)
          ∧ r.2.mem ((c.tc : Thread Cert.OddDhIdeal.nD Cert.OddDhIdeal.τ).loc Cert.OddDhIdeal.main_arg1) = m ((c.tc : Thread Cert.OddDhIdeal.nD Cert.OddDhIdeal.τ).loc Cert.OddDhIdeal.main_arg1))
      ∧ θ_run (Cert.OddDhRefIdeal.defs (F := Ideal)) (onTc (τ := Cert.OddDhRefIdeal.τ) (Cert.OddDhRefIdeal.main (F := Ideal))) ⟨m', fun _ => 0, g'⟩ (fun r => ∀ c : Dev Cert.OddDhRefIdeal.nD,
          r.2.mem ((c.tc : Thread Cert.OddDhRefIdeal.nD Cert.OddDhRefIdeal.τ).loc Cert.OddDhRefIdeal.main_v8) = v0 c
          ∧ r.2.mem ((c.tc : Thread Cert.OddDhRefIdeal.nD Cert.OddDhRefIdeal.τ).loc Cert.OddDhRefIdeal.main_arg0) = m' ((c.tc : Thread Cert.OddDhRefIdeal.nD Cert.OddDhRefIdeal.τ).loc Cert.OddDhRefIdeal.main_arg0)
          ∧ r.2.mem ((c.tc : Thread Cert.OddDhRefIdeal.nD Cert.OddDhRefIdeal.τ).loc Cert.OddDhRefIdeal.main_arg1) = m' ((c.tc : Thread Cert.OddDhRefIdeal.nD Cert.OddDhRefIdeal.τ).loc Cert.OddDhRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)) →
    ∃ (v0 : (c : Dev Cert.OutBwdIdeal.nD) → Buf (Elt Ideal) ((c.tc : Thread Cert.OutBwdIdeal.nD Cert.OutBwdIdeal.τ).loc Cert.OutBwdIdeal.main_v0_0)) (v1 : (c : Dev Cert.OutBwdIdeal.nD) → Buf (Elt Ideal) ((c.tc : Thread Cert.OutBwdIdeal.nD Cert.OutBwdIdeal.τ).loc Cert.OutBwdIdeal.main_v0_1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0_0) = v0 c
          ∧ r.2.mem ((c.tc : Thread Cert.OutBwdIdeal.nD Cert.OutBwdIdeal.τ).loc Cert.OutBwdIdeal.main_v0_1) = v1 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v12) = v0 c
          ∧ r.2.mem ((c.tc : Thread Cert.OutBwdRefIdeal.nD Cert.OutBwdRefIdeal.τ).loc Cert.OutBwdRefIdeal.main_v14) = v1 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2))

def preserves_EvenFwd_EvenFwdIdeal : Prop :=
  True

def algebraic_EvenFwdIdeal_EvenFwdRefIdeal [hEvenFwdIdeal : Cert.EvenFwdIdeal.Facts] [hEvenFwdRefIdeal : Cert.EvenFwdRefIdeal.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg)
    (m' : (ℓ : Loc Cert.EvenFwdRefIdeal.nD Cert.EvenFwdRefIdeal.τ Cert.EvenFwdRefIdeal.sig) → Buf (Elt Ideal) ℓ) (g' : Dev Cert.EvenFwdRefIdeal.nD → PrngReg), Pre_EvenFwdIdeal m →
    (∀ c : Dev Cert.EvenFwdIdeal.nD,
      m' ((c.tc : Thread Cert.EvenFwdRefIdeal.nD Cert.EvenFwdRefIdeal.τ).loc Cert.EvenFwdRefIdeal.main_arg0) = m ((c.tc : Thread Cert.EvenFwdIdeal.nD Cert.EvenFwdIdeal.τ).loc Cert.EvenFwdIdeal.main_arg0)
      ∧ m' ((c.tc : Thread Cert.EvenFwdRefIdeal.nD Cert.EvenFwdRefIdeal.τ).loc Cert.EvenFwdRefIdeal.main_arg1) = m ((c.tc : Thread Cert.EvenFwdIdeal.nD Cert.EvenFwdIdeal.τ).loc Cert.EvenFwdIdeal.main_arg1)) →
    ∃ (v0 : (c : Dev Cert.EvenFwdIdeal.nD) → Buf (Elt Ideal) ((c.tc : Thread Cert.EvenFwdIdeal.nD Cert.EvenFwdIdeal.τ).loc Cert.EvenFwdIdeal.main_v0)),
      θ_run (Cert.EvenFwdIdeal.defs (F := Ideal)) (onTc (τ := Cert.EvenFwdIdeal.τ) (Cert.EvenFwdIdeal.main (F := Ideal))) ⟨m, fun _ => 0, g⟩ (fun r => ∀ c : Dev Cert.EvenFwdIdeal.nD,
          r.2.mem ((c.tc : Thread Cert.EvenFwdIdeal.nD Cert.EvenFwdIdeal.τ).loc Cert.EvenFwdIdeal.main_v0) = v0 c
          ∧ r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
          ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1))
      ∧ θ_run (Cert.EvenFwdRefIdeal.defs (F := Ideal)) (onTc (τ := Cert.EvenFwdRefIdeal.τ) (Cert.EvenFwdRefIdeal.main (F := Ideal))) ⟨m', fun _ => 0, g'⟩ (fun r => ∀ c : Dev Cert.EvenFwdRefIdeal.nD,
          r.2.mem ((c.tc : Thread Cert.EvenFwdRefIdeal.nD Cert.EvenFwdRefIdeal.τ).loc Cert.EvenFwdRefIdeal.main_v7) = v0 c
          ∧ r.2.mem ((c.tc : Thread Cert.EvenFwdRefIdeal.nD Cert.EvenFwdRefIdeal.τ).loc Cert.EvenFwdRefIdeal.main_arg0) = m' ((c.tc : Thread Cert.EvenFwdRefIdeal.nD Cert.EvenFwdRefIdeal.τ).loc Cert.EvenFwdRefIdeal.main_arg0)
          ∧ r.2.mem ((c.tc : Thread Cert.EvenFwdRefIdeal.nD Cert.EvenFwdRefIdeal.τ).loc Cert.EvenFwdRefIdeal.main_arg1) = m' ((c.tc : Thread Cert.EvenFwdRefIdeal.nD Cert.EvenFwdRefIdeal.τ).loc Cert.EvenFwdRefIdeal.main_arg1))

def preserves_OddFwd_OddFwdIdeal : Prop :=
  True

def algebraic_OddFwdIdeal_OddFwdRefIdeal [hOddFwdIdeal : Cert.OddFwdIdeal.Facts] [hOddFwdRefIdeal : Cert.OddFwdRefIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg)
    (m' : (ℓ : Loc Cert.OddFwdRefIdeal.nD Cert.OddFwdRefIdeal.τ Cert.OddFwdRefIdeal.sig) → Buf (Elt Ideal) ℓ) (g' : Dev Cert.OddFwdRefIdeal.nD → PrngReg), Pre_OddFwdIdeal m →
    (∀ c : Dev Cert.OddFwdIdeal.nD,
      m' ((c.tc : Thread Cert.OddFwdRefIdeal.nD Cert.OddFwdRefIdeal.τ).loc Cert.OddFwdRefIdeal.main_arg0) = m ((c.tc : Thread Cert.OddFwdIdeal.nD Cert.OddFwdIdeal.τ).loc Cert.OddFwdIdeal.main_arg0)
      ∧ m' ((c.tc : Thread Cert.OddFwdRefIdeal.nD Cert.OddFwdRefIdeal.τ).loc Cert.OddFwdRefIdeal.main_arg1) = m ((c.tc : Thread Cert.OddFwdIdeal.nD Cert.OddFwdIdeal.τ).loc Cert.OddFwdIdeal.main_arg1)) →
    ∃ (v0 : (c : Dev Cert.OddFwdIdeal.nD) → Buf (Elt Ideal) ((c.tc : Thread Cert.OddFwdIdeal.nD Cert.OddFwdIdeal.τ).loc Cert.OddFwdIdeal.main_v0)),
      θ_run (Cert.OddFwdIdeal.defs (F := Ideal)) (onTc (τ := Cert.OddFwdIdeal.τ) (Cert.OddFwdIdeal.main (F := Ideal))) ⟨m, fun _ => 0, g⟩ (fun r => ∀ c : Dev Cert.OddFwdIdeal.nD,
          r.2.mem ((c.tc : Thread Cert.OddFwdIdeal.nD Cert.OddFwdIdeal.τ).loc Cert.OddFwdIdeal.main_v0) = v0 c
          ∧ r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
          ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1))
      ∧ θ_run (Cert.OddFwdRefIdeal.defs (F := Ideal)) (onTc (τ := Cert.OddFwdRefIdeal.τ) (Cert.OddFwdRefIdeal.main (F := Ideal))) ⟨m', fun _ => 0, g'⟩ (fun r => ∀ c : Dev Cert.OddFwdRefIdeal.nD,
          r.2.mem ((c.tc : Thread Cert.OddFwdRefIdeal.nD Cert.OddFwdRefIdeal.τ).loc Cert.OddFwdRefIdeal.main_v7) = v0 c
          ∧ r.2.mem ((c.tc : Thread Cert.OddFwdRefIdeal.nD Cert.OddFwdRefIdeal.τ).loc Cert.OddFwdRefIdeal.main_arg0) = m' ((c.tc : Thread Cert.OddFwdRefIdeal.nD Cert.OddFwdRefIdeal.τ).loc Cert.OddFwdRefIdeal.main_arg0)
          ∧ r.2.mem ((c.tc : Thread Cert.OddFwdRefIdeal.nD Cert.OddFwdRefIdeal.τ).loc Cert.OddFwdRefIdeal.main_arg1) = m' ((c.tc : Thread Cert.OddFwdRefIdeal.nD Cert.OddFwdRefIdeal.τ).loc Cert.OddFwdRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)) (v2 : (c : Dev Cert.OutProjIdeal.nD) → Buf (Elt Ideal) ((c.tc : Thread Cert.OutProjIdeal.nD Cert.OutProjIdeal.τ).loc Cert.OutProjIdeal.main_v1_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_v1_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v8) = v0 c
          ∧ r.2.mem ((c.tc : Thread Cert.OutProjRefIdeal.nD Cert.OutProjRefIdeal.τ).loc Cert.OutProjRefIdeal.main_v29) = v1 c
          ∧ r.2.mem ((c.tc : Thread Cert.OutProjRefIdeal.nD Cert.OutProjRefIdeal.τ).loc Cert.OutProjRefIdeal.main_v30) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_OutProjLast_OutProjLastIdeal : Prop :=
  True

def algebraic_OutProjLastIdeal_OutProjLastRefIdeal [hOutProjLastIdeal : Cert.OutProjLastIdeal.Facts] [hOutProjLastRefIdeal : Cert.OutProjLastRefIdeal.Facts] : Prop :=
  ∀ (m : (ℓ : Loc Cert.OutProjLastIdeal.nD Cert.OutProjLastIdeal.τ Cert.OutProjLastIdeal.sig) → Buf (Elt Ideal) ℓ) (g : Dev Cert.OutProjLastIdeal.nD → PrngReg)
    (m' : (ℓ : Loc Cert.OutProjLastRefIdeal.nD Cert.OutProjLastRefIdeal.τ Cert.OutProjLastRefIdeal.sig) → Buf (Elt Ideal) ℓ) (g' : Dev Cert.OutProjLastRefIdeal.nD → PrngReg), Pre_OutProjLastIdeal m →
    (∀ c : Dev Cert.OutProjLastIdeal.nD,
      m' ((c.tc : Thread Cert.OutProjLastRefIdeal.nD Cert.OutProjLastRefIdeal.τ).loc Cert.OutProjLastRefIdeal.main_arg0) = m ((c.tc : Thread Cert.OutProjLastIdeal.nD Cert.OutProjLastIdeal.τ).loc Cert.OutProjLastIdeal.main_arg0)
      ∧ m' ((c.tc : Thread Cert.OutProjLastRefIdeal.nD Cert.OutProjLastRefIdeal.τ).loc Cert.OutProjLastRefIdeal.main_arg1) = m ((c.tc : Thread Cert.OutProjLastIdeal.nD Cert.OutProjLastIdeal.τ).loc Cert.OutProjLastIdeal.main_arg1)
      ∧ m' ((c.tc : Thread Cert.OutProjLastRefIdeal.nD Cert.OutProjLastRefIdeal.τ).loc Cert.OutProjLastRefIdeal.main_arg2) = m ((c.tc : Thread Cert.OutProjLastIdeal.nD Cert.OutProjLastIdeal.τ).loc Cert.OutProjLastIdeal.main_arg2)
      ∧ m' ((c.tc : Thread Cert.OutProjLastRefIdeal.nD Cert.OutProjLastRefIdeal.τ).loc Cert.OutProjLastRefIdeal.main_arg3) = m ((c.tc : Thread Cert.OutProjLastIdeal.nD Cert.OutProjLastIdeal.τ).loc Cert.OutProjLastIdeal.main_arg3)) →
    ∃ (v0 : (c : Dev Cert.OutProjLastIdeal.nD) → Buf (Elt Ideal) ((c.tc : Thread Cert.OutProjLastIdeal.nD Cert.OutProjLastIdeal.τ).loc Cert.OutProjLastIdeal.main_v1_0)) (v1 : (c : Dev Cert.OutProjLastIdeal.nD) → Buf (Elt Ideal) ((c.tc : Thread Cert.OutProjLastIdeal.nD Cert.OutProjLastIdeal.τ).loc Cert.OutProjLastIdeal.main_v1_1)),
      θ_run (Cert.OutProjLastIdeal.defs (F := Ideal)) (onTc (τ := Cert.OutProjLastIdeal.τ) (Cert.OutProjLastIdeal.main (F := Ideal))) ⟨m, fun _ => 0, g⟩ (fun r => ∀ c : Dev Cert.OutProjLastIdeal.nD,
          r.2.mem ((c.tc : Thread Cert.OutProjLastIdeal.nD Cert.OutProjLastIdeal.τ).loc Cert.OutProjLastIdeal.main_v1_0) = v0 c
          ∧ r.2.mem ((c.tc : Thread Cert.OutProjLastIdeal.nD Cert.OutProjLastIdeal.τ).loc Cert.OutProjLastIdeal.main_v1_1) = v1 c
          ∧ r.2.mem ((c.tc : Thread Cert.OutProjLastIdeal.nD Cert.OutProjLastIdeal.τ).loc Cert.OutProjLastIdeal.main_arg0) = m ((c.tc : Thread Cert.OutProjLastIdeal.nD Cert.OutProjLastIdeal.τ).loc Cert.OutProjLastIdeal.main_arg0)
          ∧ r.2.mem ((c.tc : Thread Cert.OutProjLastIdeal.nD Cert.OutProjLastIdeal.τ).loc Cert.OutProjLastIdeal.main_arg1) = m ((c.tc : Thread Cert.OutProjLastIdeal.nD Cert.OutProjLastIdeal.τ).loc Cert.OutProjLastIdeal.main_arg1)
          ∧ r.2.mem ((c.tc : Thread Cert.OutProjLastIdeal.nD Cert.OutProjLastIdeal.τ).loc Cert.OutProjLastIdeal.main_arg2) = m ((c.tc : Thread Cert.OutProjLastIdeal.nD Cert.OutProjLastIdeal.τ).loc Cert.OutProjLastIdeal.main_arg2)
          ∧ r.2.mem ((c.tc : Thread Cert.OutProjLastIdeal.nD Cert.OutProjLastIdeal.τ).loc Cert.OutProjLastIdeal.main_arg3) = m ((c.tc : Thread Cert.OutProjLastIdeal.nD Cert.OutProjLastIdeal.τ).loc Cert.OutProjLastIdeal.main_arg3))
      ∧ θ_run (Cert.OutProjLastRefIdeal.defs (F := Ideal)) (onTc (τ := Cert.OutProjLastRefIdeal.τ) (Cert.OutProjLastRefIdeal.main (F := Ideal))) ⟨m', fun _ => 0, g'⟩ (fun r => ∀ c : Dev Cert.OutProjLastRefIdeal.nD,
          r.2.mem ((c.tc : Thread Cert.OutProjLastRefIdeal.nD Cert.OutProjLastRefIdeal.τ).loc Cert.OutProjLastRefIdeal.main_v8) = v0 c
          ∧ r.2.mem ((c.tc : Thread Cert.OutProjLastRefIdeal.nD Cert.OutProjLastRefIdeal.τ).loc Cert.OutProjLastRefIdeal.main_v9) = v1 c
          ∧ r.2.mem ((c.tc : Thread Cert.OutProjLastRefIdeal.nD Cert.OutProjLastRefIdeal.τ).loc Cert.OutProjLastRefIdeal.main_arg0) = m' ((c.tc : Thread Cert.OutProjLastRefIdeal.nD Cert.OutProjLastRefIdeal.τ).loc Cert.OutProjLastRefIdeal.main_arg0)
          ∧ r.2.mem ((c.tc : Thread Cert.OutProjLastRefIdeal.nD Cert.OutProjLastRefIdeal.τ).loc Cert.OutProjLastRefIdeal.main_arg1) = m' ((c.tc : Thread Cert.OutProjLastRefIdeal.nD Cert.OutProjLastRefIdeal.τ).loc Cert.OutProjLastRefIdeal.main_arg1)
          ∧ r.2.mem ((c.tc : Thread Cert.OutProjLastRefIdeal.nD Cert.OutProjLastRefIdeal.τ).loc Cert.OutProjLastRefIdeal.main_arg2) = m' ((c.tc : Thread Cert.OutProjLastRefIdeal.nD Cert.OutProjLastRefIdeal.τ).loc Cert.OutProjLastRefIdeal.main_arg2)
          ∧ r.2.mem ((c.tc : Thread Cert.OutProjLastRefIdeal.nD Cert.OutProjLastRefIdeal.τ).loc Cert.OutProjLastRefIdeal.main_arg3) = m' ((c.tc : Thread Cert.OutProjLastRefIdeal.nD Cert.OutProjLastRefIdeal.τ).loc Cert.OutProjLastRefIdeal.main_arg3))

def preserves_OddMixFwd_OddMixFwdIdeal : Prop :=
  True

def algebraic_OddMixFwdIdeal_OddMixFwdRefIdeal [hOddMixFwdIdeal : Cert.OddMixFwdIdeal.Facts] [hOddMixFwdRefIdeal : Cert.OddMixFwdRefIdeal.Facts] : Prop :=
  ∀ (m : (ℓ : Loc Cert.OddMixFwdIdeal.nD Cert.OddMixFwdIdeal.τ Cert.OddMixFwdIdeal.sig) → Buf (Elt Ideal) ℓ) (g : Dev Cert.OddMixFwdIdeal.nD → PrngReg)
    (m' : (ℓ : Loc Cert.OddMixFwdRefIdeal.nD Cert.OddMixFwdRefIdeal.τ Cert.OddMixFwdRefIdeal.sig) → Buf (Elt Ideal) ℓ) (g' : Dev Cert.OddMixFwdRefIdeal.nD → PrngReg), Pre_OddMixFwdIdeal m →
    (∀ c : Dev Cert.OddMixFwdIdeal.nD,
      m' ((c.tc : Thread Cert.OddMixFwdRefIdeal.nD Cert.OddMixFwdRefIdeal.τ).loc Cert.OddMixFwdRefIdeal.main_arg0) = m ((c.tc : Thread Cert.OddMixFwdIdeal.nD Cert.OddMixFwdIdeal.τ).loc Cert.OddMixFwdIdeal.main_arg0)
      ∧ m' ((c.tc : Thread Cert.OddMixFwdRefIdeal.nD Cert.OddMixFwdRefIdeal.τ).loc Cert.OddMixFwdRefIdeal.main_arg1) = m ((c.tc : Thread Cert.OddMixFwdIdeal.nD Cert.OddMixFwdIdeal.τ).loc Cert.OddMixFwdIdeal.main_arg1)
      ∧ m' ((c.tc : Thread Cert.OddMixFwdRefIdeal.nD Cert.OddMixFwdRefIdeal.τ).loc Cert.OddMixFwdRefIdeal.main_arg2) = m ((c.tc : Thread Cert.OddMixFwdIdeal.nD Cert.OddMixFwdIdeal.τ).loc Cert.OddMixFwdIdeal.main_arg2)) →
    ∃ (v0 : (c : Dev Cert.OddMixFwdIdeal.nD) → Buf (Elt Ideal) ((c.tc : Thread Cert.OddMixFwdIdeal.nD Cert.OddMixFwdIdeal.τ).loc Cert.OddMixFwdIdeal.main_v0)),
      θ_run (Cert.OddMixFwdIdeal.defs (F := Ideal)) (onTc (τ := Cert.OddMixFwdIdeal.τ) (Cert.OddMixFwdIdeal.main (F := Ideal))) ⟨m, fun _ => 0, g⟩ (fun r => ∀ c : Dev Cert.OddMixFwdIdeal.nD,
          r.2.mem ((c.tc : Thread Cert.OddMixFwdIdeal.nD Cert.OddMixFwdIdeal.τ).loc Cert.OddMixFwdIdeal.main_v0) = v0 c
          ∧ r.2.mem ((c.tc : Thread Cert.OddMixFwdIdeal.nD Cert.OddMixFwdIdeal.τ).loc Cert.OddMixFwdIdeal.main_arg0) = m ((c.tc : Thread Cert.OddMixFwdIdeal.nD Cert.OddMixFwdIdeal.τ).loc Cert.OddMixFwdIdeal.main_arg0)
          ∧ r.2.mem ((c.tc : Thread Cert.OddMixFwdIdeal.nD Cert.OddMixFwdIdeal.τ).loc Cert.OddMixFwdIdeal.main_arg1) = m ((c.tc : Thread Cert.OddMixFwdIdeal.nD Cert.OddMixFwdIdeal.τ).loc Cert.OddMixFwdIdeal.main_arg1)
          ∧ r.2.mem ((c.tc : Thread Cert.OddMixFwdIdeal.nD Cert.OddMixFwdIdeal.τ).loc Cert.OddMixFwdIdeal.main_arg2) = m ((c.tc : Thread Cert.OddMixFwdIdeal.nD Cert.OddMixFwdIdeal.τ).loc Cert.OddMixFwdIdeal.main_arg2))
      ∧ θ_run (Cert.OddMixFwdRefIdeal.defs (F := Ideal)) (onTc (τ := Cert.OddMixFwdRefIdeal.τ) (Cert.OddMixFwdRefIdeal.main (F := Ideal))) ⟨m', fun _ => 0, g'⟩ (fun r => ∀ c : Dev Cert.OddMixFwdRefIdeal.nD,
          r.2.mem ((c.tc : Thread Cert.OddMixFwdRefIdeal.nD Cert.OddMixFwdRefIdeal.τ).loc Cert.OddMixFwdRefIdeal.main_v46) = v0 c
          ∧ r.2.mem ((c.tc : Thread Cert.OddMixFwdRefIdeal.nD Cert.OddMixFwdRefIdeal.τ).loc Cert.OddMixFwdRefIdeal.main_arg0) = m' ((c.tc : Thread Cert.OddMixFwdRefIdeal.nD Cert.OddMixFwdRefIdeal.τ).loc Cert.OddMixFwdRefIdeal.main_arg0)
          ∧ r.2.mem ((c.tc : Thread Cert.OddMixFwdRefIdeal.nD Cert.OddMixFwdRefIdeal.τ).loc Cert.OddMixFwdRefIdeal.main_arg1) = m' ((c.tc : Thread Cert.OddMixFwdRefIdeal.nD Cert.OddMixFwdRefIdeal.τ).loc Cert.OddMixFwdRefIdeal.main_arg1)
          ∧ r.2.mem ((c.tc : Thread Cert.OddMixFwdRefIdeal.nD Cert.OddMixFwdRefIdeal.τ).loc Cert.OddMixFwdRefIdeal.main_arg2) = m' ((c.tc : Thread Cert.OddMixFwdRefIdeal.nD Cert.OddMixFwdRefIdeal.τ).loc Cert.OddMixFwdRefIdeal.main_arg2))

def preserves_EvenMixFwd_EvenMixFwdIdeal : Prop :=
  True

def algebraic_EvenMixFwdIdeal_EvenMixFwdRefIdeal [hEvenMixFwdIdeal : Cert.EvenMixFwdIdeal.Facts] [hEvenMixFwdRefIdeal : Cert.EvenMixFwdRefIdeal.Facts] : Prop :=
  ∀ (m : (ℓ : Loc Cert.EvenMixFwdIdeal.nD Cert.EvenMixFwdIdeal.τ Cert.EvenMixFwdIdeal.sig) → Buf (Elt Ideal) ℓ) (g : Dev Cert.EvenMixFwdIdeal.nD → PrngReg)
    (m' : (ℓ : Loc Cert.EvenMixFwdRefIdeal.nD Cert.EvenMixFwdRefIdeal.τ Cert.EvenMixFwdRefIdeal.sig) → Buf (Elt Ideal) ℓ) (g' : Dev Cert.EvenMixFwdRefIdeal.nD → PrngReg), Pre_EvenMixFwdIdeal m →
    (∀ c : Dev Cert.EvenMixFwdIdeal.nD,
      m' ((c.tc : Thread Cert.EvenMixFwdRefIdeal.nD Cert.EvenMixFwdRefIdeal.τ).loc Cert.EvenMixFwdRefIdeal.main_arg0) = m ((c.tc : Thread Cert.EvenMixFwdIdeal.nD Cert.EvenMixFwdIdeal.τ).loc Cert.EvenMixFwdIdeal.main_arg0)
      ∧ m' ((c.tc : Thread Cert.EvenMixFwdRefIdeal.nD Cert.EvenMixFwdRefIdeal.τ).loc Cert.EvenMixFwdRefIdeal.main_arg1) = m ((c.tc : Thread Cert.EvenMixFwdIdeal.nD Cert.EvenMixFwdIdeal.τ).loc Cert.EvenMixFwdIdeal.main_arg1)
      ∧ m' ((c.tc : Thread Cert.EvenMixFwdRefIdeal.nD Cert.EvenMixFwdRefIdeal.τ).loc Cert.EvenMixFwdRefIdeal.main_arg2) = m ((c.tc : Thread Cert.EvenMixFwdIdeal.nD Cert.EvenMixFwdIdeal.τ).loc Cert.EvenMixFwdIdeal.main_arg2)
      ∧ m' ((c.tc : Thread Cert.EvenMixFwdRefIdeal.nD Cert.EvenMixFwdRefIdeal.τ).loc Cert.EvenMixFwdRefIdeal.main_arg3) = m ((c.tc : Thread Cert.EvenMixFwdIdeal.nD Cert.EvenMixFwdIdeal.τ).loc Cert.EvenMixFwdIdeal.main_arg3)
      ∧ m' ((c.tc : Thread Cert.EvenMixFwdRefIdeal.nD Cert.EvenMixFwdRefIdeal.τ).loc Cert.EvenMixFwdRefIdeal.main_arg4) = m ((c.tc : Thread Cert.EvenMixFwdIdeal.nD Cert.EvenMixFwdIdeal.τ).loc Cert.EvenMixFwdIdeal.main_arg4)
      ∧ m' ((c.tc : Thread Cert.EvenMixFwdRefIdeal.nD Cert.EvenMixFwdRefIdeal.τ).loc Cert.EvenMixFwdRefIdeal.main_arg5) = m ((c.tc : Thread Cert.EvenMixFwdIdeal.nD Cert.EvenMixFwdIdeal.τ).loc Cert.EvenMixFwdIdeal.main_arg5)) →
    ∃ (v0 : (c : Dev Cert.EvenMixFwdIdeal.nD) → Buf (Elt Ideal) ((c.tc : Thread Cert.EvenMixFwdIdeal.nD Cert.EvenMixFwdIdeal.τ).loc Cert.EvenMixFwdIdeal.main_v2)),
      θ_run (Cert.EvenMixFwdIdeal.defs (F := Ideal)) (onTc (τ := Cert.EvenMixFwdIdeal.τ) (Cert.EvenMixFwdIdeal.main (F := Ideal))) ⟨m, fun _ => 0, g⟩ (fun r => ∀ c : Dev Cert.EvenMixFwdIdeal.nD,
          r.2.mem ((c.tc : Thread Cert.EvenMixFwdIdeal.nD Cert.EvenMixFwdIdeal.τ).loc Cert.EvenMixFwdIdeal.main_v2) = v0 c
          ∧ r.2.mem ((c.tc : Thread Cert.EvenMixFwdIdeal.nD Cert.EvenMixFwdIdeal.τ).loc Cert.EvenMixFwdIdeal.main_arg0) = m ((c.tc : Thread Cert.EvenMixFwdIdeal.nD Cert.EvenMixFwdIdeal.τ).loc Cert.EvenMixFwdIdeal.main_arg0)
          ∧ r.2.mem ((c.tc : Thread Cert.EvenMixFwdIdeal.nD Cert.EvenMixFwdIdeal.τ).loc Cert.EvenMixFwdIdeal.main_arg1) = m ((c.tc : Thread Cert.EvenMixFwdIdeal.nD Cert.EvenMixFwdIdeal.τ).loc Cert.EvenMixFwdIdeal.main_arg1)
          ∧ r.2.mem ((c.tc : Thread Cert.EvenMixFwdIdeal.nD Cert.EvenMixFwdIdeal.τ).loc Cert.EvenMixFwdIdeal.main_arg2) = m ((c.tc : Thread Cert.EvenMixFwdIdeal.nD Cert.EvenMixFwdIdeal.τ).loc Cert.EvenMixFwdIdeal.main_arg2)
          ∧ r.2.mem ((c.tc : Thread Cert.EvenMixFwdIdeal.nD Cert.EvenMixFwdIdeal.τ).loc Cert.EvenMixFwdIdeal.main_arg3) = m ((c.tc : Thread Cert.EvenMixFwdIdeal.nD Cert.EvenMixFwdIdeal.τ).loc Cert.EvenMixFwdIdeal.main_arg3)
          ∧ r.2.mem ((c.tc : Thread Cert.EvenMixFwdIdeal.nD Cert.EvenMixFwdIdeal.τ).loc Cert.EvenMixFwdIdeal.main_arg4) = m ((c.tc : Thread Cert.EvenMixFwdIdeal.nD Cert.EvenMixFwdIdeal.τ).loc Cert.EvenMixFwdIdeal.main_arg4)
          ∧ r.2.mem ((c.tc : Thread Cert.EvenMixFwdIdeal.nD Cert.EvenMixFwdIdeal.τ).loc Cert.EvenMixFwdIdeal.main_arg5) = m ((c.tc : Thread Cert.EvenMixFwdIdeal.nD Cert.EvenMixFwdIdeal.τ).loc Cert.EvenMixFwdIdeal.main_arg5))
      ∧ θ_run (Cert.EvenMixFwdRefIdeal.defs (F := Ideal)) (onTc (τ := Cert.EvenMixFwdRefIdeal.τ) (Cert.EvenMixFwdRefIdeal.main (F := Ideal))) ⟨m', fun _ => 0, g'⟩ (fun r => ∀ c : Dev Cert.EvenMixFwdRefIdeal.nD,
          r.2.mem ((c.tc : Thread Cert.EvenMixFwdRefIdeal.nD Cert.EvenMixFwdRefIdeal.τ).loc Cert.EvenMixFwdRefIdeal.main_v90) = v0 c
          ∧ r.2.mem ((c.tc : Thread Cert.EvenMixFwdRefIdeal.nD Cert.EvenMixFwdRefIdeal.τ).loc Cert.EvenMixFwdRefIdeal.main_arg0) = m' ((c.tc : Thread Cert.EvenMixFwdRefIdeal.nD Cert.EvenMixFwdRefIdeal.τ).loc Cert.EvenMixFwdRefIdeal.main_arg0)
          ∧ r.2.mem ((c.tc : Thread Cert.EvenMixFwdRefIdeal.nD Cert.EvenMixFwdRefIdeal.τ).loc Cert.EvenMixFwdRefIdeal.main_arg1) = m' ((c.tc : Thread Cert.EvenMixFwdRefIdeal.nD Cert.EvenMixFwdRefIdeal.τ).loc Cert.EvenMixFwdRefIdeal.main_arg1)
          ∧ r.2.mem ((c.tc : Thread Cert.EvenMixFwdRefIdeal.nD Cert.EvenMixFwdRefIdeal.τ).loc Cert.EvenMixFwdRefIdeal.main_arg2) = m' ((c.tc : Thread Cert.EvenMixFwdRefIdeal.nD Cert.EvenMixFwdRefIdeal.τ).loc Cert.EvenMixFwdRefIdeal.main_arg2)
          ∧ r.2.mem ((c.tc : Thread Cert.EvenMixFwdRefIdeal.nD Cert.EvenMixFwdRefIdeal.τ).loc Cert.EvenMixFwdRefIdeal.main_arg3) = m' ((c.tc : Thread Cert.EvenMixFwdRefIdeal.nD Cert.EvenMixFwdRefIdeal.τ).loc Cert.EvenMixFwdRefIdeal.main_arg3)
          ∧ r.2.mem ((c.tc : Thread Cert.EvenMixFwdRefIdeal.nD Cert.EvenMixFwdRefIdeal.τ).loc Cert.EvenMixFwdRefIdeal.main_arg4) = m' ((c.tc : Thread Cert.EvenMixFwdRefIdeal.nD Cert.EvenMixFwdRefIdeal.τ).loc Cert.EvenMixFwdRefIdeal.main_arg4)
          ∧ r.2.mem ((c.tc : Thread Cert.EvenMixFwdRefIdeal.nD Cert.EvenMixFwdRefIdeal.τ).loc Cert.EvenMixFwdRefIdeal.main_arg5) = m' ((c.tc : Thread Cert.EvenMixFwdRefIdeal.nD Cert.EvenMixFwdRefIdeal.τ).loc Cert.EvenMixFwdRefIdeal.main_arg5))

def preserves_OddMixBwd_OddMixBwdIdeal : Prop :=
  True

def algebraic_OddMixBwdIdeal_OddMixBwdRefIdeal_pre_odd_finite [hOddMixBwdIdeal : Cert.OddMixBwdIdeal.Facts] [hOddMixBwdRefIdeal : Cert.OddMixBwdRefIdeal.Facts] [hPre_odd_finite : Cert.Pre_odd_finite.Facts] : Prop :=
  ∀ (m : (ℓ : Loc Cert.OddMixBwdIdeal.nD Cert.OddMixBwdIdeal.τ Cert.OddMixBwdIdeal.sig) → Buf (Elt Ideal) ℓ) (g : Dev Cert.OddMixBwdIdeal.nD → PrngReg)
    (m' : (ℓ : Loc Cert.OddMixBwdRefIdeal.nD Cert.OddMixBwdRefIdeal.τ Cert.OddMixBwdRefIdeal.sig) → Buf (Elt Ideal) ℓ) (g' : Dev Cert.OddMixBwdRefIdeal.nD → PrngReg), Pre_OddMixBwdIdeal_odd_finite m →
    (∀ c : Dev Cert.OddMixBwdIdeal.nD,
      m' ((c.tc : Thread Cert.OddMixBwdRefIdeal.nD Cert.OddMixBwdRefIdeal.τ).loc Cert.OddMixBwdRefIdeal.main_arg0) = m ((c.tc : Thread Cert.OddMixBwdIdeal.nD Cert.OddMixBwdIdeal.τ).loc Cert.OddMixBwdIdeal.main_arg0)
      ∧ m' ((c.tc : Thread Cert.OddMixBwdRefIdeal.nD Cert.OddMixBwdRefIdeal.τ).loc Cert.OddMixBwdRefIdeal.main_arg1) = m ((c.tc : Thread Cert.OddMixBwdIdeal.nD Cert.OddMixBwdIdeal.τ).loc Cert.OddMixBwdIdeal.main_arg1)
      ∧ m' ((c.tc : Thread Cert.OddMixBwdRefIdeal.nD Cert.OddMixBwdRefIdeal.τ).loc Cert.OddMixBwdRefIdeal.main_arg2) = m ((c.tc : Thread Cert.OddMixBwdIdeal.nD Cert.OddMixBwdIdeal.τ).loc Cert.OddMixBwdIdeal.main_arg2)
      ∧ m' ((c.tc : Thread Cert.OddMixBwdRefIdeal.nD Cert.OddMixBwdRefIdeal.τ).loc Cert.OddMixBwdRefIdeal.main_arg3) = m ((c.tc : Thread Cert.OddMixBwdIdeal.nD Cert.OddMixBwdIdeal.τ).loc Cert.OddMixBwdIdeal.main_arg3)) →
    ∃ (v0 : (c : Dev Cert.OddMixBwdIdeal.nD) → Buf (Elt Ideal) ((c.tc : Thread Cert.OddMixBwdIdeal.nD Cert.OddMixBwdIdeal.τ).loc Cert.OddMixBwdIdeal.main_v0_0)) (v1 : (c : Dev Cert.OddMixBwdIdeal.nD) → Buf (Elt Ideal) ((c.tc : Thread Cert.OddMixBwdIdeal.nD Cert.OddMixBwdIdeal.τ).loc Cert.OddMixBwdIdeal.main_v0_1)) (v2 : (c : Dev Cert.OddMixBwdIdeal.nD) → Buf (Elt Ideal) ((c.tc : Thread Cert.OddMixBwdIdeal.nD Cert.OddMixBwdIdeal.τ).loc Cert.OddMixBwdIdeal.main_v0_2)),
      θ_run (Cert.OddMixBwdIdeal.defs (F := Ideal)) (onTc (τ := Cert.OddMixBwdIdeal.τ) (Cert.OddMixBwdIdeal.main (F := Ideal))) ⟨m, fun _ => 0, g⟩ (fun r => ∀ c : Dev Cert.OddMixBwdIdeal.nD,
          r.2.mem ((c.tc : Thread Cert.OddMixBwdIdeal.nD Cert.OddMixBwdIdeal.τ).loc Cert.OddMixBwdIdeal.main_v0_0) = v0 c
          ∧ r.2.mem ((c.tc : Thread Cert.OddMixBwdIdeal.nD Cert.OddMixBwdIdeal.τ).loc Cert.OddMixBwdIdeal.main_v0_1) = v1 c
          ∧ r.2.mem ((c.tc : Thread Cert.OddMixBwdIdeal.nD Cert.OddMixBwdIdeal.τ).loc Cert.OddMixBwdIdeal.main_v0_2) = v2 c
          ∧ r.2.mem ((c.tc : Thread Cert.OddMixBwdIdeal.nD Cert.OddMixBwdIdeal.τ).loc Cert.OddMixBwdIdeal.main_arg0) = m ((c.tc : Thread Cert.OddMixBwdIdeal.nD Cert.OddMixBwdIdeal.τ).loc Cert.OddMixBwdIdeal.main_arg0)
          ∧ r.2.mem ((c.tc : Thread Cert.OddMixBwdIdeal.nD Cert.OddMixBwdIdeal.τ).loc Cert.OddMixBwdIdeal.main_arg1) = m ((c.tc : Thread Cert.OddMixBwdIdeal.nD Cert.OddMixBwdIdeal.τ).loc Cert.OddMixBwdIdeal.main_arg1)
          ∧ r.2.mem ((c.tc : Thread Cert.OddMixBwdIdeal.nD Cert.OddMixBwdIdeal.τ).loc Cert.OddMixBwdIdeal.main_arg2) = m ((c.tc : Thread Cert.OddMixBwdIdeal.nD Cert.OddMixBwdIdeal.τ).loc Cert.OddMixBwdIdeal.main_arg2)
          ∧ r.2.mem ((c.tc : Thread Cert.OddMixBwdIdeal.nD Cert.OddMixBwdIdeal.τ).loc Cert.OddMixBwdIdeal.main_arg3) = m ((c.tc : Thread Cert.OddMixBwdIdeal.nD Cert.OddMixBwdIdeal.τ).loc Cert.OddMixBwdIdeal.main_arg3))
      ∧ θ_run (Cert.OddMixBwdRefIdeal.defs (F := Ideal)) (onTc (τ := Cert.OddMixBwdRefIdeal.τ) (Cert.OddMixBwdRefIdeal.main (F := Ideal))) ⟨m', fun _ => 0, g'⟩ (fun r => ∀ c : Dev Cert.OddMixBwdRefIdeal.nD,
          r.2.mem ((c.tc : Thread Cert.OddMixBwdRefIdeal.nD Cert.OddMixBwdRefIdeal.τ).loc Cert.OddMixBwdRefIdeal.main_v81) = v0 c
          ∧ r.2.mem ((c.tc : Thread Cert.OddMixBwdRefIdeal.nD Cert.OddMixBwdRefIdeal.τ).loc Cert.OddMixBwdRefIdeal.main_v82) = v1 c
          ∧ r.2.mem ((c.tc : Thread Cert.OddMixBwdRefIdeal.nD Cert.OddMixBwdRefIdeal.τ).loc Cert.OddMixBwdRefIdeal.main_v72) = v2 c
          ∧ r.2.mem ((c.tc : Thread Cert.OddMixBwdRefIdeal.nD Cert.OddMixBwdRefIdeal.τ).loc Cert.OddMixBwdRefIdeal.main_arg0) = m' ((c.tc : Thread Cert.OddMixBwdRefIdeal.nD Cert.OddMixBwdRefIdeal.τ).loc Cert.OddMixBwdRefIdeal.main_arg0)
          ∧ r.2.mem ((c.tc : Thread Cert.OddMixBwdRefIdeal.nD Cert.OddMixBwdRefIdeal.τ).loc Cert.OddMixBwdRefIdeal.main_arg1) = m' ((c.tc : Thread Cert.OddMixBwdRefIdeal.nD Cert.OddMixBwdRefIdeal.τ).loc Cert.OddMixBwdRefIdeal.main_arg1)
          ∧ r.2.mem ((c.tc : Thread Cert.OddMixBwdRefIdeal.nD Cert.OddMixBwdRefIdeal.τ).loc Cert.OddMixBwdRefIdeal.main_arg2) = m' ((c.tc : Thread Cert.OddMixBwdRefIdeal.nD Cert.OddMixBwdRefIdeal.τ).loc Cert.OddMixBwdRefIdeal.main_arg2)
          ∧ r.2.mem ((c.tc : Thread Cert.OddMixBwdRefIdeal.nD Cert.OddMixBwdRefIdeal.τ).loc Cert.OddMixBwdRefIdeal.main_arg3) = m' ((c.tc : Thread Cert.OddMixBwdRefIdeal.nD Cert.OddMixBwdRefIdeal.τ).loc Cert.OddMixBwdRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)
      ∧ m' ((c.tc : Thread Cert.AdaBwdRefIdeal.nD Cert.AdaBwdRefIdeal.τ).loc Cert.AdaBwdRefIdeal.main_arg4) = m ((c.tc : Thread Cert.AdaBwdIdeal.nD Cert.AdaBwdIdeal.τ).loc Cert.AdaBwdIdeal.main_arg4)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)) (v2 : (c : Dev Cert.AdaBwdIdeal.nD) → Buf (Elt Ideal) ((c.tc : Thread Cert.AdaBwdIdeal.nD Cert.AdaBwdIdeal.τ).loc Cert.AdaBwdIdeal.main_v0_2)) (v3 : (c : Dev Cert.AdaBwdIdeal.nD) → Buf (Elt Ideal) ((c.tc : Thread Cert.AdaBwdIdeal.nD Cert.AdaBwdIdeal.τ).loc Cert.AdaBwdIdeal.main_v0_3)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_v0_2) = v2 c
          ∧ r.2.mem ((c.tc : Thread Cert.AdaBwdIdeal.nD Cert.AdaBwdIdeal.τ).loc Cert.AdaBwdIdeal.main_v0_3) = v3 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v2) = v0 c
          ∧ r.2.mem ((c.tc : Thread Cert.AdaBwdRefIdeal.nD Cert.AdaBwdRefIdeal.τ).loc Cert.AdaBwdRefIdeal.main_v26) = v1 c
          ∧ r.2.mem ((c.tc : Thread Cert.AdaBwdRefIdeal.nD Cert.AdaBwdRefIdeal.τ).loc Cert.AdaBwdRefIdeal.main_v7) = v2 c
          ∧ r.2.mem ((c.tc : Thread Cert.AdaBwdRefIdeal.nD Cert.AdaBwdRefIdeal.τ).loc Cert.AdaBwdRefIdeal.main_v13) = v3 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3)
          ∧ r.2.mem ((c.tc : Thread Cert.AdaBwdRefIdeal.nD Cert.AdaBwdRefIdeal.τ).loc Cert.AdaBwdRefIdeal.main_arg4) = m' ((c.tc : Thread Cert.AdaBwdRefIdeal.nD Cert.AdaBwdRefIdeal.τ).loc Cert.AdaBwdRefIdeal.main_arg4))

def preserves_AdamwEven_AdamwEvenIdeal : Prop :=
  True

def algebraic_AdamwEvenIdeal_AdamwEvenRefIdeal [hAdamwEvenIdeal : Cert.AdamwEvenIdeal.Facts] [hAdamwEvenRefIdeal : Cert.AdamwEvenRefIdeal.Facts] : Prop :=
  ∀ (m : (ℓ : Loc Cert.AdamwEvenIdeal.nD Cert.AdamwEvenIdeal.τ Cert.AdamwEvenIdeal.sig) → Buf (Elt Ideal) ℓ) (g : Dev Cert.AdamwEvenIdeal.nD → PrngReg)
    (m' : (ℓ : Loc Cert.AdamwEvenRefIdeal.nD Cert.AdamwEvenRefIdeal.τ Cert.AdamwEvenRefIdeal.sig) → Buf (Elt Ideal) ℓ) (g' : Dev Cert.AdamwEvenRefIdeal.nD → PrngReg), Pre_AdamwEvenIdeal m →
    (∀ c : Dev Cert.AdamwEvenIdeal.nD,
      m' ((c.tc : Thread Cert.AdamwEvenRefIdeal.nD Cert.AdamwEvenRefIdeal.τ).loc Cert.AdamwEvenRefIdeal.main_arg0) = m ((c.tc : Thread Cert.AdamwEvenIdeal.nD Cert.AdamwEvenIdeal.τ).loc Cert.AdamwEvenIdeal.main_arg0)
      ∧ m' ((c.tc : Thread Cert.AdamwEvenRefIdeal.nD Cert.AdamwEvenRefIdeal.τ).loc Cert.AdamwEvenRefIdeal.main_arg1) = m ((c.tc : Thread Cert.AdamwEvenIdeal.nD Cert.AdamwEvenIdeal.τ).loc Cert.AdamwEvenIdeal.main_arg1)
      ∧ m' ((c.tc : Thread Cert.AdamwEvenRefIdeal.nD Cert.AdamwEvenRefIdeal.τ).loc Cert.AdamwEvenRefIdeal.main_arg2) = m ((c.tc : Thread Cert.AdamwEvenIdeal.nD Cert.AdamwEvenIdeal.τ).loc Cert.AdamwEvenIdeal.main_arg2)
      ∧ m' ((c.tc : Thread Cert.AdamwEvenRefIdeal.nD Cert.AdamwEvenRefIdeal.τ).loc Cert.AdamwEvenRefIdeal.main_arg3) = m ((c.tc : Thread Cert.AdamwEvenIdeal.nD Cert.AdamwEvenIdeal.τ).loc Cert.AdamwEvenIdeal.main_arg3)
      ∧ m' ((c.tc : Thread Cert.AdamwEvenRefIdeal.nD Cert.AdamwEvenRefIdeal.τ).loc Cert.AdamwEvenRefIdeal.main_arg4) = m ((c.tc : Thread Cert.AdamwEvenIdeal.nD Cert.AdamwEvenIdeal.τ).loc Cert.AdamwEvenIdeal.main_arg4)
      ∧ m' ((c.tc : Thread Cert.AdamwEvenRefIdeal.nD Cert.AdamwEvenRefIdeal.τ).loc Cert.AdamwEvenRefIdeal.main_arg5) = m ((c.tc : Thread Cert.AdamwEvenIdeal.nD Cert.AdamwEvenIdeal.τ).loc Cert.AdamwEvenIdeal.main_arg5)
      ∧ m' ((c.tc : Thread Cert.AdamwEvenRefIdeal.nD Cert.AdamwEvenRefIdeal.τ).loc Cert.AdamwEvenRefIdeal.main_arg6) = m ((c.tc : Thread Cert.AdamwEvenIdeal.nD Cert.AdamwEvenIdeal.τ).loc Cert.AdamwEvenIdeal.main_arg6)
      ∧ m' ((c.tc : Thread Cert.AdamwEvenRefIdeal.nD Cert.AdamwEvenRefIdeal.τ).loc Cert.AdamwEvenRefIdeal.main_arg7) = m ((c.tc : Thread Cert.AdamwEvenIdeal.nD Cert.AdamwEvenIdeal.τ).loc Cert.AdamwEvenIdeal.main_arg7)
      ∧ m' ((c.tc : Thread Cert.AdamwEvenRefIdeal.nD Cert.AdamwEvenRefIdeal.τ).loc Cert.AdamwEvenRefIdeal.main_arg8) = m ((c.tc : Thread Cert.AdamwEvenIdeal.nD Cert.AdamwEvenIdeal.τ).loc Cert.AdamwEvenIdeal.main_arg8)
      ∧ m' ((c.tc : Thread Cert.AdamwEvenRefIdeal.nD Cert.AdamwEvenRefIdeal.τ).loc Cert.AdamwEvenRefIdeal.main_arg9) = m ((c.tc : Thread Cert.AdamwEvenIdeal.nD Cert.AdamwEvenIdeal.τ).loc Cert.AdamwEvenIdeal.main_arg9)
      ∧ m' ((c.tc : Thread Cert.AdamwEvenRefIdeal.nD Cert.AdamwEvenRefIdeal.τ).loc Cert.AdamwEvenRefIdeal.main_arg10) = m ((c.tc : Thread Cert.AdamwEvenIdeal.nD Cert.AdamwEvenIdeal.τ).loc Cert.AdamwEvenIdeal.main_arg10)
      ∧ m' ((c.tc : Thread Cert.AdamwEvenRefIdeal.nD Cert.AdamwEvenRefIdeal.τ).loc Cert.AdamwEvenRefIdeal.main_arg11) = m ((c.tc : Thread Cert.AdamwEvenIdeal.nD Cert.AdamwEvenIdeal.τ).loc Cert.AdamwEvenIdeal.main_arg11)
      ∧ m' ((c.tc : Thread Cert.AdamwEvenRefIdeal.nD Cert.AdamwEvenRefIdeal.τ).loc Cert.AdamwEvenRefIdeal.main_arg12) = m ((c.tc : Thread Cert.AdamwEvenIdeal.nD Cert.AdamwEvenIdeal.τ).loc Cert.AdamwEvenIdeal.main_arg12)
      ∧ m' ((c.tc : Thread Cert.AdamwEvenRefIdeal.nD Cert.AdamwEvenRefIdeal.τ).loc Cert.AdamwEvenRefIdeal.main_arg13) = m ((c.tc : Thread Cert.AdamwEvenIdeal.nD Cert.AdamwEvenIdeal.τ).loc Cert.AdamwEvenIdeal.main_arg13)
      ∧ m' ((c.tc : Thread Cert.AdamwEvenRefIdeal.nD Cert.AdamwEvenRefIdeal.τ).loc Cert.AdamwEvenRefIdeal.main_arg14) = m ((c.tc : Thread Cert.AdamwEvenIdeal.nD Cert.AdamwEvenIdeal.τ).loc Cert.AdamwEvenIdeal.main_arg14)
      ∧ m' ((c.tc : Thread Cert.AdamwEvenRefIdeal.nD Cert.AdamwEvenRefIdeal.τ).loc Cert.AdamwEvenRefIdeal.main_arg15) = m ((c.tc : Thread Cert.AdamwEvenIdeal.nD Cert.AdamwEvenIdeal.τ).loc Cert.AdamwEvenIdeal.main_arg15)) →
    ∃ (v0 : (c : Dev Cert.AdamwEvenIdeal.nD) → Buf (Elt Ideal) ((c.tc : Thread Cert.AdamwEvenIdeal.nD Cert.AdamwEvenIdeal.τ).loc Cert.AdamwEvenIdeal.main_v0_0)) (v1 : (c : Dev Cert.AdamwEvenIdeal.nD) → Buf (Elt Ideal) ((c.tc : Thread Cert.AdamwEvenIdeal.nD Cert.AdamwEvenIdeal.τ).loc Cert.AdamwEvenIdeal.main_v0_1)) (v2 : (c : Dev Cert.AdamwEvenIdeal.nD) → Buf (Elt Ideal) ((c.tc : Thread Cert.AdamwEvenIdeal.nD Cert.AdamwEvenIdeal.τ).loc Cert.AdamwEvenIdeal.main_v0_2)) (v3 : (c : Dev Cert.AdamwEvenIdeal.nD) → Buf (Elt Ideal) ((c.tc : Thread Cert.AdamwEvenIdeal.nD Cert.AdamwEvenIdeal.τ).loc Cert.AdamwEvenIdeal.main_v0_3)) (v4 : (c : Dev Cert.AdamwEvenIdeal.nD) → Buf (Elt Ideal) ((c.tc : Thread Cert.AdamwEvenIdeal.nD Cert.AdamwEvenIdeal.τ).loc Cert.AdamwEvenIdeal.main_v0_4)) (v5 : (c : Dev Cert.AdamwEvenIdeal.nD) → Buf (Elt Ideal) ((c.tc : Thread Cert.AdamwEvenIdeal.nD Cert.AdamwEvenIdeal.τ).loc Cert.AdamwEvenIdeal.main_v0_5)) (v6 : (c : Dev Cert.AdamwEvenIdeal.nD) → Buf (Elt Ideal) ((c.tc : Thread Cert.AdamwEvenIdeal.nD Cert.AdamwEvenIdeal.τ).loc Cert.AdamwEvenIdeal.main_v0_6)) (v7 : (c : Dev Cert.AdamwEvenIdeal.nD) → Buf (Elt Ideal) ((c.tc : Thread Cert.AdamwEvenIdeal.nD Cert.AdamwEvenIdeal.τ).loc Cert.AdamwEvenIdeal.main_v0_7)),
      θ_run (Cert.AdamwEvenIdeal.defs (F := Ideal)) (onTc (τ := Cert.AdamwEvenIdeal.τ) (Cert.AdamwEvenIdeal.main (F := Ideal))) ⟨m, fun _ => 0, g⟩ (fun r => ∀ c : Dev Cert.AdamwEvenIdeal.nD,
          r.2.mem ((c.tc : Thread Cert.AdamwEvenIdeal.nD Cert.AdamwEvenIdeal.τ).loc Cert.AdamwEvenIdeal.main_v0_0) = v0 c
          ∧ r.2.mem ((c.tc : Thread Cert.AdamwEvenIdeal.nD Cert.AdamwEvenIdeal.τ).loc Cert.AdamwEvenIdeal.main_v0_1) = v1 c
          ∧ r.2.mem ((c.tc : Thread Cert.AdamwEvenIdeal.nD Cert.AdamwEvenIdeal.τ).loc Cert.AdamwEvenIdeal.main_v0_2) = v2 c
          ∧ r.2.mem ((c.tc : Thread Cert.AdamwEvenIdeal.nD Cert.AdamwEvenIdeal.τ).loc Cert.AdamwEvenIdeal.main_v0_3) = v3 c
          ∧ r.2.mem ((c.tc : Thread Cert.AdamwEvenIdeal.nD Cert.AdamwEvenIdeal.τ).loc Cert.AdamwEvenIdeal.main_v0_4) = v4 c
          ∧ r.2.mem ((c.tc : Thread Cert.AdamwEvenIdeal.nD Cert.AdamwEvenIdeal.τ).loc Cert.AdamwEvenIdeal.main_v0_5) = v5 c
          ∧ r.2.mem ((c.tc : Thread Cert.AdamwEvenIdeal.nD Cert.AdamwEvenIdeal.τ).loc Cert.AdamwEvenIdeal.main_v0_6) = v6 c
          ∧ r.2.mem ((c.tc : Thread Cert.AdamwEvenIdeal.nD Cert.AdamwEvenIdeal.τ).loc Cert.AdamwEvenIdeal.main_v0_7) = v7 c
          ∧ r.2.mem ((c.tc : Thread Cert.AdamwEvenIdeal.nD Cert.AdamwEvenIdeal.τ).loc Cert.AdamwEvenIdeal.main_arg0) = m ((c.tc : Thread Cert.AdamwEvenIdeal.nD Cert.AdamwEvenIdeal.τ).loc Cert.AdamwEvenIdeal.main_arg0)
          ∧ r.2.mem ((c.tc : Thread Cert.AdamwEvenIdeal.nD Cert.AdamwEvenIdeal.τ).loc Cert.AdamwEvenIdeal.main_arg1) = m ((c.tc : Thread Cert.AdamwEvenIdeal.nD Cert.AdamwEvenIdeal.τ).loc Cert.AdamwEvenIdeal.main_arg1)
          ∧ r.2.mem ((c.tc : Thread Cert.AdamwEvenIdeal.nD Cert.AdamwEvenIdeal.τ).loc Cert.AdamwEvenIdeal.main_arg2) = m ((c.tc : Thread Cert.AdamwEvenIdeal.nD Cert.AdamwEvenIdeal.τ).loc Cert.AdamwEvenIdeal.main_arg2)
          ∧ r.2.mem ((c.tc : Thread Cert.AdamwEvenIdeal.nD Cert.AdamwEvenIdeal.τ).loc Cert.AdamwEvenIdeal.main_arg3) = m ((c.tc : Thread Cert.AdamwEvenIdeal.nD Cert.AdamwEvenIdeal.τ).loc Cert.AdamwEvenIdeal.main_arg3)
          ∧ r.2.mem ((c.tc : Thread Cert.AdamwEvenIdeal.nD Cert.AdamwEvenIdeal.τ).loc Cert.AdamwEvenIdeal.main_arg4) = m ((c.tc : Thread Cert.AdamwEvenIdeal.nD Cert.AdamwEvenIdeal.τ).loc Cert.AdamwEvenIdeal.main_arg4)
          ∧ r.2.mem ((c.tc : Thread Cert.AdamwEvenIdeal.nD Cert.AdamwEvenIdeal.τ).loc Cert.AdamwEvenIdeal.main_arg5) = m ((c.tc : Thread Cert.AdamwEvenIdeal.nD Cert.AdamwEvenIdeal.τ).loc Cert.AdamwEvenIdeal.main_arg5)
          ∧ r.2.mem ((c.tc : Thread Cert.AdamwEvenIdeal.nD Cert.AdamwEvenIdeal.τ).loc Cert.AdamwEvenIdeal.main_arg6) = m ((c.tc : Thread Cert.AdamwEvenIdeal.nD Cert.AdamwEvenIdeal.τ).loc Cert.AdamwEvenIdeal.main_arg6)
          ∧ r.2.mem ((c.tc : Thread Cert.AdamwEvenIdeal.nD Cert.AdamwEvenIdeal.τ).loc Cert.AdamwEvenIdeal.main_arg7) = m ((c.tc : Thread Cert.AdamwEvenIdeal.nD Cert.AdamwEvenIdeal.τ).loc Cert.AdamwEvenIdeal.main_arg7)
          ∧ r.2.mem ((c.tc : Thread Cert.AdamwEvenIdeal.nD Cert.AdamwEvenIdeal.τ).loc Cert.AdamwEvenIdeal.main_arg8) = m ((c.tc : Thread Cert.AdamwEvenIdeal.nD Cert.AdamwEvenIdeal.τ).loc Cert.AdamwEvenIdeal.main_arg8)
          ∧ r.2.mem ((c.tc : Thread Cert.AdamwEvenIdeal.nD Cert.AdamwEvenIdeal.τ).loc Cert.AdamwEvenIdeal.main_arg9) = m ((c.tc : Thread Cert.AdamwEvenIdeal.nD Cert.AdamwEvenIdeal.τ).loc Cert.AdamwEvenIdeal.main_arg9)
          ∧ r.2.mem ((c.tc : Thread Cert.AdamwEvenIdeal.nD Cert.AdamwEvenIdeal.τ).loc Cert.AdamwEvenIdeal.main_arg10) = m ((c.tc : Thread Cert.AdamwEvenIdeal.nD Cert.AdamwEvenIdeal.τ).loc Cert.AdamwEvenIdeal.main_arg10)
          ∧ r.2.mem ((c.tc : Thread Cert.AdamwEvenIdeal.nD Cert.AdamwEvenIdeal.τ).loc Cert.AdamwEvenIdeal.main_arg11) = m ((c.tc : Thread Cert.AdamwEvenIdeal.nD Cert.AdamwEvenIdeal.τ).loc Cert.AdamwEvenIdeal.main_arg11)
          ∧ r.2.mem ((c.tc : Thread Cert.AdamwEvenIdeal.nD Cert.AdamwEvenIdeal.τ).loc Cert.AdamwEvenIdeal.main_arg12) = m ((c.tc : Thread Cert.AdamwEvenIdeal.nD Cert.AdamwEvenIdeal.τ).loc Cert.AdamwEvenIdeal.main_arg12)
          ∧ r.2.mem ((c.tc : Thread Cert.AdamwEvenIdeal.nD Cert.AdamwEvenIdeal.τ).loc Cert.AdamwEvenIdeal.main_arg13) = m ((c.tc : Thread Cert.AdamwEvenIdeal.nD Cert.AdamwEvenIdeal.τ).loc Cert.AdamwEvenIdeal.main_arg13)
          ∧ r.2.mem ((c.tc : Thread Cert.AdamwEvenIdeal.nD Cert.AdamwEvenIdeal.τ).loc Cert.AdamwEvenIdeal.main_arg14) = m ((c.tc : Thread Cert.AdamwEvenIdeal.nD Cert.AdamwEvenIdeal.τ).loc Cert.AdamwEvenIdeal.main_arg14)
          ∧ r.2.mem ((c.tc : Thread Cert.AdamwEvenIdeal.nD Cert.AdamwEvenIdeal.τ).loc Cert.AdamwEvenIdeal.main_arg15) = m ((c.tc : Thread Cert.AdamwEvenIdeal.nD Cert.AdamwEvenIdeal.τ).loc Cert.AdamwEvenIdeal.main_arg15))
      ∧ θ_run (Cert.AdamwEvenRefIdeal.defs (F := Ideal)) (onTc (τ := Cert.AdamwEvenRefIdeal.τ) (Cert.AdamwEvenRefIdeal.main (F := Ideal))) ⟨m', fun _ => 0, g'⟩ (fun r => ∀ c : Dev Cert.AdamwEvenRefIdeal.nD,
          r.2.mem ((c.tc : Thread Cert.AdamwEvenRefIdeal.nD Cert.AdamwEvenRefIdeal.τ).loc Cert.AdamwEvenRefIdeal.main_v35) = v0 c
          ∧ r.2.mem ((c.tc : Thread Cert.AdamwEvenRefIdeal.nD Cert.AdamwEvenRefIdeal.τ).loc Cert.AdamwEvenRefIdeal.main_v40) = v1 c
          ∧ r.2.mem ((c.tc : Thread Cert.AdamwEvenRefIdeal.nD Cert.AdamwEvenRefIdeal.τ).loc Cert.AdamwEvenRefIdeal.main_v45) = v2 c
          ∧ r.2.mem ((c.tc : Thread Cert.AdamwEvenRefIdeal.nD Cert.AdamwEvenRefIdeal.τ).loc Cert.AdamwEvenRefIdeal.main_v50) = v3 c
          ∧ r.2.mem ((c.tc : Thread Cert.AdamwEvenRefIdeal.nD Cert.AdamwEvenRefIdeal.τ).loc Cert.AdamwEvenRefIdeal.main_v86) = v4 c
          ∧ r.2.mem ((c.tc : Thread Cert.AdamwEvenRefIdeal.nD Cert.AdamwEvenRefIdeal.τ).loc Cert.AdamwEvenRefIdeal.main_v91) = v5 c
          ∧ r.2.mem ((c.tc : Thread Cert.AdamwEvenRefIdeal.nD Cert.AdamwEvenRefIdeal.τ).loc Cert.AdamwEvenRefIdeal.main_v96) = v6 c
          ∧ r.2.mem ((c.tc : Thread Cert.AdamwEvenRefIdeal.nD Cert.AdamwEvenRefIdeal.τ).loc Cert.AdamwEvenRefIdeal.main_v101) = v7 c
          ∧ r.2.mem ((c.tc : Thread Cert.AdamwEvenRefIdeal.nD Cert.AdamwEvenRefIdeal.τ).loc Cert.AdamwEvenRefIdeal.main_arg0) = m' ((c.tc : Thread Cert.AdamwEvenRefIdeal.nD Cert.AdamwEvenRefIdeal.τ).loc Cert.AdamwEvenRefIdeal.main_arg0)
          ∧ r.2.mem ((c.tc : Thread Cert.AdamwEvenRefIdeal.nD Cert.AdamwEvenRefIdeal.τ).loc Cert.AdamwEvenRefIdeal.main_arg1) = m' ((c.tc : Thread Cert.AdamwEvenRefIdeal.nD Cert.AdamwEvenRefIdeal.τ).loc Cert.AdamwEvenRefIdeal.main_arg1)
          ∧ r.2.mem ((c.tc : Thread Cert.AdamwEvenRefIdeal.nD Cert.AdamwEvenRefIdeal.τ).loc Cert.AdamwEvenRefIdeal.main_arg2) = m' ((c.tc : Thread Cert.AdamwEvenRefIdeal.nD Cert.AdamwEvenRefIdeal.τ).loc Cert.AdamwEvenRefIdeal.main_arg2)
          ∧ r.2.mem ((c.tc : Thread Cert.AdamwEvenRefIdeal.nD Cert.AdamwEvenRefIdeal.τ).loc Cert.AdamwEvenRefIdeal.main_arg3) = m' ((c.tc : Thread Cert.AdamwEvenRefIdeal.nD Cert.AdamwEvenRefIdeal.τ).loc Cert.AdamwEvenRefIdeal.main_arg3)
          ∧ r.2.mem ((c.tc : Thread Cert.AdamwEvenRefIdeal.nD Cert.AdamwEvenRefIdeal.τ).loc Cert.AdamwEvenRefIdeal.main_arg4) = m' ((c.tc : Thread Cert.AdamwEvenRefIdeal.nD Cert.AdamwEvenRefIdeal.τ).loc Cert.AdamwEvenRefIdeal.main_arg4)
          ∧ r.2.mem ((c.tc : Thread Cert.AdamwEvenRefIdeal.nD Cert.AdamwEvenRefIdeal.τ).loc Cert.AdamwEvenRefIdeal.main_arg5) = m' ((c.tc : Thread Cert.AdamwEvenRefIdeal.nD Cert.AdamwEvenRefIdeal.τ).loc Cert.AdamwEvenRefIdeal.main_arg5)
          ∧ r.2.mem ((c.tc : Thread Cert.AdamwEvenRefIdeal.nD Cert.AdamwEvenRefIdeal.τ).loc Cert.AdamwEvenRefIdeal.main_arg6) = m' ((c.tc : Thread Cert.AdamwEvenRefIdeal.nD Cert.AdamwEvenRefIdeal.τ).loc Cert.AdamwEvenRefIdeal.main_arg6)
          ∧ r.2.mem ((c.tc : Thread Cert.AdamwEvenRefIdeal.nD Cert.AdamwEvenRefIdeal.τ).loc Cert.AdamwEvenRefIdeal.main_arg7) = m' ((c.tc : Thread Cert.AdamwEvenRefIdeal.nD Cert.AdamwEvenRefIdeal.τ).loc Cert.AdamwEvenRefIdeal.main_arg7)
          ∧ r.2.mem ((c.tc : Thread Cert.AdamwEvenRefIdeal.nD Cert.AdamwEvenRefIdeal.τ).loc Cert.AdamwEvenRefIdeal.main_arg8) = m' ((c.tc : Thread Cert.AdamwEvenRefIdeal.nD Cert.AdamwEvenRefIdeal.τ).loc Cert.AdamwEvenRefIdeal.main_arg8)
          ∧ r.2.mem ((c.tc : Thread Cert.AdamwEvenRefIdeal.nD Cert.AdamwEvenRefIdeal.τ).loc Cert.AdamwEvenRefIdeal.main_arg9) = m' ((c.tc : Thread Cert.AdamwEvenRefIdeal.nD Cert.AdamwEvenRefIdeal.τ).loc Cert.AdamwEvenRefIdeal.main_arg9)
          ∧ r.2.mem ((c.tc : Thread Cert.AdamwEvenRefIdeal.nD Cert.AdamwEvenRefIdeal.τ).loc Cert.AdamwEvenRefIdeal.main_arg10) = m' ((c.tc : Thread Cert.AdamwEvenRefIdeal.nD Cert.AdamwEvenRefIdeal.τ).loc Cert.AdamwEvenRefIdeal.main_arg10)
          ∧ r.2.mem ((c.tc : Thread Cert.AdamwEvenRefIdeal.nD Cert.AdamwEvenRefIdeal.τ).loc Cert.AdamwEvenRefIdeal.main_arg11) = m' ((c.tc : Thread Cert.AdamwEvenRefIdeal.nD Cert.AdamwEvenRefIdeal.τ).loc Cert.AdamwEvenRefIdeal.main_arg11)
          ∧ r.2.mem ((c.tc : Thread Cert.AdamwEvenRefIdeal.nD Cert.AdamwEvenRefIdeal.τ).loc Cert.AdamwEvenRefIdeal.main_arg12) = m' ((c.tc : Thread Cert.AdamwEvenRefIdeal.nD Cert.AdamwEvenRefIdeal.τ).loc Cert.AdamwEvenRefIdeal.main_arg12)
          ∧ r.2.mem ((c.tc : Thread Cert.AdamwEvenRefIdeal.nD Cert.AdamwEvenRefIdeal.τ).loc Cert.AdamwEvenRefIdeal.main_arg13) = m' ((c.tc : Thread Cert.AdamwEvenRefIdeal.nD Cert.AdamwEvenRefIdeal.τ).loc Cert.AdamwEvenRefIdeal.main_arg13)
          ∧ r.2.mem ((c.tc : Thread Cert.AdamwEvenRefIdeal.nD Cert.AdamwEvenRefIdeal.τ).loc Cert.AdamwEvenRefIdeal.main_arg14) = m' ((c.tc : Thread Cert.AdamwEvenRefIdeal.nD Cert.AdamwEvenRefIdeal.τ).loc Cert.AdamwEvenRefIdeal.main_arg14)
          ∧ r.2.mem ((c.tc : Thread Cert.AdamwEvenRefIdeal.nD Cert.AdamwEvenRefIdeal.τ).loc Cert.AdamwEvenRefIdeal.main_arg15) = m' ((c.tc : Thread Cert.AdamwEvenRefIdeal.nD Cert.AdamwEvenRefIdeal.τ).loc Cert.AdamwEvenRefIdeal.main_arg15))

def preserves_AdamwOdd_AdamwOddIdeal : Prop :=
  True

def algebraic_AdamwOddIdeal_AdamwOddRefIdeal [hAdamwOddIdeal : Cert.AdamwOddIdeal.Facts] [hAdamwOddRefIdeal : Cert.AdamwOddRefIdeal.Facts] : Prop :=
  ∀ (m : (ℓ : Loc Cert.AdamwOddIdeal.nD Cert.AdamwOddIdeal.τ Cert.AdamwOddIdeal.sig) → Buf (Elt Ideal) ℓ) (g : Dev Cert.AdamwOddIdeal.nD → PrngReg)
    (m' : (ℓ : Loc Cert.AdamwOddRefIdeal.nD Cert.AdamwOddRefIdeal.τ Cert.AdamwOddRefIdeal.sig) → Buf (Elt Ideal) ℓ) (g' : Dev Cert.AdamwOddRefIdeal.nD → PrngReg), Pre_AdamwOddIdeal m →
    (∀ c : Dev Cert.AdamwOddIdeal.nD,
      m' ((c.tc : Thread Cert.AdamwOddRefIdeal.nD Cert.AdamwOddRefIdeal.τ).loc Cert.AdamwOddRefIdeal.main_arg0) = m ((c.tc : Thread Cert.AdamwOddIdeal.nD Cert.AdamwOddIdeal.τ).loc Cert.AdamwOddIdeal.main_arg0)
      ∧ m' ((c.tc : Thread Cert.AdamwOddRefIdeal.nD Cert.AdamwOddRefIdeal.τ).loc Cert.AdamwOddRefIdeal.main_arg1) = m ((c.tc : Thread Cert.AdamwOddIdeal.nD Cert.AdamwOddIdeal.τ).loc Cert.AdamwOddIdeal.main_arg1)
      ∧ m' ((c.tc : Thread Cert.AdamwOddRefIdeal.nD Cert.AdamwOddRefIdeal.τ).loc Cert.AdamwOddRefIdeal.main_arg2) = m ((c.tc : Thread Cert.AdamwOddIdeal.nD Cert.AdamwOddIdeal.τ).loc Cert.AdamwOddIdeal.main_arg2)
      ∧ m' ((c.tc : Thread Cert.AdamwOddRefIdeal.nD Cert.AdamwOddRefIdeal.τ).loc Cert.AdamwOddRefIdeal.main_arg3) = m ((c.tc : Thread Cert.AdamwOddIdeal.nD Cert.AdamwOddIdeal.τ).loc Cert.AdamwOddIdeal.main_arg3)
      ∧ m' ((c.tc : Thread Cert.AdamwOddRefIdeal.nD Cert.AdamwOddRefIdeal.τ).loc Cert.AdamwOddRefIdeal.main_arg4) = m ((c.tc : Thread Cert.AdamwOddIdeal.nD Cert.AdamwOddIdeal.τ).loc Cert.AdamwOddIdeal.main_arg4)
      ∧ m' ((c.tc : Thread Cert.AdamwOddRefIdeal.nD Cert.AdamwOddRefIdeal.τ).loc Cert.AdamwOddRefIdeal.main_arg5) = m ((c.tc : Thread Cert.AdamwOddIdeal.nD Cert.AdamwOddIdeal.τ).loc Cert.AdamwOddIdeal.main_arg5)
      ∧ m' ((c.tc : Thread Cert.AdamwOddRefIdeal.nD Cert.AdamwOddRefIdeal.τ).loc Cert.AdamwOddRefIdeal.main_arg6) = m ((c.tc : Thread Cert.AdamwOddIdeal.nD Cert.AdamwOddIdeal.τ).loc Cert.AdamwOddIdeal.main_arg6)
      ∧ m' ((c.tc : Thread Cert.AdamwOddRefIdeal.nD Cert.AdamwOddRefIdeal.τ).loc Cert.AdamwOddRefIdeal.main_arg7) = m ((c.tc : Thread Cert.AdamwOddIdeal.nD Cert.AdamwOddIdeal.τ).loc Cert.AdamwOddIdeal.main_arg7)
      ∧ m' ((c.tc : Thread Cert.AdamwOddRefIdeal.nD Cert.AdamwOddRefIdeal.τ).loc Cert.AdamwOddRefIdeal.main_arg8) = m ((c.tc : Thread Cert.AdamwOddIdeal.nD Cert.AdamwOddIdeal.τ).loc Cert.AdamwOddIdeal.main_arg8)
      ∧ m' ((c.tc : Thread Cert.AdamwOddRefIdeal.nD Cert.AdamwOddRefIdeal.τ).loc Cert.AdamwOddRefIdeal.main_arg9) = m ((c.tc : Thread Cert.AdamwOddIdeal.nD Cert.AdamwOddIdeal.τ).loc Cert.AdamwOddIdeal.main_arg9)
      ∧ m' ((c.tc : Thread Cert.AdamwOddRefIdeal.nD Cert.AdamwOddRefIdeal.τ).loc Cert.AdamwOddRefIdeal.main_arg10) = m ((c.tc : Thread Cert.AdamwOddIdeal.nD Cert.AdamwOddIdeal.τ).loc Cert.AdamwOddIdeal.main_arg10)
      ∧ m' ((c.tc : Thread Cert.AdamwOddRefIdeal.nD Cert.AdamwOddRefIdeal.τ).loc Cert.AdamwOddRefIdeal.main_arg11) = m ((c.tc : Thread Cert.AdamwOddIdeal.nD Cert.AdamwOddIdeal.τ).loc Cert.AdamwOddIdeal.main_arg11)
      ∧ m' ((c.tc : Thread Cert.AdamwOddRefIdeal.nD Cert.AdamwOddRefIdeal.τ).loc Cert.AdamwOddRefIdeal.main_arg12) = m ((c.tc : Thread Cert.AdamwOddIdeal.nD Cert.AdamwOddIdeal.τ).loc Cert.AdamwOddIdeal.main_arg12)
      ∧ m' ((c.tc : Thread Cert.AdamwOddRefIdeal.nD Cert.AdamwOddRefIdeal.τ).loc Cert.AdamwOddRefIdeal.main_arg13) = m ((c.tc : Thread Cert.AdamwOddIdeal.nD Cert.AdamwOddIdeal.τ).loc Cert.AdamwOddIdeal.main_arg13)
      ∧ m' ((c.tc : Thread Cert.AdamwOddRefIdeal.nD Cert.AdamwOddRefIdeal.τ).loc Cert.AdamwOddRefIdeal.main_arg14) = m ((c.tc : Thread Cert.AdamwOddIdeal.nD Cert.AdamwOddIdeal.τ).loc Cert.AdamwOddIdeal.main_arg14)
      ∧ m' ((c.tc : Thread Cert.AdamwOddRefIdeal.nD Cert.AdamwOddRefIdeal.τ).loc Cert.AdamwOddRefIdeal.main_arg15) = m ((c.tc : Thread Cert.AdamwOddIdeal.nD Cert.AdamwOddIdeal.τ).loc Cert.AdamwOddIdeal.main_arg15)
      ∧ m' ((c.tc : Thread Cert.AdamwOddRefIdeal.nD Cert.AdamwOddRefIdeal.τ).loc Cert.AdamwOddRefIdeal.main_arg16) = m ((c.tc : Thread Cert.AdamwOddIdeal.nD Cert.AdamwOddIdeal.τ).loc Cert.AdamwOddIdeal.main_arg16)
      ∧ m' ((c.tc : Thread Cert.AdamwOddRefIdeal.nD Cert.AdamwOddRefIdeal.τ).loc Cert.AdamwOddRefIdeal.main_arg17) = m ((c.tc : Thread Cert.AdamwOddIdeal.nD Cert.AdamwOddIdeal.τ).loc Cert.AdamwOddIdeal.main_arg17)
      ∧ m' ((c.tc : Thread Cert.AdamwOddRefIdeal.nD Cert.AdamwOddRefIdeal.τ).loc Cert.AdamwOddRefIdeal.main_arg18) = m ((c.tc : Thread Cert.AdamwOddIdeal.nD Cert.AdamwOddIdeal.τ).loc Cert.AdamwOddIdeal.main_arg18)
      ∧ m' ((c.tc : Thread Cert.AdamwOddRefIdeal.nD Cert.AdamwOddRefIdeal.τ).loc Cert.AdamwOddRefIdeal.main_arg19) = m ((c.tc : Thread Cert.AdamwOddIdeal.nD Cert.AdamwOddIdeal.τ).loc Cert.AdamwOddIdeal.main_arg19)
      ∧ m' ((c.tc : Thread Cert.AdamwOddRefIdeal.nD Cert.AdamwOddRefIdeal.τ).loc Cert.AdamwOddRefIdeal.main_arg20) = m ((c.tc : Thread Cert.AdamwOddIdeal.nD Cert.AdamwOddIdeal.τ).loc Cert.AdamwOddIdeal.main_arg20)
      ∧ m' ((c.tc : Thread Cert.AdamwOddRefIdeal.nD Cert.AdamwOddRefIdeal.τ).loc Cert.AdamwOddRefIdeal.main_arg21) = m ((c.tc : Thread Cert.AdamwOddIdeal.nD Cert.AdamwOddIdeal.τ).loc Cert.AdamwOddIdeal.main_arg21)
      ∧ m' ((c.tc : Thread Cert.AdamwOddRefIdeal.nD Cert.AdamwOddRefIdeal.τ).loc Cert.AdamwOddRefIdeal.main_arg22) = m ((c.tc : Thread Cert.AdamwOddIdeal.nD Cert.AdamwOddIdeal.τ).loc Cert.AdamwOddIdeal.main_arg22)
      ∧ m' ((c.tc : Thread Cert.AdamwOddRefIdeal.nD Cert.AdamwOddRefIdeal.τ).loc Cert.AdamwOddRefIdeal.main_arg23) = m ((c.tc : Thread Cert.AdamwOddIdeal.nD Cert.AdamwOddIdeal.τ).loc Cert.AdamwOddIdeal.main_arg23)) →
    ∃ (v0 : (c : Dev Cert.AdamwOddIdeal.nD) → Buf (Elt Ideal) ((c.tc : Thread Cert.AdamwOddIdeal.nD Cert.AdamwOddIdeal.τ).loc Cert.AdamwOddIdeal.main_v0_0)) (v1 : (c : Dev Cert.AdamwOddIdeal.nD) → Buf (Elt Ideal) ((c.tc : Thread Cert.AdamwOddIdeal.nD Cert.AdamwOddIdeal.τ).loc Cert.AdamwOddIdeal.main_v0_1)) (v2 : (c : Dev Cert.AdamwOddIdeal.nD) → Buf (Elt Ideal) ((c.tc : Thread Cert.AdamwOddIdeal.nD Cert.AdamwOddIdeal.τ).loc Cert.AdamwOddIdeal.main_v0_2)) (v3 : (c : Dev Cert.AdamwOddIdeal.nD) → Buf (Elt Ideal) ((c.tc : Thread Cert.AdamwOddIdeal.nD Cert.AdamwOddIdeal.τ).loc Cert.AdamwOddIdeal.main_v0_3)) (v4 : (c : Dev Cert.AdamwOddIdeal.nD) → Buf (Elt Ideal) ((c.tc : Thread Cert.AdamwOddIdeal.nD Cert.AdamwOddIdeal.τ).loc Cert.AdamwOddIdeal.main_v0_4)) (v5 : (c : Dev Cert.AdamwOddIdeal.nD) → Buf (Elt Ideal) ((c.tc : Thread Cert.AdamwOddIdeal.nD Cert.AdamwOddIdeal.τ).loc Cert.AdamwOddIdeal.main_v0_5)) (v6 : (c : Dev Cert.AdamwOddIdeal.nD) → Buf (Elt Ideal) ((c.tc : Thread Cert.AdamwOddIdeal.nD Cert.AdamwOddIdeal.τ).loc Cert.AdamwOddIdeal.main_v0_6)) (v7 : (c : Dev Cert.AdamwOddIdeal.nD) → Buf (Elt Ideal) ((c.tc : Thread Cert.AdamwOddIdeal.nD Cert.AdamwOddIdeal.τ).loc Cert.AdamwOddIdeal.main_v0_7)) (v8 : (c : Dev Cert.AdamwOddIdeal.nD) → Buf (Elt Ideal) ((c.tc : Thread Cert.AdamwOddIdeal.nD Cert.AdamwOddIdeal.τ).loc Cert.AdamwOddIdeal.main_v0_8)) (v9 : (c : Dev Cert.AdamwOddIdeal.nD) → Buf (Elt Ideal) ((c.tc : Thread Cert.AdamwOddIdeal.nD Cert.AdamwOddIdeal.τ).loc Cert.AdamwOddIdeal.main_v0_9)) (v10 : (c : Dev Cert.AdamwOddIdeal.nD) → Buf (Elt Ideal) ((c.tc : Thread Cert.AdamwOddIdeal.nD Cert.AdamwOddIdeal.τ).loc Cert.AdamwOddIdeal.main_v0_10)) (v11 : (c : Dev Cert.AdamwOddIdeal.nD) → Buf (Elt Ideal) ((c.tc : Thread Cert.AdamwOddIdeal.nD Cert.AdamwOddIdeal.τ).loc Cert.AdamwOddIdeal.main_v0_11)),
      θ_run (Cert.AdamwOddIdeal.defs (F := Ideal)) (onTc (τ := Cert.AdamwOddIdeal.τ) (Cert.AdamwOddIdeal.main (F := Ideal))) ⟨m, fun _ => 0, g⟩ (fun r => ∀ c : Dev Cert.AdamwOddIdeal.nD,
          r.2.mem ((c.tc : Thread Cert.AdamwOddIdeal.nD Cert.AdamwOddIdeal.τ).loc Cert.AdamwOddIdeal.main_v0_0) = v0 c
          ∧ r.2.mem ((c.tc : Thread Cert.AdamwOddIdeal.nD Cert.AdamwOddIdeal.τ).loc Cert.AdamwOddIdeal.main_v0_1) = v1 c
          ∧ r.2.mem ((c.tc : Thread Cert.AdamwOddIdeal.nD Cert.AdamwOddIdeal.τ).loc Cert.AdamwOddIdeal.main_v0_2) = v2 c
          ∧ r.2.mem ((c.tc : Thread Cert.AdamwOddIdeal.nD Cert.AdamwOddIdeal.τ).loc Cert.AdamwOddIdeal.main_v0_3) = v3 c
          ∧ r.2.mem ((c.tc : Thread Cert.AdamwOddIdeal.nD Cert.AdamwOddIdeal.τ).loc Cert.AdamwOddIdeal.main_v0_4) = v4 c
          ∧ r.2.mem ((c.tc : Thread Cert.AdamwOddIdeal.nD Cert.AdamwOddIdeal.τ).loc Cert.AdamwOddIdeal.main_v0_5) = v5 c
          ∧ r.2.mem ((c.tc : Thread Cert.AdamwOddIdeal.nD Cert.AdamwOddIdeal.τ).loc Cert.AdamwOddIdeal.main_v0_6) = v6 c
          ∧ r.2.mem ((c.tc : Thread Cert.AdamwOddIdeal.nD Cert.AdamwOddIdeal.τ).loc Cert.AdamwOddIdeal.main_v0_7) = v7 c
          ∧ r.2.mem ((c.tc : Thread Cert.AdamwOddIdeal.nD Cert.AdamwOddIdeal.τ).loc Cert.AdamwOddIdeal.main_v0_8) = v8 c
          ∧ r.2.mem ((c.tc : Thread Cert.AdamwOddIdeal.nD Cert.AdamwOddIdeal.τ).loc Cert.AdamwOddIdeal.main_v0_9) = v9 c
          ∧ r.2.mem ((c.tc : Thread Cert.AdamwOddIdeal.nD Cert.AdamwOddIdeal.τ).loc Cert.AdamwOddIdeal.main_v0_10) = v10 c
          ∧ r.2.mem ((c.tc : Thread Cert.AdamwOddIdeal.nD Cert.AdamwOddIdeal.τ).loc Cert.AdamwOddIdeal.main_v0_11) = v11 c
          ∧ r.2.mem ((c.tc : Thread Cert.AdamwOddIdeal.nD Cert.AdamwOddIdeal.τ).loc Cert.AdamwOddIdeal.main_arg0) = m ((c.tc : Thread Cert.AdamwOddIdeal.nD Cert.AdamwOddIdeal.τ).loc Cert.AdamwOddIdeal.main_arg0)
          ∧ r.2.mem ((c.tc : Thread Cert.AdamwOddIdeal.nD Cert.AdamwOddIdeal.τ).loc Cert.AdamwOddIdeal.main_arg1) = m ((c.tc : Thread Cert.AdamwOddIdeal.nD Cert.AdamwOddIdeal.τ).loc Cert.AdamwOddIdeal.main_arg1)
          ∧ r.2.mem ((c.tc : Thread Cert.AdamwOddIdeal.nD Cert.AdamwOddIdeal.τ).loc Cert.AdamwOddIdeal.main_arg2) = m ((c.tc : Thread Cert.AdamwOddIdeal.nD Cert.AdamwOddIdeal.τ).loc Cert.AdamwOddIdeal.main_arg2)
          ∧ r.2.mem ((c.tc : Thread Cert.AdamwOddIdeal.nD Cert.AdamwOddIdeal.τ).loc Cert.AdamwOddIdeal.main_arg3) = m ((c.tc : Thread Cert.AdamwOddIdeal.nD Cert.AdamwOddIdeal.τ).loc Cert.AdamwOddIdeal.main_arg3)
          ∧ r.2.mem ((c.tc : Thread Cert.AdamwOddIdeal.nD Cert.AdamwOddIdeal.τ).loc Cert.AdamwOddIdeal.main_arg4) = m ((c.tc : Thread Cert.AdamwOddIdeal.nD Cert.AdamwOddIdeal.τ).loc Cert.AdamwOddIdeal.main_arg4)
          ∧ r.2.mem ((c.tc : Thread Cert.AdamwOddIdeal.nD Cert.AdamwOddIdeal.τ).loc Cert.AdamwOddIdeal.main_arg5) = m ((c.tc : Thread Cert.AdamwOddIdeal.nD Cert.AdamwOddIdeal.τ).loc Cert.AdamwOddIdeal.main_arg5)
          ∧ r.2.mem ((c.tc : Thread Cert.AdamwOddIdeal.nD Cert.AdamwOddIdeal.τ).loc Cert.AdamwOddIdeal.main_arg6) = m ((c.tc : Thread Cert.AdamwOddIdeal.nD Cert.AdamwOddIdeal.τ).loc Cert.AdamwOddIdeal.main_arg6)
          ∧ r.2.mem ((c.tc : Thread Cert.AdamwOddIdeal.nD Cert.AdamwOddIdeal.τ).loc Cert.AdamwOddIdeal.main_arg7) = m ((c.tc : Thread Cert.AdamwOddIdeal.nD Cert.AdamwOddIdeal.τ).loc Cert.AdamwOddIdeal.main_arg7)
          ∧ r.2.mem ((c.tc : Thread Cert.AdamwOddIdeal.nD Cert.AdamwOddIdeal.τ).loc Cert.AdamwOddIdeal.main_arg8) = m ((c.tc : Thread Cert.AdamwOddIdeal.nD Cert.AdamwOddIdeal.τ).loc Cert.AdamwOddIdeal.main_arg8)
          ∧ r.2.mem ((c.tc : Thread Cert.AdamwOddIdeal.nD Cert.AdamwOddIdeal.τ).loc Cert.AdamwOddIdeal.main_arg9) = m ((c.tc : Thread Cert.AdamwOddIdeal.nD Cert.AdamwOddIdeal.τ).loc Cert.AdamwOddIdeal.main_arg9)
          ∧ r.2.mem ((c.tc : Thread Cert.AdamwOddIdeal.nD Cert.AdamwOddIdeal.τ).loc Cert.AdamwOddIdeal.main_arg10) = m ((c.tc : Thread Cert.AdamwOddIdeal.nD Cert.AdamwOddIdeal.τ).loc Cert.AdamwOddIdeal.main_arg10)
          ∧ r.2.mem ((c.tc : Thread Cert.AdamwOddIdeal.nD Cert.AdamwOddIdeal.τ).loc Cert.AdamwOddIdeal.main_arg11) = m ((c.tc : Thread Cert.AdamwOddIdeal.nD Cert.AdamwOddIdeal.τ).loc Cert.AdamwOddIdeal.main_arg11)
          ∧ r.2.mem ((c.tc : Thread Cert.AdamwOddIdeal.nD Cert.AdamwOddIdeal.τ).loc Cert.AdamwOddIdeal.main_arg12) = m ((c.tc : Thread Cert.AdamwOddIdeal.nD Cert.AdamwOddIdeal.τ).loc Cert.AdamwOddIdeal.main_arg12)
          ∧ r.2.mem ((c.tc : Thread Cert.AdamwOddIdeal.nD Cert.AdamwOddIdeal.τ).loc Cert.AdamwOddIdeal.main_arg13) = m ((c.tc : Thread Cert.AdamwOddIdeal.nD Cert.AdamwOddIdeal.τ).loc Cert.AdamwOddIdeal.main_arg13)
          ∧ r.2.mem ((c.tc : Thread Cert.AdamwOddIdeal.nD Cert.AdamwOddIdeal.τ).loc Cert.AdamwOddIdeal.main_arg14) = m ((c.tc : Thread Cert.AdamwOddIdeal.nD Cert.AdamwOddIdeal.τ).loc Cert.AdamwOddIdeal.main_arg14)
          ∧ r.2.mem ((c.tc : Thread Cert.AdamwOddIdeal.nD Cert.AdamwOddIdeal.τ).loc Cert.AdamwOddIdeal.main_arg15) = m ((c.tc : Thread Cert.AdamwOddIdeal.nD Cert.AdamwOddIdeal.τ).loc Cert.AdamwOddIdeal.main_arg15)
          ∧ r.2.mem ((c.tc : Thread Cert.AdamwOddIdeal.nD Cert.AdamwOddIdeal.τ).loc Cert.AdamwOddIdeal.main_arg16) = m ((c.tc : Thread Cert.AdamwOddIdeal.nD Cert.AdamwOddIdeal.τ).loc Cert.AdamwOddIdeal.main_arg16)
          ∧ r.2.mem ((c.tc : Thread Cert.AdamwOddIdeal.nD Cert.AdamwOddIdeal.τ).loc Cert.AdamwOddIdeal.main_arg17) = m ((c.tc : Thread Cert.AdamwOddIdeal.nD Cert.AdamwOddIdeal.τ).loc Cert.AdamwOddIdeal.main_arg17)
          ∧ r.2.mem ((c.tc : Thread Cert.AdamwOddIdeal.nD Cert.AdamwOddIdeal.τ).loc Cert.AdamwOddIdeal.main_arg18) = m ((c.tc : Thread Cert.AdamwOddIdeal.nD Cert.AdamwOddIdeal.τ).loc Cert.AdamwOddIdeal.main_arg18)
          ∧ r.2.mem ((c.tc : Thread Cert.AdamwOddIdeal.nD Cert.AdamwOddIdeal.τ).loc Cert.AdamwOddIdeal.main_arg19) = m ((c.tc : Thread Cert.AdamwOddIdeal.nD Cert.AdamwOddIdeal.τ).loc Cert.AdamwOddIdeal.main_arg19)
          ∧ r.2.mem ((c.tc : Thread Cert.AdamwOddIdeal.nD Cert.AdamwOddIdeal.τ).loc Cert.AdamwOddIdeal.main_arg20) = m ((c.tc : Thread Cert.AdamwOddIdeal.nD Cert.AdamwOddIdeal.τ).loc Cert.AdamwOddIdeal.main_arg20)
          ∧ r.2.mem ((c.tc : Thread Cert.AdamwOddIdeal.nD Cert.AdamwOddIdeal.τ).loc Cert.AdamwOddIdeal.main_arg21) = m ((c.tc : Thread Cert.AdamwOddIdeal.nD Cert.AdamwOddIdeal.τ).loc Cert.AdamwOddIdeal.main_arg21)
          ∧ r.2.mem ((c.tc : Thread Cert.AdamwOddIdeal.nD Cert.AdamwOddIdeal.τ).loc Cert.AdamwOddIdeal.main_arg22) = m ((c.tc : Thread Cert.AdamwOddIdeal.nD Cert.AdamwOddIdeal.τ).loc Cert.AdamwOddIdeal.main_arg22)
          ∧ r.2.mem ((c.tc : Thread Cert.AdamwOddIdeal.nD Cert.AdamwOddIdeal.τ).loc Cert.AdamwOddIdeal.main_arg23) = m ((c.tc : Thread Cert.AdamwOddIdeal.nD Cert.AdamwOddIdeal.τ).loc Cert.AdamwOddIdeal.main_arg23))
      ∧ θ_run (Cert.AdamwOddRefIdeal.defs (F := Ideal)) (onTc (τ := Cert.AdamwOddRefIdeal.τ) (Cert.AdamwOddRefIdeal.main (F := Ideal))) ⟨m', fun _ => 0, g'⟩ (fun r => ∀ c : Dev Cert.AdamwOddRefIdeal.nD,
          r.2.mem ((c.tc : Thread Cert.AdamwOddRefIdeal.nD Cert.AdamwOddRefIdeal.τ).loc Cert.AdamwOddRefIdeal.main_v35) = v0 c
          ∧ r.2.mem ((c.tc : Thread Cert.AdamwOddRefIdeal.nD Cert.AdamwOddRefIdeal.τ).loc Cert.AdamwOddRefIdeal.main_v40) = v1 c
          ∧ r.2.mem ((c.tc : Thread Cert.AdamwOddRefIdeal.nD Cert.AdamwOddRefIdeal.τ).loc Cert.AdamwOddRefIdeal.main_v45) = v2 c
          ∧ r.2.mem ((c.tc : Thread Cert.AdamwOddRefIdeal.nD Cert.AdamwOddRefIdeal.τ).loc Cert.AdamwOddRefIdeal.main_v50) = v3 c
          ∧ r.2.mem ((c.tc : Thread Cert.AdamwOddRefIdeal.nD Cert.AdamwOddRefIdeal.τ).loc Cert.AdamwOddRefIdeal.main_v86) = v4 c
          ∧ r.2.mem ((c.tc : Thread Cert.AdamwOddRefIdeal.nD Cert.AdamwOddRefIdeal.τ).loc Cert.AdamwOddRefIdeal.main_v91) = v5 c
          ∧ r.2.mem ((c.tc : Thread Cert.AdamwOddRefIdeal.nD Cert.AdamwOddRefIdeal.τ).loc Cert.AdamwOddRefIdeal.main_v96) = v6 c
          ∧ r.2.mem ((c.tc : Thread Cert.AdamwOddRefIdeal.nD Cert.AdamwOddRefIdeal.τ).loc Cert.AdamwOddRefIdeal.main_v101) = v7 c
          ∧ r.2.mem ((c.tc : Thread Cert.AdamwOddRefIdeal.nD Cert.AdamwOddRefIdeal.τ).loc Cert.AdamwOddRefIdeal.main_v137) = v8 c
          ∧ r.2.mem ((c.tc : Thread Cert.AdamwOddRefIdeal.nD Cert.AdamwOddRefIdeal.τ).loc Cert.AdamwOddRefIdeal.main_v142) = v9 c
          ∧ r.2.mem ((c.tc : Thread Cert.AdamwOddRefIdeal.nD Cert.AdamwOddRefIdeal.τ).loc Cert.AdamwOddRefIdeal.main_v147) = v10 c
          ∧ r.2.mem ((c.tc : Thread Cert.AdamwOddRefIdeal.nD Cert.AdamwOddRefIdeal.τ).loc Cert.AdamwOddRefIdeal.main_v152) = v11 c
          ∧ r.2.mem ((c.tc : Thread Cert.AdamwOddRefIdeal.nD Cert.AdamwOddRefIdeal.τ).loc Cert.AdamwOddRefIdeal.main_arg0) = m' ((c.tc : Thread Cert.AdamwOddRefIdeal.nD Cert.AdamwOddRefIdeal.τ).loc Cert.AdamwOddRefIdeal.main_arg0)
          ∧ r.2.mem ((c.tc : Thread Cert.AdamwOddRefIdeal.nD Cert.AdamwOddRefIdeal.τ).loc Cert.AdamwOddRefIdeal.main_arg1) = m' ((c.tc : Thread Cert.AdamwOddRefIdeal.nD Cert.AdamwOddRefIdeal.τ).loc Cert.AdamwOddRefIdeal.main_arg1)
          ∧ r.2.mem ((c.tc : Thread Cert.AdamwOddRefIdeal.nD Cert.AdamwOddRefIdeal.τ).loc Cert.AdamwOddRefIdeal.main_arg2) = m' ((c.tc : Thread Cert.AdamwOddRefIdeal.nD Cert.AdamwOddRefIdeal.τ).loc Cert.AdamwOddRefIdeal.main_arg2)
          ∧ r.2.mem ((c.tc : Thread Cert.AdamwOddRefIdeal.nD Cert.AdamwOddRefIdeal.τ).loc Cert.AdamwOddRefIdeal.main_arg3) = m' ((c.tc : Thread Cert.AdamwOddRefIdeal.nD Cert.AdamwOddRefIdeal.τ).loc Cert.AdamwOddRefIdeal.main_arg3)
          ∧ r.2.mem ((c.tc : Thread Cert.AdamwOddRefIdeal.nD Cert.AdamwOddRefIdeal.τ).loc Cert.AdamwOddRefIdeal.main_arg4) = m' ((c.tc : Thread Cert.AdamwOddRefIdeal.nD Cert.AdamwOddRefIdeal.τ).loc Cert.AdamwOddRefIdeal.main_arg4)
          ∧ r.2.mem ((c.tc : Thread Cert.AdamwOddRefIdeal.nD Cert.AdamwOddRefIdeal.τ).loc Cert.AdamwOddRefIdeal.main_arg5) = m' ((c.tc : Thread Cert.AdamwOddRefIdeal.nD Cert.AdamwOddRefIdeal.τ).loc Cert.AdamwOddRefIdeal.main_arg5)
          ∧ r.2.mem ((c.tc : Thread Cert.AdamwOddRefIdeal.nD Cert.AdamwOddRefIdeal.τ).loc Cert.AdamwOddRefIdeal.main_arg6) = m' ((c.tc : Thread Cert.AdamwOddRefIdeal.nD Cert.AdamwOddRefIdeal.τ).loc Cert.AdamwOddRefIdeal.main_arg6)
          ∧ r.2.mem ((c.tc : Thread Cert.AdamwOddRefIdeal.nD Cert.AdamwOddRefIdeal.τ).loc Cert.AdamwOddRefIdeal.main_arg7) = m' ((c.tc : Thread Cert.AdamwOddRefIdeal.nD Cert.AdamwOddRefIdeal.τ).loc Cert.AdamwOddRefIdeal.main_arg7)
          ∧ r.2.mem ((c.tc : Thread Cert.AdamwOddRefIdeal.nD Cert.AdamwOddRefIdeal.τ).loc Cert.AdamwOddRefIdeal.main_arg8) = m' ((c.tc : Thread Cert.AdamwOddRefIdeal.nD Cert.AdamwOddRefIdeal.τ).loc Cert.AdamwOddRefIdeal.main_arg8)
          ∧ r.2.mem ((c.tc : Thread Cert.AdamwOddRefIdeal.nD Cert.AdamwOddRefIdeal.τ).loc Cert.AdamwOddRefIdeal.main_arg9) = m' ((c.tc : Thread Cert.AdamwOddRefIdeal.nD Cert.AdamwOddRefIdeal.τ).loc Cert.AdamwOddRefIdeal.main_arg9)
          ∧ r.2.mem ((c.tc : Thread Cert.AdamwOddRefIdeal.nD Cert.AdamwOddRefIdeal.τ).loc Cert.AdamwOddRefIdeal.main_arg10) = m' ((c.tc : Thread Cert.AdamwOddRefIdeal.nD Cert.AdamwOddRefIdeal.τ).loc Cert.AdamwOddRefIdeal.main_arg10)
          ∧ r.2.mem ((c.tc : Thread Cert.AdamwOddRefIdeal.nD Cert.AdamwOddRefIdeal.τ).loc Cert.AdamwOddRefIdeal.main_arg11) = m' ((c.tc : Thread Cert.AdamwOddRefIdeal.nD Cert.AdamwOddRefIdeal.τ).loc Cert.AdamwOddRefIdeal.main_arg11)
          ∧ r.2.mem ((c.tc : Thread Cert.AdamwOddRefIdeal.nD Cert.AdamwOddRefIdeal.τ).loc Cert.AdamwOddRefIdeal.main_arg12) = m' ((c.tc : Thread Cert.AdamwOddRefIdeal.nD Cert.AdamwOddRefIdeal.τ).loc Cert.AdamwOddRefIdeal.main_arg12)
          ∧ r.2.mem ((c.tc : Thread Cert.AdamwOddRefIdeal.nD Cert.AdamwOddRefIdeal.τ).loc Cert.AdamwOddRefIdeal.main_arg13) = m' ((c.tc : Thread Cert.AdamwOddRefIdeal.nD Cert.AdamwOddRefIdeal.τ).loc Cert.AdamwOddRefIdeal.main_arg13)
          ∧ r.2.mem ((c.tc : Thread Cert.AdamwOddRefIdeal.nD Cert.AdamwOddRefIdeal.τ).loc Cert.AdamwOddRefIdeal.main_arg14) = m' ((c.tc : Thread Cert.AdamwOddRefIdeal.nD Cert.AdamwOddRefIdeal.τ).loc Cert.AdamwOddRefIdeal.main_arg14)
          ∧ r.2.mem ((c.tc : Thread Cert.AdamwOddRefIdeal.nD Cert.AdamwOddRefIdeal.τ).loc Cert.AdamwOddRefIdeal.main_arg15) = m' ((c.tc : Thread Cert.AdamwOddRefIdeal.nD Cert.AdamwOddRefIdeal.τ).loc Cert.AdamwOddRefIdeal.main_arg15)
          ∧ r.2.mem ((c.tc : Thread Cert.AdamwOddRefIdeal.nD Cert.AdamwOddRefIdeal.τ).loc Cert.AdamwOddRefIdeal.main_arg16) = m' ((c.tc : Thread Cert.AdamwOddRefIdeal.nD Cert.AdamwOddRefIdeal.τ).loc Cert.AdamwOddRefIdeal.main_arg16)
          ∧ r.2.mem ((c.tc : Thread Cert.AdamwOddRefIdeal.nD Cert.AdamwOddRefIdeal.τ).loc Cert.AdamwOddRefIdeal.main_arg17) = m' ((c.tc : Thread Cert.AdamwOddRefIdeal.nD Cert.AdamwOddRefIdeal.τ).loc Cert.AdamwOddRefIdeal.main_arg17)
          ∧ r.2.mem ((c.tc : Thread Cert.AdamwOddRefIdeal.nD Cert.AdamwOddRefIdeal.τ).loc Cert.AdamwOddRefIdeal.main_arg18) = m' ((c.tc : Thread Cert.AdamwOddRefIdeal.nD Cert.AdamwOddRefIdeal.τ).loc Cert.AdamwOddRefIdeal.main_arg18)
          ∧ r.2.mem ((c.tc : Thread Cert.AdamwOddRefIdeal.nD Cert.AdamwOddRefIdeal.τ).loc Cert.AdamwOddRefIdeal.main_arg19) = m' ((c.tc : Thread Cert.AdamwOddRefIdeal.nD Cert.AdamwOddRefIdeal.τ).loc Cert.AdamwOddRefIdeal.main_arg19)
          ∧ r.2.mem ((c.tc : Thread Cert.AdamwOddRefIdeal.nD Cert.AdamwOddRefIdeal.τ).loc Cert.AdamwOddRefIdeal.main_arg20) = m' ((c.tc : Thread Cert.AdamwOddRefIdeal.nD Cert.AdamwOddRefIdeal.τ).loc Cert.AdamwOddRefIdeal.main_arg20)
          ∧ r.2.mem ((c.tc : Thread Cert.AdamwOddRefIdeal.nD Cert.AdamwOddRefIdeal.τ).loc Cert.AdamwOddRefIdeal.main_arg21) = m' ((c.tc : Thread Cert.AdamwOddRefIdeal.nD Cert.AdamwOddRefIdeal.τ).loc Cert.AdamwOddRefIdeal.main_arg21)
          ∧ r.2.mem ((c.tc : Thread Cert.AdamwOddRefIdeal.nD Cert.AdamwOddRefIdeal.τ).loc Cert.AdamwOddRefIdeal.main_arg22) = m' ((c.tc : Thread Cert.AdamwOddRefIdeal.nD Cert.AdamwOddRefIdeal.τ).loc Cert.AdamwOddRefIdeal.main_arg22)
          ∧ r.2.mem ((c.tc : Thread Cert.AdamwOddRefIdeal.nD Cert.AdamwOddRefIdeal.τ).loc Cert.AdamwOddRefIdeal.main_arg23) = m' ((c.tc : Thread Cert.AdamwOddRefIdeal.nD Cert.AdamwOddRefIdeal.τ).loc Cert.AdamwOddRefIdeal.main_arg23))

def Claim : Prop :=
  ∃ (hEvenDw : Cert.EvenDw.Facts) (hEvenDwIdeal : Cert.EvenDwIdeal.Facts) (hEvenDwRefIdeal : Cert.EvenDwRefIdeal.Facts) (hOddDw : Cert.OddDw.Facts) (hOddDwIdeal : Cert.OddDwIdeal.Facts) (hOddDwRefIdeal : Cert.OddDwRefIdeal.Facts) (hEvenDh : Cert.EvenDh.Facts) (hEvenDhIdeal : Cert.EvenDhIdeal.Facts) (hEvenDhRefIdeal : Cert.EvenDhRefIdeal.Facts) (hOddDh : Cert.OddDh.Facts) (hOddDhIdeal : Cert.OddDhIdeal.Facts) (hOddDhRefIdeal : Cert.OddDhRefIdeal.Facts) (hOutBwd : Cert.OutBwd.Facts) (hOutBwdIdeal : Cert.OutBwdIdeal.Facts) (hOutBwdRefIdeal : Cert.OutBwdRefIdeal.Facts) (hEvenFwd : Cert.EvenFwd.Facts) (hEvenFwdIdeal : Cert.EvenFwdIdeal.Facts) (hEvenFwdRefIdeal : Cert.EvenFwdRefIdeal.Facts) (hOddFwd : Cert.OddFwd.Facts) (hOddFwdIdeal : Cert.OddFwdIdeal.Facts) (hOddFwdRefIdeal : Cert.OddFwdRefIdeal.Facts) (hOutProj : Cert.OutProj.Facts) (hOutProjIdeal : Cert.OutProjIdeal.Facts) (hOutProjRefIdeal : Cert.OutProjRefIdeal.Facts) (hOutProjLast : Cert.OutProjLast.Facts) (hOutProjLastIdeal : Cert.OutProjLastIdeal.Facts) (hOutProjLastRefIdeal : Cert.OutProjLastRefIdeal.Facts) (hOddMixFwd : Cert.OddMixFwd.Facts) (hOddMixFwdIdeal : Cert.OddMixFwdIdeal.Facts) (hOddMixFwdRefIdeal : Cert.OddMixFwdRefIdeal.Facts) (hEvenMixFwd : Cert.EvenMixFwd.Facts) (hEvenMixFwdIdeal : Cert.EvenMixFwdIdeal.Facts) (hEvenMixFwdRefIdeal : Cert.EvenMixFwdRefIdeal.Facts) (hOddMixBwd : Cert.OddMixBwd.Facts) (hOddMixBwdIdeal : Cert.OddMixBwdIdeal.Facts) (hOddMixBwdRefIdeal : Cert.OddMixBwdRefIdeal.Facts) (hAdaBwd : Cert.AdaBwd.Facts) (hAdaBwdIdeal : Cert.AdaBwdIdeal.Facts) (hAdaBwdRefIdeal : Cert.AdaBwdRefIdeal.Facts) (hAdamwEven : Cert.AdamwEven.Facts) (hAdamwEvenIdeal : Cert.AdamwEvenIdeal.Facts) (hAdamwEvenRefIdeal : Cert.AdamwEvenRefIdeal.Facts) (hAdamwOdd : Cert.AdamwOdd.Facts) (hAdamwOddIdeal : Cert.AdamwOddIdeal.Facts) (hAdamwOddRefIdeal : Cert.AdamwOddRefIdeal.Facts) (hPre_odd_finite : Cert.Pre_odd_finite.Facts),
    quiescent_EvenDw (hEvenDw := hEvenDw)
    ∧ quiescent_EvenDwIdeal (hEvenDwIdeal := hEvenDwIdeal)
    ∧ quiescent_EvenDwRefIdeal (hEvenDwRefIdeal := hEvenDwRefIdeal)
    ∧ quiescent_OddDw (hOddDw := hOddDw)
    ∧ quiescent_OddDwIdeal (hOddDwIdeal := hOddDwIdeal)
    ∧ quiescent_OddDwRefIdeal (hOddDwRefIdeal := hOddDwRefIdeal)
    ∧ quiescent_EvenDh (hEvenDh := hEvenDh)
    ∧ quiescent_EvenDhIdeal (hEvenDhIdeal := hEvenDhIdeal)
    ∧ quiescent_EvenDhRefIdeal (hEvenDhRefIdeal := hEvenDhRefIdeal)
    ∧ quiescent_OddDh (hOddDh := hOddDh)
    ∧ quiescent_OddDhIdeal (hOddDhIdeal := hOddDhIdeal)
    ∧ quiescent_OddDhRefIdeal (hOddDhRefIdeal := hOddDhRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_EvenFwd (hEvenFwd := hEvenFwd)
    ∧ quiescent_EvenFwdIdeal (hEvenFwdIdeal := hEvenFwdIdeal)
    ∧ quiescent_EvenFwdRefIdeal (hEvenFwdRefIdeal := hEvenFwdRefIdeal)
    ∧ quiescent_OddFwd (hOddFwd := hOddFwd)
    ∧ quiescent_OddFwdIdeal (hOddFwdIdeal := hOddFwdIdeal)
    ∧ quiescent_OddFwdRefIdeal (hOddFwdRefIdeal := hOddFwdRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjLast (hOutProjLast := hOutProjLast)
    ∧ quiescent_OutProjLastIdeal (hOutProjLastIdeal := hOutProjLastIdeal)
    ∧ quiescent_OutProjLastRefIdeal (hOutProjLastRefIdeal := hOutProjLastRefIdeal)
    ∧ quiescent_OddMixFwd (hOddMixFwd := hOddMixFwd)
    ∧ quiescent_OddMixFwdIdeal (hOddMixFwdIdeal := hOddMixFwdIdeal)
    ∧ quiescent_OddMixFwdRefIdeal (hOddMixFwdRefIdeal := hOddMixFwdRefIdeal)
    ∧ quiescent_EvenMixFwd (hEvenMixFwd := hEvenMixFwd)
    ∧ quiescent_EvenMixFwdIdeal (hEvenMixFwdIdeal := hEvenMixFwdIdeal)
    ∧ quiescent_EvenMixFwdRefIdeal (hEvenMixFwdRefIdeal := hEvenMixFwdRefIdeal)
    ∧ quiescent_OddMixBwd (hOddMixBwd := hOddMixBwd)
    ∧ quiescent_OddMixBwdIdeal (hOddMixBwdIdeal := hOddMixBwdIdeal)
    ∧ quiescent_OddMixBwdIdeal_pre_odd_finite (hOddMixBwdIdeal := hOddMixBwdIdeal) (hPre_odd_finite := hPre_odd_finite)
    ∧ quiescent_OddMixBwdRefIdeal (hOddMixBwdRefIdeal := hOddMixBwdRefIdeal)
    ∧ quiescent_OddMixBwdRefIdeal_pre_odd_finite (hOddMixBwdRefIdeal := hOddMixBwdRefIdeal) (hPre_odd_finite := hPre_odd_finite)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdamwEven (hAdamwEven := hAdamwEven)
    ∧ quiescent_AdamwEvenIdeal (hAdamwEvenIdeal := hAdamwEvenIdeal)
    ∧ quiescent_AdamwEvenRefIdeal (hAdamwEvenRefIdeal := hAdamwEvenRefIdeal)
    ∧ quiescent_AdamwOdd (hAdamwOdd := hAdamwOdd)
    ∧ quiescent_AdamwOddIdeal (hAdamwOddIdeal := hAdamwOddIdeal)
    ∧ quiescent_AdamwOddRefIdeal (hAdamwOddRefIdeal := hAdamwOddRefIdeal)
    ∧ preserves_EvenDw_EvenDwIdeal
    ∧ algebraic_EvenDwIdeal_EvenDwRefIdeal (hEvenDwIdeal := hEvenDwIdeal) (hEvenDwRefIdeal := hEvenDwRefIdeal)
    ∧ preserves_OddDw_OddDwIdeal
    ∧ algebraic_OddDwIdeal_OddDwRefIdeal (hOddDwIdeal := hOddDwIdeal) (hOddDwRefIdeal := hOddDwRefIdeal)
    ∧ preserves_EvenDh_EvenDhIdeal
    ∧ algebraic_EvenDhIdeal_EvenDhRefIdeal (hEvenDhIdeal := hEvenDhIdeal) (hEvenDhRefIdeal := hEvenDhRefIdeal)
    ∧ preserves_OddDh_OddDhIdeal
    ∧ algebraic_OddDhIdeal_OddDhRefIdeal (hOddDhIdeal := hOddDhIdeal) (hOddDhRefIdeal := hOddDhRefIdeal)
    ∧ preserves_OutBwd_OutBwdIdeal
    ∧ algebraic_OutBwdIdeal_OutBwdRefIdeal (hOutBwdIdeal := hOutBwdIdeal) (hOutBwdRefIdeal := hOutBwdRefIdeal)
    ∧ preserves_EvenFwd_EvenFwdIdeal
    ∧ algebraic_EvenFwdIdeal_EvenFwdRefIdeal (hEvenFwdIdeal := hEvenFwdIdeal) (hEvenFwdRefIdeal := hEvenFwdRefIdeal)
    ∧ preserves_OddFwd_OddFwdIdeal
    ∧ algebraic_OddFwdIdeal_OddFwdRefIdeal (hOddFwdIdeal := hOddFwdIdeal) (hOddFwdRefIdeal := hOddFwdRefIdeal)
    ∧ preserves_OutProj_OutProjIdeal
    ∧ algebraic_OutProjIdeal_OutProjRefIdeal (hOutProjIdeal := hOutProjIdeal) (hOutProjRefIdeal := hOutProjRefIdeal)
    ∧ preserves_OutProjLast_OutProjLastIdeal
    ∧ algebraic_OutProjLastIdeal_OutProjLastRefIdeal (hOutProjLastIdeal := hOutProjLastIdeal) (hOutProjLastRefIdeal := hOutProjLastRefIdeal)
    ∧ preserves_OddMixFwd_OddMixFwdIdeal
    ∧ algebraic_OddMixFwdIdeal_OddMixFwdRefIdeal (hOddMixFwdIdeal := hOddMixFwdIdeal) (hOddMixFwdRefIdeal := hOddMixFwdRefIdeal)
    ∧ preserves_EvenMixFwd_EvenMixFwdIdeal
    ∧ algebraic_EvenMixFwdIdeal_EvenMixFwdRefIdeal (hEvenMixFwdIdeal := hEvenMixFwdIdeal) (hEvenMixFwdRefIdeal := hEvenMixFwdRefIdeal)
    ∧ preserves_OddMixBwd_OddMixBwdIdeal
    ∧ algebraic_OddMixBwdIdeal_OddMixBwdRefIdeal_pre_odd_finite (hOddMixBwdIdeal := hOddMixBwdIdeal) (hOddMixBwdRefIdeal := hOddMixBwdRefIdeal) (hPre_odd_finite := hPre_odd_finite)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdamwEven_AdamwEvenIdeal
    ∧ algebraic_AdamwEvenIdeal_AdamwEvenRefIdeal (hAdamwEvenIdeal := hAdamwEvenIdeal) (hAdamwEvenRefIdeal := hAdamwEvenRefIdeal)
    ∧ preserves_AdamwOdd_AdamwOddIdeal
    ∧ algebraic_AdamwOddIdeal_AdamwOddRefIdeal (hAdamwOddIdeal := hAdamwOddIdeal) (hAdamwOddRefIdeal := hAdamwOddRefIdeal)
-- ==== Pre_odd_finite.lean ====
abbrev S2x2048x2048 : Shape := ⟨3, ![2, 2048, 2048]⟩
abbrev S2x2048x1024 : Shape := ⟨3, ![2, 2048, 1024]⟩
abbrev S4x512x512 : Shape := ⟨3, ![4, 512, 512]⟩
abbrev S1x2048 : Shape := ⟨2, ![1, 2048]⟩
abbrev S_ : Shape := ⟨0, ![]⟩

class Facts : Prop where
  bitsLt_bf16_f32 : FTy.bits .bf16 < FTy.bits .f32
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S4x512x512 : S_.BroadcastsInDim S4x512x512 (![] : Fin 0 → Fin S4x512x512.rank)
  reducesTo_S4x512x512_S_d0_1_2 : S4x512x512.ReducesTo [0, 1, 2] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v16 : IVec S_ 1) (main_v17 : FVec F S1x2048 .f32) : IVec S_ 1 :=
  let main_cst_4 : FVec F S_ .f32 := constant S_ .f32 0x7F800000#32
  let main_v18 : FVec F S1x2048 .f32 := broadcastInDim S1x2048 ![] bcast_S_S1x2048 main_cst_4
  let main_v19 : IVec S1x2048 1 := cmpf .olt main_v17 main_v18
  let main_c_5 : IVec S_ 1 := constantI S_ 1 1#1
  let main_v20 : IVec S_ 1 := (fun x v => Host.reduce IntOp.andi x v reducesTo_S1x2048_S_d0_1 h_S_) main_v19 main_c_5
  let main_v21 : IVec S_ 1 := andi main_v16 main_v20
  main_v21

def fn {F : FTy → Type} [FloatOps F] (main_arg0 : FVec F S2x2048x2048 .bf16) (main_arg1 : FVec F S2x2048x1024 .bf16) (main_arg2 : FVec F S4x512x512 .bf16) (main_arg3 : FVec F S1x2048 .f32) : IVec S_ 1 :=
  let main_v0 : FVec F S2x2048x2048 .f32 := (extf .f32 · bitsLt_bf16_f32) main_arg0
  let main_v1 : FVec F S2x2048x2048 .f32 := Host.absf main_v0
  let main_cst : FVec F S_ .f32 := constant S_ .f32 0x7F800000#32
  let main_v2 : FVec F S2x2048x2048 .f32 := broadcastInDim S2x2048x2048 ![] bcast_S_S2x2048x2048 main_cst
  let main_v3 : IVec S2x2048x2048 1 := cmpf .olt main_v1 main_v2
  let main_c : IVec S_ 1 := constantI S_ 1 1#1
  let main_v4 : IVec S_ 1 := (fun x v => Host.reduce IntOp.andi x v reducesTo_S2x2048x2048_S_d0_1_2 h_S_) main_v3 main_c
  let main_v5 : FVec F S2x2048x1024 .f32 := (extf .f32 · bitsLt_bf16_f32) main_arg1
  let main_v6 : FVec F S2x2048x1024 .f32 := Host.absf main_v5
  let main_cst_0 : FVec F S_ .f32 := constant S_ .f32 0x7F800000#32
  let main_v7 : FVec F S2x2048x1024 .f32 := broadcastInDim S2x2048x1024 ![] bcast_S_S2x2048x1024 main_cst_0
  let main_v8 : IVec S2x2048x1024 1 := cmpf .olt main_v6 main_v7
  let main_c_1 : IVec S_ 1 := constantI S_ 1 1#1
  let main_v9 : IVec S_ 1 := (fun x v => Host.reduce IntOp.andi x v reducesTo_S2x2048x1024_S_d0_1_2 h_S_) main_v8 main_c_1
  let main_v10 : IVec S_ 1 := andi main_v4 main_v9
  let main_v11 : FVec F S4x512x512 .f32 := (extf .f32 · bitsLt_bf16_f32) main_arg2
  let main_v12 : FVec F S4x512x512 .f32 := Host.absf main_v11
  let main_cst_2 : FVec F S_ .f32 := constant S_ .f32 0x7F800000#32
  let main_v13 : FVec F S4x512x512 .f32 := broadcastInDim S4x512x512 ![] bcast_S_S4x512x512 main_cst_2
  let main_v14 : IVec S4x512x512 1 := cmpf .olt main_v12 main_v13
  let main_c_3 : IVec S_ 1 := constantI S_ 1 1#1
  let main_v15 : IVec S_ 1 := (fun x v => Host.reduce IntOp.andi x v reducesTo_S4x512x512_S_d0_1_2 h_S_) main_v14 main_c_3
  let main_v16 : IVec S_ 1 := andi main_v10 main_v15
  let main_v17 : FVec F S1x2048 .f32 := Host.absf main_arg3
  fn_part1 (F := F) main_v16 main_v17
-- ==== EvenDw.lean ====
abbrev S2048x1024 : Shape := ⟨2, ![2048, 1024]⟩
abbrev S7x2048x1024 : Shape := ⟨3, ![7, 2048, 1024]⟩
abbrev S4x1024x1792 : Shape := ⟨3, ![4, 1024, 1792]⟩
abbrev S1x2048x256 : Shape := ⟨3, ![1, 2048, 256]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S7x2048x1024, .bf16⟩
  | .hbm, ⟨2, _⟩ => ⟨S4x1024x1792, .bf16⟩
  | .local _ .vmem, ⟨0, _⟩ => ⟨S2048x1024, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== EvenDwRefIdeal.lean ====
abbrev S2048x1024 : Shape := ⟨2, ![2048, 1024]⟩
abbrev S7x2048x1024 : Shape := ⟨3, ![7, 2048, 1024]⟩
abbrev S2048x7x1024 : Shape := ⟨3, ![2048, 7, 1024]⟩
abbrev S2048x7168 : Shape := ⟨2, ![2048, 7168]⟩
abbrev S_ : Shape := ⟨0, ![]⟩
abbrev S1024x7168 : Shape := ⟨2, ![1024, 7168]⟩
abbrev S7168x1024 : Shape := ⟨2, ![7168, 1024]⟩
abbrev S1024x4x1792 : Shape := ⟨3, ![1024, 4, 1792]⟩
abbrev S4x1024x1792 : Shape := ⟨3, ![4, 1024, 1792]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S7x2048x1024, .bf16⟩
  | .hbm, ⟨2, _⟩ => ⟨S2048x1024, .f32⟩
  | .hbm, ⟨3, _⟩ => ⟨S7x2048x1024, .f32⟩
  | .hbm, ⟨4, _⟩ => ⟨S2048x7x1024, .f32⟩
  | .hbm, ⟨5, _⟩ => ⟨S2048x7168, .f32⟩
  | .hbm, ⟨6, _⟩ => ⟨S_, .f32⟩
  | .hbm, ⟨7, _⟩ => ⟨S1024x7168, .f32⟩
  | .hbm, ⟨8, _⟩ => ⟨S2048x7168, .f32⟩
  | .hbm, ⟨9, _⟩ => ⟨S7168x1024, .f32⟩
  | .hbm, ⟨10, _⟩ => ⟨S1024x7168, .f32⟩
  | .hbm, ⟨11, _⟩ => ⟨S1024x4x1792, .f32⟩
  | .hbm, ⟨12, _⟩ => ⟨S4x1024x1792, .f32⟩
  | .hbm, ⟨13, _⟩ => ⟨S4x1024x1792, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== OddDw.lean ====
abbrev S2048x1024 : Shape := ⟨2, ![2048, 1024]⟩
abbrev S2x2048x2048 : Shape := ⟨3, ![2, 2048, 2048]⟩
abbrev S4x1024x1024 : Shape := ⟨3, ![4, 1024, 1024]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x2048x2048, .bf16⟩
  | .hbm, ⟨2, _⟩ => ⟨S4x1024x1024, .bf16⟩
  | .local _ .vmem, ⟨0, _⟩ => ⟨S2048x1024, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OddDwRefIdeal.lean ====
abbrev S2048x1024 : Shape := ⟨2, ![2048, 1024]⟩
abbrev S2x2048x2048 : Shape := ⟨3, ![2, 2048, 2048]⟩
abbrev S2048x2x2048 : Shape := ⟨3, ![2048, 2, 2048]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x2048, .bf16⟩
  | .hbm, ⟨2, _⟩ => ⟨S2048x1024, .f32⟩
  | .hbm, ⟨3, _⟩ => ⟨S2x2048x2048, .f32⟩
  | .hbm, ⟨4, _⟩ => ⟨S2048x2x2048, .f32⟩
  | .hbm, ⟨5, _⟩ => ⟨S2048x4096, .f32⟩
  | .hbm, ⟨6, _⟩ => ⟨S_, .f32⟩
  | .hbm, ⟨7, _⟩ => ⟨S1024x4096, .f32⟩
  | .hbm, ⟨8, _⟩ => ⟨S2048x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | .hbm, ⟨13, _⟩ => ⟨S4x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== EvenDh.lean ====
abbrev S7x2048x1024 : Shape := ⟨3, ![7, 2048, 1024]⟩
abbrev S4x1024x1792 : Shape := ⟨3, ![4, 1024, 1792]⟩
abbrev S2048x1024 : Shape := ⟨2, ![2048, 1024]⟩
abbrev S1x2048x1024 : Shape := ⟨3, ![1, 2048, 1024]⟩
abbrev S1x1024x256 : Shape := ⟨3, ![1, 1024, 256]⟩
abbrev S1024x256 : Shape := ⟨2, ![1024, 256]⟩
abbrev S1024x1024 : Shape := ⟨2, ![1024, 1024]⟩

abbrev nBuf : Space → Nat
  | .hbm => 3
  | .vmem => 11
  | .smem => 0
  | _ => 0

abbrev bufTy : (tb : Table) → Fin (tcTables nBuf tb) → BufTy
  | .hbm, ⟨0, _⟩ => ⟨S7x2048x1024, .bf16⟩
  | .hbm, ⟨1, _⟩ => ⟨S4x1024x1792, .bf16⟩
  | .hbm, ⟨2, _⟩ => ⟨S2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S2048x1024, .f32⟩
  | _, _ => ⟨S7x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_14 : BitVec 32 := 0#32
  let v14 : BitVec 1 := Scalar.cmpi .ne v13 c0_i32_14
  v14

def k0_cond2 (i : grid0.Coords) : BitVec 1 :=
  let arg0 : BitVec 32 := BitVec.ofNat 32 (i 0).val
  let c0_i32_15 : BitVec 32 := 0#32
  let v15 : BitVec 1 := Scalar.cmpi .sgt arg0 c0_i32_15
  let v16 : BitVec 32 := Scalar.extui v15
  let c0_i32_16 : BitVec 32 := 0#32
  let v17 : BitVec 1 := Scalar.cmpi .ne v16 c0_i32_16
  v17

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_1 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c7_i32 : BitVec 32 := 7#32
  let v2 : BitVec 32 := Scalar.divsi v1 c7_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c7_i32 c0_i32_2
  let v9 : BitVec 32 := Scalar.extui v8
  let c0_i32_3 : BitVec 32 := 0#32
  let v10 : BitVec 1 := Scalar.cmpi .slt c7_i32 c0_i32_3
  let v11 : BitVec 32 := Scalar.extui v10
  let v12 : BitVec 32 := Scalar.subi v9 v11
  let v13 : BitVec 1 := Scalar.cmpi .ne v7 v12
  let v14 : BitVec 32 := Scalar.remsi v1 c7_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli c4_i32_5 arg0
  let c0_i32_6 : BitVec 32 := 0#32
  let v20 : BitVec 32 := Scalar.addi v19 c0_i32_6
  let c7_i32_7 : BitVec 32 := 7#32
  let c0_i32_8 : BitVec 32 := 0#32
  let v21 : BitVec 1 := Scalar.cmpi .eq c7_i32_7 c0_i32_8
  let c1_i32_9 : BitVec 32 := 1#32
  let v22 : BitVec 32 := Scalar.select v21 c1_i32_9 c7_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c7_i32 : BitVec 32 := 7#32
  let v2 : BitVec 32 := Scalar.divsi v1 c7_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c7_i32 c0_i32_1
  let v9 : BitVec 32 := Scalar.extui v8
  let c0_i32_2 : BitVec 32 := 0#32
  let v10 : BitVec 1 := Scalar.cmpi .slt c7_i32 c0_i32_2
  let v11 : BitVec 32 := Scalar.extui v10
  let v12 : BitVec 32 := Scalar.subi v9 v11
  let v13 : BitVec 1 := Scalar.cmpi .ne v7 v12
  let v14 : BitVec 32 := Scalar.remsi v1 c7_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli c4_i32_5 arg0
  let c1_i32_6 : BitVec 32 := 1#32
  let v20 : BitVec 32 := Scalar.addi v19 c1_i32_6
  let c7_i32_7 : BitVec 32 := 7#32
  let c0_i32_8 : BitVec 32 := 0#32
  let v21 : BitVec 1 := Scalar.cmpi .eq c7_i32_7 c0_i32_8
  let c1_i32_9 : BitVec 32 := 1#32
  let v22 : BitVec 32 := Scalar.select v21 c1_i32_9 c7_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c7_i32 : BitVec 32 := 7#32
  let v2 : BitVec 32 := Scalar.divsi v1 c7_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c7_i32 c0_i32_1
  let v9 : BitVec 32 := Scalar.extui v8
  let c0_i32_2 : BitVec 32 := 0#32
  let v10 : BitVec 1 := Scalar.cmpi .slt c7_i32 c0_i32_2
  let v11 : BitVec 32 := Scalar.extui v10
  let v12 : BitVec 32 := Scalar.subi v9 v11
  let v13 : BitVec 1 := Scalar.cmpi .ne v7 v12
  let v14 : BitVec 32 := Scalar.remsi v1 c7_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli c4_i32_4 arg0
  let c2_i32_5 : BitVec 32 := 2#32
  let v20 : BitVec 32 := Scalar.addi v19 c2_i32_5
  let c7_i32_6 : BitVec 32 := 7#32
  let c0_i32_7 : BitVec 32 := 0#32
  let v21 : BitVec 1 := Scalar.cmpi .eq c7_i32_6 c0_i32_7
  let c1_i32_8 : BitVec 32 := 1#32
  let v22 : BitVec 32 := Scalar.select v21 c1_i32_8 c7_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, c0_i32_12.toNat, v30.toNat]

def cc0_transform_4 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c7_i32 : BitVec 32 := 7#32
  let v2 : BitVec 32 := Scalar.divsi v1 c7_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c7_i32 c0_i32_1
  let v9 : BitVec 32 := Scalar.extui v8
  let c0_i32_2 : BitVec 32 := 0#32
  let v10 : BitVec 1 := Scalar.cmpi .slt c7_i32 c0_i32_2
  let v11 : BitVec 32 := Scalar.extui v10
  let v12 : BitVec 32 := Scalar.subi v9 v11
  let v13 : BitVec 1 := Scalar.cmpi .ne v7 v12
  let v14 : BitVec 32 := Scalar.remsi v1 c7_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli c4_i32_4 arg0
  let c3_i32_5 : BitVec 32 := 3#32
  let v20 : BitVec 32 := Scalar.addi v19 c3_i32_5
  let c7_i32_6 : BitVec 32 := 7#32
  let c0_i32_7 : BitVec 32 := 0#32
  let v21 : BitVec 1 := Scalar.cmpi .eq c7_i32_6 c0_i32_7
  let c1_i32_8 : BitVec 32 := 1#32
  let v22 : BitVec 32 := Scalar.select v21 c1_i32_8 c7_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, c0_i32_12.toNat, v30.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== EvenDhRefIdeal.lean ====
abbrev S7x2048x1024 : Shape := ⟨3, ![7, 2048, 1024]⟩
abbrev S4x1024x1792 : Shape := ⟨3, ![4, 1024, 1792]⟩
abbrev S1024x4x1792 : Shape := ⟨3, ![1024, 4, 1792]⟩
abbrev S1024x7168 : Shape := ⟨2, ![1024, 7168]⟩
abbrev S2048x7x1024 : Shape := ⟨3, ![2048, 7, 1024]⟩
abbrev S2048x7168 : Shape := ⟨2, ![2048, 7168]⟩
abbrev S_ : Shape := ⟨0, ![]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S7x2048x1024, .bf16⟩
  | .hbm, ⟨1, _⟩ => ⟨S4x1024x1792, .bf16⟩
  | .hbm, ⟨2, _⟩ => ⟨S4x1024x1792, .f32⟩
  | .hbm, ⟨3, _⟩ => ⟨S1024x4x1792, .f32⟩
  | .hbm, ⟨4, _⟩ => ⟨S1024x7168, .f32⟩
  | .hbm, ⟨5, _⟩ => ⟨S7x2048x1024, .f32⟩
  | .hbm, ⟨6, _⟩ => ⟨S2048x7x1024, .f32⟩
  | .hbm, ⟨7, _⟩ => ⟨S2048x7168, .f32⟩
  | .hbm, ⟨8, _⟩ => ⟨S_, .f32⟩
  | .hbm, ⟨9, _⟩ => ⟨S2048x1024, .f32⟩
  | .hbm, ⟨10, _⟩ => ⟨S2048x7168, .f32⟩
  | .hbm, ⟨11, _⟩ => ⟨S2048x1024, .f32⟩
  | _, _ => ⟨S7x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OddDh.lean ====
abbrev S2x2048x2048 : Shape := ⟨3, ![2, 2048, 2048]⟩
abbrev S4x1024x1024 : Shape := ⟨3, ![4, 1024, 1024]⟩
abbrev S2048x1024 : Shape := ⟨2, ![2048, 1024]⟩
abbrev S1x2048x1024 : Shape := ⟨3, ![1, 2048, 1024]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x2048, .bf16⟩
  | .hbm, ⟨1, _⟩ => ⟨S4x1024x1024, .bf16⟩
  | .hbm, ⟨2, _⟩ => ⟨S2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_8 : BitVec 32 := 0#32
  let v10 : BitVec 1 := Scalar.cmpi .ne v9 c0_i32_8
  v10

def k0_cond2 (i : grid0.Coords) : BitVec 1 :=
  let arg0 : BitVec 32 := BitVec.ofNat 32 (i 0).val
  let c0_i32_9 : BitVec 32 := 0#32
  let v11 : BitVec 1 := Scalar.cmpi .sgt arg0 c0_i32_9
  let v12 : BitVec 32 := Scalar.extui v11
  let c0_i32_10 : BitVec 32 := 0#32
  let v13 : BitVec 1 := Scalar.cmpi .ne v12 c0_i32_10
  v13

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c2_i32_6 : BitVec 32 := 2#32
  let v19 : BitVec 32 := Scalar.muli c2_i32_6 arg0
  let c0_i32_7 : BitVec 32 := 0#32
  let v20 : BitVec 32 := Scalar.addi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let v19 : BitVec 32 := Scalar.muli c2_i32_6 arg0
  let c1_i32_7 : BitVec 32 := 1#32
  let v20 : BitVec 32 := Scalar.addi v19 c1_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== OddDhRefIdeal.lean ====
abbrev S2x2048x2048 : Shape := ⟨3, ![2, 2048, 2048]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x2x2048 : Shape := ⟨3, ![2048, 2, 2048]⟩
abbrev S2048x4096 : Shape := ⟨2, ![2048, 4096]⟩
abbrev S_ : Shape := ⟨0, ![]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S4x1024x1024, .bf16⟩
  | .hbm, ⟨2, _⟩ => ⟨S4x1024x1024, .f32⟩
  | .hbm, ⟨3, _⟩ => ⟨S1024x4x1024, .f32⟩
  | .hbm, ⟨4, _⟩ => ⟨S1024x4096, .f32⟩
  | .hbm, ⟨5, _⟩ => ⟨S2x2048x2048, .f32⟩
  | .hbm, ⟨6, _⟩ => ⟨S2048x2x2048, .f32⟩
  | .hbm, ⟨7, _⟩ => ⟨S2048x4096, .f32⟩
  | .hbm, ⟨8, _⟩ => ⟨S_, .f32⟩
  | .hbm, ⟨9, _⟩ => ⟨S2048x1024, .f32⟩
  | .hbm, ⟨10, _⟩ => ⟨S2048x4096, .f32⟩
  | .hbm, ⟨11, _⟩ => ⟨S2048x1024, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutBwd.lean ====
abbrev S2048x1024 : Shape := ⟨2, ![2048, 1024]⟩
abbrev S4x512x1024 : Shape := ⟨3, ![4, 512, 1024]⟩
abbrev S2x2048x1024 : Shape := ⟨3, ![2, 2048, 1024]⟩
abbrev S1x512x1024 : Shape := ⟨3, ![1, 512, 1024]⟩
abbrev S1x2048x512 : Shape := ⟨3, ![1, 2048, 512]⟩
abbrev S512x1024 : Shape := ⟨2, ![512, 1024]⟩
abbrev S2048x512 : Shape := ⟨2, ![2048, 512]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S4x512x1024, .bf16⟩
  | .hbm, ⟨2, _⟩ => ⟨S2x2048x1024, .bf16⟩
  | .hbm, ⟨3, _⟩ => ⟨S2x2048x1024, .bf16⟩
  | .hbm, ⟨4, _⟩ => ⟨S4x512x1024, .bf16⟩
  | .local _ .vmem, ⟨0, _⟩ => ⟨S2048x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x1024, .bf16⟩
  | .local _ .vmem, ⟨8, _⟩ => ⟨S1x512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutBwdRefIdeal.lean ====
abbrev S2048x1024 : Shape := ⟨2, ![2048, 1024]⟩
abbrev S4x512x1024 : Shape := ⟨3, ![4, 512, 1024]⟩
abbrev S2x2048x1024 : Shape := ⟨3, ![2, 2048, 1024]⟩
abbrev S2048x2x1024 : Shape := ⟨3, ![2048, 2, 1024]⟩
abbrev S2048x2048 : Shape := ⟨2, ![2048, 2048]⟩
abbrev S1024x2048 : Shape := ⟨2, ![1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x512x1024, .bf16⟩
  | .hbm, ⟨2, _⟩ => ⟨S2x2048x1024, .bf16⟩
  | .hbm, ⟨3, _⟩ => ⟨S2x2048x1024, .f32⟩
  | .hbm, ⟨4, _⟩ => ⟨S2048x2x1024, .f32⟩
  | .hbm, ⟨5, _⟩ => ⟨S2048x2048, .f32⟩
  | .hbm, ⟨6, _⟩ => ⟨S4x512x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S2048x2048, .f32⟩
  | .hbm, ⟨13, _⟩ => ⟨S2048x2x1024, .f32⟩
  | .hbm, ⟨14, _⟩ => ⟨S2x2048x1024, .f32⟩
  | .hbm, ⟨15, _⟩ => ⟨S2x2048x1024, .bf16⟩
  | .hbm, ⟨16, _⟩ => ⟨S4x512x1024, .f32⟩
  | .hbm, ⟨17, _⟩ => ⟨S4x512x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== EvenFwd.lean ====
abbrev S2048x1024 : Shape := ⟨2, ![2048, 1024]⟩
abbrev S4x1024x1792 : Shape := ⟨3, ![4, 1024, 1792]⟩
abbrev S7x2048x1024 : Shape := ⟨3, ![7, 2048, 1024]⟩
abbrev S1x1024x256 : Shape := ⟨3, ![1, 1024, 256]⟩
abbrev S1x2048x512 : Shape := ⟨3, ![1, 2048, 512]⟩
abbrev S1024x256 : Shape := ⟨2, ![1024, 256]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x1024x1792, .bf16⟩
  | .hbm, ⟨2, _⟩ => ⟨S7x2048x1024, .bf16⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x2048x512, .bf16⟩
  | .local _ .vmem, ⟨6, _⟩ => ⟨S1x2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c7_i32 : BitVec 32 := 7#32
  let v2 : BitVec 32 := Scalar.divsi v1 c7_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c7_i32 c0_i32_2
  let v9 : BitVec 32 := Scalar.extui v8
  let c0_i32_3 : BitVec 32 := 0#32
  let v10 : BitVec 1 := Scalar.cmpi .slt c7_i32 c0_i32_3
  let v11 : BitVec 32 := Scalar.extui v10
  let v12 : BitVec 32 := Scalar.subi v9 v11
  let v13 : BitVec 1 := Scalar.cmpi .ne v7 v12
  let v14 : BitVec 32 := Scalar.remsi v1 c7_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c7_i32_7 : BitVec 32 := 7#32
  let c0_i32_8 : BitVec 32 := 0#32
  let v21 : BitVec 1 := Scalar.cmpi .eq c7_i32_7 c0_i32_8
  let c1_i32_9 : BitVec 32 := 1#32
  let v22 : BitVec 32 := Scalar.select v21 c1_i32_9 c7_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c7_i32 : BitVec 32 := 7#32
  let v2 : BitVec 32 := Scalar.divsi v1 c7_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c7_i32 c0_i32_1
  let v9 : BitVec 32 := Scalar.extui v8
  let c0_i32_2 : BitVec 32 := 0#32
  let v10 : BitVec 1 := Scalar.cmpi .slt c7_i32 c0_i32_2
  let v11 : BitVec 32 := Scalar.extui v10
  let v12 : BitVec 32 := Scalar.subi v9 v11
  let v13 : BitVec 1 := Scalar.cmpi .ne v7 v12
  let v14 : BitVec 32 := Scalar.remsi v1 c7_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c7_i32_7 : BitVec 32 := 7#32
  let c0_i32_8 : BitVec 32 := 0#32
  let v21 : BitVec 1 := Scalar.cmpi .eq c7_i32_7 c0_i32_8
  let c1_i32_9 : BitVec 32 := 1#32
  let v22 : BitVec 32 := Scalar.select v21 c1_i32_9 c7_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EvenFwdRefIdeal.lean ====
abbrev S2048x1024 : Shape := ⟨2, ![2048, 1024]⟩
abbrev S4x1024x1792 : Shape := ⟨3, ![4, 1024, 1792]⟩
abbrev S1024x4x1792 : Shape := ⟨3, ![1024, 4, 1792]⟩
abbrev S1024x7168 : Shape := ⟨2, ![1024, 7168]⟩
abbrev S2048x7168 : Shape := ⟨2, ![2048, 7168]⟩
abbrev S2048x7x1024 : Shape := ⟨3, ![2048, 7, 1024]⟩
abbrev S7x2048x1024 : Shape := ⟨3, ![7, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1792, .bf16⟩
  | .hbm, ⟨2, _⟩ => ⟨S2048x1024, .f32⟩
  | .hbm, ⟨3, _⟩ => ⟨S4x1024x1792, .f32⟩
  | .hbm, ⟨4, _⟩ => ⟨S1024x4x1792, .f32⟩
  | .hbm, ⟨5, _⟩ => ⟨S1024x7168, .f32⟩
  | .hbm, ⟨6, _⟩ => ⟨S2048x7168, .f32⟩
  | .hbm, ⟨7, _⟩ => ⟨S2048x7x1024, .f32⟩
  | .hbm, ⟨8, _⟩ => ⟨S7x2048x1024, .f32⟩
  | .hbm, ⟨9, _⟩ => ⟨S7x2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== OddFwd.lean ====
abbrev S2048x1024 : Shape := ⟨2, ![2048, 1024]⟩
abbrev S4x1024x1024 : Shape := ⟨3, ![4, 1024, 1024]⟩
abbrev S2x2048x2048 : Shape := ⟨3, ![2, 2048, 2048]⟩
abbrev S1x1024x512 : Shape := ⟨3, ![1, 1024, 512]⟩
abbrev S1x2048x1024 : Shape := ⟨3, ![1, 2048, 1024]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2x2048x2048, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x2048x1024, .bf16⟩
  | .local _ .vmem, ⟨6, _⟩ => ⟨S1x2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c2_i32_6 : BitVec 32 := 2#32
  let v19 : BitVec 32 := Scalar.muli c2_i32_6 arg0
  let c0_i32_7 : BitVec 32 := 0#32
  let v20 : BitVec 32 := Scalar.addi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let v19 : BitVec 32 := Scalar.muli c2_i32_6 arg0
  let c1_i32_7 : BitVec 32 := 1#32
  let v20 : BitVec 32 := Scalar.addi v19 c1_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddFwdRefIdeal.lean ====
abbrev S2048x1024 : Shape := ⟨2, ![2048, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x4096 : Shape := ⟨2, ![2048, 4096]⟩
abbrev S2048x2x2048 : Shape := ⟨3, ![2048, 2, 2048]⟩
abbrev S2x2048x2048 : Shape := ⟨3, ![2, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S2048x4096, .f32⟩
  | .hbm, ⟨7, _⟩ => ⟨S2048x2x2048, .f32⟩
  | .hbm, ⟨8, _⟩ => ⟨S2x2048x2048, .f32⟩
  | .hbm, ⟨9, _⟩ => ⟨S2x2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== OutProj.lean ====
abbrev S2x2048x1024 : Shape := ⟨3, ![2, 2048, 1024]⟩
abbrev S4x512x1024 : Shape := ⟨3, ![4, 512, 1024]⟩
abbrev S2048x1024 : Shape := ⟨2, ![2048, 1024]⟩
abbrev S1x1024 : Shape := ⟨2, ![1, 1024]⟩
abbrev S2x1024x1024 : Shape := ⟨3, ![2, 1024, 1024]⟩
abbrev S2x512x1024 : Shape := ⟨3, ![2, 512, 1024]⟩
abbrev S512x1024 : Shape := ⟨2, ![512, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S2x2048x1024, .bf16⟩
  | .hbm, ⟨1, _⟩ => ⟨S4x512x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2x1024x1024, .bf16⟩
  | .hbm, ⟨8, _⟩ => ⟨S2048x1024, .f32⟩
  | .hbm, ⟨9, _⟩ => ⟨S2048x1024, .bf16⟩
  | .hbm, ⟨10, _⟩ => ⟨S2048x1024, .bf16⟩
  | .local _ .vmem, ⟨0, _⟩ => ⟨S2x512x1024, .bf16⟩
  | .local _ .vmem, ⟨1, _⟩ => ⟨S2x512x1024, .bf16⟩
  | .local _ .vmem, ⟨2, _⟩ => ⟨S2x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S2x2048x1024 : Shape := ⟨3, ![2, 2048, 1024]⟩
abbrev S4x512x1024 : Shape := ⟨3, ![4, 512, 1024]⟩
abbrev S2048x1024 : Shape := ⟨2, ![2048, 1024]⟩
abbrev S1x1024 : Shape := ⟨2, ![1, 1024]⟩
abbrev S2048x2x1024 : Shape := ⟨3, ![2048, 2, 1024]⟩
abbrev S2048x2048 : Shape := ⟨2, ![2048, 2048]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S4x512x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2x2048x1024, .f32⟩
  | .hbm, ⟨8, _⟩ => ⟨S2048x2x1024, .f32⟩
  | .hbm, ⟨9, _⟩ => ⟨S2048x2048, .f32⟩
  | .hbm, ⟨10, _⟩ => ⟨S4x512x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .bf16⟩
  | .hbm, ⟨41, _⟩ => ⟨S2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== OutProjLast.lean ====
abbrev S2x2048x1024 : Shape := ⟨3, ![2, 2048, 1024]⟩
abbrev S4x512x1024 : Shape := ⟨3, ![4, 512, 1024]⟩
abbrev S2048x1024 : Shape := ⟨2, ![2048, 1024]⟩
abbrev S1x1024 : Shape := ⟨2, ![1, 1024]⟩
abbrev S2x1024x1024 : Shape := ⟨3, ![2, 1024, 1024]⟩
abbrev S2x512x1024 : Shape := ⟨3, ![2, 512, 1024]⟩
abbrev S512x1024 : Shape := ⟨2, ![512, 1024]⟩
abbrev S1x512x1024 : Shape := ⟨3, ![1, 512, 1024]⟩
abbrev S1x1024x1024 : Shape := ⟨3, ![1, 1024, 1024]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S2x2048x1024, .bf16⟩
  | .hbm, ⟨1, _⟩ => ⟨S4x512x1024, .bf16⟩
  | .hbm, ⟨2, _⟩ => ⟨S2048x1024, .f32⟩
  | .hbm, ⟨3, _⟩ => ⟨S1x1024, .f32⟩
  | .hbm, ⟨4, _⟩ => ⟨S2x1024x1024, .bf16⟩
  | .hbm, ⟨5, _⟩ => ⟨S2048x1024, .f32⟩
  | .hbm, ⟨6, _⟩ => ⟨S2048x1024, .bf16⟩
  | .local _ .vmem, ⟨0, _⟩ => ⟨S2x512x1024, .bf16⟩
  | .local _ .vmem, ⟨1, _⟩ => ⟨S2x512x1024, .bf16⟩
  | .local _ .vmem, ⟨2, _⟩ => ⟨S2x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjLastRefIdeal.lean ====
abbrev S2x2048x1024 : Shape := ⟨3, ![2, 2048, 1024]⟩
abbrev S4x512x1024 : Shape := ⟨3, ![4, 512, 1024]⟩
abbrev S2048x1024 : Shape := ⟨2, ![2048, 1024]⟩
abbrev S1x1024 : Shape := ⟨2, ![1, 1024]⟩
abbrev S2048x2x1024 : Shape := ⟨3, ![2048, 2, 1024]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S4x512x1024, .bf16⟩
  | .hbm, ⟨2, _⟩ => ⟨S2048x1024, .f32⟩
  | .hbm, ⟨3, _⟩ => ⟨S1x1024, .f32⟩
  | .hbm, ⟨4, _⟩ => ⟨S2x2048x1024, .f32⟩
  | .hbm, ⟨5, _⟩ => ⟨S2048x2x1024, .f32⟩
  | .hbm, ⟨6, _⟩ => ⟨S2048x2048, .f32⟩
  | .hbm, ⟨7, _⟩ => ⟨S4x512x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== OddMixFwd.lean ====
abbrev S2x2048x2048 : Shape := ⟨3, ![2, 2048, 2048]⟩
abbrev S4x512x512 : Shape := ⟨3, ![4, 512, 512]⟩
abbrev S1x2048 : Shape := ⟨2, ![1, 2048]⟩
abbrev S2x2048x1024 : Shape := ⟨3, ![2, 2048, 1024]⟩
abbrev S1x2048x512 : Shape := ⟨3, ![1, 2048, 512]⟩
abbrev S4x128x512 : Shape := ⟨3, ![4, 128, 512]⟩
abbrev S1x512 : Shape := ⟨2, ![1, 512]⟩
abbrev S512x512 : Shape := ⟨2, ![512, 512]⟩
abbrev S16x512 : Shape := ⟨2, ![16, 512]⟩
abbrev S1x512x512 : Shape := ⟨3, ![1, 512, 512]⟩
abbrev S528x512 : Shape := ⟨2, ![528, 512]⟩
abbrev S512x1 : Shape := ⟨2, ![512, 1]⟩

abbrev nBuf : Space → Nat
  | .hbm => 4
  | .vmem => 10
  | .smem => 0
  | _ => 0

abbrev bufTy : (tb : Table) → Fin (tcTables nBuf tb) → BufTy
  | .hbm, ⟨0, _⟩ => ⟨S2x2048x2048, .bf16⟩
  | .hbm, ⟨1, _⟩ => ⟨S4x512x512, .bf16⟩
  | .hbm, ⟨2, _⟩ => ⟨S1x2048, .f32⟩
  | .hbm, ⟨3, _⟩ => ⟨S2x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S4x128x512, .bf16⟩
  | .local _ .vmem, ⟨5, _⟩ => ⟨S4x128x512, .bf16⟩
  | .local _ .vmem, ⟨6, _⟩ => ⟨S1x512, .f32⟩
  | .local _ .vmem, ⟨7, _⟩ => ⟨S1x512, .f32⟩
  | .local _ .vmem, ⟨8, _⟩ => ⟨S1x2048x512, .bf16⟩
  | .local _ .vmem, ⟨9, _⟩ => ⟨S1x2048x512, .bf16⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_4 : BitVec 32 := 0#32
  let v5 : BitVec 1 := Scalar.cmpi .ne v4 c0_i32_4
  v5

@[reducible] def k0_t1_loop : Scf.Loop 32 :=
  let c0_i32_8 : BitVec 32 := 0#32
  let c4_i32 : BitVec 32 := 4#32
  let v16 : BitVec 32 := Scalar.addi c0_i32_8 c4_i32
  let c1_i32_9 : BitVec 32 := 1#32
  ⟨c0_i32_8, v16, c1_i32_9⟩
def k0_mult1 (k0_t1 : Fin k0_t1_loop.trips) : BitVec 32 :=
  let c0_i32_8 : BitVec 32 := 0#32
  let c1_i32_9 : BitVec 32 := 1#32
  let arg6 : BitVec 32 := Scf.iv c0_i32_8 c1_i32_9 k0_t1
  let c512_i32 : BitVec 32 := 512#32
  let v18 : BitVec 32 := Scalar.muli arg6 c512_i32
  v18
def k0_off1 (k0_t1 : Fin k0_t1_loop.trips) : Fin 3 → Nat :=
  let c0_11 : Index := 0#32
  let c0_i32_8 : BitVec 32 := 0#32
  let c1_i32_9 : BitVec 32 := 1#32
  let arg6 : BitVec 32 := Scf.iv c0_i32_8 c1_i32_9 k0_t1
  let c512_i32 : BitVec 32 := 512#32
  let v18 : BitVec 32 := Scalar.muli arg6 c512_i32
  let v19 : BitVec 32 := v18
  let v20 : Index := Scalar.indexCast v19
  let c0_12 : Index := 0#32
  ![0, v20.toNat, 0]
def k0_cond2 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_5 : BitVec 32 := 0#32
  let v8 : BitVec 1 := Scalar.cmpi .ne v7 c0_i32_5
  v8

@[reducible] def k0_t2_loop : Scf.Loop 32 :=
  let c0_i32_8 : BitVec 32 := 0#32
  let c4_i32 : BitVec 32 := 4#32
  let v16 : BitVec 32 := Scalar.addi c0_i32_8 c4_i32
  let c1_i32_9 : BitVec 32 := 1#32
  ⟨c0_i32_8, v16, c1_i32_9⟩
def k0_mult2 (k0_t2 : Fin k0_t2_loop.trips) : BitVec 32 :=
  let c0_i32_8 : BitVec 32 := 0#32
  let c1_i32_9 : BitVec 32 := 1#32
  let arg6 : BitVec 32 := Scf.iv c0_i32_8 c1_i32_9 k0_t2
  let c512_i32 : BitVec 32 := 512#32
  let v18 : BitVec 32 := Scalar.muli arg6 c512_i32
  v18
def k0_off2 (k0_t2 : Fin k0_t2_loop.trips) : Fin 3 → Nat :=
  let c0_11 : Index := 0#32
  let c0_i32_8 : BitVec 32 := 0#32
  let c1_i32_9 : BitVec 32 := 1#32
  let arg6 : BitVec 32 := Scf.iv c0_i32_8 c1_i32_9 k0_t2
  let c512_i32 : BitVec 32 := 512#32
  let v18 : BitVec 32 := Scalar.muli arg6 c512_i32
  let v19 : BitVec 32 := v18
  let v20 : Index := Scalar.indexCast v19
  let c0_12 : Index := 0#32
  ![0, v20.toNat, 0]
def k0_cond3 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_6 : BitVec 32 := 0#32
  let v11 : BitVec 1 := Scalar.cmpi .ne v10 c0_i32_6
  v11

@[reducible] def k0_t3_loop : Scf.Loop 32 :=
  let c0_i32_8 : BitVec 32 := 0#32
  let c4_i32 : BitVec 32 := 4#32
  let v16 : BitVec 32 := Scalar.addi c0_i32_8 c4_i32
  let c1_i32_9 : BitVec 32 := 1#32
  ⟨c0_i32_8, v16, c1_i32_9⟩
def k0_mult3 (k0_t3 : Fin k0_t3_loop.trips) : BitVec 32 :=
  let c0_i32_8 : BitVec 32 := 0#32
  let c1_i32_9 : BitVec 32 := 1#32
  let arg6 : BitVec 32 := Scf.iv c0_i32_8 c1_i32_9 k0_t3
  let c512_i32 : BitVec 32 := 512#32
  let v18 : BitVec 32 := Scalar.muli arg6 c512_i32
  v18
def k0_off3 (k0_t3 : Fin k0_t3_loop.trips) : Fin 3 → Nat :=
  let c0_11 : Index := 0#32
  let c0_i32_8 : BitVec 32 := 0#32
  let c1_i32_9 : BitVec 32 := 1#32
  let arg6 : BitVec 32 := Scf.iv c0_i32_8 c1_i32_9 k0_t3
  let c512_i32 : BitVec 32 := 512#32
  let v18 : BitVec 32 := Scalar.muli arg6 c512_i32
  let v19 : BitVec 32 := v18
  let v20 : Index := Scalar.indexCast v19
  let c0_12 : Index := 0#32
  ![0, v20.toNat, 0]
def k0_cond4 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_7 : BitVec 32 := 0#32
  let v14 : BitVec 1 := Scalar.cmpi .ne v13 c0_i32_7
  v14

@[reducible] def k0_t4_loop : Scf.Loop 32 :=
  let c0_i32_8 : BitVec 32 := 0#32
  let c4_i32 : BitVec 32 := 4#32
  let v16 : BitVec 32 := Scalar.addi c0_i32_8 c4_i32
  let c1_i32_9 : BitVec 32 := 1#32
  ⟨c0_i32_8, v16, c1_i32_9⟩
def k0_mult4 (k0_t4 : Fin k0_t4_loop.trips) : BitVec 32 :=
  let c0_i32_8 : BitVec 32 := 0#32
  let c1_i32_9 : BitVec 32 := 1#32
  let arg6 : BitVec 32 := Scf.iv c0_i32_8 c1_i32_9 k0_t4
  let c512_i32 : BitVec 32 := 512#32
  let v18 : BitVec 32 := Scalar.muli arg6 c512_i32
  v18
def k0_off4 (k0_t4 : Fin k0_t4_loop.trips) : Fin 3 → Nat :=
  let c0_11 : Index := 0#32
  let c0_i32_8 : BitVec 32 := 0#32
  let c1_i32_9 : BitVec 32 := 1#32
  let arg6 : BitVec 32 := Scf.iv c0_i32_8 c1_i32_9 k0_t4
  let c512_i32 : BitVec 32 := 512#32
  let v18 : BitVec 32 := Scalar.muli arg6 c512_i32
  let v19 : BitVec 32 := v18
  let v20 : Index := Scalar.indexCast v19
  let c0_12 : Index := 0#32
  ![0, v20.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OddMixFwdRefIdeal.lean ====
abbrev S2x2048x2048 : Shape := ⟨3, ![2, 2048, 2048]⟩
abbrev S4x512x512 : Shape := ⟨3, ![4, 512, 512]⟩
abbrev S1x2048 : Shape := ⟨2, ![1, 2048]⟩
abbrev S1x2048x2048 : Shape := ⟨3, ![1, 2048, 2048]⟩
abbrev S2048x2048 : Shape := ⟨2, ![2048, 2048]⟩
abbrev S4x4x128x512 : Shape := ⟨4, ![4, 4, 128, 512]⟩
abbrev S2048 : Shape := ⟨1, ![2048]⟩
abbrev S_ : Shape := ⟨0, ![]⟩
abbrev S1x1x1 : Shape := ⟨3, ![1, 1, 1]⟩
abbrev S4x1x1 : Shape := ⟨3, ![4, 1, 1]⟩
abbrev S4x2048x2048 : Shape := ⟨3, ![4, 2048, 2048]⟩
abbrev S2048x4x512 : Shape := ⟨3, ![2048, 4, 512]⟩
abbrev S2048x4x1 : Shape := ⟨3, ![2048, 4, 1]⟩
abbrev S1x4x1 : Shape := ⟨3, ![1, 4, 1]⟩
abbrev S4x512x2048 : Shape := ⟨3, ![4, 512, 2048]⟩
abbrev S2048x2x1024 : Shape := ⟨3, ![2048, 2, 1024]⟩
abbrev S2x2048x1024 : Shape := ⟨3, ![2, 2048, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S4x512x512, .bf16⟩
  | .hbm, ⟨2, _⟩ => ⟨S1x2048, .f32⟩
  | .hbm, ⟨3, _⟩ => ⟨S2x2048x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S4x512x512, .f32⟩
  | .hbm, ⟨9, _⟩ => ⟨S4x4x128x512, .f32⟩
  | .hbm, ⟨10, _⟩ => ⟨S4x4x128x512, .f32⟩
  | .hbm, ⟨11, _⟩ => ⟨S4x512x512, .f32⟩
  | .hbm, ⟨12, _⟩ => ⟨S2048, .f32⟩
  | .hbm, ⟨13, _⟩ => ⟨S_, .i32⟩
  | .hbm, ⟨14, _⟩ => ⟨S1x1x1, .i32⟩
  | .hbm, ⟨15, _⟩ => ⟨S_, .i32⟩
  | .hbm, ⟨16, _⟩ => ⟨S1x1x1, .i32⟩
  | .hbm, ⟨17, _⟩ => ⟨S_, .i32⟩
  | .hbm, ⟨18, _⟩ => ⟨S1x1x1, .i32⟩
  | .hbm, ⟨19, _⟩ => ⟨S_, .i32⟩
  | .hbm, ⟨20, _⟩ => ⟨S1x1x1, .i32⟩
  | .hbm, ⟨21, _⟩ => ⟨S4x1x1, .i32⟩
  | .hbm, ⟨22, _⟩ => ⟨S4x2048x2048, .i32⟩
  | .hbm, ⟨23, _⟩ => ⟨S4x2048x2048, .i32⟩
  | .hbm, ⟨24, _⟩ => ⟨S4x2048x2048, .i1⟩
  | .hbm, ⟨25, _⟩ => ⟨S4x2048x2048, .i32⟩
  | .hbm, ⟨26, _⟩ => ⟨S4x2048x2048, .i32⟩
  | .hbm, ⟨27, _⟩ => ⟨S4x2048x2048, .i1⟩
  | .hbm, ⟨28, _⟩ => ⟨S4x2048x2048, .i1⟩
  | .hbm, ⟨29, _⟩ => ⟨S_, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S2048x4x512, .f32⟩
  | .hbm, ⟨35, _⟩ => ⟨S2048x4x1, .i32⟩
  | .hbm, ⟨36, _⟩ => ⟨S_, .i32⟩
  | .hbm, ⟨37, _⟩ => ⟨S2048x4x1, .i32⟩
  | .hbm, ⟨38, _⟩ => ⟨S2048x4x1, .i32⟩
  | .hbm, ⟨39, _⟩ => ⟨S1x4x1, .i32⟩
  | .hbm, ⟨40, _⟩ => ⟨S2048x4x1, .i32⟩
  | .hbm, ⟨41, _⟩ => ⟨S2048x4x1, .i32⟩
  | .hbm, ⟨42, _⟩ => ⟨S2048x4x1, .f32⟩
  | .hbm, ⟨43, _⟩ => ⟨S4x512x2048, .f32⟩
  | .hbm, ⟨44, _⟩ => ⟨S2048x4x512, .f32⟩
  | .hbm, ⟨45, _⟩ => ⟨S2048x4x512, .f32⟩
  | .hbm, ⟨46, _⟩ => ⟨S2048x4x512, .f32⟩
  | .hbm, ⟨47, _⟩ => ⟨S2048x4x512, .f32⟩
  | .hbm, ⟨48, _⟩ => ⟨S4x512x2048, .f32⟩
  | .hbm, ⟨49, _⟩ => ⟨S2048x4x512, .f32⟩
  | .hbm, ⟨50, _⟩ => ⟨S2048x2048, .f32⟩
  | .hbm, ⟨51, _⟩ => ⟨S1x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2x1024, .f32⟩
  | .hbm, ⟨65, _⟩ => ⟨S2x2048x1024, .f32⟩
  | .hbm, ⟨66, _⟩ => ⟨S2x2048x1024, .bf16⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== EvenMixFwd.lean ====
abbrev S7x2048x1024 : Shape := ⟨3, ![7, 2048, 1024]⟩
abbrev S3x1024 : Shape := ⟨2, ![3, 1024]⟩
abbrev S1x1024 : Shape := ⟨2, ![1, 1024]⟩
abbrev S8x128x128 : Shape := ⟨3, ![8, 128, 128]⟩
abbrev S8x128 : Shape := ⟨2, ![8, 128]⟩
abbrev S8x128x1 : Shape := ⟨3, ![8, 128, 1]⟩
abbrev S2x2048x1024 : Shape := ⟨3, ![2, 2048, 1024]⟩
abbrev S7x2048x128 : Shape := ⟨3, ![7, 2048, 128]⟩
abbrev S3x128 : Shape := ⟨2, ![3, 128]⟩
abbrev S1x128 : Shape := ⟨2, ![1, 128]⟩
abbrev S1x128x128 : Shape := ⟨3, ![1, 128, 128]⟩
abbrev S2x2048x128 : Shape := ⟨3, ![2, 2048, 128]⟩
abbrev S128x128 : Shape := ⟨2, ![128, 128]⟩
abbrev S1x512x128 : Shape := ⟨3, ![1, 512, 128]⟩
abbrev S512x128 : Shape := ⟨2, ![512, 128]⟩
abbrev S520x128 : Shape := ⟨2, ![520, 128]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S7x2048x1024, .bf16⟩
  | .hbm, ⟨1, _⟩ => ⟨S3x1024, .f32⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S8x128x1, .f32⟩
  | .hbm, ⟨7, _⟩ => ⟨S8x128x128, .f32⟩
  | .hbm, ⟨8, _⟩ => ⟨S2x2048x1024, .bf16⟩
  | .local _ .vmem, ⟨0, _⟩ => ⟨S7x2048x128, .bf16⟩
  | .local _ .vmem, ⟨1, _⟩ => ⟨S7x2048x128, .bf16⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S2x2048x128, .bf16⟩
  | .local _ .vmem, ⟨13, _⟩ => ⟨S2x2048x128, .bf16⟩
  | _, _ => ⟨S7x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v16 : BitVec 32 := Scalar.addi c0_i32 c4_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v18 : BitVec 32 := Scalar.muli arg8 c512_i32
  v18
def k0_off1 (k0_t1 : Fin k0_t1_loop.trips) : Fin 3 → Nat :=
  let c0_15 : Index := 0#32
  let c0_i32 : BitVec 32 := 0#32
  let c1_i32 : BitVec 32 := 1#32
  let arg8 : BitVec 32 := Scf.iv c0_i32 c1_i32 k0_t1
  let c512_i32 : BitVec 32 := 512#32
  let v18 : BitVec 32 := Scalar.muli arg8 c512_i32
  let v19 : BitVec 32 := v18
  let v20 : Index := Scalar.indexCast v19
  let c0_16 : Index := 0#32
  ![0, v20.toNat, 0]
def k0_off2 (k0_t1 : Fin k0_t1_loop.trips) : Fin 3 → Nat :=
  let c1_17 : Index := 1#32
  let c0_i32 : BitVec 32 := 0#32
  let c1_i32 : BitVec 32 := 1#32
  let arg8 : BitVec 32 := Scf.iv c0_i32 c1_i32 k0_t1
  let c512_i32 : BitVec 32 := 512#32
  let v18 : BitVec 32 := Scalar.muli arg8 c512_i32
  let v19 : BitVec 32 := v18
  let v24 : Index := Scalar.indexCast v19
  let c0_18 : Index := 0#32
  ![1, v24.toNat, 0]
def k0_off3 (k0_t1 : Fin k0_t1_loop.trips) : Fin 3 → Nat :=
  let c2_19 : Index := 2#32
  let c0_i32 : BitVec 32 := 0#32
  let c1_i32 : BitVec 32 := 1#32
  let arg8 : BitVec 32 := Scf.iv c0_i32 c1_i32 k0_t1
  let c512_i32 : BitVec 32 := 512#32
  let v18 : BitVec 32 := Scalar.muli arg8 c512_i32
  let v19 : BitVec 32 := v18
  let v28 : Index := Scalar.indexCast v19
  let c0_20 : Index := 0#32
  ![2, v28.toNat, 0]
def k0_off4 (k0_t1 : Fin k0_t1_loop.trips) : Fin 3 → Nat :=
  let c3 : Index := 3#32
  let c0_i32 : BitVec 32 := 0#32
  let c1_i32 : BitVec 32 := 1#32
  let arg8 : BitVec 32 := Scf.iv c0_i32 c1_i32 k0_t1
  let c512_i32 : BitVec 32 := 512#32
  let v18 : BitVec 32 := Scalar.muli arg8 c512_i32
  let v19 : BitVec 32 := v18
  let v32 : Index := Scalar.indexCast v19
  let c0_21 : Index := 0#32
  ![3, v32.toNat, 0]
def k0_off5 (k0_t1 : Fin k0_t1_loop.trips) : Fin 3 → Nat :=
  let c4 : Index := 4#32
  let c0_i32 : BitVec 32 := 0#32
  let c1_i32 : BitVec 32 := 1#32
  let arg8 : BitVec 32 := Scf.iv c0_i32 c1_i32 k0_t1
  let c512_i32 : BitVec 32 := 512#32
  let v18 : BitVec 32 := Scalar.muli arg8 c512_i32
  let v19 : BitVec 32 := v18
  let v36 : Index := Scalar.indexCast v19
  let c0_22 : Index := 0#32
  ![4, v36.toNat, 0]
def k0_off6 (k0_t1 : Fin k0_t1_loop.trips) : Fin 3 → Nat :=
  let c5 : Index := 5#32
  let c0_i32 : BitVec 32 := 0#32
  let c1_i32 : BitVec 32 := 1#32
  let arg8 : BitVec 32 := Scf.iv c0_i32 c1_i32 k0_t1
  let c512_i32 : BitVec 32 := 512#32
  let v18 : BitVec 32 := Scalar.muli arg8 c512_i32
  let v19 : BitVec 32 := v18
  let v40 : Index := Scalar.indexCast v19
  let c0_23 : Index := 0#32
  ![5, v40.toNat, 0]
def k0_off7 (k0_t1 : Fin k0_t1_loop.trips) : Fin 3 → Nat :=
  let c6 : Index := 6#32
  let c0_i32 : BitVec 32 := 0#32
  let c1_i32 : BitVec 32 := 1#32
  let arg8 : BitVec 32 := Scf.iv c0_i32 c1_i32 k0_t1
  let c512_i32 : BitVec 32 := 512#32
  let v18 : BitVec 32 := Scalar.muli arg8 c512_i32
  let v19 : BitVec 32 := v18
  let v44 : Index := Scalar.indexCast v19
  let c0_24 : Index := 0#32
  ![6, v44.toNat, 0]
def k0_off8 (k0_t1 : Fin k0_t1_loop.trips) : Fin 3 → Nat :=
  let c0_28 : Index := 0#32
  let c0_i32 : BitVec 32 := 0#32
  let c1_i32 : BitVec 32 := 1#32
  let arg8 : BitVec 32 := Scf.iv c0_i32 c1_i32 k0_t1
  let c512_i32 : BitVec 32 := 512#32
  let v18 : BitVec 32 := Scalar.muli arg8 c512_i32
  let v19 : BitVec 32 := v18
  let v72 : Index := Scalar.indexCast v19
  let c0_29 : Index := 0#32
  ![0, v72.toNat, 0]
def k0_off9 (k0_t1 : Fin k0_t1_loop.trips) : Fin 3 → Nat :=
  let c1_41 : Index := 1#32
  let c0_i32 : BitVec 32 := 0#32
  let c1_i32 : BitVec 32 := 1#32
  let arg8 : BitVec 32 := Scf.iv c0_i32 c1_i32 k0_t1
  let c512_i32 : BitVec 32 := 512#32
  let v18 : BitVec 32 := Scalar.muli arg8 c512_i32
  let v19 : BitVec 32 := v18
  let v120 : Index := Scalar.indexCast v19
  let c0_42 : Index := 0#32
  ![1, v120.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S7x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvenMixFwdRefIdeal.lean ====
abbrev S7x2048x1024 : Shape := ⟨3, ![7, 2048, 1024]⟩
abbrev S3x1024 : Shape := ⟨2, ![3, 1024]⟩
abbrev S1x1024 : Shape := ⟨2, ![1, 1024]⟩
abbrev S8x128x128 : Shape := ⟨3, ![8, 128, 128]⟩
abbrev S8x128 : Shape := ⟨2, ![8, 128]⟩
abbrev S8x128x1 : Shape := ⟨3, ![8, 128, 1]⟩
abbrev S1024 : Shape := ⟨1, ![1024]⟩
abbrev S1x2048x1024 : Shape := ⟨3, ![1, 2048, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S2048x8x128 : Shape := ⟨3, ![2048, 8, 128]⟩
abbrev S2048x8 : Shape := ⟨2, ![2048, 8]⟩
abbrev S2048x8x1 : Shape := ⟨3, ![2048, 8, 1]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8x128 : Shape := ⟨3, ![128, 8, 128]⟩
abbrev S1x128x8x128 : Shape := ⟨4, ![1, 128, 8, 128]⟩
abbrev S2x2048x1024 : Shape := ⟨3, ![2, 2048, 1024]⟩

abbrev nBuf : Space → Nat
  | .hbm => 130
  | .vmem => 0
  | .smem => 0
  | _ => 0

abbrev hbmTy0_0 (i : Nat) : BufTy := match i % 128 with
  | 0 => ⟨S7x2048x1024, .bf16⟩
  | 1 => ⟨S3x1024, .f32⟩
  | 2 => ⟨S1x1024, .f32⟩
  | 3 => ⟨S1x1024, .f32⟩
  | 4 => ⟨S8x128x128, .f32⟩
  | 5 => ⟨S8x128, .f32⟩
  | 6 => ⟨S8x128x1, .f32⟩
  | 7 => ⟨S8x128x128, .f32⟩
  | 8 => ⟨S7x2048x1024, .f32⟩
  | 9 => ⟨S1024, .f32⟩
  | 10 => ⟨S1024, .f32⟩
  | 11 => ⟨S1x2048x1024, .f32⟩
  | 12 => ⟨S2048x1024, .f32⟩
  | 13 => ⟨S1x2048x1024, .f32⟩
  | 14 => ⟨S2048x1024, .f32⟩
  | 15 => ⟨S1x2048x1024, .f32⟩
  | 16 => ⟨S2048x1024, .f32⟩
  | 17 => ⟨S1x2048x1024, .f32⟩
  | 18 => ⟨S2048x1024, .f32⟩
  | 19 => ⟨S1x2048x1024, .f32⟩
  | 20 => ⟨S2048x1024, .f32⟩
  | 21 => ⟨S1x2048x1024, .f32⟩
  | 22 => ⟨S2048x1024, .f32⟩
  | 23 => ⟨S1x2048x1024, .f32⟩
  | 24 => ⟨S2048x1024, .f32⟩
  | 25 => ⟨S2048x1024, .f32⟩
  | 26 => ⟨S_, .f32⟩
  | 27 => ⟨S2x1024, .f32⟩
  | 28 => ⟨S2050x1024, .f32⟩
  | 29 => ⟨S2048x1024, .f32⟩
  | 30 => ⟨S1x1024, .f32⟩
  | 31 => ⟨S1024, .f32⟩
  | 32 => ⟨S1x1024, .f32⟩
  | 33 => ⟨S2048x1024, .f32⟩
  | 34 => ⟨S2048x1024, .f32⟩
  | 35 => ⟨S2048x1024, .f32⟩
  | 36 => ⟨S1x1024, .f32⟩
  | 37 => ⟨S1024, .f32⟩
  | 38 => ⟨S1x1024, .f32⟩
  | 39 => ⟨S2048x1024, .f32⟩
  | 40 => ⟨S2048x1024, .f32⟩
  | 41 => ⟨S2048x1024, .f32⟩
  | 42 => ⟨S2048x1024, .f32⟩
  | 43 => ⟨S1x1024, .f32⟩
  | 44 => ⟨S1024, .f32⟩
  | 45 => ⟨S1x1024, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S_, .f32⟩
  | 56 => ⟨S2048x1024, .f32⟩
  | 57 => ⟨S2048x1024, .f32⟩
  | 58 => ⟨S2048x1024, .f32⟩
  | 59 => ⟨S2048x1024, .f32⟩
  | 60 => ⟨S2048x8x128, .f32⟩
  | 61 => ⟨S_, .f32⟩
  | 62 => ⟨S2048x8, .f32⟩
  | 63 => ⟨S2048x8x1, .f32⟩
  | 64 => ⟨S_, .f32⟩
  | 65 => ⟨S2048x8x1, .f32⟩
  | 66 => ⟨S2048x8x1, .f32⟩
  | 67 => ⟨S2048x8x128, .f32⟩
  | 68 => ⟨S2048x8x128, .f32⟩
  | 69 => ⟨S2048x8x128, .f32⟩
  | 70 => ⟨S_, .f32⟩
  | 71 => ⟨S2048x8, .f32⟩
  | 72 => ⟨S2048x8x1, .f32⟩
  | 73 => ⟨S_, .f32⟩
  | 74 => ⟨S2048x8x1, .f32⟩
  | 75 => ⟨S2048x8x1, .f32⟩
  | 76 => ⟨S2048x8x128, .f32⟩
  | 77 => ⟨S2048x8x128, .f32⟩
  | 78 => ⟨S_, .f32⟩
  | 79 => ⟨S2048x8x1, .f32⟩
  | 80 => ⟨S2048x8x1, .f32⟩
  | 81 => ⟨S2048x8x1, .f32⟩
  | 82 => ⟨S2048x8x128, .f32⟩
  | 83 => ⟨S2048x8x128, .f32⟩
  | 84 => ⟨S2048x1024, .f32⟩
  | 85 => ⟨S1x1024, .f32⟩
  | 86 => ⟨S2048x1024, .f32⟩
  | 87 => ⟨S2048x1024, .f32⟩
  | 88 => ⟨S1x1024, .f32⟩
  | 89 => ⟨S2048x1024, .f32⟩
  | 90 => ⟨S2048x1024, .f32⟩
  | 91 => ⟨S16x128x8x128, .f32⟩
  | 92 => ⟨S_, .i1⟩
  | 93 => ⟨S128x128, .i1⟩
  | 94 => ⟨S128x128, .i32⟩
  | 95 => ⟨S_, .i32⟩
  | 96 => ⟨S128x128, .i32⟩
  | 97 => ⟨S128x128, .i32⟩
  | 98 => ⟨S128x128, .i32⟩
  | 99 => ⟨S128x128, .i1⟩
  | 100 => ⟨S_, .i1⟩
  | 101 => ⟨S128x128, .i1⟩
  | 102 => ⟨S128x128, .i1⟩
  | 103 => ⟨S1x128x128, .i1⟩
  | 104 => ⟨S_, .f32⟩
  | 105 => ⟨S8x128x128, .f32⟩
  | 106 => ⟨S8x128x128, .i1⟩
  | 107 => ⟨S8x128x128, .f32⟩
  | 108 => ⟨S8x16x128x128, .f32⟩
  | 109 => ⟨S16x128x8x128, .f32⟩
  | 110 => ⟨S128x8x128, .f32⟩
  | 111 => ⟨S1x128x8x128, .f32⟩
  | 112 => ⟨S16x128x8x128, .f32⟩
  | 113 => ⟨S16x128x8x128, .f32⟩
  | 114 => ⟨S2048x1024, .f32⟩
  | 115 => ⟨S2048x1024, .f32⟩
  | 116 => ⟨S2048x1024, .f32⟩
  | 117 => ⟨S2048x1024, .f32⟩
  | 118 => ⟨S_, .f32⟩
  | 119 => ⟨S2048x1024, .f32⟩
  | 120 => ⟨S2048x1024, .f32⟩
  | 121 => ⟨S_, .f32⟩
  | 122 => ⟨S2048x1024, .f32⟩
  | 123 => ⟨S2048x1024, .f32⟩
  | 124 => ⟨S2048x1024, .f32⟩
  | 125 => ⟨S2048x1024, .f32⟩
  | 126 => ⟨S1x2048x1024, .f32⟩
  | 127 => ⟨S1x2048x1024, .f32⟩
  | _ => ⟨S7x2048x1024, .bf16⟩

abbrev hbmTy0_1 (i : Nat) : BufTy := match i % 128 with
  | 0 => ⟨S2x2048x1024, .f32⟩
  | 1 => ⟨S2x2048x1024, .bf16⟩
  | _ => ⟨S7x2048x1024, .bf16⟩

abbrev hbmTy (i : Nat) : BufTy := match i / 128 with
  | 0 => hbmTy0_0 i
  | 1 => hbmTy0_1 i
  | _ => ⟨S7x2048x1024, .bf16⟩

abbrev bufTy : (tb : Table) → Fin (tcTables nBuf tb) → BufTy
  | .hbm, ⟨i, _⟩ => hbmTy i
  | _, _ => ⟨S7x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_0 : Ref sig .tc := ⟨.hbm, 61, rfl⟩
abbrev main_v46 : Ref sig .tc := ⟨.hbm, 62, rfl⟩
abbrev main_v47 : Ref sig .tc := ⟨.hbm, 63, rfl⟩
abbrev main_cst_1 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_2 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_4 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c : Ref sig .tc := ⟨.hbm, 92, rfl⟩
abbrev main_v72 : Ref sig .tc := ⟨.hbm, 93, rfl⟩
abbrev main_call1_v0 : Ref sig .tc := ⟨.hbm, 94, rfl⟩
abbrev main_call1_c : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_c_0 : Ref sig .tc := ⟨.hbm, 100, rfl⟩
abbrev main_call1_v5 : Ref sig .tc := ⟨.hbm, 101, rfl⟩
abbrev main_v73 : Ref sig .tc := ⟨.hbm, 102, rfl⟩
abbrev main_v74 : Ref sig .tc := ⟨.hbm, 103, rfl⟩
abbrev main_cst_5 : Ref sig .tc := ⟨.hbm, 104, rfl⟩
abbrev main_v75 : Ref sig .tc := ⟨.hbm, 105, rfl⟩
abbrev main_call2_v0 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]
-- ==== OddMixBwd.lean ====
abbrev S2x2048x2048 : Shape := ⟨3, ![2, 2048, 2048]⟩
abbrev S2x2048x1024 : Shape := ⟨3, ![2, 2048, 1024]⟩
abbrev S4x512x512 : Shape := ⟨3, ![4, 512, 512]⟩
abbrev S1x2048 : Shape := ⟨2, ![1, 2048]⟩
abbrev S1x2048x512 : Shape := ⟨3, ![1, 2048, 512]⟩
abbrev S4x128x512 : Shape := ⟨3, ![4, 128, 512]⟩
abbrev S1x512 : Shape := ⟨2, ![1, 512]⟩
abbrev S2x2048x512 : Shape := ⟨3, ![2, 2048, 512]⟩
abbrev S2048x512 : Shape := ⟨2, ![2048, 512]⟩
abbrev S512x512 : Shape := ⟨2, ![512, 512]⟩
abbrev S16x512 : Shape := ⟨2, ![16, 512]⟩
abbrev S1x512x512 : Shape := ⟨3, ![1, 512, 512]⟩
abbrev S512x1 : Shape := ⟨2, ![512, 1]⟩
abbrev S528x512 : Shape := ⟨2, ![528, 512]⟩
abbrev S512 : Shape := ⟨1, ![512]⟩

abbrev nBuf : Space → Nat
  | .hbm => 7
  | .vmem => 18
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x1024, .bf16⟩
  | .hbm, ⟨2, _⟩ => ⟨S4x512x512, .bf16⟩
  | .hbm, ⟨3, _⟩ => ⟨S1x2048, .f32⟩
  | .hbm, ⟨4, _⟩ => ⟨S2x2048x2048, .bf16⟩
  | .hbm, ⟨5, _⟩ => ⟨S4x512x512, .bf16⟩
  | .hbm, ⟨6, _⟩ => ⟨S1x2048, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S4x128x512, .bf16⟩
  | .local _ .vmem, ⟨7, _⟩ => ⟨S4x128x512, .bf16⟩
  | .local _ .vmem, ⟨8, _⟩ => ⟨S1x512, .f32⟩
  | .local _ .vmem, ⟨9, _⟩ => ⟨S1x512, .f32⟩
  | .local _ .vmem, ⟨10, _⟩ => ⟨S2x2048x512, .bf16⟩
  | .local _ .vmem, ⟨11, _⟩ => ⟨S2x2048x512, .bf16⟩
  | .local _ .vmem, ⟨12, _⟩ => ⟨S4x128x512, .bf16⟩
  | .local _ .vmem, ⟨13, _⟩ => ⟨S4x128x512, .bf16⟩
  | .local _ .vmem, ⟨14, _⟩ => ⟨S1x512, .f32⟩
  | .local _ .vmem, ⟨15, _⟩ => ⟨S1x512, .f32⟩
  | .local _ .vmem, ⟨16, _⟩ => ⟨S2048x512, .f32⟩
  | .local _ .vmem, ⟨17, _⟩ => ⟨S512x512, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_4 : BitVec 32 := 0#32
  let v5 : BitVec 1 := Scalar.cmpi .ne v4 c0_i32_4
  v5

@[reducible] def k0_t1_loop : Scf.Loop 32 :=
  let c0_i32_12 : BitVec 32 := 0#32
  let c4_i32 : BitVec 32 := 4#32
  let v21 : BitVec 32 := Scalar.addi c0_i32_12 c4_i32
  let c1_i32_13 : BitVec 32 := 1#32
  ⟨c0_i32_12, v21, c1_i32_13⟩
def k0_mult1 (k0_t1 : Fin k0_t1_loop.trips) : BitVec 32 :=
  let c0_i32_12 : BitVec 32 := 0#32
  let c1_i32_13 : BitVec 32 := 1#32
  let arg11 : BitVec 32 := Scf.iv c0_i32_12 c1_i32_13 k0_t1
  let c512_i32 : BitVec 32 := 512#32
  let v31 : BitVec 32 := Scalar.muli arg11 c512_i32
  v31
def k0_off1 (k0_t1 : Fin k0_t1_loop.trips) : Fin 3 → Nat :=
  let c0_27 : Index := 0#32
  let c0_i32_12 : BitVec 32 := 0#32
  let c1_i32_13 : BitVec 32 := 1#32
  let arg11 : BitVec 32 := Scf.iv c0_i32_12 c1_i32_13 k0_t1
  let c512_i32 : BitVec 32 := 512#32
  let v31 : BitVec 32 := Scalar.muli arg11 c512_i32
  let v32 : BitVec 32 := v31
  let v33 : Index := Scalar.indexCast v32
  let c0_28 : Index := 0#32
  ![0, v33.toNat, 0]
def k0_off2 (k0_t1 : Fin k0_t1_loop.trips) : Fin 3 → Nat :=
  let c1 : Index := 1#32
  let c0_i32_12 : BitVec 32 := 0#32
  let c1_i32_13 : BitVec 32 := 1#32
  let arg11 : BitVec 32 := Scf.iv c0_i32_12 c1_i32_13 k0_t1
  let c512_i32 : BitVec 32 := 512#32
  let v31 : BitVec 32 := Scalar.muli arg11 c512_i32
  let v32 : BitVec 32 := v31
  let v88 : Index := Scalar.indexCast v32
  let c0_44 : Index := 0#32
  ![1, v88.toNat, 0]
def k0_off3 (k0_t1 : Fin k0_t1_loop.trips) : Fin 2 → Nat :=
  let c0_i32_12 : BitVec 32 := 0#32
  let c1_i32_13 : BitVec 32 := 1#32
  let arg11 : BitVec 32 := Scf.iv c0_i32_12 c1_i32_13 k0_t1
  let c512_i32 : BitVec 32 := 512#32
  let v31 : BitVec 32 := Scalar.muli arg11 c512_i32
  let v32 : BitVec 32 := v31
  let v105 : Index := Scalar.indexCast v32
  let c0_51 : Index := 0#32
  ![v105.toNat, 0]
@[reducible] def k0_t2_loop : Scf.Loop 32 :=
  let c0_i32_23 : BitVec 32 := 0#32
  let c4_i32_24 : BitVec 32 := 4#32
  let v29 : BitVec 32 := Scalar.addi c0_i32_23 c4_i32_24
  let c1_i32_25 : BitVec 32 := 1#32
  ⟨c0_i32_23, v29, c1_i32_25⟩
def k0_mult2 (k0_t2 : Fin k0_t2_loop.trips) : BitVec 32 :=
  let c3_i32_27 : BitVec 32 := 3#32
  let c0_i32_23 : BitVec 32 := 0#32
  let c1_i32_25 : BitVec 32 := 1#32
  let arg11 : BitVec 32 := Scf.iv c0_i32_23 c1_i32_25 k0_t2
  let v31 : BitVec 32 := Scalar.subi c3_i32_27 arg11
  let c512_i32 : BitVec 32 := 512#32
  let v32 : BitVec 32 := Scalar.muli v31 c512_i32
  v32
def k0_off4 (k0_t2 : Fin k0_t2_loop.trips) : Fin 2 → Nat :=
  let c3_i32_27 : BitVec 32 := 3#32
  let c0_i32_23 : BitVec 32 := 0#32
  let c1_i32_25 : BitVec 32 := 1#32
  let arg11 : BitVec 32 := Scf.iv c0_i32_23 c1_i32_25 k0_t2
  let v31 : BitVec 32 := Scalar.subi c3_i32_27 arg11
  let c512_i32 : BitVec 32 := 512#32
  let v32 : BitVec 32 := Scalar.muli v31 c512_i32
  let v33 : BitVec 32 := v32
  let v34 : Index := Scalar.indexCast v33
  let c0_28 : Index := 0#32
  ![v34.toNat, 0]
def k0_off5 (k0_t2 : Fin k0_t2_loop.trips) : Fin 3 → Nat :=
  let c0_32 : Index := 0#32
  let c3_i32_27 : BitVec 32 := 3#32
  let c0_i32_23 : BitVec 32 := 0#32
  let c1_i32_25 : BitVec 32 := 1#32
  let arg11 : BitVec 32 := Scf.iv c0_i32_23 c1_i32_25 k0_t2
  let v31 : BitVec 32 := Scalar.subi c3_i32_27 arg11
  let c512_i32 : BitVec 32 := 512#32
  let v32 : BitVec 32 := Scalar.muli v31 c512_i32
  let v33 : BitVec 32 := v32
  let v53 : Index := Scalar.indexCast v33
  let c0_33 : Index := 0#32
  ![0, v53.toNat, 0]
def k0_cond2 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_5 : BitVec 32 := 0#32
  let v8 : BitVec 1 := Scalar.cmpi .ne v7 c0_i32_5
  v8

@[reducible] def k0_t3_loop : Scf.Loop 32 :=
  let c0_i32_12 : BitVec 32 := 0#32
  let c4_i32 : BitVec 32 := 4#32
  let v21 : BitVec 32 := Scalar.addi c0_i32_12 c4_i32
  let c1_i32_13 : BitVec 32 := 1#32
  ⟨c0_i32_12, v21, c1_i32_13⟩
def k0_mult3 (k0_t3 : Fin k0_t3_loop.trips) : BitVec 32 :=
  let c0_i32_12 : BitVec 32 := 0#32
  let c1_i32_13 : BitVec 32 := 1#32
  let arg11 : BitVec 32 := Scf.iv c0_i32_12 c1_i32_13 k0_t3
  let c512_i32 : BitVec 32 := 512#32
  let v31 : BitVec 32 := Scalar.muli arg11 c512_i32
  v31
def k0_off6 (k0_t3 : Fin k0_t3_loop.trips) : Fin 3 → Nat :=
  let c0_27 : Index := 0#32
  let c0_i32_12 : BitVec 32 := 0#32
  let c1_i32_13 : BitVec 32 := 1#32
  let arg11 : BitVec 32 := Scf.iv c0_i32_12 c1_i32_13 k0_t3
  let c512_i32 : BitVec 32 := 512#32
  let v31 : BitVec 32 := Scalar.muli arg11 c512_i32
  let v32 : BitVec 32 := v31
  let v33 : Index := Scalar.indexCast v32
  let c0_28 : Index := 0#32
  ![0, v33.toNat, 0]
def k0_off7 (k0_t3 : Fin k0_t3_loop.trips) : Fin 3 → Nat :=
  let c1 : Index := 1#32
  let c0_i32_12 : BitVec 32 := 0#32
  let c1_i32_13 : BitVec 32 := 1#32
  let arg11 : BitVec 32 := Scf.iv c0_i32_12 c1_i32_13 k0_t3
  let c512_i32 : BitVec 32 := 512#32
  let v31 : BitVec 32 := Scalar.muli arg11 c512_i32
  let v32 : BitVec 32 := v31
  let v90 : Index := Scalar.indexCast v32
  let c0_45 : Index := 0#32
  ![1, v90.toNat, 0]
def k0_off8 (k0_t3 : Fin k0_t3_loop.trips) : Fin 2 → Nat :=
  let c0_i32_12 : BitVec 32 := 0#32
  let c1_i32_13 : BitVec 32 := 1#32
  let arg11 : BitVec 32 := Scf.iv c0_i32_12 c1_i32_13 k0_t3
  let c512_i32 : BitVec 32 := 512#32
  let v31 : BitVec 32 := Scalar.muli arg11 c512_i32
  let v32 : BitVec 32 := v31
  let v107 : Index := Scalar.indexCast v32
  let c0_52 : Index := 0#32
  ![v107.toNat, 0]
@[reducible] def k0_t4_loop : Scf.Loop 32 :=
  let c0_i32_23 : BitVec 32 := 0#32
  let c4_i32_24 : BitVec 32 := 4#32
  let v29 : BitVec 32 := Scalar.addi c0_i32_23 c4_i32_24
  let c1_i32_25 : BitVec 32 := 1#32
  ⟨c0_i32_23, v29, c1_i32_25⟩
def k0_mult4 (k0_t4 : Fin k0_t4_loop.trips) : BitVec 32 :=
  let c3_i32_27 : BitVec 32 := 3#32
  let c0_i32_23 : BitVec 32 := 0#32
  let c1_i32_25 : BitVec 32 := 1#32
  let arg11 : BitVec 32 := Scf.iv c0_i32_23 c1_i32_25 k0_t4
  let v31 : BitVec 32 := Scalar.subi c3_i32_27 arg11
  let c512_i32 : BitVec 32 := 512#32
  let v32 : BitVec 32 := Scalar.muli v31 c512_i32
  v32
def k0_off9 (k0_t4 : Fin k0_t4_loop.trips) : Fin 2 → Nat :=
  let c3_i32_27 : BitVec 32 := 3#32
  let c0_i32_23 : BitVec 32 := 0#32
  let c1_i32_25 : BitVec 32 := 1#32
  let arg11 : BitVec 32 := Scf.iv c0_i32_23 c1_i32_25 k0_t4
  let v31 : BitVec 32 := Scalar.subi c3_i32_27 arg11
  let c512_i32 : BitVec 32 := 512#32
  let v32 : BitVec 32 := Scalar.muli v31 c512_i32
  let v33 : BitVec 32 := v32
  let v34 : Index := Scalar.indexCast v33
  let c0_28 : Index := 0#32
  ![v34.toNat, 0]
def k0_off10 (k0_t4 : Fin k0_t4_loop.trips) : Fin 3 → Nat :=
  let c0_32 : Index := 0#32
  let c3_i32_27 : BitVec 32 := 3#32
  let c0_i32_23 : BitVec 32 := 0#32
  let c1_i32_25 : BitVec 32 := 1#32
  let arg11 : BitVec 32 := Scf.iv c0_i32_23 c1_i32_25 k0_t4
  let v31 : BitVec 32 := Scalar.subi c3_i32_27 arg11
  let c512_i32 : BitVec 32 := 512#32
  let v32 : BitVec 32 := Scalar.muli v31 c512_i32
  let v33 : BitVec 32 := v32
  let v55 : Index := Scalar.indexCast v33
  let c0_33 : Index := 0#32
  ![0, v55.toNat, 0]
def k0_cond3 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_6 : BitVec 32 := 0#32
  let v11 : BitVec 1 := Scalar.cmpi .ne v10 c0_i32_6
  v11

@[reducible] def k0_t5_loop : Scf.Loop 32 :=
  let c0_i32_12 : BitVec 32 := 0#32
  let c4_i32 : BitVec 32 := 4#32
  let v21 : BitVec 32 := Scalar.addi c0_i32_12 c4_i32
  let c1_i32_13 : BitVec 32 := 1#32
  ⟨c0_i32_12, v21, c1_i32_13⟩
def k0_mult5 (k0_t5 : Fin k0_t5_loop.trips) : BitVec 32 :=
  let c0_i32_12 : BitVec 32 := 0#32
  let c1_i32_13 : BitVec 32 := 1#32
  let arg11 : BitVec 32 := Scf.iv c0_i32_12 c1_i32_13 k0_t5
  let c512_i32 : BitVec 32 := 512#32
  let v31 : BitVec 32 := Scalar.muli arg11 c512_i32
  v31
def k0_off11 (k0_t5 : Fin k0_t5_loop.trips) : Fin 3 → Nat :=
  let c0_27 : Index := 0#32
  let c0_i32_12 : BitVec 32 := 0#32
  let c1_i32_13 : BitVec 32 := 1#32
  let arg11 : BitVec 32 := Scf.iv c0_i32_12 c1_i32_13 k0_t5
  let c512_i32 : BitVec 32 := 512#32
  let v31 : BitVec 32 := Scalar.muli arg11 c512_i32
  let v32 : BitVec 32 := v31
  let v33 : Index := Scalar.indexCast v32
  let c0_28 : Index := 0#32
  ![0, v33.toNat, 0]
def k0_off12 (k0_t5 : Fin k0_t5_loop.trips) : Fin 3 → Nat :=
  let c1 : Index := 1#32
  let c0_i32_12 : BitVec 32 := 0#32
  let c1_i32_13 : BitVec 32 := 1#32
  let arg11 : BitVec 32 := Scf.iv c0_i32_12 c1_i32_13 k0_t5
  let c512_i32 : BitVec 32 := 512#32
  let v31 : BitVec 32 := Scalar.muli arg11 c512_i32
  let v32 : BitVec 32 := v31
  let v92 : Index := Scalar.indexCast v32
  let c0_45 : Index := 0#32
  ![1, v92.toNat, 0]
def k0_off13 (k0_t5 : Fin k0_t5_loop.trips) : Fin 2 → Nat :=
  let c0_i32_12 : BitVec 32 := 0#32
  let c1_i32_13 : BitVec 32 := 1#32
  let arg11 : BitVec 32 := Scf.iv c0_i32_12 c1_i32_13 k0_t5
  let c512_i32 : BitVec 32 := 512#32
  let v31 : BitVec 32 := Scalar.muli arg11 c512_i32
  let v32 : BitVec 32 := v31
  let v109 : Index := Scalar.indexCast v32
  let c0_52 : Index := 0#32
  ![v109.toNat, 0]
@[reducible] def k0_t6_loop : Scf.Loop 32 :=
  let c0_i32_23 : BitVec 32 := 0#32
  let c4_i32_24 : BitVec 32 := 4#32
  let v29 : BitVec 32 := Scalar.addi c0_i32_23 c4_i32_24
  let c1_i32_25 : BitVec 32 := 1#32
  ⟨c0_i32_23, v29, c1_i32_25⟩
def k0_mult6 (k0_t6 : Fin k0_t6_loop.trips) : BitVec 32 :=
  let c3_i32_27 : BitVec 32 := 3#32
  let c0_i32_23 : BitVec 32 := 0#32
  let c1_i32_25 : BitVec 32 := 1#32
  let arg11 : BitVec 32 := Scf.iv c0_i32_23 c1_i32_25 k0_t6
  let v31 : BitVec 32 := Scalar.subi c3_i32_27 arg11
  let c512_i32 : BitVec 32 := 512#32
  let v32 : BitVec 32 := Scalar.muli v31 c512_i32
  v32
def k0_off14 (k0_t6 : Fin k0_t6_loop.trips) : Fin 2 → Nat :=
  let c3_i32_27 : BitVec 32 := 3#32
  let c0_i32_23 : BitVec 32 := 0#32
  let c1_i32_25 : BitVec 32 := 1#32
  let arg11 : BitVec 32 := Scf.iv c0_i32_23 c1_i32_25 k0_t6
  let v31 : BitVec 32 := Scalar.subi c3_i32_27 arg11
  let c512_i32 : BitVec 32 := 512#32
  let v32 : BitVec 32 := Scalar.muli v31 c512_i32
  let v33 : BitVec 32 := v32
  let v34 : Index := Scalar.indexCast v33
  let c0_28 : Index := 0#32
  ![v34.toNat, 0]
def k0_off15 (k0_t6 : Fin k0_t6_loop.trips) : Fin 3 → Nat :=
  let c0_31 : Index := 0#32
  let c3_i32_27 : BitVec 32 := 3#32
  let c0_i32_23 : BitVec 32 := 0#32
  let c1_i32_25 : BitVec 32 := 1#32
  let arg11 : BitVec 32 := Scf.iv c0_i32_23 c1_i32_25 k0_t6
  let v31 : BitVec 32 := Scalar.subi c3_i32_27 arg11
  let c512_i32 : BitVec 32 := 512#32
  let v32 : BitVec 32 := Scalar.muli v31 c512_i32
  let v33 : BitVec 32 := v32
  let v57 : Index := Scalar.indexCast v33
  let c0_32 : Index := 0#32
  ![0, v57.toNat, 0]
def k0_cond4 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_7 : BitVec 32 := 0#32
  let v14 : BitVec 1 := Scalar.cmpi .ne v13 c0_i32_7
  v14

@[reducible] def k0_t7_loop : Scf.Loop 32 :=
  let c0_i32_12 : BitVec 32 := 0#32
  let c4_i32 : BitVec 32 := 4#32
  let v21 : BitVec 32 := Scalar.addi c0_i32_12 c4_i32
  let c1_i32_13 : BitVec 32 := 1#32
  ⟨c0_i32_12, v21, c1_i32_13⟩
def k0_mult7 (k0_t7 : Fin k0_t7_loop.trips) : BitVec 32 :=
  let c0_i32_12 : BitVec 32 := 0#32
  let c1_i32_13 : BitVec 32 := 1#32
  let arg11 : BitVec 32 := Scf.iv c0_i32_12 c1_i32_13 k0_t7
  let c512_i32 : BitVec 32 := 512#32
  let v31 : BitVec 32 := Scalar.muli arg11 c512_i32
  v31
def k0_off16 (k0_t7 : Fin k0_t7_loop.trips) : Fin 3 → Nat :=
  let c0_27 : Index := 0#32
  let c0_i32_12 : BitVec 32 := 0#32
  let c1_i32_13 : BitVec 32 := 1#32
  let arg11 : BitVec 32 := Scf.iv c0_i32_12 c1_i32_13 k0_t7
  let c512_i32 : BitVec 32 := 512#32
  let v31 : BitVec 32 := Scalar.muli arg11 c512_i32
  let v32 : BitVec 32 := v31
  let v33 : Index := Scalar.indexCast v32
  let c0_28 : Index := 0#32
  ![0, v33.toNat, 0]
def k0_off17 (k0_t7 : Fin k0_t7_loop.trips) : Fin 3 → Nat :=
  let c1 : Index := 1#32
  let c0_i32_12 : BitVec 32 := 0#32
  let c1_i32_13 : BitVec 32 := 1#32
  let arg11 : BitVec 32 := Scf.iv c0_i32_12 c1_i32_13 k0_t7
  let c512_i32 : BitVec 32 := 512#32
  let v31 : BitVec 32 := Scalar.muli arg11 c512_i32
  let v32 : BitVec 32 := v31
  let v94 : Index := Scalar.indexCast v32
  let c0_45 : Index := 0#32
  ![1, v94.toNat, 0]
def k0_off18 (k0_t7 : Fin k0_t7_loop.trips) : Fin 2 → Nat :=
  let c0_i32_12 : BitVec 32 := 0#32
  let c1_i32_13 : BitVec 32 := 1#32
  let arg11 : BitVec 32 := Scf.iv c0_i32_12 c1_i32_13 k0_t7
  let c512_i32 : BitVec 32 := 512#32
  let v31 : BitVec 32 := Scalar.muli arg11 c512_i32
  let v32 : BitVec 32 := v31
  let v111 : Index := Scalar.indexCast v32
  let c0_52 : Index := 0#32
  ![v111.toNat, 0]
@[reducible] def k0_t8_loop : Scf.Loop 32 :=
  let c0_i32_23 : BitVec 32 := 0#32
  let c4_i32_24 : BitVec 32 := 4#32
  let v29 : BitVec 32 := Scalar.addi c0_i32_23 c4_i32_24
  let c1_i32_25 : BitVec 32 := 1#32
  ⟨c0_i32_23, v29, c1_i32_25⟩
def k0_mult8 (k0_t8 : Fin k0_t8_loop.trips) : BitVec 32 :=
  let c3_i32_27 : BitVec 32 := 3#32
  let c0_i32_23 : BitVec 32 := 0#32
  let c1_i32_25 : BitVec 32 := 1#32
  let arg11 : BitVec 32 := Scf.iv c0_i32_23 c1_i32_25 k0_t8
  let v31 : BitVec 32 := Scalar.subi c3_i32_27 arg11
  let c512_i32 : BitVec 32 := 512#32
  let v32 : BitVec 32 := Scalar.muli v31 c512_i32
  v32
def k0_off19 (k0_t8 : Fin k0_t8_loop.trips) : Fin 2 → Nat :=
  let c3_i32_27 : BitVec 32 := 3#32
  let c0_i32_23 : BitVec 32 := 0#32
  let c1_i32_25 : BitVec 32 := 1#32
  let arg11 : BitVec 32 := Scf.iv c0_i32_23 c1_i32_25 k0_t8
  let v31 : BitVec 32 := Scalar.subi c3_i32_27 arg11
  let c512_i32 : BitVec 32 := 512#32
  let v32 : BitVec 32 := Scalar.muli v31 c512_i32
  let v33 : BitVec 32 := v32
  let v34 : Index := Scalar.indexCast v33
  let c0_28 : Index := 0#32
  ![v34.toNat, 0]
def k0_off20 (k0_t8 : Fin k0_t8_loop.trips) : Fin 3 → Nat :=
  let c0_31 : Index := 0#32
  let c3_i32_27 : BitVec 32 := 3#32
  let c0_i32_23 : BitVec 32 := 0#32
  let c1_i32_25 : BitVec 32 := 1#32
  let arg11 : BitVec 32 := Scf.iv c0_i32_23 c1_i32_25 k0_t8
  let v31 : BitVec 32 := Scalar.subi c3_i32_27 arg11
  let c512_i32 : BitVec 32 := 512#32
  let v32 : BitVec 32 := Scalar.muli v31 c512_i32
  let v33 : BitVec 32 := v32
  let v59 : Index := Scalar.indexCast v33
  let c0_32 : Index := 0#32
  ![0, v59.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OddMixBwdRefIdeal.lean ====
abbrev S2x2048x2048 : Shape := ⟨3, ![2, 2048, 2048]⟩
abbrev S2x2048x1024 : Shape := ⟨3, ![2, 2048, 1024]⟩
abbrev S4x512x512 : Shape := ⟨3, ![4, 512, 512]⟩
abbrev S1x2048 : Shape := ⟨2, ![1, 2048]⟩
abbrev S1x2048x2048 : Shape := ⟨3, ![1, 2048, 2048]⟩
abbrev S2048x2048 : Shape := ⟨2, ![2048, 2048]⟩
abbrev S4x4x128x512 : Shape := ⟨4, ![4, 4, 128, 512]⟩
abbrev S2048 : Shape := ⟨1, ![2048]⟩
abbrev S_ : Shape := ⟨0, ![]⟩
abbrev S1x1x1 : Shape := ⟨3, ![1, 1, 1]⟩
abbrev S4x1x1 : Shape := ⟨3, ![4, 1, 1]⟩
abbrev S4x2048x2048 : Shape := ⟨3, ![4, 2048, 2048]⟩
abbrev S2048x4x512 : Shape := ⟨3, ![2048, 4, 512]⟩
abbrev S2048x4x1 : Shape := ⟨3, ![2048, 4, 1]⟩
abbrev S1x4x1 : Shape := ⟨3, ![1, 4, 1]⟩
abbrev S4x512x2048 : Shape := ⟨3, ![4, 512, 2048]⟩
abbrev S2048x2x1024 : Shape := ⟨3, ![2048, 2, 1024]⟩
abbrev S4x2048x512 : Shape := ⟨3, ![4, 2048, 512]⟩

abbrev nBuf : Space → Nat
  | .hbm => 115
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x1024, .bf16⟩
  | .hbm, ⟨2, _⟩ => ⟨S4x512x512, .bf16⟩
  | .hbm, ⟨3, _⟩ => ⟨S1x2048, .f32⟩
  | .hbm, ⟨4, _⟩ => ⟨S2x2048x2048, .f32⟩
  | .hbm, ⟨5, _⟩ => ⟨S4x512x512, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S4x4x128x512, .f32⟩
  | .hbm, ⟨11, _⟩ => ⟨S4x4x128x512, .f32⟩
  | .hbm, ⟨12, _⟩ => ⟨S4x512x512, .f32⟩
  | .hbm, ⟨13, _⟩ => ⟨S2048, .f32⟩
  | .hbm, ⟨14, _⟩ => ⟨S_, .i32⟩
  | .hbm, ⟨15, _⟩ => ⟨S1x1x1, .i32⟩
  | .hbm, ⟨16, _⟩ => ⟨S_, .i32⟩
  | .hbm, ⟨17, _⟩ => ⟨S1x1x1, .i32⟩
  | .hbm, ⟨18, _⟩ => ⟨S_, .i32⟩
  | .hbm, ⟨19, _⟩ => ⟨S1x1x1, .i32⟩
  | .hbm, ⟨20, _⟩ => ⟨S_, .i32⟩
  | .hbm, ⟨21, _⟩ => ⟨S1x1x1, .i32⟩
  | .hbm, ⟨22, _⟩ => ⟨S4x1x1, .i32⟩
  | .hbm, ⟨23, _⟩ => ⟨S4x2048x2048, .i32⟩
  | .hbm, ⟨24, _⟩ => ⟨S4x2048x2048, .i32⟩
  | .hbm, ⟨25, _⟩ => ⟨S4x2048x2048, .i1⟩
  | .hbm, ⟨26, _⟩ => ⟨S4x2048x2048, .i32⟩
  | .hbm, ⟨27, _⟩ => ⟨S4x2048x2048, .i32⟩
  | .hbm, ⟨28, _⟩ => ⟨S4x2048x2048, .i1⟩
  | .hbm, ⟨29, _⟩ => ⟨S4x2048x2048, .i1⟩
  | .hbm, ⟨30, _⟩ => ⟨S_, .f32⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S2048x4x512, .f32⟩
  | .hbm, ⟨36, _⟩ => ⟨S2048x4x1, .i32⟩
  | .hbm, ⟨37, _⟩ => ⟨S_, .i32⟩
  | .hbm, ⟨38, _⟩ => ⟨S2048x4x1, .i32⟩
  | .hbm, ⟨39, _⟩ => ⟨S2048x4x1, .i32⟩
  | .hbm, ⟨40, _⟩ => ⟨S1x4x1, .i32⟩
  | .hbm, ⟨41, _⟩ => ⟨S2048x4x1, .i32⟩
  | .hbm, ⟨42, _⟩ => ⟨S2048x4x1, .i32⟩
  | .hbm, ⟨43, _⟩ => ⟨S2048x4x1, .f32⟩
  | .hbm, ⟨44, _⟩ => ⟨S4x512x2048, .f32⟩
  | .hbm, ⟨45, _⟩ => ⟨S2048x4x512, .f32⟩
  | .hbm, ⟨46, _⟩ => ⟨S2048x4x512, .f32⟩
  | .hbm, ⟨47, _⟩ => ⟨S2048x4x512, .f32⟩
  | .hbm, ⟨48, _⟩ => ⟨S2048x4x512, .f32⟩
  | .hbm, ⟨49, _⟩ => ⟨S4x512x2048, .f32⟩
  | .hbm, ⟨50, _⟩ => ⟨S2048x4x512, .f32⟩
  | .hbm, ⟨51, _⟩ => ⟨S2048x2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2x1024, .f32⟩
  | .hbm, ⟨70, _⟩ => ⟨S2x2048x1024, .f32⟩
  | .hbm, ⟨71, _⟩ => ⟨S2x2048x1024, .f32⟩
  | .hbm, ⟨72, _⟩ => ⟨S2048x2x1024, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048, .f32⟩
  | .hbm, ⟨83, _⟩ => ⟨S1x2048, .f32⟩
  | .hbm, ⟨84, _⟩ => ⟨S2048x2048, .f32⟩
  | .hbm, ⟨85, _⟩ => ⟨S2048x2048, .f32⟩
  | .hbm, ⟨86, _⟩ => ⟨S_, .f32⟩
  | .hbm, ⟨87, _⟩ => ⟨S2048, .f32⟩
  | .hbm, ⟨88, _⟩ => ⟨S2048x4x512, .f32⟩
  | .hbm, ⟨89, _⟩ => ⟨S4x512x2048, .f32⟩
  | .hbm, ⟨90, _⟩ => ⟨S4x2048x512, .f32⟩
  | .hbm, ⟨91, _⟩ => ⟨S2048x4x512, .f32⟩
  | .hbm, ⟨92, _⟩ => ⟨S4x512x512, .f32⟩
  | .hbm, ⟨93, _⟩ => ⟨S4x512x512, .f32⟩
  | .hbm, ⟨94, _⟩ => ⟨S2048x4x512, .f32⟩
  | .hbm, ⟨95, _⟩ => ⟨S2048x4x512, .f32⟩
  | .hbm, ⟨96, _⟩ => ⟨S2048x4x512, .f32⟩
  | .hbm, ⟨97, _⟩ => ⟨S4x512x2048, .f32⟩
  | .hbm, ⟨98, _⟩ => ⟨S4x512x2048, .f32⟩
  | .hbm, ⟨99, _⟩ => ⟨S2048x4x512, .f32⟩
  | .hbm, ⟨100, _⟩ => ⟨S2048x4x512, .f32⟩
  | .hbm, ⟨101, _⟩ => ⟨S2048x2048, .f32⟩
  | .hbm, ⟨102, _⟩ => ⟨S1x2048, .f32⟩
  | .hbm, ⟨103, _⟩ => ⟨S4x4x128x512, .f32⟩
  | .hbm, ⟨104, _⟩ => ⟨S4x4x128x512, .f32⟩
  | .hbm, ⟨105, _⟩ => ⟨S4x512x512, .f32⟩
  | .hbm, ⟨106, _⟩ => ⟨S1x2048x2048, .f32⟩
  | .hbm, ⟨107, _⟩ => ⟨S_, .f32⟩
  | .hbm, ⟨108, _⟩ => ⟨S2x2048x2048, .f32⟩
  | .hbm, ⟨109, _⟩ => ⟨S1x2048x2048, .f32⟩
  | .hbm, ⟨110, _⟩ => ⟨S_, .f32⟩
  | .hbm, ⟨111, _⟩ => ⟨S2x2048x2048, .f32⟩
  | .hbm, ⟨112, _⟩ => ⟨S2x2048x2048, .f32⟩
  | .hbm, ⟨113, _⟩ => ⟨S2x2048x2048, .bf16⟩
  | .hbm, ⟨114, _⟩ => ⟨S4x512x512, .bf16⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_v42_2 : Ref sig .tc := ⟨.hbm, 62, rfl⟩
abbrev main_call1_cst_1 : Ref sig .tc := ⟨.hbm, 63, rfl⟩
abbrev main_call1_v6 : Ref sig .tc := ⟨.hbm, 64, rfl⟩
abbrev main_call1_v7 : Ref sig .tc := ⟨.hbm, 65, rfl⟩
abbrev main_v42_1 : Ref sig .tc := ⟨.hbm, 66, rfl⟩
abbrev main_v42_0 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_7 : Ref sig .tc := ⟨.hbm, 107, rfl⟩
abbrev main_v77 : Ref sig .tc := ⟨.hbm, 108, rfl⟩
abbrev main_v78 : Ref sig .tc := ⟨.hbm, 109, rfl⟩
abbrev main_cst_8 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]
-- ==== AdaBwd.lean ====
abbrev S1024x8 : Shape := ⟨2, ![1024, 8]⟩
abbrev S4x8x768 : Shape := ⟨3, ![4, 8, 768]⟩
abbrev S4x1024x768 : Shape := ⟨3, ![4, 1024, 768]⟩
abbrev S256x8 : Shape := ⟨2, ![256, 8]⟩
abbrev S1x8x768 : Shape := ⟨3, ![1, 8, 768]⟩
abbrev S1x256x768 : Shape := ⟨3, ![1, 256, 768]⟩
abbrev S256x1 : Shape := ⟨2, ![256, 1]⟩
abbrev S1x1x768 : Shape := ⟨3, ![1, 1, 768]⟩
abbrev S1x768 : Shape := ⟨2, ![1, 768]⟩
abbrev S256x768 : Shape := ⟨2, ![256, 768]⟩

abbrev nBuf : Space → Nat
  | .hbm => 9
  | .vmem => 18
  | .smem => 0
  | _ => 0

abbrev bufTy : (tb : Table) → Fin (tcTables nBuf tb) → BufTy
  | .hbm, ⟨0, _⟩ => ⟨S1024x8, .f32⟩
  | .hbm, ⟨1, _⟩ => ⟨S4x8x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .hbm, ⟨8, _⟩ => ⟨S4x1024x768, .f32⟩
  | .local _ .vmem, ⟨0, _⟩ => ⟨S256x8, .f32⟩
  | .local _ .vmem, ⟨1, _⟩ => ⟨S256x8, .f32⟩
  | .local _ .vmem, ⟨2, _⟩ => ⟨S1x8x768, .f32⟩
  | .local _ .vmem, ⟨3, _⟩ => ⟨S1x8x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaBwdRefIdeal.lean ====
abbrev S1024x8 : Shape := ⟨2, ![1024, 8]⟩
abbrev S4x8x768 : Shape := ⟨3, ![4, 8, 768]⟩
abbrev S4x1024x768 : Shape := ⟨3, ![4, 1024, 768]⟩
abbrev S_ : Shape := ⟨0, ![]⟩
abbrev S4x768x1024 : Shape := ⟨3, ![4, 768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S4x8x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S1024x8, .f32⟩
  | .hbm, ⟨6, _⟩ => ⟨S1024x8, .f32⟩
  | .hbm, ⟨7, _⟩ => ⟨S_, .f32⟩
  | .hbm, ⟨8, _⟩ => ⟨S1024x8, .f32⟩
  | .hbm, ⟨9, _⟩ => ⟨S1024x8, .f32⟩
  | .hbm, ⟨10, _⟩ => ⟨S_, .f32⟩
  | .hbm, ⟨11, _⟩ => ⟨S1024x8, .f32⟩
  | .hbm, ⟨12, _⟩ => ⟨S1024x8, .f32⟩
  | .hbm, ⟨13, _⟩ => ⟨S1024x8, .f32⟩
  | .hbm, ⟨14, _⟩ => ⟨S4x768x1024, .f32⟩
  | .hbm, ⟨15, _⟩ => ⟨S4x1024x768, .f32⟩
  | .hbm, ⟨16, _⟩ => ⟨S_, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S4x1024x768, .f32⟩
  | .hbm, ⟨23, _⟩ => ⟨S_, .f32⟩
  | .hbm, ⟨24, _⟩ => ⟨S4x1024x768, .f32⟩
  | .hbm, ⟨25, _⟩ => ⟨S4x1024x768, .f32⟩
  | .hbm, ⟨26, _⟩ => ⟨S4x1024x768, .f32⟩
  | .hbm, ⟨27, _⟩ => ⟨S_, .f32⟩
  | .hbm, ⟨28, _⟩ => ⟨S4x1024x768, .f32⟩
  | .hbm, ⟨29, _⟩ => ⟨S4x1024x768, .f32⟩
  | .hbm, ⟨30, _⟩ => ⟨S4x1024x768, .f32⟩
  | .hbm, ⟨31, _⟩ => ⟨S_, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4x1024x768, .f32⟩
  | .hbm, ⟨38, _⟩ => ⟨S_, .f32⟩
  | .hbm, ⟨39, _⟩ => ⟨S4x1024x768, .f32⟩
  | .hbm, ⟨40, _⟩ => ⟨S4x1024x768, .f32⟩
  | .hbm, ⟨41, _⟩ => ⟨S4x1024x768, .f32⟩
  | .hbm, ⟨42, _⟩ => ⟨S_, .f32⟩
  | .hbm, ⟨43, _⟩ => ⟨S4x1024x768, .f32⟩
  | .hbm, ⟨44, _⟩ => ⟨S4x1024x768, .f32⟩
  | .hbm, ⟨45, _⟩ => ⟨S4x1024x768, .f32⟩
  | .hbm, ⟨46, _⟩ => ⟨S_, .f32⟩
  | .hbm, ⟨47, _⟩ => ⟨S4x1024x768, .f32⟩
  | .hbm, ⟨48, _⟩ => ⟨S4x1024x768, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== AdamwEven.lean ====
abbrev S2x1024x1792 : Shape := ⟨3, ![2, 1024, 1792]⟩
abbrev S1024x1792 : Shape := ⟨2, ![1024, 1792]⟩
abbrev S2x512x1024 : Shape := ⟨3, ![2, 512, 1024]⟩
abbrev S512x1024 : Shape := ⟨2, ![512, 1024]⟩
abbrev S1x128x1792 : Shape := ⟨3, ![1, 128, 1792]⟩
abbrev S128x1792 : Shape := ⟨2, ![128, 1792]⟩
abbrev S1x64x1024 : Shape := ⟨3, ![1, 64, 1024]⟩
abbrev S64x1024 : Shape := ⟨2, ![64, 1024]⟩

abbrev nBuf : Space → Nat
  | .hbm => 24
  | .vmem => 32
  | .smem => 0
  | _ => 0

abbrev bufTy : (tb : Table) → Fin (tcTables nBuf tb) → BufTy
  | .hbm, ⟨0, _⟩ => ⟨S2x1024x1792, .f32⟩
  | .hbm, ⟨1, _⟩ => ⟨S1024x1792, .bf16⟩
  | .hbm, ⟨2, _⟩ => ⟨S2x1024x1792, .f32⟩
  | .hbm, ⟨3, _⟩ => ⟨S2x1024x1792, .f32⟩
  | .hbm, ⟨4, _⟩ => ⟨S2x1024x1792, .f32⟩
  | .hbm, ⟨5, _⟩ => ⟨S2x1024x1792, .f32⟩
  | .hbm, ⟨6, _⟩ => ⟨S2x1024x1792, .f32⟩
  | .hbm, ⟨7, _⟩ => ⟨S2x1024x1792, .f32⟩
  | .hbm, ⟨8, _⟩ => ⟨S2x512x1024, .f32⟩
  | .hbm, ⟨9, _⟩ => ⟨S512x1024, .bf16⟩
  | .hbm, ⟨10, _⟩ => ⟨S2x512x1024, .f32⟩
  | .hbm, ⟨11, _⟩ => ⟨S2x512x1024, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S2x512x1024, .f32⟩
  | .hbm, ⟨16, _⟩ => ⟨S2x1024x1792, .f32⟩
  | .hbm, ⟨17, _⟩ => ⟨S2x1024x1792, .f32⟩
  | .hbm, ⟨18, _⟩ => ⟨S2x1024x1792, .f32⟩
  | .hbm, ⟨19, _⟩ => ⟨S2x1024x1792, .f32⟩
  | .hbm, ⟨20, _⟩ => ⟨S2x512x1024, .f32⟩
  | .hbm, ⟨21, _⟩ => ⟨S2x512x1024, .f32⟩
  | .hbm, ⟨22, _⟩ => ⟨S2x512x1024, .f32⟩
  | .hbm, ⟨23, _⟩ => ⟨S2x512x1024, .f32⟩
  | .local _ .vmem, ⟨0, _⟩ => ⟨S1x128x1792, .f32⟩
  | .local _ .vmem, ⟨1, _⟩ => ⟨S1x128x1792, .f32⟩
  | .local _ .vmem, ⟨2, _⟩ => ⟨S128x1792, .bf16⟩
  | .local _ .vmem, ⟨3, _⟩ => ⟨S128x1792, .bf16⟩
  | .local _ .vmem, ⟨4, _⟩ => ⟨S1x128x1792, .f32⟩
  | .local _ .vmem, ⟨5, _⟩ => ⟨S1x128x1792, .f32⟩
  | .local _ .vmem, ⟨6, _⟩ => ⟨S1x128x1792, .f32⟩
  | .local _ .vmem, ⟨7, _⟩ => ⟨S1x128x1792, .f32⟩
  | .local _ .vmem, ⟨8, _⟩ => ⟨S1x64x1024, .f32⟩
  | .local _ .vmem, ⟨9, _⟩ => ⟨S1x64x1024, .f32⟩
  | .local _ .vmem, ⟨10, _⟩ => ⟨S64x1024, .bf16⟩
  | .local _ .vmem, ⟨11, _⟩ => ⟨S64x1024, .bf16⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x128x1792, .f32⟩
  | .local _ .vmem, ⟨17, _⟩ => ⟨S1x128x1792, .f32⟩
  | .local _ .vmem, ⟨18, _⟩ => ⟨S1x128x1792, .f32⟩
  | .local _ .vmem, ⟨19, _⟩ => ⟨S1x128x1792, .f32⟩
  | .local _ .vmem, ⟨20, _⟩ => ⟨S1x128x1792, .f32⟩
  | .local _ .vmem, ⟨21, _⟩ => ⟨S1x128x1792, .f32⟩
  | .local _ .vmem, ⟨22, _⟩ => ⟨S1x128x1792, .f32⟩
  | .local _ .vmem, ⟨23, _⟩ => ⟨S1x128x1792, .f32⟩
  | .local _ .vmem, ⟨24, _⟩ => ⟨S1x64x1024, .f32⟩
  | .local _ .vmem, ⟨25, _⟩ => ⟨S1x64x1024, .f32⟩
  | .local _ .vmem, ⟨26, _⟩ => ⟨S1x64x1024, .f32⟩
  | .local _ .vmem, ⟨27, _⟩ => ⟨S1x64x1024, .f32⟩
  | .local _ .vmem, ⟨28, _⟩ => ⟨S1x64x1024, .f32⟩
  | .local _ .vmem, ⟨29, _⟩ => ⟨S1x64x1024, .f32⟩
  | .local _ .vmem, ⟨30, _⟩ => ⟨S1x64x1024, .f32⟩
  | .local _ .vmem, ⟨31, _⟩ => ⟨S1x64x1024, .f32⟩
  | _, _ => ⟨S2x1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1792 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x1792 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AdamwEvenRefIdeal.lean ====
abbrev S2x1024x1792 : Shape := ⟨3, ![2, 1024, 1792]⟩
abbrev S1024x1792 : Shape := ⟨2, ![1024, 1792]⟩
abbrev S2x512x1024 : Shape := ⟨3, ![2, 512, 1024]⟩
abbrev S512x1024 : Shape := ⟨2, ![512, 1024]⟩
abbrev S1x1024x1792 : Shape := ⟨3, ![1, 1024, 1792]⟩
abbrev S_ : Shape := ⟨0, ![]⟩
abbrev S1x512x1024 : Shape := ⟨3, ![1, 512, 1024]⟩

abbrev nBuf : Space → Nat
  | .hbm => 136
  | .vmem => 0
  | .smem => 0
  | _ => 0

abbrev hbmTy0_0 (i : Nat) : BufTy := match i % 128 with
  | 0 => ⟨S2x1024x1792, .f32⟩
  | 1 => ⟨S1024x1792, .bf16⟩
  | 2 => ⟨S2x1024x1792, .f32⟩
  | 3 => ⟨S2x1024x1792, .f32⟩
  | 4 => ⟨S2x1024x1792, .f32⟩
  | 5 => ⟨S2x1024x1792, .f32⟩
  | 6 => ⟨S2x1024x1792, .f32⟩
  | 7 => ⟨S2x1024x1792, .f32⟩
  | 8 => ⟨S2x512x1024, .f32⟩
  | 9 => ⟨S512x1024, .bf16⟩
  | 10 => ⟨S2x512x1024, .f32⟩
  | 11 => ⟨S2x512x1024, .f32⟩
  | 12 => ⟨S2x512x1024, .f32⟩
  | 13 => ⟨S2x512x1024, .f32⟩
  | 14 => ⟨S2x512x1024, .f32⟩
  | 15 => ⟨S2x512x1024, .f32⟩
  | 16 => ⟨S1024x1792, .f32⟩
  | 17 => ⟨S1x1024x1792, .f32⟩
  | 18 => ⟨S1024x1792, .f32⟩
  | 19 => ⟨S1x1024x1792, .f32⟩
  | 20 => ⟨S1024x1792, .f32⟩
  | 21 => ⟨S1x1024x1792, .f32⟩
  | 22 => ⟨S1024x1792, .f32⟩
  | 23 => ⟨S_, .f32⟩
  | 24 => ⟨S1024x1792, .f32⟩
  | 25 => ⟨S1024x1792, .f32⟩
  | 26 => ⟨S_, .f32⟩
  | 27 => ⟨S1024x1792, .f32⟩
  | 28 => ⟨S1024x1792, .f32⟩
  | 29 => ⟨S1024x1792, .f32⟩
  | 30 => ⟨S_, .f32⟩
  | 31 => ⟨S1024x1792, .f32⟩
  | 32 => ⟨S1024x1792, .f32⟩
  | 33 => ⟨S1024x1792, .f32⟩
  | 34 => ⟨S_, .f32⟩
  | 35 => ⟨S1024x1792, .f32⟩
  | 36 => ⟨S1024x1792, .f32⟩
  | 37 => ⟨S1024x1792, .f32⟩
  | 38 => ⟨S_, .f32⟩
  | 39 => ⟨S1024x1792, .f32⟩
  | 40 => ⟨S1024x1792, .f32⟩
  | 41 => ⟨S_, .f32⟩
  | 42 => ⟨S1024x1792, .f32⟩
  | 43 => ⟨S1024x1792, .f32⟩
  | 44 => ⟨S1024x1792, .f32⟩
  | 45 => ⟨S_, .f32⟩
  | 46 => ⟨S1024x1792, .f32⟩
  | 47 => ⟨S1024x1792, .f32⟩
  | 48 => ⟨S1024x1792, .f32⟩
  | 49 => ⟨S_, .f32⟩
  | 50 => ⟨S1024x1792, .f32⟩
  | 51 => ⟨S1024x1792, .f32⟩
  | 52 => ⟨S1024x1792, .f32⟩
  | 53 => ⟨S_, .f32⟩
  | 54 => ⟨S1024x1792, .f32⟩
  | 55 => ⟨S1024x1792, .f32⟩
  | 56 => ⟨S1x1024x1792, .f32⟩
  | 57 => ⟨S1024x1792, .f32⟩
  | 58 => ⟨S1x1024x1792, .f32⟩
  | 59 => ⟨S1x1024x1792, .f32⟩
  | 60 => ⟨S2x1024x1792, .f32⟩
  | 61 => ⟨S1x1024x1792, .f32⟩
  | 62 => ⟨S1024x1792, .f32⟩
  | 63 => ⟨S1x1024x1792, .f32⟩
  | 64 => ⟨S1x1024x1792, .f32⟩
  | 65 => ⟨S2x1024x1792, .f32⟩
  | 66 => ⟨S1x1024x1792, .f32⟩
  | 67 => ⟨S1024x1792, .f32⟩
  | 68 => ⟨S1x1024x1792, .f32⟩
  | 69 => ⟨S1x1024x1792, .f32⟩
  | 70 => ⟨S2x1024x1792, .f32⟩
  | 71 => ⟨S1x1024x1792, .f32⟩
  | 72 => ⟨S1024x1792, .f32⟩
  | 73 => ⟨S1x1024x1792, .f32⟩
  | 74 => ⟨S1x1024x1792, .f32⟩
  | 75 => ⟨S2x1024x1792, .f32⟩
  | 76 => ⟨S512x1024, .f32⟩
  | 77 => ⟨S1x512x1024, .f32⟩
  | 78 => ⟨S512x1024, .f32⟩
  | 79 => ⟨S1x512x1024, .f32⟩
  | 80 => ⟨S512x1024, .f32⟩
  | 81 => ⟨S1x512x1024, .f32⟩
  | 82 => ⟨S512x1024, .f32⟩
  | 83 => ⟨S_, .f32⟩
  | 84 => ⟨S512x1024, .f32⟩
  | 85 => ⟨S512x1024, .f32⟩
  | 86 => ⟨S_, .f32⟩
  | 87 => ⟨S512x1024, .f32⟩
  | 88 => ⟨S512x1024, .f32⟩
  | 89 => ⟨S512x1024, .f32⟩
  | 90 => ⟨S_, .f32⟩
  | 91 => ⟨S512x1024, .f32⟩
  | 92 => ⟨S512x1024, .f32⟩
  | 93 => ⟨S512x1024, .f32⟩
  | 94 => ⟨S_, .f32⟩
  | 95 => ⟨S512x1024, .f32⟩
  | 96 => ⟨S512x1024, .f32⟩
  | 97 => ⟨S512x1024, .f32⟩
  | 98 => ⟨S_, .f32⟩
  | 99 => ⟨S512x1024, .f32⟩
  | 100 => ⟨S512x1024, .f32⟩
  | 101 => ⟨S_, .f32⟩
  | 102 => ⟨S512x1024, .f32⟩
  | 103 => ⟨S512x1024, .f32⟩
  | 104 => ⟨S512x1024, .f32⟩
  | 105 => ⟨S_, .f32⟩
  | 106 => ⟨S512x1024, .f32⟩
  | 107 => ⟨S512x1024, .f32⟩
  | 108 => ⟨S512x1024, .f32⟩
  | 109 => ⟨S_, .f32⟩
  | 110 => ⟨S512x1024, .f32⟩
  | 111 => ⟨S512x1024, .f32⟩
  | 112 => ⟨S512x1024, .f32⟩
  | 113 => ⟨S_, .f32⟩
  | 114 => ⟨S512x1024, .f32⟩
  | 115 => ⟨S512x1024, .f32⟩
  | 116 => ⟨S1x512x1024, .f32⟩
  | 117 => ⟨S512x1024, .f32⟩
  | 118 => ⟨S1x512x1024, .f32⟩
  | 119 => ⟨S1x512x1024, .f32⟩
  | 120 => ⟨S2x512x1024, .f32⟩
  | 121 => ⟨S1x512x1024, .f32⟩
  | 122 => ⟨S512x1024, .f32⟩
  | 123 => ⟨S1x512x1024, .f32⟩
  | 124 => ⟨S1x512x1024, .f32⟩
  | 125 => ⟨S2x512x1024, .f32⟩
  | 126 => ⟨S1x512x1024, .f32⟩
  | 127 => ⟨S512x1024, .f32⟩
  | _ => ⟨S2x1024x1792, .f32⟩

abbrev hbmTy0_1 (i : Nat) : BufTy := match i % 128 with
  | 0 => ⟨S1x512x1024, .f32⟩
  | 1 => ⟨S1x512x1024, .f32⟩
  | 2 => ⟨S2x512x1024, .f32⟩
  | 3 => ⟨S1x512x1024, .f32⟩
  | 4 => ⟨S512x1024, .f32⟩
  | 5 => ⟨S1x512x1024, .f32⟩
  | 6 => ⟨S1x512x1024, .f32⟩
  | 7 => ⟨S2x512x1024, .f32⟩
  | _ => ⟨S2x1024x1792, .f32⟩

abbrev hbmTy (i : Nat) : BufTy := match i / 128 with
  | 0 => hbmTy0_0 i
  | 1 => hbmTy0_1 i
  | _ => ⟨S2x1024x1792, .f32⟩

abbrev bufTy : (tb : Table) → Fin (tcTables nBuf tb) → BufTy
  | .hbm, ⟨i, _⟩ => hbmTy i
  | _, _ => ⟨S2x1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_8 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_cst_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩

abbrev nD : Nat := 1
abbrev τ : Topo := Topo.v7x

variable {F : FTy → Type} [FloatOps F]
-- ==== AdamwOdd.lean ====
abbrev S2x1024x1024 : Shape := ⟨3, ![2, 1024, 1024]⟩
abbrev S1024x1024 : Shape := ⟨2, ![1024, 1024]⟩
abbrev S2x512x512 : Shape := ⟨3, ![2, 512, 512]⟩
abbrev S512x512 : Shape := ⟨2, ![512, 512]⟩
abbrev S2x512x1024 : Shape := ⟨3, ![2, 512, 1024]⟩
abbrev S512x1024 : Shape := ⟨2, ![512, 1024]⟩
abbrev S1x128x1024 : Shape := ⟨3, ![1, 128, 1024]⟩
abbrev S128x1024 : Shape := ⟨2, ![128, 1024]⟩
abbrev S1x64x512 : Shape := ⟨3, ![1, 64, 512]⟩
abbrev S64x512 : Shape := ⟨2, ![64, 512]⟩
abbrev S1x64x1024 : Shape := ⟨3, ![1, 64, 1024]⟩
abbrev S64x1024 : Shape := ⟨2, ![64, 1024]⟩

abbrev nBuf : Space → Nat
  | .hbm => 36
  | .vmem => 48
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .bf16⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x512x512, .f32⟩
  | .hbm, ⟨9, _⟩ => ⟨S512x512, .bf16⟩
  | .hbm, ⟨10, _⟩ => ⟨S2x512x512, .f32⟩
  | .hbm, ⟨11, _⟩ => ⟨S2x512x512, .f32⟩
  | .hbm, ⟨12, _⟩ => ⟨S2x512x512, .f32⟩
  | .hbm, ⟨13, _⟩ => ⟨S2x512x512, .f32⟩
  | .hbm, ⟨14, _⟩ => ⟨S2x512x512, .f32⟩
  | .hbm, ⟨15, _⟩ => ⟨S2x512x512, .f32⟩
  | .hbm, ⟨16, _⟩ => ⟨S2x512x1024, .f32⟩
  | .hbm, ⟨17, _⟩ => ⟨S512x1024, .bf16⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S2x512x1024, .f32⟩
  | .hbm, ⟨22, _⟩ => ⟨S2x512x1024, .f32⟩
  | .hbm, ⟨23, _⟩ => ⟨S2x512x1024, .f32⟩
  | .hbm, ⟨24, _⟩ => ⟨S2x1024x1024, .f32⟩
  | .hbm, ⟨25, _⟩ => ⟨S2x1024x1024, .f32⟩
  | .hbm, ⟨26, _⟩ => ⟨S2x1024x1024, .f32⟩
  | .hbm, ⟨27, _⟩ => ⟨S2x1024x1024, .f32⟩
  | .hbm, ⟨28, _⟩ => ⟨S2x512x512, .f32⟩
  | .hbm, ⟨29, _⟩ => ⟨S2x512x512, .f32⟩
  | .hbm, ⟨30, _⟩ => ⟨S2x512x512, .f32⟩
  | .hbm, ⟨31, _⟩ => ⟨S2x512x512, .f32⟩
  | .hbm, ⟨32, _⟩ => ⟨S2x512x1024, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .bf16⟩
  | .local _ .vmem, ⟨3, _⟩ => ⟨S128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x64x512, .f32⟩
  | .local _ .vmem, ⟨9, _⟩ => ⟨S1x64x512, .f32⟩
  | .local _ .vmem, ⟨10, _⟩ => ⟨S64x512, .bf16⟩
  | .local _ .vmem, ⟨11, _⟩ => ⟨S64x512, .bf16⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x1024, .f32⟩
  | .local _ .vmem, ⟨17, _⟩ => ⟨S1x64x1024, .f32⟩
  | .local _ .vmem, ⟨18, _⟩ => ⟨S64x1024, .bf16⟩
  | .local _ .vmem, ⟨19, _⟩ => ⟨S64x1024, .bf16⟩
  | .local _ .vmem, ⟨20, _⟩ => ⟨S1x64x1024, .f32⟩
  | .local _ .vmem, ⟨21, _⟩ => ⟨S1x64x1024, .f32⟩
  | .local _ .vmem, ⟨22, _⟩ => ⟨S1x64x1024, .f32⟩
  | .local _ .vmem, ⟨23, _⟩ => ⟨S1x64x1024, .f32⟩
  | .local _ .vmem, ⟨24, _⟩ => ⟨S1x128x1024, .f32⟩
  | .local _ .vmem, ⟨25, _⟩ => ⟨S1x128x1024, .f32⟩
  | .local _ .vmem, ⟨26, _⟩ => ⟨S1x128x1024, .f32⟩
  | .local _ .vmem, ⟨27, _⟩ => ⟨S1x128x1024, .f32⟩
  | .local _ .vmem, ⟨28, _⟩ => ⟨S1x128x1024, .f32⟩
  | .local _ .vmem, ⟨29, _⟩ => ⟨S1x128x1024, .f32⟩
  | .local _ .vmem, ⟨30, _⟩ => ⟨S1x128x1024, .f32⟩
  | .local _ .vmem, ⟨31, _⟩ => ⟨S1x128x1024, .f32⟩
  | .local _ .vmem, ⟨32, _⟩ => ⟨S1x64x512, .f32⟩
  | .local _ .vmem, ⟨33, _⟩ => ⟨S1x64x512, .f32⟩
  | .local _ .vmem, ⟨34, _⟩ => ⟨S1x64x512, .f32⟩
  | .local _ .vmem, ⟨35, _⟩ => ⟨S1x64x512, .f32⟩
  | .local _ .vmem, ⟨36, _⟩ => ⟨S1x64x512, .f32⟩
  | .local _ .vmem, ⟨37, _⟩ => ⟨S1x64x512, .f32⟩
  | .local _ .vmem, ⟨38, _⟩ => ⟨S1x64x512, .f32⟩
  | .local _ .vmem, ⟨39, _⟩ => ⟨S1x64x512, .f32⟩
  | .local _ .vmem, ⟨40, _⟩ => ⟨S1x64x1024, .f32⟩
  | .local _ .vmem, ⟨41, _⟩ => ⟨S1x64x1024, .f32⟩
  | .local _ .vmem, ⟨42, _⟩ => ⟨S1x64x1024, .f32⟩
  | .local _ .vmem, ⟨43, _⟩ => ⟨S1x64x1024, .f32⟩
  | .local _ .vmem, ⟨44, _⟩ => ⟨S1x64x1024, .f32⟩
  | .local _ .vmem, ⟨45, _⟩ => ⟨S1x64x1024, .f32⟩
  | .local _ .vmem, ⟨46, _⟩ => ⟨S1x64x1024, .f32⟩
  | .local _ .vmem, ⟨47, _⟩ => ⟨S1x64x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v0_4 : Ref sig .tc := ⟨.hbm, 28, rfl⟩
abbrev main_v0_5 : Ref sig .tc := ⟨.hbm, 29, rfl⟩
abbrev main_v0_6 : Ref sig .tc := ⟨.hbm, 30, rfl⟩
abbrev main_v0_7 : Ref sig .tc := ⟨.hbm, 31, rfl⟩
abbrev main_v0_8 : Ref sig .tc := ⟨.hbm, 32, rfl⟩
abbrev main_v0_9 : Ref sig .tc := ⟨.hbm, 33, rfl⟩
abbrev main_v0_10 : Ref sig .tc := ⟨.hbm, 34, rfl⟩
abbrev main_v0_11 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_33 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_34 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_35 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x64x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== AdamwOddRefIdeal.lean ====
abbrev S2x1024x1024 : Shape := ⟨3, ![2, 1024, 1024]⟩
abbrev S1024x1024 : Shape := ⟨2, ![1024, 1024]⟩
abbrev S2x512x512 : Shape := ⟨3, ![2, 512, 512]⟩
abbrev S512x512 : Shape := ⟨2, ![512, 512]⟩
abbrev S2x512x1024 : Shape := ⟨3, ![2, 512, 1024]⟩
abbrev S512x1024 : Shape := ⟨2, ![512, 1024]⟩
abbrev S1x1024x1024 : Shape := ⟨3, ![1, 1024, 1024]⟩
abbrev S_ : Shape := ⟨0, ![]⟩
abbrev S1x512x512 : Shape := ⟨3, ![1, 512, 512]⟩
abbrev S1x512x1024 : Shape := ⟨3, ![1, 512, 1024]⟩

abbrev nBuf : Space → Nat
  | .hbm => 204
  | .vmem => 0
  | .smem => 0
  | _ => 0

abbrev hbmTy0_0 (i : Nat) : BufTy := match i % 128 with
  | 0 => ⟨S2x1024x1024, .f32⟩
  | 1 => ⟨S1024x1024, .bf16⟩
  | 2 => ⟨S2x1024x1024, .f32⟩
  | 3 => ⟨S2x1024x1024, .f32⟩
  | 4 => ⟨S2x1024x1024, .f32⟩
  | 5 => ⟨S2x1024x1024, .f32⟩
  | 6 => ⟨S2x1024x1024, .f32⟩
  | 7 => ⟨S2x1024x1024, .f32⟩
  | 8 => ⟨S2x512x512, .f32⟩
  | 9 => ⟨S512x512, .bf16⟩
  | 10 => ⟨S2x512x512, .f32⟩
  | 11 => ⟨S2x512x512, .f32⟩
  | 12 => ⟨S2x512x512, .f32⟩
  | 13 => ⟨S2x512x512, .f32⟩
  | 14 => ⟨S2x512x512, .f32⟩
  | 15 => ⟨S2x512x512, .f32⟩
  | 16 => ⟨S2x512x1024, .f32⟩
  | 17 => ⟨S512x1024, .bf16⟩
  | 18 => ⟨S2x512x1024, .f32⟩
  | 19 => ⟨S2x512x1024, .f32⟩
  | 20 => ⟨S2x512x1024, .f32⟩
  | 21 => ⟨S2x512x1024, .f32⟩
  | 22 => ⟨S2x512x1024, .f32⟩
  | 23 => ⟨S2x512x1024, .f32⟩
  | 24 => ⟨S1024x1024, .f32⟩
  | 25 => ⟨S1x1024x1024, .f32⟩
  | 26 => ⟨S1024x1024, .f32⟩
  | 27 => ⟨S1x1024x1024, .f32⟩
  | 28 => ⟨S1024x1024, .f32⟩
  | 29 => ⟨S1x1024x1024, .f32⟩
  | 30 => ⟨S1024x1024, .f32⟩
  | 31 => ⟨S_, .f32⟩
  | 32 => ⟨S1024x1024, .f32⟩
  | 33 => ⟨S1024x1024, .f32⟩
  | 34 => ⟨S_, .f32⟩
  | 35 => ⟨S1024x1024, .f32⟩
  | 36 => ⟨S1024x1024, .f32⟩
  | 37 => ⟨S1024x1024, .f32⟩
  | 38 => ⟨S_, .f32⟩
  | 39 => ⟨S1024x1024, .f32⟩
  | 40 => ⟨S1024x1024, .f32⟩
  | 41 => ⟨S1024x1024, .f32⟩
  | 42 => ⟨S_, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S_, .f32⟩
  | 50 => ⟨S1024x1024, .f32⟩
  | 51 => ⟨S1024x1024, .f32⟩
  | 52 => ⟨S1024x1024, .f32⟩
  | 53 => ⟨S_, .f32⟩
  | 54 => ⟨S1024x1024, .f32⟩
  | 55 => ⟨S1024x1024, .f32⟩
  | 56 => ⟨S1024x1024, .f32⟩
  | 57 => ⟨S_, .f32⟩
  | 58 => ⟨S1024x1024, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S1x1024x1024, .f32⟩
  | 65 => ⟨S1024x1024, .f32⟩
  | 66 => ⟨S1x1024x1024, .f32⟩
  | 67 => ⟨S1x1024x1024, .f32⟩
  | 68 => ⟨S2x1024x1024, .f32⟩
  | 69 => ⟨S1x1024x1024, .f32⟩
  | 70 => ⟨S1024x1024, .f32⟩
  | 71 => ⟨S1x1024x1024, .f32⟩
  | 72 => ⟨S1x1024x1024, .f32⟩
  | 73 => ⟨S2x1024x1024, .f32⟩
  | 74 => ⟨S1x1024x1024, .f32⟩
  | 75 => ⟨S1024x1024, .f32⟩
  | 76 => ⟨S1x1024x1024, .f32⟩
  | 77 => ⟨S1x1024x1024, .f32⟩
  | 78 => ⟨S2x1024x1024, .f32⟩
  | 79 => ⟨S1x1024x1024, .f32⟩
  | 80 => ⟨S1024x1024, .f32⟩
  | 81 => ⟨S1x1024x1024, .f32⟩
  | 82 => ⟨S1x1024x1024, .f32⟩
  | 83 => ⟨S2x1024x1024, .f32⟩
  | 84 => ⟨S512x512, .f32⟩
  | 85 => ⟨S1x512x512, .f32⟩
  | 86 => ⟨S512x512, .f32⟩
  | 87 => ⟨S1x512x512, .f32⟩
  | 88 => ⟨S512x512, .f32⟩
  | 89 => ⟨S1x512x512, .f32⟩
  | 90 => ⟨S512x512, .f32⟩
  | 91 => ⟨S_, .f32⟩
  | 92 => ⟨S512x512, .f32⟩
  | 93 => ⟨S512x512, .f32⟩
  | 94 => ⟨S_, .f32⟩
  | 95 => ⟨S512x512, .f32⟩
  | 96 => ⟨S512x512, .f32⟩
  | 97 => ⟨S512x512, .f32⟩
  | 98 => ⟨S_, .f32⟩
  | 99 => ⟨S512x512, .f32⟩
  | 100 => ⟨S512x512, .f32⟩
  | 101 => ⟨S512x512, .f32⟩
  | 102 => ⟨S_, .f32⟩
  | 103 => ⟨S512x512, .f32⟩
  | 104 => ⟨S512x512, .f32⟩
  | 105 => ⟨S512x512, .f32⟩
  | 106 => ⟨S_, .f32⟩
  | 107 => ⟨S512x512, .f32⟩
  | 108 => ⟨S512x512, .f32⟩
  | 109 => ⟨S_, .f32⟩
  | 110 => ⟨S512x512, .f32⟩
  | 111 => ⟨S512x512, .f32⟩
  | 112 => ⟨S512x512, .f32⟩
  | 113 => ⟨S_, .f32⟩
  | 114 => ⟨S512x512, .f32⟩
  | 115 => ⟨S512x512, .f32⟩
  | 116 => ⟨S512x512, .f32⟩
  | 117 => ⟨S_, .f32⟩
  | 118 => ⟨S512x512, .f32⟩
  | 119 => ⟨S512x512, .f32⟩
  | 120 => ⟨S512x512, .f32⟩
  | 121 => ⟨S_, .f32⟩
  | 122 => ⟨S512x512, .f32⟩
  | 123 => ⟨S512x512, .f32⟩
  | 124 => ⟨S1x512x512, .f32⟩
  | 125 => ⟨S512x512, .f32⟩
  | 126 => ⟨S1x512x512, .f32⟩
  | 127 => ⟨S1x512x512, .f32⟩
  | _ => ⟨S2x1024x1024, .f32⟩

abbrev hbmTy0_1 (i : Nat) : BufTy := match i % 128 with
  | 0 => ⟨S2x512x512, .f32⟩
  | 1 => ⟨S1x512x512, .f32⟩
  | 2 => ⟨S512x512, .f32⟩
  | 3 => ⟨S1x512x512, .f32⟩
  | 4 => ⟨S1x512x512, .f32⟩
  | 5 => ⟨S2x512x512, .f32⟩
  | 6 => ⟨S1x512x512, .f32⟩
  | 7 => ⟨S512x512, .f32⟩
  | 8 => ⟨S1x512x512, .f32⟩
  | 9 => ⟨S1x512x512, .f32⟩
  | 10 => ⟨S2x512x512, .f32⟩
  | 11 => ⟨S1x512x512, .f32⟩
  | 12 => ⟨S512x512, .f32⟩
  | 13 => ⟨S1x512x512, .f32⟩
  | 14 => ⟨S1x512x512, .f32⟩
  | 15 => ⟨S2x512x512, .f32⟩
  | 16 => ⟨S512x1024, .f32⟩
  | 17 => ⟨S1x512x1024, .f32⟩
  | 18 => ⟨S512x1024, .f32⟩
  | 19 => ⟨S1x512x1024, .f32⟩
  | 20 => ⟨S512x1024, .f32⟩
  | 21 => ⟨S1x512x1024, .f32⟩
  | 22 => ⟨S512x1024, .f32⟩
  | 23 => ⟨S_, .f32⟩
  | 24 => ⟨S512x1024, .f32⟩
  | 25 => ⟨S512x1024, .f32⟩
  | 26 => ⟨S_, .f32⟩
  | 27 => ⟨S512x1024, .f32⟩
  | 28 => ⟨S512x1024, .f32⟩
  | 29 => ⟨S512x1024, .f32⟩
  | 30 => ⟨S_, .f32⟩
  | 31 => ⟨S512x1024, .f32⟩
  | 32 => ⟨S512x1024, .f32⟩
  | 33 => ⟨S512x1024, .f32⟩
  | 34 => ⟨S_, .f32⟩
  | 35 => ⟨S512x1024, .f32⟩
  | 36 => ⟨S512x1024, .f32⟩
  | 37 => ⟨S512x1024, .f32⟩
  | 38 => ⟨S_, .f32⟩
  | 39 => ⟨S512x1024, .f32⟩
  | 40 => ⟨S512x1024, .f32⟩
  | 41 => ⟨S_, .f32⟩
  | 42 => ⟨S512x1024, .f32⟩
  | 43 => ⟨S512x1024, .f32⟩
  | 44 => ⟨S512x1024, .f32⟩
  | 45 => ⟨S_, .f32⟩
  | 46 => ⟨S512x1024, .f32⟩
  | 47 => ⟨S512x1024, .f32⟩
  | 48 => ⟨S512x1024, .f32⟩
  | 49 => ⟨S_, .f32⟩
  | 50 => ⟨S512x1024, .f32⟩
  | 51 => ⟨S512x1024, .f32⟩
  | 52 => ⟨S512x1024, .f32⟩
  | 53 => ⟨S_, .f32⟩
  | 54 => ⟨S512x1024, .f32⟩
  | 55 => ⟨S512x1024, .f32⟩
  | 56 => ⟨S1x512x1024, .f32⟩
  | 57 => ⟨S512x1024, .f32⟩
  | 58 => ⟨S1x512x1024, .f32⟩
  | 59 => ⟨S1x512x1024, .f32⟩
  | 60 => ⟨S2x512x1024, .f32⟩
  | 61 => ⟨S1x512x1024, .f32⟩
  | 62 => ⟨S512x1024, .f32⟩
  | 63 => ⟨S1x512x1024, .f32⟩
  | 64 => ⟨S1x512x1024, .f32⟩
  | 65 => ⟨S2x512x1024, .f32⟩
  | 66 => ⟨S1x512x1024, .f32⟩
  | 67 => ⟨S512x1024, .f32⟩
  | 68 => ⟨S1x512x1024, .f32⟩
  | 69 => ⟨S1x512x1024, .f32⟩
  | 70 => ⟨S2x512x1024, .f32⟩
  | 71 => ⟨S1x512x1024, .f32⟩
  | 72 => ⟨S512x1024, .f32⟩
  | 73 => ⟨S1x512x1024, .f32⟩
  | 74 => ⟨S1x512x1024, .f32⟩
  | 75 => ⟨S2x512x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_cst_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_cst_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_5 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_12 : Ref sig .tc := ⟨.hbm, 106, rfl⟩
abbrev main_v69 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_14 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_15 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_16 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_17 : Ref sig .tc := ⟨.hbm, 151, rfl⟩
abbrev main_v109 : Ref sig .tc := ⟨.hbm, 152, rfl⟩
abbrev main_v110 : Ref sig .tc := ⟨.hbm, 153, rfl⟩
abbrev main_cst_18 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_19 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_20 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_21 : Ref sig .tc := ⟨.hbm, 166, rfl⟩
abbrev main_v120 : Ref sig .tc := ⟨.hbm, 167, rfl⟩
abbrev main_v121 : Ref sig .tc := ⟨.hbm, 168, rfl⟩
abbrev main_cst_22 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_23 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_24 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_25 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩

abbrev nD : Nat := 1
abbrev τ : Topo := Topo.v7x

variable {F : FTy → Type} [FloatOps F]
-- ==== Proof.EvenDw.lean ====
/-
  The weight gradient of the even layers' input projection. Each grid point multiplies the transposed hidden
  states with one block of the projected rows' gradients and writes one block of the result; the reference joins the
  gradients' blocks, takes the gradient of the plain product and parts it again. Both are, at every index, one sum over
  the 2048 rows.
-/
module

public import proofs.«01_k».proof.Defs
public import proofs.«01_k».proof.Proof.Gen.EvenDw
public import proofs.«01_k».proof.Proof.Gen.EvenDw.Frame
public import proofs.«01_k».proof.Proof.Gen.EvenDwIdeal
public import proofs.«01_k».proof.Proof.Gen.EvenDwIdeal.Frame
public import proofs.«01_k».proof.Proof.Gen.EvenDwIdeal.Value
public import proofs.«01_k».proof.Proof.Gen.EvenDwRefIdeal
public import proofs.«01_k».proof.Proof.Gen.EvenDwRefIdeal.Run
public import proofs.«01_k».proof.Proof.Gen.EvenDwRefIdeal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.EvenDwIdeal.Final

open Cert.EvenDwIdeal Cert.EvenDwIdeal.Gen

variable (m : (ℓ : Loc nD τ sig) → Buf (Elt Ideal) ℓ)

/-- The hidden states are one block. -/
theorem idx0 : ∀ t : Fin cfg0.N, win0_0.index t = ![0, 0] :=
  (by decide +kernel : ∀ t : Fin grid0.N, win0_0.index t = ![0, 0])
/-- The block of gradients point `t` reads. -/
theorem idx1 : ∀ t : Fin cfg0.N, win0_1.index t = ![t.val / 4, 0, t.val % 4] :=
  (by decide +kernel : ∀ t : Fin grid0.N, win0_1.index t = ![t.val / 4, 0, t.val % 4])
/-- The block of the result point `t` writes. -/
theorem idx2 : ∀ t : Fin cfg0.N, win0_2.index t = ![t.val / 7, 0, t.val % 7] :=
  (by decide +kernel : ∀ t : Fin grid0.N, win0_2.index t = ![t.val / 7, 0, t.val % 7])

/-- The result at an index: the sum over the rows of the hidden states' column times the gradients' column, the latter
    found by counting the result's columns through. -/
def G (x0 : S2048x1024.Idx → EReal) (x1 : S7x2048x1024.Idx → EReal) : S4x1024x1792.Idx → EReal := fun i =>
  ∑ k : Fin 2048, x0 (ix2 k (i 1)) *
    x1 (ix3 ⟨((i 0).val * 1792 + (i 2).val) / 1024, by
          have h0 : (i 0).val < 4 := (i 0).isLt
          have h2 : (i 2).val < 1792 := (i 2).isLt
          omega⟩ k
        ⟨((i 0).val * 1792 + (i 2).val) % 1024, Nat.mod_lt _ (by omega)⟩)

/-- One block's product at an index. -/
theorem pay (x0 : Vec Ideal S2048x1024 .bf16) (x1 : Vec Ideal S1x2048x256 .bf16) (j : S1x1024x256.Idx) :
    k0_pay1 x0 x1 j = ∑ k : Fin 2048, x0 (ix2 k (j 1)) * x1 (ix3 0 k (j 2)) := by
  pointwise [k0_pay1]

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold G
  refine Fin.sum_fin_congr fun k => ?_
  congr 1
  · blk_ext [iblk, V_main_arg0, idx0, idx2]
  · blk_ext [iblk, V_main_arg1, idx1, idx2]

end Cert.EvenDwIdeal.Final

namespace Cert.EvenDwRefIdeal.Final

open Cert.EvenDwRefIdeal

/-- The reference's result at an index is the same sum. -/
theorem ref (x0 : Vec Ideal S2048x1024 .bf16) (x1 : Vec Ideal S7x2048x1024 .bf16) (i : S4x1024x1792.Idx) :
    Read.val_main_v10 (F := Ideal) x0 x1 i = Cert.EvenDwIdeal.Final.G x0 x1 i := by
  pointwise [Read.val_main_v10, Read.val_main_v9, Read.val_main_v8, Read.val_main_v7, Read.val_main_v6, Read.val_main_v3, Read.val_main_v2, Read.val_main_v1, Read.val_main_v0]
  unfold Cert.EvenDwIdeal.Final.G
  exact Finset.sum_congr rfl fun k _ => mul_comm _ _

end Cert.EvenDwRefIdeal.Final

namespace Cert.Proof.EvenDwClaims

theorem frame_k : Cert.quiescent_EvenDw := fun m g _ => Cert.EvenDw.Gen.frame m g
theorem frame_ki : Cert.quiescent_EvenDwIdeal := fun m g _ => Cert.EvenDwIdeal.Gen.frame m g
theorem frame_ri : Cert.quiescent_EvenDwRefIdeal := fun m g _ =>
  (θ_run Cert.EvenDwRefIdeal.defs _ _).mono (fun r h => ⟨fun c => (h c).2, Idealize.ShloMosaic.sem_eq_zero_of_no_sems (by decide) r.2⟩)
    (Cert.EvenDwRefIdeal.Value.run (F := Ideal) m g)
theorem preserves : Cert.preserves_EvenDw_EvenDwIdeal := trivial

/-- At the extended reals the kernel's result and the reference's are the same sum at every index. -/
theorem algebraic : Cert.algebraic_EvenDwIdeal_EvenDwRefIdeal := by
  intro m g m' g' _ h
  refine ⟨fun c => Cert.EvenDwIdeal.Final.G (m ((c.tc : Thread Cert.EvenDwIdeal.nD Cert.EvenDwIdeal.τ).loc Cert.EvenDwIdeal.main_arg0)) (m ((c.tc : Thread Cert.EvenDwIdeal.nD Cert.EvenDwIdeal.τ).loc Cert.EvenDwIdeal.main_arg1)), ?_, ?_⟩
  · exact (θ_run Cert.EvenDwIdeal.defs _ _).mono (fun _ h c => ⟨(h c).1.trans (Cert.EvenDwIdeal.Final.final m c), (h c).2⟩)
      (Cert.EvenDwIdeal.Value.run_blocks (F := Ideal) m g)
  refine (θ_run Cert.EvenDwRefIdeal.defs _ _).mono (fun _ h' c => ⟨(h' c).1.trans ?_, (h' c).2⟩)
    (Cert.EvenDwRefIdeal.Value.run (F := Ideal) m' g')
  · exact (Cert.EvenDwRefIdeal.Read.val_main_v10_eq _ _).trans
      ((funext (Cert.EvenDwRefIdeal.Final.ref _ _)).trans
        (congrArg₂ Cert.EvenDwIdeal.Final.G ((h c).1) ((h c).2)))

end Cert.Proof.EvenDwClaims

end
-- ==== Proof.OddDw.lean ====
/-
  The weight gradient of the odd layers' input projection. Each grid point multiplies the transposed hidden
  states with one block of the projected rows' gradients and writes one block of the result; the reference joins the
  gradients' blocks, takes the gradient of the plain product and parts it again. Both are, at every index, one sum over
  the 2048 rows.
-/
module

public import proofs.«01_k».proof.Defs
public import proofs.«01_k».proof.Proof.Gen.OddDw
public import proofs.«01_k».proof.Proof.Gen.OddDw.Frame
public import proofs.«01_k».proof.Proof.Gen.OddDwIdeal
public import proofs.«01_k».proof.Proof.Gen.OddDwIdeal.Frame
public import proofs.«01_k».proof.Proof.Gen.OddDwIdeal.Value
public import proofs.«01_k».proof.Proof.Gen.OddDwRefIdeal
public import proofs.«01_k».proof.Proof.Gen.OddDwRefIdeal.Run
public import proofs.«01_k».proof.Proof.Gen.OddDwRefIdeal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OddDwIdeal.Final

open Cert.OddDwIdeal Cert.OddDwIdeal.Gen

variable (m : (ℓ : Loc nD τ sig) → Buf (Elt Ideal) ℓ)

/-- The hidden states are one block. -/
theorem idx0 : ∀ t : Fin cfg0.N, win0_0.index t = ![0, 0] :=
  (by decide +kernel : ∀ t : Fin grid0.N, win0_0.index t = ![0, 0])
/-- The block of gradients point `t` reads. -/
theorem idx1 : ∀ t : Fin cfg0.N, win0_1.index t = ![t.val / 4, 0, t.val % 4] :=
  (by decide +kernel : ∀ t : Fin grid0.N, win0_1.index t = ![t.val / 4, 0, t.val % 4])
/-- The block of the result point `t` writes. -/
theorem idx2 : ∀ t : Fin cfg0.N, win0_2.index t = ![t.val / 2, 0, t.val % 2] :=
  (by decide +kernel : ∀ t : Fin grid0.N, win0_2.index t = ![t.val / 2, 0, t.val % 2])

/-- The result at an index: the sum over the rows of the hidden states' column times the gradients' column, the latter
    found by counting the result's columns through. -/
def G (x0 : S2048x1024.Idx → EReal) (x1 : S2x2048x2048.Idx → EReal) : S4x1024x1024.Idx → EReal := fun i =>
  ∑ k : Fin 2048, x0 (ix2 k (i 1)) *
    x1 (ix3 ⟨((i 0).val * 1024 + (i 2).val) / 2048, by
          have h0 : (i 0).val < 4 := (i 0).isLt
          have h2 : (i 2).val < 1024 := (i 2).isLt
          omega⟩ k
        ⟨((i 0).val * 1024 + (i 2).val) % 2048, Nat.mod_lt _ (by omega)⟩)

/-- One block's product at an index. -/
theorem pay (x0 : Vec Ideal S2048x1024 .bf16) (x1 : Vec Ideal S1x2048x512 .bf16) (j : S1x1024x512.Idx) :
    k0_pay1 x0 x1 j = ∑ k : Fin 2048, x0 (ix2 k (j 1)) * x1 (ix3 0 k (j 2)) := by
  pointwise [k0_pay1]

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold G
  refine Fin.sum_fin_congr fun k => ?_
  congr 1
  · blk_ext [iblk, V_main_arg0, idx0, idx2]
  · blk_ext [iblk, V_main_arg1, idx1, idx2]

end Cert.OddDwIdeal.Final

namespace Cert.OddDwRefIdeal.Final

open Cert.OddDwRefIdeal

/-- The reference's result at an index is the same sum. -/
theorem ref (x0 : Vec Ideal S2048x1024 .bf16) (x1 : Vec Ideal S2x2048x2048 .bf16) (i : S4x1024x1024.Idx) :
    Read.val_main_v10 (F := Ideal) x0 x1 i = Cert.OddDwIdeal.Final.G x0 x1 i := by
  pointwise [Read.val_main_v10, Read.val_main_v9, Read.val_main_v8, Read.val_main_v7, Read.val_main_v6, Read.val_main_v3, Read.val_main_v2, Read.val_main_v1, Read.val_main_v0]
  unfold Cert.OddDwIdeal.Final.G
  exact Finset.sum_congr rfl fun k _ => mul_comm _ _

end Cert.OddDwRefIdeal.Final

namespace Cert.Proof.OddDwClaims

theorem frame_k : Cert.quiescent_OddDw := fun m g _ => Cert.OddDw.Gen.frame m g
theorem frame_ki : Cert.quiescent_OddDwIdeal := fun m g _ => Cert.OddDwIdeal.Gen.frame m g
theorem frame_ri : Cert.quiescent_OddDwRefIdeal := fun m g _ =>
  (θ_run Cert.OddDwRefIdeal.defs _ _).mono (fun r h => ⟨fun c => (h c).2, Idealize.ShloMosaic.sem_eq_zero_of_no_sems (by decide) r.2⟩)
    (Cert.OddDwRefIdeal.Value.run (F := Ideal) m g)
theorem preserves : Cert.preserves_OddDw_OddDwIdeal := trivial

/-- At the extended reals the kernel's result and the reference's are the same sum at every index. -/
theorem algebraic : Cert.algebraic_OddDwIdeal_OddDwRefIdeal := by
  intro m g m' g' _ h
  refine ⟨fun c => Cert.OddDwIdeal.Final.G (m ((c.tc : Thread Cert.OddDwIdeal.nD Cert.OddDwIdeal.τ).loc Cert.OddDwIdeal.main_arg0)) (m ((c.tc : Thread Cert.OddDwIdeal.nD Cert.OddDwIdeal.τ).loc Cert.OddDwIdeal.main_arg1)), ?_, ?_⟩
  · exact (θ_run Cert.OddDwIdeal.defs _ _).mono (fun _ h c => ⟨(h c).1.trans (Cert.OddDwIdeal.Final.final m c), (h c).2⟩)
      (Cert.OddDwIdeal.Value.run_blocks (F := Ideal) m g)
  refine (θ_run Cert.OddDwRefIdeal.defs _ _).mono (fun _ h' c => ⟨(h' c).1.trans ?_, (h' c).2⟩)
    (Cert.OddDwRefIdeal.Value.run (F := Ideal) m' g')
  · exact (Cert.OddDwRefIdeal.Read.val_main_v10_eq _ _).trans
      ((funext (Cert.OddDwRefIdeal.Final.ref _ _)).trans
        (congrArg₂ Cert.OddDwIdeal.Final.G ((h c).1) ((h c).2)))

end Cert.Proof.OddDwClaims

end
-- ==== Proof.EvenDh.lean ====
/-
  The gradient of the hidden states through the even layers' input projection. Each grid point sets blocks of weight
  columns side by side and multiplies one block of the projected rows' gradients with their transpose; the first point
  stores its product, the others add theirs. The reference joins both and takes the gradient of the plain product: the
  sum over all columns, which the points cut into runs of 1024.
-/
module

public import proofs.«01_k».proof.Defs
public import proofs.«01_k».proof.Proof.Gen.EvenDh
public import proofs.«01_k».proof.Proof.Gen.EvenDh.Frame
public import proofs.«01_k».proof.Proof.Gen.EvenDhIdeal
public import proofs.«01_k».proof.Proof.Gen.EvenDhIdeal.Frame
public import proofs.«01_k».proof.Proof.Gen.EvenDhIdeal.Value
public import proofs.«01_k».proof.Proof.Gen.EvenDhRefIdeal
public import proofs.«01_k».proof.Proof.Gen.EvenDhRefIdeal.Run
public import proofs.«01_k».proof.Proof.Gen.EvenDhRefIdeal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.EvenDhIdeal.Final

open Cert.EvenDhIdeal Cert.EvenDhIdeal.Gen

variable (m : (ℓ : Loc nD τ sig) → Buf (Elt Ideal) ℓ)

/-- The block of gradients point `t` reads. -/
theorem idx0 : ∀ t : Fin cfg0.N, win0_0.index t = ![t.val, 0, 0] :=
  (by decide +kernel : ∀ t : Fin grid0.N, win0_0.index t = ![t.val, 0, 0])
/-- Block 1 of the weights point `t` reads. -/
theorem idx1 : ∀ t : Fin cfg0.N, win0_1.index t = ![(4 * t.val) / 7, 0, (4 * t.val) % 7] :=
  (by decide +kernel : ∀ t : Fin grid0.N, win0_1.index t = ![(4 * t.val) / 7, 0, (4 * t.val) % 7])
/-- Block 2 of the weights point `t` reads. -/
theorem idx2 : ∀ t : Fin cfg0.N, win0_2.index t = ![(4 * t.val + 1) / 7, 0, (4 * t.val + 1) % 7] :=
  (by decide +kernel : ∀ t : Fin grid0.N, win0_2.index t = ![(4 * t.val + 1) / 7, 0, (4 * t.val + 1) % 7])
/-- Block 3 of the weights point `t` reads. -/
theorem idx3 : ∀ t : Fin cfg0.N, win0_3.index t = ![(4 * t.val + 2) / 7, 0, (4 * t.val + 2) % 7] :=
  (by decide +kernel : ∀ t : Fin grid0.N, win0_3.index t = ![(4 * t.val + 2) / 7, 0, (4 * t.val + 2) % 7])
/-- Block 4 of the weights point `t` reads. -/
theorem idx4 : ∀ t : Fin cfg0.N, win0_4.index t = ![(4 * t.val + 3) / 7, 0, (4 * t.val + 3) % 7] :=
  (by decide +kernel : ∀ t : Fin grid0.N, win0_4.index t = ![(4 * t.val + 3) / 7, 0, (4 * t.val + 3) % 7])
/-- The result is one block. -/
theorem idx5 : ∀ t : Fin cfg0.N, win0_5.index t = ![0, 0] :=
  (by decide +kernel : ∀ t : Fin grid0.N, win0_5.index t = ![0, 0])

/-- The result at an index: the sum over all columns, found by counting through the blocks of either argument. -/
def G (x0 : S7x2048x1024.Idx → EReal) (x1 : S4x1024x1792.Idx → EReal) : S2048x1024.Idx → EReal := fun i =>
  ∑ l : Fin 7168, x0 (ix3 ⟨l.val / 1024, by have h := l.isLt; omega⟩ (i 0) ⟨l.val % 1024, Nat.mod_lt _ (by omega)⟩) *
    x1 (ix3 ⟨l.val / 1792, by have h := l.isLt; omega⟩ (i 1) ⟨l.val % 1792, Nat.mod_lt _ (by omega)⟩)

/-- The blocks of weights set side by side, at a row and a column. -/
def wide (w0 w1 w2 w3 : Vec Ideal S1x1024x256 .bf16) (r : Fin 1024) (k : Fin 1024) : EReal :=
  if h0 : k.val < 256 then w0 (ix3 0 r ⟨k.val, h0⟩) else if h1 : k.val - 256 < 256 then w1 (ix3 0 r ⟨k.val - 256, h1⟩) else if h2 : k.val - 256 - 256 < 256 then w2 (ix3 0 r ⟨k.val - 256 - 256, h2⟩) else w3 (ix3 0 r ⟨k.val - 256 - 256 - 256, by have h := k.isLt; omega⟩)

/-- One point's product at an index. -/
theorem pay (w0 w1 w2 w3 : Vec Ideal S1x1024x256 .bf16) (x : Vec Ideal S1x2048x1024 .bf16) (j : S2048x1024.Idx) :
    k0_pay1 w0 w1 w2 w3 x j = ∑ k : Fin 1024, x (ix3 0 (j 0) k) * wide w0 w1 w2 w3 (j 1) k := by
  pointwise [k0_pay1]
  rfl

/-- A later point adds its product. -/
theorem pay_add (w0 w1 w2 w3 : Vec Ideal S1x1024x256 .bf16) (x : Vec Ideal S1x2048x1024 .bf16) (a : Vec Ideal S2048x1024 .f32)
    (j : S2048x1024.Idx) :
    k0_pay2 w0 w1 w2 w3 x a j = a j + ∑ k : Fin 1024, x (ix3 0 (j 0) k) * wide w0 w1 w2 w3 (j 1) k := by
  rw [← pay]
  pointwise [k0_pay2]

/-- The result array after the run. -/
theorem final (c : Dev nD) : (dats m 0 c).arrAt 5 cfg0.N
    = G (m ((c : Thread nD τ).loc main_arg0)) (m ((c : Thread nD τ).loc main_arg1)) := by
  refine (dats m 0 c).arrAt_eq_of_after_last 5 t0_6 (by decide +kernel) _ fun j => ?_
  blk_simp
  rw [after0_5]
  rw [Pipeline.eq_sum_fin_of_reset_step_apply_last (fun n h => outsAt0 m c n h) 7 (fun _ => 0) _
    (fun t h j => by rw [outsAt0_A m c t h (by have hN : t.val < 7 := t.isLt.trans_eq N_0; omega)]; frame_out; rw [pay, zero_add])
    (fun t h j => by rw [outsAt0_B m c t h (by omega)]; frame_out; rw [pay_add])
    (le_of_eq N_0) t0_6 rfl _, zero_add]
  unfold G
  refine Fin.sum_mul_add_congr (fun s k hl => ?_) (by rw [show cfg0.N = 7 from N_0])
  have hk := k.isLt
  have hs : s.val < 7 := s.isLt.trans_eq N_0
  dsimp only
  congr 1
  · blk_ext [iblk, V_main_arg0, idx0]
  unfold wide
  split_ifs
  · blk_ext [iblk, V_main_arg1, idx1]
  · blk_ext [iblk, V_main_arg1, idx2]
  · blk_ext [iblk, V_main_arg1, idx3]
  · blk_ext [iblk, V_main_arg1, idx4]

end Cert.EvenDhIdeal.Final

namespace Cert.EvenDhRefIdeal.Final

open Cert.EvenDhRefIdeal

/-- The reference's result at an index is the same sum. -/
theorem ref (x0 : Vec Ideal S7x2048x1024 .bf16) (x1 : Vec Ideal S4x1024x1792 .bf16) (i : S2048x1024.Idx) :
    Read.val_main_v8 (F := Ideal) x0 x1 i = Cert.EvenDhIdeal.Final.G x0 x1 i := by
  pointwise [Read.val_main_v8, Read.val_main_v5, Read.val_main_v4, Read.val_main_v3, Read.val_main_v2, Read.val_main_v1, Read.val_main_v0]
  unfold Cert.EvenDhIdeal.Final.G
  rfl

end Cert.EvenDhRefIdeal.Final

namespace Cert.Proof.EvenDhClaims

theorem frame_k : Cert.quiescent_EvenDh := fun m g _ => Cert.EvenDh.Gen.frame m g
theorem frame_ki : Cert.quiescent_EvenDhIdeal := fun m g _ => Cert.EvenDhIdeal.Gen.frame m g
theorem frame_ri : Cert.quiescent_EvenDhRefIdeal := fun m g _ =>
  (θ_run Cert.EvenDhRefIdeal.defs _ _).mono (fun r h => ⟨fun c => (h c).2, Idealize.ShloMosaic.sem_eq_zero_of_no_sems (by decide) r.2⟩)
    (Cert.EvenDhRefIdeal.Value.run (F := Ideal) m g)
theorem preserves : Cert.preserves_EvenDh_EvenDhIdeal := trivial

/-- At the extended reals the kernel's result and the reference's are the same sum at every index. -/
theorem algebraic : Cert.algebraic_EvenDhIdeal_EvenDhRefIdeal := by
  intro m g m' g' _ h
  refine ⟨fun c => Cert.EvenDhIdeal.Final.G (m ((c.tc : Thread Cert.EvenDhIdeal.nD Cert.EvenDhIdeal.τ).loc Cert.EvenDhIdeal.main_arg0)) (m ((c.tc : Thread Cert.EvenDhIdeal.nD Cert.EvenDhIdeal.τ).loc Cert.EvenDhIdeal.main_arg1)), ?_, ?_⟩
  · exact (θ_run Cert.EvenDhIdeal.defs _ _).mono (fun _ h c => ⟨(h c).1.trans (Cert.EvenDhIdeal.Final.final m c), (h c).2⟩)
      (Cert.EvenDhIdeal.Value.run_blocks (F := Ideal) m g)
  refine (θ_run Cert.EvenDhRefIdeal.defs _ _).mono (fun _ h' c => ⟨(h' c).1.trans ?_, (h' c).2⟩)
    (Cert.EvenDhRefIdeal.Value.run (F := Ideal) m' g')
  · exact (Cert.EvenDhRefIdeal.Read.val_main_v8_eq _ _).trans
      ((funext (Cert.EvenDhRefIdeal.Final.ref _ _)).trans
        (congrArg₂ Cert.EvenDhIdeal.Final.G ((h c).1) ((h c).2)))

end Cert.Proof.EvenDhClaims

end
-- ==== Proof.OddDh.lean ====
/-
  The gradient of the hidden states through the odd layers' input projection. Each grid point sets blocks of weight
  columns side by side and multiplies one block of the projected rows' gradients with their transpose; the first point
  stores its product, the others add theirs. The reference joins both and takes the gradient of the plain product: the
  sum over all columns, which the points cut into runs of 1024.
-/
module

public import proofs.«01_k».proof.Defs
public import proofs.«01_k».proof.Proof.Gen.OddDh
public import proofs.«01_k».proof.Proof.Gen.OddDh.Frame
public import proofs.«01_k».proof.Proof.Gen.OddDhIdeal
public import proofs.«01_k».proof.Proof.Gen.OddDhIdeal.Frame
public import proofs.«01_k».proof.Proof.Gen.OddDhIdeal.Value
public import proofs.«01_k».proof.Proof.Gen.OddDhRefIdeal
public import proofs.«01_k».proof.Proof.Gen.OddDhRefIdeal.Run
public import proofs.«01_k».proof.Proof.Gen.OddDhRefIdeal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OddDhIdeal.Final

open Cert.OddDhIdeal Cert.OddDhIdeal.Gen

variable (m : (ℓ : Loc nD τ sig) → Buf (Elt Ideal) ℓ)

/-- The block of gradients point `t` reads. -/
theorem idx0 : ∀ t : Fin cfg0.N, win0_0.index t = ![t.val / 2, 0, t.val % 2] :=
  (by decide +kernel : ∀ t : Fin grid0.N, win0_0.index t = ![t.val / 2, 0, t.val % 2])
/-- Block 1 of the weights point `t` reads. -/
theorem idx1 : ∀ t : Fin cfg0.N, win0_1.index t = ![(2 * t.val) / 2, 0, (2 * t.val) % 2] :=
  (by decide +kernel : ∀ t : Fin grid0.N, win0_1.index t = ![(2 * t.val) / 2, 0, (2 * t.val) % 2])
/-- Block 2 of the weights point `t` reads. -/
theorem idx2 : ∀ t : Fin cfg0.N, win0_2.index t = ![(2 * t.val + 1) / 2, 0, (2 * t.val + 1) % 2] :=
  (by decide +kernel : ∀ t : Fin grid0.N, win0_2.index t = ![(2 * t.val + 1) / 2, 0, (2 * t.val + 1) % 2])
/-- The result is one block. -/
theorem idx3 : ∀ t : Fin cfg0.N, win0_3.index t = ![0, 0] :=
  (by decide +kernel : ∀ t : Fin grid0.N, win0_3.index t = ![0, 0])

/-- The result at an index: the sum over all columns, found by counting through the blocks of either argument. -/
def G (x0 : S2x2048x2048.Idx → EReal) (x1 : S4x1024x1024.Idx → EReal) : S2048x1024.Idx → EReal := fun i =>
  ∑ l : Fin 4096, x0 (ix3 ⟨l.val / 2048, by have h := l.isLt; omega⟩ (i 0) ⟨l.val % 2048, Nat.mod_lt _ (by omega)⟩) *
    x1 (ix3 ⟨l.val / 1024, by have h := l.isLt; omega⟩ (i 1) ⟨l.val % 1024, Nat.mod_lt _ (by omega)⟩)

/-- The blocks of weights set side by side, at a row and a column. -/
def wide (w0 w1 : Vec Ideal S1x1024x512 .bf16) (r : Fin 1024) (k : Fin 1024) : EReal :=
  if h0 : k.val < 512 then w0 (ix3 0 r ⟨k.val, h0⟩) else w1 (ix3 0 r ⟨k.val - 512, by have h := k.isLt; omega⟩)

/-- One point's product at an index. -/
theorem pay (w0 w1 : Vec Ideal S1x1024x512 .bf16) (x : Vec Ideal S1x2048x1024 .bf16) (j : S2048x1024.Idx) :
    k0_pay1 w0 w1 x j = ∑ k : Fin 1024, x (ix3 0 (j 0) k) * wide w0 w1 (j 1) k := by
  pointwise! [k0_pay1, wide]

/-- A later point adds its product. -/
theorem pay_add (w0 w1 : Vec Ideal S1x1024x512 .bf16) (x : Vec Ideal S1x2048x1024 .bf16) (a : Vec Ideal S2048x1024 .f32)
    (j : S2048x1024.Idx) :
    k0_pay2 w0 w1 x a j = a j + ∑ k : Fin 1024, x (ix3 0 (j 0) k) * wide w0 w1 (j 1) k := by
  rw [← pay]
  pointwise [k0_pay2]

/-- The result array after the run. -/
theorem final (c : Dev nD) : (dats m 0 c).arrAt 3 cfg0.N
    = G (m ((c : Thread nD τ).loc main_arg0)) (m ((c : Thread nD τ).loc main_arg1)) := by
  refine (dats m 0 c).arrAt_eq_of_after_last 3 t0_3 (by decide +kernel) _ fun j => ?_
  blk_simp
  rw [after0_3]
  rw [Pipeline.eq_sum_fin_of_reset_step_apply_last (fun n h => outsAt0 m c n h) 4 (fun _ => 0) _
    (fun t h j => by rw [outsAt0_A m c t h (by have hN : t.val < 4 := t.isLt.trans_eq N_0; omega)]; frame_out; rw [pay, zero_add])
    (fun t h j => by rw [outsAt0_B m c t h (by omega)]; frame_out; rw [pay_add])
    (le_of_eq N_0) t0_3 rfl _, zero_add]
  unfold G
  refine Fin.sum_mul_add_congr (fun s k hl => ?_) (by rw [show cfg0.N = 4 from N_0])
  have hk := k.isLt
  have hs : s.val < 4 := s.isLt.trans_eq N_0
  dsimp only
  congr 1
  · blk_ext [iblk, V_main_arg0, idx0]
  unfold wide
  split_ifs
  · blk_ext [iblk, V_main_arg1, idx1]
  · blk_ext [iblk, V_main_arg1, idx2]

end Cert.OddDhIdeal.Final

namespace Cert.OddDhRefIdeal.Final

open Cert.OddDhRefIdeal

/-- The reference's result at an index is the same sum. -/
theorem ref (x0 : Vec Ideal S2x2048x2048 .bf16) (x1 : Vec Ideal S4x1024x1024 .bf16) (i : S2048x1024.Idx) :
    Read.val_main_v8 (F := Ideal) x0 x1 i = Cert.OddDhIdeal.Final.G x0 x1 i := by
  pointwise [Read.val_main_v8, Read.val_main_v5, Read.val_main_v4, Read.val_main_v3, Read.val_main_v2, Read.val_main_v1, Read.val_main_v0]
  unfold Cert.OddDhIdeal.Final.G
  rfl

end Cert.OddDhRefIdeal.Final

namespace Cert.Proof.OddDhClaims

theorem frame_k : Cert.quiescent_OddDh := fun m g _ => Cert.OddDh.Gen.frame m g
theorem frame_ki : Cert.quiescent_OddDhIdeal := fun m g _ => Cert.OddDhIdeal.Gen.frame m g
theorem frame_ri : Cert.quiescent_OddDhRefIdeal := fun m g _ =>
  (θ_run Cert.OddDhRefIdeal.defs _ _).mono (fun r h => ⟨fun c => (h c).2, Idealize.ShloMosaic.sem_eq_zero_of_no_sems (by decide) r.2⟩)
    (Cert.OddDhRefIdeal.Value.run (F := Ideal) m g)
theorem preserves : Cert.preserves_OddDh_OddDhIdeal := trivial

/-- At the extended reals the kernel's result and the reference's are the same sum at every index. -/
theorem algebraic : Cert.algebraic_OddDhIdeal_OddDhRefIdeal := by
  intro m g m' g' _ h
  refine ⟨fun c => Cert.OddDhIdeal.Final.G (m ((c.tc : Thread Cert.OddDhIdeal.nD Cert.OddDhIdeal.τ).loc Cert.OddDhIdeal.main_arg0)) (m ((c.tc : Thread Cert.OddDhIdeal.nD Cert.OddDhIdeal.τ).loc Cert.OddDhIdeal.main_arg1)), ?_, ?_⟩
  · exact (θ_run Cert.OddDhIdeal.defs _ _).mono (fun _ h c => ⟨(h c).1.trans (Cert.OddDhIdeal.Final.final m c), (h c).2⟩)
      (Cert.OddDhIdeal.Value.run_blocks (F := Ideal) m g)
  refine (θ_run Cert.OddDhRefIdeal.defs _ _).mono (fun _ h' c => ⟨(h' c).1.trans ?_, (h' c).2⟩)
    (Cert.OddDhRefIdeal.Value.run (F := Ideal) m' g')
  · exact (Cert.OddDhRefIdeal.Read.val_main_v8_eq _ _).trans
      ((funext (Cert.OddDhRefIdeal.Final.ref _ _)).trans
        (congrArg₂ Cert.OddDhIdeal.Final.G ((h c).1) ((h c).2)))

end Cert.Proof.OddDhClaims

end
-- ==== Proof.OutBwd.lean ====
/-
  The backward pass of the output projection: the gradient of its input (the rows' gradients times the transposed
  weights) and of its weights (the transposed input times the rows' gradients), four blocks of 512 columns of the input
  each; the reference joins the blocks, takes both gradients of the plain product and parts them again.
-/
module

public import proofs.«01_k».proof.Defs
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.Gen.OutBwdRefIdeal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutBwdIdeal.Final

open Cert.OutBwdIdeal Cert.OutBwdIdeal.Gen

variable (m : (ℓ : Loc nD τ sig) → Buf (Elt Ideal) ℓ)

/-- The rows' gradients are one block. -/
theorem idx0 : ∀ t : Fin cfg0.N, win0_0.index t = ![0, 0] :=
  (by decide +kernel : ∀ t : Fin grid0.N, win0_0.index t = ![0, 0])
/-- The weights point `t` reads. -/
theorem idx1 : ∀ t : Fin cfg0.N, win0_1.index t = ![t.val, 0, 0] :=
  (by decide +kernel : ∀ t : Fin grid0.N, win0_1.index t = ![t.val, 0, 0])
/-- The block of the input point `t` reads. -/
theorem idx2 : ∀ t : Fin cfg0.N, win0_2.index t = ![t.val / 2, 0, t.val % 2] :=
  (by decide +kernel : ∀ t : Fin grid0.N, win0_2.index t = ![t.val / 2, 0, t.val % 2])
/-- The block of the input's gradient point `t` writes. -/
theorem idx3 : ∀ t : Fin cfg0.N, win0_3.index t = ![t.val / 2, 0, t.val % 2] :=
  (by decide +kernel : ∀ t : Fin grid0.N, win0_3.index t = ![t.val / 2, 0, t.val % 2])
/-- The weights' gradient point `t` writes. -/
theorem idx4 : ∀ t : Fin cfg0.N, win0_4.index t = ![t.val, 0, 0] :=
  (by decide +kernel : ∀ t : Fin grid0.N, win0_4.index t = ![t.val, 0, 0])

/-- The input's gradient at an index: the sum over the output columns. -/
def Gy (x0 : S2048x1024.Idx → EReal) (x1 : S4x512x1024.Idx → EReal) : S2x2048x1024.Idx → EReal := fun i =>
  ∑ k : Fin 1024, x0 (ix2 (i 1) k) *
    x1 (ix3 ⟨((i 0).val * 1024 + (i 2).val) / 512, by
          have h0 : (i 0).val < 2 := (i 0).isLt
          have h2 : (i 2).val < 1024 := (i 2).isLt
          omega⟩
        ⟨((i 0).val * 1024 + (i 2).val) % 512, Nat.mod_lt _ (by omega)⟩ k)

/-- The weights' gradient at an index: the sum over the rows. -/
def Gw (x0 : S2048x1024.Idx → EReal) (x2 : S2x2048x1024.Idx → EReal) : S4x512x1024.Idx → EReal := fun i =>
  ∑ k : Fin 2048, x2 (ix3 ⟨((i 0).val * 512 + (i 1).val) / 1024, by
          have h0 : (i 0).val < 4 := (i 0).isLt
          have h1 : (i 1).val < 512 := (i 1).isLt
          omega⟩ k
        ⟨((i 0).val * 512 + (i 1).val) % 1024, Nat.mod_lt _ (by omega)⟩) * x0 (ix2 k (i 2))

theorem pay_y (x0 : Vec Ideal S2048x1024 .bf16) (x1 : Vec Ideal S1x512x1024 .bf16) (j : S1x2048x512.Idx) :
    k0_pay1 x0 x1 j = ∑ k : Fin 1024, x0 (ix2 (j 1) k) * x1 (ix3 0 (j 2) k) := by
  pointwise [k0_pay1]

theorem pay_w (x0 : Vec Ideal S2048x1024 .bf16) (x2 : Vec Ideal S1x2048x512 .bf16) (j : S1x512x1024.Idx) :
    k0_pay2 x0 x2 j = ∑ k : Fin 2048, x2 (ix3 0 k (j 1)) * x0 (ix2 k (j 2)) := by
  pointwise [k0_pay2]

/-- The input's gradient after the run. -/
theorem final_y (c : Dev nD) : (dats m 0 c).arrAt 3 cfg0.N
    = Gy (m ((c : Thread nD τ).loc main_arg0)) (m ((c : Thread nD τ).loc main_arg1)) := by
  refine (dats m 0 c).arrAt_eq_of_covers 3 _ (by decide +kernel) fun t hf y => ?_
  blk_simp
  rw [after0_3]
  frame_out
  rw [pay_y]
  unfold Gy
  refine Fin.sum_fin_congr fun k => ?_
  congr 1
  · blk_ext [iblk, V_main_arg0, idx0, idx3]
  · blk_ext [iblk, V_main_arg1, idx1, idx3]

/-- The weights' gradient after the run. -/
theorem final_w (c : Dev nD) : (dats m 0 c).arrAt 4 cfg0.N
    = Gw (m ((c : Thread nD τ).loc main_arg0)) (m ((c : Thread nD τ).loc main_arg2)) := by
  refine (dats m 0 c).arrAt_eq_of_covers 4 _ (by decide +kernel) fun t hf y => ?_
  blk_simp
  rw [after0_4]
  frame_out
  rw [pay_w]
  unfold Gw
  refine Fin.sum_fin_congr fun k => ?_
  congr 1
  · blk_ext [iblk, V_main_arg2, idx2, idx4]
  · blk_ext [iblk, V_main_arg0, idx0, idx4]

end Cert.OutBwdIdeal.Final

namespace Cert.OutBwdRefIdeal.Final

open Cert.OutBwdRefIdeal

/-- The reference's result at an index is the same sum. -/
theorem ref_y (x0 : Vec Ideal S2048x1024 .bf16) (x1 : Vec Ideal S4x512x1024 .bf16) (i : S2x2048x1024.Idx) :
    Read.val_main_v12 (F := Ideal) x0 x1 i = Cert.OutBwdIdeal.Final.Gy x0 x1 i := by
  pointwise [Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0]
  unfold Cert.OutBwdIdeal.Final.Gy
  rfl

/-- The reference's result at an index is the same sum. -/
theorem ref_w (x0 : Vec Ideal S2048x1024 .bf16) (x2 : Vec Ideal S2x2048x1024 .bf16) (i : S4x512x1024.Idx) :
    Read.val_main_v14 (F := Ideal) x0 x2 i = Cert.OutBwdIdeal.Final.Gw x0 x2 i := by
  pointwise [Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0]
  unfold Cert.OutBwdIdeal.Final.Gw
  exact Finset.sum_congr rfl fun k _ => mul_comm _ _

end Cert.OutBwdRefIdeal.Final

namespace Cert.Proof.OutBwdClaims

theorem frame_k : Cert.quiescent_OutBwd := fun m g _ => Cert.OutBwd.Gen.frame m g
theorem frame_ki : Cert.quiescent_OutBwdIdeal := fun m g _ => Cert.OutBwdIdeal.Gen.frame m g
theorem frame_ri : Cert.quiescent_OutBwdRefIdeal := fun m g _ =>
  (θ_run Cert.OutBwdRefIdeal.defs _ _).mono (fun r h => ⟨fun c => (h c).2.2, Idealize.ShloMosaic.sem_eq_zero_of_no_sems (by decide) r.2⟩)
    (Cert.OutBwdRefIdeal.Value.run (F := Ideal) m g)
theorem preserves : Cert.preserves_OutBwd_OutBwdIdeal := trivial

/-- At the extended reals the kernel's result and the reference's are the same sum at every index. -/
theorem algebraic : Cert.algebraic_OutBwdIdeal_OutBwdRefIdeal := by
  intro m g m' g' _ h
  refine ⟨fun c => Cert.OutBwdIdeal.Final.Gy (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)), fun c => Cert.OutBwdIdeal.Final.Gw (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg2)), ?_, ?_⟩
  · exact (θ_run Cert.OutBwdIdeal.defs _ _).mono (fun _ h c => ⟨(h c).1.trans (Cert.OutBwdIdeal.Final.final_y m c), (h c).2.1.trans (Cert.OutBwdIdeal.Final.final_w m c), (h c).2.2⟩)
      (Cert.OutBwdIdeal.Value.run_blocks (F := Ideal) m g)
  refine (θ_run Cert.OutBwdRefIdeal.defs _ _).mono (fun _ h' c => ⟨(h' c).1.trans ?_, (h' c).2.1.trans ?_, (h' c).2.2⟩)
    (Cert.OutBwdRefIdeal.Value.run (F := Ideal) m' g')
  · exact (Cert.OutBwdRefIdeal.Read.val_main_v12_eq _ _).trans
      ((funext (Cert.OutBwdRefIdeal.Final.ref_y _ _)).trans
        (congrArg₂ Cert.OutBwdIdeal.Final.Gy ((h c).1) ((h c).2.1)))
  · exact (Cert.OutBwdRefIdeal.Read.val_main_v14_eq _ _).trans
      ((funext (Cert.OutBwdRefIdeal.Final.ref_w _ _)).trans
        (congrArg₂ Cert.OutBwdIdeal.Final.Gw ((h c).1) ((h c).2.2)))

end Cert.Proof.OutBwdClaims

end
-- ==== Proof.EvenFwd.lean ====
/-
  The input projection of the even layers. Each grid point sets two blocks of weight columns side by side, multiplies
  the hidden states with them and writes one block of the result; the reference joins the weights, takes the plain
  product and parts it into blocks. Both are, at every index, one sum over the 1024 hidden columns.
-/
module

public import proofs.«01_k».proof.Defs
public import proofs.«01_k».proof.Proof.Gen.EvenFwd
public import proofs.«01_k».proof.Proof.Gen.EvenFwd.Frame
public import proofs.«01_k».proof.Proof.Gen.EvenFwdIdeal
public import proofs.«01_k».proof.Proof.Gen.EvenFwdIdeal.Frame
public import proofs.«01_k».proof.Proof.Gen.EvenFwdIdeal.Value
public import proofs.«01_k».proof.Proof.Gen.EvenFwdRefIdeal
public import proofs.«01_k».proof.Proof.Gen.EvenFwdRefIdeal.Run
public import proofs.«01_k».proof.Proof.Gen.EvenFwdRefIdeal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.EvenFwdIdeal.Final

open Cert.EvenFwdIdeal Cert.EvenFwdIdeal.Gen

variable (m : (ℓ : Loc nD τ sig) → Buf (Elt Ideal) ℓ)

/-- The hidden states are one block. -/
theorem idx0 : ∀ t : Fin cfg0.N, win0_0.index t = ![0, 0] :=
  (by decide +kernel : ∀ t : Fin grid0.N, win0_0.index t = ![0, 0])
/-- The left block of weights point `t` reads. -/
theorem idx1 : ∀ t : Fin cfg0.N, win0_1.index t = ![(2 * t.val) / 7, 0, (2 * t.val) % 7] :=
  (by decide +kernel : ∀ t : Fin grid0.N, win0_1.index t = ![(2 * t.val) / 7, 0, (2 * t.val) % 7])
/-- The right block of weights point `t` reads. -/
theorem idx2 : ∀ t : Fin cfg0.N, win0_2.index t = ![(2 * t.val + 1) / 7, 0, (2 * t.val + 1) % 7] :=
  (by decide +kernel : ∀ t : Fin grid0.N, win0_2.index t = ![(2 * t.val + 1) / 7, 0, (2 * t.val + 1) % 7])
/-- The block of the result point `t` writes. -/
theorem idx3 : ∀ t : Fin cfg0.N, win0_3.index t = ![t.val / 2, 0, t.val % 2] :=
  (by decide +kernel : ∀ t : Fin grid0.N, win0_3.index t = ![t.val / 2, 0, t.val % 2])

/-- The result at an index: the sum over the hidden columns of the row times the weights' column, the latter found by
    counting the result's columns through. -/
def G (x0 : S2048x1024.Idx → EReal) (x1 : S4x1024x1792.Idx → EReal) : S7x2048x1024.Idx → EReal := fun i =>
  ∑ k : Fin 1024, x0 (ix2 (i 1) k) *
    x1 (ix3 ⟨((i 0).val * 1024 + (i 2).val) / 1792, by
          have h0 : (i 0).val < 7 := (i 0).isLt
          have h2 : (i 2).val < 1024 := (i 2).isLt
          omega⟩ k
        ⟨((i 0).val * 1024 + (i 2).val) % 1792, Nat.mod_lt _ (by omega)⟩)

/-- One block's product at an index of its left half. -/
theorem pay_left (w0 w1 : Vec Ideal S1x1024x256 .bf16) (x : Vec Ideal S2048x1024 .bf16) (j : S1x2048x512.Idx)
    (hj : (j 2).val < 256) :
    k0_pay1 w0 w1 x j = ∑ k : Fin 1024, x (ix2 (j 1) k) * w0 (ix3 0 k ⟨(j 2).val, hj⟩) := by
  pointwise [k0_pay1]
  refine Finset.sum_congr rfl fun k _ => ?_
  rw [dif_pos hj]

/-- One block's product at an index of its right half. -/
theorem pay_right (w0 w1 : Vec Ideal S1x1024x256 .bf16) (x : Vec Ideal S2048x1024 .bf16) (j : S1x2048x512.Idx)
    (hj : ¬(j 2).val < 256) (hj' : (j 2).val - 256 < 256) :
    k0_pay1 w0 w1 x j = ∑ k : Fin 1024, x (ix2 (j 1) k) * w1 (ix3 0 k ⟨(j 2).val - 256, hj'⟩) := by
  pointwise [k0_pay1]
  refine Finset.sum_congr rfl fun k _ => ?_
  rw [dif_neg hj]

/-- The result array after the run. -/
theorem final (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t hf y => ?_
  blk_simp
  rw [after0_3]
  frame_out
  have hy : (y 2).val < 512 := (y 2).isLt
  by_cases hj : (y 2).val < 256
  · rw [pay_left _ _ _ _ hj]
    unfold G
    refine Fin.sum_fin_congr fun k => ?_
    congr 1
    · blk_ext [iblk, V_main_arg0, idx0, idx3]
    · blk_ext [iblk, V_main_arg1, idx1, idx3]
  · rw [pay_right _ _ _ _ hj (by omega)]
    unfold G
    refine Fin.sum_fin_congr fun k => ?_
    congr 1
    · blk_ext [iblk, V_main_arg0, idx0, idx3]
    · blk_ext [iblk, V_main_arg1, idx2, idx3]

end Cert.EvenFwdIdeal.Final

namespace Cert.EvenFwdRefIdeal.Final

open Cert.EvenFwdRefIdeal

/-- The reference's result at an index is the same sum. -/
theorem ref (x0 : Vec Ideal S2048x1024 .bf16) (x1 : Vec Ideal S4x1024x1792 .bf16) (i : S7x2048x1024.Idx) :
    Read.val_main_v7 (F := Ideal) x0 x1 i = Cert.EvenFwdIdeal.Final.G x0 x1 i := by
  pointwise [Read.val_main_v7, Read.val_main_v6, Read.val_main_v5, Read.val_main_v4, Read.val_main_v3, Read.val_main_v2, Read.val_main_v1, Read.val_main_v0]
  unfold Cert.EvenFwdIdeal.Final.G
  rfl

end Cert.EvenFwdRefIdeal.Final

namespace Cert.Proof.EvenFwdClaims

theorem frame_k : Cert.quiescent_EvenFwd := fun m g _ => Cert.EvenFwd.Gen.frame m g
theorem frame_ki : Cert.quiescent_EvenFwdIdeal := fun m g _ => Cert.EvenFwdIdeal.Gen.frame m g
theorem frame_ri : Cert.quiescent_EvenFwdRefIdeal := fun m g _ =>
  (θ_run Cert.EvenFwdRefIdeal.defs _ _).mono (fun r h => ⟨fun c => (h c).2, Idealize.ShloMosaic.sem_eq_zero_of_no_sems (by decide) r.2⟩)
    (Cert.EvenFwdRefIdeal.Value.run (F := Ideal) m g)
theorem preserves : Cert.preserves_EvenFwd_EvenFwdIdeal := trivial

/-- At the extended reals the kernel's result and the reference's are the same sum at every index. -/
theorem algebraic : Cert.algebraic_EvenFwdIdeal_EvenFwdRefIdeal := by
  intro m g m' g' _ h
  refine ⟨fun c => Cert.EvenFwdIdeal.Final.G (m ((c.tc : Thread Cert.EvenFwdIdeal.nD Cert.EvenFwdIdeal.τ).loc Cert.EvenFwdIdeal.main_arg0)) (m ((c.tc : Thread Cert.EvenFwdIdeal.nD Cert.EvenFwdIdeal.τ).loc Cert.EvenFwdIdeal.main_arg1)), ?_, ?_⟩
  · exact (θ_run Cert.EvenFwdIdeal.defs _ _).mono (fun _ h c => ⟨(h c).1.trans (Cert.EvenFwdIdeal.Final.final m c), (h c).2⟩)
      (Cert.EvenFwdIdeal.Value.run_blocks (F := Ideal) m g)
  refine (θ_run Cert.EvenFwdRefIdeal.defs _ _).mono (fun _ h' c => ⟨(h' c).1.trans ?_, (h' c).2⟩)
    (Cert.EvenFwdRefIdeal.Value.run (F := Ideal) m' g')
  · exact (Cert.EvenFwdRefIdeal.Read.val_main_v7_eq _ _).trans
      ((funext (Cert.EvenFwdRefIdeal.Final.ref _ _)).trans
        (congrArg₂ Cert.EvenFwdIdeal.Final.G ((h c).1) ((h c).2)))

end Cert.Proof.EvenFwdClaims

end
-- ==== Proof.OddFwd.lean ====
/-
  The input projection of the odd layers. Each grid point sets two blocks of weight columns side by side, multiplies
  the hidden states with them and writes one block of the result; the reference joins the weights, takes the plain
  product and parts it into blocks. Both are, at every index, one sum over the 1024 hidden columns.
-/
module

public import proofs.«01_k».proof.Defs
public import proofs.«01_k».proof.Proof.Gen.OddFwd
public import proofs.«01_k».proof.Proof.Gen.OddFwd.Frame
public import proofs.«01_k».proof.Proof.Gen.OddFwdIdeal
public import proofs.«01_k».proof.Proof.Gen.OddFwdIdeal.Frame
public import proofs.«01_k».proof.Proof.Gen.OddFwdIdeal.Value
public import proofs.«01_k».proof.Proof.Gen.OddFwdRefIdeal
public import proofs.«01_k».proof.Proof.Gen.OddFwdRefIdeal.Run
public import proofs.«01_k».proof.Proof.Gen.OddFwdRefIdeal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OddFwdIdeal.Final

open Cert.OddFwdIdeal Cert.OddFwdIdeal.Gen

variable (m : (ℓ : Loc nD τ sig) → Buf (Elt Ideal) ℓ)

/-- The hidden states are one block. -/
theorem idx0 : ∀ t : Fin cfg0.N, win0_0.index t = ![0, 0] :=
  (by decide +kernel : ∀ t : Fin grid0.N, win0_0.index t = ![0, 0])
/-- The left block of weights point `t` reads. -/
theorem idx1 : ∀ t : Fin cfg0.N, win0_1.index t = ![(2 * t.val) / 2, 0, (2 * t.val) % 2] :=
  (by decide +kernel : ∀ t : Fin grid0.N, win0_1.index t = ![(2 * t.val) / 2, 0, (2 * t.val) % 2])
/-- The right block of weights point `t` reads. -/
theorem idx2 : ∀ t : Fin cfg0.N, win0_2.index t = ![(2 * t.val + 1) / 2, 0, (2 * t.val + 1) % 2] :=
  (by decide +kernel : ∀ t : Fin grid0.N, win0_2.index t = ![(2 * t.val + 1) / 2, 0, (2 * t.val + 1) % 2])
/-- The block of the result point `t` writes. -/
theorem idx3 : ∀ t : Fin cfg0.N, win0_3.index t = ![t.val / 2, 0, t.val % 2] :=
  (by decide +kernel : ∀ t : Fin grid0.N, win0_3.index t = ![t.val / 2, 0, t.val % 2])

/-- The result at an index: the sum over the hidden columns of the row times the weights' column, the latter found by
    counting the result's columns through. -/
def G (x0 : S2048x1024.Idx → EReal) (x1 : S4x1024x1024.Idx → EReal) : S2x2048x2048.Idx → EReal := fun i =>
  ∑ k : Fin 1024, x0 (ix2 (i 1) k) *
    x1 (ix3 ⟨((i 0).val * 2048 + (i 2).val) / 1024, by
          have h0 : (i 0).val < 2 := (i 0).isLt
          have h2 : (i 2).val < 2048 := (i 2).isLt
          omega⟩ k
        ⟨((i 0).val * 2048 + (i 2).val) % 1024, Nat.mod_lt _ (by omega)⟩)

/-- One block's product at an index of its left half. -/
theorem pay_left (w0 w1 : Vec Ideal S1x1024x512 .bf16) (x : Vec Ideal S2048x1024 .bf16) (j : S1x2048x1024.Idx)
    (hj : (j 2).val < 512) :
    k0_pay1 w0 w1 x j = ∑ k : Fin 1024, x (ix2 (j 1) k) * w0 (ix3 0 k ⟨(j 2).val, hj⟩) := by
  pointwise [k0_pay1]
  refine Finset.sum_congr rfl fun k _ => ?_
  rw [dif_pos hj]

/-- One block's product at an index of its right half. -/
theorem pay_right (w0 w1 : Vec Ideal S1x1024x512 .bf16) (x : Vec Ideal S2048x1024 .bf16) (j : S1x2048x1024.Idx)
    (hj : ¬(j 2).val < 512) (hj' : (j 2).val - 512 < 512) :
    k0_pay1 w0 w1 x j = ∑ k : Fin 1024, x (ix2 (j 1) k) * w1 (ix3 0 k ⟨(j 2).val - 512, hj'⟩) := by
  pointwise [k0_pay1]
  refine Finset.sum_congr rfl fun k _ => ?_
  rw [dif_neg hj]

/-- The result array after the run. -/
theorem final (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t hf y => ?_
  blk_simp
  rw [after0_3]
  frame_out
  have hy : (y 2).val < 1024 := (y 2).isLt
  by_cases hj : (y 2).val < 512
  · rw [pay_left _ _ _ _ hj]
    unfold G
    refine Fin.sum_fin_congr fun k => ?_
    congr 1
    · blk_ext [iblk, V_main_arg0, idx0, idx3]
    · blk_ext [iblk, V_main_arg1, idx1, idx3]
  · rw [pay_right _ _ _ _ hj (by omega)]
    unfold G
    refine Fin.sum_fin_congr fun k => ?_
    congr 1
    · blk_ext [iblk, V_main_arg0, idx0, idx3]
    · blk_ext [iblk, V_main_arg1, idx2, idx3]

end Cert.OddFwdIdeal.Final

namespace Cert.OddFwdRefIdeal.Final

open Cert.OddFwdRefIdeal

/-- The reference's result at an index is the same sum. -/
theorem ref (x0 : Vec Ideal S2048x1024 .bf16) (x1 : Vec Ideal S4x1024x1024 .bf16) (i : S2x2048x2048.Idx) :
    Read.val_main_v7 (F := Ideal) x0 x1 i = Cert.OddFwdIdeal.Final.G x0 x1 i := by
  pointwise [Read.val_main_v7, Read.val_main_v6, Read.val_main_v5, Read.val_main_v4, Read.val_main_v3, Read.val_main_v2, Read.val_main_v1, Read.val_main_v0]
  unfold Cert.OddFwdIdeal.Final.G
  rfl

end Cert.OddFwdRefIdeal.Final

namespace Cert.Proof.OddFwdClaims

theorem frame_k : Cert.quiescent_OddFwd := fun m g _ => Cert.OddFwd.Gen.frame m g
theorem frame_ki : Cert.quiescent_OddFwdIdeal := fun m g _ => Cert.OddFwdIdeal.Gen.frame m g
theorem frame_ri : Cert.quiescent_OddFwdRefIdeal := fun m g _ =>
  (θ_run Cert.OddFwdRefIdeal.defs _ _).mono (fun r h => ⟨fun c => (h c).2, Idealize.ShloMosaic.sem_eq_zero_of_no_sems (by decide) r.2⟩)
    (Cert.OddFwdRefIdeal.Value.run (F := Ideal) m g)
theorem preserves : Cert.preserves_OddFwd_OddFwdIdeal := trivial

/-- At the extended reals the kernel's result and the reference's are the same sum at every index. -/
theorem algebraic : Cert.algebraic_OddFwdIdeal_OddFwdRefIdeal := by
  intro m g m' g' _ h
  refine ⟨fun c => Cert.OddFwdIdeal.Final.G (m ((c.tc : Thread Cert.OddFwdIdeal.nD Cert.OddFwdIdeal.τ).loc Cert.OddFwdIdeal.main_arg0)) (m ((c.tc : Thread Cert.OddFwdIdeal.nD Cert.OddFwdIdeal.τ).loc Cert.OddFwdIdeal.main_arg1)), ?_, ?_⟩
  · exact (θ_run Cert.OddFwdIdeal.defs _ _).mono (fun _ h c => ⟨(h c).1.trans (Cert.OddFwdIdeal.Final.final m c), (h c).2⟩)
      (Cert.OddFwdIdeal.Value.run_blocks (F := Ideal) m g)
  refine (θ_run Cert.OddFwdRefIdeal.defs _ _).mono (fun _ h' c => ⟨(h' c).1.trans ?_, (h' c).2⟩)
    (Cert.OddFwdRefIdeal.Value.run (F := Ideal) m' g')
  · exact (Cert.OddFwdRefIdeal.Read.val_main_v7_eq _ _).trans
      ((funext (Cert.OddFwdRefIdeal.Final.ref _ _)).trans
        (congrArg₂ Cert.OddFwdIdeal.Final.G ((h c).1) ((h c).2)))

end Cert.Proof.OddFwdClaims

end
-- ==== Proof.OutProj.lean ====
/-
  The output projection, the gated residual and, of the layer after it, the modulated norm: blocks of 512 rows, each row's product taken as two
  halves of 1024 summed terms; the reference takes the plain product of 2048 terms over all rows at once.
-/
module

public import proofs.«01_k».proof.Defs
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.Final

open Cert.OutProjIdeal Cert.OutProjIdeal.Gen

variable (m : (ℓ : Loc nD τ sig) → Buf (Elt Ideal) ℓ)

/-! The block each window reads or writes at a point. -/
theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![0, 0, 0] :=
  (by decide +kernel : ∀ t : Fin grid0.N, win0_1.index t = ![0, 0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![t.val, 0] :=
  (by decide +kernel : ∀ t : Fin grid0.N, win0_8.index t = ![t.val, 0])
theorem idx9 : ∀ t : Fin cfg0.N, win0_9.index t = ![t.val, 0] :=
  (by decide +kernel : ∀ t : Fin grid0.N, win0_9.index t = ![t.val, 0])

/-- The projected row at a column: the two halves' sums. -/
def Go (x0 : S2x2048x1024.Idx → EReal) (x1 : S4x512x1024.Idx → EReal) : S2048x1024.Idx → EReal := fun i =>
  (∑ k : Fin 1024, x0 (ix3 0 (i 0) k) * x1 (ix3 ⟨k.val / 512, by omega⟩ ⟨k.val % 512, Nat.mod_lt _ (by omega)⟩ (i 1)))
  + ∑ k : Fin 1024, x0 (ix3 1 (i 0) k)
      * x1 (ix3 ⟨k.val / 512 + 2, by omega⟩ ⟨k.val % 512, Nat.mod_lt _ (by omega)⟩ (i 1))

/-- The gated residual sum. -/
def Gx (x0 : S2x2048x1024.Idx → EReal) (x1 : S4x512x1024.Idx → EReal) (x2 : S2048x1024.Idx → EReal)
    (x3 : S1x1024.Idx → EReal) : S2048x1024.Idx → EReal := fun i => x2 i + x3 (ix2 0 (i 1)) * Go x0 x1 i

/-- The modulated norm of the row, from the row's values `f`. -/
def rowNorm (f : Fin 1024 → EReal) (g shift scale : S1x1024.Idx → EReal) (c : Fin 1024) : EReal :=
  f c * Ideal.rsqrt (Ideal.div (∑ k : Fin 1024, f k * f k) (Scalar.ofBits (F := Ideal) .f32 0x44800000#32) + Scalar.ofBits (F := Ideal) .f32 0x358637BD#32)
    * g (ix2 0 c) * (1 + scale (ix2 0 c)) + shift (ix2 0 c)

def Gh (x0 : S2x2048x1024.Idx → EReal) (x1 : S4x512x1024.Idx → EReal) (x2 : S2048x1024.Idx → EReal)
    (x3 x4 x5 x6 : S1x1024.Idx → EReal) : S2048x1024.Idx → EReal := fun i =>
  rowNorm (fun k => Gx x0 x1 x2 x3 (ix2 (i 0) k)) x4 x5 x6 (i 1)

theorem pay_o (a : Vec Ideal S1x512x1024 .bf16) (w : Vec Ideal S1x1024x1024 .bf16) (a' : Vec Ideal S1x512x1024 .bf16)
    (w' : Vec Ideal S1x1024x1024 .bf16) (j : S512x1024.Idx) :
    k0_pay3 a w a' w' j = (∑ k : Fin 1024, a (ix3 0 (j 0) k) * w (ix3 0 k (j 1)))
      + ∑ k : Fin 1024, a' (ix3 0 (j 0) k) * w' (ix3 0 k (j 1)) := by
  pointwise [k0_pay3]

theorem pay_x (a : Vec Ideal S1x512x1024 .bf16) (w : Vec Ideal S1x1024x1024 .bf16) (a' : Vec Ideal S1x512x1024 .bf16)
    (w' : Vec Ideal S1x1024x1024 .bf16) (x : Vec Ideal S512x1024 .f32) (g : Vec Ideal S1x1024 .f32) (j : S512x1024.Idx) :
    k0_pay4 a w a' w' x g j = x j + g (ix2 0 (j 1)) * k0_pay3 a w a' w' j := by
  pointwise [k0_pay4]

theorem pay_h (a : Vec Ideal S1x512x1024 .bf16) (w : Vec Ideal S1x1024x1024 .bf16) (a' : Vec Ideal S1x512x1024 .bf16)
    (w' : Vec Ideal S1x1024x1024 .bf16) (x : Vec Ideal S512x1024 .f32) (g ng sh sc : Vec Ideal S1x1024 .f32)
    (j : S512x1024.Idx) :
    k0_pay1 sh sc (k0_pay5 a w a' w' x g ng) (Scalar.ofBits .f32 0x3F800000#32) j
      = rowNorm (fun k => k0_pay4 a w a' w' x g (ix2 (j 0) k)) ng sh sc (j 1) := by
  pointwise [k0_pay1, k0_pay5]
  rw [show j = ix2 (j 0) (j 1) from eq_ix2 j]
  rfl

theorem pay_ob (v : FVec Ideal S512x1024 .f32) (j : S512x1024.Idx) : k0_pay2 v j = v j := by
  pointwise [k0_pay2]

/-- A block's projected row is the whole array's. -/
theorem blk_o (c : Dev nD) (t : Fin cfg0.N) (j : S512x1024.Idx) (i : S2048x1024.Idx)
    (h0 : (i 0).val = t.val * 512 + (j 0).val) (h1 : (i 1).val = (j 1).val) :
    k0_pay3 (View.ld (iblk m c 0 t) r0_0) (View.ld (iblk m c 1 t) r0_1) (View.ld (iblk m c 0 t) r0_2)
        (View.ld (iblk m c 1 t) r0_3) j
      = Go (m ((c : Thread nD τ).loc main_arg0)) (m ((c : Thread nD τ).loc main_arg1)) i := by
  rw [pay_o]
  unfold Go
  congr 1
  · refine Fin.sum_fin_congr fun k => ?_
    congr 1
    · rw [View.ld_apply]; blk_ext [iblk, V_main_arg0, idx0] <;> simp [Rect.idx_unit_val] <;> omega
    · rw [View.ld_apply]; blk_ext! [iblk, idx1, r0_1, r0_3]
  · refine Fin.sum_fin_congr fun k => ?_
    congr 1
    · rw [View.ld_apply]; blk_ext [iblk, V_main_arg0, idx0] <;> simp [Rect.idx_unit_val] <;> omega
    · rw [View.ld_apply]; blk_ext! [iblk, idx1, r0_1, r0_3]

theorem final_o (c : Dev nD) : (dats m 0 c).arrAt 8 cfg0.N
    = Go (m ((c : Thread nD τ).loc main_arg0)) (m ((c : Thread nD τ).loc main_arg1)) := by
  refine (dats m 0 c).arrAt_eq_of_covers 8 _ (by decide +kernel) fun t hf y => ?_
  blk_simp
  rw [after0_8]
  frame_out
  rw [pay_ob]
  refine blk_o m c t y _ ?_ ?_
  · blk_simp [idx8]
  · blk_simp [idx8]

theorem blk_x (c : Dev nD) (t : Fin cfg0.N) (j : S512x1024.Idx) (i : S2048x1024.Idx)
    (h0 : (i 0).val = t.val * 512 + (j 0).val) (h1 : (i 1).val = (j 1).val) :
    k0_pay4 (View.ld (iblk m c 0 t) r0_0) (View.ld (iblk m c 1 t) r0_1) (View.ld (iblk m c 0 t) r0_2)
        (View.ld (iblk m c 1 t) r0_3) (iblk m c 2 t) (iblk m c 3 t) j
      = Gx (m ((c : Thread nD τ).loc main_arg0)) (m ((c : Thread nD τ).loc main_arg1)) (m ((c : Thread nD τ).loc main_arg2)) (m ((c : Thread nD τ).loc main_arg3)) i := by
  rw [pay_x, blk_o m c t j i h0 h1]
  unfold Gx
  congr 1
  · blk_ext [iblk, V_main_arg2, idx2]
  · congr 1
    blk_ext [iblk, V_main_arg3, idx3]

theorem final_x (c : Dev nD) : (dats m 0 c).arrAt 7 cfg0.N = Gx (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  refine blk_x m c t y _ ?_ ?_
  · blk_simp [idx7]
  · blk_simp [idx7]

theorem blk_vec (c : Dev nD) (t : Fin cfg0.N) : iblk m c 4 t = (m ((c : Thread nD τ).loc main_arg4)) ∧ iblk m c 5 t = (m ((c : Thread nD τ).loc main_arg5)) ∧ iblk m c 6 t = (m ((c : Thread nD τ).loc main_arg6)) := by
  refine ⟨?_, ?_, ?_⟩
  · funext q; blk_ext [iblk, V_main_arg4, idx4]
  · funext q; blk_ext [iblk, V_main_arg5, idx5]
  · funext q; blk_ext [iblk, V_main_arg6, idx6]

theorem final_h (c : Dev nD) :
    (dats m 0 c).arrAt 9 cfg0.N = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  rw [pay_h, (blk_vec m c t).1, (blk_vec m c t).2.1, (blk_vec m c t).2.2]
  have h0 : ∀ i : S2048x1024.Idx, (i 0).val = t.val * 512 + (y 0).val → (i 1).val = (y 1).val →
      rowNorm (fun k => k0_pay4 (View.ld (iblk m c 0 t) r0_0) (View.ld (iblk m c 1 t) r0_1) (View.ld (iblk m c 0 t) r0_2)
        (View.ld (iblk m c 1 t) r0_3) (iblk m c 2 t) (iblk m c 3 t) (ix2 (y 0) k)) (m ((c : Thread nD τ).loc main_arg4)) (m ((c : Thread nD τ).loc main_arg5)) (m ((c : Thread nD τ).loc main_arg6)) (y 1)
      = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
    intro i e0 e1
    unfold Gh
    rw [show (y 1 : Fin 1024) = i 1 from Fin.ext e1.symm]
    congr 1
    funext k
    exact blk_x m c t (ix2 (y 0) k) (ix2 (i 0) k) e0 rfl
  refine h0 _ ?_ ?_
  · blk_simp [idx9]
  · blk_simp [idx9]

end Cert.OutProjIdeal.Final

namespace Cert.OutProjRefIdeal.Final

open Cert.OutProjRefIdeal
open Cert.OutProjIdeal.Final (Go Gx Gh rowNorm)

/-- The plain product of 2048 terms is the two halves' sums. -/
theorem ref_v5 (x0 : Vec Ideal S2x2048x1024 .bf16) (x1 : Vec Ideal S4x512x1024 .bf16) (i : S2048x1024.Idx) :
    Read.val_main_v5 (F := Ideal) x0 x1 i = Go x0 x1 i := by
  pointwise [Read.val_main_v5, Read.val_main_v4, Read.val_main_v3, Read.val_main_v2, Read.val_main_v1, Read.val_main_v0]
  unfold Go
  refine (Fin.sum_univ_add (a := 1024) (b := 1024) _).trans ?_
  congr 1

theorem ref_o (x0 : Vec Ideal S2x2048x1024 .bf16) (x1 : Vec Ideal S4x512x1024 .bf16) (i : S2048x1024.Idx) :
    Read.val_main_v29 (F := Ideal) x0 x1 i = Go x0 x1 i := by
  rw [← ref_v5]
  pointwise [Read.val_main_v29]

theorem ref_x (x0 : Vec Ideal S2x2048x1024 .bf16) (x1 : Vec Ideal S4x512x1024 .bf16) (x2 : Vec Ideal S2048x1024 .f32)
    (x3 : Vec Ideal S1x1024 .f32) (i : S2048x1024.Idx) :
    Read.val_main_v8 (F := Ideal) x0 x1 x2 x3 i = Gx x0 x1 x2 x3 i := by
  unfold Gx
  rw [← ref_v5]
  pointwise [Read.val_main_v8, Read.val_main_v7, Read.val_main_v6]

theorem ref_h (x0 : Vec Ideal S2x2048x1024 .bf16) (x1 : Vec Ideal S4x512x1024 .bf16) (x2 : Vec Ideal S2048x1024 .f32)
    (x3 x4 x5 x6 : Vec Ideal S1x1024 .f32) (i : S2048x1024.Idx) :
    Read.val_main_v30 (F := Ideal) x0 x1 x2 x3 x4 x5 x6 i = Gh x0 x1 x2 x3 x4 x5 x6 i := by
  obtain ⟨a, b, rfl⟩ : ∃ a b, i = ix2 a b := ⟨i 0, i 1, eq_ix2 i⟩
  unfold Gh
  rw [show (fun k => Gx x0 x1 x2 x3 (ix2 (ix2 a b 0) k)) = fun k => Read.val_main_v8 (F := Ideal) x0 x1 x2 x3 (ix2 (ix2 a b 0) k)
    from funext fun k => (ref_x x0 x1 x2 x3 _).symm]
  pointwise [Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_cst, Read.val_main_cst_0, Read.val_main_cst_1, Read.val_main_cst_2]
  unfold rowNorm
  rfl

end Cert.OutProjRefIdeal.Final

namespace Cert.Proof.OutProjClaims

theorem frame_k : Cert.quiescent_OutProj := fun m g _ => Cert.OutProj.Gen.frame m g
theorem frame_ki : Cert.quiescent_OutProjIdeal := fun m g _ => Cert.OutProjIdeal.Gen.frame m g
theorem frame_ri : Cert.quiescent_OutProjRefIdeal := fun m g _ =>
  (θ_run Cert.OutProjRefIdeal.defs _ _).mono (fun r h => ⟨fun c => (h c).2.2.2, Idealize.ShloMosaic.sem_eq_zero_of_no_sems (by decide) r.2⟩)
    (Cert.OutProjRefIdeal.Value.run (F := Ideal) m g)
theorem preserves : Cert.preserves_OutProj_OutProjIdeal := trivial

/-- At the extended reals the kernel's results and the reference's are the same at every index. -/
theorem algebraic : Cert.algebraic_OutProjIdeal_OutProjRefIdeal := by
  intro m g m' g' _ h
  refine ⟨fun c => Cert.OutProjIdeal.Final.Gx (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)), fun c => Cert.OutProjIdeal.Final.Go (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)), fun c => Cert.OutProjIdeal.Final.Gh (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)), ?_, ?_⟩
  · exact (θ_run Cert.OutProjIdeal.defs _ _).mono (fun _ h c => ⟨(h c).1.trans (Cert.OutProjIdeal.Final.final_x m c), (h c).2.1.trans (Cert.OutProjIdeal.Final.final_o m c), (h c).2.2.1.trans (Cert.OutProjIdeal.Final.final_h m c), (h c).2.2.2⟩)
      (Cert.OutProjIdeal.Value.run_blocks (F := Ideal) m g)
  refine (θ_run Cert.OutProjRefIdeal.defs _ _).mono (fun _ h' c => ⟨(h' c).1.trans ?_, (h' c).2.1.trans ?_, (h' c).2.2.1.trans ?_, (h' c).2.2.2⟩)
    (Cert.OutProjRefIdeal.Value.run (F := Ideal) m' g')
  · exact (Cert.OutProjRefIdeal.Read.val_main_v8_eq _ _ _ _).trans
      ((funext (Cert.OutProjRefIdeal.Final.ref_x _ _ _ _)).trans
        (congr (congr (congr (congrArg Cert.OutProjIdeal.Final.Gx ((h c).1)) ((h c).2.1)) ((h c).2.2.1)) ((h c).2.2.2.1)))
  · exact (Cert.OutProjRefIdeal.Read.val_main_v29_eq _ _).trans
      ((funext (Cert.OutProjRefIdeal.Final.ref_o _ _)).trans
        (congr (congrArg Cert.OutProjIdeal.Final.Go ((h c).1)) ((h c).2.1)))
  · exact (Cert.OutProjRefIdeal.Read.val_main_v30_eq _ _ _ _ _ _ _).trans
      ((funext (Cert.OutProjRefIdeal.Final.ref_h _ _ _ _ _ _ _)).trans
        (congr (congr (congr (congr (congr (congr (congrArg Cert.OutProjIdeal.Final.Gh ((h c).1)) ((h c).2.1)) ((h c).2.2.1)) ((h c).2.2.2.1)) ((h c).2.2.2.2.1)) ((h c).2.2.2.2.2.1)) ((h c).2.2.2.2.2.2)))

end Cert.Proof.OutProjClaims

end
-- ==== Proof.OutProjLast.lean ====
/-
  The output projection, the gated residual of the last layer: blocks of 512 rows, each row's product taken as two
  halves of 1024 summed terms; the reference takes the plain product of 2048 terms over all rows at once.
-/
module

public import proofs.«01_k».proof.Defs
public import proofs.«01_k».proof.Proof.Gen.OutProjLast
public import proofs.«01_k».proof.Proof.Gen.OutProjLast.Frame
public import proofs.«01_k».proof.Proof.Gen.OutProjLastIdeal
public import proofs.«01_k».proof.Proof.Gen.OutProjLastIdeal.Frame
public import proofs.«01_k».proof.Proof.Gen.OutProjLastIdeal.Value
public import proofs.«01_k».proof.Proof.Gen.OutProjLastRefIdeal
public import proofs.«01_k».proof.Proof.Gen.OutProjLastRefIdeal.Run
public import proofs.«01_k».proof.Proof.Gen.OutProjLastRefIdeal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjLastIdeal.Final

open Cert.OutProjLastIdeal Cert.OutProjLastIdeal.Gen

variable (m : (ℓ : Loc nD τ sig) → Buf (Elt Ideal) ℓ)

/-! The block each window reads or writes at a point. -/
theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![0, 0, 0] :=
  (by decide +kernel : ∀ t : Fin grid0.N, win0_1.index t = ![0, 0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])

/-- The projected row at a column: the two halves' sums. -/
def Go (x0 : S2x2048x1024.Idx → EReal) (x1 : S4x512x1024.Idx → EReal) : S2048x1024.Idx → EReal := fun i =>
  (∑ k : Fin 1024, x0 (ix3 0 (i 0) k) * x1 (ix3 ⟨k.val / 512, by omega⟩ ⟨k.val % 512, Nat.mod_lt _ (by omega)⟩ (i 1)))
  + ∑ k : Fin 1024, x0 (ix3 1 (i 0) k)
      * x1 (ix3 ⟨k.val / 512 + 2, by omega⟩ ⟨k.val % 512, Nat.mod_lt _ (by omega)⟩ (i 1))

/-- The gated residual sum. -/
def Gx (x0 : S2x2048x1024.Idx → EReal) (x1 : S4x512x1024.Idx → EReal) (x2 : S2048x1024.Idx → EReal)
    (x3 : S1x1024.Idx → EReal) : S2048x1024.Idx → EReal := fun i => x2 i + x3 (ix2 0 (i 1)) * Go x0 x1 i

theorem pay_o (a : Vec Ideal S1x512x1024 .bf16) (w : Vec Ideal S1x1024x1024 .bf16) (a' : Vec Ideal S1x512x1024 .bf16)
    (w' : Vec Ideal S1x1024x1024 .bf16) (j : S512x1024.Idx) :
    k0_pay1 a w a' w' j = (∑ k : Fin 1024, a (ix3 0 (j 0) k) * w (ix3 0 k (j 1)))
      + ∑ k : Fin 1024, a' (ix3 0 (j 0) k) * w' (ix3 0 k (j 1)) := by
  pointwise [k0_pay1]

theorem pay_x (a : Vec Ideal S1x512x1024 .bf16) (w : Vec Ideal S1x1024x1024 .bf16) (a' : Vec Ideal S1x512x1024 .bf16)
    (w' : Vec Ideal S1x1024x1024 .bf16) (x : Vec Ideal S512x1024 .f32) (g : Vec Ideal S1x1024 .f32) (j : S512x1024.Idx) :
    k0_pay2 a w a' w' x g j = x j + g (ix2 0 (j 1)) * k0_pay1 a w a' w' j := by
  pointwise [k0_pay2]

theorem pay_ob (a : Vec Ideal S1x512x1024 .bf16) (w : Vec Ideal S1x1024x1024 .bf16) (a' : Vec Ideal S1x512x1024 .bf16)
    (w' : Vec Ideal S1x1024x1024 .bf16) (j : S512x1024.Idx) : k0_pay3 a w a' w' j = k0_pay1 a w a' w' j := by
  pointwise [k0_pay3]

/-- A block's projected row is the whole array's. -/
theorem blk_o (c : Dev nD) (t : Fin cfg0.N) (j : S512x1024.Idx) (i : S2048x1024.Idx)
    (h0 : (i 0).val = t.val * 512 + (j 0).val) (h1 : (i 1).val = (j 1).val) :
    k0_pay1 (View.ld (iblk m c 0 t) r0_0) (View.ld (iblk m c 1 t) r0_1) (View.ld (iblk m c 0 t) r0_2)
        (View.ld (iblk m c 1 t) r0_3) j
      = Go (m ((c : Thread nD τ).loc main_arg0)) (m ((c : Thread nD τ).loc main_arg1)) i := by
  rw [pay_o]
  unfold Go
  congr 1
  · refine Fin.sum_fin_congr fun k => ?_
    congr 1
    · rw [View.ld_apply]; blk_ext [iblk, V_main_arg0, idx0] <;> simp [Rect.idx_unit_val] <;> omega
    · rw [View.ld_apply]; blk_ext! [iblk, idx1, r0_1, r0_3]
  · refine Fin.sum_fin_congr fun k => ?_
    congr 1
    · rw [View.ld_apply]; blk_ext [iblk, V_main_arg0, idx0] <;> simp [Rect.idx_unit_val] <;> omega
    · rw [View.ld_apply]; blk_ext! [iblk, idx1, r0_1, r0_3]

theorem final_o (c : Dev nD) : (dats m 0 c).arrAt 5 cfg0.N
    = Go (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [pay_ob]
  refine blk_o m c t y _ ?_ ?_
  · blk_simp [idx5]
  · blk_simp [idx5]

theorem blk_x (c : Dev nD) (t : Fin cfg0.N) (j : S512x1024.Idx) (i : S2048x1024.Idx)
    (h0 : (i 0).val = t.val * 512 + (j 0).val) (h1 : (i 1).val = (j 1).val) :
    k0_pay2 (View.ld (iblk m c 0 t) r0_0) (View.ld (iblk m c 1 t) r0_1) (View.ld (iblk m c 0 t) r0_2)
        (View.ld (iblk m c 1 t) r0_3) (iblk m c 2 t) (iblk m c 3 t) j
      = Gx (m ((c : Thread nD τ).loc main_arg0)) (m ((c : Thread nD τ).loc main_arg1)) (m ((c : Thread nD τ).loc main_arg2)) (m ((c : Thread nD τ).loc main_arg3)) i := by
  rw [pay_x, blk_o m c t j i h0 h1]
  unfold Gx
  congr 1
  · blk_ext [iblk, V_main_arg2, idx2]
  · congr 1
    blk_ext [iblk, V_main_arg3, idx3]

theorem final_x (c : Dev nD) : (dats m 0 c).arrAt 4 cfg0.N = Gx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine blk_x m c t y _ ?_ ?_
  · blk_simp [idx4]
  · blk_simp [idx4]

end Cert.OutProjLastIdeal.Final

namespace Cert.OutProjLastRefIdeal.Final

open Cert.OutProjLastRefIdeal
open Cert.OutProjLastIdeal.Final (Go Gx)

/-- The plain product of 2048 terms is the two halves' sums. -/
theorem ref_v5 (x0 : Vec Ideal S2x2048x1024 .bf16) (x1 : Vec Ideal S4x512x1024 .bf16) (i : S2048x1024.Idx) :
    Read.val_main_v5 (F := Ideal) x0 x1 i = Go x0 x1 i := by
  pointwise [Read.val_main_v5, Read.val_main_v4, Read.val_main_v3, Read.val_main_v2, Read.val_main_v1, Read.val_main_v0]
  unfold Go
  refine (Fin.sum_univ_add (a := 1024) (b := 1024) _).trans ?_
  congr 1

theorem ref_o (x0 : Vec Ideal S2x2048x1024 .bf16) (x1 : Vec Ideal S4x512x1024 .bf16) (i : S2048x1024.Idx) :
    Read.val_main_v9 (F := Ideal) x0 x1 i = Go x0 x1 i := by
  rw [← ref_v5]
  pointwise [Read.val_main_v9]

theorem ref_x (x0 : Vec Ideal S2x2048x1024 .bf16) (x1 : Vec Ideal S4x512x1024 .bf16) (x2 : Vec Ideal S2048x1024 .f32)
    (x3 : Vec Ideal S1x1024 .f32) (i : S2048x1024.Idx) :
    Read.val_main_v8 (F := Ideal) x0 x1 x2 x3 i = Gx x0 x1 x2 x3 i := by
  unfold Gx
  rw [← ref_v5]
  pointwise [Read.val_main_v8, Read.val_main_v7, Read.val_main_v6]

end Cert.OutProjLastRefIdeal.Final

namespace Cert.Proof.OutProjLastClaims

theorem frame_k : Cert.quiescent_OutProjLast := fun m g _ => Cert.OutProjLast.Gen.frame m g
theorem frame_ki : Cert.quiescent_OutProjLastIdeal := fun m g _ => Cert.OutProjLastIdeal.Gen.frame m g
theorem frame_ri : Cert.quiescent_OutProjLastRefIdeal := fun m g _ =>
  (θ_run Cert.OutProjLastRefIdeal.defs _ _).mono (fun r h => ⟨fun c => (h c).2.2, Idealize.ShloMosaic.sem_eq_zero_of_no_sems (by decide) r.2⟩)
    (Cert.OutProjLastRefIdeal.Value.run (F := Ideal) m g)
theorem preserves : Cert.preserves_OutProjLast_OutProjLastIdeal := trivial

/-- At the extended reals the kernel's results and the reference's are the same at every index. -/
theorem algebraic : Cert.algebraic_OutProjLastIdeal_OutProjLastRefIdeal := by
  intro m g m' g' _ h
  refine ⟨fun c => Cert.OutProjLastIdeal.Final.Gx (m ((c.tc : Thread Cert.OutProjLastIdeal.nD Cert.OutProjLastIdeal.τ).loc Cert.OutProjLastIdeal.main_arg0)) (m ((c.tc : Thread Cert.OutProjLastIdeal.nD Cert.OutProjLastIdeal.τ).loc Cert.OutProjLastIdeal.main_arg1)) (m ((c.tc : Thread Cert.OutProjLastIdeal.nD Cert.OutProjLastIdeal.τ).loc Cert.OutProjLastIdeal.main_arg2)) (m ((c.tc : Thread Cert.OutProjLastIdeal.nD Cert.OutProjLastIdeal.τ).loc Cert.OutProjLastIdeal.main_arg3)), fun c => Cert.OutProjLastIdeal.Final.Go (m ((c.tc : Thread Cert.OutProjLastIdeal.nD Cert.OutProjLastIdeal.τ).loc Cert.OutProjLastIdeal.main_arg0)) (m ((c.tc : Thread Cert.OutProjLastIdeal.nD Cert.OutProjLastIdeal.τ).loc Cert.OutProjLastIdeal.main_arg1)), ?_, ?_⟩
  · exact (θ_run Cert.OutProjLastIdeal.defs _ _).mono (fun _ h c => ⟨(h c).1.trans (Cert.OutProjLastIdeal.Final.final_x m c), (h c).2.1.trans (Cert.OutProjLastIdeal.Final.final_o m c), (h c).2.2⟩)
      (Cert.OutProjLastIdeal.Value.run_blocks (F := Ideal) m g)
  refine (θ_run Cert.OutProjLastRefIdeal.defs _ _).mono (fun _ h' c => ⟨(h' c).1.trans ?_, (h' c).2.1.trans ?_, (h' c).2.2⟩)
    (Cert.OutProjLastRefIdeal.Value.run (F := Ideal) m' g')
  · exact (Cert.OutProjLastRefIdeal.Read.val_main_v8_eq _ _ _ _).trans
      ((funext (Cert.OutProjLastRefIdeal.Final.ref_x _ _ _ _)).trans
        (congr (congr (congr (congrArg Cert.OutProjLastIdeal.Final.Gx ((h c).1)) ((h c).2.1)) ((h c).2.2.1)) ((h c).2.2.2)))
  · exact (Cert.OutProjLastRefIdeal.Read.val_main_v9_eq _ _).trans
      ((funext (Cert.OutProjLastRefIdeal.Final.ref_o _ _)).trans
        (congr (congrArg Cert.OutProjLastIdeal.Final.Go ((h c).1)) ((h c).2.1)))

end Cert.Proof.OutProjLastClaims

end
-- ==== Proof.RowWindow.lean ====
/-
  Sums over a window of rows of a two-axis vector, as a kernel computes them: by rotating the rows and adding, the
  window's length doubled each time.
-/
module

public import Idealize.ShloMosaic.Lib.KernelVsHost
public import Idealize.ShloMosaic.Lib.Pipeline.Value
public import Idealize.ShloMosaic.Lib.Pointwise
public import Idealize.ShloMosaic.Lib.IdealHost
public import Idealize.ShloMosaic.PureOps.Ideal.Laws

@[expose] public section

noncomputable section

namespace Cert.Proof.RowWindow

open Idealize.ShloMosaic

section Layout
variable {α : Type} {m n c N : ℕ}

/-- Rows rotated by `s` towards larger numbers: row `r` is the operand's row `r - s`, from row `s` on. -/
theorem rotate_past (sb : BitVec 32) (s : ℕ) (hsb : sb.toNat = s) (x : (⟨2, ![n, c]⟩ : Shape).Idx → α)
    (h : (⟨2, ![n, c]⟩ : Shape).Rotates 0 none) (r : ℕ) (hr : r < n) (b : Fin c) (hs : s ≤ r) :
    dynamicRotate (0 : Fin 2) sb none x h (ix2 ⟨r, hr⟩ b) = x (ix2 ⟨r - s, by omega⟩ b) :=
  dynamicRotate_apply (0 : Fin 2) sb x h (ix2 ⟨r, hr⟩ b) (ix2 ⟨r - s, by omega⟩ b) fun a => match a with
    | ⟨0, _⟩ => by
      show r - s = if (0 : Fin 2) = 0 then (r + n - sb.toNat % n) % n else r
      rw [if_pos rfl, hsb, Nat.mod_eq_of_lt (show s < n by omega), show r + n - s = (r - s) + n by omega,
        Nat.add_mod_right, Nat.mod_eq_of_lt (by omega)]
    | ⟨1, _⟩ => rfl

/-- Rows rotated by `n - s`: row `r` is the operand's row `r + s`, while there is one. -/
theorem rotate_future (sb : BitVec 32) (s : ℕ) (hs0 : 0 < s) (hsb : sb.toNat + s = n)
    (x : (⟨2, ![n, c]⟩ : Shape).Idx → α)
    (h : (⟨2, ![n, c]⟩ : Shape).Rotates 0 none) (r : ℕ) (b : Fin c) (hs : r + s < n) :
    dynamicRotate (0 : Fin 2) sb none x h (ix2 ⟨r, by omega⟩ b) = x (ix2 ⟨r + s, hs⟩ b) :=
  dynamicRotate_apply (0 : Fin 2) sb x h (ix2 ⟨r, by omega⟩ b) (ix2 ⟨r + s, hs⟩ b) fun a => match a with
    | ⟨0, _⟩ => by
      show r + s = if (0 : Fin 2) = 0 then (r + n - sb.toNat % n) % n else r
      rw [if_pos rfl, Nat.mod_eq_of_lt (show sb.toNat < n by omega), show r + n - sb.toNat = r + s by omega,
        Nat.mod_eq_of_lt hs]
    | ⟨1, _⟩ => rfl

/-- Two stacks of rows joined: the first rows are the first stack's. -/
theorem join_low (x₁ : (⟨2, ![m, c]⟩ : Shape).Idx → α) (x₂ : (⟨2, ![n, c]⟩ : Shape).Idx → α)
    (h : Shape.Concatenates [(⟨2, ![m, c]⟩ : Shape), ⟨2, ![n, c]⟩] ⟨2, ![N, c]⟩ 0) (r : ℕ) (hN : r < N) (b : Fin c)
    (hr : r < m) :
    concatenate (⟨2, ![N, c]⟩ : Shape) (0 : Fin 2) [⟨⟨2, ![m, c]⟩, x₁⟩, ⟨⟨2, ![n, c]⟩, x₂⟩] h (ix2 ⟨r, hN⟩ b)
      = x₁ (ix2 ⟨r, hr⟩ b) :=
  concatenate_pair_apply_left (t := ⟨2, ![N, c]⟩) (s₁ := ⟨2, ![m, c]⟩) (s₂ := ⟨2, ![n, c]⟩) (0 : Fin 2) x₁ x₂ h _ rfl _
    fun a => match a with
      | ⟨0, _⟩ => rfl
      | ⟨1, _⟩ => rfl

/-- Two stacks of rows joined: the rows after them are the second stack's. -/
theorem join_high (x₁ : (⟨2, ![m, c]⟩ : Shape).Idx → α) (x₂ : (⟨2, ![n, c]⟩ : Shape).Idx → α)
    (h : Shape.Concatenates [(⟨2, ![m, c]⟩ : Shape), ⟨2, ![n, c]⟩] ⟨2, ![N, c]⟩ 0) (r : ℕ) (hN : m + r < N) (b : Fin c)
    (hr : r < n) :
    concatenate (⟨2, ![N, c]⟩ : Shape) (0 : Fin 2) [⟨⟨2, ![m, c]⟩, x₁⟩, ⟨⟨2, ![n, c]⟩, x₂⟩] h (ix2 ⟨m + r, hN⟩ b)
      = x₂ (ix2 ⟨r, hr⟩ b) :=
  concatenate_pair_apply_right (t := ⟨2, ![N, c]⟩) (s₁ := ⟨2, ![m, c]⟩) (s₂ := ⟨2, ![n, c]⟩) (0 : Fin 2) x₁ x₂ h _ rfl rfl _
    (fun a ha => match a with
      | ⟨0, _⟩ => absurd rfl ha
      | ⟨1, _⟩ => rfl)
    (by show r + m = m + r; omega)

end Layout

section Sums
variable {n c : ℕ} {f : ℕ → Fin c → EReal}

/-- The rows of `S` from row `w - 1` on are the sums of `w` rows of `f`, the row itself and those before it. -/
def Past (S : (⟨2, ![n, c]⟩ : Shape).Idx → EReal) (f : ℕ → Fin c → EReal) (w : ℕ) : Prop :=
  ∀ (r : ℕ) (hr : r < n) (b : Fin c), w ≤ r + 1 → S (ix2 ⟨r, hr⟩ b) = ∑ k ∈ Finset.range w, f (r - k) b

/-- The rows of `S` up to the last `w - 1` are the sums of `w` rows of `f`, the row itself and those after it. -/
def Future (S : (⟨2, ![n, c]⟩ : Shape).Idx → EReal) (f : ℕ → Fin c → EReal) (w : ℕ) : Prop :=
  ∀ (r : ℕ) (hr : r < n) (b : Fin c), r + w ≤ n → S (ix2 ⟨r, hr⟩ b) = ∑ k ∈ Finset.range w, f (r + k) b

theorem Past.one {S : (⟨2, ![n, c]⟩ : Shape).Idx → EReal} (h : ∀ r (hr : r < n) b, S (ix2 ⟨r, hr⟩ b) = f r b) :
    Past S f 1 := fun r hr b _ => by rw [h, Finset.sum_range_one, Nat.sub_zero]

theorem Future.one {S : (⟨2, ![n, c]⟩ : Shape).Idx → EReal} (h : ∀ r (hr : r < n) b, S (ix2 ⟨r, hr⟩ b) = f r b) :
    Future S f 1 := fun r hr b _ => by rw [h, Finset.sum_range_one, Nat.add_zero]

/-- Adding the rows rotated by `w` doubles the window. -/
theorem Past.double {S : FVec Ideal (⟨2, ![n, c]⟩ : Shape) .f32} {w : ℕ} (hS : Past S f w) (sb : BitVec 32)
    (hsb : sb.toNat = w) (h : (⟨2, ![n, c]⟩ : Shape).Rotates 0 none) (u : ℕ) (hu : u = w + w) :
    Past (addf S (dynamicRotate (0 : Fin 2) sb none S h) : FVec Ideal (⟨2, ![n, c]⟩ : Shape) .f32) f u := fun r hr b hwr => by
  subst hu
  show S (ix2 ⟨r, hr⟩ b) + dynamicRotate (0 : Fin 2) sb none S h (ix2 ⟨r, hr⟩ b) = _
  rw [rotate_past sb w hsb S h r hr b (by omega), hS r hr b (by omega), hS (r - w) _ b (by omega), Finset.sum_range_add]
  refine congrArg _ (Finset.sum_congr rfl fun k _ => ?_)
  rw [Nat.sub_sub]

/-- Adding the rows rotated by `n - w` doubles the window. -/
theorem Future.double {S : FVec Ideal (⟨2, ![n, c]⟩ : Shape) .f32} {w : ℕ} (hS : Future S f w) (hw : 0 < w) (sb : BitVec 32)
    (hsb : sb.toNat + w = n) (h : (⟨2, ![n, c]⟩ : Shape).Rotates 0 none) (u : ℕ) (hu : u = w + w) :
    Future (addf S (dynamicRotate (0 : Fin 2) sb none S h) : FVec Ideal (⟨2, ![n, c]⟩ : Shape) .f32) f u := fun r hr b hwr => by
  subst hu
  show S (ix2 ⟨r, hr⟩ b) + dynamicRotate (0 : Fin 2) sb none S h (ix2 ⟨r, hr⟩ b) = _
  rw [rotate_future sb w hw hsb S h r b (by omega), hS r hr b (by omega), hS (r + w) _ b (by omega), Finset.sum_range_add]
  refine congrArg _ (Finset.sum_congr rfl fun k _ => ?_)
  rw [Nat.add_assoc]

end Sums

section Masked

/-- A window's sum that reaches before the first row as a sum over all rows of the rows times 0 or 1. -/
theorem past_masked {T : ℕ} (x : Fin T → EReal) (w t : ℕ) (ht : t < T) :
    (∑ k ∈ Finset.range w, if h : k ≤ t then x ⟨t - k, by omega⟩ else 0)
      = ∑ s : Fin T, (if s.val ≤ t ∧ t < s.val + w then (1 : EReal) else 0) * x s := by
  simp only [ite_mul, one_mul, zero_mul]
  rw [← Finset.sum_filter, ← Finset.sum_filter_add_sum_filter_not (Finset.range w) (fun k => k ≤ t)]
  have h0 : (∑ k ∈ Finset.range w with ¬ k ≤ t, if h : k ≤ t then x ⟨t - k, by omega⟩ else 0) = 0 :=
    Finset.sum_eq_zero fun k hk => dif_neg (Finset.mem_filter.1 hk).2
  rw [h0, add_zero]
  refine Finset.sum_bij' (fun k _ => ⟨t - k, by omega⟩) (fun s _ => t - s.val) ?_ ?_ ?_ ?_ ?_
  · intro k hk
    simp only [Finset.mem_filter, Finset.mem_range, Finset.mem_univ, true_and] at hk ⊢
    omega
  · intro s hs
    simp only [Finset.mem_filter, Finset.mem_range, Finset.mem_univ, true_and] at hs ⊢
    omega
  · intro k hk
    simp only [Finset.mem_filter, Finset.mem_range] at hk
    show t - (t - k) = k
    omega
  · intro s hs
    simp only [Finset.mem_filter, Finset.mem_univ, true_and] at hs
    exact Fin.ext (show t - (t - s.val) = s.val by omega)
  · intro k hk
    exact dif_pos (Finset.mem_filter.1 hk).2

/-- The same of the rows that follow: the sum over the rows whose window holds row `s`. -/
theorem future_masked {T : ℕ} (x : Fin T → EReal) (w s : ℕ) :
    (∑ k ∈ Finset.range w, if h : s + k < T then x ⟨s + k, h⟩ else 0)
      = ∑ t : Fin T, (if s ≤ t.val ∧ t.val < s + w then (1 : EReal) else 0) * x t := by
  simp only [ite_mul, one_mul, zero_mul]
  rw [← Finset.sum_filter, ← Finset.sum_filter_add_sum_filter_not (Finset.range w) (fun k => s + k < T)]
  have h0 : (∑ k ∈ Finset.range w with ¬ s + k < T, if h : s + k < T then x ⟨s + k, h⟩ else 0) = 0 :=
    Finset.sum_eq_zero fun k hk => dif_neg (Finset.mem_filter.1 hk).2
  rw [h0, add_zero]
  refine Finset.sum_bij' (fun k hk => ⟨s + k, (Finset.mem_filter.1 hk).2⟩) (fun t _ => t.val - s) ?_ ?_ ?_ ?_ ?_
  · intro k hk
    simp only [Finset.mem_filter, Finset.mem_range, Finset.mem_univ, true_and] at hk ⊢
    omega
  · intro t ht
    have := t.isLt
    simp only [Finset.mem_filter, Finset.mem_range, Finset.mem_univ, true_and] at ht ⊢
    omega
  · intro k hk
    show s + k - s = k
    omega
  · intro t ht
    simp only [Finset.mem_filter, Finset.mem_univ, true_and] at ht
    exact Fin.ext (show s + (t.val - s) = t.val by omega)
  · intro k hk
    exact dif_pos (Finset.mem_filter.1 hk).2

end Masked

/-! ### The words that count rows -/

theorem toInt_small (n : ℕ) (h : n < 2147483648) : (BitVec.ofNat 32 n).toInt = n := by
  rw [BitVec.toInt_eq_toNat_of_lt (by rw [BitVec.toNat_ofNat]; omega), BitVec.toNat_ofNat]; omega

theorem andi_mask (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ, IntOp.andi]

theorem sle_small (s t : ℕ) (hs : s < 2147483648) (ht : t < 2147483648) :
    IntOp.cmpi .sle (BitVec.ofNat 32 s) (BitVec.ofNat 32 t) = BitVec.ofBool (decide (s ≤ t)) := by
  show BitVec.ofBool ((BitVec.ofNat 32 s).sle (BitVec.ofNat 32 t)) = _
  rw [BitVec.sle_eq_decide, toInt_small s hs, toInt_small t ht]; simp

theorem slt_small (s t : ℕ) (hs : s < 2147483648) (ht : t < 2147483648) :
    IntOp.cmpi .slt (BitVec.ofNat 32 s) (BitVec.ofNat 32 t) = BitVec.ofBool (decide (s < t)) := by
  show BitVec.ofBool ((BitVec.ofNat 32 s).slt (BitVec.ofNat 32 t)) = _
  rw [BitVec.slt_eq_decide, toInt_small s hs, toInt_small t ht]; simp

theorem select_mask {α : Type} (P : Prop) [Decidable P] (a b : α) :
    Scalar.select (BitVec.ofBool (decide P)) a b = if P then a else b := by
  by_cases h : P <;> simp [h, Scalar.select]

/-- The comparisons of words that pick a window of rows. -/
theorem select_window {α : Type} (s t w : ℕ) (hs : s < 2048) (ht : t < 2048) (hw : w ≤ 16) (a b : α) :
    Scalar.select (IntOp.andi (IntOp.cmpi .sle (BitVec.ofNat 32 s) (BitVec.ofNat 32 t))
        (IntOp.cmpi .slt (BitVec.ofNat 32 t) (IntOp.addi (BitVec.ofNat 32 s) (BitVec.ofNat 32 w)))) a b
      = if s ≤ t ∧ t < s + w then a else b := by
  rw [show IntOp.addi (BitVec.ofNat 32 s) (BitVec.ofNat 32 w) = BitVec.ofNat 32 (s + w) from (BitVec.ofNat_add ..).symm,
    sle_small s t (by omega) (by omega), slt_small t (s + w) (by omega) (by omega), andi_mask, select_mask]

/-- The number of rows in a window is not zero. -/
theorem count_ne (r w : ℕ) (hr : r < 2048) (hw0 : 0 < w) (hw : w ≤ 16) :
    FloatOps.sitofp (F := Ideal) .f32 (IntOp.minsi (BitVec.ofNat 32 (r + 1)) (BitVec.ofNat 32 w)) ≠ (0 : EReal) := by
  have h : IntOp.minsi (BitVec.ofNat 32 (r + 1)) (BitVec.ofNat 32 w) = BitVec.ofNat 32 (min (r + 1) w) := by
    unfold IntOp.minsi
    rw [BitVec.slt_eq_decide, toInt_small _ (by omega), toInt_small _ (by omega)]
    by_cases h : r + 1 < w
    · rw [if_pos (by simpa using (by omega : ((r + 1 : ℕ) : ℤ) < w)), Nat.min_eq_left (by omega)]
    · rw [if_neg (by simpa using (by omega : ((w : ℕ) : ℤ) ≤ (r + 1 : ℕ))), Nat.min_eq_right (by omega)]
  rw [h]
  show (((BitVec.ofNat 32 (min (r + 1) w)).toInt : ℝ) : EReal) ≠ 0
  rw [toInt_small _ (by omega)]
  have : (0 : ℝ) < ((min (r + 1) w : ℕ) : ℤ) := by exact_mod_cast (by omega : 0 < min (r + 1) w)
  exact_mod_cast this.ne'

end Cert.Proof.RowWindow

end
-- ==== Proof.OddMixFwd.lean ====
module

public import proofs.«01_k».proof.Proof.RowWindow
public import proofs.«01_k».proof.Defs
public import proofs.«01_k».proof.Proof.Gen.OddMixFwd.Frame
public import proofs.«01_k».proof.Proof.Gen.OddMixFwdIdeal.Value
public import proofs.«01_k».proof.Proof.Gen.OddMixFwdRefIdeal.Run
public import proofs.«01_k».proof.Proof.Gen.OddMixFwdRefIdeal.Read
public import Idealize.ShloMosaic.Lib.Pipeline.ValueKit
public import Idealize.ShloMosaic.Lib.WholeRead
public import Idealize.ShloMosaic.Lib.Pointwise

/-!
The odd layer's mixing of rows, forward: a group of 512 columns at a time, the mean of the last `w` rows less the row itself,
times the group's weights, times the columns' scales, times the gate `z / (1 + exp (-z))`. The kernel goes down the rows in
four parts of 512; the last 16 rows of a part are carried to the next, and the windows' sums are found by doubling.
-/

@[expose] public section
set_option maxRecDepth 16384
noncomputable section
namespace Cert.OddMixFwdIdeal.Final
open Idealize.ShloMosaic Idealize.ShloMosaic.TcCoe Idealize.SL.Sem
open Cert.OddMixFwdIdeal Cert.OddMixFwdIdeal.Gen Cert.Proof.RowWindow

/-! ### One part of the rows -/

/-- What one part's rows become, from the windows' sums `S` of the 16 rows before the part and the part. -/
def chunk (win : BitVec 32) (k : ℕ) (pw : Vec Ideal S4x128x512 .bf16) (ps : Vec Ideal S1x512 .f32)
    (p z : Vec Ideal S1x512x512 .bf16) (S : FVec Ideal S528x512 .f32) : FVec Ideal S1x512x512 .bf16 :=
  have x : FVec Ideal S512x512 .f32 := extf .f32 (shapeCast S512x512 p shapeCasts_S1x512x512_S512x512) bitsLt_bf16_f32
  have s : FVec Ideal S512x512 .f32 := extractStridedSlice S512x512 ![16, 0] S slices_S528x512_o16_0_S512x512
  have n : IVec S512x1 32 := minsi (addi (addi (broadcast S512x1 (Scalar.muli (Scf.iv 0#32 1#32 k) 512#32))
    (iota .tc S512x1 32 [0] iota_S512x1_d0_w32)) (broadcast S512x1 1#32)) (broadcast S512x1 win)
  have d : FVec Ideal S512x1 .f32 := divf (broadcast S512x1 (Scalar.ofBits .f32 0x3F800000#32)) (sitofp .f32 n)
  have v : FVec Ideal S512x512 .f32 := subf (mulf s (broadcastTo S512x512 d broadcasts_S512x1_S512x512)) x
  have y : FVec Ideal S512x512 .f32 := matmul dot_S512x512_S512x512_S512x512_1_0_0_1_n_n none
    (truncf .bf16 v bitsLt_bf16_f32) (k0_pay1 pw) (constant S512x512 .f32 0x00000000#32)
  have a : FVec Ideal S512x512 .f32 := mulf y (broadcastTo S512x512 ps broadcasts_S1x512_S512x512)
  have g : FVec Ideal S512x512 .f32 := extf .f32 (shapeCast S512x512 z shapeCasts_S1x512x512_S512x512) bitsLt_bf16_f32
  have e : FVec Ideal S512x512 .f32 := exp (subf (broadcast S512x512 (Scalar.ofBits .f32 0x00000000#32)) g)
  have o : FVec Ideal S512x512 .f32 := addf (broadcast S512x512 (Scalar.ofBits .f32 0x3F800000#32)) e
  have u : FVec Ideal S512x512 .f32 := mulf a (mulf g (reciprocal true o))
  shapeCast S1x512x512 (truncf .bf16 u bitsLt_bf16_f32) shapeCasts_S512x512_S1x512x512

/-- The 16 rows before a part, then the part. -/
def ext (h : FVec Ideal S16x512 .f32) (p : Vec Ideal S1x512x512 .bf16) : FVec Ideal S528x512 .f32 :=
  concatenate S528x512 0 [⟨S16x512, h⟩, ⟨S512x512, k0_pay14 p⟩] concatenates_S16x512_S512x512_S528x512_d0

/-- The rows plus the rows `d` before them. -/
def twice (d : BitVec 32) (S : FVec Ideal S528x512 .f32) : FVec Ideal S528x512 .f32 :=
  addf S (dynamicRotate 0 d none S rotates_S528x512_d0)

/-- The rows of part `k`. -/
def part (x : Vec Ideal S1x2048x512 .bf16) (k : ℕ) (hk : k < 4) : Vec Ideal S1x512x512 .bf16 :=
  fun j => x (ix3 0 ⟨512 * k + (j 1).val, by have : (j 1).val < 512 := (j 1).isLt; omega⟩ (j 2))

/-! ### The values meant -/

/-- Row `n` of column `b`. -/
def row (x : Vec Ideal S1x2048x512 .bf16) (b : Fin 512) (n : ℕ) : EReal := if h : n < 2048 then x (ix3 0 ⟨n, h⟩ b) else 0

/-- The number of rows the window of row `r` holds. -/
def count (win : BitVec 32) (r : ℕ) : EReal :=
  FloatOps.sitofp (F := Ideal) .f32 (IntOp.minsi (BitVec.ofNat 32 (r + 1)) win)

/-- The mean over the window less the row itself. -/
def pooled (win : BitVec 32) (w : ℕ) (x : Vec Ideal S1x2048x512 .bf16) (r : ℕ) (b : Fin 512) : EReal :=
  (∑ k ∈ Finset.range w, if k ≤ r then row x b (r - k) else 0) * Ideal.div 1 (count win r) - row x b r

/-- The result. -/
def val (win : BitVec 32) (w : ℕ) (x z : Vec Ideal S1x2048x512 .bf16) (pw : Vec Ideal S4x128x512 .bf16)
    (ps : Vec Ideal S1x512 .f32) (y : S1x2048x512.Idx) : EReal :=
  (∑ b : Fin 512, pooled win w x (y 1).val b * pw (ix3 ⟨b.val / 128, by omega⟩ ⟨b.val % 128, by omega⟩ (y 2)))
    * ps (ix2 0 (y 2)) * (z y * Ideal.div 1 (1 + Ideal.exp (0 - z y)))

/-- The rows of a part with the 16 before it. -/
def seq (x : Vec Ideal S1x2048x512 .bf16) (k : ℕ) (n : ℕ) (b : Fin 512) : EReal :=
  if 16 ≤ 512 * k + n then row x b (512 * k + n - 16) else 0

/-- The carried 16 rows are the ones before part `k`. -/
def Halo (x : Vec Ideal S1x2048x512 .bf16) (k : ℕ) (h : FVec Ideal S16x512 .f32) : Prop :=
  ∀ (j : ℕ) (hj : j < 16) (b : Fin 512), h (ix2 ⟨j, hj⟩ b) = seq x k j b

theorem pay14_apply (p : Vec Ideal S1x512x512 .bf16) (r : Fin 512) (b : Fin 512) : k0_pay14 p (ix2 r b) = p (ix3 0 r b) := by
  pointwise [k0_pay14]

theorem tail_apply (p : Vec Ideal S1x512x512 .bf16) (j : ℕ) (hj : j < 16) (b : Fin 512) :
    k0_pay4 (k0_pay14 p) (ix2 ⟨j, hj⟩ b) = p (ix3 0 ⟨496 + j, by omega⟩ b) := by
  pointwise [k0_pay4, k0_pay14]

theorem halo_zero (x : Vec Ideal S1x2048x512 .bf16) : Halo x 0 k0_pay2 := fun j hj b => by
  have h : k0_pay2 (F := Ideal) (ix2 ⟨j, hj⟩ b) = 0 := by pointwise [k0_pay2]
  rw [h, seq, if_neg (by omega)]

theorem halo_succ (x : Vec Ideal S1x2048x512 .bf16) (k : ℕ) (hk : k < 4) :
    Halo x (k + 1) (k0_pay4 (k0_pay14 (part x k hk))) := fun j hj b => by
  rw [tail_apply, seq, if_pos (by omega), row, dif_pos (by omega)]
  show x (ix3 0 ⟨512 * k + (496 + j), _⟩ b) = _
  congr 2; apply Fin.ext; show 512 * k + (496 + j) = 512 * (k + 1) + j - 16; omega

theorem past_ext (x : Vec Ideal S1x2048x512 .bf16) (k : ℕ) (hk : k < 4) (h : FVec Ideal S16x512 .f32) (hh : Halo x k h) :
    Past (ext h (part x k hk)) (seq x k) 1 := Past.one fun r hr b => by
  by_cases hr' : r < 16
  · exact (join_low _ _ _ r hr b hr').trans (hh r hr' b)
  · obtain ⟨r, rfl⟩ : ∃ s, r = 16 + s := ⟨r - 16, by omega⟩
    refine (join_high _ _ _ r hr b (by omega)).trans ?_
    rw [pay14_apply, seq, if_pos (by omega), row, dif_pos (by omega)]
    show x (ix3 0 ⟨512 * k + r, _⟩ b) = _
    congr 2; apply Fin.ext; show 512 * k + r = 512 * k + (16 + r) - 16; omega

theorem past_twice {S : FVec Ideal S528x512 .f32} {f : ℕ → Fin 512 → EReal} (w : ℕ) (hS : Past S f w) (d : BitVec 32)
    (hd : d.toNat = w) (u : ℕ) (hu : u = w + w) : Past (twice d S) f u := hS.double d hd _ u hu

theorem bits_eq (k j : ℕ) (_ : k < 4) (_ : j < 512) :
    IntOp.addi (IntOp.addi (Scalar.muli (Scf.iv (0#32) (1#32) k) 512#32) (BitVec.ofNat 32 j)) 1#32
      = BitVec.ofNat 32 (512 * k + j + 1) := by
  apply BitVec.eq_of_toNat_eq
  simp only [IntOp.addi, IntOp.muli, Scalar.muli, Scf.iv, BitVec.toNat_add, BitVec.toNat_mul, BitVec.toNat_ofNat]
  omega

theorem chunk_apply (win : BitVec 32) (w : ℕ) (hw : w ≤ 16) (k : ℕ) (hk : k < 4) (pw : Vec Ideal S4x128x512 .bf16)
    (ps : Vec Ideal S1x512 .f32) (x z : Vec Ideal S1x2048x512 .bf16) (S : FVec Ideal S528x512 .f32) (hS : Past S (seq x k) w)
    (j : S1x512x512.Idx) (y : S1x2048x512.Idx) (h1 : (y 1).val = 512 * k + (j 1).val) (h2 : (y 2).val = (j 2).val) :
    chunk win k pw ps (part x k hk) (part z k hk) S j = val win w x z pw ps y := by
  have hj : (j 1).val < 512 := (j 1).isLt
  have e2 : (y 2) = (j 2) := Fin.ext h2
  have ez : part z k hk j = z y := by
    unfold part
    refine congrArg z (funext fun a => Fin.ext ?_)
    match a with
    | ⟨0, _⟩ => have := (y 0).isLt; show 0 = (y 0).val; change (y 0).val < 1 at this; omega
    | ⟨1, _⟩ => exact h1.symm
    | ⟨2, _⟩ => exact h2.symm
  pointwise [chunk, k0_pay1]
  rw [ez, val, e2]
  refine congrArg (fun t => t * _ * _) (Finset.sum_congr rfl fun b _ => congrArg (· * _) ?_)
  rw [hS (16 + (j 1).val) (by omega) b (by omega), pooled, count, h1, bits_eq k _ hk hj]
  refine congrArg₂ (fun s t => s * _ - t) (Finset.sum_congr rfl fun i hi => ?_) ?_
  · have hi' := Finset.mem_range.1 hi
    rw [seq]
    by_cases h : i ≤ 512 * k + (j 1).val
    · rw [if_pos h, if_pos (by omega)]; congr 1; omega
    · rw [if_neg h, if_neg (by omega)]
  · rw [row, dif_pos (by omega)]; rfl

/-! ### The loads of a part -/

theorem load_part (M : Memref sig .tc .vmem S1x2048x512 .bf16) (hM : M.IsWhole) (x : Vec Ideal S1x2048x512 .bf16) (k : ℕ) (hk : k < 4)
    (off : Fin 3 → ℕ) (ho : off = ![0, 512 * k, 0]) (inb) :
    View.readAt (Elt Ideal) M.view (Rect.unit (s := S1x2048x512) off S1x512x512.size inb).toLoadRect (hM.unread x) = part x k hk := by
  subst ho
  funext j
  rw [hM.readAt_unread]
  unfold part
  refine congrArg x (funext fun a => Fin.ext ?_)
  match a with
  | ⟨0, _⟩ => have := (j 0).isLt; show 0 + 1 * (j 0).val = 0; change (j 0).val < 1 at this; omega
  | ⟨1, _⟩ => show 512 * k + 1 * (j 1).val = 512 * k + (j 1).val; omega
  | ⟨2, _⟩ => show 0 + 1 * (j 2).val = (j 2).val; omega

/-! ### The four loops, one for each window -/

section Loops
variable (c : Dev nD) (i : grid0.Coords)
  (arg1 : Memref sig .tc .vmem S1x2048x512 .bf16) (harg1 : arg1.IsWhole)
  (arg2 : Memref sig .tc .vmem S1x2048x512 .bf16) (harg2 : arg2.IsWhole)
  (arg3 : Memref sig .tc .vmem S4x128x512 .bf16) (harg3 : arg3.IsWhole)
  (arg4 : Memref sig .tc .vmem S1x512 .f32) (harg4 : arg4.IsWhole)
  (arg5 : Memref sig .tc .vmem S1x2048x512 .bf16) (harg5 : arg5.IsWhole)
  (x0 x1 : Vec Ideal S1x2048x512 .bf16) (x2 : Vec Ideal S4x128x512 .bf16) (x3 : Vec Ideal S1x512 .f32)

theorem tripR1 (h : k0_cond1 i = 1#1) (X1 : BufTy.Contents (Elt Ideal) arg1.view.ty) (X2 : BufTy.Contents (Elt Ideal) arg2.view.ty)
    (k : Fin k0_t1_loop.trips) (acc : FVec Ideal S16x512 .f32) :
    tripR_k0_t1 Variants.none c none i arg1 harg1 arg2 harg2 arg3 harg3 arg4 harg4 arg5 harg5 x2 x3 h X1 X2 k acc
      = k0_pay4 (k0_pay14 (View.readAt (Elt Ideal) arg1.view (Rect.unit (s := S1x2048x512) (k0_off1 k) S1x512x512.size (k0_off1_inb i k h)).toLoadRect X1)) := by
  unfold tripR_k0_t1 trip_k0_t1
  rfl

theorem tripL1 (h : k0_cond1 i = 1#1) (X1 : BufTy.Contents (Elt Ideal) arg1.view.ty) (X2 : BufTy.Contents (Elt Ideal) arg2.view.ty)
    (k : Fin k0_t1_loop.trips) (acc : FVec Ideal S16x512 .f32) :
    tripL_k0_t1 Variants.none c none i arg1 harg1 arg2 harg2 arg3 harg3 arg4 harg4 arg5 harg5 x2 x3 h X1 X2 k acc
      = [⟨Rect.unit (s := S1x2048x512) (k0_off1 k) S1x512x512.size (k0_off1_inb i k h), chunk 2#32 k.val x2 x3
          (View.readAt (Elt Ideal) arg1.view (Rect.unit (s := S1x2048x512) (k0_off1 k) S1x512x512.size (k0_off1_inb i k h)).toLoadRect X1)
          (View.readAt (Elt Ideal) arg2.view (Rect.unit (s := S1x2048x512) (k0_off1 k) S1x512x512.size (k0_off1_inb i k h)).toLoadRect X2)
          (twice 1#32 ((ext acc (View.readAt (Elt Ideal) arg1.view (Rect.unit (s := S1x2048x512) (k0_off1 k) S1x512x512.size (k0_off1_inb i k h)).toLoadRect X1))))⟩] := by
  unfold tripL_k0_t1 trip_k0_t1
  rfl

theorem loop1 (h : k0_cond1 i = 1#1) (y : S1x2048x512.Idx) : ∀ (k : ℕ) (_ : k ≤ k0_t1_loop.trips),
    Halo x0 k (st_k0_t1 Variants.none c none i arg1 harg1 arg2 harg2 arg3 harg3 arg4 harg4 arg5 harg5 x2 x3 h
      (harg1.unread x0) (harg2.unread x1) k0_pay2 k).1
    ∧ View.AllAt (st_k0_t1 Variants.none c none i arg1 harg1 arg2 harg2 arg3 harg3 arg4 harg4 arg5 harg5 x2 x3 h
      (harg1.unread x0) (harg2.unread x1) k0_pay2 k).2 y (val 2#32 2 x0 x1 x2 x3 y)
  | 0, _ => ⟨halo_zero x0, View.allAt_nil _ _⟩
  | k + 1, hk => by
    obtain ⟨hh, ha⟩ := loop1 h y k (by omega)
    have hk4 : k < 4 := Nat.lt_of_lt_of_le (Nat.lt_of_succ_le hk) k0_t1_abs.2.1
    have e := st_k0_t1_succ Variants.none c none i arg1 harg1 arg2 harg2 arg3 harg3 arg4 harg4 arg5 harg5 x2 x3 h
      (harg1.unread x0) (harg2.unread x1) k0_pay2 ⟨k, hk⟩
    rw [tripR1, tripL1] at e
    rw [load_part arg1 harg1 x0 k hk4 _ (k0_off1_eq ⟨k, hk⟩), load_part arg2 harg2 x1 k hk4 _ (k0_off1_eq ⟨k, hk⟩)] at e
    rw [show k + 1 = (⟨k, hk⟩ : Fin k0_t1_loop.trips).val + 1 from rfl, e]
    refine ⟨halo_succ x0 k hk4, View.allAt_cons_unit _ _ _ _ _ (fun j hj => ?_) ha⟩
    have h1 := hj 1
    have h2 := hj 2
    rw [k0_off1_eq] at h1 h2
    refine chunk_apply 2#32 2 (by omega) k hk4 x2 x3 x0 x1 _ ?_ j y h1 (h2.trans (Nat.zero_add _))
    have p1 := past_ext x0 k hk4 _ hh
    exact past_twice 1 (p1) 1#32 rfl 2 rfl

theorem outA (hc0) (hc1) (hc2) (hc3) (y : S1x2048x512.Idx) :
    out0_A_4 c i arg1 harg1 arg2 harg2 arg3 harg3 arg4 harg4 arg5 harg5 hc0 hc1 hc2 hc3 x0 x1 x2 x3 y
      = val 2#32 2 x0 x1 x2 x3 y := by
  unfold out0_A_4
  rw [View.read_writes_eq_canon _ _ _ (cover0_A_4 c i arg1 harg1 arg2 harg2 arg3 harg3 arg4 harg4 arg5 harg5 hc0 hc1 hc2 hc3 x0 x1 x2 x3)]
  refine View.canon_eq_of_allAt _ y _ (cover0_A_4 c i arg1 harg1 arg2 harg2 arg3 harg3 arg4 harg4 arg5 harg5 hc0 hc1 hc2 hc3 x0 x1 x2 x3 y) ?_
  unfold kernelRun0_A
  dsimp only
  have e2 : View.readAt (Elt Ideal) arg3.view (Rect.unit ![0, 0, 0] ![4, 128, 512] inb_S4x128x512_S4x128x512_0_0_0).toLoadRect
      (harg3.unread x2) = x2 := by
    funext j; rw [harg3.readAt_unread]; exact congrArg x2 (funext fun a => Fin.ext (by simp; fin_cases a <;> rfl))
  have e3 : View.readAt (Elt Ideal) arg4.view (Rect.unit ![0, 0] ![1, 512] inb_S1x512_S1x512_0_0).toLoadRect
      (harg4.unread x3) = x3 := by
    funext j; rw [harg4.readAt_unread]; exact congrArg x3 (funext fun a => Fin.ext (by simp; fin_cases a <;> rfl))
  rw [e2, e3]
  exact (loop1 c i arg1 harg1 arg2 harg2 arg3 harg3 arg4 harg4 arg5 harg5 x0 x1 x2 x3 hc0 y _ (Nat.le_refl _)).2

theorem tripR2 (h : k0_cond2 i = 1#1) (X1 : BufTy.Contents (Elt Ideal) arg1.view.ty) (X2 : BufTy.Contents (Elt Ideal) arg2.view.ty)
    (k : Fin k0_t2_loop.trips) (acc : FVec Ideal S16x512 .f32) :
    tripR_k0_t2 Variants.none c none i arg1 harg1 arg2 harg2 arg3 harg3 arg4 harg4 arg5 harg5 x2 x3 h X1 X2 k acc
      = k0_pay4 (k0_pay14 (View.readAt (Elt Ideal) arg1.view (Rect.unit (s := S1x2048x512) (k0_off2 k) S1x512x512.size (k0_off2_inb i k h)).toLoadRect X1)) := by
  unfold tripR_k0_t2 trip_k0_t2
  rfl

theorem tripL2 (h : k0_cond2 i = 1#1) (X1 : BufTy.Contents (Elt Ideal) arg1.view.ty) (X2 : BufTy.Contents (Elt Ideal) arg2.view.ty)
    (k : Fin k0_t2_loop.trips) (acc : FVec Ideal S16x512 .f32) :
    tripL_k0_t2 Variants.none c none i arg1 harg1 arg2 harg2 arg3 harg3 arg4 harg4 arg5 harg5 x2 x3 h X1 X2 k acc
      = [⟨Rect.unit (s := S1x2048x512) (k0_off2 k) S1x512x512.size (k0_off2_inb i k h), chunk 4#32 k.val x2 x3
          (View.readAt (Elt Ideal) arg1.view (Rect.unit (s := S1x2048x512) (k0_off2 k) S1x512x512.size (k0_off2_inb i k h)).toLoadRect X1)
          (View.readAt (Elt Ideal) arg2.view (Rect.unit (s := S1x2048x512) (k0_off2 k) S1x512x512.size (k0_off2_inb i k h)).toLoadRect X2)
          (twice 2#32 (twice 1#32 ((ext acc (View.readAt (Elt Ideal) arg1.view (Rect.unit (s := S1x2048x512) (k0_off2 k) S1x512x512.size (k0_off2_inb i k h)).toLoadRect X1)))))⟩] := by
  unfold tripL_k0_t2 trip_k0_t2
  rfl

theorem loop2 (h : k0_cond2 i = 1#1) (y : S1x2048x512.Idx) : ∀ (k : ℕ) (_ : k ≤ k0_t2_loop.trips),
    Halo x0 k (st_k0_t2 Variants.none c none i arg1 harg1 arg2 harg2 arg3 harg3 arg4 harg4 arg5 harg5 x2 x3 h
      (harg1.unread x0) (harg2.unread x1) k0_pay5 k).1
    ∧ View.AllAt (st_k0_t2 Variants.none c none i arg1 harg1 arg2 harg2 arg3 harg3 arg4 harg4 arg5 harg5 x2 x3 h
      (harg1.unread x0) (harg2.unread x1) k0_pay5 k).2 y (val 4#32 4 x0 x1 x2 x3 y)
  | 0, _ => ⟨halo_zero x0, View.allAt_nil _ _⟩
  | k + 1, hk => by
    obtain ⟨hh, ha⟩ := loop2 h y k (by omega)
    have hk4 : k < 4 := Nat.lt_of_lt_of_le (Nat.lt_of_succ_le hk) k0_t2_abs.2.1
    have e := st_k0_t2_succ Variants.none c none i arg1 harg1 arg2 harg2 arg3 harg3 arg4 harg4 arg5 harg5 x2 x3 h
      (harg1.unread x0) (harg2.unread x1) k0_pay5 ⟨k, hk⟩
    rw [tripR2, tripL2] at e
    rw [load_part arg1 harg1 x0 k hk4 _ (k0_off2_eq ⟨k, hk⟩), load_part arg2 harg2 x1 k hk4 _ (k0_off2_eq ⟨k, hk⟩)] at e
    rw [show k + 1 = (⟨k, hk⟩ : Fin k0_t2_loop.trips).val + 1 from rfl, e]
    refine ⟨halo_succ x0 k hk4, View.allAt_cons_unit _ _ _ _ _ (fun j hj => ?_) ha⟩
    have h1 := hj 1
    have h2 := hj 2
    rw [k0_off2_eq] at h1 h2
    refine chunk_apply 4#32 4 (by omega) k hk4 x2 x3 x0 x1 _ ?_ j y h1 (h2.trans (Nat.zero_add _))
    have p1 := past_ext x0 k hk4 _ hh
    exact past_twice 2 (past_twice 1 (p1) 1#32 rfl 2 rfl) 2#32 rfl 4 rfl

theorem outB (hc0) (hc1) (hc2) (hc3) (y : S1x2048x512.Idx) :
    out0_B_4 c i arg1 harg1 arg2 harg2 arg3 harg3 arg4 harg4 arg5 harg5 hc0 hc1 hc2 hc3 x0 x1 x2 x3 y
      = val 4#32 4 x0 x1 x2 x3 y := by
  unfold out0_B_4
  rw [View.read_writes_eq_canon _ _ _ (cover0_B_4 c i arg1 harg1 arg2 harg2 arg3 harg3 arg4 harg4 arg5 harg5 hc0 hc1 hc2 hc3 x0 x1 x2 x3)]
  refine View.canon_eq_of_allAt _ y _ (cover0_B_4 c i arg1 harg1 arg2 harg2 arg3 harg3 arg4 harg4 arg5 harg5 hc0 hc1 hc2 hc3 x0 x1 x2 x3 y) ?_
  unfold kernelRun0_B
  dsimp only
  have e2 : View.readAt (Elt Ideal) arg3.view (Rect.unit ![0, 0, 0] ![4, 128, 512] inb_S4x128x512_S4x128x512_0_0_0).toLoadRect
      (harg3.unread x2) = x2 := by
    funext j; rw [harg3.readAt_unread]; exact congrArg x2 (funext fun a => Fin.ext (by simp; fin_cases a <;> rfl))
  have e3 : View.readAt (Elt Ideal) arg4.view (Rect.unit ![0, 0] ![1, 512] inb_S1x512_S1x512_0_0).toLoadRect
      (harg4.unread x3) = x3 := by
    funext j; rw [harg4.readAt_unread]; exact congrArg x3 (funext fun a => Fin.ext (by simp; fin_cases a <;> rfl))
  rw [e2, e3]
  exact (loop2 c i arg1 harg1 arg2 harg2 arg3 harg3 arg4 harg4 arg5 harg5 x0 x1 x2 x3 hc1 y _ (Nat.le_refl _)).2

theorem tripR3 (h : k0_cond3 i = 1#1) (X1 : BufTy.Contents (Elt Ideal) arg1.view.ty) (X2 : BufTy.Contents (Elt Ideal) arg2.view.ty)
    (k : Fin k0_t3_loop.trips) (acc : FVec Ideal S16x512 .f32) :
    tripR_k0_t3 Variants.none c none i arg1 harg1 arg2 harg2 arg3 harg3 arg4 harg4 arg5 harg5 x2 x3 h X1 X2 k acc
      = k0_pay4 (k0_pay14 (View.readAt (Elt Ideal) arg1.view (Rect.unit (s := S1x2048x512) (k0_off3 k) S1x512x512.size (k0_off3_inb i k h)).toLoadRect X1)) := by
  unfold tripR_k0_t3 trip_k0_t3
  rfl

theorem tripL3 (h : k0_cond3 i = 1#1) (X1 : BufTy.Contents (Elt Ideal) arg1.view.ty) (X2 : BufTy.Contents (Elt Ideal) arg2.view.ty)
    (k : Fin k0_t3_loop.trips) (acc : FVec Ideal S16x512 .f32) :
    tripL_k0_t3 Variants.none c none i arg1 harg1 arg2 harg2 arg3 harg3 arg4 harg4 arg5 harg5 x2 x3 h X1 X2 k acc
      = [⟨Rect.unit (s := S1x2048x512) (k0_off3 k) S1x512x512.size (k0_off3_inb i k h), chunk 8#32 k.val x2 x3
          (View.readAt (Elt Ideal) arg1.view (Rect.unit (s := S1x2048x512) (k0_off3 k) S1x512x512.size (k0_off3_inb i k h)).toLoadRect X1)
          (View.readAt (Elt Ideal) arg2.view (Rect.unit (s := S1x2048x512) (k0_off3 k) S1x512x512.size (k0_off3_inb i k h)).toLoadRect X2)
          (twice 4#32 (twice 2#32 (twice 1#32 ((ext acc (View.readAt (Elt Ideal) arg1.view (Rect.unit (s := S1x2048x512) (k0_off3 k) S1x512x512.size (k0_off3_inb i k h)).toLoadRect X1))))))⟩] := by
  unfold tripL_k0_t3 trip_k0_t3
  rfl

theorem loop3 (h : k0_cond3 i = 1#1) (y : S1x2048x512.Idx) : ∀ (k : ℕ) (_ : k ≤ k0_t3_loop.trips),
    Halo x0 k (st_k0_t3 Variants.none c none i arg1 harg1 arg2 harg2 arg3 harg3 arg4 harg4 arg5 harg5 x2 x3 h
      (harg1.unread x0) (harg2.unread x1) k0_pay8 k).1
    ∧ View.AllAt (st_k0_t3 Variants.none c none i arg1 harg1 arg2 harg2 arg3 harg3 arg4 harg4 arg5 harg5 x2 x3 h
      (harg1.unread x0) (harg2.unread x1) k0_pay8 k).2 y (val 8#32 8 x0 x1 x2 x3 y)
  | 0, _ => ⟨halo_zero x0, View.allAt_nil _ _⟩
  | k + 1, hk => by
    obtain ⟨hh, ha⟩ := loop3 h y k (by omega)
    have hk4 : k < 4 := Nat.lt_of_lt_of_le (Nat.lt_of_succ_le hk) k0_t3_abs.2.1
    have e := st_k0_t3_succ Variants.none c none i arg1 harg1 arg2 harg2 arg3 harg3 arg4 harg4 arg5 harg5 x2 x3 h
      (harg1.unread x0) (harg2.unread x1) k0_pay8 ⟨k, hk⟩
    rw [tripR3, tripL3] at e
    rw [load_part arg1 harg1 x0 k hk4 _ (k0_off3_eq ⟨k, hk⟩), load_part arg2 harg2 x1 k hk4 _ (k0_off3_eq ⟨k, hk⟩)] at e
    rw [show k + 1 = (⟨k, hk⟩ : Fin k0_t3_loop.trips).val + 1 from rfl, e]
    refine ⟨halo_succ x0 k hk4, View.allAt_cons_unit _ _ _ _ _ (fun j hj => ?_) ha⟩
    have h1 := hj 1
    have h2 := hj 2
    rw [k0_off3_eq] at h1 h2
    refine chunk_apply 8#32 8 (by omega) k hk4 x2 x3 x0 x1 _ ?_ j y h1 (h2.trans (Nat.zero_add _))
    have p1 := past_ext x0 k hk4 _ hh
    exact past_twice 4 (past_twice 2 (past_twice 1 (p1) 1#32 rfl 2 rfl) 2#32 rfl 4 rfl) 4#32 rfl 8 rfl

theorem outC (hc0) (hc1) (hc2) (hc3) (y : S1x2048x512.Idx) :
    out0_C_4 c i arg1 harg1 arg2 harg2 arg3 harg3 arg4 harg4 arg5 harg5 hc0 hc1 hc2 hc3 x0 x1 x2 x3 y
      = val 8#32 8 x0 x1 x2 x3 y := by
  unfold out0_C_4
  rw [View.read_writes_eq_canon _ _ _ (cover0_C_4 c i arg1 harg1 arg2 harg2 arg3 harg3 arg4 harg4 arg5 harg5 hc0 hc1 hc2 hc3 x0 x1 x2 x3)]
  refine View.canon_eq_of_allAt _ y _ (cover0_C_4 c i arg1 harg1 arg2 harg2 arg3 harg3 arg4 harg4 arg5 harg5 hc0 hc1 hc2 hc3 x0 x1 x2 x3 y) ?_
  unfold kernelRun0_C
  dsimp only
  have e2 : View.readAt (Elt Ideal) arg3.view (Rect.unit ![0, 0, 0] ![4, 128, 512] inb_S4x128x512_S4x128x512_0_0_0).toLoadRect
      (harg3.unread x2) = x2 := by
    funext j; rw [harg3.readAt_unread]; exact congrArg x2 (funext fun a => Fin.ext (by simp; fin_cases a <;> rfl))
  have e3 : View.readAt (Elt Ideal) arg4.view (Rect.unit ![0, 0] ![1, 512] inb_S1x512_S1x512_0_0).toLoadRect
      (harg4.unread x3) = x3 := by
    funext j; rw [harg4.readAt_unread]; exact congrArg x3 (funext fun a => Fin.ext (by simp; fin_cases a <;> rfl))
  rw [e2, e3]
  exact (loop3 c i arg1 harg1 arg2 harg2 arg3 harg3 arg4 harg4 arg5 harg5 x0 x1 x2 x3 hc2 y _ (Nat.le_refl _)).2

theorem tripR4 (h : k0_cond4 i = 1#1) (X1 : BufTy.Contents (Elt Ideal) arg1.view.ty) (X2 : BufTy.Contents (Elt Ideal) arg2.view.ty)
    (k : Fin k0_t4_loop.trips) (acc : FVec Ideal S16x512 .f32) :
    tripR_k0_t4 Variants.none c none i arg1 harg1 arg2 harg2 arg3 harg3 arg4 harg4 arg5 harg5 x2 x3 h X1 X2 k acc
      = k0_pay4 (k0_pay14 (View.readAt (Elt Ideal) arg1.view (Rect.unit (s := S1x2048x512) (k0_off4 k) S1x512x512.size (k0_off4_inb i k h)).toLoadRect X1)) := by
  unfold tripR_k0_t4 trip_k0_t4
  rfl

theorem tripL4 (h : k0_cond4 i = 1#1) (X1 : BufTy.Contents (Elt Ideal) arg1.view.ty) (X2 : BufTy.Contents (Elt Ideal) arg2.view.ty)
    (k : Fin k0_t4_loop.trips) (acc : FVec Ideal S16x512 .f32) :
    tripL_k0_t4 Variants.none c none i arg1 harg1 arg2 harg2 arg3 harg3 arg4 harg4 arg5 harg5 x2 x3 h X1 X2 k acc
      = [⟨Rect.unit (s := S1x2048x512) (k0_off4 k) S1x512x512.size (k0_off4_inb i k h), chunk 16#32 k.val x2 x3
          (View.readAt (Elt Ideal) arg1.view (Rect.unit (s := S1x2048x512) (k0_off4 k) S1x512x512.size (k0_off4_inb i k h)).toLoadRect X1)
          (View.readAt (Elt Ideal) arg2.view (Rect.unit (s := S1x2048x512) (k0_off4 k) S1x512x512.size (k0_off4_inb i k h)).toLoadRect X2)
          (twice 8#32 (twice 4#32 (twice 2#32 (twice 1#32 ((ext acc (View.readAt (Elt Ideal) arg1.view (Rect.unit (s := S1x2048x512) (k0_off4 k) S1x512x512.size (k0_off4_inb i k h)).toLoadRect X1)))))))⟩] := by
  unfold tripL_k0_t4 trip_k0_t4
  rfl

theorem loop4 (h : k0_cond4 i = 1#1) (y : S1x2048x512.Idx) : ∀ (k : ℕ) (_ : k ≤ k0_t4_loop.trips),
    Halo x0 k (st_k0_t4 Variants.none c none i arg1 harg1 arg2 harg2 arg3 harg3 arg4 harg4 arg5 harg5 x2 x3 h
      (harg1.unread x0) (harg2.unread x1) k0_pay11 k).1
    ∧ View.AllAt (st_k0_t4 Variants.none c none i arg1 harg1 arg2 harg2 arg3 harg3 arg4 harg4 arg5 harg5 x2 x3 h
      (harg1.unread x0) (harg2.unread x1) k0_pay11 k).2 y (val 16#32 16 x0 x1 x2 x3 y)
  | 0, _ => ⟨halo_zero x0, View.allAt_nil _ _⟩
  | k + 1, hk => by
    obtain ⟨hh, ha⟩ := loop4 h y k (by omega)
    have hk4 : k < 4 := Nat.lt_of_lt_of_le (Nat.lt_of_succ_le hk) k0_t4_abs.2.1
    have e := st_k0_t4_succ Variants.none c none i arg1 harg1 arg2 harg2 arg3 harg3 arg4 harg4 arg5 harg5 x2 x3 h
      (harg1.unread x0) (harg2.unread x1) k0_pay11 ⟨k, hk⟩
    rw [tripR4, tripL4] at e
    rw [load_part arg1 harg1 x0 k hk4 _ (k0_off4_eq ⟨k, hk⟩), load_part arg2 harg2 x1 k hk4 _ (k0_off4_eq ⟨k, hk⟩)] at e
    rw [show k + 1 = (⟨k, hk⟩ : Fin k0_t4_loop.trips).val + 1 from rfl, e]
    refine ⟨halo_succ x0 k hk4, View.allAt_cons_unit _ _ _ _ _ (fun j hj => ?_) ha⟩
    have h1 := hj 1
    have h2 := hj 2
    rw [k0_off4_eq] at h1 h2
    refine chunk_apply 16#32 16 (by omega) k hk4 x2 x3 x0 x1 _ ?_ j y h1 (h2.trans (Nat.zero_add _))
    have p1 := past_ext x0 k hk4 _ hh
    exact past_twice 8 (past_twice 4 (past_twice 2 (past_twice 1 (p1) 1#32 rfl 2 rfl) 2#32 rfl 4 rfl) 4#32 rfl 8 rfl) 8#32 rfl 16 rfl

theorem outD (hc0) (hc1) (hc2) (hc3) (y : S1x2048x512.Idx) :
    out0_D_4 c i arg1 harg1 arg2 harg2 arg3 harg3 arg4 harg4 arg5 harg5 hc0 hc1 hc2 hc3 x0 x1 x2 x3 y
      = val 16#32 16 x0 x1 x2 x3 y := by
  unfold out0_D_4
  rw [View.read_writes_eq_canon _ _ _ (cover0_D_4 c i arg1 harg1 arg2 harg2 arg3 harg3 arg4 harg4 arg5 harg5 hc0 hc1 hc2 hc3 x0 x1 x2 x3)]
  refine View.canon_eq_of_allAt _ y _ (cover0_D_4 c i arg1 harg1 arg2 harg2 arg3 harg3 arg4 harg4 arg5 harg5 hc0 hc1 hc2 hc3 x0 x1 x2 x3 y) ?_
  unfold kernelRun0_D
  dsimp only
  have e2 : View.readAt (Elt Ideal) arg3.view (Rect.unit ![0, 0, 0] ![4, 128, 512] inb_S4x128x512_S4x128x512_0_0_0).toLoadRect
      (harg3.unread x2) = x2 := by
    funext j; rw [harg3.readAt_unread]; exact congrArg x2 (funext fun a => Fin.ext (by simp; fin_cases a <;> rfl))
  have e3 : View.readAt (Elt Ideal) arg4.view (Rect.unit ![0, 0] ![1, 512] inb_S1x512_S1x512_0_0).toLoadRect
      (harg4.unread x3) = x3 := by
    funext j; rw [harg4.readAt_unread]; exact congrArg x3 (funext fun a => Fin.ext (by simp; fin_cases a <;> rfl))
  rw [e2, e3]
  exact (loop4 c i arg1 harg1 arg2 harg2 arg3 harg3 arg4 harg4 arg5 harg5 x0 x1 x2 x3 hc3 y _ (Nat.le_refl _)).2

end Loops
/-! ### The whole result -/

/-- Group `g` of 512 columns of the first array of `x`. -/
def colsX (x : Vec Ideal S2x2048x2048 .bf16) (g : Fin 4) : Vec Ideal S1x2048x512 .bf16 :=
  fun j => x (ix3 0 (j 1) ⟨512 * g.val + (j 2).val, by have : (j 2).val < 512 := (j 2).isLt; omega⟩)

/-- Group `g` of 512 columns of the second array of `x`. -/
def colsZ (x : Vec Ideal S2x2048x2048 .bf16) (g : Fin 4) : Vec Ideal S1x2048x512 .bf16 :=
  fun j => x (ix3 1 (j 1) ⟨512 * g.val + (j 2).val, by have : (j 2).val < 512 := (j 2).isLt; omega⟩)

/-- The weights of group `g`: 128 rows of each of the four parts. -/
def colsW (w : Vec Ideal S4x512x512 .bf16) (g : Fin 4) : Vec Ideal S4x128x512 .bf16 :=
  fun j => w (ix3 (j 0) ⟨128 * g.val + (j 1).val, by have : (j 1).val < 128 := (j 1).isLt; omega⟩ (j 2))

/-- The scales of group `g`. -/
def colsS (s : Vec Ideal S1x2048 .f32) (g : Fin 4) : Vec Ideal S1x512 .f32 :=
  fun j => s (ix2 0 ⟨512 * g.val + (j 1).val, by have : (j 1).val < 512 := (j 1).isLt; omega⟩)

/-- The results of group `g`, its window `2 ^ (g + 1)` rows. -/
def group (x : Vec Ideal S2x2048x2048 .bf16) (w : Vec Ideal S4x512x512 .bf16) (s : Vec Ideal S1x2048 .f32) (g : Fin 4) :
    S1x2048x512.Idx → EReal :=
  val (BitVec.ofNat 32 (2 ^ (g.val + 1))) (2 ^ (g.val + 1)) (colsX x g) (colsZ x g) (colsW w g) (colsS s g)

/-- The whole result: two arrays of two groups each. -/
def G (x : Vec Ideal S2x2048x2048 .bf16) (w : Vec Ideal S4x512x512 .bf16) (s : Vec Ideal S1x2048 .f32) (i : S2x2048x1024.Idx) :
    EReal :=
  group x w s ⟨2 * (i 0).val + (i 2).val / 512, by
      have h0 : (i 0).val < 2 := (i 0).isLt
      have h2 : (i 2).val < 1024 := (i 2).isLt
      omega⟩
    (ix3 0 (i 1) ⟨(i 2).val % 512, Nat.mod_lt _ (by decide)⟩)

variable (m : (ℓ : Loc nD τ sig) → Buf (Elt Ideal) ℓ)

theorem idx0 : ∀ t : Fin cfg0.N, win0_0.index t = ![0, 0, t.val] :=
  (by decide +kernel : ∀ t : Fin grid0.N, win0_0.index t = ![0, 0, t.val])
theorem idx1 : ∀ t : Fin cfg0.N, win0_1.index t = ![1, 0, t.val] :=
  (by decide +kernel : ∀ t : Fin grid0.N, win0_1.index t = ![1, 0, t.val])
theorem idx2 : ∀ t : Fin cfg0.N, win0_2.index t = ![0, t.val, 0] :=
  (by decide +kernel : ∀ t : Fin grid0.N, win0_2.index t = ![0, t.val, 0])
theorem idx3 : ∀ t : Fin cfg0.N, win0_3.index t = ![0, t.val] :=
  (by decide +kernel : ∀ t : Fin grid0.N, win0_3.index t = ![0, t.val])
theorem idx4 : ∀ t : Fin cfg0.N, win0_4.index t = ![t.val / 2, 0, t.val % 2] :=
  (by decide +kernel : ∀ t : Fin grid0.N, win0_4.index t = ![t.val / 2, 0, t.val % 2])
theorem four : ∀ t : Fin cfg0.N, t.val < 4 := (by decide +kernel : ∀ t : Fin grid0.N, t.val < 4)

theorem blk0 (c : Dev nD) (t : Fin cfg0.N) : iblk m c 0 t = colsX (m ((c : Thread nD τ).loc main_arg0)) ⟨t.val, four t⟩ := by
  funext j; unfold colsX; blk_ext [iblk, V_main_arg0, idx0]
theorem blk1 (c : Dev nD) (t : Fin cfg0.N) : iblk m c 1 t = colsZ (m ((c : Thread nD τ).loc main_arg0)) ⟨t.val, four t⟩ := by
  funext j; unfold colsZ; blk_ext [iblk, V_main_arg0, idx1]
theorem blk2 (c : Dev nD) (t : Fin cfg0.N) : iblk m c 2 t = colsW (m ((c : Thread nD τ).loc main_arg1)) ⟨t.val, four t⟩ := by
  funext j; unfold colsW; blk_ext [iblk, V_main_arg1, idx2]
theorem blk3 (c : Dev nD) (t : Fin cfg0.N) : iblk m c 3 t = colsS (m ((c : Thread nD τ).loc main_arg2)) ⟨t.val, four t⟩ := by
  funext j; unfold colsS; blk_ext [iblk, V_main_arg2, idx3]

theorem G_emb (x : Vec Ideal S2x2048x2048 .bf16) (w : Vec Ideal S4x512x512 .bf16) (s : Vec Ideal S1x2048 .f32) (t : Fin cfg0.N)
    (y : S1x2048x512.Idx) : G x w s ((win0_4.blk t).view.emb y) = group x w s ⟨t.val, four t⟩ y := by
  unfold G
  have h2 : (y 2).val < 512 := (y 2).isLt
  have h0 : (y 0).val < 1 := (y 0).isLt
  have ht := four t
  refine congrArg₂ (group x w s) ?_ ?_
  · blk_simp [idx4]
    exact Fin.ext (by show 2 * (t.val / 2) + (t.val % 2 * 512 + (y 2).val) / 512 = t.val; omega)
  · blk_ext [idx4]

theorem final (c : Dev nD) : (dats m 0 c).arrAt 4 cfg0.N
    = G (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have ht := four t
  rcases (by omega : t.val = 0 ∨ t.val = 1 ∨ t.val = 2 ∨ t.val = 3) with h | h | h | h
  · rw [outsAt0_A m c t (by omega) (by omega) (by omega) (by omega), outA, blk0, blk1, blk2, blk3, G_emb]
    obtain ⟨n, hn⟩ := t
    subst h
    rfl
  · rw [outsAt0_B m c t (by omega) (by omega) (by omega) (by omega), outB, blk0, blk1, blk2, blk3, G_emb]
    obtain ⟨n, hn⟩ := t
    subst h
    rfl
  · rw [outsAt0_C m c t (by omega) (by omega) (by omega) (by omega), outC, blk0, blk1, blk2, blk3, G_emb]
    obtain ⟨n, hn⟩ := t
    subst h
    rfl
  · rw [outsAt0_D m c t (by omega) (by omega) (by omega) (by omega), outD, blk0, blk1, blk2, blk3, G_emb]
    obtain ⟨n, hn⟩ := t
    subst h
    rfl

end Cert.OddMixFwdIdeal.Final

namespace Cert.OddMixFwdRefIdeal.Final
open Idealize.ShloMosaic Idealize.ShloMosaic.TcCoe Idealize.SL.Sem
open Cert.OddMixFwdRefIdeal Cert.OddMixFwdRefIdeal.Gen Cert.OddMixFwdRefIdeal.Read Cert.Proof.RowWindow Cert.OddMixFwdIdeal.Final

theorem at3 {α : Type} {d0 d1 d2 : ℕ} (x : (⟨3, ![d0, d1, d2]⟩ : Shape).Idx → α) (a a' : Fin d0) (b b' : Fin d1) (c c' : Fin d2)
    (ha : a.val = a'.val) (hb : b.val = b'.val) (hc : c.val = c'.val) : x (ix3 a b c) = x (ix3 a' b' c') := by
  rw [Fin.ext ha, Fin.ext hb, Fin.ext hc]

theorem at2 {α : Type} {d0 d1 : ℕ} (x : (⟨2, ![d0, d1]⟩ : Shape).Idx → α) (a a' : Fin d0) (b b' : Fin d1)
    (ha : a.val = a'.val) (hb : b.val = b'.val) : x (ix2 a b) = x (ix2 a' b') := by
  rw [Fin.ext ha, Fin.ext hb]

/-- The windows' sizes: 2, 4, 8 and 16. -/
theorem window (g : Fin 4) : val_main_v14 (F := Ideal) (ix3 g 0 0) = BitVec.ofNat 32 (2 ^ (g.val + 1)) := by
  unfold val_main_v14
  pointwise [val_main_v10, val_main_v11, val_main_v12, val_main_v13, val_main_c, val_main_c_0, val_main_c_1, val_main_c_2]
  fin_cases g <;> rfl

theorem size_le (g : Fin 4) : 2 ^ (g.val + 1) ≤ 16 := by fin_cases g <;> decide

/-- A window's sum as the reference's sum over all rows. -/
theorem past_row (x : Vec Ideal Cert.OddMixFwdIdeal.S1x2048x512 .bf16) (b : Fin 512) (w r : ℕ) (hr : r < 2048) :
    (∑ k ∈ Finset.range w, if k ≤ r then row x b (r - k) else 0)
      = ∑ s : Fin 2048, if s.val ≤ r ∧ r < s.val + w then x (ix3 0 s b) else 0 := by
  have h := past_masked (fun s : Fin 2048 => x (ix3 0 s b)) w r hr
  refine Eq.trans (Finset.sum_congr rfl fun k _ => ?_) (h.trans (Finset.sum_congr rfl fun s _ => ?_))
  · by_cases hk : k ≤ r
    · rw [if_pos hk, dif_pos hk, row, dif_pos (by omega)]
    · rw [if_neg hk, dif_neg hk]
  · rw [ite_mul, one_mul, zero_mul]

theorem pooled_eq (x : Vec Ideal Cert.OddMixFwdIdeal.S1x2048x512 .bf16) (g : Fin 4) (r : ℕ) (hr : r < 2048) (b : Fin 512) :
    pooled (BitVec.ofNat 32 (2 ^ (g.val + 1))) (2 ^ (g.val + 1)) x r b
      = Ideal.div (∑ s : Fin 2048, if s.val ≤ r ∧ r < s.val + 2 ^ (g.val + 1) then x (ix3 0 s b) else 0)
          (FloatOps.sitofp (F := Ideal) .f32 (IntOp.minsi (BitVec.ofNat 32 (r + 1)) (BitVec.ofNat 32 (2 ^ (g.val + 1)))))
        - x (ix3 0 ⟨r, hr⟩ b) := by
  unfold pooled Cert.OddMixFwdIdeal.Final.count row
  rw [dif_pos hr, Ideal.mul_one_div (count_ne r _ hr (by positivity) (size_le g))]
  refine congrArg₂ (· - ·) (congrArg₂ Ideal.div ?_ rfl) rfl
  exact past_row x b _ r hr

/-- The group of columns an index of the result is in. -/
def gOf (i : S2x2048x1024.Idx) : Fin 4 := ⟨2 * (i 0).val + (i 2).val / 512, by
  have h0 : (i 0).val < 2 := (i 0).isLt
  have h2 : (i 2).val < 1024 := (i 2).isLt
  omega⟩

/-- The column in its group. -/
def cOf (i : S2x2048x1024.Idx) : Fin 512 := ⟨(i 2).val % 512, Nat.mod_lt _ (by decide)⟩

theorem G_eq (x0 : Vec Ideal S2x2048x2048 .bf16) (x1 : Vec Ideal S4x512x512 .bf16) (x2 : Vec Ideal S1x2048 .f32)
    (i : S2x2048x1024.Idx) : G x0 x1 x2 i
      = (∑ b : Fin 512, pooled (BitVec.ofNat 32 (2 ^ ((gOf i).val + 1))) (2 ^ ((gOf i).val + 1)) (colsX x0 (gOf i)) (i 1).val b
          * colsW x1 (gOf i) (ix3 ⟨b.val / 128, by omega⟩ ⟨b.val % 128, by omega⟩ (cOf i)))
        * colsS x2 (gOf i) (ix2 0 (cOf i))
        * (colsZ x0 (gOf i) (ix3 0 (i 1) (cOf i)) * Ideal.div 1 (1 + Ideal.exp (0 - colsZ x0 (gOf i) (ix3 0 (i 1) (cOf i))))) := rfl

theorem ref (x0 : Vec Ideal S2x2048x2048 .bf16) (x1 : Vec Ideal S4x512x512 .bf16) (x2 : Vec Ideal S1x2048 .f32)
    (i : S2x2048x1024.Idx) : val_main_v46 (F := Ideal) x0 x1 x2 i = G x0 x1 x2 i := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v9, val_main_v8, val_main_v7, val_main_v6, val_main_v5, val_main_v4, val_main_v3, val_main_v2, val_main_v1, val_main_v0, val_main_c_4, val_main_cst, val_main_cst_3, val_main_call0_v0, val_main_call0_v1, val_main_call1_v0, val_main_call1_v1, val_main_call1_cst, val_main_call1_v2, val_main_call1_v3, val_main_call1_cst_0, val_main_call1_v4, val_main_call1_v5]
  have h0 : (i 0).val < 2 := (i 0).isLt
  have h1 : (i 1).val < 2048 := (i 1).isLt
  have h2 : (i 2).val < 1024 := (i 2).isLt
  have hg : ((i 0).val * 1024 + (i 2).val) / 512 = (gOf i).val := by
    show _ = 2 * (i 0).val + (i 2).val / 512; omega
  have hc : ((i 0).val * 1024 + (i 2).val) % 512 = (cOf i).val := by show _ = (i 2).val % 512; omega
  have hn : (i 0).val * 1024 + (i 2).val = 512 * (gOf i).val + (cOf i).val := by omega
  rw [G_eq]
  refine congrArg₂ (· * ·) (congrArg₂ (· * ·) (Finset.sum_congr rfl fun b _ => ?_) ?_) ?_
  · rw [mul_comm]
    refine congrArg₂ (· * ·) ?_ ?_
    · refine Eq.trans ?_ (pooled_eq (colsX x0 (gOf i)) (gOf i) (i 1).val h1 b).symm
      refine congrArg₂ (· - ·) (congrArg₂ Ideal.div (Finset.sum_congr rfl fun s _ => ?_) ?_) ?_
      · simp only [hg]
        rw [window, select_window _ _ _ s.isLt h1 (size_le _)]
        refine if_congr Iff.rfl (at3 x0 _ _ _ _ _ _ rfl rfl ?_) rfl
        show _ * 512 + b.val = 512 * _ + b.val
        omega
      · simp only [hg]
        rw [window, show IntOp.addi (BitVec.ofNat 32 (i 1).val) 1#32 = BitVec.ofNat 32 ((i 1).val + 1) from (BitVec.ofNat_add ..).symm]
      · refine at3 x0 _ _ _ _ _ _ rfl rfl ?_
        show _ * 512 + b.val = 512 * _ + b.val
        omega
    · refine at3 x1 _ _ _ _ _ _ rfl ?_ hc
      show _ * 128 + b.val % 128 = 128 * _ + b.val % 128
      omega
  · exact at2 x2 _ _ _ _ rfl hn
  · have e : x0 (ix3 1 (i 1) ⟨(i 0).val * 1024 + (i 2).val, by omega⟩) = colsZ x0 (gOf i) (ix3 0 (i 1) (cOf i)) :=
      at3 x0 _ _ _ _ _ _ rfl rfl hn
    rw [zero_sub, ← e]

end Cert.OddMixFwdRefIdeal.Final

namespace Cert.Proof.OddMixFwdClaims
open Idealize.ShloMosaic Idealize.ShloMosaic.TcCoe Idealize.SL.Sem

theorem frame_k : Cert.quiescent_OddMixFwd := fun m g _ => Cert.OddMixFwd.Gen.frame m g
theorem frame_ki : Cert.quiescent_OddMixFwdIdeal := fun m g _ => Cert.OddMixFwdIdeal.Gen.frame m g
theorem frame_ri : Cert.quiescent_OddMixFwdRefIdeal := fun m g _ =>
  (θ_run Cert.OddMixFwdRefIdeal.defs _ _).mono (fun r h => ⟨fun c => (h c).2, Idealize.ShloMosaic.sem_eq_zero_of_no_sems (by decide) r.2⟩)
    (Cert.OddMixFwdRefIdeal.Value.run (F := Ideal) m g)
theorem preserves : Cert.preserves_OddMixFwd_OddMixFwdIdeal := trivial

/-- At the extended reals the kernel's results and the reference's are the same at every index. -/
theorem algebraic : Cert.algebraic_OddMixFwdIdeal_OddMixFwdRefIdeal := by
  intro m g m' g' _ h
  refine ⟨fun c => Cert.OddMixFwdIdeal.Final.G (m ((c.tc : Thread Cert.OddMixFwdIdeal.nD Cert.OddMixFwdIdeal.τ).loc Cert.OddMixFwdIdeal.main_arg0)) (m ((c.tc : Thread Cert.OddMixFwdIdeal.nD Cert.OddMixFwdIdeal.τ).loc Cert.OddMixFwdIdeal.main_arg1)) (m ((c.tc : Thread Cert.OddMixFwdIdeal.nD Cert.OddMixFwdIdeal.τ).loc Cert.OddMixFwdIdeal.main_arg2)), ?_, ?_⟩
  · exact (θ_run Cert.OddMixFwdIdeal.defs _ _).mono (fun _ h c => ⟨(h c).1.trans (Cert.OddMixFwdIdeal.Final.final m c), (h c).2⟩)
      (Cert.OddMixFwdIdeal.Value.run_blocks (F := Ideal) m g)
  refine (θ_run Cert.OddMixFwdRefIdeal.defs _ _).mono (fun _ h' c => ⟨(h' c).1.trans ?_, (h' c).2⟩)
    (Cert.OddMixFwdRefIdeal.Value.run (F := Ideal) m' g')
  · exact (Cert.OddMixFwdRefIdeal.Read.val_main_v46_eq _ _).trans
      ((funext (Cert.OddMixFwdRefIdeal.Final.ref _ _ _)).trans
        (congr (congr (congrArg Cert.OddMixFwdIdeal.Final.G ((h c).1)) ((h c).2.1)) ((h c).2.2)))

end Cert.Proof.OddMixFwdClaims
-- ==== Proof.EvenMixFwd.lean ====
module

public import proofs.«01_k».proof.Defs
public import proofs.«01_k».proof.Proof.RowWindow
public import proofs.«01_k».proof.Proof.Gen.EvenMixFwd.Frame
public import proofs.«01_k».proof.Proof.Gen.EvenMixFwdIdeal.Value
public import proofs.«01_k».proof.Proof.Gen.EvenMixFwdRefIdeal.Run
public import proofs.«01_k».proof.Proof.Gen.EvenMixFwdRefIdeal.Read
public import Idealize.ShloMosaic.Lib.Pipeline.ValueKit
public import Idealize.ShloMosaic.Lib.WholeRead
public import Idealize.ShloMosaic.Lib.Pointwise

/-!
The even layer's mixing of rows, forward: a head of 128 columns at a time. The first half of the result is a short
convolution of the rows with three weights, gated; the second half normalises the rows of a head, mixes the rows of each
block of 128 with a lower triangular matrix, adds the bias, and gates. The kernel goes down the rows in four parts of 512;
the last 8 rows of a part are carried to the next for the convolution.
-/

@[expose] public section
set_option maxRecDepth 16384
noncomputable section
namespace Cert.EvenMixFwdIdeal.Final
open Idealize.ShloMosaic Idealize.ShloMosaic.TcCoe Idealize.SL.Sem
open Cert.EvenMixFwdIdeal Cert.EvenMixFwdIdeal.Gen Cert.Proof.RowWindow

/-! ### The values meant -/

/-- The rows of part `k` of array `q`. -/
def part (x : Vec Ideal S7x2048x128 .bf16) (q : Fin 7) (k : ℕ) (hk : k < 4) : Vec Ideal S1x512x128 .bf16 :=
  fun j => x (ix3 q ⟨512 * k + (j 1).val, by have : (j 1).val < 512 := (j 1).isLt; omega⟩ (j 2))

/-- One of the three weights of every column. -/
def weight (w : Vec Ideal S3x128 .f32) (q : Fin 3) : Vec Ideal S1x128 .f32 := fun j => w (ix2 q (j 1))

/-- Row `n` of what the convolution reads: 0 past the last. -/
def row (x : Vec Ideal S7x2048x128 .bf16) (b : Fin 128) (n : ℕ) : EReal :=
  if h : n < 2048 then x (ix3 2 ⟨n, h⟩ b) * x (ix3 0 ⟨n, h⟩ b) else 0

/-- The row `d` before row `r`: 0 if there is none. -/
def lag (x : Vec Ideal S7x2048x128 .bf16) (b : Fin 128) (r d : ℕ) : EReal := if d ≤ r then row x b (r - d) else 0

/-- A gate. -/
def gate (z : EReal) : EReal := z * Ideal.div 1 (1 + Ideal.exp (0 - z))

/-- The first half of the result. -/
def valA (x : Vec Ideal S7x2048x128 .bf16) (w : Vec Ideal S3x128 .f32) (r : Fin 2048) (b : Fin 128) : EReal :=
  x (ix3 1 r b) * (w (ix2 2 b) * row x b r.val + w (ix2 1 b) * lag x b r.val 1 + w (ix2 0 b) * lag x b r.val 2)
    * gate (x (ix3 3 r b))

/-- The mean of a row. -/
def mean (x : Vec Ideal S7x2048x128 .bf16) (r : Fin 2048) : EReal :=
  Ideal.div (∑ b, x (ix3 5 r b)) (Ideal.ofBits .f32 1124073472#32)

/-- The row normalised. -/
def normed (x : Vec Ideal S7x2048x128 .bf16) (lg lb : Vec Ideal S1x128 .f32) (r : Fin 2048) (b : Fin 128) : EReal :=
  (x (ix3 5 r b) - mean x r) * Ideal.rsqrt (Ideal.div (∑ c, (x (ix3 5 r c) - mean x r) * (x (ix3 5 r c) - mean x r))
    (Ideal.ofBits .f32 1124073472#32) + Ideal.ofBits .f32 897988541#32) * lg (ix2 0 b) + lb (ix2 0 b)

/-- The rows of a block mixed by the lower triangle of the matrix, and the bias. -/
def mixed (x : Vec Ideal S7x2048x128 .bf16) (lg lb : Vec Ideal S1x128 .f32) (w bias : Vec Ideal S1x128x128 .f32)
    (r : Fin 2048) (b : Fin 128) : EReal :=
  (∑ s : Fin 128, if s.val ≤ r.val % 128 then
      w (ix3 0 ⟨r.val % 128, Nat.mod_lt _ (by decide)⟩ s) * normed x lg lb ⟨r.val / 128 * 128 + s.val, by omega⟩ b else 0)
    + bias (ix3 0 ⟨r.val % 128, Nat.mod_lt _ (by decide)⟩ b)

/-- The second half of the result. -/
def valB (x : Vec Ideal S7x2048x128 .bf16) (lg lb : Vec Ideal S1x128 .f32) (w bias : Vec Ideal S1x128x128 .f32)
    (r : Fin 2048) (b : Fin 128) : EReal := x (ix3 4 r b) * mixed x lg lb w bias r b * gate (x (ix3 6 r b))

/-- The result of a head. -/
def val (x : Vec Ideal S7x2048x128 .bf16) (cw : Vec Ideal S3x128 .f32) (lg lb : Vec Ideal S1x128 .f32)
    (w bias : Vec Ideal S1x128x128 .f32) (y : S2x2048x128.Idx) : EReal :=
  if (y 0).val = 0 then valA x cw (y 1) (y 2) else valB x lg lb w bias (y 1) (y 2)

/-! ### One part of the rows -/

/-- The rows of a part with the 8 before it. -/
def seq (x : Vec Ideal S7x2048x128 .bf16) (k : ℕ) (n : ℕ) (b : Fin 128) : EReal :=
  if 8 ≤ 512 * k + n then row x b (512 * k + n - 8) else 0

/-- The carried 8 rows are the ones before part `k`. -/
def Halo (x : Vec Ideal S7x2048x128 .bf16) (k : ℕ) (h : FVec Ideal S8x128 .f32) : Prop :=
  ∀ (j : ℕ) (hj : j < 8) (b : Fin 128), h (ix2 ⟨j, hj⟩ b) = seq x k j b

theorem halo_zero (x : Vec Ideal S7x2048x128 .bf16) : Halo x 0 k0_pay3 := fun j hj b => by
  have h : k0_pay3 (F := Ideal) (ix2 ⟨j, hj⟩ b) = 0 := by pointwise [k0_pay3]
  rw [h, seq, if_neg (by omega)]

theorem pay11_apply (p q : Vec Ideal S1x512x128 .bf16) (r : Fin 512) (b : Fin 128) :
    k0_pay11 p q (ix2 r b) = q (ix3 0 r b) * p (ix3 0 r b) := by
  pointwise [k0_pay11]

theorem tail_apply (p q : Vec Ideal S1x512x128 .bf16) (j : ℕ) (hj : j < 8) (b : Fin 128) :
    k0_pay5 (k0_pay11 p q) (ix2 ⟨j, hj⟩ b) = q (ix3 0 ⟨504 + j, by omega⟩ b) * p (ix3 0 ⟨504 + j, by omega⟩ b) := by
  pointwise [k0_pay5, k0_pay11]

theorem part_row (x : Vec Ideal S7x2048x128 .bf16) (k : ℕ) (hk : k < 4) (r : Fin 512) (b : Fin 128) :
    part x 2 k hk (ix3 0 r b) * part x 0 k hk (ix3 0 r b) = row x b (512 * k + r.val) := by
  rw [row, dif_pos (by omega)]; rfl

theorem halo_succ (x : Vec Ideal S7x2048x128 .bf16) (k : ℕ) (hk : k < 4) :
    Halo x (k + 1) (k0_pay5 (k0_pay11 (part x 0 k hk) (part x 2 k hk))) := fun j hj b => by
  rw [tail_apply, seq, if_pos (by omega), part_row]
  show row x b (512 * k + (504 + j)) = row x b (512 * (k + 1) + j - 8)
  congr 1; omega

theorem ext_apply (x : Vec Ideal S7x2048x128 .bf16) (k : ℕ) (hk : k < 4) (h : FVec Ideal S8x128 .f32) (hh : Halo x k h)
    (r : ℕ) (hr : r < 520) (b : Fin 128) :
    k0_pay12 h (part x 0 k hk) (part x 2 k hk) (ix2 ⟨r, hr⟩ b) = seq x k r b := by
  unfold k0_pay12
  by_cases hr' : r < 8
  · exact (join_low _ _ _ r hr b hr').trans (hh r hr' b)
  · obtain ⟨r, rfl⟩ : ∃ s, r = 8 + s := ⟨r - 8, by omega⟩
    refine (join_high _ _ _ r hr b (by omega)).trans ?_
    rw [pay11_apply, part_row, seq, if_pos (by omega)]
    show row x b (512 * k + r) = row x b (512 * k + (8 + r) - 8)
    congr 1; omega

theorem seq_lag (x : Vec Ideal S7x2048x128 .bf16) (k r d n : ℕ) (hd : d ≤ 8) (hn : n = 8 + r - d) (b : Fin 128) :
    seq x k n b = lag x b (512 * k + r) d := by
  subst hn
  rw [seq, lag]
  by_cases h : d ≤ 512 * k + r
  · rw [if_pos h, if_pos (by omega)]; congr 1; omega
  · rw [if_neg h, if_neg (by omega)]

theorem chunkA (x : Vec Ideal S7x2048x128 .bf16) (w : Vec Ideal S3x128 .f32) (k : ℕ) (hk : k < 4) (h : FVec Ideal S8x128 .f32)
    (hh : Halo x k h) (j : S1x512x128.Idx) (r : Fin 2048) (b : Fin 128) (hr : r.val = 512 * k + (j 1).val) (hb : b.val = (j 2).val) :
    k0_pay16 (k0_pay6 (part x 1 k hk)) (k0_pay7 (part x 3 k hk))
      (k0_pay13 (weight w 1) (weight w 2) h (part x 0 k hk) (part x 2 k hk)) (k0_pay14 h (part x 0 k hk) (part x 2 k hk))
      (k0_pay15 (weight w 0)) j = valA x w r b := by
  have hj : (j 1).val < 512 := (j 1).isLt
  obtain rfl : b = j 2 := Fin.ext hb
  pointwise [k0_pay16, k0_pay6, k0_pay7, k0_pay13, k0_pay14, k0_pay15, k0_pay11]
  have e : ∀ q, part x q k hk j = x (ix3 q r (j 2)) := fun q => by
    unfold part
    exact congrArg x (congrArg (fun r => ix3 q r (j 2)) (Fin.ext hr.symm))
  have l : ∀ d n hn, d ≤ 8 → n = 8 + (j 1).val - d →
      k0_pay12 h (part x 0 k hk) (part x 2 k hk) (ix2 ⟨n, hn⟩ (j 2)) = lag x (j 2) r.val d := fun d n hn hd hn' => by
    rw [hr]; exact (ext_apply x k hk h hh n hn (j 2)).trans (seq_lag x k (j 1).val d n hd hn' (j 2))
  rw [e 1]
  refine congrArg₂ (· * ·) (congrArg₂ (· * ·) rfl (congrArg₂ (· + ·) (congrArg₂ (· + ·) (congrArg₂ (· * ·) rfl ?_) (congrArg₂ (· * ·) rfl ?_))
    (congrArg₂ (· * ·) rfl ?_))) (by rw [e, gate])
  · rw [hr]; exact Eq.trans (by rfl) (part_row x k hk (j 1) (j 2))
  · exact l 1 _ _ (by omega) (by omega)
  · exact l 2 _ _ (by omega) (by omega)

theorem norm_apply (x : Vec Ideal S7x2048x128 .bf16) (lg lb : Vec Ideal S1x128 .f32) (k : ℕ) (hk : k < 4) (r : Fin 512) (b : Fin 128) :
    k0_pay17 lg lb (k0_pay9 (part x 5 k hk)) (ix2 r b) = normed x lg lb ⟨512 * k + r.val, by omega⟩ b := by
  pointwise [k0_pay17, k0_pay9]
  rfl

/-- A sum over the rows of a block not after row `q` of it. -/
theorem causal (q : ℕ) (hq : q < 128) (s : Fin 128) (e : EReal) :
    Scalar.select (IntOp.cmpi .sge (BitVec.ofNat 32 q) (BitVec.ofNat 32 s.val)) e 0 = if s.val ≤ q then e else 0 := by
  rw [show IntOp.cmpi .sge (BitVec.ofNat 32 q) (BitVec.ofNat 32 s.val) = IntOp.cmpi .sle (BitVec.ofNat 32 s.val) (BitVec.ofNat 32 q) from rfl,
    sle_small _ _ (by omega) (by omega)]
  by_cases h : s.val ≤ q
  · rw [if_pos h, decide_eq_true h]; rfl
  · rw [if_neg h, decide_eq_false h]; rfl

/-- The rows of block `t` of a part mixed. -/
theorem mixed_block (x : Vec Ideal S7x2048x128 .bf16) (lg lb : Vec Ideal S1x128 .f32) (w bias : Vec Ideal S1x128x128 .f32)
    (k : ℕ) (hk : k < 4) (t : ℕ) (q : ℕ) (hq : q < 128) (r : Fin 2048) (hr : r.val = 512 * k + 128 * t + q) (_ : t < 4) (b : Fin 128)
    (f : Fin 128 → Fin 512) (hf : ∀ s, (f s).val = 128 * t + s.val) :
    (∑ s : Fin 128, Scalar.select (IntOp.cmpi .sge (BitVec.ofNat 32 q) (BitVec.ofNat 32 s.val))
        (w (ix3 0 ⟨q, hq⟩ s) * k0_pay17 lg lb (k0_pay9 (part x 5 k hk)) (ix2 (f s) b)) 0) + bias (ix3 0 ⟨q, hq⟩ b)
      = mixed x lg lb w bias r b := by
  have e : r.val % 128 = q := by omega
  unfold mixed
  simp only [e]
  refine congrArg (· + _) (Finset.sum_congr rfl fun s _ => ?_)
  rw [causal q hq, norm_apply]
  refine if_congr Iff.rfl (congrArg (fun r => _ * normed x lg lb r b) (Fin.ext ?_)) rfl
  show 512 * k + (f s).val = r.val / 128 * 128 + s.val
  rw [hf]; omega

theorem chunkB (x : Vec Ideal S7x2048x128 .bf16) (lg lb : Vec Ideal S1x128 .f32) (w bias : Vec Ideal S1x128x128 .f32)
    (k : ℕ) (hk : k < 4) (j : S1x512x128.Idx) (r : Fin 2048) (b : Fin 128) (hr : r.val = 512 * k + (j 1).val) (hb : b.val = (j 2).val) :
    k0_pay4 w bias (k0_pay8 (part x 4 k hk)) (k0_pay10 (part x 6 k hk))
      (k0_pay18 (k0_pay1 w) (k0_pay2 bias) lg lb (k0_pay9 (part x 5 k hk)))
      (k0_pay19 (k0_pay1 w) (k0_pay2 bias) lg lb (k0_pay9 (part x 5 k hk)))
      (k0_pay20 (k0_pay1 w) (k0_pay2 bias) lg lb (k0_pay9 (part x 5 k hk)))
      (k0_pay21 lg lb (k0_pay9 (part x 5 k hk))) j = valB x lg lb w bias r b := by
  have hj : (j 1).val < 512 := (j 1).isLt
  obtain rfl : b = j 2 := Fin.ext hb
  have e : ∀ q, part x q k hk j = x (ix3 q r (j 2)) := fun q => by
    unfold part
    exact congrArg x (congrArg (fun r => ix3 q r (j 2)) (Fin.ext hr.symm))
  pointwise [k0_pay4, k0_pay8, k0_pay10, k0_pay18, k0_pay19, k0_pay20, k0_pay21, k0_pay2, k0_pay1]
  rw [e, e]
  refine congrArg (fun t => _ * t * _) ?_
  by_cases h1 : (j 1).val < 128
  · rw [dif_pos h1]
    exact mixed_block x lg lb w bias k hk 0 _ h1 r (by omega) (by omega) (j 2) (fun s => ⟨s.val, by omega⟩) (fun s => by show s.val = _; omega)
  rw [dif_neg h1]
  by_cases h2 : (j 1).val - 128 < 128
  · rw [dif_pos h2]
    exact mixed_block x lg lb w bias k hk 1 _ h2 r (by omega) (by omega) (j 2) (fun s => ⟨128 + s.val, by omega⟩) (fun s => rfl)
  rw [dif_neg h2]
  by_cases h3 : (j 1).val - 128 - 128 < 128
  · rw [dif_pos h3]
    exact mixed_block x lg lb w bias k hk 2 _ h3 r (by omega) (by omega) (j 2) (fun s => ⟨256 + s.val, by omega⟩) (fun s => rfl)
  rw [dif_neg h3]
  exact mixed_block x lg lb w bias k hk 3 _ (by omega) r (by omega) (by omega) (j 2) (fun s => ⟨384 + s.val, by omega⟩) (fun s => rfl)

/-! ### The loads -/

theorem load_part (M : Memref sig .tc .vmem S7x2048x128 .bf16) (hM : M.IsWhole) (x : Vec Ideal S7x2048x128 .bf16) (q : Fin 7)
    (k : ℕ) (hk : k < 4) (off : Fin 3 → ℕ) (ho : off = ![q.val, 512 * k, 0]) (inb) :
    View.readAt (Elt Ideal) M.view (Rect.unit (s := S7x2048x128) off S1x512x128.size inb).toLoadRect (hM.unread x) = part x q k hk := by
  subst ho
  funext j
  rw [hM.readAt_unread]
  unfold part
  refine congrArg x (funext fun a => Fin.ext ?_)
  match a with
  | ⟨0, _⟩ => have := (j 0).isLt; show q.val + 1 * (j 0).val = q.val; change (j 0).val < 1 at this; omega
  | ⟨1, _⟩ => show 512 * k + 1 * (j 1).val = 512 * k + (j 1).val; omega
  | ⟨2, _⟩ => show 0 + 1 * (j 2).val = (j 2).val; omega

theorem load_weight (M : Memref sig .tc .vmem S3x128 .f32) (hM : M.IsWhole) (x : Vec Ideal S3x128 .f32) (q : Fin 3)
    (off : Fin 2 → ℕ) (ho : off = ![q.val, 0]) (inb) :
    View.readAt (Elt Ideal) M.view (Rect.unit (s := S3x128) off ![1, 128] inb).toLoadRect (hM.unread x) = weight x q := by
  subst ho
  funext j
  rw [hM.readAt_unread]
  unfold weight
  refine congrArg x (funext fun a => Fin.ext ?_)
  match a with
  | ⟨0, _⟩ => have := (j 0).isLt; show q.val + 1 * (j 0).val = q.val; change (j 0).val < 1 at this; omega
  | ⟨1, _⟩ => show 0 + 1 * (j 1).val = (j 1).val; omega

/-! ### The loop -/

section Loop
variable (c : Dev nD) (i : grid0.Coords)
  (arg1 : Memref sig .tc .vmem S7x2048x128 .bf16) (harg1 : arg1.IsWhole)
  (arg2 : Memref sig .tc .vmem S3x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128x128 .f32) (harg5 : arg5.IsWhole)
  (arg6 : Memref sig .tc .vmem S1x128x128 .f32) (harg6 : arg6.IsWhole)
  (arg7 : Memref sig .tc .vmem S2x2048x128 .bf16) (harg7 : arg7.IsWhole)
  (x0 : Vec Ideal S7x2048x128 .bf16) (x1 : Vec Ideal S3x128 .f32) (x2 x3 : Vec Ideal S1x128 .f32)
  (x4 x5 : Vec Ideal S1x128x128 .f32)
  (v0 v1 v2 v13 v14 : Vec Ideal S1x128 .f32) (v6 v11 : Vec Ideal S1x128x128 .f32)

/-- The rows a pass reads of array 0. -/
def plane1 (X : BufTy.Contents (Elt Ideal) arg1.view.ty) (k : Fin k0_t1_loop.trips) : Vec Ideal S1x512x128 .bf16 :=
  View.readAt (Elt Ideal) arg1.view (Rect.unit (s := S7x2048x128) (k0_off1 k) S1x512x128.size (k0_off1_inb k)).toLoadRect X
theorem plane1_eq (k : ℕ) (hk : k < k0_t1_loop.trips) (hk4 : k < 4) :
    plane1 arg1 (harg1.unread x0) ⟨k, hk⟩ = part x0 0 k hk4 :=
  load_part arg1 harg1 x0 0 k hk4 _ (k0_off1_eq ⟨k, hk⟩) _

/-- The rows a pass reads of array 1. -/
def plane2 (X : BufTy.Contents (Elt Ideal) arg1.view.ty) (k : Fin k0_t1_loop.trips) : Vec Ideal S1x512x128 .bf16 :=
  View.readAt (Elt Ideal) arg1.view (Rect.unit (s := S7x2048x128) (k0_off2 k) S1x512x128.size (k0_off2_inb k)).toLoadRect X
theorem plane2_eq (k : ℕ) (hk : k < k0_t1_loop.trips) (hk4 : k < 4) :
    plane2 arg1 (harg1.unread x0) ⟨k, hk⟩ = part x0 1 k hk4 :=
  load_part arg1 harg1 x0 1 k hk4 _ (k0_off2_eq ⟨k, hk⟩) _

/-- The rows a pass reads of array 2. -/
def plane3 (X : BufTy.Contents (Elt Ideal) arg1.view.ty) (k : Fin k0_t1_loop.trips) : Vec Ideal S1x512x128 .bf16 :=
  View.readAt (Elt Ideal) arg1.view (Rect.unit (s := S7x2048x128) (k0_off3 k) S1x512x128.size (k0_off3_inb k)).toLoadRect X
theorem plane3_eq (k : ℕ) (hk : k < k0_t1_loop.trips) (hk4 : k < 4) :
    plane3 arg1 (harg1.unread x0) ⟨k, hk⟩ = part x0 2 k hk4 :=
  load_part arg1 harg1 x0 2 k hk4 _ (k0_off3_eq ⟨k, hk⟩) _

/-- The rows a pass reads of array 3. -/
def plane4 (X : BufTy.Contents (Elt Ideal) arg1.view.ty) (k : Fin k0_t1_loop.trips) : Vec Ideal S1x512x128 .bf16 :=
  View.readAt (Elt Ideal) arg1.view (Rect.unit (s := S7x2048x128) (k0_off4 k) S1x512x128.size (k0_off4_inb k)).toLoadRect X
theorem plane4_eq (k : ℕ) (hk : k < k0_t1_loop.trips) (hk4 : k < 4) :
    plane4 arg1 (harg1.unread x0) ⟨k, hk⟩ = part x0 3 k hk4 :=
  load_part arg1 harg1 x0 3 k hk4 _ (k0_off4_eq ⟨k, hk⟩) _

/-- The rows a pass reads of array 4. -/
def plane5 (X : BufTy.Contents (Elt Ideal) arg1.view.ty) (k : Fin k0_t1_loop.trips) : Vec Ideal S1x512x128 .bf16 :=
  View.readAt (Elt Ideal) arg1.view (Rect.unit (s := S7x2048x128) (k0_off5 k) S1x512x128.size (k0_off5_inb k)).toLoadRect X
theorem plane5_eq (k : ℕ) (hk : k < k0_t1_loop.trips) (hk4 : k < 4) :
    plane5 arg1 (harg1.unread x0) ⟨k, hk⟩ = part x0 4 k hk4 :=
  load_part arg1 harg1 x0 4 k hk4 _ (k0_off5_eq ⟨k, hk⟩) _

/-- The rows a pass reads of array 5. -/
def plane6 (X : BufTy.Contents (Elt Ideal) arg1.view.ty) (k : Fin k0_t1_loop.trips) : Vec Ideal S1x512x128 .bf16 :=
  View.readAt (Elt Ideal) arg1.view (Rect.unit (s := S7x2048x128) (k0_off6 k) S1x512x128.size (k0_off6_inb k)).toLoadRect X
theorem plane6_eq (k : ℕ) (hk : k < k0_t1_loop.trips) (hk4 : k < 4) :
    plane6 arg1 (harg1.unread x0) ⟨k, hk⟩ = part x0 5 k hk4 :=
  load_part arg1 harg1 x0 5 k hk4 _ (k0_off6_eq ⟨k, hk⟩) _

/-- The rows a pass reads of array 6. -/
def plane7 (X : BufTy.Contents (Elt Ideal) arg1.view.ty) (k : Fin k0_t1_loop.trips) : Vec Ideal S1x512x128 .bf16 :=
  View.readAt (Elt Ideal) arg1.view (Rect.unit (s := S7x2048x128) (k0_off7 k) S1x512x128.size (k0_off7_inb k)).toLoadRect X
theorem plane7_eq (k : ℕ) (hk : k < k0_t1_loop.trips) (hk4 : k < 4) :
    plane7 arg1 (harg1.unread x0) ⟨k, hk⟩ = part x0 6 k hk4 :=
  load_part arg1 harg1 x0 6 k hk4 _ (k0_off7_eq ⟨k, hk⟩) _

theorem tripR (X : BufTy.Contents (Elt Ideal) arg1.view.ty) (k : Fin k0_t1_loop.trips) (acc : FVec Ideal S8x128 .f32) :
    tripR_k0_t1 Variants.none c none i arg1 harg1 arg2 harg2 arg3 harg3 arg4 harg4 arg5 harg5 arg6 harg6 arg7 harg7
        v0 v1 v2 v6 v11 v13 v14 X k acc
      = k0_pay5 (k0_pay11 (plane1 arg1 X k) (plane3 arg1 X k)) := by
  unfold tripR_k0_t1 trip_k0_t1
  rfl

theorem tripL (X : BufTy.Contents (Elt Ideal) arg1.view.ty) (k : Fin k0_t1_loop.trips) (acc : FVec Ideal S8x128 .f32) :
    tripL_k0_t1 Variants.none c none i arg1 harg1 arg2 harg2 arg3 harg3 arg4 harg4 arg5 harg5 arg6 harg6 arg7 harg7
        v0 v1 v2 v6 v11 v13 v14 X k acc
      = [⟨Rect.unit (s := S2x2048x128) (k0_off9 k) S1x512x128.size (k0_off9_inb k),
          k0_pay4 v6 v11 (k0_pay8 (plane5 arg1 X k)) (k0_pay10 (plane7 arg1 X k))
            (k0_pay18 (k0_pay1 v6) (k0_pay2 v11) v13 v14 (k0_pay9 (plane6 arg1 X k)))
            (k0_pay19 (k0_pay1 v6) (k0_pay2 v11) v13 v14 (k0_pay9 (plane6 arg1 X k)))
            (k0_pay20 (k0_pay1 v6) (k0_pay2 v11) v13 v14 (k0_pay9 (plane6 arg1 X k)))
            (k0_pay21 v13 v14 (k0_pay9 (plane6 arg1 X k)))⟩,
        ⟨Rect.unit (s := S2x2048x128) (k0_off8 k) S1x512x128.size (k0_off8_inb k),
          k0_pay16 (k0_pay6 (plane2 arg1 X k)) (k0_pay7 (plane4 arg1 X k))
            (k0_pay13 v1 v2 acc (plane1 arg1 X k) (plane3 arg1 X k)) (k0_pay14 acc (plane1 arg1 X k) (plane3 arg1 X k))
            (k0_pay15 v0)⟩] := by
  unfold tripL_k0_t1 trip_k0_t1
  rfl

theorem loop (y : S2x2048x128.Idx) : ∀ (k : ℕ) (_ : k ≤ k0_t1_loop.trips),
    Halo x0 k (st_k0_t1 Variants.none c none i arg1 harg1 arg2 harg2 arg3 harg3 arg4 harg4 arg5 harg5 arg6 harg6 arg7 harg7
      (weight x1 0) (weight x1 1) (weight x1 2) x4 x5 x2 x3 (harg1.unread x0) k0_pay3 k).1
    ∧ View.AllAt (st_k0_t1 Variants.none c none i arg1 harg1 arg2 harg2 arg3 harg3 arg4 harg4 arg5 harg5 arg6 harg6 arg7 harg7
      (weight x1 0) (weight x1 1) (weight x1 2) x4 x5 x2 x3 (harg1.unread x0) k0_pay3 k).2 y (val x0 x1 x2 x3 x4 x5 y)
  | 0, _ => ⟨halo_zero x0, View.allAt_nil _ _⟩
  | k + 1, hk => by
    obtain ⟨hh, ha⟩ := loop y k (by omega)
    have hk4 : k < 4 := Nat.lt_of_lt_of_le (Nat.lt_of_succ_le hk) k0_t1_abs.2.1
    have e := st_k0_t1_succ Variants.none c none i arg1 harg1 arg2 harg2 arg3 harg3 arg4 harg4 arg5 harg5 arg6 harg6 arg7 harg7
      (weight x1 0) (weight x1 1) (weight x1 2) x4 x5 x2 x3 (harg1.unread x0) k0_pay3 ⟨k, hk⟩
    rw [tripR, tripL] at e
    rw [plane1_eq arg1 harg1 x0 k hk hk4, plane2_eq arg1 harg1 x0 k hk hk4, plane3_eq arg1 harg1 x0 k hk hk4,
      plane4_eq arg1 harg1 x0 k hk hk4, plane5_eq arg1 harg1 x0 k hk hk4, plane6_eq arg1 harg1 x0 k hk hk4,
      plane7_eq arg1 harg1 x0 k hk hk4] at e
    rw [show k + 1 = (⟨k, hk⟩ : Fin k0_t1_loop.trips).val + 1 from rfl, e]
    refine ⟨halo_succ x0 k hk4, View.allAt_cons_unit _ _ _ _ _ (fun j hj => ?_)
      (View.allAt_cons_unit _ _ _ _ _ (fun j hj => ?_) ha)⟩
    · have h0 := hj 0
      have h1 := hj 1
      have h2 := hj 2
      rw [k0_off9_eq] at h0 h1 h2
      rw [val, if_neg (by rw [show (y 0).val = 1 + (j 0).val from h0]; omega)]
      exact chunkB x0 x2 x3 x4 x5 k hk4 j (y 1) (y 2) h1 (h2.trans (Nat.zero_add _))
    · have h0 := hj 0
      have h1 := hj 1
      have h2 := hj 2
      have hz : (j 0).val < 1 := (j 0).isLt
      rw [k0_off8_eq] at h0 h1 h2
      rw [val, if_pos (by rw [show (y 0).val = 0 + (j 0).val from h0]; omega)]
      exact chunkA x0 x1 k hk4 _ hh j (y 1) (y 2) h1 (h2.trans (Nat.zero_add _))

theorem out (y : S2x2048x128.Idx) :
    out0_A_6 c i arg1 harg1 arg2 harg2 arg3 harg3 arg4 harg4 arg5 harg5 arg6 harg6 arg7 harg7 x0 x1 x2 x3 x4 x5 y
      = val x0 x1 x2 x3 x4 x5 y := by
  unfold out0_A_6
  rw [View.read_writes_eq_canon _ _ _ (cover0_A_6 c i arg1 harg1 arg2 harg2 arg3 harg3 arg4 harg4 arg5 harg5 arg6 harg6 arg7 harg7 x0 x1 x2 x3 x4 x5)]
  refine View.canon_eq_of_allAt _ y _ (cover0_A_6 c i arg1 harg1 arg2 harg2 arg3 harg3 arg4 harg4 arg5 harg5 arg6 harg6 arg7 harg7 x0 x1 x2 x3 x4 x5 y) ?_
  unfold kernelRun0_A
  dsimp only
  have e2 : View.readAt (Elt Ideal) arg3.view (Rect.unit ![0, 0] ![1, 128] inb_S1x128_S1x128_0_0).toLoadRect (harg3.unread x2) = x2 := by
    funext j; rw [harg3.readAt_unread]; exact congrArg x2 (funext fun a => Fin.ext (by simp; fin_cases a <;> rfl))
  have e3 : View.readAt (Elt Ideal) arg4.view (Rect.unit ![0, 0] ![1, 128] inb_S1x128_S1x128_0_0).toLoadRect (harg4.unread x3) = x3 := by
    funext j; rw [harg4.readAt_unread]; exact congrArg x3 (funext fun a => Fin.ext (by simp; fin_cases a <;> rfl))
  have e4 : View.readAt (Elt Ideal) arg5.view (Rect.unit ![0, 0, 0] ![1, 128, 128] inb_S1x128x128_S1x128x128_0_0_0).toLoadRect
      (harg5.unread x4) = x4 := by
    funext j; rw [harg5.readAt_unread]; exact congrArg x4 (funext fun a => Fin.ext (by simp; fin_cases a <;> rfl))
  have e5 : View.readAt (Elt Ideal) arg6.view (Rect.unit ![0, 0, 0] ![1, 128, 128] inb_S1x128x128_S1x128x128_0_0_0).toLoadRect
      (harg6.unread x5) = x5 := by
    funext j; rw [harg6.readAt_unread]; exact congrArg x5 (funext fun a => Fin.ext (by simp; fin_cases a <;> rfl))
  rw [e2, e3, e4, e5, load_weight arg2 harg2 x1 0 ![0, 0] rfl, load_weight arg2 harg2 x1 1 ![1, 0] rfl,
    load_weight arg2 harg2 x1 2 ![2, 0] rfl]
  exact (loop c i arg1 harg1 arg2 harg2 arg3 harg3 arg4 harg4 arg5 harg5 arg6 harg6 arg7 harg7 x0 x1 x2 x3 x4 x5 y _ (Nat.le_refl _)).2

end Loop

/-! ### The whole result -/

/-- The columns of head `g` of the seven arrays. -/
def headX (x : Vec Ideal S7x2048x1024 .bf16) (g : Fin 8) : Vec Ideal S7x2048x128 .bf16 :=
  fun j => x (ix3 (j 0) (j 1) ⟨128 * g.val + (j 2).val, by have : (j 2).val < 128 := (j 2).isLt; omega⟩)

/-- The convolution's weights of head `g`. -/
def headC (w : Vec Ideal S3x1024 .f32) (g : Fin 8) : Vec Ideal S3x128 .f32 :=
  fun j => w (ix2 (j 0) ⟨128 * g.val + (j 1).val, by have : (j 1).val < 128 := (j 1).isLt; omega⟩)

/-- One number for each column of head `g`. -/
def headV (v : Vec Ideal S1x1024 .f32) (g : Fin 8) : Vec Ideal S1x128 .f32 :=
  fun j => v (ix2 0 ⟨128 * g.val + (j 1).val, by have : (j 1).val < 128 := (j 1).isLt; omega⟩)

/-- The matrix of head `g`. -/
def headM (w : Vec Ideal S8x128x128 .f32) (g : Fin 8) : Vec Ideal S1x128x128 .f32 := fun j => w (ix3 g (j 1) (j 2))

/-- The bias of head `g`: the same for all its columns. -/
def headB (s : Vec Ideal S8x128 .f32) (g : Fin 8) : Vec Ideal S1x128x128 .f32 := fun j => s (ix2 g (j 1))

/-- The results of head `g`. -/
def head (x : Vec Ideal S7x2048x1024 .bf16) (cw : Vec Ideal S3x1024 .f32) (lg lb : Vec Ideal S1x1024 .f32)
    (w : Vec Ideal S8x128x128 .f32) (s : Vec Ideal S8x128 .f32) (g : Fin 8) : S2x2048x128.Idx → EReal :=
  val (headX x g) (headC cw g) (headV lg g) (headV lb g) (headM w g) (headB s g)

/-- The whole result. -/
def G (x : Vec Ideal S7x2048x1024 .bf16) (cw : Vec Ideal S3x1024 .f32) (lg lb : Vec Ideal S1x1024 .f32)
    (w : Vec Ideal S8x128x128 .f32) (s : Vec Ideal S8x128 .f32) (i : S2x2048x1024.Idx) : EReal :=
  head x cw lg lb w s ⟨(i 2).val / 128, by have h2 : (i 2).val < 1024 := (i 2).isLt; omega⟩
    (ix3 (i 0) (i 1) ⟨(i 2).val % 128, Nat.mod_lt _ (by decide)⟩)

variable (m : (ℓ : Loc nD τ sig) → Buf (Elt Ideal) ℓ)

/-- The bias as the kernel finds it: the argument repeated along the columns. -/
theorem V_main_v1 (c : Dev nD) : V m c main_v1 = broadcastInDim S8x128x128 ![0, 1, 2] bcast_S8x128x1_S8x128x128_0_1_2
    (broadcastInDim S8x128x1 ![0, 1] bcast_S8x128_S8x128x1_0_1
      (m ((c : Thread nD τ).loc main_arg5) : (⟨S8x128, .f32⟩ : BufTy).Contents (Elt Ideal))) := by
  show StableHlo.after hostOps0 _ (Proc.devRef .tc main_v1) = _
  after_results

theorem V_bias (c : Dev nD) : (V m c main_v1 : (⟨S8x128x128, .f32⟩ : BufTy).Contents (Elt Ideal)) = fun i => m ((c : Thread nD τ).loc main_arg5) (ix2 (i 0) (i 1)) := by
  rw [V_main_v1]
  funext i
  refine congrArg (m ((c : Thread nD τ).loc main_arg5)) (funext fun a => Fin.ext ?_)
  match a with
  | ⟨0, _⟩ => rfl
  | ⟨1, _⟩ => rfl

theorem idx0 : ∀ t : Fin cfg0.N, win0_0.index t = ![0, 0, t.val] :=
  (by decide +kernel : ∀ t : Fin grid0.N, win0_0.index t = ![0, 0, t.val])
theorem idx1 : ∀ t : Fin cfg0.N, win0_1.index t = ![0, t.val] :=
  (by decide +kernel : ∀ t : Fin grid0.N, win0_1.index t = ![0, t.val])
theorem idx2 : ∀ t : Fin cfg0.N, win0_2.index t = ![0, t.val] :=
  (by decide +kernel : ∀ t : Fin grid0.N, win0_2.index t = ![0, t.val])
theorem idx3 : ∀ t : Fin cfg0.N, win0_3.index t = ![0, t.val] :=
  (by decide +kernel : ∀ t : Fin grid0.N, win0_3.index t = ![0, t.val])
theorem idx4 : ∀ t : Fin cfg0.N, win0_4.index t = ![t.val, 0, 0] :=
  (by decide +kernel : ∀ t : Fin grid0.N, win0_4.index t = ![t.val, 0, 0])
theorem idx5 : ∀ t : Fin cfg0.N, win0_5.index t = ![t.val, 0, 0] :=
  (by decide +kernel : ∀ t : Fin grid0.N, win0_5.index t = ![t.val, 0, 0])
theorem idx6 : ∀ t : Fin cfg0.N, win0_6.index t = ![0, 0, t.val] :=
  (by decide +kernel : ∀ t : Fin grid0.N, win0_6.index t = ![0, 0, t.val])
theorem eight : ∀ t : Fin cfg0.N, t.val < 8 := (by decide +kernel : ∀ t : Fin grid0.N, t.val < 8)

theorem blk0 (c : Dev nD) (t : Fin cfg0.N) : iblk m c 0 t = headX (m ((c : Thread nD τ).loc main_arg0)) ⟨t.val, eight t⟩ := by
  funext j; unfold headX; blk_ext [iblk, V_main_arg0, idx0]
theorem blk1 (c : Dev nD) (t : Fin cfg0.N) : iblk m c 1 t = headC (m ((c : Thread nD τ).loc main_arg1)) ⟨t.val, eight t⟩ := by
  funext j; unfold headC; blk_ext [iblk, V_main_arg1, idx1]
theorem blk2 (c : Dev nD) (t : Fin cfg0.N) : iblk m c 2 t = headV (m ((c : Thread nD τ).loc main_arg2)) ⟨t.val, eight t⟩ := by
  funext j; unfold headV; blk_ext [iblk, V_main_arg2, idx2]
theorem blk3 (c : Dev nD) (t : Fin cfg0.N) : iblk m c 3 t = headV (m ((c : Thread nD τ).loc main_arg3)) ⟨t.val, eight t⟩ := by
  funext j; unfold headV; blk_ext [iblk, V_main_arg3, idx3]
theorem blk4 (c : Dev nD) (t : Fin cfg0.N) : iblk m c 4 t = headM (m ((c : Thread nD τ).loc main_arg4)) ⟨t.val, eight t⟩ := by
  funext j; unfold headM; blk_ext [iblk, V_main_arg4, idx4]
theorem blk5 (c : Dev nD) (t : Fin cfg0.N) : iblk m c 5 t = headB (m ((c : Thread nD τ).loc main_arg5)) ⟨t.val, eight t⟩ := by
  funext j
  unfold headB
  show V m c main_v1 ((win0_5.blk t).view.emb j) = _
  refine (congrFun (V_bias m c) _).trans ?_
  blk_ext [idx5]

theorem G_emb (x : Vec Ideal S7x2048x1024 .bf16) (cw : Vec Ideal S3x1024 .f32) (lg lb : Vec Ideal S1x1024 .f32)
    (w : Vec Ideal S8x128x128 .f32) (s : Vec Ideal S8x128 .f32) (t : Fin cfg0.N) (y : S2x2048x128.Idx) :
    G x cw lg lb w s ((win0_6.blk t).view.emb y) = head x cw lg lb w s ⟨t.val, eight t⟩ y := by
  unfold G
  have h2 : (y 2).val < 128 := (y 2).isLt
  have ht := eight t
  refine congrArg₂ (head x cw lg lb w s) ?_ ?_
  · blk_simp [idx6]
    exact Fin.ext (by show (t.val * 128 + (y 2).val) / 128 = t.val; omega)
  · blk_ext [idx6]

theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  unfold outsAt0
  rw [out, blk0, blk1, blk2, blk3, blk4, blk5, G_emb]
  rfl

end Cert.EvenMixFwdIdeal.Final

namespace Cert.EvenMixFwdRefIdeal.Final
open Idealize.ShloMosaic Idealize.ShloMosaic.TcCoe Idealize.SL.Sem
open Cert.EvenMixFwdRefIdeal Cert.EvenMixFwdRefIdeal.Gen Cert.EvenMixFwdRefIdeal.Read Cert.Proof.RowWindow
open Cert.EvenMixFwdIdeal.Final (G head val valA valB gate mean normed mixed lag row headX headC headV headM headB)

/-- The head a column is in. -/
def gOf (b : Fin 1024) : Fin 8 := ⟨b.val / 128, by omega⟩

/-- The column in its head. -/
def cOf (b : Fin 1024) : Fin 128 := ⟨b.val % 128, Nat.mod_lt _ (by decide)⟩

theorem col_eq (b : Fin 1024) : (⟨128 * (gOf b).val + (cOf b).val, by have := (gOf b).isLt; have := (cOf b).isLt; omega⟩ : Fin 1024) = b :=
  Fin.ext (by show 128 * (b.val / 128) + b.val % 128 = b.val; omega)

theorem headX_apply (x : Vec Ideal Cert.EvenMixFwdIdeal.S7x2048x1024 .bf16) (q : Fin 7) (r : Fin 2048) (b : Fin 1024) :
    headX x (gOf b) (ix3 q r (cOf b)) = x (ix3 q r b) :=
  congrArg (fun b => x (ix3 q r b)) (col_eq b)

theorem headC_apply (w : Vec Ideal Cert.EvenMixFwdIdeal.S3x1024 .f32) (q : Fin 3) (b : Fin 1024) :
    headC w (gOf b) (ix2 q (cOf b)) = w (ix2 q b) :=
  congrArg (fun b => w (ix2 q b)) (col_eq b)

theorem headV_apply (v : Vec Ideal Cert.EvenMixFwdIdeal.S1x1024 .f32) (b : Fin 1024) :
    headV v (gOf b) (ix2 0 (cOf b)) = v (ix2 0 b) :=
  congrArg (fun b => v (ix2 0 b)) (col_eq b)

theorem gate_eq (z : EReal) : z * Ideal.div 1 (1 + Ideal.exp (-z)) = gate z := by rw [gate, zero_sub]

/-- A row before another as the reference joins it: rows of zeros first. -/
theorem lag_apply (x : Vec Ideal Cert.EvenMixFwdIdeal.S7x2048x1024 .bf16) (r : Fin 2048) (b : Fin 1024) (n d : ℕ) (hd : n + d = r.val + 2)
    (hn : 2 ≤ n → n - 2 < 2048) :
    (if h : n < 2 then (0 : EReal) else x (ix3 2 ⟨n - 2, hn (by omega)⟩ b) * x (ix3 0 ⟨n - 2, hn (by omega)⟩ b))
      = lag (headX x (gOf b)) (cOf b) r.val d := by
  unfold lag row
  by_cases h : n < 2
  · rw [dif_pos h, if_neg (by omega)]
  · have e : r.val - d = n - 2 := by omega
    rw [dif_neg h, if_pos (by omega), dif_pos (by omega), headX_apply, headX_apply]
    simp only [e]

theorem refA (x0 : Vec Ideal S7x2048x1024 .bf16) (x1 : Vec Ideal S3x1024 .f32) (i : S2048x1024.Idx) :
    val_main_v44 (F := Ideal) x0 x1 i = valA (headX x0 (gOf (i 1))) (headC x1 (gOf (i 1))) (i 0) (cOf (i 1)) := by
  have h0 : (i 0).val < 2048 := (i 0).isLt
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_call0_v0, val_main_call0_v1, val_main_call0_cst, val_main_call0_v2, val_main_call0_v3, val_main_call0_cst_0, val_main_call0_v4, val_main_call0_v5, val_main_v43, val_main_v44, val_main_v45, val_main_cst_0, val_main_v46, val_main_v47, val_main_cst_1, val_main_v48, val_main_v49, val_main_v50, val_main_v51, val_main_v52, val_main_cst_2, val_main_v53, val_main_v54, val_main_cst_3, val_main_v55, val_main_v56, val_main_v57, val_main_v58, val_main_cst_4, val_main_v59, val_main_v60, val_main_v61, val_main_v62, val_main_v63, val_main_v64, val_main_v65, val_main_v66, val_main_v67, val_main_v68, val_main_v69, val_main_v70, val_main_v71, val_main_c, val_main_v72, val_main_call1_v0, val_main_call1_c, val_main_call1_v1, val_main_call1_v2, val_main_call1_v3, val_main_call1_v4, val_main_call1_c_0, val_main_call1_v5, val_main_v73, val_main_v74, val_main_cst_5, val_main_v75, val_main_call2_v0, val_main_v76, val_main_v77, val_main_v78, val_main_v79, val_main_v80, val_main_v81, val_main_v82, val_main_v83, val_main_v84, val_main_call3_v0, val_main_call3_v1, val_main_call3_cst, val_main_call3_v2, val_main_call3_v3, val_main_call3_cst_0, val_main_call3_v4, val_main_call3_v5, val_main_v85, val_main_v86]
  unfold valA
  refine congrArg₂ (· * ·) (congrArg₂ (· * ·) (headX_apply x0 1 (i 0) (i 1)).symm ?_)
    ((gate_eq _).trans (congrArg gate (headX_apply x0 3 (i 0) (i 1)).symm))
  refine Eq.trans (Eq.trans (add_comm _ _) (add_left_comm _ _ _)) ?_
  refine Eq.trans (Eq.trans (add_left_comm _ _ _) (Eq.trans (congrArg₂ (· + ·) rfl (add_comm _ _)) (add_assoc _ _ _).symm)) ?_
  refine congrArg₂ (· + ·) (congrArg₂ (· + ·) ?_ ?_) ?_
  · refine Eq.trans (mul_comm _ _) (congrArg₂ (· * ·) (headC_apply x1 2 (i 1)).symm ?_)
    unfold row
    rw [dif_pos h0]
    exact congrArg₂ (· * ·) (headX_apply x0 2 (i 0) (i 1)).symm (headX_apply x0 0 (i 0) (i 1)).symm
  · refine Eq.trans (mul_comm _ _) (congrArg₂ (· * ·) (headC_apply x1 1 (i 1)).symm ?_)
    exact lag_apply x0 (i 0) (i 1) (1 + (i 0).val) 1 (by omega) (fun _ => by omega)
  · refine Eq.trans (mul_comm _ _) (congrArg₂ (· * ·) (headC_apply x1 0 (i 1)).symm ?_)
    exact lag_apply x0 (i 0) (i 1) (i 0).val 2 rfl (fun _ => by omega)

/-- A row normalised, as the reference does: all columns at once, the sums over a head's. -/
theorem norm_eq (x : Vec Ideal S7x2048x1024 .bf16) (lg lb : Vec Ideal S1x1024 .f32) (r : Fin 2048) (b : Fin 1024) :
    (x (ix3 5 r b) - Ideal.div (∑ c : Fin 128, x (ix3 5 r ⟨b.val / 128 * 128 + c.val, by omega⟩)) (Ideal.ofBits .f32 1124073472#32))
      * Ideal.rsqrt (Ideal.div (∑ c : Fin 128,
          (x (ix3 5 r ⟨b.val / 128 * 128 + c.val, by omega⟩)
            - Ideal.div (∑ c : Fin 128, x (ix3 5 r ⟨b.val / 128 * 128 + c.val, by omega⟩)) (Ideal.ofBits .f32 1124073472#32))
          * (x (ix3 5 r ⟨b.val / 128 * 128 + c.val, by omega⟩)
            - Ideal.div (∑ c : Fin 128, x (ix3 5 r ⟨b.val / 128 * 128 + c.val, by omega⟩)) (Ideal.ofBits .f32 1124073472#32)))
        (Ideal.ofBits .f32 1124073472#32) + Ideal.ofBits .f32 897988541#32) * lg (ix2 0 b) + lb (ix2 0 b)
      = normed (headX x (gOf b)) (headV lg (gOf b)) (headV lb (gOf b)) r (cOf b) := by
  have e : ∀ c : Fin 128, headX x (gOf b) (ix3 5 r c) = x (ix3 5 r ⟨b.val / 128 * 128 + c.val, by omega⟩) := fun c =>
    congrArg (fun b => x (ix3 5 r b)) (Fin.ext (by show 128 * (b.val / 128) + c.val = b.val / 128 * 128 + c.val; omega))
  unfold normed mean
  rw [headX_apply, headV_apply, headV_apply]
  simp only [e]

/-- The reference's lower triangle. -/
theorem masked (q : ℕ) (hq : q < 128) (s : Fin 128) (e : EReal) :
    Scalar.select (Scalar.select (IntOp.cmpi .sge (IntOp.addi (BitVec.ofNat 32 q) 0#32) (BitVec.ofNat 32 s.val)) 1#1 0#1) e 0
      = if s.val ≤ q then e else 0 := by
  rw [show IntOp.addi (BitVec.ofNat 32 q) 0#32 = BitVec.ofNat 32 q from BitVec.add_zero _,
    show IntOp.cmpi .sge (BitVec.ofNat 32 q) (BitVec.ofNat 32 s.val) = IntOp.cmpi .sle (BitVec.ofNat 32 s.val) (BitVec.ofNat 32 q) from rfl,
    sle_small _ _ (by omega) (by omega)]
  by_cases h : s.val ≤ q
  · rw [if_pos h, decide_eq_true h]; rfl
  · rw [if_neg h, decide_eq_false h]; rfl

theorem refB (x0 : Vec Ideal S7x2048x1024 .bf16) (x2 x3 : Vec Ideal S1x1024 .f32) (x4 : Vec Ideal S8x128x128 .f32)
    (x5 : Vec Ideal S8x128 .f32) (i : S2048x1024.Idx) :
    val_main_v86 (F := Ideal) x0 x2 x3 x4 x5 i
      = valB (headX x0 (gOf (i 1))) (headV x2 (gOf (i 1))) (headV x3 (gOf (i 1))) (headM x4 (gOf (i 1))) (headB x5 (gOf (i 1)))
          (i 0) (cOf (i 1)) := by
  have h0 : (i 0).val < 2048 := (i 0).isLt
  have h1 : (i 1).val < 1024 := (i 1).isLt
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_call0_v0, val_main_call0_v1, val_main_call0_cst, val_main_call0_v2, val_main_call0_v3, val_main_call0_cst_0, val_main_call0_v4, val_main_call0_v5, val_main_v43, val_main_v44, val_main_v45, val_main_cst_0, val_main_v46, val_main_v47, val_main_cst_1, val_main_v48, val_main_v49, val_main_v50, val_main_v51, val_main_v52, val_main_cst_2, val_main_v53, val_main_v54, val_main_cst_3, val_main_v55, val_main_v56, val_main_v57, val_main_v58, val_main_cst_4, val_main_v59, val_main_v60, val_main_v61, val_main_v62, val_main_v63, val_main_v64, val_main_v65, val_main_v66, val_main_v67, val_main_v68, val_main_v69, val_main_v70, val_main_v71, val_main_c, val_main_v72, val_main_call1_v0, val_main_call1_c, val_main_call1_v1, val_main_call1_v2, val_main_call1_v3, val_main_call1_v4, val_main_call1_c_0, val_main_call1_v5, val_main_v73, val_main_v74, val_main_cst_5, val_main_v75, val_main_call2_v0, val_main_v76, val_main_v77, val_main_v78, val_main_v79, val_main_v80, val_main_v81, val_main_v82, val_main_v83, val_main_v84, val_main_call3_v0, val_main_call3_v1, val_main_call3_cst, val_main_call3_v2, val_main_call3_v3, val_main_call3_cst_0, val_main_call3_v4, val_main_call3_v5, val_main_v85, val_main_v86]
  unfold valB mixed
  refine congrArg₂ (· * ·) (congrArg₂ (· * ·) (headX_apply x0 4 (i 0) (i 1)).symm (congrArg₂ (· + ·) (Finset.sum_congr rfl fun s _ => ?_) rfl))
    ((gate_eq _).trans (congrArg gate (headX_apply x0 6 (i 0) (i 1)).symm))
  have hs : s.val < 128 := s.isLt
  refine (masked ((i 0).val % 128) (by omega) s _).trans (if_congr Iff.rfl (Eq.trans (mul_comm _ _) (congrArg₂ (· * ·) rfl ?_)) rfl)
  exact norm_eq x0 x2 x3 ⟨(i 0).val / 128 * 128 + s.val, by omega⟩ (i 1)

theorem ref (x0 : Vec Ideal S7x2048x1024 .bf16) (x1 : Vec Ideal S3x1024 .f32) (x2 x3 : Vec Ideal S1x1024 .f32)
    (x4 : Vec Ideal S8x128x128 .f32) (x5 : Vec Ideal S8x128 .f32) (i : S2x2048x1024.Idx) :
    val_main_v90 (F := Ideal) x0 x1 x2 x3 x4 x5 i = G x0 x1 x2 x3 x4 x5 i := by
  have h0 : (i 0).val < 2 := (i 0).isLt
  pointwise [val_main_v90, val_main_v89, val_main_v88, val_main_v87]
  unfold G head val
  by_cases h : (i 0).val < 1
  · rw [dif_pos h]
    refine (refA x0 x1 _).trans (if_pos ?_).symm
    show (i 0).val = 0
    omega
  · rw [dif_neg h]
    refine (refB x0 x2 x3 x4 x5 _).trans (if_neg ?_).symm
    show ¬ (i 0).val = 0
    omega

end Cert.EvenMixFwdRefIdeal.Final

namespace Cert.Proof.EvenMixFwdClaims
open Idealize.ShloMosaic Idealize.ShloMosaic.TcCoe Idealize.SL.Sem

theorem frame_k : Cert.quiescent_EvenMixFwd := fun m g _ => Cert.EvenMixFwd.Gen.frame m g
theorem frame_ki : Cert.quiescent_EvenMixFwdIdeal := fun m g _ => Cert.EvenMixFwdIdeal.Gen.frame m g
theorem frame_ri : Cert.quiescent_EvenMixFwdRefIdeal := fun m g _ =>
  (θ_run Cert.EvenMixFwdRefIdeal.defs _ _).mono (fun r h => ⟨fun c => (h c).2, Idealize.ShloMosaic.sem_eq_zero_of_no_sems (by decide) r.2⟩)
    (Cert.EvenMixFwdRefIdeal.Value.run (F := Ideal) m g)
theorem preserves : Cert.preserves_EvenMixFwd_EvenMixFwdIdeal := trivial

/-- At the extended reals the kernel's results and the reference's are the same at every index. -/
theorem algebraic : Cert.algebraic_EvenMixFwdIdeal_EvenMixFwdRefIdeal := by
  intro m g m' g' _ h
  refine ⟨fun c => Cert.EvenMixFwdIdeal.Final.G (m ((c.tc : Thread Cert.EvenMixFwdIdeal.nD Cert.EvenMixFwdIdeal.τ).loc Cert.EvenMixFwdIdeal.main_arg0)) (m ((c.tc : Thread Cert.EvenMixFwdIdeal.nD Cert.EvenMixFwdIdeal.τ).loc Cert.EvenMixFwdIdeal.main_arg1)) (m ((c.tc : Thread Cert.EvenMixFwdIdeal.nD Cert.EvenMixFwdIdeal.τ).loc Cert.EvenMixFwdIdeal.main_arg2)) (m ((c.tc : Thread Cert.EvenMixFwdIdeal.nD Cert.EvenMixFwdIdeal.τ).loc Cert.EvenMixFwdIdeal.main_arg3)) (m ((c.tc : Thread Cert.EvenMixFwdIdeal.nD Cert.EvenMixFwdIdeal.τ).loc Cert.EvenMixFwdIdeal.main_arg4)) (m ((c.tc : Thread Cert.EvenMixFwdIdeal.nD Cert.EvenMixFwdIdeal.τ).loc Cert.EvenMixFwdIdeal.main_arg5)), ?_, ?_⟩
  · exact (θ_run Cert.EvenMixFwdIdeal.defs _ _).mono (fun _ h c => ⟨(h c).1.trans (Cert.EvenMixFwdIdeal.Final.final m c), (h c).2⟩)
      (Cert.EvenMixFwdIdeal.Value.run_blocks (F := Ideal) m g)
  refine (θ_run Cert.EvenMixFwdRefIdeal.defs _ _).mono (fun _ h' c => ⟨(h' c).1.trans ?_, (h' c).2⟩)
    (Cert.EvenMixFwdRefIdeal.Value.run (F := Ideal) m' g')
  · exact (Cert.EvenMixFwdRefIdeal.Read.val_main_v90_eq _ _).trans
      ((funext (Cert.EvenMixFwdRefIdeal.Final.ref _ _ _ _ _ _)).trans
        (congr (congr (congr (congr (congr (congrArg Cert.EvenMixFwdIdeal.Final.G ((h c).1)) ((h c).2.1)) ((h c).2.2.1)) ((h c).2.2.2.1)) ((h c).2.2.2.2.1)) ((h c).2.2.2.2.2)))

end Cert.Proof.EvenMixFwdClaims
-- ==== Proof.OddMixBwdLoops.lean ====
/- The first loops of an odd layer's mixer gradient: what they leave does not depend on what the buffers held. -/
module

public import proofs.«01_k».proof.Proof.Gen.OddMixBwdIdeal.Frame.Runs

@[expose] public section

set_option maxRecDepth 16384

noncomputable section

namespace Cert.Proof.OddMixBwd

open Cert.OddMixBwdIdeal Cert.OddMixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Writes that cover the scratch of gradients leave the same in it, whatever it held. -/
theorem same_writes (arg9 : Memref sig .tc .vmem S2048x512 .f32) (harg9 : arg9.IsWhole) (f g : BufTy.Contents (Elt F) arg9.view.ty)
    (P : List (View.Piece (Elt F) S2048x512 .f32)) (hc : ∀ y : S2048x512.Idx, ∃ pc ∈ P, y ∈ pc.1.set) :
    arg9.view.writes (Elt F) f P = arg9.view.writes (Elt F) g P :=
  (harg9.eq_unread (View.read_writes_of_cover _ _ _ _ _ hc)).trans (harg9.eq_unread rfl).symm

/-- What the first loop of this case carries, and the writes it makes, do not depend on what the result's buffer and the
    scratch of gradients held: the rows it loads from them are never used. -/
theorem st_t1_any (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (v0 : Vec F S4x128x512 .bf16) (v2 : Vec F S1x512 .f32) (k0_h1 : k0_cond1 i = 1#1) (X_arg1 : BufTy.Contents (Elt F) arg1.view.ty) (X_arg2 : BufTy.Contents (Elt F) arg2.view.ty) (X_arg3 : BufTy.Contents (Elt F) arg3.view.ty) (f f' : BufTy.Contents (Elt F) arg6.view.ty) (g g' : BufTy.Contents (Elt F) arg9.view.ty) (G_arg10 : BufTy.Contents (Elt F) arg10.view.ty) (init : FVec F S16x512 .f32 × FVec F S1x512 .f32) (n : ℕ) :
    st_k0_t1 𝒱 c bd i arg1 harg1 arg2 harg2 arg3 harg3 arg4 harg4 arg5 harg5 arg6 harg6 arg7 harg7 arg8 harg8 arg9 harg9 arg10 harg10 v0 v2 k0_h1 X_arg1 X_arg2 X_arg3 f g G_arg10 init n = st_k0_t1 𝒱 c bd i arg1 harg1 arg2 harg2 arg3 harg3 arg4 harg4 arg5 harg5 arg6 harg6 arg7 harg7 arg8 harg8 arg9 harg9 arg10 harg10 v0 v2 k0_h1 X_arg1 X_arg2 X_arg3 f' g' G_arg10 init n := by
  induction n with
  | zero => rfl
  | succ n ih =>
    rw [st_k0_t1.eq_2, st_k0_t1.eq_2, ih]
    unfold st_k0_t1Step
    split
    · unfold tripR_k0_t1 tripL_k0_t1 trip_k0_t1; rfl
    · rfl

/-- The rows that the first loop of this case stores cover the scratch of gradients. -/
theorem st_t1_cover (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (v0 : Vec F S4x128x512 .bf16) (v2 : Vec F S1x512 .f32) (k0_h1 : k0_cond1 i = 1#1) (X_arg1 : BufTy.Contents (Elt F) arg1.view.ty) (X_arg2 : BufTy.Contents (Elt F) arg2.view.ty) (X_arg3 : BufTy.Contents (Elt F) arg3.view.ty) (G_arg6 : BufTy.Contents (Elt F) arg6.view.ty) (G_arg9 : BufTy.Contents (Elt F) arg9.view.ty) (G_arg10 : BufTy.Contents (Elt F) arg10.view.ty) (init : FVec F S16x512 .f32 × FVec F S1x512 .f32) : ∀ y : S2048x512.Idx,
    ∃ pc ∈ (st_k0_t1 𝒱 c bd i arg1 harg1 arg2 harg2 arg3 harg3 arg4 harg4 arg5 harg5 arg6 harg6 arg7 harg7 arg8 harg8 arg9 harg9 arg10 harg10 v0 v2 k0_h1 X_arg1 X_arg2 X_arg3 G_arg6 G_arg9 G_arg10 init (Scf.trips k0_t1_loop.lb k0_t1_loop.ub k0_t1_loop.st)).2.2.1, y ∈ pc.1.set :=
  View.cover_of_tiledL (st_k0_t1 𝒱 c bd i arg1 harg1 arg2 harg2 arg3 harg3 arg4 harg4 arg5 harg5 arg6 harg6 arg7 harg7 arg8 harg8 arg9 harg9 arg10 harg10 v0 v2 k0_h1 X_arg1 X_arg2 X_arg3 G_arg6 G_arg9 G_arg10 init (Scf.trips k0_t1_loop.lb k0_t1_loop.ub k0_t1_loop.st)).2.2.1 S512x512.size (by sl_kernel_rfl)

/-- What the first loop of this case carries, and the writes it makes, do not depend on what the result's buffer and the
    scratch of gradients held: the rows it loads from them are never used. -/
theorem st_t3_any (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (v0 : Vec F S4x128x512 .bf16) (v2 : Vec F S1x512 .f32) (k0_h2 : k0_cond2 i = 1#1) (X_arg1 : BufTy.Contents (Elt F) arg1.view.ty) (X_arg2 : BufTy.Contents (Elt F) arg2.view.ty) (X_arg3 : BufTy.Contents (Elt F) arg3.view.ty) (f f' : BufTy.Contents (Elt F) arg6.view.ty) (g g' : BufTy.Contents (Elt F) arg9.view.ty) (G_arg10 : BufTy.Contents (Elt F) arg10.view.ty) (init : FVec F S16x512 .f32 × FVec F S1x512 .f32) (n : ℕ) :
    st_k0_t3 𝒱 c bd i arg1 harg1 arg2 harg2 arg3 harg3 arg4 harg4 arg5 harg5 arg6 harg6 arg7 harg7 arg8 harg8 arg9 harg9 arg10 harg10 v0 v2 k0_h2 X_arg1 X_arg2 X_arg3 f g G_arg10 init n = st_k0_t3 𝒱 c bd i arg1 harg1 arg2 harg2 arg3 harg3 arg4 harg4 arg5 harg5 arg6 harg6 arg7 harg7 arg8 harg8 arg9 harg9 arg10 harg10 v0 v2 k0_h2 X_arg1 X_arg2 X_arg3 f' g' G_arg10 init n := by
  induction n with
  | zero => rfl
  | succ n ih =>
    rw [st_k0_t3.eq_2, st_k0_t3.eq_2, ih]
    unfold st_k0_t3Step
    split
    · unfold tripR_k0_t3 tripL_k0_t3 trip_k0_t3; rfl
    · rfl

/-- The rows that the first loop of this case stores cover the scratch of gradients. -/
theorem st_t3_cover (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (v0 : Vec F S4x128x512 .bf16) (v2 : Vec F S1x512 .f32) (k0_h2 : k0_cond2 i = 1#1) (X_arg1 : BufTy.Contents (Elt F) arg1.view.ty) (X_arg2 : BufTy.Contents (Elt F) arg2.view.ty) (X_arg3 : BufTy.Contents (Elt F) arg3.view.ty) (G_arg6 : BufTy.Contents (Elt F) arg6.view.ty) (G_arg9 : BufTy.Contents (Elt F) arg9.view.ty) (G_arg10 : BufTy.Contents (Elt F) arg10.view.ty) (init : FVec F S16x512 .f32 × FVec F S1x512 .f32) : ∀ y : S2048x512.Idx,
    ∃ pc ∈ (st_k0_t3 𝒱 c bd i arg1 harg1 arg2 harg2 arg3 harg3 arg4 harg4 arg5 harg5 arg6 harg6 arg7 harg7 arg8 harg8 arg9 harg9 arg10 harg10 v0 v2 k0_h2 X_arg1 X_arg2 X_arg3 G_arg6 G_arg9 G_arg10 init (Scf.trips k0_t3_loop.lb k0_t3_loop.ub k0_t3_loop.st)).2.2.1, y ∈ pc.1.set :=
  View.cover_of_tiledL (st_k0_t3 𝒱 c bd i arg1 harg1 arg2 harg2 arg3 harg3 arg4 harg4 arg5 harg5 arg6 harg6 arg7 harg7 arg8 harg8 arg9 harg9 arg10 harg10 v0 v2 k0_h2 X_arg1 X_arg2 X_arg3 G_arg6 G_arg9 G_arg10 init (Scf.trips k0_t3_loop.lb k0_t3_loop.ub k0_t3_loop.st)).2.2.1 S512x512.size (by sl_kernel_rfl)

/-- What the first loop of this case carries, and the writes it makes, do not depend on what the result's buffer and the
    scratch of gradients held: the rows it loads from them are never used. -/
theorem st_t5_any (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (v0 : Vec F S4x128x512 .bf16) (v2 : Vec F S1x512 .f32) (k0_h3 : k0_cond3 i = 1#1) (X_arg1 : BufTy.Contents (Elt F) arg1.view.ty) (X_arg2 : BufTy.Contents (Elt F) arg2.view.ty) (X_arg3 : BufTy.Contents (Elt F) arg3.view.ty) (f f' : BufTy.Contents (Elt F) arg6.view.ty) (g g' : BufTy.Contents (Elt F) arg9.view.ty) (G_arg10 : BufTy.Contents (Elt F) arg10.view.ty) (init : FVec F S16x512 .f32 × FVec F S1x512 .f32) (n : ℕ) :
    st_k0_t5 𝒱 c bd i arg1 harg1 arg2 harg2 arg3 harg3 arg4 harg4 arg5 harg5 arg6 harg6 arg7 harg7 arg8 harg8 arg9 harg9 arg10 harg10 v0 v2 k0_h3 X_arg1 X_arg2 X_arg3 f g G_arg10 init n = st_k0_t5 𝒱 c bd i arg1 harg1 arg2 harg2 arg3 harg3 arg4 harg4 arg5 harg5 arg6 harg6 arg7 harg7 arg8 harg8 arg9 harg9 arg10 harg10 v0 v2 k0_h3 X_arg1 X_arg2 X_arg3 f' g' G_arg10 init n := by
  induction n with
  | zero => rfl
  | succ n ih =>
    rw [st_k0_t5.eq_2, st_k0_t5.eq_2, ih]
    unfold st_k0_t5Step
    split
    · unfold tripR_k0_t5 tripL_k0_t5 trip_k0_t5; rfl
    · rfl

/-- The rows that the first loop of this case stores cover the scratch of gradients. -/
theorem st_t5_cover (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (v0 : Vec F S4x128x512 .bf16) (v2 : Vec F S1x512 .f32) (k0_h3 : k0_cond3 i = 1#1) (X_arg1 : BufTy.Contents (Elt F) arg1.view.ty) (X_arg2 : BufTy.Contents (Elt F) arg2.view.ty) (X_arg3 : BufTy.Contents (Elt F) arg3.view.ty) (G_arg6 : BufTy.Contents (Elt F) arg6.view.ty) (G_arg9 : BufTy.Contents (Elt F) arg9.view.ty) (G_arg10 : BufTy.Contents (Elt F) arg10.view.ty) (init : FVec F S16x512 .f32 × FVec F S1x512 .f32) : ∀ y : S2048x512.Idx,
    ∃ pc ∈ (st_k0_t5 𝒱 c bd i arg1 harg1 arg2 harg2 arg3 harg3 arg4 harg4 arg5 harg5 arg6 harg6 arg7 harg7 arg8 harg8 arg9 harg9 arg10 harg10 v0 v2 k0_h3 X_arg1 X_arg2 X_arg3 G_arg6 G_arg9 G_arg10 init (Scf.trips k0_t5_loop.lb k0_t5_loop.ub k0_t5_loop.st)).2.2.1, y ∈ pc.1.set :=
  View.cover_of_tiledL (st_k0_t5 𝒱 c bd i arg1 harg1 arg2 harg2 arg3 harg3 arg4 harg4 arg5 harg5 arg6 harg6 arg7 harg7 arg8 harg8 arg9 harg9 arg10 harg10 v0 v2 k0_h3 X_arg1 X_arg2 X_arg3 G_arg6 G_arg9 G_arg10 init (Scf.trips k0_t5_loop.lb k0_t5_loop.ub k0_t5_loop.st)).2.2.1 S512x512.size (by sl_kernel_rfl)

/-- What the first loop of this case carries, and the writes it makes, do not depend on what the result's buffer and the
    scratch of gradients held: the rows it loads from them are never used. -/
theorem st_t7_any (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (v0 : Vec F S4x128x512 .bf16) (v2 : Vec F S1x512 .f32) (k0_h4 : k0_cond4 i = 1#1) (X_arg1 : BufTy.Contents (Elt F) arg1.view.ty) (X_arg2 : BufTy.Contents (Elt F) arg2.view.ty) (X_arg3 : BufTy.Contents (Elt F) arg3.view.ty) (f f' : BufTy.Contents (Elt F) arg6.view.ty) (g g' : BufTy.Contents (Elt F) arg9.view.ty) (G_arg10 : BufTy.Contents (Elt F) arg10.view.ty) (init : FVec F S16x512 .f32 × FVec F S1x512 .f32) (n : ℕ) :
    st_k0_t7 𝒱 c bd i arg1 harg1 arg2 harg2 arg3 harg3 arg4 harg4 arg5 harg5 arg6 harg6 arg7 harg7 arg8 harg8 arg9 harg9 arg10 harg10 v0 v2 k0_h4 X_arg1 X_arg2 X_arg3 f g G_arg10 init n = st_k0_t7 𝒱 c bd i arg1 harg1 arg2 harg2 arg3 harg3 arg4 harg4 arg5 harg5 arg6 harg6 arg7 harg7 arg8 harg8 arg9 harg9 arg10 harg10 v0 v2 k0_h4 X_arg1 X_arg2 X_arg3 f' g' G_arg10 init n := by
  induction n with
  | zero => rfl
  | succ n ih =>
    rw [st_k0_t7.eq_2, st_k0_t7.eq_2, ih]
    unfold st_k0_t7Step
    split
    · unfold tripR_k0_t7 tripL_k0_t7 trip_k0_t7; rfl
    · rfl

/-- The rows that the first loop of this case stores cover the scratch of gradients. -/
theorem st_t7_cover (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (v0 : Vec F S4x128x512 .bf16) (v2 : Vec F S1x512 .f32) (k0_h4 : k0_cond4 i = 1#1) (X_arg1 : BufTy.Contents (Elt F) arg1.view.ty) (X_arg2 : BufTy.Contents (Elt F) arg2.view.ty) (X_arg3 : BufTy.Contents (Elt F) arg3.view.ty) (G_arg6 : BufTy.Contents (Elt F) arg6.view.ty) (G_arg9 : BufTy.Contents (Elt F) arg9.view.ty) (G_arg10 : BufTy.Contents (Elt F) arg10.view.ty) (init : FVec F S16x512 .f32 × FVec F S1x512 .f32) : ∀ y : S2048x512.Idx,
    ∃ pc ∈ (st_k0_t7 𝒱 c bd i arg1 harg1 arg2 harg2 arg3 harg3 arg4 harg4 arg5 harg5 arg6 harg6 arg7 harg7 arg8 harg8 arg9 harg9 arg10 harg10 v0 v2 k0_h4 X_arg1 X_arg2 X_arg3 G_arg6 G_arg9 G_arg10 init (Scf.trips k0_t7_loop.lb k0_t7_loop.ub k0_t7_loop.st)).2.2.1, y ∈ pc.1.set :=
  View.cover_of_tiledL (st_k0_t7 𝒱 c bd i arg1 harg1 arg2 harg2 arg3 harg3 arg4 harg4 arg5 harg5 arg6 harg6 arg7 harg7 arg8 harg8 arg9 harg9 arg10 harg10 v0 v2 k0_h4 X_arg1 X_arg2 X_arg3 G_arg6 G_arg9 G_arg10 init (Scf.trips k0_t7_loop.lb k0_t7_loop.ub k0_t7_loop.st)).2.2.1 S512x512.size (by sl_kernel_rfl)

end Cert.Proof.OddMixBwd

end
-- ==== Proof.OddMixBwdRunA.lean ====
/- The run of the body at grid point 0 of an odd layer's mixer gradient (windows of 2 rows). -/
module

public import proofs.«01_k».proof.Proof.OddMixBwdLoops

@[expose] public section

set_option maxRecDepth 16384

noncomputable section

namespace Cert.Proof.OddMixBwd

open Cert.OddMixBwdIdeal Cert.OddMixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the proof term of a run is large)
set_option maxHeartbeats 1000000 in
/-- The body's run at grid point 0, on inputs that hold `x0 … x4`: the writes that it leaves in the three results'
    buffers, when the first of them held `f5` and the scratch of gradients held `fs0` before. -/
@[irreducible] noncomputable def preRun0_A (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (f5 : BufTy.Contents (Elt F) arg6.view.ty) (fs0 : BufTy.Contents (Elt F) arg9.view.ty) :
    Σ' (L5 : List (View.Piece (Elt F) S2x2048x512 .bf16)), Σ' (L6 : List (View.Piece (Elt F) S4x128x512 .bf16)), { L7 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (∃ d, owns (c : Thread nD τ) arg7 fullShare d) ∗ (∃ d, owns (c : Thread nD τ) arg8 fullShare d) ∗ (arg9.view.loc (c : Thread nD τ) ↦[arg9.view.set]{fullShare} fs0) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_odd_bwd_eq_skeleton]; unfold cc0_odd_bwd_skel
    unfold owns
    iintro ⟨⟨%f0, %hf0, H0⟩, ⟨%f1, %hf1, H1⟩, ⟨%f2, %hf2, H2⟩, ⟨%f3, %hf3, H3⟩, ⟨%f4, %hf4, H4⟩, H5, ⟨%d6, %f6, -, H6⟩, ⟨%d7, %f7, -, H7⟩, HS0, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

/-- The writes do not depend on what the first result's buffer and the scratch of gradients held. -/
theorem preRun0_A_any (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (f f' : BufTy.Contents (Elt F) arg6.view.ty) (g g' : BufTy.Contents (Elt F) arg9.view.ty) :
    (preRun0_A c i arg1 harg1 arg2 harg2 arg3 harg3 arg4 harg4 arg5 harg5 arg6 harg6 arg7 harg7 arg8 harg8 arg9 harg9 arg10 harg10 hc0 hc1 hc2 hc3 x0 x1 x2 x3 x4 f g).1 = (preRun0_A c i arg1 harg1 arg2 harg2 arg3 harg3 arg4 harg4 arg5 harg5 arg6 harg6 arg7 harg7 arg8 harg8 arg9 harg9 arg10 harg10 hc0 hc1 hc2 hc3 x0 x1 x2 x3 x4 f' g').1
      ∧ (preRun0_A c i arg1 harg1 arg2 harg2 arg3 harg3 arg4 harg4 arg5 harg5 arg6 harg6 arg7 harg7 arg8 harg8 arg9 harg9 arg10 harg10 hc0 hc1 hc2 hc3 x0 x1 x2 x3 x4 f g).2.1 = (preRun0_A c i arg1 harg1 arg2 harg2 arg3 harg3 arg4 harg4 arg5 harg5 arg6 harg6 arg7 harg7 arg8 harg8 arg9 harg9 arg10 harg10 hc0 hc1 hc2 hc3 x0 x1 x2 x3 x4 f' g').2.1
      ∧ (preRun0_A c i arg1 harg1 arg2 harg2 arg3 harg3 arg4 harg4 arg5 harg5 arg6 harg6 arg7 harg7 arg8 harg8 arg9 harg9 arg10 harg10 hc0 hc1 hc2 hc3 x0 x1 x2 x3 x4 f g).2.2.1 = (preRun0_A c i arg1 harg1 arg2 harg2 arg3 harg3 arg4 harg4 arg5 harg5 arg6 harg6 arg7 harg7 arg8 harg8 arg9 harg9 arg10 harg10 hc0 hc1 hc2 hc3 x0 x1 x2 x3 x4 f' g').2.2.1 := by
  unfold preRun0_A
  dsimp only
  refine ⟨?_, ?_, ?_⟩
  · rw [st_t1_any (f := f) (f' := f') (g := g) (g' := g'), same_writes arg9 harg9 g g' _ (fun y => st_t1_cover (y := y) ..)]
  · unfold preRun0_A.sl.H6_1 preRun0_A.sl.v24
    rw [st_t1_any (f := f) (f' := f') (g := g) (g' := g')]
  · unfold preRun0_A.sl.H7_1
    rw [st_t1_any (f := f) (f' := f') (g := g) (g' := g')]

/-- The run from given contents, with names for the writes. -/
theorem run_A_of (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (f5 : BufTy.Contents (Elt F) arg6.view.ty) (fs0 : BufTy.Contents (Elt F) arg9.view.ty)
    (L5 : List (View.Piece (Elt F) S2x2048x512 .bf16)) (L6 : List (View.Piece (Elt F) S4x128x512 .bf16)) (L7 : List (View.Piece (Elt F) S1x512 .f32))
    (e1 : (preRun0_A c i arg1 harg1 arg2 harg2 arg3 harg3 arg4 harg4 arg5 harg5 arg6 harg6 arg7 harg7 arg8 harg8 arg9 harg9 arg10 harg10 hc0 hc1 hc2 hc3 x0 x1 x2 x3 x4 f5 fs0).1 = L5) (e2 : (preRun0_A c i arg1 harg1 arg2 harg2 arg3 harg3 arg4 harg4 arg5 harg5 arg6 harg6 arg7 harg7 arg8 harg8 arg9 harg9 arg10 harg10 hc0 hc1 hc2 hc3 x0 x1 x2 x3 x4 f5 fs0).2.1 = L6) (e3 : (preRun0_A c i arg1 harg1 arg2 harg2 arg3 harg3 arg4 harg4 arg5 harg5 arg6 harg6 arg7 harg7 arg8 harg8 arg9 harg9 arg10 harg10 hc0 hc1 hc2 hc3 x0 x1 x2 x3 x4 f5 fs0).2.2.1 = L7)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (∃ d, owns (c : Thread nD τ) arg7 fullShare d) ∗ (∃ d, owns (c : Thread nD τ) arg8 fullShare d) ∗ (arg9.view.loc (c : Thread nD τ) ↦[arg9.view.set]{fullShare} fs0) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K := by
  subst e1 e2 e3
  exact (preRun0_A c i arg1 harg1 arg2 harg2 arg3 harg3 arg4 harg4 arg5 harg5 arg6 harg6 arg7 harg7 arg8 harg8 arg9 harg9 arg10 harg10 hc0 hc1 hc2 hc3 x0 x1 x2 x3 x4 f5 fs0).2.2.2 E K

/-- The body's run at grid point 0 from any contents of the results' buffers and of the scratch. -/
theorem run_A (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (preRun0_A c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).1) ∗ (∃ f, arg7.view.loc (c : Thread nD τ) ↦[arg7.view.set]{fullShare} arg7.view.writes (Elt F) f (preRun0_A c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.1) ∗ (∃ f, arg8.view.loc (c : Thread nD τ) ↦[arg8.view.set]{fullShare} arg8.view.writes (Elt F) f (preRun0_A c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.2.1) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K := by
  iintro ⟨H0, H1, H2, H3, H4, ⟨%d5, H5⟩, H6, H7, ⟨%ds0, HS0⟩, HS1, Hk⟩
  unfold owns
  icases H5 with ⟨%f5, -, H5⟩
  icases HS0 with ⟨%fs0, -, HS0⟩
  obtain ⟨e1, e2, e3⟩ := preRun0_A_any c i arg1 harg1 arg2 harg2 arg3 harg3 arg4 harg4 arg5 harg5 arg6 harg6 arg7 harg7 arg8 harg8 arg9 harg9 arg10 harg10 hc0 hc1 hc2 hc3 x0 x1 x2 x3 x4 f5 arg6.view.junk fs0 arg9.view.junk
  iapply (run_A_of c i arg1 harg1 arg2 harg2 arg3 harg3 arg4 harg4 arg5 harg5 arg6 harg6 arg7 harg7 arg8 harg8 arg9 harg9 arg10 harg10 hc0 hc1 hc2 hc3 x0 x1 x2 x3 x4 f5 fs0 _ _ _ e1 e2 e3 E K)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iexact Hk

/-- The writes that the body leaves in the results' buffers at grid point 0, with its run. -/
noncomputable def kernelRun0_A (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) :
    Σ' (L5 : List (View.Piece (Elt F) S2x2048x512 .bf16)), Σ' (L6 : List (View.Piece (Elt F) S4x128x512 .bf16)), { L7 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K } :=
  ⟨(preRun0_A c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).1, (preRun0_A c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.1,
    (preRun0_A c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.2.1, run_A c i arg1 harg1 arg2 harg2 arg3 harg3 arg4 harg4 arg5 harg5 arg6 harg6 arg7 harg7 arg8 harg8 arg9 harg9 arg10 harg10 hc0 hc1 hc2 hc3 x0 x1 x2 x3 x4⟩

end Cert.Proof.OddMixBwd

end
-- ==== Proof.OddMixBwdRunB.lean ====
/- The run of the body at grid point 1 of an odd layer's mixer gradient (windows of 4 rows). -/
module

public import proofs.«01_k».proof.Proof.OddMixBwdLoops

@[expose] public section

set_option maxRecDepth 16384

noncomputable section

namespace Cert.Proof.OddMixBwd

open Cert.OddMixBwdIdeal Cert.OddMixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the proof term of a run is large)
set_option maxHeartbeats 1000000 in
/-- The body's run at grid point 1, on inputs that hold `x0 … x4`: the writes that it leaves in the three results'
    buffers, when the first of them held `f5` and the scratch of gradients held `fs0` before. -/
@[irreducible] noncomputable def preRun0_B (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (f5 : BufTy.Contents (Elt F) arg6.view.ty) (fs0 : BufTy.Contents (Elt F) arg9.view.ty) :
    Σ' (L5 : List (View.Piece (Elt F) S2x2048x512 .bf16)), Σ' (L6 : List (View.Piece (Elt F) S4x128x512 .bf16)), { L7 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (∃ d, owns (c : Thread nD τ) arg7 fullShare d) ∗ (∃ d, owns (c : Thread nD τ) arg8 fullShare d) ∗ (arg9.view.loc (c : Thread nD τ) ↦[arg9.view.set]{fullShare} fs0) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_odd_bwd_eq_skeleton]; unfold cc0_odd_bwd_skel
    unfold owns
    iintro ⟨⟨%f0, %hf0, H0⟩, ⟨%f1, %hf1, H1⟩, ⟨%f2, %hf2, H2⟩, ⟨%f3, %hf3, H3⟩, ⟨%f4, %hf4, H4⟩, H5, ⟨%d6, %f6, -, H6⟩, ⟨%d7, %f7, -, H7⟩, HS0, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

/-- The writes do not depend on what the first result's buffer and the scratch of gradients held. -/
theorem preRun0_B_any (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (f f' : BufTy.Contents (Elt F) arg6.view.ty) (g g' : BufTy.Contents (Elt F) arg9.view.ty) :
    (preRun0_B c i arg1 harg1 arg2 harg2 arg3 harg3 arg4 harg4 arg5 harg5 arg6 harg6 arg7 harg7 arg8 harg8 arg9 harg9 arg10 harg10 hc0 hc1 hc2 hc3 x0 x1 x2 x3 x4 f g).1 = (preRun0_B c i arg1 harg1 arg2 harg2 arg3 harg3 arg4 harg4 arg5 harg5 arg6 harg6 arg7 harg7 arg8 harg8 arg9 harg9 arg10 harg10 hc0 hc1 hc2 hc3 x0 x1 x2 x3 x4 f' g').1
      ∧ (preRun0_B c i arg1 harg1 arg2 harg2 arg3 harg3 arg4 harg4 arg5 harg5 arg6 harg6 arg7 harg7 arg8 harg8 arg9 harg9 arg10 harg10 hc0 hc1 hc2 hc3 x0 x1 x2 x3 x4 f g).2.1 = (preRun0_B c i arg1 harg1 arg2 harg2 arg3 harg3 arg4 harg4 arg5 harg5 arg6 harg6 arg7 harg7 arg8 harg8 arg9 harg9 arg10 harg10 hc0 hc1 hc2 hc3 x0 x1 x2 x3 x4 f' g').2.1
      ∧ (preRun0_B c i arg1 harg1 arg2 harg2 arg3 harg3 arg4 harg4 arg5 harg5 arg6 harg6 arg7 harg7 arg8 harg8 arg9 harg9 arg10 harg10 hc0 hc1 hc2 hc3 x0 x1 x2 x3 x4 f g).2.2.1 = (preRun0_B c i arg1 harg1 arg2 harg2 arg3 harg3 arg4 harg4 arg5 harg5 arg6 harg6 arg7 harg7 arg8 harg8 arg9 harg9 arg10 harg10 hc0 hc1 hc2 hc3 x0 x1 x2 x3 x4 f' g').2.2.1 := by
  unfold preRun0_B
  dsimp only
  refine ⟨?_, ?_, ?_⟩
  · rw [st_t3_any (f := f) (f' := f') (g := g) (g' := g'), same_writes arg9 harg9 g g' _ (fun y => st_t3_cover (y := y) ..)]
  · unfold preRun0_B.sl.H6_1 preRun0_B.sl.v24
    rw [st_t3_any (f := f) (f' := f') (g := g) (g' := g')]
  · unfold preRun0_B.sl.H7_1
    rw [st_t3_any (f := f) (f' := f') (g := g) (g' := g')]

/-- The run from given contents, with names for the writes. -/
theorem run_B_of (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (f5 : BufTy.Contents (Elt F) arg6.view.ty) (fs0 : BufTy.Contents (Elt F) arg9.view.ty)
    (L5 : List (View.Piece (Elt F) S2x2048x512 .bf16)) (L6 : List (View.Piece (Elt F) S4x128x512 .bf16)) (L7 : List (View.Piece (Elt F) S1x512 .f32))
    (e1 : (preRun0_B c i arg1 harg1 arg2 harg2 arg3 harg3 arg4 harg4 arg5 harg5 arg6 harg6 arg7 harg7 arg8 harg8 arg9 harg9 arg10 harg10 hc0 hc1 hc2 hc3 x0 x1 x2 x3 x4 f5 fs0).1 = L5) (e2 : (preRun0_B c i arg1 harg1 arg2 harg2 arg3 harg3 arg4 harg4 arg5 harg5 arg6 harg6 arg7 harg7 arg8 harg8 arg9 harg9 arg10 harg10 hc0 hc1 hc2 hc3 x0 x1 x2 x3 x4 f5 fs0).2.1 = L6) (e3 : (preRun0_B c i arg1 harg1 arg2 harg2 arg3 harg3 arg4 harg4 arg5 harg5 arg6 harg6 arg7 harg7 arg8 harg8 arg9 harg9 arg10 harg10 hc0 hc1 hc2 hc3 x0 x1 x2 x3 x4 f5 fs0).2.2.1 = L7)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (∃ d, owns (c : Thread nD τ) arg7 fullShare d) ∗ (∃ d, owns (c : Thread nD τ) arg8 fullShare d) ∗ (arg9.view.loc (c : Thread nD τ) ↦[arg9.view.set]{fullShare} fs0) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K := by
  subst e1 e2 e3
  exact (preRun0_B c i arg1 harg1 arg2 harg2 arg3 harg3 arg4 harg4 arg5 harg5 arg6 harg6 arg7 harg7 arg8 harg8 arg9 harg9 arg10 harg10 hc0 hc1 hc2 hc3 x0 x1 x2 x3 x4 f5 fs0).2.2.2 E K

/-- The body's run at grid point 1 from any contents of the results' buffers and of the scratch. -/
theorem run_B (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (preRun0_B c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).1) ∗ (∃ f, arg7.view.loc (c : Thread nD τ) ↦[arg7.view.set]{fullShare} arg7.view.writes (Elt F) f (preRun0_B c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.1) ∗ (∃ f, arg8.view.loc (c : Thread nD τ) ↦[arg8.view.set]{fullShare} arg8.view.writes (Elt F) f (preRun0_B c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.2.1) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K := by
  iintro ⟨H0, H1, H2, H3, H4, ⟨%d5, H5⟩, H6, H7, ⟨%ds0, HS0⟩, HS1, Hk⟩
  unfold owns
  icases H5 with ⟨%f5, -, H5⟩
  icases HS0 with ⟨%fs0, -, HS0⟩
  obtain ⟨e1, e2, e3⟩ := preRun0_B_any c i arg1 harg1 arg2 harg2 arg3 harg3 arg4 harg4 arg5 harg5 arg6 harg6 arg7 harg7 arg8 harg8 arg9 harg9 arg10 harg10 hc0 hc1 hc2 hc3 x0 x1 x2 x3 x4 f5 arg6.view.junk fs0 arg9.view.junk
  iapply (run_B_of c i arg1 harg1 arg2 harg2 arg3 harg3 arg4 harg4 arg5 harg5 arg6 harg6 arg7 harg7 arg8 harg8 arg9 harg9 arg10 harg10 hc0 hc1 hc2 hc3 x0 x1 x2 x3 x4 f5 fs0 _ _ _ e1 e2 e3 E K)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iexact Hk

/-- The writes that the body leaves in the results' buffers at grid point 1, with its run. -/
noncomputable def kernelRun0_B (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) :
    Σ' (L5 : List (View.Piece (Elt F) S2x2048x512 .bf16)), Σ' (L6 : List (View.Piece (Elt F) S4x128x512 .bf16)), { L7 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K } :=
  ⟨(preRun0_B c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).1, (preRun0_B c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.1,
    (preRun0_B c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.2.1, run_B c i arg1 harg1 arg2 harg2 arg3 harg3 arg4 harg4 arg5 harg5 arg6 harg6 arg7 harg7 arg8 harg8 arg9 harg9 arg10 harg10 hc0 hc1 hc2 hc3 x0 x1 x2 x3 x4⟩

end Cert.Proof.OddMixBwd

end
-- ==== Proof.OddMixBwdRunC.lean ====
/- The run of the body at grid point 2 of an odd layer's mixer gradient (windows of 8 rows). -/
module

public import proofs.«01_k».proof.Proof.OddMixBwdLoops

@[expose] public section

set_option maxRecDepth 16384

noncomputable section

namespace Cert.Proof.OddMixBwd

open Cert.OddMixBwdIdeal Cert.OddMixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the proof term of a run is large)
set_option maxHeartbeats 1000000 in
/-- The body's run at grid point 2, on inputs that hold `x0 … x4`: the writes that it leaves in the three results'
    buffers, when the first of them held `f5` and the scratch of gradients held `fs0` before. -/
@[irreducible] noncomputable def preRun0_C (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (f5 : BufTy.Contents (Elt F) arg6.view.ty) (fs0 : BufTy.Contents (Elt F) arg9.view.ty) :
    Σ' (L5 : List (View.Piece (Elt F) S2x2048x512 .bf16)), Σ' (L6 : List (View.Piece (Elt F) S4x128x512 .bf16)), { L7 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (∃ d, owns (c : Thread nD τ) arg7 fullShare d) ∗ (∃ d, owns (c : Thread nD τ) arg8 fullShare d) ∗ (arg9.view.loc (c : Thread nD τ) ↦[arg9.view.set]{fullShare} fs0) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_odd_bwd_eq_skeleton]; unfold cc0_odd_bwd_skel
    unfold owns
    iintro ⟨⟨%f0, %hf0, H0⟩, ⟨%f1, %hf1, H1⟩, ⟨%f2, %hf2, H2⟩, ⟨%f3, %hf3, H3⟩, ⟨%f4, %hf4, H4⟩, H5, ⟨%d6, %f6, -, H6⟩, ⟨%d7, %f7, -, H7⟩, HS0, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

/-- The writes do not depend on what the first result's buffer and the scratch of gradients held. -/
theorem preRun0_C_any (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (f f' : BufTy.Contents (Elt F) arg6.view.ty) (g g' : BufTy.Contents (Elt F) arg9.view.ty) :
    (preRun0_C c i arg1 harg1 arg2 harg2 arg3 harg3 arg4 harg4 arg5 harg5 arg6 harg6 arg7 harg7 arg8 harg8 arg9 harg9 arg10 harg10 hc0 hc1 hc2 hc3 x0 x1 x2 x3 x4 f g).1 = (preRun0_C c i arg1 harg1 arg2 harg2 arg3 harg3 arg4 harg4 arg5 harg5 arg6 harg6 arg7 harg7 arg8 harg8 arg9 harg9 arg10 harg10 hc0 hc1 hc2 hc3 x0 x1 x2 x3 x4 f' g').1
      ∧ (preRun0_C c i arg1 harg1 arg2 harg2 arg3 harg3 arg4 harg4 arg5 harg5 arg6 harg6 arg7 harg7 arg8 harg8 arg9 harg9 arg10 harg10 hc0 hc1 hc2 hc3 x0 x1 x2 x3 x4 f g).2.1 = (preRun0_C c i arg1 harg1 arg2 harg2 arg3 harg3 arg4 harg4 arg5 harg5 arg6 harg6 arg7 harg7 arg8 harg8 arg9 harg9 arg10 harg10 hc0 hc1 hc2 hc3 x0 x1 x2 x3 x4 f' g').2.1
      ∧ (preRun0_C c i arg1 harg1 arg2 harg2 arg3 harg3 arg4 harg4 arg5 harg5 arg6 harg6 arg7 harg7 arg8 harg8 arg9 harg9 arg10 harg10 hc0 hc1 hc2 hc3 x0 x1 x2 x3 x4 f g).2.2.1 = (preRun0_C c i arg1 harg1 arg2 harg2 arg3 harg3 arg4 harg4 arg5 harg5 arg6 harg6 arg7 harg7 arg8 harg8 arg9 harg9 arg10 harg10 hc0 hc1 hc2 hc3 x0 x1 x2 x3 x4 f' g').2.2.1 := by
  unfold preRun0_C
  dsimp only
  refine ⟨?_, ?_, ?_⟩
  · rw [st_t5_any (f := f) (f' := f') (g := g) (g' := g'), same_writes arg9 harg9 g g' _ (fun y => st_t5_cover (y := y) ..)]
  · unfold preRun0_C.sl.H6_1 preRun0_C.sl.v24
    rw [st_t5_any (f := f) (f' := f') (g := g) (g' := g')]
  · unfold preRun0_C.sl.H7_1
    rw [st_t5_any (f := f) (f' := f') (g := g) (g' := g')]

/-- The run from given contents, with names for the writes. -/
theorem run_C_of (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (f5 : BufTy.Contents (Elt F) arg6.view.ty) (fs0 : BufTy.Contents (Elt F) arg9.view.ty)
    (L5 : List (View.Piece (Elt F) S2x2048x512 .bf16)) (L6 : List (View.Piece (Elt F) S4x128x512 .bf16)) (L7 : List (View.Piece (Elt F) S1x512 .f32))
    (e1 : (preRun0_C c i arg1 harg1 arg2 harg2 arg3 harg3 arg4 harg4 arg5 harg5 arg6 harg6 arg7 harg7 arg8 harg8 arg9 harg9 arg10 harg10 hc0 hc1 hc2 hc3 x0 x1 x2 x3 x4 f5 fs0).1 = L5) (e2 : (preRun0_C c i arg1 harg1 arg2 harg2 arg3 harg3 arg4 harg4 arg5 harg5 arg6 harg6 arg7 harg7 arg8 harg8 arg9 harg9 arg10 harg10 hc0 hc1 hc2 hc3 x0 x1 x2 x3 x4 f5 fs0).2.1 = L6) (e3 : (preRun0_C c i arg1 harg1 arg2 harg2 arg3 harg3 arg4 harg4 arg5 harg5 arg6 harg6 arg7 harg7 arg8 harg8 arg9 harg9 arg10 harg10 hc0 hc1 hc2 hc3 x0 x1 x2 x3 x4 f5 fs0).2.2.1 = L7)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (∃ d, owns (c : Thread nD τ) arg7 fullShare d) ∗ (∃ d, owns (c : Thread nD τ) arg8 fullShare d) ∗ (arg9.view.loc (c : Thread nD τ) ↦[arg9.view.set]{fullShare} fs0) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K := by
  subst e1 e2 e3
  exact (preRun0_C c i arg1 harg1 arg2 harg2 arg3 harg3 arg4 harg4 arg5 harg5 arg6 harg6 arg7 harg7 arg8 harg8 arg9 harg9 arg10 harg10 hc0 hc1 hc2 hc3 x0 x1 x2 x3 x4 f5 fs0).2.2.2 E K

/-- The body's run at grid point 2 from any contents of the results' buffers and of the scratch. -/
theorem run_C (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (preRun0_C c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).1) ∗ (∃ f, arg7.view.loc (c : Thread nD τ) ↦[arg7.view.set]{fullShare} arg7.view.writes (Elt F) f (preRun0_C c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.1) ∗ (∃ f, arg8.view.loc (c : Thread nD τ) ↦[arg8.view.set]{fullShare} arg8.view.writes (Elt F) f (preRun0_C c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.2.1) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K := by
  iintro ⟨H0, H1, H2, H3, H4, ⟨%d5, H5⟩, H6, H7, ⟨%ds0, HS0⟩, HS1, Hk⟩
  unfold owns
  icases H5 with ⟨%f5, -, H5⟩
  icases HS0 with ⟨%fs0, -, HS0⟩
  obtain ⟨e1, e2, e3⟩ := preRun0_C_any c i arg1 harg1 arg2 harg2 arg3 harg3 arg4 harg4 arg5 harg5 arg6 harg6 arg7 harg7 arg8 harg8 arg9 harg9 arg10 harg10 hc0 hc1 hc2 hc3 x0 x1 x2 x3 x4 f5 arg6.view.junk fs0 arg9.view.junk
  iapply (run_C_of c i arg1 harg1 arg2 harg2 arg3 harg3 arg4 harg4 arg5 harg5 arg6 harg6 arg7 harg7 arg8 harg8 arg9 harg9 arg10 harg10 hc0 hc1 hc2 hc3 x0 x1 x2 x3 x4 f5 fs0 _ _ _ e1 e2 e3 E K)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iexact Hk

/-- The writes that the body leaves in the results' buffers at grid point 2, with its run. -/
noncomputable def kernelRun0_C (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) :
    Σ' (L5 : List (View.Piece (Elt F) S2x2048x512 .bf16)), Σ' (L6 : List (View.Piece (Elt F) S4x128x512 .bf16)), { L7 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K } :=
  ⟨(preRun0_C c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).1, (preRun0_C c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.1,
    (preRun0_C c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.2.1, run_C c i arg1 harg1 arg2 harg2 arg3 harg3 arg4 harg4 arg5 harg5 arg6 harg6 arg7 harg7 arg8 harg8 arg9 harg9 arg10 harg10 hc0 hc1 hc2 hc3 x0 x1 x2 x3 x4⟩

end Cert.Proof.OddMixBwd

end
-- ==== Proof.OddMixBwdRunD.lean ====
/- The run of the body at grid point 3 of an odd layer's mixer gradient (windows of 16 rows). -/
module

public import proofs.«01_k».proof.Proof.OddMixBwdLoops

@[expose] public section

set_option maxRecDepth 16384

noncomputable section

namespace Cert.Proof.OddMixBwd

open Cert.OddMixBwdIdeal Cert.OddMixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the proof term of a run is large)
set_option maxHeartbeats 1000000 in
/-- The body's run at grid point 3, on inputs that hold `x0 … x4`: the writes that it leaves in the three results'
    buffers, when the first of them held `f5` and the scratch of gradients held `fs0` before. -/
@[irreducible] noncomputable def preRun0_D (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) (f5 : BufTy.Contents (Elt F) arg6.view.ty) (fs0 : BufTy.Contents (Elt F) arg9.view.ty) :
    Σ' (L5 : List (View.Piece (Elt F) S2x2048x512 .bf16)), Σ' (L6 : List (View.Piece (Elt F) S4x128x512 .bf16)), { L7 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (∃ d, owns (c : Thread nD τ) arg7 fullShare d) ∗ (∃ d, owns (c : Thread nD τ) arg8 fullShare d) ∗ (arg9.view.loc (c : Thread nD τ) ↦[arg9.view.set]{fullShare} fs0) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_odd_bwd_eq_skeleton]; unfold cc0_odd_bwd_skel
    unfold owns
    iintro ⟨⟨%f0, %hf0, H0⟩, ⟨%f1, %hf1, H1⟩, ⟨%f2, %hf2, H2⟩, ⟨%f3, %hf3, H3⟩, ⟨%f4, %hf4, H4⟩, H5, ⟨%d6, %f6, -, H6⟩, ⟨%d7, %f7, -, H7⟩, HS0, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

/-- The writes do not depend on what the first result's buffer and the scratch of gradients held. -/
theorem preRun0_D_any (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) (f f' : BufTy.Contents (Elt F) arg6.view.ty) (g g' : BufTy.Contents (Elt F) arg9.view.ty) :
    (preRun0_D c i arg1 harg1 arg2 harg2 arg3 harg3 arg4 harg4 arg5 harg5 arg6 harg6 arg7 harg7 arg8 harg8 arg9 harg9 arg10 harg10 hc0 hc1 hc2 hc3 x0 x1 x2 x3 x4 f g).1 = (preRun0_D c i arg1 harg1 arg2 harg2 arg3 harg3 arg4 harg4 arg5 harg5 arg6 harg6 arg7 harg7 arg8 harg8 arg9 harg9 arg10 harg10 hc0 hc1 hc2 hc3 x0 x1 x2 x3 x4 f' g').1
      ∧ (preRun0_D c i arg1 harg1 arg2 harg2 arg3 harg3 arg4 harg4 arg5 harg5 arg6 harg6 arg7 harg7 arg8 harg8 arg9 harg9 arg10 harg10 hc0 hc1 hc2 hc3 x0 x1 x2 x3 x4 f g).2.1 = (preRun0_D c i arg1 harg1 arg2 harg2 arg3 harg3 arg4 harg4 arg5 harg5 arg6 harg6 arg7 harg7 arg8 harg8 arg9 harg9 arg10 harg10 hc0 hc1 hc2 hc3 x0 x1 x2 x3 x4 f' g').2.1
      ∧ (preRun0_D c i arg1 harg1 arg2 harg2 arg3 harg3 arg4 harg4 arg5 harg5 arg6 harg6 arg7 harg7 arg8 harg8 arg9 harg9 arg10 harg10 hc0 hc1 hc2 hc3 x0 x1 x2 x3 x4 f g).2.2.1 = (preRun0_D c i arg1 harg1 arg2 harg2 arg3 harg3 arg4 harg4 arg5 harg5 arg6 harg6 arg7 harg7 arg8 harg8 arg9 harg9 arg10 harg10 hc0 hc1 hc2 hc3 x0 x1 x2 x3 x4 f' g').2.2.1 := by
  unfold preRun0_D
  dsimp only
  refine ⟨?_, ?_, ?_⟩
  · rw [st_t7_any (f := f) (f' := f') (g := g) (g' := g'), same_writes arg9 harg9 g g' _ (fun y => st_t7_cover (y := y) ..)]
  · unfold preRun0_D.sl.H6_1 preRun0_D.sl.v24
    rw [st_t7_any (f := f) (f' := f') (g := g) (g' := g')]
  · unfold preRun0_D.sl.H7_1
    rw [st_t7_any (f := f) (f' := f') (g := g) (g' := g')]

/-- The run from given contents, with names for the writes. -/
theorem run_D_of (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) (f5 : BufTy.Contents (Elt F) arg6.view.ty) (fs0 : BufTy.Contents (Elt F) arg9.view.ty)
    (L5 : List (View.Piece (Elt F) S2x2048x512 .bf16)) (L6 : List (View.Piece (Elt F) S4x128x512 .bf16)) (L7 : List (View.Piece (Elt F) S1x512 .f32))
    (e1 : (preRun0_D c i arg1 harg1 arg2 harg2 arg3 harg3 arg4 harg4 arg5 harg5 arg6 harg6 arg7 harg7 arg8 harg8 arg9 harg9 arg10 harg10 hc0 hc1 hc2 hc3 x0 x1 x2 x3 x4 f5 fs0).1 = L5) (e2 : (preRun0_D c i arg1 harg1 arg2 harg2 arg3 harg3 arg4 harg4 arg5 harg5 arg6 harg6 arg7 harg7 arg8 harg8 arg9 harg9 arg10 harg10 hc0 hc1 hc2 hc3 x0 x1 x2 x3 x4 f5 fs0).2.1 = L6) (e3 : (preRun0_D c i arg1 harg1 arg2 harg2 arg3 harg3 arg4 harg4 arg5 harg5 arg6 harg6 arg7 harg7 arg8 harg8 arg9 harg9 arg10 harg10 hc0 hc1 hc2 hc3 x0 x1 x2 x3 x4 f5 fs0).2.2.1 = L7)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (∃ d, owns (c : Thread nD τ) arg7 fullShare d) ∗ (∃ d, owns (c : Thread nD τ) arg8 fullShare d) ∗ (arg9.view.loc (c : Thread nD τ) ↦[arg9.view.set]{fullShare} fs0) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K := by
  subst e1 e2 e3
  exact (preRun0_D c i arg1 harg1 arg2 harg2 arg3 harg3 arg4 harg4 arg5 harg5 arg6 harg6 arg7 harg7 arg8 harg8 arg9 harg9 arg10 harg10 hc0 hc1 hc2 hc3 x0 x1 x2 x3 x4 f5 fs0).2.2.2 E K

/-- The body's run at grid point 3 from any contents of the results' buffers and of the scratch. -/
theorem run_D (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (preRun0_D c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).1) ∗ (∃ f, arg7.view.loc (c : Thread nD τ) ↦[arg7.view.set]{fullShare} arg7.view.writes (Elt F) f (preRun0_D c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.1) ∗ (∃ f, arg8.view.loc (c : Thread nD τ) ↦[arg8.view.set]{fullShare} arg8.view.writes (Elt F) f (preRun0_D c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.2.1) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K := by
  iintro ⟨H0, H1, H2, H3, H4, ⟨%d5, H5⟩, H6, H7, ⟨%ds0, HS0⟩, HS1, Hk⟩
  unfold owns
  icases H5 with ⟨%f5, -, H5⟩
  icases HS0 with ⟨%fs0, -, HS0⟩
  obtain ⟨e1, e2, e3⟩ := preRun0_D_any c i arg1 harg1 arg2 harg2 arg3 harg3 arg4 harg4 arg5 harg5 arg6 harg6 arg7 harg7 arg8 harg8 arg9 harg9 arg10 harg10 hc0 hc1 hc2 hc3 x0 x1 x2 x3 x4 f5 arg6.view.junk fs0 arg9.view.junk
  iapply (run_D_of c i arg1 harg1 arg2 harg2 arg3 harg3 arg4 harg4 arg5 harg5 arg6 harg6 arg7 harg7 arg8 harg8 arg9 harg9 arg10 harg10 hc0 hc1 hc2 hc3 x0 x1 x2 x3 x4 f5 fs0 _ _ _ e1 e2 e3 E K)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iexact Hk

/-- The writes that the body leaves in the results' buffers at grid point 3, with its run. -/
noncomputable def kernelRun0_D (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) :
    Σ' (L5 : List (View.Piece (Elt F) S2x2048x512 .bf16)), Σ' (L6 : List (View.Piece (Elt F) S4x128x512 .bf16)), { L7 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_odd_bwd i arg1 harg1 arg2 harg2 arg3 harg3 arg4 harg4 arg5 harg5 arg6 harg6 arg7 harg7 arg8 harg8 arg9 harg9 arg10 harg10) K } :=
  ⟨(preRun0_D c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).1, (preRun0_D c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.1,
    (preRun0_D c i arg1 harg1 arg2 harg2 arg3 harg3 arg4 harg4 arg5 harg5 arg6 harg6 arg7 harg7 arg8 harg8 arg9 harg9 arg10 harg10 hc0 hc1 hc2 hc3 x0 x1 x2 x3 x4 arg6.view.junk arg9.view.junk).2.2.1, run_D c i arg1 harg1 arg2 harg2 arg3 harg3 arg4 harg4 arg5 harg5 arg6 harg6 arg7 harg7 arg8 harg8 arg9 harg9 arg10 harg10 hc0 hc1 hc2 hc3 x0 x1 x2 x3 x4⟩

end Cert.Proof.OddMixBwd

end
-- ==== Proof.OddMixBwdFrame.lean ====
/- The frame of an odd layer's mixer gradient: what each grid point leaves in the results' buffers, and the run of the
   whole call by the pipeline's launch theorem. -/
module

public import proofs.«01_k».proof.Proof.OddMixBwdRunA
public import proofs.«01_k».proof.Proof.OddMixBwdRunB
public import proofs.«01_k».proof.Proof.OddMixBwdRunC
public import proofs.«01_k».proof.Proof.OddMixBwdRunD
public import Idealize.ShloMosaic.Lib.Claim

@[expose] public section

set_option maxRecDepth 16384

noncomputable section

namespace Cert.Proof.OddMixBwd

open Cert.OddMixBwdIdeal Cert.OddMixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's writes of output 5 tile its block, so they cover it. -/
theorem cover0_A_5 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (y : S2x2048x512.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 x0 x1 x2 x3 x4).1 S1x512x512.size (by sl_kernel_rfl) y

/-- What case A leaves in output 5's staging buffer: its pieces read back over junk. -/
def out0_A_5 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) : Vec F S2x2048x512 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 hc2 hc3 x0 x1 x2 x3 x4).1)

/-- Case A's writes of output 6 tile its block, so they cover it. -/
theorem cover0_A_6 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (y : S4x128x512.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 x0 x1 x2 x3 x4).2.1 S4x128x512.size (by sl_kernel_rfl) y

/-- What case A leaves in output 6's staging buffer: its pieces read back over junk. -/
def out0_A_6 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) : Vec F S4x128x512 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 hc2 hc3 x0 x1 x2 x3 x4).2.1)

/-- Case A's writes of output 7 tile its block, so they cover it. -/
theorem cover0_A_7 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (y : S1x512.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 x0 x1 x2 x3 x4).2.2.1 S1x512.size (by sl_kernel_rfl) y

/-- What case A leaves in output 7's staging buffer: its pieces read back over junk. -/
def out0_A_7 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : cond0_0 i) (hc1 : ¬cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) : Vec F S1x512 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 hc2 hc3 x0 x1 x2 x3 x4).2.2.1)

/-- Case B's writes of output 5 tile its block, so they cover it. -/
theorem cover0_B_5 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (y : S2x2048x512.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 x0 x1 x2 x3 x4).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 x0 x1 x2 x3 x4).1 S1x512x512.size (by sl_kernel_rfl) y

/-- What case B leaves in output 5's staging buffer: its pieces read back over junk. -/
def out0_B_5 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) : Vec F S2x2048x512 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 hc2 hc3 x0 x1 x2 x3 x4).1)

/-- Case B's writes of output 6 tile its block, so they cover it. -/
theorem cover0_B_6 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (y : S4x128x512.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 x0 x1 x2 x3 x4).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 x0 x1 x2 x3 x4).2.1 S4x128x512.size (by sl_kernel_rfl) y

/-- What case B leaves in output 6's staging buffer: its pieces read back over junk. -/
def out0_B_6 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) : Vec F S4x128x512 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 hc2 hc3 x0 x1 x2 x3 x4).2.1)

/-- Case B's writes of output 7 tile its block, so they cover it. -/
theorem cover0_B_7 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (y : S1x512.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 x0 x1 x2 x3 x4).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 x0 x1 x2 x3 x4).2.2.1 S1x512.size (by sl_kernel_rfl) y

/-- What case B leaves in output 7's staging buffer: its pieces read back over junk. -/
def out0_B_7 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : cond0_1 i) (hc2 : ¬cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) : Vec F S1x512 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 hc2 hc3 x0 x1 x2 x3 x4).2.2.1)

/-- Case C's writes of output 5 tile its block, so they cover it. -/
theorem cover0_C_5 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (y : S2x2048x512.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 x0 x1 x2 x3 x4).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 x0 x1 x2 x3 x4).1 S1x512x512.size (by sl_kernel_rfl) y

/-- What case C leaves in output 5's staging buffer: its pieces read back over junk. -/
def out0_C_5 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) : Vec F S2x2048x512 .bf16 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 hc2 hc3 x0 x1 x2 x3 x4).1)

/-- Case C's writes of output 6 tile its block, so they cover it. -/
theorem cover0_C_6 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (y : S4x128x512.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 x0 x1 x2 x3 x4).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 x0 x1 x2 x3 x4).2.1 S4x128x512.size (by sl_kernel_rfl) y

/-- What case C leaves in output 6's staging buffer: its pieces read back over junk. -/
def out0_C_6 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) : Vec F S4x128x512 .bf16 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 hc2 hc3 x0 x1 x2 x3 x4).2.1)

/-- Case C's writes of output 7 tile its block, so they cover it. -/
theorem cover0_C_7 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) (y : S1x512.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 x0 x1 x2 x3 x4).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 x0 x1 x2 x3 x4).2.2.1 S1x512.size (by sl_kernel_rfl) y

/-- What case C leaves in output 7's staging buffer: its pieces read back over junk. -/
def out0_C_7 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : cond0_2 i) (hc3 : ¬cond0_3 i)
    (x0 : Vec F S1x2048x512 .bf16) (x1 : Vec F S1x2048x512 .bf16) (x2 : Vec F S1x2048x512 .bf16) (x3 : Vec F S4x128x512 .bf16) (x4 : Vec F S1x512 .f32) : Vec F S1x512 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 hc2 hc3 x0 x1 x2 x3 x4).2.2.1)

/-- Case D's writes of output 5 tile its block, so they cover it. -/
theorem cover0_D_5 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) (y : S2x2048x512.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 x0 x1 x2 x3 x4).1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 x0 x1 x2 x3 x4).1 S1x512x512.size (by sl_kernel_rfl) y

/-- What case D leaves in output 5's staging buffer: its pieces read back over junk. -/
def out0_D_5 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) : Vec F S2x2048x512 .bf16 :=
  VO0_5.read (Elt F) (VO0_5.writes (Elt F) VO0_5.junk (kernelRun0_D c i arg1 harg1 arg2 harg2 arg3 harg3 arg4 harg4 arg5 harg5 arg6 harg6 arg7 harg7 arg8 harg8 arg9 harg9 arg10 harg10 hc0 hc1 hc2 hc3 x0 x1 x2 x3 x4).1)

/-- Case D's writes of output 6 tile its block, so they cover it. -/
theorem cover0_D_6 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) (y : S4x128x512.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 x0 x1 x2 x3 x4).2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 x0 x1 x2 x3 x4).2.1 S4x128x512.size (by sl_kernel_rfl) y

/-- What case D leaves in output 6's staging buffer: its pieces read back over junk. -/
def out0_D_6 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) : Vec F S4x128x512 .bf16 :=
  VO0_6.read (Elt F) (VO0_6.writes (Elt F) VO0_6.junk (kernelRun0_D c i arg1 harg1 arg2 harg2 arg3 harg3 arg4 harg4 arg5 harg5 arg6 harg6 arg7 harg7 arg8 harg8 arg9 harg9 arg10 harg10 hc0 hc1 hc2 hc3 x0 x1 x2 x3 x4).2.1)

/-- Case D's writes of output 7 tile its block, so they cover it. -/
theorem cover0_D_7 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) (y : S1x512.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 x0 x1 x2 x3 x4).2.2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 x0 x1 x2 x3 x4).2.2.1 S1x512.size (by sl_kernel_rfl) y

/-- What case D leaves in output 7's staging buffer: its pieces read back over junk. -/
def out0_D_7 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S4x128x512 .bf16) (harg4 : arg4.IsWhole) (arg5 : Memref sig .tc .vmem S1x512 .f32) (harg5 : arg5.IsWhole) (arg6 : Memref sig .tc .vmem S2x2048x512 .bf16) (harg6 : arg6.IsWhole) (arg7 : Memref sig .tc .vmem S4x128x512 .bf16) (harg7 : arg7.IsWhole) (arg8 : Memref sig .tc .vmem S1x512 .f32) (harg8 : arg8.IsWhole) (arg9 : Memref sig .tc .vmem S2048x512 .f32) (harg9 : arg9.IsWhole) (arg10 : Memref sig .tc .vmem S512x512 .f32) (harg10 : arg10.IsWhole) (hc0 : ¬cond0_0 i) (hc1 : ¬cond0_1 i) (hc2 : ¬cond0_2 i) (hc3 : cond0_3 i)
    (x0 : Vec F S1x2048x512 .bf16) (x1 : Vec F S1x2048x512 .bf16) (x2 : Vec F S1x2048x512 .bf16) (x3 : Vec F S4x128x512 .bf16) (x4 : Vec F S1x512 .f32) : Vec F S1x512 .f32 :=
  VO0_7.read (Elt F) (VO0_7.writes (Elt F) VO0_7.junk (kernelRun0_D c i arg1 harg1 arg2 harg2 arg3 harg3 arg4 harg4 arg5 harg5 arg6 harg6 arg7 harg7 arg8 harg8 arg9 harg9 arg10 harg10 hc0 hc1 hc2 hc3 x0 x1 x2 x3 x4).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x2048x512 .bf16 × Vec F S4x128x512 .bf16 × Vec F S1x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 1 then
        False.elim (by have hN : n + 1 < 4 := lt_of_lt_of_eq hn (show cfg0.N = 4 from N_0); omega)
      else
        if h2 : (n + 1) % 4 = 2 then
          False.elim (by have hN : n + 1 < 4 := lt_of_lt_of_eq hn (show cfg0.N = 4 from N_0); omega)
        else
          if h3 : (n + 1) % 4 = 3 then
            False.elim (by have hN : n + 1 < 4 := lt_of_lt_of_eq hn (show cfg0.N = 4 from N_0); omega)
          else
            (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 1 then
        if h2 : (n + 1) % 4 = 2 then
          False.elim (by have hN : n + 1 < 4 := lt_of_lt_of_eq hn (show cfg0.N = 4 from N_0); omega)
        else
          if h3 : (n + 1) % 4 = 3 then
            False.elim (by have hN : n + 1 < 4 := lt_of_lt_of_eq hn (show cfg0.N = 4 from N_0); omega)
          else
            (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        if h2 : (n + 1) % 4 = 2 then
          if h3 : (n + 1) % 4 = 3 then
            False.elim (by have hN : n + 1 < 4 := lt_of_lt_of_eq hn (show cfg0.N = 4 from N_0); omega)
          else
            (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
        else
          if h3 : (n + 1) % 4 = 3 then
            (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩), out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩), out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩))
          else
            False.elim (by have hN : n + 1 < 4 := lt_of_lt_of_eq hn (show cfg0.N = 4 from N_0); omega)

/-- `outsAt0` at a point of case A: that case's contents. -/
theorem outsAt0_A (c : Dev nD) (t : Fin cfg0.N) (h0 : t.val % 4 = 0) (h1 : ¬t.val % 4 = 1) (h2 : ¬t.val % 4 = 2) (h3 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans ((dif_neg h2).trans ((dif_neg h3).trans rfl)))

/-- `outsAt0` at a point of case B: that case's contents. -/
theorem outsAt0_B (c : Dev nD) (t : Fin cfg0.N) (h0 : ¬t.val % 4 = 0) (h1 : t.val % 4 = 1) (h2 : ¬t.val % 4 = 2) (h3 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents. -/
theorem outsAt0_C (c : Dev nD) (t : Fin cfg0.N) (h0 : ¬t.val % 4 = 0) (h1 : ¬t.val % 4 = 1) (h2 : t.val % 4 = 2) (h3 : ¬t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t), out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t), out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents. -/
theorem outsAt0_D (c : Dev nD) (t : Fin cfg0.N) (h0 : ¬t.val % 4 = 0) (h1 : ¬t.val % 4 = 1) (h2 : ¬t.val % 4 = 2) (h3 : t.val % 4 = 3) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t), out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t), out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-! ## The pipeline's proof data -/

/-- The proof data of the one pipeline on core `c`: the arrays as the region finds them (`V`); after the body at
    point `t` each input's buffer at its block and the outputs' at `outsAt0`; the invariant the class's
   ; nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 4 := lt_of_lt_of_eq t.isLt (show cfg0.N = 4 from N_0)
  by_cases h0 : t.val % 4 = 0
  · by_cases h1 : t.val % 4 = 1
    · exfalso; omega
    · by_cases h2 : t.val % 4 = 2
      · exfalso; omega
      · by_cases h3 : t.val % 4 = 3
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h)) (fun h => h2 ((hcond0_2 t).mp h)) (fun h => h3 ((hcond0_3 t).mp h))], after0_5]
          rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h)) (fun h => h2 ((hcond0_2 t).mp h)) (fun h => h3 ((hcond0_3 t).mp h))], after0_6]
          rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h)) (fun h => h2 ((hcond0_2 t).mp h)) (fun h => h3 ((hcond0_3 t).mp h))], after0_7]
          rw [outsAt0_A m c t h0 h1 h2 h3]
          unfold out0_A_5 out0_A_6 out0_A_7; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_A c (grid0.coords t) _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          iintro ⟨H0, H1, H2, H3, H4, ⟨%e5, H5⟩, ⟨%e6, H6⟩, ⟨%e7, H7⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_A_6 c _ _ _ _ _ _ _ _ _ _ _ _ _ _ _ _ _ _ _ _ _ _ _ _ _ _ _ _ _ _)
          unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
  · by_cases h1 : t.val % 4 = 1
    · by_cases h2 : t.val % 4 = 2
      · exfalso; omega
      · by_cases h3 : t.val % 4 = 3
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h)) (fun h => h3 ((hcond0_3 t).mp h))], after0_5]
          rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h)) (fun h => h3 ((hcond0_3 t).mp h))], after0_6]
          rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1) (fun h => h2 ((hcond0_2 t).mp h)) (fun h => h3 ((hcond0_3 t).mp h))], after0_7]
          rw [outsAt0_B m c t h0 h1 h2 h3]
          unfold out0_B_5 out0_B_6 out0_B_7; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          iintro ⟨H0, H1, H2, H3, H4, ⟨%e5, H5⟩, ⟨%e6, H6⟩, ⟨%e7, H7⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_B_5 c _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_B_6 c _ _ _ _ _ _ _ _ _ _ _ _ _ _ _ _ _ _ _ _ _ _ _ _ _ _ _ _ _ _)
          unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _)
    · by_cases h2 : t.val % 4 = 2
      · by_cases h3 : t.val % 4 = 3
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2) (fun h => h3 ((hcond0_3 t).mp h))], after0_5]
          rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2) (fun h => h3 ((hcond0_3 t).mp h))], after0_6]
          rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2) (fun h => h3 ((hcond0_3 t).mp h))], after0_7]
          rw [outsAt0_C m c t h0 h1 h2 h3]
          unfold out0_C_5 out0_C_6 out0_C_7; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          iintro ⟨H0, H1, H2, H3, H4, ⟨%e5, H5⟩, ⟨%e6, H6⟩, ⟨%e7, H7⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_C_5 c _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_C_6 c _ _ _ _ _ _ _ _ _ _ _ _ _ _ _ _ _ _ _ _ _ _ _ _ _ _ _ _ _ _)
          unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _)
      · by_cases h3 : t.val % 4 = 3
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) (fun h => h2 ((hcond0_2 t).mp h)) ((hcond0_3 t).mpr h3)], after0_5]
          rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) (fun h => h2 ((hcond0_2 t).mp h)) ((hcond0_3 t).mpr h3)], after0_6]
          rw [show (dats m 0 c).leavesExact 7 t = owns (c : Thread nD τ) (ms0_7 t) fullShare ((dats m 0 c).after 7 t) from by
      unfold Dat.leavesExact; rw [liveAt0_7_D t (fun h => h0 ((hcond0_0 t).mp h)) (fun h => h1 ((hcond0_1 t).mp h)) (fun h => h2 ((hcond0_2 t).mp h)) ((hcond0_3 t).mpr h3)], after0_7]
          rw [outsAt0_D m c t h0 h1 h2 h3]
          unfold out0_D_5 out0_D_6 out0_D_7; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_D c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          iintro ⟨H0, H1, H2, H3, H4, ⟨%e5, H5⟩, ⟨%e6, H6⟩, ⟨%e7, H7⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_D_5 c _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_D_6 c _ _ _ _ _ _ _ _ _ _ _ _ _ _ _ _ _ _ _ _ _ _ _ _ _ _ _ _ _ _)
          unfold owns; iexists _; isplitr
          swap; · iexact H7
          ipureintro; exact View.read_writes_of_cover _ _ _ _ _ (cover0_D_7 c _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the call returns, its arguments are unchanged and no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.OddMixBwd

end
-- ==== Proof.OddMixBwdParts.lean ====
/-
  An odd layer's mixer gradient: what one part of 512 rows contributes, first going down the rows (the gradients of the gate,
  of the weights and of the scales), then going up them (the gradient of the rows that were averaged).
-/
module

public import proofs.«01_k».proof.Proof.RowWindow
public import proofs.«01_k».proof.Proof.OddMixFwd
public import proofs.«01_k».proof.Proof.OddMixBwdFrame
public import Idealize.ShloMosaic.Lib.Pipeline.ValueKit
public import Idealize.ShloMosaic.Lib.WholeRead
public import Idealize.ShloMosaic.Lib.VecWindow
public import Idealize.ShloMosaic.Lib.Pointwise

@[expose] public section
set_option maxRecDepth 16384
noncomputable section
namespace Cert.Proof.OddMixBwd
open Idealize.ShloMosaic Idealize.ShloMosaic.TcCoe Idealize.SL.Sem
open Cert.OddMixBwdIdeal Cert.OddMixBwdIdeal.Gen Cert.Proof.RowWindow
open Cert.OddMixFwdIdeal.Final (part row count pooled seq Halo halo_zero halo_succ past_ext past_twice bits_eq load_part ext twice)

/-! ### One part of the rows -/

/-- The part's rows at the wider type. -/
def wide (p : Vec Ideal S1x512x512 .bf16) : FVec Ideal S512x512 .f32 :=
  extf .f32 (shapeCast S512x512 p shapeCasts_S1x512x512_S512x512) bitsLt_bf16_f32

/-- The number of rows in each row's window, in part `k`. -/
def counts (win : BitVec 32) (k : ℕ) : FVec Ideal S512x1 .f32 :=
  sitofp .f32 (minsi (addi (addi (broadcast S512x1 (Scalar.muli (Scf.iv 0#32 1#32 k) 512#32))
    (iota .tc S512x1 32 [0] iota_S512x1_d0_w32)) (broadcast S512x1 1#32)) (broadcast S512x1 win))

/-- One over it. -/
def inverse (win : BitVec 32) (k : ℕ) : FVec Ideal S512x1 .f32 :=
  divf (broadcast S512x1 (Scalar.ofBits .f32 0x3F800000#32)) (counts win k)

/-- The window's mean less the row itself, from the windows' sums `S` of the 16 rows before the part and the part. -/
def less (win : BitVec 32) (k : ℕ) (p : Vec Ideal S1x512x512 .bf16) (S : FVec Ideal S528x512 .f32) : FVec Ideal S512x512 .bf16 :=
  truncf .bf16 (subf (mulf (extractStridedSlice S512x512 ![16, 0] S slices_S528x512_o16_0_S512x512)
    (broadcastTo S512x512 (inverse win k) broadcasts_S512x1_S512x512)) (wide p)) bitsLt_bf16_f32

/-- That times the group's weights. -/
def times (pw : Vec Ideal S4x128x512 .bf16) (u : FVec Ideal S512x512 .bf16) : FVec Ideal S512x512 .f32 :=
  matmul dot_S512x512_S512x512_S512x512_1_0_0_1_n_n none u (k0_pay1 pw) (constant S512x512 .f32 0x00000000#32)

/-- The gate's logistic function. -/
def logistic (z : Vec Ideal S1x512x512 .bf16) : FVec Ideal S512x512 .f32 :=
  reciprocal true (addf (broadcast S512x512 (Scalar.ofBits .f32 0x3F800000#32))
    (exp (subf (broadcast S512x512 (Scalar.ofBits .f32 0x00000000#32)) (wide z))))

/-- The gate. -/
def gate (z : Vec Ideal S1x512x512 .bf16) : FVec Ideal S512x512 .f32 := mulf (wide z) (logistic z)

/-- One less the logistic function. -/
def rest (z : Vec Ideal S1x512x512 .bf16) : FVec Ideal S512x512 .f32 :=
  subf (broadcast S512x512 (Scalar.ofBits .f32 0x3F800000#32)) (logistic z)

/-- The carried rows: the last 16 of the part. -/
def carryRows (p : Vec Ideal S1x512x512 .bf16) : FVec Ideal S16x512 .f32 := k0_pay10 (wide p)

/-- The scales' gradient, with the part's rows added. -/
def carryScale (pw : Vec Ideal S4x128x512 .bf16) (a : FVec Ideal S1x512 .f32) (dy z : Vec Ideal S1x512x512 .bf16)
    (u : FVec Ideal S512x512 .bf16) : FVec Ideal S1x512 .f32 := k0_pay5 a (wide dy) (times pw u) (gate z)

/-- The gradient of the gate's argument. -/
def outGate (pw : Vec Ideal S4x128x512 .bf16) (ps : Vec Ideal S1x512 .f32) (dy z : Vec Ideal S1x512x512 .bf16)
    (u : FVec Ideal S512x512 .bf16) : FVec Ideal S1x512x512 .bf16 :=
  k0_pay6 ps (wide z) (wide dy) (times pw u) (logistic z) (rest z)

/-- The weights' gradient, with the part's rows added. -/
def outWeights (ps : Vec Ideal S1x512 .f32) (dy z : Vec Ideal S1x512x512 .bf16) (u : FVec Ideal S512x512 .bf16)
    (a : Vec Ideal S512x512 .f32) : FVec Ideal S512x512 .f32 := k0_pay8 ps (wide dy) u (gate z) a

/-- The gradient of the windows' sums. -/
def outSums (win : BitVec 32) (k : ℕ) (pw : Vec Ideal S4x128x512 .bf16) (ps : Vec Ideal S1x512 .f32)
    (dy z : Vec Ideal S1x512x512 .bf16) : FVec Ideal S512x512 .f32 := k0_pay9 pw ps (wide dy) (inverse win k) (gate z)

/-- Going up the rows: the part's gradient from the windows' sums `S` of the gradients of the part and of the 16 rows after it. -/
def outRows (win : BitVec 32) (n : BitVec 32) (q : Vec Ideal S512x512 .f32) (S : FVec Ideal S528x512 .f32) : FVec Ideal S1x512x512 .bf16 :=
  have c : FVec Ideal S512x1 .f32 := sitofp .f32 (minsi (addi (addi (broadcast S512x1 (Scalar.muli n 512#32))
    (iota .tc S512x1 32 [0] iota_S512x1_d0_w32)) (broadcast S512x1 1#32)) (broadcast S512x1 win))
  have v : FVec Ideal S512x512 .f32 := subf (extractStridedSlice S512x512 ![0, 0] S slices_S528x512_o0_0_S512x512)
    (mulf q (broadcastTo S512x512 c broadcasts_S512x1_S512x512))
  shapeCast S1x512x512 (truncf .bf16 v bitsLt_bf16_f32) shapeCasts_S512x512_S1x512x512

/-- A part, then the 16 rows after it. -/
def extAfter (q : Vec Ideal S512x512 .f32) (h : FVec Ideal S16x512 .f32) : FVec Ideal S528x512 .f32 :=
  concatenate S528x512 0 [⟨S512x512, q⟩, ⟨S16x512, h⟩] concatenates_S512x512_S16x512_S528x512_d0

/-- The first loop's step from the state `st` to `st'`, at part `k`: what it carries and what it stores. -/
def Down (arg1 arg2 arg3 : Memref sig .tc .vmem S1x2048x512 .bf16) (arg10 : Memref sig .tc .vmem S512x512 .f32)
    (win : BitVec 32) (sums : FVec Ideal S528x512 .f32 → FVec Ideal S528x512 .f32)
    (pw : Vec Ideal S4x128x512 .bf16) (ps : Vec Ideal S1x512 .f32)
    (X1 : BufTy.Contents (Elt Ideal) arg1.view.ty) (X2 : BufTy.Contents (Elt Ideal) arg2.view.ty) (X3 : BufTy.Contents (Elt Ideal) arg3.view.ty)
    (G : BufTy.Contents (Elt Ideal) arg10.view.ty) (k : ℕ)
    (st st' : (FVec Ideal S16x512 .f32 × FVec Ideal S1x512 .f32) × List (View.Piece (Elt Ideal) S2x2048x512 .bf16)
      × List (View.Piece (Elt Ideal) S2048x512 .f32) × List (View.Piece (Elt Ideal) S512x512 .f32)) : Prop :=
  ∃ (o o6 : Fin 3 → ℕ) (o9 : Fin 2 → ℕ), ∃ inb inb6 inb9 inb10, ∃ p z dy : Vec Ideal S1x512x512 .bf16,
    o = ![0, 512 * k, 0] ∧ o6 = ![1, 512 * k, 0] ∧ o9 = ![512 * k, 0]
    ∧ p = View.readAt (Elt Ideal) arg1.view (Rect.unit (s := S1x2048x512) o S1x512x512.size inb).toLoadRect X1
    ∧ z = View.readAt (Elt Ideal) arg2.view (Rect.unit (s := S1x2048x512) o S1x512x512.size inb).toLoadRect X2
    ∧ dy = View.readAt (Elt Ideal) arg3.view (Rect.unit (s := S1x2048x512) o S1x512x512.size inb).toLoadRect X3
    ∧ st' = ((carryRows p, carryScale pw st.1.2 dy z (less win k p (sums (ext st.1.1 p)))),
      ⟨Rect.unit (s := S2x2048x512) o6 S1x512x512.size inb6, outGate pw ps dy z (less win k p (sums (ext st.1.1 p)))⟩ :: st.2.1,
      ⟨Rect.unit (s := S2048x512) o9 S512x512.size inb9, outSums win k pw ps dy z⟩ :: st.2.2.1,
      ⟨Rect.unit (s := S512x512) ![0, 0] S512x512.size inb10, outWeights ps dy z (less win k p (sums (ext st.1.1 p)))
        (View.readAt (Elt Ideal) arg10.view (Rect.unit (s := S512x512) ![0, 0] S512x512.size inb10).toLoadRect
          (arg10.view.writes (Elt Ideal) G st.2.2.2))⟩ :: st.2.2.2)

/-- The second loop's step, at its trip `k`, which is at part `3 - k`. -/
def Up (arg9 : Memref sig .tc .vmem S2048x512 .f32) (win : BitVec 32)
    (sums : FVec Ideal S528x512 .f32 → FVec Ideal S528x512 .f32) (X9 : BufTy.Contents (Elt Ideal) arg9.view.ty) (k : ℕ)
    (st st' : FVec Ideal S16x512 .f32 × List (View.Piece (Elt Ideal) S2x2048x512 .bf16)) : Prop :=
  ∃ (o6 : Fin 3 → ℕ) (o9 : Fin 2 → ℕ), ∃ inb6 inb9, ∃ q : Vec Ideal S512x512 .f32,
    o6 = ![0, 512 * (3 - k), 0] ∧ o9 = ![512 * (3 - k), 0]
    ∧ q = View.readAt (Elt Ideal) arg9.view (Rect.unit (s := S2048x512) o9 S512x512.size inb9).toLoadRect X9
    ∧ st' = (k0_pay14 q, ⟨Rect.unit (s := S2x2048x512) o6 S1x512x512.size inb6,
        outRows win (Scalar.subi 3#32 (Scf.iv 0#32 1#32 k)) q (sums (extAfter q st.1))⟩ :: st.2)

section Loops
variable (c : Dev nD) (i : grid0.Coords)
  (arg1 : Memref sig .tc .vmem S1x2048x512 .bf16) (harg1 : arg1.IsWhole)
  (arg2 : Memref sig .tc .vmem S1x2048x512 .bf16) (harg2 : arg2.IsWhole)
  (arg3 : Memref sig .tc .vmem S1x2048x512 .bf16) (harg3 : arg3.IsWhole)
  (arg4 : Memref sig .tc .vmem S4x128x512 .bf16) (harg4 : arg4.IsWhole)
  (arg5 : Memref sig .tc .vmem S1x512 .f32) (harg5 : arg5.IsWhole)
  (arg6 : Memref sig .tc .vmem S2x2048x512 .bf16) (harg6 : arg6.IsWhole)
  (arg7 : Memref sig .tc .vmem S4x128x512 .bf16) (harg7 : arg7.IsWhole)
  (arg8 : Memref sig .tc .vmem S1x512 .f32) (harg8 : arg8.IsWhole)
  (arg9 : Memref sig .tc .vmem S2048x512 .f32) (harg9 : arg9.IsWhole)
  (arg10 : Memref sig .tc .vmem S512x512 .f32) (harg10 : arg10.IsWhole)
  (pw : Vec Ideal S4x128x512 .bf16) (ps : Vec Ideal S1x512 .f32)
  (X1 : BufTy.Contents (Elt Ideal) arg1.view.ty) (X2 : BufTy.Contents (Elt Ideal) arg2.view.ty) (X3 : BufTy.Contents (Elt Ideal) arg3.view.ty)
  (G6 : BufTy.Contents (Elt Ideal) arg6.view.ty) (G9 : BufTy.Contents (Elt Ideal) arg9.view.ty) (G10 : BufTy.Contents (Elt Ideal) arg10.view.ty)
  (init : FVec Ideal S16x512 .f32 × FVec Ideal S1x512 .f32) (init' : FVec Ideal S16x512 .f32) (k : ℕ)

theorem down1 (h : k0_cond1 i = 1#1) (hk : k < 4) :
    Down arg1 arg2 arg3 arg10 2#32 (fun e => (twice 1#32 e)) pw ps X1 X2 X3 G10 k
      (st_k0_t1 Variants.none c none i arg1 harg1 arg2 harg2 arg3 harg3 arg4 harg4 arg5 harg5 arg6 harg6 arg7 harg7 arg8 harg8 arg9 harg9 arg10 harg10 pw ps h X1 X2 X3 G6 G9 G10 init k)
      (st_k0_t1 Variants.none c none i arg1 harg1 arg2 harg2 arg3 harg3 arg4 harg4 arg5 harg5 arg6 harg6 arg7 harg7 arg8 harg8 arg9 harg9 arg10 harg10 pw ps h X1 X2 X3 G6 G9 G10 init (k + 1)) := by
  have e : k0_t1_loop.trips = 4 := by decide +kernel
  have o1 : k0_off1 ⟨k, e ▸ hk⟩ = ![0, 512 * k, 0] :=
    (by decide +kernel : ∀ k : Fin k0_t1_loop.trips, k0_off1 k = ![0, 512 * k.val, 0]) ⟨k, e ▸ hk⟩
  have o2 : k0_off2 ⟨k, e ▸ hk⟩ = ![1, 512 * k, 0] :=
    (by decide +kernel : ∀ k : Fin k0_t1_loop.trips, k0_off2 k = ![1, 512 * k.val, 0]) ⟨k, e ▸ hk⟩
  have o3 : k0_off3 ⟨k, e ▸ hk⟩ = ![512 * k, 0] :=
    (by decide +kernel : ∀ k : Fin k0_t1_loop.trips, k0_off3 k = ![512 * k.val, 0]) ⟨k, e ▸ hk⟩
  refine ⟨_, _, _, k0_off1_inb i ⟨k, e ▸ hk⟩ h, k0_off2_inb i ⟨k, e ▸ hk⟩ h, k0_off3_inb i ⟨k, e ▸ hk⟩ h,
    inb_S512x512_S512x512_0_0, _, _, _, o1, o2, o3, rfl, rfl, rfl, ?_⟩
  refine (st_k0_t1_succ Variants.none c none i arg1 harg1 arg2 harg2 arg3 harg3 arg4 harg4 arg5 harg5 arg6 harg6 arg7 harg7 arg8 harg8 arg9 harg9 arg10 harg10 pw ps h X1 X2 X3 G6 G9 G10 init ⟨k, e ▸ hk⟩).trans ?_
  unfold tripR_k0_t1 tripL_k0_t1 trip_k0_t1
  rfl

theorem up1 (h : k0_cond1 i = 1#1) (hk : k < 4) :
    Up arg9 2#32 (fun e => (twice 527#32 e)) G9 k
      (st_k0_t2 Variants.none c none i arg1 harg1 arg2 harg2 arg3 harg3 arg4 harg4 arg5 harg5 arg6 harg6 arg7 harg7 arg8 harg8 arg9 harg9 arg10 harg10 h G9 init' k)
      (st_k0_t2 Variants.none c none i arg1 harg1 arg2 harg2 arg3 harg3 arg4 harg4 arg5 harg5 arg6 harg6 arg7 harg7 arg8 harg8 arg9 harg9 arg10 harg10 h G9 init' (k + 1)) := by
  have e : k0_t2_loop.trips = 4 := by decide +kernel
  have o4 : k0_off4 ⟨k, e ▸ hk⟩ = ![512 * (3 - k), 0] :=
    (by decide +kernel : ∀ k : Fin k0_t2_loop.trips, k0_off4 k = ![512 * (3 - k.val), 0]) ⟨k, e ▸ hk⟩
  have o5 : k0_off5 ⟨k, e ▸ hk⟩ = ![0, 512 * (3 - k), 0] :=
    (by decide +kernel : ∀ k : Fin k0_t2_loop.trips, k0_off5 k = ![0, 512 * (3 - k.val), 0]) ⟨k, e ▸ hk⟩
  refine ⟨_, _, k0_off5_inb i ⟨k, e ▸ hk⟩ h, k0_off4_inb i ⟨k, e ▸ hk⟩ h, _, o5, o4, rfl, ?_⟩
  refine (st_k0_t2_succ Variants.none c none i arg1 harg1 arg2 harg2 arg3 harg3 arg4 harg4 arg5 harg5 arg6 harg6 arg7 harg7 arg8 harg8 arg9 harg9 arg10 harg10 h G9 init' ⟨k, e ▸ hk⟩).trans ?_
  unfold tripR_k0_t2 tripL_k0_t2 trip_k0_t2
  rfl

theorem down2 (h : k0_cond2 i = 1#1) (hk : k < 4) :
    Down arg1 arg2 arg3 arg10 4#32 (fun e => (twice 2#32 (twice 1#32 e))) pw ps X1 X2 X3 G10 k
      (st_k0_t3 Variants.none c none i arg1 harg1 arg2 harg2 arg3 harg3 arg4 harg4 arg5 harg5 arg6 harg6 arg7 harg7 arg8 harg8 arg9 harg9 arg10 harg10 pw ps h X1 X2 X3 G6 G9 G10 init k)
      (st_k0_t3 Variants.none c none i arg1 harg1 arg2 harg2 arg3 harg3 arg4 harg4 arg5 harg5 arg6 harg6 arg7 harg7 arg8 harg8 arg9 harg9 arg10 harg10 pw ps h X1 X2 X3 G6 G9 G10 init (k + 1)) := by
  have e : k0_t3_loop.trips = 4 := by decide +kernel
  have o1 : k0_off6 ⟨k, e ▸ hk⟩ = ![0, 512 * k, 0] :=
    (by decide +kernel : ∀ k : Fin k0_t3_loop.trips, k0_off6 k = ![0, 512 * k.val, 0]) ⟨k, e ▸ hk⟩
  have o2 : k0_off7 ⟨k, e ▸ hk⟩ = ![1, 512 * k, 0] :=
    (by decide +kernel : ∀ k : Fin k0_t3_loop.trips, k0_off7 k = ![1, 512 * k.val, 0]) ⟨k, e ▸ hk⟩
  have o3 : k0_off8 ⟨k, e ▸ hk⟩ = ![512 * k, 0] :=
    (by decide +kernel : ∀ k : Fin k0_t3_loop.trips, k0_off8 k = ![512 * k.val, 0]) ⟨k, e ▸ hk⟩
  refine ⟨_, _, _, k0_off6_inb i ⟨k, e ▸ hk⟩ h, k0_off7_inb i ⟨k, e ▸ hk⟩ h, k0_off8_inb i ⟨k, e ▸ hk⟩ h,
    inb_S512x512_S512x512_0_0, _, _, _, o1, o2, o3, rfl, rfl, rfl, ?_⟩
  refine (st_k0_t3_succ Variants.none c none i arg1 harg1 arg2 harg2 arg3 harg3 arg4 harg4 arg5 harg5 arg6 harg6 arg7 harg7 arg8 harg8 arg9 harg9 arg10 harg10 pw ps h X1 X2 X3 G6 G9 G10 init ⟨k, e ▸ hk⟩).trans ?_
  unfold tripR_k0_t3 tripL_k0_t3 trip_k0_t3
  rfl

theorem up2 (h : k0_cond2 i = 1#1) (hk : k < 4) :
    Up arg9 4#32 (fun e => (twice 526#32 (twice 527#32 e))) G9 k
      (st_k0_t4 Variants.none c none i arg1 harg1 arg2 harg2 arg3 harg3 arg4 harg4 arg5 harg5 arg6 harg6 arg7 harg7 arg8 harg8 arg9 harg9 arg10 harg10 h G9 init' k)
      (st_k0_t4 Variants.none c none i arg1 harg1 arg2 harg2 arg3 harg3 arg4 harg4 arg5 harg5 arg6 harg6 arg7 harg7 arg8 harg8 arg9 harg9 arg10 harg10 h G9 init' (k + 1)) := by
  have e : k0_t4_loop.trips = 4 := by decide +kernel
  have o4 : k0_off9 ⟨k, e ▸ hk⟩ = ![512 * (3 - k), 0] :=
    (by decide +kernel : ∀ k : Fin k0_t4_loop.trips, k0_off9 k = ![512 * (3 - k.val), 0]) ⟨k, e ▸ hk⟩
  have o5 : k0_off10 ⟨k, e ▸ hk⟩ = ![0, 512 * (3 - k), 0] :=
    (by decide +kernel : ∀ k : Fin k0_t4_loop.trips, k0_off10 k = ![0, 512 * (3 - k.val), 0]) ⟨k, e ▸ hk⟩
  refine ⟨_, _, k0_off10_inb i ⟨k, e ▸ hk⟩ h, k0_off9_inb i ⟨k, e ▸ hk⟩ h, _, o5, o4, rfl, ?_⟩
  refine (st_k0_t4_succ Variants.none c none i arg1 harg1 arg2 harg2 arg3 harg3 arg4 harg4 arg5 harg5 arg6 harg6 arg7 harg7 arg8 harg8 arg9 harg9 arg10 harg10 h G9 init' ⟨k, e ▸ hk⟩).trans ?_
  unfold tripR_k0_t4 tripL_k0_t4 trip_k0_t4
  rfl

theorem down3 (h : k0_cond3 i = 1#1) (hk : k < 4) :
    Down arg1 arg2 arg3 arg10 8#32 (fun e => (twice 4#32 (twice 2#32 (twice 1#32 e)))) pw ps X1 X2 X3 G10 k
      (st_k0_t5 Variants.none c none i arg1 harg1 arg2 harg2 arg3 harg3 arg4 harg4 arg5 harg5 arg6 harg6 arg7 harg7 arg8 harg8 arg9 harg9 arg10 harg10 pw ps h X1 X2 X3 G6 G9 G10 init k)
      (st_k0_t5 Variants.none c none i arg1 harg1 arg2 harg2 arg3 harg3 arg4 harg4 arg5 harg5 arg6 harg6 arg7 harg7 arg8 harg8 arg9 harg9 arg10 harg10 pw ps h X1 X2 X3 G6 G9 G10 init (k + 1)) := by
  have e : k0_t5_loop.trips = 4 := by decide +kernel
  have o1 : k0_off11 ⟨k, e ▸ hk⟩ = ![0, 512 * k, 0] :=
    (by decide +kernel : ∀ k : Fin k0_t5_loop.trips, k0_off11 k = ![0, 512 * k.val, 0]) ⟨k, e ▸ hk⟩
  have o2 : k0_off12 ⟨k, e ▸ hk⟩ = ![1, 512 * k, 0] :=
    (by decide +kernel : ∀ k : Fin k0_t5_loop.trips, k0_off12 k = ![1, 512 * k.val, 0]) ⟨k, e ▸ hk⟩
  have o3 : k0_off13 ⟨k, e ▸ hk⟩ = ![512 * k, 0] :=
    (by decide +kernel : ∀ k : Fin k0_t5_loop.trips, k0_off13 k = ![512 * k.val, 0]) ⟨k, e ▸ hk⟩
  refine ⟨_, _, _, k0_off11_inb i ⟨k, e ▸ hk⟩ h, k0_off12_inb i ⟨k, e ▸ hk⟩ h, k0_off13_inb i ⟨k, e ▸ hk⟩ h,
    inb_S512x512_S512x512_0_0, _, _, _, o1, o2, o3, rfl, rfl, rfl, ?_⟩
  refine (st_k0_t5_succ Variants.none c none i arg1 harg1 arg2 harg2 arg3 harg3 arg4 harg4 arg5 harg5 arg6 harg6 arg7 harg7 arg8 harg8 arg9 harg9 arg10 harg10 pw ps h X1 X2 X3 G6 G9 G10 init ⟨k, e ▸ hk⟩).trans ?_
  unfold tripR_k0_t5 tripL_k0_t5 trip_k0_t5
  rfl

theorem up3 (h : k0_cond3 i = 1#1) (hk : k < 4) :
    Up arg9 8#32 (fun e => (twice 524#32 (twice 526#32 (twice 527#32 e)))) G9 k
      (st_k0_t6 Variants.none c none i arg1 harg1 arg2 harg2 arg3 harg3 arg4 harg4 arg5 harg5 arg6 harg6 arg7 harg7 arg8 harg8 arg9 harg9 arg10 harg10 h G9 init' k)
      (st_k0_t6 Variants.none c none i arg1 harg1 arg2 harg2 arg3 harg3 arg4 harg4 arg5 harg5 arg6 harg6 arg7 harg7 arg8 harg8 arg9 harg9 arg10 harg10 h G9 init' (k + 1)) := by
  have e : k0_t6_loop.trips = 4 := by decide +kernel
  have o4 : k0_off14 ⟨k, e ▸ hk⟩ = ![512 * (3 - k), 0] :=
    (by decide +kernel : ∀ k : Fin k0_t6_loop.trips, k0_off14 k = ![512 * (3 - k.val), 0]) ⟨k, e ▸ hk⟩
  have o5 : k0_off15 ⟨k, e ▸ hk⟩ = ![0, 512 * (3 - k), 0] :=
    (by decide +kernel : ∀ k : Fin k0_t6_loop.trips, k0_off15 k = ![0, 512 * (3 - k.val), 0]) ⟨k, e ▸ hk⟩
  refine ⟨_, _, k0_off15_inb i ⟨k, e ▸ hk⟩ h, k0_off14_inb i ⟨k, e ▸ hk⟩ h, _, o5, o4, rfl, ?_⟩
  refine (st_k0_t6_succ Variants.none c none i arg1 harg1 arg2 harg2 arg3 harg3 arg4 harg4 arg5 harg5 arg6 harg6 arg7 harg7 arg8 harg8 arg9 harg9 arg10 harg10 h G9 init' ⟨k, e ▸ hk⟩).trans ?_
  unfold tripR_k0_t6 tripL_k0_t6 trip_k0_t6
  rfl

theorem down4 (h : k0_cond4 i = 1#1) (hk : k < 4) :
    Down arg1 arg2 arg3 arg10 16#32 (fun e => (twice 8#32 (twice 4#32 (twice 2#32 (twice 1#32 e))))) pw ps X1 X2 X3 G10 k
      (st_k0_t7 Variants.none c none i arg1 harg1 arg2 harg2 arg3 harg3 arg4 harg4 arg5 harg5 arg6 harg6 arg7 harg7 arg8 harg8 arg9 harg9 arg10 harg10 pw ps h X1 X2 X3 G6 G9 G10 init k)
      (st_k0_t7 Variants.none c none i arg1 harg1 arg2 harg2 arg3 harg3 arg4 harg4 arg5 harg5 arg6 harg6 arg7 harg7 arg8 harg8 arg9 harg9 arg10 harg10 pw ps h X1 X2 X3 G6 G9 G10 init (k + 1)) := by
  have e : k0_t7_loop.trips = 4 := by decide +kernel
  have o1 : k0_off16 ⟨k, e ▸ hk⟩ = ![0, 512 * k, 0] :=
    (by decide +kernel : ∀ k : Fin k0_t7_loop.trips, k0_off16 k = ![0, 512 * k.val, 0]) ⟨k, e ▸ hk⟩
  have o2 : k0_off17 ⟨k, e ▸ hk⟩ = ![1, 512 * k, 0] :=
    (by decide +kernel : ∀ k : Fin k0_t7_loop.trips, k0_off17 k = ![1, 512 * k.val, 0]) ⟨k, e ▸ hk⟩
  have o3 : k0_off18 ⟨k, e ▸ hk⟩ = ![512 * k, 0] :=
    (by decide +kernel : ∀ k : Fin k0_t7_loop.trips, k0_off18 k = ![512 * k.val, 0]) ⟨k, e ▸ hk⟩
  refine ⟨_, _, _, k0_off16_inb i ⟨k, e ▸ hk⟩ h, k0_off17_inb i ⟨k, e ▸ hk⟩ h, k0_off18_inb i ⟨k, e ▸ hk⟩ h,
    inb_S512x512_S512x512_0_0, _, _, _, o1, o2, o3, rfl, rfl, rfl, ?_⟩
  refine (st_k0_t7_succ Variants.none c none i arg1 harg1 arg2 harg2 arg3 harg3 arg4 harg4 arg5 harg5 arg6 harg6 arg7 harg7 arg8 harg8 arg9 harg9 arg10 harg10 pw ps h X1 X2 X3 G6 G9 G10 init ⟨k, e ▸ hk⟩).trans ?_
  unfold tripR_k0_t7 tripL_k0_t7 trip_k0_t7
  rfl

theorem up4 (h : k0_cond4 i = 1#1) (hk : k < 4) :
    Up arg9 16#32 (fun e => (twice 520#32 (twice 524#32 (twice 526#32 (twice 527#32 e))))) G9 k
      (st_k0_t8 Variants.none c none i arg1 harg1 arg2 harg2 arg3 harg3 arg4 harg4 arg5 harg5 arg6 harg6 arg7 harg7 arg8 harg8 arg9 harg9 arg10 harg10 h G9 init' k)
      (st_k0_t8 Variants.none c none i arg1 harg1 arg2 harg2 arg3 harg3 arg4 harg4 arg5 harg5 arg6 harg6 arg7 harg7 arg8 harg8 arg9 harg9 arg10 harg10 h G9 init' (k + 1)) := by
  have e : k0_t8_loop.trips = 4 := by decide +kernel
  have o4 : k0_off19 ⟨k, e ▸ hk⟩ = ![512 * (3 - k), 0] :=
    (by decide +kernel : ∀ k : Fin k0_t8_loop.trips, k0_off19 k = ![512 * (3 - k.val), 0]) ⟨k, e ▸ hk⟩
  have o5 : k0_off20 ⟨k, e ▸ hk⟩ = ![0, 512 * (3 - k), 0] :=
    (by decide +kernel : ∀ k : Fin k0_t8_loop.trips, k0_off20 k = ![0, 512 * (3 - k.val), 0]) ⟨k, e ▸ hk⟩
  refine ⟨_, _, k0_off20_inb i ⟨k, e ▸ hk⟩ h, k0_off19_inb i ⟨k, e ▸ hk⟩ h, _, o5, o4, rfl, ?_⟩
  refine (st_k0_t8_succ Variants.none c none i arg1 harg1 arg2 harg2 arg3 harg3 arg4 harg4 arg5 harg5 arg6 harg6 arg7 harg7 arg8 harg8 arg9 harg9 arg10 harg10 h G9 init' ⟨k, e ▸ hk⟩).trans ?_
  unfold tripR_k0_t8 tripL_k0_t8 trip_k0_t8
  rfl

end Loops

end Cert.Proof.OddMixBwd

end
-- ==== Proof.OddMixBwdVals.lean ====
/-
  An odd layer's mixer gradient: the values meant for one group of columns, and what each part of the rows computes of them.
-/
module

public import proofs.«01_k».proof.Proof.OddMixBwdParts

@[expose] public section
set_option maxRecDepth 16384
noncomputable section
namespace Cert.Proof.OddMixBwd
open Idealize.ShloMosaic Idealize.ShloMosaic.TcCoe Idealize.SL.Sem
open Cert.OddMixBwdIdeal Cert.OddMixBwdIdeal.Gen Cert.Proof.RowWindow
open Cert.OddMixFwdIdeal.Final (part row count pooled seq Halo halo_zero halo_succ past_ext past_twice bits_eq load_part ext twice)

/-! ### The values meant -/

/-- The logistic function. -/
def sigma (t : EReal) : EReal := Ideal.div 1 (1 + Ideal.exp (0 - t))

/-- A group's weight. -/
def weight (pw : Vec Ideal S4x128x512 .bf16) (b c : Fin 512) : EReal := pw (ix3 ⟨b.val / 128, by omega⟩ ⟨b.val % 128, by omega⟩ c)

section Meant
variable (win : BitVec 32) (w : ℕ) (x z dy : Vec Ideal S1x2048x512 .bf16) (pw : Vec Ideal S4x128x512 .bf16) (ps : Vec Ideal S1x512 .f32)

/-- The rows before the scales and the gate. -/
def mixed (r : ℕ) (c : Fin 512) : EReal := ∑ b : Fin 512, pooled win w x r b * weight pw b c

/-- Their gradient. -/
def gMixed (r : ℕ) (c : Fin 512) : EReal := row dy c r * ps (ix2 0 c) * (row z c r * sigma (row z c r))

/-- The gradient of the windows' sums, nothing past the last row. -/
def gSums (r : ℕ) (b : Fin 512) : EReal :=
  if r < 2048 then (∑ c : Fin 512, gMixed z dy ps r c * weight pw b c) * Ideal.div 1 (count win r) else 0

/-- The gradient of the rows. -/
def gRows (r : ℕ) (b : Fin 512) : EReal :=
  (∑ k ∈ Finset.range w, gSums win z dy pw ps (r + k) b) - gSums win z dy pw ps r b * count win r

/-- The gradient of the gate's argument. -/
def gGate (r : ℕ) (c : Fin 512) : EReal :=
  row dy c r * mixed win w x pw r c * ps (ix2 0 c) * (sigma (row z c r) * (1 + row z c r * (1 - sigma (row z c r))))

/-- The gradient of the scales, from the first `n` rows. -/
def gScale (n : ℕ) (c : Fin 512) : EReal :=
  ∑ r ∈ Finset.range n, row dy c r * mixed win w x pw r c * (row z c r * sigma (row z c r))

/-- The gradient of the weights, from the first `n` rows. -/
def gWeight (n : ℕ) (b c : Fin 512) : EReal := ∑ r ∈ Finset.range n, pooled win w x r b * gMixed z dy ps r c

/-- The first result: the gradients of the rows and of the gate's argument. -/
def gBoth (y : S2x2048x512.Idx) : EReal :=
  if (y 0).val = 0 then gRows win w z dy pw ps (y 1).val (y 2) else gGate win w x z dy pw ps (y 1).val (y 2)

end Meant

/-! ### What a part computes -/

section Part
variable (win : BitVec 32) (w : ℕ) (x z dy : Vec Ideal S1x2048x512 .bf16) (pw : Vec Ideal S4x128x512 .bf16) (ps : Vec Ideal S1x512 .f32)
  (k : ℕ) (hk : k < 4)

theorem part_row (j : Fin 512) (c : Fin 512) : part x k hk (ix3 0 j c) = row x c (512 * k + j.val) := by
  rw [row, dif_pos (by omega)]; rfl

theorem wide_apply (p : Vec Ideal S1x512x512 .bf16) (j c : Fin 512) : wide p (ix2 j c) = p (ix3 0 j c) := by
  pointwise [wide]

theorem logistic_apply (p : Vec Ideal S1x512x512 .bf16) (j c : Fin 512) : logistic p (ix2 j c) = sigma (p (ix3 0 j c)) := by
  pointwise [logistic, wide]; rfl

theorem gate_apply (p : Vec Ideal S1x512x512 .bf16) (j c : Fin 512) :
    gate p (ix2 j c) = p (ix3 0 j c) * sigma (p (ix3 0 j c)) :=
  congrArg₂ (fun a b : EReal => a * b) (wide_apply p j c) (logistic_apply p j c)

theorem rest_apply (p : Vec Ideal S1x512x512 .bf16) (j c : Fin 512) : rest p (ix2 j c) = 1 - sigma (p (ix3 0 j c)) := by
  pointwise [rest, logistic, wide]; rfl

include hk in
theorem counts_apply (j : Fin 512) : counts win k (ix2 j 0) = count win (512 * k + j.val) := by
  pointwise [counts]
  rw [bits_eq k _ hk j.isLt]; rfl

include hk in
theorem inverse_apply (j : Fin 512) : inverse win k (ix2 j 0) = Ideal.div 1 (count win (512 * k + j.val)) := by
  pointwise [inverse]
  rw [counts_apply win k hk]

theorem times_apply (u : FVec Ideal S512x512 .bf16) (j c : Fin 512) :
    times pw u (ix2 j c) = ∑ b : Fin 512, u (ix2 j b) * weight pw b c := by
  pointwise [times, k0_pay1]; rfl

theorem less_apply (S : FVec Ideal S528x512 .f32) (hS : Past S (seq x k) w) (hw : w ≤ 16) (j b : Fin 512) :
    less win k (part x k hk) S (ix2 j b) = pooled win w x (512 * k + j.val) b := by
  pointwise [less, wide]
  rw [inverse_apply win k hk, part_row]
  rw [hS (16 + j.val) (by omega) b (by omega), pooled]
  refine congrArg₂ (fun s t => s * _ - t) (Finset.sum_congr rfl fun i hi => ?_) rfl
  have hi' := Finset.mem_range.1 hi
  rw [seq]
  by_cases h : i ≤ 512 * k + j.val
  · rw [if_pos h, if_pos (by omega)]; congr 1; omega
  · rw [if_neg h, if_neg (by omega)]

theorem mixed_apply (u : FVec Ideal S512x512 .bf16) (j c : Fin 512)
    (hu : ∀ b, u (ix2 j b) = pooled win w x (512 * k + j.val) b) : times pw u (ix2 j c) = mixed win w x pw (512 * k + j.val) c :=
  (times_apply pw u j c).trans (Finset.sum_congr rfl fun b _ => by rw [hu])

theorem outGate_apply (u : FVec Ideal S512x512 .bf16) (j c : Fin 512)
    (hu : ∀ b, u (ix2 j b) = pooled win w x (512 * k + j.val) b) :
    outGate pw ps (part dy k hk) (part z k hk) u (ix3 0 j c) = gGate win w x z dy pw ps (512 * k + j.val) c := by
  pointwise [outGate, k0_pay6]
  rw [mixed_apply win w x pw k u j c hu, wide_apply, wide_apply, logistic_apply, rest_apply, part_row, part_row]; rfl

theorem outSums_apply (j b : Fin 512) :
    outSums win k pw ps (part dy k hk) (part z k hk) (ix2 j b) = gSums win z dy pw ps (512 * k + j.val) b := by
  pointwise [outSums, k0_pay9, k0_pay7, k0_pay1]
  rw [inverse_apply win k hk, gSums, if_pos (by omega)]
  refine congrArg (· * _) (Finset.sum_congr rfl fun c _ => ?_)
  rw [wide_apply, gate_apply, part_row, part_row]; rfl

theorem outWeights_apply (u : FVec Ideal S512x512 .bf16) (a : Vec Ideal S512x512 .f32)
    (hu : ∀ j b : Fin 512, u (ix2 j b) = pooled win w x (512 * k + j.val) b) (b c : Fin 512)
    (ha : a (ix2 b c) = gWeight win w x z dy ps (512 * k) b c) :
    outWeights ps (part dy k hk) (part z k hk) u a (ix2 b c) = gWeight win w x z dy ps (512 * (k + 1)) b c := by
  pointwise [outWeights, k0_pay8, k0_pay7]
  rw [ha, gWeight, gWeight, show 512 * (k + 1) = 512 * k + 512 from by omega, Finset.sum_range_add,
    Finset.sum_range (n := 512)]
  refine congrArg _ (Finset.sum_congr rfl fun j _ => ?_)
  rw [hu, wide_apply, gate_apply, part_row, part_row]; rfl

theorem carryScale_apply (u : FVec Ideal S512x512 .bf16) (a : FVec Ideal S1x512 .f32)
    (hu : ∀ j b : Fin 512, u (ix2 j b) = pooled win w x (512 * k + j.val) b) (c : Fin 512)
    (ha : a (ix2 0 c) = gScale win w x z dy pw (512 * k) c) :
    carryScale pw a (part dy k hk) (part z k hk) u (ix2 0 c) = gScale win w x z dy pw (512 * (k + 1)) c := by
  pointwise [carryScale, k0_pay5]
  rw [ha, gScale, gScale, show 512 * (k + 1) = 512 * k + 512 from by omega, Finset.sum_range_add,
    Finset.sum_range (n := 512)]
  refine congrArg _ (Finset.sum_congr rfl fun j _ => ?_)
  rw [mixed_apply win w x pw k u j c (hu j), wide_apply, gate_apply, part_row, part_row]

include hk in
theorem outRows_apply (n : BitVec 32) (hn : n = Scf.iv 0#32 1#32 k) (q : Vec Ideal S512x512 .f32) (S : FVec Ideal S528x512 .f32) (j b : Fin 512) :
    outRows win n q S (ix3 0 j b) = S (ix2 ⟨j.val, by omega⟩ b) - q (ix2 j b) * count win (512 * k + j.val) := by
  pointwise [outRows]
  rw [hn, bits_eq k _ hk j.isLt]; rfl

end Part

end Cert.Proof.OddMixBwd

end
-- ==== Proof.OddMixBwdLoopVals.lean ====
/-
  An odd layer's mixer gradient: what the two loops over the four parts of the rows leave.
-/
module

public import proofs.«01_k».proof.Proof.OddMixBwdVals

@[expose] public section
set_option maxRecDepth 16384
noncomputable section
namespace Cert.Proof.OddMixBwd
open Idealize.ShloMosaic Idealize.ShloMosaic.TcCoe Idealize.SL.Sem
open Cert.OddMixBwdIdeal Cert.OddMixBwdIdeal.Gen Cert.Proof.RowWindow
open Cert.OddMixFwdIdeal.Final (part row count pooled seq Halo halo_zero halo_succ past_ext past_twice bits_eq ext twice)

theorem exists_part (j : S1x512x512.Idx) : ∃ a b : Fin 512, j = ix3 0 a b :=
  ⟨j 1, j 2, (eq_ix3 j).trans (congrArg (fun a => ix3 a (j 1) (j 2)) (Subsingleton.elim (α := Fin 1) _ _))⟩

theorem exists_square (j : S512x512.Idx) : ∃ a b : Fin 512, j = ix2 a b := ⟨j 0, j 1, eq_ix2 j⟩

/-- The rows of part `k`, loaded. -/
theorem load_part (M : Memref sig .tc .vmem S1x2048x512 .bf16) (hM : M.IsWhole) (x : Vec Ideal S1x2048x512 .bf16) (k : ℕ) (hk : k < 4)
    (off : Fin 3 → ℕ) (ho : off = ![0, 512 * k, 0]) (inb) :
    View.readAt (Elt Ideal) M.view (Rect.unit (s := S1x2048x512) off S1x512x512.size inb).toLoadRect (hM.unread x) = part x k hk := by
  subst ho
  funext j
  rw [hM.readAt_unread]
  unfold part
  refine congrArg x (funext fun a => Fin.ext ?_)
  fin_cases a
  · simp
  · show 512 * k + 1 * (j 1).val = _; simp
  · show 0 + 1 * (j 2).val = _; simp

theorem first_apply (q : Vec Ideal S512x512 .f32) (j : ℕ) (hj : j < 16) (b : Fin 512) :
    k0_pay14 q (ix2 ⟨j, hj⟩ b) = q (ix2 ⟨j, by omega⟩ b) := by
  pointwise [k0_pay14]

section Loops
variable (arg1 : Memref sig .tc .vmem S1x2048x512 .bf16) (harg1 : arg1.IsWhole)
  (arg2 : Memref sig .tc .vmem S1x2048x512 .bf16) (harg2 : arg2.IsWhole)
  (arg3 : Memref sig .tc .vmem S1x2048x512 .bf16) (harg3 : arg3.IsWhole)
  (arg9 : Memref sig .tc .vmem S2048x512 .f32) (arg10 : Memref sig .tc .vmem S512x512 .f32)
  (win : BitVec 32) (w : ℕ) (hw : w ≤ 16) (sums : FVec Ideal S528x512 .f32 → FVec Ideal S528x512 .f32)
  (x z dy : Vec Ideal S1x2048x512 .bf16) (pw : Vec Ideal S4x128x512 .bf16) (ps : Vec Ideal S1x512 .f32)

/-- What the first loop has before part `k`: the 16 rows before it, the scales' gradient so far, and the values its writes hold. -/
structure Before (G : BufTy.Contents (Elt Ideal) arg10.view.ty) (k : ℕ)
    (st : (FVec Ideal S16x512 .f32 × FVec Ideal S1x512 .f32) × List (View.Piece (Elt Ideal) S2x2048x512 .bf16)
      × List (View.Piece (Elt Ideal) S2048x512 .f32) × List (View.Piece (Elt Ideal) S512x512 .f32)) : Prop where
  halo : Halo x k st.1.1
  scale : ∀ c, st.1.2 (ix2 0 c) = gScale win w x z dy pw (512 * k) c
  both : ∀ y, View.AllAt st.2.1 y (gBoth win w x z dy pw ps y)
  sums : ∀ y : S2048x512.Idx, View.AllAt st.2.2.1 y (gSums win z dy pw ps (y 0).val (y 1))
  weight : ∀ inb b c, View.readAt (Elt Ideal) arg10.view (Rect.unit (s := S512x512) ![0, 0] S512x512.size inb).toLoadRect
    (arg10.view.writes (Elt Ideal) G st.2.2.2) (ix2 b c) = gWeight win w x z dy ps (512 * k) b c

include hw in
/-- Every part keeps that. -/
theorem down_loop (hs : ∀ e f, Past e f 1 → Past (sums e) f w) (G : BufTy.Contents (Elt Ideal) arg10.view.ty) (st : ℕ → _)
    (h0 : Before arg10 win w x z dy pw ps G 0 (st 0))
    (hd : ∀ k < 4, Down arg1 arg2 arg3 arg10 win sums pw ps (harg1.unread x) (harg2.unread z) (harg3.unread dy) G k (st k) (st (k + 1))) :
    ∀ k, k ≤ 4 → Before arg10 win w x z dy pw ps G k (st k)
  | 0, _ => h0
  | k + 1, hk1 => by
    have hk : k < 4 := hk1
    have ih := down_loop hs G st h0 hd k (by omega)
    obtain ⟨o, o6, o9, inb, inb6, inb9, inb10, p, z', dy', ho, ho6, ho9, hp, hz, hdy, e⟩ := hd k hk
    rw [load_part arg1 harg1 x k hk o ho] at hp
    rw [load_part arg2 harg2 z k hk o ho] at hz
    rw [load_part arg3 harg3 dy k hk o ho] at hdy
    subst hp hz hdy
    have hu : ∀ j b : Fin 512, less win k (part x k hk) (sums (ext (st k).1.1 (part x k hk))) (ix2 j b)
        = pooled win w x (512 * k + j.val) b :=
      less_apply win w x k hk _ (hs _ _ (past_ext x k hk _ ih.halo)) hw
    rw [e]
    refine ⟨halo_succ x k hk, fun c => carryScale_apply win w x z dy pw k hk _ _ hu c (ih.scale c), fun y => ?_, fun y => ?_, fun inb b c => ?_⟩
    · refine View.allAt_cons_unit _ _ _ _ _ (fun j hj => ?_) (ih.both y)
      have h0 := hj 0; have h1 := hj 1; have h2 := hj 2
      rw [ho6] at h0 h1 h2
      obtain ⟨j, c, rfl⟩ := exists_part j
      refine (outGate_apply win w x z dy pw ps k hk _ j c (hu j)).trans ?_
      have h1' : (y 1).val = 512 * k + j.val := h1
      have h2' : y 2 = c := Fin.ext (h2.trans (Nat.zero_add _))
      rw [gBoth, if_neg (by rw [h0]; show 1 + _ ≠ 0; omega), h1', h2']
    · refine View.allAt_cons_unit _ _ _ _ _ (fun j hj => ?_) (ih.sums y)
      have h0 := hj 0; have h1 := hj 1
      rw [ho9] at h0 h1
      obtain ⟨j, b, rfl⟩ := exists_square j
      refine (outSums_apply win z dy pw ps k hk j b).trans ?_
      have h0' : (y 0).val = 512 * k + j.val := h0
      have h1' : y 1 = b := Fin.ext (h1.trans (Nat.zero_add _))
      rw [h0', h1']
    · refine (congrFun (View.readAt_writes_full arg10.view G inb inb10 _ _) _).trans ?_
      exact outWeights_apply win w x z dy ps k hk _ _ hu b c (ih.weight _ b c)

/-- What the second loop has before its trip `k`: the 16 rows after the part and the values its writes hold. -/
structure After (k : ℕ) (st : FVec Ideal S16x512 .f32 × List (View.Piece (Elt Ideal) S2x2048x512 .bf16)) : Prop where
  halo : ∀ (j : ℕ) (hj : j < 16) (b : Fin 512), st.1 (ix2 ⟨j, hj⟩ b) = gSums win z dy pw ps (512 * (4 - k) + j) b
  both : ∀ y, View.AllAt st.2 y (gBoth win w x z dy pw ps y)

include hw in
/-- Every trip keeps that. -/
theorem up_loop (hs : ∀ e f, Future e f 1 → Future (sums e) f w) (X9 : BufTy.Contents (Elt Ideal) arg9.view.ty)
    (hX : ∀ y : S2048x512.Idx, View.read (Elt Ideal) arg9.view X9 y = gSums win z dy pw ps (y 0).val (y 1)) (st : ℕ → _)
    (h0 : After win w x z dy pw ps 0 (st 0)) (hu : ∀ k < 4, Up arg9 win sums X9 k (st k) (st (k + 1))) :
    ∀ k, k ≤ 4 → After win w x z dy pw ps k (st k)
  | 0, _ => h0
  | k + 1, hk1 => by
    have hk : k < 4 := hk1
    have ih := up_loop hs X9 hX st h0 hu k (by omega)
    obtain ⟨o6, o9, inb6, inb9, q, ho6, ho9, hq, e⟩ := hu k hk
    have hq' : ∀ j b : Fin 512, q (ix2 j b) = gSums win z dy pw ps (512 * (3 - k) + j.val) b := fun j b => by
      subst ho9
      rw [hq, View.readAt_apply, hX]
      have e0 : ((Rect.unit (s := S2048x512) ![512 * (3 - k), 0] S512x512.size inb9).toLoadRect.idx (ix2 j b) 0).val
          = 512 * (3 - k) + j.val := by
        show 512 * (3 - k) + 1 * j.val = _; omega
      have e1 : (Rect.unit (s := S2048x512) ![512 * (3 - k), 0] S512x512.size inb9).toLoadRect.idx (ix2 j b) 1 = b :=
        Fin.ext (by show 0 + 1 * b.val = _; omega)
      rw [e0, e1]
    have hS : Future (sums (extAfter q (st k).1)) (fun n b => gSums win z dy pw ps (512 * (3 - k) + n) b) w := by
      refine hs _ _ (Future.one fun r hr b => ?_)
      by_cases hr' : r < 512
      · exact (join_low _ _ _ r hr b hr').trans (hq' ⟨r, hr'⟩ b)
      · obtain ⟨r, rfl⟩ : ∃ s, r = 512 + s := ⟨r - 512, by omega⟩
        refine (join_high _ _ _ r hr b (by omega)).trans ((ih.halo r (by omega) b).trans ?_)
        rw [show 512 * (3 - k) + (512 + r) = 512 * (4 - k) + r from by omega]
    rw [e]
    refine ⟨fun j hj b => ?_, fun y => ?_⟩
    · refine (first_apply q j hj b).trans ((hq' _ b).trans ?_)
      rw [show 4 - (k + 1) = 3 - k from by omega]
    · refine View.allAt_cons_unit _ _ _ _ _ (fun j hj => ?_) (ih.both y)
      have h0 := hj 0; have h1 := hj 1; have h2 := hj 2
      rw [ho6] at h0 h1 h2
      obtain ⟨j, b, rfl⟩ := exists_part j
      have hn : Scalar.subi 3#32 (Scf.iv 0#32 1#32 k) = Scf.iv 0#32 1#32 (3 - k) :=
        (by decide +kernel : ∀ k : Fin 4, Scalar.subi 3#32 (Scf.iv 0#32 1#32 k.val) = Scf.iv 0#32 1#32 (3 - k.val)) ⟨k, hk⟩
      refine (outRows_apply win (3 - k) (by omega) _ hn q _ j b).trans ?_
      have h1' : (y 1).val = 512 * (3 - k) + j.val := h1
      have h2' : y 2 = b := Fin.ext (h2.trans (Nat.zero_add _))
      rw [gBoth, if_pos (show (y 0).val = 0 from h0), h1', h2', gRows, hS j.val _ b (by omega), hq']
      refine congrArg (· - _) (Finset.sum_congr rfl fun i _ => ?_)
      rw [Nat.add_assoc]

end Loops

/-- The sums of the windows of the next rows double. -/
theorem future_twice {S : FVec Ideal S528x512 .f32} {f : ℕ → Fin 512 → EReal} (w : ℕ) (hS : Future S f w) (hw : 0 < w) (d : BitVec 32)
    (hd : d.toNat + w = 528) (u : ℕ) (hu : u = w + w) : Future (twice d S) f u := hS.double hw d hd _ u hu

theorem past_sums1 (e : FVec Ideal S528x512 .f32) (f) (h : Past e f 1) : Past (twice 1#32 e) f 2 := past_twice 1 h 1#32 rfl 2 rfl
theorem past_sums2 (e : FVec Ideal S528x512 .f32) (f) (h : Past e f 1) : Past (twice 2#32 (twice 1#32 e)) f 4 :=
  past_twice 2 (past_sums1 e f h) 2#32 rfl 4 rfl
theorem past_sums3 (e : FVec Ideal S528x512 .f32) (f) (h : Past e f 1) : Past (twice 4#32 (twice 2#32 (twice 1#32 e))) f 8 :=
  past_twice 4 (past_sums2 e f h) 4#32 rfl 8 rfl
theorem past_sums4 (e : FVec Ideal S528x512 .f32) (f) (h : Past e f 1) :
    Past (twice 8#32 (twice 4#32 (twice 2#32 (twice 1#32 e)))) f 16 := past_twice 8 (past_sums3 e f h) 8#32 rfl 16 rfl

theorem future_sums1 (e : FVec Ideal S528x512 .f32) (f) (h : Future e f 1) : Future (twice 527#32 e) f 2 :=
  future_twice 1 h (by omega) 527#32 rfl 2 rfl
theorem future_sums2 (e : FVec Ideal S528x512 .f32) (f) (h : Future e f 1) : Future (twice 526#32 (twice 527#32 e)) f 4 :=
  future_twice 2 (future_sums1 e f h) (by omega) 526#32 rfl 4 rfl
theorem future_sums3 (e : FVec Ideal S528x512 .f32) (f) (h : Future e f 1) : Future (twice 524#32 (twice 526#32 (twice 527#32 e))) f 8 :=
  future_twice 4 (future_sums2 e f h) (by omega) 524#32 rfl 8 rfl
theorem future_sums4 (e : FVec Ideal S528x512 .f32) (f) (h : Future e f 1) :
    Future (twice 520#32 (twice 524#32 (twice 526#32 (twice 527#32 e)))) f 16 := future_twice 8 (future_sums3 e f h) (by omega) 520#32 rfl 16 rfl

end Cert.Proof.OddMixBwd

end
-- ==== Proof.OddMixBwdOuts.lean ====
/-
  An odd layer's mixer gradient: what each of the four grid points leaves in the three results' blocks.
-/
module

public import proofs.«01_k».proof.Proof.OddMixBwdLoopVals

@[expose] public section
set_option maxRecDepth 16384
noncomputable section
namespace Cert.Proof.OddMixBwd
open Idealize.ShloMosaic Idealize.ShloMosaic.TcCoe Idealize.SL.Sem
open Cert.OddMixBwdIdeal Cert.OddMixBwdIdeal.Gen Cert.Proof.RowWindow
open Cert.OddMixFwdIdeal.Final (part row count pooled seq Halo halo_zero halo_succ past_ext past_twice bits_eq ext twice)

/-- The two loops in turn, from nothing. -/
theorem both_loops (arg1 : Memref sig .tc .vmem S1x2048x512 .bf16) (harg1 : arg1.IsWhole)
    (arg2 : Memref sig .tc .vmem S1x2048x512 .bf16) (harg2 : arg2.IsWhole)
    (arg3 : Memref sig .tc .vmem S1x2048x512 .bf16) (harg3 : arg3.IsWhole)
    (arg9 : Memref sig .tc .vmem S2048x512 .f32) (arg10 : Memref sig .tc .vmem S512x512 .f32)
    (win : BitVec 32) (w : ℕ) (hw : w ≤ 16) (sums sums' : FVec Ideal S528x512 .f32 → FVec Ideal S528x512 .f32)
    (hs : ∀ e f, Past e f 1 → Past (sums e) f w) (hs' : ∀ e f, Future e f 1 → Future (sums' e) f w)
    (x z dy : Vec Ideal S1x2048x512 .bf16) (pw : Vec Ideal S4x128x512 .bf16) (ps : Vec Ideal S1x512 .f32)
    (none₁ none₂ : FVec Ideal S16x512 .f32) (zero : FVec Ideal S1x512 .f32) (square : FVec Ideal S512x512 .f32)
    (h₁ : ∀ j b, none₁ (ix2 j b) = 0) (h₂ : ∀ j b, none₂ (ix2 j b) = 0) (hz : ∀ c, zero (ix2 0 c) = 0) (hq : ∀ b c, square (ix2 b c) = 0)
    (inb : ∀ a, (![0, 0] : Fin 2 → ℕ) a + S512x512.size a ≤ S512x512.size a)
    (st : ℕ → (FVec Ideal S16x512 .f32 × FVec Ideal S1x512 .f32) × List (View.Piece (Elt Ideal) S2x2048x512 .bf16)
      × List (View.Piece (Elt Ideal) S2048x512 .f32) × List (View.Piece (Elt Ideal) S512x512 .f32))
    (st' : ℕ → FVec Ideal S16x512 .f32 × List (View.Piece (Elt Ideal) S2x2048x512 .bf16))
    (e : st 0 = ((none₁, zero), [], [], [])) (e' : st' 0 = (none₂, []))
    (hd : ∀ k < 4, Down arg1 arg2 arg3 arg10 win sums pw ps (harg1.unread x) (harg2.unread z) (harg3.unread dy)
      (arg10.view.writes (Elt Ideal) arg10.view.junk [⟨Rect.unit (s := S512x512) ![0, 0] S512x512.size inb, square⟩]) k (st k) (st (k + 1)))
    (hc : ∀ y : S2048x512.Idx, ∃ p ∈ (st 4).2.2.1, y ∈ p.1.set)
    (hu : ∀ k < 4, Up arg9 win sums' (arg9.view.writes (Elt Ideal) arg9.view.junk (st 4).2.2.1) k (st' k) (st' (k + 1))) :
    (∀ y, View.AllAt ((st' 4).2 ++ (st 4).2.1) y (gBoth win w x z dy pw ps y))
      ∧ (∀ b c, arg10.view.readCov ((st 4).2.2.2 ++ [⟨Rect.unit (s := S512x512) ![0, 0] S512x512.size inb, square⟩])
          (Rect.unit (s := S512x512) ![0, 0] S512x512.size inb).toLoadRect (ix2 b c) = gWeight win w x z dy ps 2048 b c)
      ∧ ∀ c, (st 4).1.2 (ix2 0 c) = gScale win w x z dy pw 2048 c := by
  have b0 : Before arg10 win w x z dy pw ps
      (arg10.view.writes (Elt Ideal) arg10.view.junk [⟨Rect.unit (s := S512x512) ![0, 0] S512x512.size inb, square⟩]) 0 (st 0) := by
    rw [e]
    refine ⟨fun j hj b => ?_, fun c => ?_, fun y => View.allAt_nil _ _, fun y => View.allAt_nil _ _, fun inb' b c => ?_⟩
    · have h : seq x 0 j b = 0 := if_neg (by omega)
      exact (h₁ _ _).trans h.symm
    · have h : gScale win w x z dy pw (512 * 0) c = 0 := Finset.sum_range_zero _
      exact (hz c).trans h.symm
    · have h' : gWeight win w x z dy ps (512 * 0) b c = 0 := Finset.sum_range_zero _
      have h := View.readAt_writes_full arg10.view (arg10.view.junk (Val := Elt Ideal)) inb' inb square []
      rw [View.writes_nil, h, h']
      exact hq b c
  have b4 := down_loop arg1 harg1 arg2 harg2 arg3 harg3 arg10 win w hw sums x z dy pw ps hs _ st b0 hd 4 (Nat.le_refl _)
  have a0 : After win w x z dy pw ps 0 (st' 0) := by
    rw [e']
    refine ⟨fun j hj b => ?_, fun y => View.allAt_nil _ _⟩
    have h : gSums win z dy pw ps (512 * (4 - 0) + j) b = 0 := if_neg (by omega)
    exact (h₂ _ _).trans h.symm
  have a4 := up_loop arg9 win w hw sums' x z dy pw ps hs' _ (fun y => by
    rw [View.read_writes_eq_canon _ _ _ hc]
    exact View.canon_eq_of_allAt _ y _ (hc y) (b4.sums y)) st' a0 hu 4 (Nat.le_refl _)
  refine ⟨fun y p hp => ?_, fun b c => ?_, fun c => b4.scale c⟩
  · rcases List.mem_append.1 hp with h | h
    · exact a4.both y p h
    · exact b4.both y p h
  · rw [View.readCov, View.writes_append]
    exact b4.weight inb b c

section Cases
variable (c : Dev nD) (i : grid0.Coords)
  (arg1 : Memref sig .tc .vmem S1x2048x512 .bf16) (harg1 : arg1.IsWhole)
  (arg2 : Memref sig .tc .vmem S1x2048x512 .bf16) (harg2 : arg2.IsWhole)
  (arg3 : Memref sig .tc .vmem S1x2048x512 .bf16) (harg3 : arg3.IsWhole)
  (arg4 : Memref sig .tc .vmem S4x128x512 .bf16) (harg4 : arg4.IsWhole)
  (arg5 : Memref sig .tc .vmem S1x512 .f32) (harg5 : arg5.IsWhole)
  (arg6 : Memref sig .tc .vmem S2x2048x512 .bf16) (harg6 : arg6.IsWhole)
  (arg7 : Memref sig .tc .vmem S4x128x512 .bf16) (harg7 : arg7.IsWhole)
  (arg8 : Memref sig .tc .vmem S1x512 .f32) (harg8 : arg8.IsWhole)
  (arg9 : Memref sig .tc .vmem S2048x512 .f32) (harg9 : arg9.IsWhole)
  (arg10 : Memref sig .tc .vmem S512x512 .f32) (harg10 : arg10.IsWhole)
  (x z dy : Vec Ideal S1x2048x512 .bf16) (pw : Vec Ideal S4x128x512 .bf16) (ps : Vec Ideal S1x512 .f32)

include harg4 in
theorem load_weights : View.readAt (Elt Ideal) arg4.view (Rect.unit ![0, 0, 0] ![4, 128, 512] inb_S4x128x512_S4x128x512_0_0_0).toLoadRect
    (harg4.unread pw) = pw := by
  funext j; rw [harg4.readAt_unread]; exact congrArg pw (funext fun a => Fin.ext (by simp; fin_cases a <;> rfl))

include harg5 in
theorem load_scales : View.readAt (Elt Ideal) arg5.view (Rect.unit ![0, 0] ![1, 512] inb_S1x512_S1x512_0_0).toLoadRect
    (harg5.unread ps) = ps := by
  funext j; rw [harg5.readAt_unread]; exact congrArg ps (funext fun a => Fin.ext (by simp; fin_cases a <;> rfl))

/-- One write of a whole block leaves its values. -/
theorem read_one {s : Shape} {e : EltTy} (v : View sig .tc .vmem s e) (f : v.ty.Contents (Elt Ideal)) (off : Fin s.rank → ℕ)
    (inb : ∀ a, off a + s.size a ≤ s.size a) (p : Vec Ideal s e) :
    v.read (Elt Ideal) (v.writes (Elt Ideal) f [⟨Rect.unit off s.size inb, p⟩]) = p :=
  View.read_writes_full v f inb p []

theorem loopsA (hc0) (hc1) (hc2) (hc3) :
    (∀ y, View.AllAt (kernelRun0_A c i arg1 harg1 arg2 harg2 arg3 harg3 arg4 harg4 arg5 harg5 arg6 harg6 arg7 harg7 arg8 harg8 arg9 harg9 arg10 harg10 hc0 hc1 hc2 hc3 x z dy pw ps).1 y
        (gBoth 2#32 2 x z dy pw ps y))
      ∧ (∃ inb, ∃ q : FVec Ideal S512x512 .f32, (kernelRun0_A c i arg1 harg1 arg2 harg2 arg3 harg3 arg4 harg4 arg5 harg5 arg6 harg6 arg7 harg7 arg8 harg8 arg9 harg9 arg10 harg10 hc0 hc1 hc2 hc3 x z dy pw ps).2.1
          = [⟨Rect.unit (s := S4x128x512) ![0, 0, 0] S4x128x512.size inb, (k0_pay11 q : FVec Ideal S4x128x512 .bf16)⟩]
        ∧ ∀ b c, q (ix2 b c) = gWeight 2#32 2 x z dy ps 2048 b c)
      ∧ ∃ inb, ∃ s : FVec Ideal S1x512 .f32, (kernelRun0_A c i arg1 harg1 arg2 harg2 arg3 harg3 arg4 harg4 arg5 harg5 arg6 harg6 arg7 harg7 arg8 harg8 arg9 harg9 arg10 harg10 hc0 hc1 hc2 hc3 x z dy pw ps).2.2.1
          = [⟨Rect.unit (s := S1x512) ![0, 0] S1x512.size inb, s⟩]
        ∧ ∀ c, s (ix2 0 c) = gScale 2#32 2 x z dy pw 2048 c := by
  unfold kernelRun0_A
  dsimp only
  unfold preRun0_A
  dsimp only
  unfold preRun0_A.sl.H6_1 preRun0_A.sl.v24 preRun0_A.sl.H7_1 preRun0_A.sl.HS1_1
  rw [load_weights arg4 harg4 pw, load_scales arg5 harg5 ps]
  have h := both_loops arg1 harg1 arg2 harg2 arg3 harg3 arg9 arg10 2#32 2 (by omega) _ _ past_sums1 future_sums1
    x z dy pw ps
    k0_pay3 k0_pay12 k0_pay4 k0_pay2
    (fun j b => by pointwise [k0_pay3]) (fun j b => by pointwise [k0_pay12]) (fun j => by pointwise [k0_pay4]) (fun b j => by pointwise [k0_pay2])
    inb_S512x512_S512x512_0_0
    (st_k0_t1 Variants.none c none i arg1 harg1 arg2 harg2 arg3 harg3 arg4 harg4 arg5 harg5 arg6 harg6 arg7 harg7 arg8 harg8 arg9 harg9 arg10 harg10 pw ps hc0 (harg1.unread x) (harg2.unread z) (harg3.unread dy) arg6.view.junk arg9.view.junk _ (k0_pay3, k0_pay4))
    (st_k0_t2 Variants.none c none i arg1 harg1 arg2 harg2 arg3 harg3 arg4 harg4 arg5 harg5 arg6 harg6 arg7 harg7 arg8 harg8 arg9 harg9 arg10 harg10 hc0 _ k0_pay12) rfl rfl
    (fun k hk => down1 c i arg1 harg1 arg2 harg2 arg3 harg3 arg4 harg4 arg5 harg5 arg6 harg6 arg7 harg7 arg8 harg8 arg9 harg9 arg10 harg10 _ _ _ _ _
      arg6.view.junk arg9.view.junk _ _ k hc0 hk)
    (fun y => st_t1_cover (y := y) ..)
    (fun k hk => up1 c i arg1 harg1 arg2 harg2 arg3 harg3 arg4 harg4 arg5 harg5 arg6 harg6 arg7 harg7 arg8 harg8 arg9 harg9 arg10 harg10
      _ _ k hc0 hk)
  exact ⟨h.1, ⟨_, _, rfl, h.2.1⟩, ⟨_, _, rfl, h.2.2⟩⟩

theorem outA5 (hc0) (hc1) (hc2) (hc3) (y : S2x2048x512.Idx) :
    out0_A_5 c i arg1 harg1 arg2 harg2 arg3 harg3 arg4 harg4 arg5 harg5 arg6 harg6 arg7 harg7 arg8 harg8 arg9 harg9 arg10 harg10 hc0 hc1 hc2 hc3 x z dy pw ps y = gBoth 2#32 2 x z dy pw ps y := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 hc2 hc3 x z dy pw ps)]
  exact View.canon_eq_of_allAt _ y _ (cover0_A_5 c i arg1 harg1 arg2 harg2 arg3 harg3 arg4 harg4 arg5 harg5 arg6 harg6 arg7 harg7 arg8 harg8 arg9 harg9 arg10 harg10 hc0 hc1 hc2 hc3 x z dy pw ps y) ((loopsA c i arg1 harg1 arg2 harg2 arg3 harg3 arg4 harg4 arg5 harg5 arg6 harg6 arg7 harg7 arg8 harg8 arg9 harg9 arg10 harg10 x z dy pw ps hc0 hc1 hc2 hc3).1 y)

theorem outA6 (hc0) (hc1) (hc2) (hc3) (a : Fin 4) (b : Fin 128) (j : Fin 512) :
    out0_A_6 c i arg1 harg1 arg2 harg2 arg3 harg3 arg4 harg4 arg5 harg5 arg6 harg6 arg7 harg7 arg8 harg8 arg9 harg9 arg10 harg10 hc0 hc1 hc2 hc3 x z dy pw ps (ix3 a b j)
      = gWeight 2#32 2 x z dy ps 2048 ⟨128 * a.val + b.val, by omega⟩ j := by
  unfold out0_A_6
  obtain ⟨inb, q, e, hq⟩ := (loopsA c i arg1 harg1 arg2 harg2 arg3 harg3 arg4 harg4 arg5 harg5 arg6 harg6 arg7 harg7 arg8 harg8 arg9 harg9 arg10 harg10 x z dy pw ps hc0 hc1 hc2 hc3).2.1
  rw [e, read_one]
  refine Eq.trans ?_ (hq _ j)
  pointwise [k0_pay11]
  exact congrArg (fun k => q (ix2 k j)) (Fin.ext (by show a.val * 128 + b.val = 128 * a.val + b.val; omega))

theorem outA7 (hc0) (hc1) (hc2) (hc3) (j : Fin 512) :
    out0_A_7 c i arg1 harg1 arg2 harg2 arg3 harg3 arg4 harg4 arg5 harg5 arg6 harg6 arg7 harg7 arg8 harg8 arg9 harg9 arg10 harg10 hc0 hc1 hc2 hc3 x z dy pw ps (ix2 0 j) = gScale 2#32 2 x z dy pw 2048 j := by
  unfold out0_A_7
  obtain ⟨inb, s, e, hs⟩ := (loopsA c i arg1 harg1 arg2 harg2 arg3 harg3 arg4 harg4 arg5 harg5 arg6 harg6 arg7 harg7 arg8 harg8 arg9 harg9 arg10 harg10 x z dy pw ps hc0 hc1 hc2 hc3).2.2
  rw [e, read_one]
  exact hs j

theorem loopsB (hc0) (hc1) (hc2) (hc3) :
    (∀ y, View.AllAt (kernelRun0_B c i arg1 harg1 arg2 harg2 arg3 harg3 arg4 harg4 arg5 harg5 arg6 harg6 arg7 harg7 arg8 harg8 arg9 harg9 arg10 harg10 hc0 hc1 hc2 hc3 x z dy pw ps).1 y
        (gBoth 4#32 4 x z dy pw ps y))
      ∧ (∃ inb, ∃ q : FVec Ideal S512x512 .f32, (kernelRun0_B c i arg1 harg1 arg2 harg2 arg3 harg3 arg4 harg4 arg5 harg5 arg6 harg6 arg7 harg7 arg8 harg8 arg9 harg9 arg10 harg10 hc0 hc1 hc2 hc3 x z dy pw ps).2.1
          = [⟨Rect.unit (s := S4x128x512) ![0, 0, 0] S4x128x512.size inb, (k0_pay24 q : FVec Ideal S4x128x512 .bf16)⟩]
        ∧ ∀ b c, q (ix2 b c) = gWeight 4#32 4 x z dy ps 2048 b c)
      ∧ ∃ inb, ∃ s : FVec Ideal S1x512 .f32, (kernelRun0_B c i arg1 harg1 arg2 harg2 arg3 harg3 arg4 harg4 arg5 harg5 arg6 harg6 arg7 harg7 arg8 harg8 arg9 harg9 arg10 harg10 hc0 hc1 hc2 hc3 x z dy pw ps).2.2.1
          = [⟨Rect.unit (s := S1x512) ![0, 0] S1x512.size inb, s⟩]
        ∧ ∀ c, s (ix2 0 c) = gScale 4#32 4 x z dy pw 2048 c := by
  unfold kernelRun0_B
  dsimp only
  unfold preRun0_B
  dsimp only
  unfold preRun0_B.sl.H6_1 preRun0_B.sl.v24 preRun0_B.sl.H7_1 preRun0_B.sl.HS1_1
  rw [load_weights arg4 harg4 pw, load_scales arg5 harg5 ps]
  have h := both_loops arg1 harg1 arg2 harg2 arg3 harg3 arg9 arg10 4#32 4 (by omega) _ _ past_sums2 future_sums2
    x z dy pw ps
    k0_pay16 k0_pay25 k0_pay17 k0_pay15
    (fun j b => by pointwise [k0_pay16]) (fun j b => by pointwise [k0_pay25]) (fun j => by pointwise [k0_pay17]) (fun b j => by pointwise [k0_pay15])
    inb_S512x512_S512x512_0_0
    (st_k0_t3 Variants.none c none i arg1 harg1 arg2 harg2 arg3 harg3 arg4 harg4 arg5 harg5 arg6 harg6 arg7 harg7 arg8 harg8 arg9 harg9 arg10 harg10 pw ps hc1 (harg1.unread x) (harg2.unread z) (harg3.unread dy) arg6.view.junk arg9.view.junk _ (k0_pay16, k0_pay17))
    (st_k0_t4 Variants.none c none i arg1 harg1 arg2 harg2 arg3 harg3 arg4 harg4 arg5 harg5 arg6 harg6 arg7 harg7 arg8 harg8 arg9 harg9 arg10 harg10 hc1 _ k0_pay25) rfl rfl
    (fun k hk => down2 c i arg1 harg1 arg2 harg2 arg3 harg3 arg4 harg4 arg5 harg5 arg6 harg6 arg7 harg7 arg8 harg8 arg9 harg9 arg10 harg10 _ _ _ _ _
      arg6.view.junk arg9.view.junk _ _ k hc1 hk)
    (fun y => st_t3_cover (y := y) ..)
    (fun k hk => up2 c i arg1 harg1 arg2 harg2 arg3 harg3 arg4 harg4 arg5 harg5 arg6 harg6 arg7 harg7 arg8 harg8 arg9 harg9 arg10 harg10
      _ _ k hc1 hk)
  exact ⟨h.1, ⟨_, _, rfl, h.2.1⟩, ⟨_, _, rfl, h.2.2⟩⟩

theorem outB5 (hc0) (hc1) (hc2) (hc3) (y : S2x2048x512.Idx) :
    out0_B_5 c i arg1 harg1 arg2 harg2 arg3 harg3 arg4 harg4 arg5 harg5 arg6 harg6 arg7 harg7 arg8 harg8 arg9 harg9 arg10 harg10 hc0 hc1 hc2 hc3 x z dy pw ps y = gBoth 4#32 4 x z dy pw ps y := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 hc2 hc3 x z dy pw ps)]
  exact View.canon_eq_of_allAt _ y _ (cover0_B_5 c i arg1 harg1 arg2 harg2 arg3 harg3 arg4 harg4 arg5 harg5 arg6 harg6 arg7 harg7 arg8 harg8 arg9 harg9 arg10 harg10 hc0 hc1 hc2 hc3 x z dy pw ps y) ((loopsB c i arg1 harg1 arg2 harg2 arg3 harg3 arg4 harg4 arg5 harg5 arg6 harg6 arg7 harg7 arg8 harg8 arg9 harg9 arg10 harg10 x z dy pw ps hc0 hc1 hc2 hc3).1 y)

theorem outB6 (hc0) (hc1) (hc2) (hc3) (a : Fin 4) (b : Fin 128) (j : Fin 512) :
    out0_B_6 c i arg1 harg1 arg2 harg2 arg3 harg3 arg4 harg4 arg5 harg5 arg6 harg6 arg7 harg7 arg8 harg8 arg9 harg9 arg10 harg10 hc0 hc1 hc2 hc3 x z dy pw ps (ix3 a b j)
      = gWeight 4#32 4 x z dy ps 2048 ⟨128 * a.val + b.val, by omega⟩ j := by
  unfold out0_B_6
  obtain ⟨inb, q, e, hq⟩ := (loopsB c i arg1 harg1 arg2 harg2 arg3 harg3 arg4 harg4 arg5 harg5 arg6 harg6 arg7 harg7 arg8 harg8 arg9 harg9 arg10 harg10 x z dy pw ps hc0 hc1 hc2 hc3).2.1
  rw [e, read_one]
  refine Eq.trans ?_ (hq _ j)
  pointwise [k0_pay24]
  exact congrArg (fun k => q (ix2 k j)) (Fin.ext (by show a.val * 128 + b.val = 128 * a.val + b.val; omega))

theorem outB7 (hc0) (hc1) (hc2) (hc3) (j : Fin 512) :
    out0_B_7 c i arg1 harg1 arg2 harg2 arg3 harg3 arg4 harg4 arg5 harg5 arg6 harg6 arg7 harg7 arg8 harg8 arg9 harg9 arg10 harg10 hc0 hc1 hc2 hc3 x z dy pw ps (ix2 0 j) = gScale 4#32 4 x z dy pw 2048 j := by
  unfold out0_B_7
  obtain ⟨inb, s, e, hs⟩ := (loopsB c i arg1 harg1 arg2 harg2 arg3 harg3 arg4 harg4 arg5 harg5 arg6 harg6 arg7 harg7 arg8 harg8 arg9 harg9 arg10 harg10 x z dy pw ps hc0 hc1 hc2 hc3).2.2
  rw [e, read_one]
  exact hs j

theorem loopsC (hc0) (hc1) (hc2) (hc3) :
    (∀ y, View.AllAt (kernelRun0_C c i arg1 harg1 arg2 harg2 arg3 harg3 arg4 harg4 arg5 harg5 arg6 harg6 arg7 harg7 arg8 harg8 arg9 harg9 arg10 harg10 hc0 hc1 hc2 hc3 x z dy pw ps).1 y
        (gBoth 8#32 8 x z dy pw ps y))
      ∧ (∃ inb, ∃ q : FVec Ideal S512x512 .f32, (kernelRun0_C c i arg1 harg1 arg2 harg2 arg3 harg3 arg4 harg4 arg5 harg5 arg6 harg6 arg7 harg7 arg8 harg8 arg9 harg9 arg10 harg10 hc0 hc1 hc2 hc3 x z dy pw ps).2.1
          = [⟨Rect.unit (s := S4x128x512) ![0, 0, 0] S4x128x512.size inb, (k0_pay39 q : FVec Ideal S4x128x512 .bf16)⟩]
        ∧ ∀ b c, q (ix2 b c) = gWeight 8#32 8 x z dy ps 2048 b c)
      ∧ ∃ inb, ∃ s : FVec Ideal S1x512 .f32, (kernelRun0_C c i arg1 harg1 arg2 harg2 arg3 harg3 arg4 harg4 arg5 harg5 arg6 harg6 arg7 harg7 arg8 harg8 arg9 harg9 arg10 harg10 hc0 hc1 hc2 hc3 x z dy pw ps).2.2.1
          = [⟨Rect.unit (s := S1x512) ![0, 0] S1x512.size inb, s⟩]
        ∧ ∀ c, s (ix2 0 c) = gScale 8#32 8 x z dy pw 2048 c := by
  unfold kernelRun0_C
  dsimp only
  unfold preRun0_C
  dsimp only
  unfold preRun0_C.sl.H6_1 preRun0_C.sl.v24 preRun0_C.sl.H7_1 preRun0_C.sl.HS1_1
  rw [load_weights arg4 harg4 pw, load_scales arg5 harg5 ps]
  have h := both_loops arg1 harg1 arg2 harg2 arg3 harg3 arg9 arg10 8#32 8 (by omega) _ _ past_sums3 future_sums3
    x z dy pw ps
    k0_pay29 k0_pay40 k0_pay30 k0_pay28
    (fun j b => by pointwise [k0_pay29]) (fun j b => by pointwise [k0_pay40]) (fun j => by pointwise [k0_pay30]) (fun b j => by pointwise [k0_pay28])
    inb_S512x512_S512x512_0_0
    (st_k0_t5 Variants.none c none i arg1 harg1 arg2 harg2 arg3 harg3 arg4 harg4 arg5 harg5 arg6 harg6 arg7 harg7 arg8 harg8 arg9 harg9 arg10 harg10 pw ps hc2 (harg1.unread x) (harg2.unread z) (harg3.unread dy) arg6.view.junk arg9.view.junk _ (k0_pay29, k0_pay30))
    (st_k0_t6 Variants.none c none i arg1 harg1 arg2 harg2 arg3 harg3 arg4 harg4 arg5 harg5 arg6 harg6 arg7 harg7 arg8 harg8 arg9 harg9 arg10 harg10 hc2 _ k0_pay40) rfl rfl
    (fun k hk => down3 c i arg1 harg1 arg2 harg2 arg3 harg3 arg4 harg4 arg5 harg5 arg6 harg6 arg7 harg7 arg8 harg8 arg9 harg9 arg10 harg10 _ _ _ _ _
      arg6.view.junk arg9.view.junk _ _ k hc2 hk)
    (fun y => st_t5_cover (y := y) ..)
    (fun k hk => up3 c i arg1 harg1 arg2 harg2 arg3 harg3 arg4 harg4 arg5 harg5 arg6 harg6 arg7 harg7 arg8 harg8 arg9 harg9 arg10 harg10
      _ _ k hc2 hk)
  exact ⟨h.1, ⟨_, _, rfl, h.2.1⟩, ⟨_, _, rfl, h.2.2⟩⟩

theorem outC5 (hc0) (hc1) (hc2) (hc3) (y : S2x2048x512.Idx) :
    out0_C_5 c i arg1 harg1 arg2 harg2 arg3 harg3 arg4 harg4 arg5 harg5 arg6 harg6 arg7 harg7 arg8 harg8 arg9 harg9 arg10 harg10 hc0 hc1 hc2 hc3 x z dy pw ps y = gBoth 8#32 8 x z dy pw ps y := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 hc2 hc3 x z dy pw ps)]
  exact View.canon_eq_of_allAt _ y _ (cover0_C_5 c i arg1 harg1 arg2 harg2 arg3 harg3 arg4 harg4 arg5 harg5 arg6 harg6 arg7 harg7 arg8 harg8 arg9 harg9 arg10 harg10 hc0 hc1 hc2 hc3 x z dy pw ps y) ((loopsC c i arg1 harg1 arg2 harg2 arg3 harg3 arg4 harg4 arg5 harg5 arg6 harg6 arg7 harg7 arg8 harg8 arg9 harg9 arg10 harg10 x z dy pw ps hc0 hc1 hc2 hc3).1 y)

theorem outC6 (hc0) (hc1) (hc2) (hc3) (a : Fin 4) (b : Fin 128) (j : Fin 512) :
    out0_C_6 c i arg1 harg1 arg2 harg2 arg3 harg3 arg4 harg4 arg5 harg5 arg6 harg6 arg7 harg7 arg8 harg8 arg9 harg9 arg10 harg10 hc0 hc1 hc2 hc3 x z dy pw ps (ix3 a b j)
      = gWeight 8#32 8 x z dy ps 2048 ⟨128 * a.val + b.val, by omega⟩ j := by
  unfold out0_C_6
  obtain ⟨inb, q, e, hq⟩ := (loopsC c i arg1 harg1 arg2 harg2 arg3 harg3 arg4 harg4 arg5 harg5 arg6 harg6 arg7 harg7 arg8 harg8 arg9 harg9 arg10 harg10 x z dy pw ps hc0 hc1 hc2 hc3).2.1
  rw [e, read_one]
  refine Eq.trans ?_ (hq _ j)
  pointwise [k0_pay39]
  exact congrArg (fun k => q (ix2 k j)) (Fin.ext (by show a.val * 128 + b.val = 128 * a.val + b.val; omega))

theorem outC7 (hc0) (hc1) (hc2) (hc3) (j : Fin 512) :
    out0_C_7 c i arg1 harg1 arg2 harg2 arg3 harg3 arg4 harg4 arg5 harg5 arg6 harg6 arg7 harg7 arg8 harg8 arg9 harg9 arg10 harg10 hc0 hc1 hc2 hc3 x z dy pw ps (ix2 0 j) = gScale 8#32 8 x z dy pw 2048 j := by
  unfold out0_C_7
  obtain ⟨inb, s, e, hs⟩ := (loopsC c i arg1 harg1 arg2 harg2 arg3 harg3 arg4 harg4 arg5 harg5 arg6 harg6 arg7 harg7 arg8 harg8 arg9 harg9 arg10 harg10 x z dy pw ps hc0 hc1 hc2 hc3).2.2
  rw [e, read_one]
  exact hs j

theorem loopsD (hc0) (hc1) (hc2) (hc3) :
    (∀ y, View.AllAt (kernelRun0_D c i arg1 harg1 arg2 harg2 arg3 harg3 arg4 harg4 arg5 harg5 arg6 harg6 arg7 harg7 arg8 harg8 arg9 harg9 arg10 harg10 hc0 hc1 hc2 hc3 x z dy pw ps).1 y
        (gBoth 16#32 16 x z dy pw ps y))
      ∧ (∃ inb, ∃ q : FVec Ideal S512x512 .f32, (kernelRun0_D c i arg1 harg1 arg2 harg2 arg3 harg3 arg4 harg4 arg5 harg5 arg6 harg6 arg7 harg7 arg8 harg8 arg9 harg9 arg10 harg10 hc0 hc1 hc2 hc3 x z dy pw ps).2.1
          = [⟨Rect.unit (s := S4x128x512) ![0, 0, 0] S4x128x512.size inb, (k0_pay46 q : FVec Ideal S4x128x512 .bf16)⟩]
        ∧ ∀ b c, q (ix2 b c) = gWeight 16#32 16 x z dy ps 2048 b c)
      ∧ ∃ inb, ∃ s : FVec Ideal S1x512 .f32, (kernelRun0_D c i arg1 harg1 arg2 harg2 arg3 harg3 arg4 harg4 arg5 harg5 arg6 harg6 arg7 harg7 arg8 harg8 arg9 harg9 arg10 harg10 hc0 hc1 hc2 hc3 x z dy pw ps).2.2.1
          = [⟨Rect.unit (s := S1x512) ![0, 0] S1x512.size inb, s⟩]
        ∧ ∀ c, s (ix2 0 c) = gScale 16#32 16 x z dy pw 2048 c := by
  unfold kernelRun0_D
  dsimp only
  unfold preRun0_D
  dsimp only
  unfold preRun0_D.sl.H6_1 preRun0_D.sl.v24 preRun0_D.sl.H7_1 preRun0_D.sl.HS1_1
  rw [load_weights arg4 harg4 pw, load_scales arg5 harg5 ps]
  have h := both_loops arg1 harg1 arg2 harg2 arg3 harg3 arg9 arg10 16#32 16 (by omega) _ _ past_sums4 future_sums4
    x z dy pw ps
    k0_pay44 k0_pay47 k0_pay45 k0_pay43
    (fun j b => by pointwise [k0_pay44]) (fun j b => by pointwise [k0_pay47]) (fun j => by pointwise [k0_pay45]) (fun b j => by pointwise [k0_pay43])
    inb_S512x512_S512x512_0_0
    (st_k0_t7 Variants.none c none i arg1 harg1 arg2 harg2 arg3 harg3 arg4 harg4 arg5 harg5 arg6 harg6 arg7 harg7 arg8 harg8 arg9 harg9 arg10 harg10 pw ps hc3 (harg1.unread x) (harg2.unread z) (harg3.unread dy) arg6.view.junk arg9.view.junk _ (k0_pay44, k0_pay45))
    (st_k0_t8 Variants.none c none i arg1 harg1 arg2 harg2 arg3 harg3 arg4 harg4 arg5 harg5 arg6 harg6 arg7 harg7 arg8 harg8 arg9 harg9 arg10 harg10 hc3 _ k0_pay47) rfl rfl
    (fun k hk => down4 c i arg1 harg1 arg2 harg2 arg3 harg3 arg4 harg4 arg5 harg5 arg6 harg6 arg7 harg7 arg8 harg8 arg9 harg9 arg10 harg10 _ _ _ _ _
      arg6.view.junk arg9.view.junk _ _ k hc3 hk)
    (fun y => st_t7_cover (y := y) ..)
    (fun k hk => up4 c i arg1 harg1 arg2 harg2 arg3 harg3 arg4 harg4 arg5 harg5 arg6 harg6 arg7 harg7 arg8 harg8 arg9 harg9 arg10 harg10
      _ _ k hc3 hk)
  exact ⟨h.1, ⟨_, _, rfl, h.2.1⟩, ⟨_, _, rfl, h.2.2⟩⟩

theorem outD5 (hc0) (hc1) (hc2) (hc3) (y : S2x2048x512.Idx) :
    out0_D_5 c i arg1 harg1 arg2 harg2 arg3 harg3 arg4 harg4 arg5 harg5 arg6 harg6 arg7 harg7 arg8 harg8 arg9 harg9 arg10 harg10 hc0 hc1 hc2 hc3 x z dy pw ps y = gBoth 16#32 16 x z dy pw ps y := by
  unfold out0_D_5
  rw [View.read_writes_eq_canon _ _ _ (cover0_D_5 c i arg1 harg1 arg2 harg2 arg3 harg3 arg4 harg4 arg5 harg5 arg6 harg6 arg7 harg7 arg8 harg8 arg9 harg9 arg10 harg10 hc0 hc1 hc2 hc3 x z dy pw ps)]
  exact View.canon_eq_of_allAt _ y _ (cover0_D_5 c i arg1 harg1 arg2 harg2 arg3 harg3 arg4 harg4 arg5 harg5 arg6 harg6 arg7 harg7 arg8 harg8 arg9 harg9 arg10 harg10 hc0 hc1 hc2 hc3 x z dy pw ps y) ((loopsD c i arg1 harg1 arg2 harg2 arg3 harg3 arg4 harg4 arg5 harg5 arg6 harg6 arg7 harg7 arg8 harg8 arg9 harg9 arg10 harg10 x z dy pw ps hc0 hc1 hc2 hc3).1 y)

theorem outD6 (hc0) (hc1) (hc2) (hc3) (a : Fin 4) (b : Fin 128) (j : Fin 512) :
    out0_D_6 c i arg1 harg1 arg2 harg2 arg3 harg3 arg4 harg4 arg5 harg5 arg6 harg6 arg7 harg7 arg8 harg8 arg9 harg9 arg10 harg10 hc0 hc1 hc2 hc3 x z dy pw ps (ix3 a b j)
      = gWeight 16#32 16 x z dy ps 2048 ⟨128 * a.val + b.val, by omega⟩ j := by
  unfold out0_D_6
  obtain ⟨inb, q, e, hq⟩ := (loopsD c i arg1 harg1 arg2 harg2 arg3 harg3 arg4 harg4 arg5 harg5 arg6 harg6 arg7 harg7 arg8 harg8 arg9 harg9 arg10 harg10 x z dy pw ps hc0 hc1 hc2 hc3).2.1
  rw [e, read_one]
  refine Eq.trans ?_ (hq _ j)
  pointwise [k0_pay46]
  exact congrArg (fun k => q (ix2 k j)) (Fin.ext (by show a.val * 128 + b.val = 128 * a.val + b.val; omega))

theorem outD7 (hc0) (hc1) (hc2) (hc3) (j : Fin 512) :
    out0_D_7 c i arg1 harg1 arg2 harg2 arg3 harg3 arg4 harg4 arg5 harg5 arg6 harg6 arg7 harg7 arg8 harg8 arg9 harg9 arg10 harg10 hc0 hc1 hc2 hc3 x z dy pw ps (ix2 0 j) = gScale 16#32 16 x z dy pw 2048 j := by
  unfold out0_D_7
  obtain ⟨inb, s, e, hs⟩ := (loopsD c i arg1 harg1 arg2 harg2 arg3 harg3 arg4 harg4 arg5 harg5 arg6 harg6 arg7 harg7 arg8 harg8 arg9 harg9 arg10 harg10 x z dy pw ps hc0 hc1 hc2 hc3).2.2
  rw [e, read_one]
  exact hs j

end Cases

end Cert.Proof.OddMixBwd

end
-- ==== Proof.OddMixBwdValue.lean ====
/- Each result array of an odd layer's mixer gradient, block by block. -/
module

public import proofs.«01_k».proof.Proof.OddMixBwdFrame
public import Idealize.ShloMosaic.Lib.Pipeline.Value

@[expose] public section

noncomputable section

namespace Cert.Proof.OddMixBwd.Value

open Cert.Proof.OddMixBwd Cert.OddMixBwdIdeal Cert.OddMixBwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- At a point of case A: that case's contents. -/
theorem flushed5_A (c : Dev nD) (t : Fin cfg0.N) (h0 : t.val % 4 = 0) (h1 : ¬t.val % 4 = 1) (h2 : ¬t.val % 4 = 2) (h3 : ¬t.val % 4 = 3) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t)) := by
  simp only [flushed5, outsAt0_A m c t h0 h1 h2 h3]

/-- At a point of case B: that case's contents. -/
theorem flushed5_B (c : Dev nD) (t : Fin cfg0.N) (h0 : ¬t.val % 4 = 0) (h1 : t.val % 4 = 1) (h2 : ¬t.val % 4 = 2) (h3 : ¬t.val % 4 = 3) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t)) := by
  simp only [flushed5, outsAt0_B m c t h0 h1 h2 h3]

/-- At a point of case C: that case's contents. -/
theorem flushed5_C (c : Dev nD) (t : Fin cfg0.N) (h0 : ¬t.val % 4 = 0) (h1 : ¬t.val % 4 = 1) (h2 : t.val % 4 = 2) (h3 : ¬t.val % 4 = 3) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t)) := by
  simp only [flushed5, outsAt0_C m c t h0 h1 h2 h3]

/-- At a point of case D: that case's contents. -/
theorem flushed5_D (c : Dev nD) (t : Fin cfg0.N) (h0 : ¬t.val % 4 = 0) (h1 : ¬t.val % 4 = 1) (h2 : ¬t.val % 4 = 2) (h3 : t.val % 4 = 3) :
    (dats m 0 c).flushed 5 t = (cfg0.win 5).cut (grid0.coords t) (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t)) := by
  simp only [flushed5, outsAt0_D m c t h0 h1 h2 h3]

/-- The index map sends distinct grid points to distinct block indices (decided over the 4 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2x2048x2048.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- At a point of case A: that case's contents. -/
theorem flushed6_A (c : Dev nD) (t : Fin cfg0.N) (h0 : t.val % 4 = 0) (h1 : ¬t.val % 4 = 1) (h2 : ¬t.val % 4 = 2) (h3 : ¬t.val % 4 = 3) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t)) := by
  simp only [flushed6, outsAt0_A m c t h0 h1 h2 h3]

/-- At a point of case B: that case's contents. -/
theorem flushed6_B (c : Dev nD) (t : Fin cfg0.N) (h0 : ¬t.val % 4 = 0) (h1 : t.val % 4 = 1) (h2 : ¬t.val % 4 = 2) (h3 : ¬t.val % 4 = 3) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t)) := by
  simp only [flushed6, outsAt0_B m c t h0 h1 h2 h3]

/-- At a point of case C: that case's contents. -/
theorem flushed6_C (c : Dev nD) (t : Fin cfg0.N) (h0 : ¬t.val % 4 = 0) (h1 : ¬t.val % 4 = 1) (h2 : t.val % 4 = 2) (h3 : ¬t.val % 4 = 3) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t)) := by
  simp only [flushed6, outsAt0_C m c t h0 h1 h2 h3]

/-- At a point of case D: that case's contents. -/
theorem flushed6_D (c : Dev nD) (t : Fin cfg0.N) (h0 : ¬t.val % 4 = 0) (h1 : ¬t.val % 4 = 1) (h2 : ¬t.val % 4 = 2) (h3 : t.val % 4 = 3) :
    (dats m 0 c).flushed 6 t = (cfg0.win 6).cut (grid0.coords t) (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t)) := by
  simp only [flushed6, outsAt0_D m c t h0 h1 h2 h3]

/-- The index map sends distinct grid points to distinct block indices (decided over the 4 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4x512x512.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`outsAt0`: its component 2), read through the window's block. -/
theorem flushed7 (c : Dev nD) (t : Fin cfg0.N) :
    (dats m 0 c).flushed 7 t = (cfg0.win 7).cut (grid0.coords t) ((outsAt0 m c t.val t.isLt).2.2) := by
  show (cfg0.win 7).cut (grid0.coords t) ((dats m 0 c).after 7 t) = _
  rw [after0_7]

/-- At a point of case A: that case's contents. -/
theorem flushed7_A (c : Dev nD) (t : Fin cfg0.N) (h0 : t.val % 4 = 0) (h1 : ¬t.val % 4 = 1) (h2 : ¬t.val % 4 = 2) (h3 : ¬t.val % 4 = 3) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t)) := by
  simp only [flushed7, outsAt0_A m c t h0 h1 h2 h3]

/-- At a point of case B: that case's contents. -/
theorem flushed7_B (c : Dev nD) (t : Fin cfg0.N) (h0 : ¬t.val % 4 = 0) (h1 : t.val % 4 = 1) (h2 : ¬t.val % 4 = 2) (h3 : ¬t.val % 4 = 3) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t)) := by
  simp only [flushed7, outsAt0_B m c t h0 h1 h2 h3]

/-- At a point of case C: that case's contents. -/
theorem flushed7_C (c : Dev nD) (t : Fin cfg0.N) (h0 : ¬t.val % 4 = 0) (h1 : ¬t.val % 4 = 1) (h2 : t.val % 4 = 2) (h3 : ¬t.val % 4 = 3) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t)) := by
  simp only [flushed7, outsAt0_C m c t h0 h1 h2 h3]

/-- At a point of case D: that case's contents. -/
theorem flushed7_D (c : Dev nD) (t : Fin cfg0.N) (h0 : ¬t.val % 4 = 0) (h1 : ¬t.val % 4 = 1) (h2 : ¬t.val % 4 = 2) (h3 : t.val % 4 = 3) :
    (dats m 0 c).flushed 7 t = (cfg0.win 7).cut (grid0.coords t) (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t)) := by
  simp only [flushed7, outsAt0_D m c t h0 h1 h2 h3]

/-- The index map sends distinct grid points to distinct block indices (decided over the 4 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S1x2048.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post5 m r h c,
      post6 m r h c,
      post7 m r h c,
      kept_main_arg0 m r h c,
      kept_main_arg1 m r h c,
      kept_main_arg2 m r h c,
      kept_main_arg3 m r h c⟩)
    (run_main m ρ)

end Cert.Proof.OddMixBwd.Value

end
-- ==== Proof.OddMixBwdArrays.lean ====
/-
  An odd layer's mixer gradient: the three whole results, put together from the four grid points' blocks.
-/
module

public import proofs.«01_k».proof.Proof.OddMixBwdOuts
public import proofs.«01_k».proof.Proof.OddMixBwdValue

@[expose] public section
set_option maxRecDepth 16384
noncomputable section
namespace Cert.Proof.OddMixBwd
open Idealize.ShloMosaic Idealize.ShloMosaic.TcCoe Idealize.SL.Sem
open Cert.OddMixBwdIdeal Cert.OddMixBwdIdeal.Gen Cert.Proof.RowWindow
open Cert.OddMixFwdIdeal.Final (row count pooled colsX colsZ colsW colsS)

/-- The incoming gradient of group `g`: two groups in each of the two arrays. -/
def colsD (d : Vec Ideal S2x2048x1024 .bf16) (g : Fin 4) : Vec Ideal S1x2048x512 .bf16 :=
  fun j => d (ix3 ⟨g.val / 2, by omega⟩ (j 1) ⟨512 * (g.val % 2) + (j 2).val, by have : (j 2).val < 512 := (j 2).isLt; omega⟩)

section Whole
variable (x : Vec Ideal S2x2048x2048 .bf16) (d : Vec Ideal S2x2048x1024 .bf16) (w : Vec Ideal S4x512x512 .bf16)
  (s : Vec Ideal S1x2048 .f32)

/-- The window of group `g`, as the kernel has it. -/
def bits (g : Fin 4) : BitVec 32 := BitVec.ofNat 32 (2 ^ (g.val + 1))

/-- Group `g`'s gradients of the rows and of the gate's argument. -/
def groupBoth (g : Fin 4) : S2x2048x512.Idx → EReal :=
  gBoth (bits g) (2 ^ (g.val + 1)) (colsX x g) (colsZ x g) (colsD d g) (colsW w g) (colsS s g)

/-- Group `g`'s gradient of the weights. -/
def groupWeight (g : Fin 4) : Fin 512 → Fin 512 → EReal :=
  gWeight (bits g) (2 ^ (g.val + 1)) (colsX x g) (colsZ x g) (colsD d g) (colsS s g) 2048

/-- Group `g`'s gradient of the scales. -/
def groupScale (g : Fin 4) : Fin 512 → EReal :=
  gScale (bits g) (2 ^ (g.val + 1)) (colsX x g) (colsZ x g) (colsD d g) (colsW w g) 2048

/-- The gradient of the rows and of the gate's argument. -/
def GBoth (i : S2x2048x2048.Idx) : EReal :=
  groupBoth x d w s ⟨(i 2).val / 512, by have : (i 2).val < 2048 := (i 2).isLt; omega⟩
    (ix3 (i 0) (i 1) ⟨(i 2).val % 512, Nat.mod_lt _ (by decide)⟩)

/-- The gradient of the weights. -/
def GWeight (i : S4x512x512.Idx) : EReal :=
  groupWeight x d s ⟨(i 1).val / 128, by have : (i 1).val < 512 := (i 1).isLt; omega⟩
    ⟨128 * (i 0).val + (i 1).val % 128, by have : (i 0).val < 4 := (i 0).isLt; omega⟩ (i 2)

/-- The gradient of the scales. -/
def GScale (i : S1x2048.Idx) : EReal :=
  groupScale x d w ⟨(i 1).val / 512, by have : (i 1).val < 2048 := (i 1).isLt; omega⟩ ⟨(i 1).val % 512, Nat.mod_lt _ (by decide)⟩

end Whole

variable (m : (ℓ : Loc nD τ sig) → Buf (Elt Ideal) ℓ)

theorem idx0 : ∀ t : Fin cfg0.N, win0_0.index t = ![0, 0, t.val] :=
  (by decide +kernel : ∀ t : Fin grid0.N, win0_0.index t = ![0, 0, t.val])
theorem idx1 : ∀ t : Fin cfg0.N, win0_1.index t = ![1, 0, t.val] :=
  (by decide +kernel : ∀ t : Fin grid0.N, win0_1.index t = ![1, 0, t.val])
theorem idx2 : ∀ t : Fin cfg0.N, win0_2.index t = ![t.val / 2, 0, t.val % 2] :=
  (by decide +kernel : ∀ t : Fin grid0.N, win0_2.index t = ![t.val / 2, 0, t.val % 2])
theorem idx3 : ∀ t : Fin cfg0.N, win0_3.index t = ![0, t.val, 0] :=
  (by decide +kernel : ∀ t : Fin grid0.N, win0_3.index t = ![0, t.val, 0])
theorem idx4 : ∀ t : Fin cfg0.N, win0_4.index t = ![0, t.val] :=
  (by decide +kernel : ∀ t : Fin grid0.N, win0_4.index t = ![0, t.val])
theorem idx5 : ∀ t : Fin cfg0.N, win0_5.index t = ![0, 0, t.val] :=
  (by decide +kernel : ∀ t : Fin grid0.N, win0_5.index t = ![0, 0, t.val])
theorem idx6 : ∀ t : Fin cfg0.N, win0_6.index t = ![0, t.val, 0] :=
  (by decide +kernel : ∀ t : Fin grid0.N, win0_6.index t = ![0, t.val, 0])
theorem idx7 : ∀ t : Fin cfg0.N, win0_7.index t = ![0, t.val] :=
  (by decide +kernel : ∀ t : Fin grid0.N, win0_7.index t = ![0, t.val])
theorem four : ∀ t : Fin cfg0.N, t.val < 4 := (by decide +kernel : ∀ t : Fin grid0.N, t.val < 4)

theorem blk0 (c : Dev nD) (t : Fin cfg0.N) : iblk m c 0 t = colsX (m ((c : Thread nD τ).loc main_arg0)) ⟨t.val, four t⟩ := by
  funext j; unfold colsX; blk_ext [iblk, V_main_arg0, idx0]
theorem blk1 (c : Dev nD) (t : Fin cfg0.N) : iblk m c 1 t = colsZ (m ((c : Thread nD τ).loc main_arg0)) ⟨t.val, four t⟩ := by
  funext j; unfold colsZ; blk_ext [iblk, V_main_arg0, idx1]
theorem blk2 (c : Dev nD) (t : Fin cfg0.N) : iblk m c 2 t = colsD (m ((c : Thread nD τ).loc main_arg1)) ⟨t.val, four t⟩ := by
  funext j; unfold colsD; blk_ext [iblk, V_main_arg1, idx2]
theorem blk3 (c : Dev nD) (t : Fin cfg0.N) : iblk m c 3 t = colsW (m ((c : Thread nD τ).loc main_arg2)) ⟨t.val, four t⟩ := by
  funext j; unfold colsW; blk_ext [iblk, V_main_arg2, idx3]
theorem blk4 (c : Dev nD) (t : Fin cfg0.N) : iblk m c 4 t = colsS (m ((c : Thread nD τ).loc main_arg3)) ⟨t.val, four t⟩ := by
  funext j; unfold colsS; blk_ext [iblk, V_main_arg3, idx4]

section Emb
variable (x : Vec Ideal S2x2048x2048 .bf16) (d : Vec Ideal S2x2048x1024 .bf16) (w : Vec Ideal S4x512x512 .bf16)
  (s : Vec Ideal S1x2048 .f32) (t : Fin cfg0.N)

theorem GBoth_emb (y : S2x2048x512.Idx) :
    GBoth x d w s ((win0_5.blk t).view.emb y) = groupBoth x d w s ⟨t.val, four t⟩ y := by
  unfold GBoth
  have h2 : (y 2).val < 512 := (y 2).isLt
  have ht := four t
  refine congrArg₂ (groupBoth x d w s) ?_ ?_
  · blk_simp [idx5]
    exact Fin.ext (by show (t.val * 512 + (y 2).val) / 512 = t.val; omega)
  · blk_ext [idx5]

theorem GWeight_emb (a : Fin 4) (b : Fin 128) (j : Fin 512) :
    GWeight x d s ((win0_6.blk t).view.emb (ix3 a b j)) = groupWeight x d s ⟨t.val, four t⟩ ⟨128 * a.val + b.val, by omega⟩ j := by
  unfold GWeight
  have ht := four t
  have h1 := b.isLt
  have e1 : ((win0_6.blk t).view.emb (ix3 a b j) 1).val = t.val * 128 + b.val := by blk_simp [idx6]
  have e0 : ((win0_6.blk t).view.emb (ix3 a b j) 0).val = a.val := by blk_simp [idx6]
  have e2 : ((win0_6.blk t).view.emb (ix3 a b j) 2).val = j.val := by blk_simp [idx6]
  refine congr (congr (congrArg (groupWeight x d s) (Fin.ext ?_)) (Fin.ext ?_)) (Fin.ext e2)
  · show ((win0_6.blk t).view.emb (ix3 a b j) 1).val / 128 = t.val; omega
  · show 128 * ((win0_6.blk t).view.emb (ix3 a b j) 0).val + ((win0_6.blk t).view.emb (ix3 a b j) 1).val % 128 = 128 * a.val + b.val; omega

theorem GScale_emb (j : Fin 512) :
    GScale x d w ((win0_7.blk t).view.emb (ix2 0 j)) = groupScale x d w ⟨t.val, four t⟩ j := by
  unfold GScale
  have ht := four t
  have h1 := j.isLt
  have e1 : ((win0_7.blk t).view.emb (ix2 0 j) 1).val = t.val * 512 + j.val := by blk_simp [idx7]
  refine congr (congrArg (groupScale x d w) (Fin.ext ?_)) (Fin.ext ?_)
  · show ((win0_7.blk t).view.emb (ix2 0 j) 1).val / 512 = t.val; omega
  · show ((win0_7.blk t).view.emb (ix2 0 j) 1).val % 512 = j.val; omega

end Emb

theorem final5 (c : Dev nD) : (dats m 0 c).arrAt 5 cfg0.N
    = GBoth (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  have ht := four t
  rcases (by omega : t.val = 0 ∨ t.val = 1 ∨ t.val = 2 ∨ t.val = 3) with h | h | h | h
  · rw [outsAt0_A m c t (by omega) (by omega) (by omega) (by omega)]
    refine Eq.trans (outA5 ..) ?_
    rw [blk0, blk1, blk2, blk3, blk4]
    refine Eq.trans ?_ (GBoth_emb ..).symm
    obtain ⟨n, hn⟩ := t
    subst h
    rfl
  · rw [outsAt0_B m c t (by omega) (by omega) (by omega) (by omega)]
    refine Eq.trans (outB5 ..) ?_
    rw [blk0, blk1, blk2, blk3, blk4]
    refine Eq.trans ?_ (GBoth_emb ..).symm
    obtain ⟨n, hn⟩ := t
    subst h
    rfl
  · rw [outsAt0_C m c t (by omega) (by omega) (by omega) (by omega)]
    refine Eq.trans (outC5 ..) ?_
    rw [blk0, blk1, blk2, blk3, blk4]
    refine Eq.trans ?_ (GBoth_emb ..).symm
    obtain ⟨n, hn⟩ := t
    subst h
    rfl
  · rw [outsAt0_D m c t (by omega) (by omega) (by omega) (by omega)]
    refine Eq.trans (outD5 ..) ?_
    rw [blk0, blk1, blk2, blk3, blk4]
    refine Eq.trans ?_ (GBoth_emb ..).symm
    obtain ⟨n, hn⟩ := t
    subst h
    rfl

theorem final6 (c : Dev nD) : (dats m 0 c).arrAt 6 cfg0.N
    = GWeight (m ((c : Thread nD τ).loc main_arg0)) (m ((c : Thread nD τ).loc main_arg1)) (m ((c : Thread nD τ).loc main_arg3)) := by
  refine (dats m 0 c).arrAt_eq_of_covers 6 _ (by decide +kernel) fun t hf y => ?_
  obtain ⟨a, b, j, rfl⟩ : ∃ (a : Fin 4) (b : Fin 128) (j : Fin 512), y = ix3 a b j := ⟨y 0, y 1, y 2, eq_ix3 y⟩
  blk_simp
  rw [after0_6]
  have ht := four t
  rcases (by omega : t.val = 0 ∨ t.val = 1 ∨ t.val = 2 ∨ t.val = 3) with h | h | h | h
  · rw [outsAt0_A m c t (by omega) (by omega) (by omega) (by omega)]
    refine Eq.trans (outA6 ..) ?_
    rw [blk0, blk1, blk2, blk4]
    refine Eq.trans ?_ (GWeight_emb ..).symm
    obtain ⟨n, hn⟩ := t
    subst h
    rfl
  · rw [outsAt0_B m c t (by omega) (by omega) (by omega) (by omega)]
    refine Eq.trans (outB6 ..) ?_
    rw [blk0, blk1, blk2, blk4]
    refine Eq.trans ?_ (GWeight_emb ..).symm
    obtain ⟨n, hn⟩ := t
    subst h
    rfl
  · rw [outsAt0_C m c t (by omega) (by omega) (by omega) (by omega)]
    refine Eq.trans (outC6 ..) ?_
    rw [blk0, blk1, blk2, blk4]
    refine Eq.trans ?_ (GWeight_emb ..).symm
    obtain ⟨n, hn⟩ := t
    subst h
    rfl
  · rw [outsAt0_D m c t (by omega) (by omega) (by omega) (by omega)]
    refine Eq.trans (outD6 ..) ?_
    rw [blk0, blk1, blk2, blk4]
    refine Eq.trans ?_ (GWeight_emb ..).symm
    obtain ⟨n, hn⟩ := t
    subst h
    rfl

theorem final7 (c : Dev nD) : (dats m 0 c).arrAt 7 cfg0.N
    = GScale (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨j, rfl⟩ : ∃ j : Fin 512, y = ix2 0 j :=
    ⟨y 1, (eq_ix2 y).trans (congrArg (fun a => ix2 a (y 1)) (Subsingleton.elim (α := Fin 1) _ _))⟩
  blk_simp
  rw [after0_7]
  have ht := four t
  rcases (by omega : t.val = 0 ∨ t.val = 1 ∨ t.val = 2 ∨ t.val = 3) with h | h | h | h
  · rw [outsAt0_A m c t (by omega) (by omega) (by omega) (by omega)]
    refine Eq.trans (outA7 ..) ?_
    rw [blk0, blk1, blk2, blk3]
    refine Eq.trans ?_ (GScale_emb ..).symm
    obtain ⟨n, hn⟩ := t
    subst h
    rfl
  · rw [outsAt0_B m c t (by omega) (by omega) (by omega) (by omega)]
    refine Eq.trans (outB7 ..) ?_
    rw [blk0, blk1, blk2, blk3]
    refine Eq.trans ?_ (GScale_emb ..).symm
    obtain ⟨n, hn⟩ := t
    subst h
    rfl
  · rw [outsAt0_C m c t (by omega) (by omega) (by omega) (by omega)]
    refine Eq.trans (outC7 ..) ?_
    rw [blk0, blk1, blk2, blk3]
    refine Eq.trans ?_ (GScale_emb ..).symm
    obtain ⟨n, hn⟩ := t
    subst h
    rfl
  · rw [outsAt0_D m c t (by omega) (by omega) (by omega) (by omega)]
    refine Eq.trans (outD7 ..) ?_
    rw [blk0, blk1, blk2, blk3]
    refine Eq.trans ?_ (GScale_emb ..).symm
    obtain ⟨n, hn⟩ := t
    subst h
    rfl

end Cert.Proof.OddMixBwd

end
-- ==== Proof.OddMixBwdRef.lean ====
/-
  An odd layer's mixer gradient: the reference's three results, in the same form as the kernel's.
-/
module

public import proofs.«01_k».proof.Proof.OddMixBwdArrays
public import proofs.«01_k».proof.Proof.Gen.OddMixBwdRefIdeal.Read

@[expose] public section
set_option maxRecDepth 16384
noncomputable section
namespace Cert.Proof.OddMixBwd.Ref
open Idealize.ShloMosaic Idealize.ShloMosaic.TcCoe Idealize.SL.Sem
open Cert.OddMixBwdRefIdeal Cert.OddMixBwdRefIdeal.Gen Cert.OddMixBwdRefIdeal.Read Cert.Proof.RowWindow Cert.Proof.OddMixBwd
open Cert.OddMixFwdIdeal.Final (row count pooled colsX colsZ colsW colsS)
open Cert.OddMixFwdRefIdeal.Final (at3 at2 size_le pooled_eq)

/-- Column `c` of group `g` among all. -/
def col (g : Fin 4) (c : Fin 512) : Fin 2048 := ⟨512 * g.val + c.val, by omega⟩

/-- A group's window. -/
abbrev wnd (g : Fin 4) : ℕ := 2 ^ (g.val + 1)

variable (x : Vec Ideal S2x2048x2048 .bf16) (d : Vec Ideal S2x2048x1024 .bf16) (w : Vec Ideal S4x512x512 .bf16)
  (s : Vec Ideal S1x2048 .f32) (r : Fin 2048) (g : Fin 4) (b c : Fin 512)

theorem col_div : (col g c).val / 512 = g.val := by show (512 * g.val + c.val) / 512 = _; omega
theorem col_mod : (col g c).val % 512 = c.val := by show (512 * g.val + c.val) % 512 = _; omega

theorem col_eq (h : g.val * 512 + c.val < 2048) : (⟨g.val * 512 + c.val, h⟩ : Fin 2048) = col g c :=
  Fin.ext (congrArg (· + c.val) (mul_comm _ _))

/-- The windows' sizes: 2, 4, 8 and 16. -/
theorem window : val_main_v14 (F := Ideal) (ix3 g 0 0) = BitVec.ofNat 32 (2 ^ (g.val + 1)) := by
  unfold val_main_v14
  pointwise [val_main_v10, val_main_v11, val_main_v12, val_main_v13, val_main_c, val_main_c_0, val_main_c_1, val_main_c_2]
  fin_cases g <;> rfl

theorem row_at (y : Vec Ideal Cert.OddMixFwdIdeal.S1x2048x512 .bf16) : row y c r.val = y (ix3 0 r c) := dif_pos r.isLt

theorem gate_row : x (ix3 1 r (col g c)) = row (colsZ x g) c r.val := (row_at r c (colsZ x g)).symm

/-- The sums over the following rows, written with a mask. -/
theorem following (y : Fin 2048 → EReal) (n p : ℕ) : (∑ k ∈ Finset.range n, if h : p + k < 2048 then y ⟨p + k, h⟩ else 0)
    = ∑ t : Fin 2048, (if p ≤ t.val ∧ t.val < p + n then (1 : EReal) else 0) * y t := future_masked y n p

theorem count_cancel : Ideal.div 1 (count (bits g) r.val) * count (bits g) r.val = 1 := by
  have h0 : count (bits g) r.val ≠ 0 := count_ne r.val _ r.isLt (by positivity) (size_le g)
  obtain ⟨q, hq⟩ : ∃ q : ℝ, count (bits g) r.val = (q : EReal) := ⟨_, rfl⟩
  rw [hq] at h0 ⊢
  unfold Ideal.div
  rw [if_neg h0, one_mul, ← EReal.coe_inv, ← EReal.coe_mul, inv_mul_cancel₀ (fun h => h0 (by rw [h]; rfl)), EReal.coe_one]

theorem mask (t : Fin 2048) : val_main_v22 (F := Ideal) (ix3 g r t) = if t.val ≤ r.val ∧ r.val < t.val + wnd g then 1 else 0 := by
  pointwise [val_main_v22, val_main_call0_v1, val_main_call0_v0, val_main_cst, val_main_cst_3, val_main_v21, val_main_v20, val_main_v19, val_main_v18, val_main_v17, val_main_v16, val_main_v15]
  rw [window, select_window _ _ _ t.isLt r.isLt (size_le _)]

theorem mean : val_main_v35 (F := Ideal) x (ix3 r g b) = pooled (bits g) (wnd g) (colsX x g) r.val b := by
  pointwise [val_main_v35, val_main_v34, val_main_v33, val_main_v32, val_main_v31, val_main_v30, val_main_v29, val_main_v28, val_main_v27, val_main_v26, val_main_v25, val_main_v24, val_main_c_4, val_main_v23, val_main_v3, val_main_v2, val_main_v0]
  rw [window, show IntOp.addi (BitVec.ofNat 32 r.val) 1#32 = BitVec.ofNat 32 (r.val + 1) from (BitVec.ofNat_add ..).symm]
  refine Eq.trans ?_ (pooled_eq (colsX x g) g r.val r.isLt b).symm
  refine congrArg₂ (· - ·) (congrArg₂ Ideal.div (Finset.sum_congr rfl fun t _ => ?_) rfl) ?_
  · rw [mask, mul_ite, mul_one, mul_zero]
    refine if_congr Iff.rfl (at3 x _ _ _ _ _ _ rfl rfl ?_) rfl
    show g.val * 512 + b.val = 512 * g.val + b.val
    omega
  · refine at3 x _ _ _ _ _ _ rfl rfl ?_
    show g.val * 512 + b.val = 512 * g.val + b.val
    omega

theorem mixed_at : val_main_v38 (F := Ideal) x w (ix2 r (col g c)) = mixed (bits g) (wnd g) (colsX x g) (colsW w g) r.val c := by
  pointwise [val_main_v38, val_main_v37, val_main_v36, val_main_v8, val_main_v7, val_main_v6, val_main_v1]
  rw [mixed]
  refine Finset.sum_congr rfl fun b _ => ?_
  rw [mul_comm]
  refine congrArg₂ (· * ·) ((at3 (val_main_v35 (F := Ideal) x) _ _ _ _ _ _ rfl (col_div g c) rfl).trans (mean x r g b)) ?_
  refine at3 w _ _ _ _ _ _ rfl ?_ (col_mod g c)
  show (col g c).val / 512 * 128 + b.val % 128 = 128 * g.val + b.val % 128
  rw [col_div]; omega

theorem sigma_at (n : Fin 2048) : val_main_v42_2 (F := Ideal) x (ix2 r n) = sigma (x (ix3 1 r n)) := by
  pointwise [val_main_v42_2, val_main_call1_v4, val_main_call1_v3, val_main_call1_v2, val_main_call1_v1, val_main_call1_v0, val_main_call1_cst, val_main_call1_cst_0, val_main_v5, val_main_v4, val_main_v0]
  rw [sigma, zero_sub]

theorem gate_at (n : Fin 2048) : val_main_v42_0 (F := Ideal) x (ix2 r n) = x (ix3 1 r n) * sigma (x (ix3 1 r n)) := by
  pointwise [val_main_v42_0, val_main_v5, val_main_v4, val_main_v0]
  rw [sigma_at]

theorem rest_at (n : Fin 2048) : val_main_v42_1 (F := Ideal) x (ix2 r n) = sigma (x (ix3 1 r n)) * (1 - sigma (x (ix3 1 r n))) := by
  pointwise [val_main_v42_1, val_main_call1_v7, val_main_call1_v6, val_main_call1_cst_1]
  rw [sigma_at]

theorem grad_at : val_main_v48 (F := Ideal) d (ix2 r (col g c)) = row (colsD d g) c r.val := by
  pointwise [val_main_v48, val_main_v47, val_main_v46]
  rw [row_at]
  refine at3 d _ _ _ _ _ _ ?_ rfl ?_
  · show (512 * g.val + c.val) / 1024 = g.val / 2
    omega
  · show (512 * g.val + c.val) % 1024 = 512 * (g.val % 2) + c.val
    omega

theorem scale_at : val_main_v40 (F := Ideal) s (ix2 r (col g c)) = colsS s g (ix2 0 c) := by
  pointwise [val_main_v40, val_main_v39, val_main_v9]
  exact at2 s _ _ _ _ rfl rfl

theorem gMixed_at : val_main_v56 (F := Ideal) x d s (ix2 r (col g c)) = gMixed (colsZ x g) (colsD d g) (colsS s g) r.val c := by
  pointwise [val_main_v56, val_main_v55, val_main_v50, val_main_v39, val_main_v9]
  rw [gate_at, grad_at]
  rw [gMixed, ← gate_row x r g c]
  exact mul_right_comm _ _ _

theorem scaled_at : val_main_v41 (F := Ideal) x w s (ix2 r (col g c)) = mixed (bits g) (wnd g) (colsX x g) (colsW w g) r.val c * colsS s g (ix2 0 c) := by
  pointwise [val_main_v41]
  rw [scale_at, mixed_at]

theorem gPooled_at : val_main_v61 (F := Ideal) x d w s (ix3 r g b)
    = ∑ c : Fin 512, gMixed (colsZ x g) (colsD d g) (colsS s g) r.val c * weight (colsW w g) b c := by
  pointwise [val_main_v61, val_main_v60, val_main_v59, val_main_v58, val_main_v8, val_main_v7, val_main_v6, val_main_v1]
  refine Finset.sum_congr rfl fun c _ => congrArg₂ (· * ·) ?_ ?_
  · rw [col_eq g c, gMixed_at]
  · refine at3 w _ _ _ _ _ _ rfl ?_ rfl
    show g.val * 128 + b.val % 128 = 128 * g.val + b.val % 128
    omega

theorem gSums_at : val_main_v66 (F := Ideal) x d w s (ix3 r g b)
    = gSums (bits g) (colsZ x g) (colsD d g) (colsW w g) (colsS s g) r.val b := by
  pointwise [val_main_v66, val_main_v65, val_main_v30, val_main_v29, val_main_v28, val_main_v27, val_main_v26, val_main_v25, val_main_v24, val_main_c_4]
  rw [window, show IntOp.addi (BitVec.ofNat 32 r.val) 1#32 = BitVec.ofNat 32 (r.val + 1) from (BitVec.ofNat_add ..).symm, gPooled_at,
    gSums, if_pos r.isLt]
  exact (Ideal.mul_one_div (count_ne r.val _ r.isLt (by positivity) (size_le g))).symm

theorem gRows_at : val_main_v70 (F := Ideal) x d w s (ix3 r g b)
    = gRows (bits g) (wnd g) (colsZ x g) (colsD d g) (colsW w g) (colsS s g) r.val b := by
  pointwise [val_main_v70, val_main_v64, val_main_v69, val_main_v68, val_main_v67]
  rw [gRows, sub_eq_add_neg, add_comm]
  refine congrArg₂ (· + ·) ?_ (congrArg Neg.neg ?_)
  · refine Eq.trans (Finset.sum_congr rfl fun t _ => ?_) (following (fun t : Fin 2048 => val_main_v66 (F := Ideal) x d w s (ix3 t g b)) (wnd g) r.val).symm |>.trans
      (Finset.sum_congr rfl fun k _ => ?_)
    · rw [mask, mul_comm]
    · by_cases h : r.val + k < 2048
      · rw [dif_pos h, gSums_at]
      · rw [dif_neg h, gSums, if_neg h]
  · rw [gPooled_at, gSums, if_pos r.isLt, mul_assoc, count_cancel r g, mul_one]

theorem gScale_at : val_main_v72 (F := Ideal) x d w (ix2 0 (col g c))
    = gScale (bits g) (wnd g) (colsX x g) (colsZ x g) (colsD d g) (colsW w g) 2048 c := by
  pointwise [val_main_v72, val_main_v57, val_main_v54, val_main_v53, val_main_v52, val_main_v50, val_main_cst_5, val_main_cst_6]
  rw [gScale, Finset.sum_range]
  refine (Fintype.sum_unique _).trans (Finset.sum_congr rfl fun t _ => ?_)
  rw [mixed_at, grad_at, gate_at, gate_row x t g c, mul_left_comm, mul_assoc]

theorem gWeight_at (a : Fin 4) (e : Fin 128) : val_main_v82 (F := Ideal) x d s (ix3 a ⟨128 * g.val + e.val, by omega⟩ c)
    = gWeight (bits g) (wnd g) (colsX x g) (colsZ x g) (colsD d g) (colsS s g) 2048 ⟨128 * a.val + e.val, by omega⟩ c := by
  pointwise [val_main_v82, val_main_v75, val_main_v74, val_main_v73, val_main_v63, val_main_v62, val_main_v59, val_main_v58]
  rw [gWeight, Finset.sum_range]
  refine Finset.sum_congr rfl fun t _ => (mul_comm _ _).trans (congrArg₂ (· * ·) ?_ ?_)
  · refine (at3 (val_main_v35 (F := Ideal) x) _ _ _ _ _ ⟨128 * a.val + e.val, by omega⟩ rfl rfl ?_).trans (mean x t g _)
    show a.val * 128 + e.val = 128 * a.val + e.val
    omega
  · rw [col_eq g c, gMixed_at]

/-- Whether a value is a real number. -/
def IsReal (v : EReal) : Prop := ∃ q : ℝ, v = q

theorem IsReal.mul {u v : EReal} : IsReal u → IsReal v → IsReal (u * v) := by
  rintro ⟨p, rfl⟩ ⟨q, rfl⟩; exact ⟨p * q, (EReal.coe_mul p q).symm⟩

theorem IsReal.sub {u v : EReal} : IsReal u → IsReal v → IsReal (u - v) := by
  rintro ⟨p, rfl⟩ ⟨q, rfl⟩; exact ⟨p - q, (EReal.coe_sub p q).symm⟩

theorem IsReal.add {u v : EReal} : IsReal u → IsReal v → IsReal (u + v) := by
  rintro ⟨p, rfl⟩ ⟨q, rfl⟩; exact ⟨p + q, (EReal.coe_add p q).symm⟩

theorem IsReal.sum {ι : Type} (t : Finset ι) (f : ι → EReal) (h : ∀ i ∈ t, IsReal (f i)) : IsReal (∑ i ∈ t, f i) := by
  classical
  induction t using Finset.induction_on with
  | empty => exact ⟨0, by simp⟩
  | insert a t ha ih =>
    rw [Finset.sum_insert ha]
    exact (h a (Finset.mem_insert_self a t)).add (ih fun i hi => h i (Finset.mem_insert_of_mem hi))

theorem IsReal.inv {v : EReal} (h0 : v ≠ 0) : IsReal v → IsReal (Ideal.div 1 v) := by
  rintro ⟨q, rfl⟩
  unfold Ideal.div
  rw [if_neg h0, one_mul]
  exact ⟨q⁻¹, (EReal.coe_inv q).symm⟩

theorem real_sigma {v : EReal} : IsReal v → IsReal (sigma v) := by
  rintro ⟨q, rfl⟩
  have e : (1 : EReal) + Ideal.exp (0 - (q : EReal)) = ((1 + Real.exp (0 - q) : ℝ) : EReal) := by
    rw [EReal.coe_add, EReal.coe_one, ← EReal.coe_zero, ← EReal.coe_sub]; rfl
  unfold sigma
  rw [e]
  refine IsReal.inv (fun h => ?_) ⟨_, rfl⟩
  have h' : (1 + Real.exp (0 - q) : ℝ) = 0 := by exact_mod_cast h
  have := Real.exp_pos (0 - q)
  linarith

/-- The gradient of a product through its second factor, distributed over a sum. -/
theorem distribute {a z t : EReal} (ha : IsReal a) (hz : IsReal z) (ht : IsReal t) :
    a * t + z * a * (t * (1 - t)) = a * (t * (1 + z * (1 - t))) := by
  obtain ⟨a, rfl⟩ := ha
  obtain ⟨z, rfl⟩ := hz
  obtain ⟨t, rfl⟩ := ht
  rw [← EReal.coe_one]
  simp only [← EReal.coe_mul, ← EReal.coe_add, ← EReal.coe_sub]
  exact congrArg _ (by ring)

section Finite
variable (hx : ∀ i, IsReal (x i)) (hd : ∀ i, IsReal (d i)) (hw : ∀ i, IsReal (w i)) (hs : ∀ i, IsReal (s i))

include hx in
theorem real_row (r : ℕ) : IsReal (row (colsX x g) b r) := by
  unfold row
  split
  · exact hx _
  · exact ⟨0, rfl⟩

include hx hw in
theorem real_mixed : IsReal (mixed (bits g) (wnd g) (colsX x g) (colsW w g) r.val c) := by
  unfold mixed
  refine IsReal.sum _ _ fun b _ => IsReal.mul ?_ (hw _)
  unfold pooled
  refine IsReal.sub (IsReal.mul (IsReal.sum _ _ fun k _ => ?_) (IsReal.inv ?_ ⟨_, rfl⟩)) (real_row x g b hx _)
  · split
    · exact real_row x g b hx _
    · exact ⟨0, rfl⟩
  · exact count_ne r.val _ r.isLt (by positivity) (size_le g)

include hx hd hw hs in
theorem gGate_at : val_main_v51 (F := Ideal) x d w s (ix2 r (col g c))
    = gGate (bits g) (wnd g) (colsX x g) (colsZ x g) (colsD d g) (colsW w g) (colsS s g) r.val c := by
  pointwise [val_main_v51, val_main_call2_v1, val_main_call2_v2, val_main_call2_v0, val_main_v49, val_main_v5, val_main_v4, val_main_v0]
  rw [scaled_at, grad_at, sigma_at, rest_at, gate_row x r g c, gGate]
  rw [distribute]
  · refine congrArg (· * _) ?_
    rw [mul_comm, ← mul_assoc]
  · refine ((real_mixed x w r g c hx hw).mul (hs _)).mul ?_
    rw [row_at]
    exact hd _
  · rw [row_at]
    exact hx _
  · rw [row_at]
    exact real_sigma (hx _)

end Finite

theorem low_pad (y : Vec Ideal S1x2048x2048 .f32) (k : Vec Ideal S_ .f32) (i : S2x2048x2048.Idx) :
    pad S2x2048x2048 ![1, 0, 0] ![0, 0, 0] ![0, 0, 0] y k pads_S1x2048x2048_S2x2048x2048_100_000_000 h_S_ i
      = if (i 0).val = 1 then y (ix3 0 (i 1) (i 2)) else k ix0 := by
  have h0 : (i 0).val < 2 := (i 0).isLt
  split
  · rename_i h
    refine pad_apply_of_inside _ _ _ _ _ _ _ i _ fun a => ?_
    match a with
    | ⟨0, _⟩ => exact h
    | ⟨1, _⟩ => show (i 1).val = 0 + (i 1).val * 1; omega
    | ⟨2, _⟩ => show (i 2).val = 0 + (i 2).val * 1; omega
  · rename_i h
    refine (pad_apply_of_not_inside _ _ _ _ _ _ _ i (0 : Fin 3) ?_).trans (congrArg k (Subsingleton.elim _ _))
    rintro ⟨h1, -⟩
    have : 1 ≤ (i 0).val := h1
    omega

theorem high_pad (y : Vec Ideal S1x2048x2048 .f32) (k : Vec Ideal S_ .f32) (i : S2x2048x2048.Idx) :
    pad S2x2048x2048 ![0, 0, 0] ![1, 0, 0] ![0, 0, 0] y k pads_S1x2048x2048_S2x2048x2048_010_000_000 h_S_ i
      = if (i 0).val = 0 then y (ix3 0 (i 1) (i 2)) else k ix0 := by
  have h0 : (i 0).val < 2 := (i 0).isLt
  split
  · rename_i h
    refine pad_apply_of_inside _ _ _ _ _ _ _ i _ fun a => ?_
    match a with
    | ⟨0, _⟩ => exact h
    | ⟨1, _⟩ => show (i 1).val = 0 + (i 1).val * 1; omega
    | ⟨2, _⟩ => show (i 2).val = 0 + (i 2).val * 1; omega
  · rename_i h
    refine (pad_apply_of_not_inside _ _ _ _ _ _ _ i (0 : Fin 3) ?_).trans (congrArg k (Subsingleton.elim _ _))
    rintro ⟨-, -, h1⟩
    have : ((i 0).val - 0) / 1 < 1 := h1
    omega

section Results
variable (hx : ∀ i, IsReal (x i)) (hd : ∀ i, IsReal (d i)) (hw : ∀ i, IsReal (w i)) (hs : ∀ i, IsReal (s i))

theorem ref72 : val_main_v72 (F := Ideal) x d w = GScale x d w := by
  funext i
  obtain ⟨n, rfl⟩ : ∃ n : Fin 2048, i = ix2 0 n :=
    ⟨i 1, (eq_ix2 i).trans (congrArg (fun a => ix2 a (i 1)) (Subsingleton.elim (α := Fin 1) _ _))⟩
  have hn : n = col ⟨n.val / 512, by omega⟩ ⟨n.val % 512, by omega⟩ := Fin.ext (by show n.val = 512 * (n.val / 512) + n.val % 512; omega)
  refine Eq.trans (congrArg (fun n => val_main_v72 (F := Ideal) x d w (ix2 0 n)) hn) (gScale_at x d w _ _)

theorem ref82 : val_main_v82 (F := Ideal) x d s = GWeight x d s := by
  funext i
  obtain ⟨a, n, c, rfl⟩ : ∃ (a : Fin 4) (n c : Fin 512), i = ix3 a n c := ⟨i 0, i 1, i 2, eq_ix3 i⟩
  have hn : n = ⟨128 * (⟨n.val / 128, by omega⟩ : Fin 4).val + (⟨n.val % 128, by omega⟩ : Fin 128).val, by dsimp; omega⟩ :=
    Fin.ext (by show n.val = 128 * (n.val / 128) + n.val % 128; omega)
  exact Eq.trans (congrArg (fun n => val_main_v82 (F := Ideal) x d s (ix3 a n c)) hn) (gWeight_at x d s _ c a _)

include hx hd hw hs in
theorem ref81 : val_main_v81 (F := Ideal) x d w s = GBoth x d w s := by
  funext i
  obtain ⟨a, r, n, rfl⟩ : ∃ (a : Fin 2) (r n : Fin 2048), i = ix3 a r n := ⟨i 0, i 1, i 2, eq_ix3 i⟩
  have hn : n = col ⟨n.val / 512, by omega⟩ ⟨n.val % 512, by omega⟩ := Fin.ext (by show n.val = 512 * (n.val / 512) + n.val % 512; omega)
  pointwise [val_main_v81, val_main_v80]
  unfold val_main_v77 val_main_v79
  rw [low_pad, high_pad]
  pointwise [val_main_v76, val_main_v78, val_main_v71, val_main_cst_7, val_main_cst_8]
  have ha : a.val < 2 := a.isLt
  by_cases h : a.val = 0
  · rw [if_neg (by omega), if_pos h, zero_add]
    exact (gRows_at x d w s r _ _).trans (if_pos h).symm
  · rw [if_pos (by omega), if_neg h, add_zero]
    exact (congrArg (fun n => val_main_v51 (F := Ideal) x d w s (ix2 r n)) hn).trans
      ((gGate_at x d w s r _ _ hx hd hw hs).trans (if_neg h).symm)

end Results

end Cert.Proof.OddMixBwd.Ref
end
-- ==== Proof.OddMixBwd.lean ====
/-
  An odd layer's mixer gradient: its claims. The kernel's result arrays are the reference's where every entry of the
  arguments is a real number, which is the precondition.
-/
module

public import proofs.«01_k».proof.Defs
public import proofs.«01_k».proof.Proof.OddMixBwdRef
public import proofs.«01_k».proof.Proof.Gen.OddMixBwd
public import proofs.«01_k».proof.Proof.Gen.OddMixBwdRefIdeal.Run
public import proofs.«01_k».proof.Proof.Gen.Pre_odd_finite
public import Idealize.ShloMosaic.Lib.ReduceAll

@[expose] public section
set_option maxRecDepth 16384
noncomputable section

namespace Cert.Pre_odd_finite.Final
open Idealize.ShloMosaic Cert.Pre_odd_finite Cert.Proof.OddMixBwd.Ref

/-- A value whose absolute value is below infinity is a real number. -/
theorem real_of_lt (v : EReal) (h : Ideal.cmp .olt (max v (-v)) (Ideal.ofBits .f32 0x7F800000#32) = 1#1) : IsReal v := by
  have ht : Ideal.ofBits .f32 0x7F800000#32 = (⊤ : EReal) := by
    simp [Ideal.ofBits, Ideal.ieee]
  rw [ht] at h
  induction v using EReal.rec with
  | bot => simp [Ideal.cmp] at h
  | top => simp [Ideal.cmp] at h
  | coe q => exact ⟨q, rfl⟩

/-- Under the precondition every entry of the four arrays is a real number. -/
theorem reals (x : Vec Ideal S2x2048x2048 .bf16) (d : Vec Ideal S2x2048x1024 .bf16) (w : Vec Ideal S4x512x512 .bf16)
    (s : Vec Ideal S1x2048 .f32) (h : fn (F := Ideal) x d w s = fun _ => 1#1) :
    (∀ i, IsReal (x i)) ∧ (∀ i, IsReal (d i)) ∧ (∀ i, IsReal (w i)) ∧ (∀ i, IsReal (s i)) := by
  have e := congrFun h Idealize.ShloMosaic.ix0
  unfold fn fn_part1 at e
  obtain ⟨e, es⟩ := IntOp.andi_eq_one.1 e
  obtain ⟨e, ew⟩ := IntOp.andi_eq_one.1 e
  obtain ⟨ex, ed⟩ := IntOp.andi_eq_one.1 e
  exact ⟨fun i => real_of_lt _ (Host.reduce_andi_all _ _ _ _ _ ex i), fun i => real_of_lt _ (Host.reduce_andi_all _ _ _ _ _ ed i),
    fun i => real_of_lt _ (Host.reduce_andi_all _ _ _ _ _ ew i), fun i => real_of_lt _ (Host.reduce_andi_all _ _ _ _ _ es i)⟩

end Cert.Pre_odd_finite.Final

namespace Cert.Proof.OddMixBwdClaims
open Idealize.ShloMosaic Idealize.ShloMosaic.TcCoe Idealize.SL.Sem

/-- The two programs have the same text: the launched function's table is the same. -/
theorem same_table : Cert.OddMixBwdIdeal.defs₀ (F := Bits) = Cert.OddMixBwd.defs₀ := by
  refine congrArg Defs.onTc ?_
  funext l a
  match l, a with
  | ⟨0, _⟩, (t, s) => rfl

theorem same : Cert.OddMixBwdIdeal.defs (F := Bits) = Cert.OddMixBwd.defs :=
  congrArg (Pipeline.defs Cert.OddMixBwd.pcfgs) same_table

/-- The frame over the bit patterns is the one frame, taken at them. -/
theorem frame_k : Cert.quiescent_OddMixBwd := fun m g _ => by
  have h := Cert.Proof.OddMixBwd.frame (F := Bits) m g
  rw [same] at h
  exact h
theorem frame_ki : Cert.quiescent_OddMixBwdIdeal := fun m g _ => Cert.Proof.OddMixBwd.frame m g
theorem frame_ki_pre : Cert.quiescent_OddMixBwdIdeal_pre_odd_finite := fun m g _ => Cert.Proof.OddMixBwd.frame m g
theorem frame_ri : Cert.quiescent_OddMixBwdRefIdeal := fun m g _ =>
  (θ_run Cert.OddMixBwdRefIdeal.defs _ _).mono (fun r h => ⟨fun c => (h c).2.2.2, Idealize.ShloMosaic.sem_eq_zero_of_no_sems (by decide) r.2⟩)
    (Cert.OddMixBwdRefIdeal.Value.run (F := Ideal) m g)
theorem frame_ri_pre : Cert.quiescent_OddMixBwdRefIdeal_pre_odd_finite := fun m g _ => frame_ri m g trivial
theorem preserves : Cert.preserves_OddMixBwd_OddMixBwdIdeal := trivial

section Whole
open Cert.OddMixBwdIdeal Cert.Proof.OddMixBwd
variable (m : (ℓ : Loc nD τ sig) → Buf (Elt Ideal) ℓ) (c : Dev nD)

/-- The first result, from the arguments' contents. -/
def both := GBoth (m ((c : Thread nD τ).loc main_arg0)) (m ((c : Thread nD τ).loc main_arg1)) (m ((c : Thread nD τ).loc main_arg2))
  (m ((c : Thread nD τ).loc main_arg3))

/-- The second. -/
def weights := GWeight (m ((c : Thread nD τ).loc main_arg0)) (m ((c : Thread nD τ).loc main_arg1)) (m ((c : Thread nD τ).loc main_arg3))

/-- The third. -/
def scales := GScale (m ((c : Thread nD τ).loc main_arg0)) (m ((c : Thread nD τ).loc main_arg1)) (m ((c : Thread nD τ).loc main_arg2))

end Whole

/-- At the extended reals the kernel's results and the reference's are the same at every index, where the arguments' entries
    are real numbers. -/
theorem algebraic : Cert.algebraic_OddMixBwdIdeal_OddMixBwdRefIdeal_pre_odd_finite := by
  intro m g m' g' hp h
  refine ⟨both m, weights m, scales m, ?_, ?_⟩
  · exact (θ_run Cert.OddMixBwdIdeal.defs _ _).mono (fun _ h c => ⟨(h c).1.trans (Cert.Proof.OddMixBwd.final5 m c),
      (h c).2.1.trans (Cert.Proof.OddMixBwd.final6 m c), (h c).2.2.1.trans (Cert.Proof.OddMixBwd.final7 m c), (h c).2.2.2⟩)
      (Cert.Proof.OddMixBwd.Value.run_blocks (F := Ideal) m g)
  refine (θ_run Cert.OddMixBwdRefIdeal.defs _ _).mono (fun _ h' c => ⟨(h' c).1.trans ?_, (h' c).2.1.trans ?_, (h' c).2.2.1.trans ?_, (h' c).2.2.2⟩)
    (Cert.OddMixBwdRefIdeal.Value.run (F := Ideal) m' g')
  · obtain ⟨hx, hd, hw, hs⟩ := Cert.Pre_odd_finite.Final.reals _ _ _ _ (hp c)
    refine (Cert.OddMixBwdRefIdeal.Read.val_main_v81_eq _ _).trans ?_
    rw [(h c).1, (h c).2.1, (h c).2.2.1, (h c).2.2.2]
    exact Cert.Proof.OddMixBwd.Ref.ref81 _ _ _ _ hx hd hw hs
  · refine (Cert.OddMixBwdRefIdeal.Read.val_main_v82_eq _ _).trans ?_
    rw [(h c).1, (h c).2.1, (h c).2.2.2]
    exact Cert.Proof.OddMixBwd.Ref.ref82 _ _ _
  · refine (Cert.OddMixBwdRefIdeal.Read.val_main_v72_eq _ _).trans ?_
    rw [(h c).1, (h c).2.1, (h c).2.2.1]
    exact Cert.Proof.OddMixBwd.Ref.ref72 _ _ _

end Cert.Proof.OddMixBwdClaims
end
-- ==== Proof.AdamStep.lean ====
/-
  The AdamW step of one entry, at the extended reals, and what the result of a call that takes the step of one layer of
  two holds: the new entry in the layer it was given, the old one in the other.
-/
module

public import Idealize.ShloMosaic.Lib.Pointwise

@[expose] public section

noncomputable section

open Idealize.ShloMosaic

namespace Cert.Adam

/-- The first moment after the step. -/
def newM (mm g : EReal) : EReal :=
  Ideal.ofBits .f32 0x3F666666#32 * mm + Ideal.ofBits .f32 0x3DCCCCCD#32 * g

/-- The second moment after the step. -/
def newV (v g : EReal) : EReal :=
  Ideal.ofBits .f32 0x3F7FBE77#32 * v + Ideal.ofBits .f32 0x3A83126F#32 * (g * g)

/-- The step of the weight itself. -/
def delta (w mm v g : EReal) : EReal :=
  Ideal.ofBits .f32 0xBA83126F#32 *
    (Ideal.div (Ideal.div (newM mm g) (Ideal.ofBits .f32 0x3F26BD02#32))
        (Ideal.sqrt (Ideal.div (newV v g) (Ideal.ofBits .f32 0x3C231ACC#32)) + Ideal.ofBits .f32 0x322BCC77#32)
      + Ideal.ofBits .f32 0x3C23D70A#32 * w)

/-- The new entry in the first layer, the old one in the second. -/
def first (l : Nat) (new old : EReal) : EReal := if l = 0 then new else old

/-- In the first layer, and outside it. -/
theorem first_new {l : Nat} (h : l = 0) (a b : EReal) : first l a b = a := if_pos h
theorem first_old {l : Nat} (h : ¬ l = 0) (a b : EReal) : first l a b = b := if_neg h

/-- An index of the first layer. -/
theorem at_first {r c : Nat} (i : (⟨3, ![2, r, c]⟩ : Shape).Idx) (h : (i 0).val = 0) :
    i = ix3 (n0 := 2) (n1 := r) (n2 := c) 0 (i 1) (i 2) := by
  have h0 : i 0 = (0 : Fin 2) := Fin.ext h
  exact (eq_ix3 i).trans (congrArg (fun a : Fin 2 => ix3 (n0 := 2) (n1 := r) (n2 := c) a (i 1) (i 2)) h0)

/-- An index of the second layer. -/
theorem at_second {r c : Nat} (i : (⟨3, ![2, r, c]⟩ : Shape).Idx) (h : ¬ (i 0).val = 0) :
    i = ix3 (n0 := 2) (n1 := r) (n2 := c) 1 (i 1) (i 2) := by
  have h2 : (i 0).val < 2 := (i 0).isLt
  have h1 : (i 0).val = 1 := by omega
  have h0 : i 0 = (1 : Fin 2) := Fin.ext h1
  exact (eq_ix3 i).trans (congrArg (fun a : Fin 2 => ix3 (n0 := 2) (n1 := r) (n2 := c) a (i 1) (i 2)) h0)

/-- A function of four arguments at equal arguments. -/
theorem congr4 {α β : Type} (f : α → α → α → α → β) {a a' b b' c c' d d' : α} (ha : a = a') (hb : b = b') (hc : c = c')
    (hd : d = d') : f a b c d = f a' b' c' d' := by rw [ha, hb, hc, hd]

end Cert.Adam

end
-- ==== Proof.AdaBwd.lean ====
/-
  The gradient of the conditioning network's weights and their AdamW step. Each grid point takes 256 rows of one
  layer's weights: the gradient is the sum over the eight devices of the gated conditioning times that device's
  gradient of the modulation, and the step is taken entry by entry. The reference takes the sum as one contraction.
-/
module

public import proofs.«01_k».proof.Defs
public import proofs.«01_k».proof.Proof.AdamStep
public import proofs.«01_k».proof.Proof.Gen.AdaBwd
public import proofs.«01_k».proof.Proof.Gen.AdaBwd.Frame
public import proofs.«01_k».proof.Proof.Gen.AdaBwdIdeal
public import proofs.«01_k».proof.Proof.Gen.AdaBwdIdeal.Frame
public import proofs.«01_k».proof.Proof.Gen.AdaBwdRefIdeal
public import proofs.«01_k».proof.Proof.Gen.AdaBwdRefIdeal.Run
public import proofs.«01_k».proof.Proof.Gen.AdaBwdRefIdeal.Read
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdaBwdIdeal.Final

open Cert.AdaBwdIdeal Cert.AdaBwdIdeal.Gen Cert.Adam

section Run

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c⟩)
    (run_main m ρ)

end Run

variable (m : (ℓ : Loc nD τ sig) → Buf (Elt Ideal) ℓ)

/-- The conditioning's block of rows depends on the grid's second coordinate alone. -/
theorem idx0 : ∀ t : Fin cfg0.N, win0_0.index t = ![t.val % 4, 0] :=
  (by decide +kernel : ∀ t : Fin grid0.N, win0_0.index t = ![t.val % 4, 0])
/-- The modulation's gradient is read layer by layer. -/
theorem idx1 : ∀ t : Fin cfg0.N, win0_1.index t = ![t.val / 4, 0, 0] :=
  (by decide +kernel : ∀ t : Fin grid0.N, win0_1.index t = ![t.val / 4, 0, 0])
theorem idx2 : ∀ t : Fin cfg0.N, win0_2.index t = ![t.val / 4, t.val % 4, 0] :=
  (by decide +kernel : ∀ t : Fin grid0.N, win0_2.index t = ![t.val / 4, t.val % 4, 0])
theorem idx3 : ∀ t : Fin cfg0.N, win0_3.index t = ![t.val / 4, t.val % 4, 0] :=
  (by decide +kernel : ∀ t : Fin grid0.N, win0_3.index t = ![t.val / 4, t.val % 4, 0])
theorem idx4 : ∀ t : Fin cfg0.N, win0_4.index t = ![t.val / 4, t.val % 4, 0] :=
  (by decide +kernel : ∀ t : Fin grid0.N, win0_4.index t = ![t.val / 4, t.val % 4, 0])
theorem idx5 : ∀ t : Fin cfg0.N, win0_5.index t = ![t.val / 4, t.val % 4, 0] :=
  (by decide +kernel : ∀ t : Fin grid0.N, win0_5.index t = ![t.val / 4, t.val % 4, 0])
theorem idx6 : ∀ t : Fin cfg0.N, win0_6.index t = ![t.val / 4, t.val % 4, 0] :=
  (by decide +kernel : ∀ t : Fin grid0.N, win0_6.index t = ![t.val / 4, t.val % 4, 0])
theorem idx7 : ∀ t : Fin cfg0.N, win0_7.index t = ![t.val / 4, t.val % 4, 0] :=
  (by decide +kernel : ∀ t : Fin grid0.N, win0_7.index t = ![t.val / 4, t.val % 4, 0])
theorem idx8 : ∀ t : Fin cfg0.N, win0_8.index t = ![t.val / 4, t.val % 4, 0] :=
  (by decide +kernel : ∀ t : Fin grid0.N, win0_8.index t = ![t.val / 4, t.val % 4, 0])

/-- The conditioning through its gate. -/
def silu (v : EReal) : EReal := v * Ideal.div 1 (1 + Ideal.exp (0 - v))

/-- The gradient of the weights: over the devices, the gated conditioning times the modulation's gradient. -/
def Gg (x0 : S1024x8.Idx → EReal) (x1 : S4x8x768.Idx → EReal) : S4x1024x768.Idx → EReal := fun i =>
  ∑ b : Fin 8, silu (x0 (ix2 (i 1) b)) * x1 (ix3 (i 0) b (i 2))

theorem pay_silu (x : Vec Ideal S256x8 .f32) (j : S256x8.Idx) : k0_pay6 x j = silu (x j) := by
  pointwise [k0_pay6]
  rfl

/-- The step's entry, from the entries of what it is made of. -/
theorem pay_d (g : FVec Ideal S256x768 .f32) (w v mm : Vec Ideal S1x256x768 .f32) (j : S1x256x768.Idx) :
    k0_pay3 g (k0_pay12 w) (k0_pay13 v) (k0_pay14 mm) (k0_pay15 (F := Ideal)) j
      = delta (w j) (mm j) (v j) (g (ix2 (j 1) (j 2))) := by
  pointwise [k0_pay3, k0_pay1, k0_pay2, k0_pay12, k0_pay13, k0_pay14, k0_pay15]
  rfl

theorem pay_m (g : FVec Ideal S256x768 .f32) (mm : Vec Ideal S1x256x768 .f32) (j : S1x256x768.Idx) :
    k0_pay4 g (k0_pay14 mm) (k0_pay15 (F := Ideal)) j = newM (mm j) (g (ix2 (j 1) (j 2))) := by
  pointwise [k0_pay4, k0_pay1, k0_pay14, k0_pay15]
  rfl

theorem pay_v (g : FVec Ideal S256x768 .f32) (v : Vec Ideal S1x256x768 .f32) (j : S1x256x768.Idx) :
    k0_pay5 g (k0_pay13 v) j = newV (v j) (g (ix2 (j 1) (j 2))) := by
  pointwise [k0_pay5, k0_pay2, k0_pay13]
  rfl

/-- The block's gradient, device by device. -/
theorem pay_g (x : Vec Ideal S256x8 .f32) (d0 d1 d2 d3 d4 d5 d6 d7 : Vec Ideal S1x1x768 .f32) (j : S256x768.Idx) :
    k0_pay10 (k0_pay6 x) (k0_pay7 x d0 d1 d2 d3) (k0_pay8 d4) (k0_pay9 x) d5 d6 d7 j
      = ∑ b : Fin 8, silu (x (ix2 (j 0) b)) * (![d0, d1, d2, d3, d4, d5, d6, d7] b) (ix3 0 0 (j 1)) := by
  pointwise [k0_pay10, k0_pay7, k0_pay8, k0_pay9]
  simp only [pay_silu]
  rw [Fin.sum_univ_eight]
  rfl

theorem pay_g' (x : Vec Ideal S256x8 .f32) (d0 d1 d2 d3 d4 d5 d6 d7 : Vec Ideal S1x1x768 .f32) (j : S1x256x768.Idx) :
    k0_pay11 (k0_pay6 x) (k0_pay7 x d0 d1 d2 d3) (k0_pay8 d4) (k0_pay9 x) d5 d6 d7 j
      = k0_pay10 (k0_pay6 x) (k0_pay7 x d0 d1 d2 d3) (k0_pay8 d4) (k0_pay9 x) d5 d6 d7 (ix2 (j 1) (j 2)) := by
  pointwise [k0_pay11]

/-- The block's gradient, from the blocks the point reads. -/
def blkG (x0 : Vec Ideal S256x8 .f32) (x1 : Vec Ideal S1x8x768 .f32) : FVec Ideal S256x768 .f32 :=
  k0_pay10 (k0_pay6 (View.ld x0 r0_0)) (k0_pay7 (View.ld x0 r0_0) (View.ld x1 r0_1) (View.ld x1 r0_2) (View.ld x1 r0_3) (View.ld x1 r0_4))
    (k0_pay8 (View.ld x1 r0_5)) (k0_pay9 (View.ld x0 r0_0)) (View.ld x1 r0_6) (View.ld x1 r0_7) (View.ld x1 r0_8)

/-- A block's entry of the gradient is the whole array's. -/
theorem blk_g (c : Dev nD) (t : Fin cfg0.N) (j : S256x768.Idx) (i : S4x1024x768.Idx)
    (h0 : (i 0).val = t.val / 4) (h1 : (i 1).val = t.val % 4 * 256 + (j 0).val) (h2 : (i 2).val = (j 1).val) :
    blkG (iblk m c 0 t) (iblk m c 1 t) j
      = Gg (m ((c : Thread nD τ).loc main_arg0)) (m ((c : Thread nD τ).loc main_arg1)) i := by
  unfold blkG
  rw [pay_g]
  unfold Gg
  refine Fin.sum_fin_congr fun b => ?_
  congr 1
  · congr 1
    rw [View.ld_apply]; blk_ext [iblk, V_main_arg0, idx0] <;> first | omega | (simp [Rect.idx_unit_val]; done) | (simp [Rect.idx_unit_val]; omega)
  · have hb : (![View.ld (iblk m c 1 t) r0_1, View.ld (iblk m c 1 t) r0_2, View.ld (iblk m c 1 t) r0_3,
        View.ld (iblk m c 1 t) r0_4, View.ld (iblk m c 1 t) r0_5, View.ld (iblk m c 1 t) r0_6,
        View.ld (iblk m c 1 t) r0_7, View.ld (iblk m c 1 t) r0_8] b) (ix3 0 0 (j 1))
        = iblk m c 1 t (ix3 0 b (j 1)) := by
      fin_cases b <;> (refine congrArg (iblk m c 1 t) (funext fun a => ?_); refine Fin.ext ?_; fin_cases a <;> simp [Rect.idx_unit_val])
    refine hb.trans ?_
    blk_ext [iblk, V_main_arg1, idx1] <;> first | omega | (simp; done) | (simp; omega)

/-- The gradient after the run. -/
theorem final_g (c : Dev nD) : (dats m 0 c).arrAt 5 cfg0.N
    = Gg (m ((c : Thread nD τ).loc main_arg0)) (m ((c : Thread nD τ).loc main_arg1)) := by
  refine (dats m 0 c).arrAt_eq_of_covers 5 _ (by decide +kernel) fun t hf y => ?_
  blk_simp
  rw [after0_5]
  frame_out
  unfold k0_pay16 k0_pay17 k0_pay18 k0_pay19
  rw [pay_g']
  refine blk_g m c t _ _ ?_ ?_ ?_
  · blk_simp [idx5]
  · blk_simp [idx5]
  · blk_simp [idx5]

/-- The step after the run. -/
theorem final_d (c : Dev nD) : (dats m 0 c).arrAt 6 cfg0.N
    = fun i => delta (m ((c : Thread nD τ).loc main_arg2) i) (m ((c : Thread nD τ).loc main_arg3) i)
        (m ((c : Thread nD τ).loc main_arg4) i)
        (Gg (m ((c : Thread nD τ).loc main_arg0)) (m ((c : Thread nD τ).loc main_arg1)) i) := by
  refine (dats m 0 c).arrAt_eq_of_covers 6 _ (by decide +kernel) fun t hf y => ?_
  blk_simp
  rw [after0_6]
  frame_out
  unfold k0_pay23 k0_pay22 k0_pay21 k0_pay20 k0_pay19 k0_pay18 k0_pay17 k0_pay16
  rw [pay_d]
  refine congr4 delta ?_ ?_ ?_ ?_
  · blk_ext [iblk, V_main_arg2, idx2, idx6] <;> first | omega | (simp [Rect.idx_unit_val]; done) | (simp [Rect.idx_unit_val]; omega)
  · rw [View.ld_apply]; blk_ext [iblk, V_main_arg3, idx3, idx6] <;> first | omega | (simp [Rect.idx_unit_val]; done) | (simp [Rect.idx_unit_val]; omega)
  · rw [View.ld_apply]; blk_ext [iblk, V_main_arg4, idx4, idx6] <;> first | omega | (simp [Rect.idx_unit_val]; done) | (simp [Rect.idx_unit_val]; omega)
  · refine blk_g m c t _ _ ?_ ?_ ?_
    · blk_simp [idx6]
    · blk_simp [idx6]
    · blk_simp [idx6]

/-- The first moment after the run. -/
theorem final_m (c : Dev nD) : (dats m 0 c).arrAt 7 cfg0.N
    = fun i => newM (m ((c : Thread nD τ).loc main_arg3) i)
        (Gg (m ((c : Thread nD τ).loc main_arg0)) (m ((c : Thread nD τ).loc main_arg1)) i) := by
  refine (dats m 0 c).arrAt_eq_of_covers 7 _ (by decide +kernel) fun t hf y => ?_
  blk_simp
  rw [after0_7]
  frame_out
  unfold k0_pay23 k0_pay22 k0_pay20 k0_pay19 k0_pay18 k0_pay17 k0_pay16
  rw [pay_m]
  refine congrArg₂ newM ?_ ?_
  · rw [View.ld_apply]; blk_ext [iblk, V_main_arg3, idx3, idx7] <;> first | omega | (simp [Rect.idx_unit_val]; done) | (simp [Rect.idx_unit_val]; omega)
  · refine blk_g m c t _ _ ?_ ?_ ?_
    · blk_simp [idx7]
    · blk_simp [idx7]
    · blk_simp [idx7]

/-- The second moment after the run. -/
theorem final_v (c : Dev nD) : (dats m 0 c).arrAt 8 cfg0.N
    = fun i => newV (m ((c : Thread nD τ).loc main_arg4) i)
        (Gg (m ((c : Thread nD τ).loc main_arg0)) (m ((c : Thread nD τ).loc main_arg1)) i) := by
  refine (dats m 0 c).arrAt_eq_of_covers 8 _ (by decide +kernel) fun t hf y => ?_
  blk_simp
  rw [after0_8]
  frame_out
  unfold k0_pay21 k0_pay20 k0_pay19 k0_pay18 k0_pay17 k0_pay16
  rw [pay_v]
  refine congrArg₂ newV ?_ ?_
  · rw [View.ld_apply]; blk_ext [iblk, V_main_arg4, idx4, idx8] <;> first | omega | (simp [Rect.idx_unit_val]; done) | (simp [Rect.idx_unit_val]; omega)
  · refine blk_g m c t _ _ ?_ ?_ ?_
    · blk_simp [idx8]
    · blk_simp [idx8]
    · blk_simp [idx8]

end Cert.AdaBwdIdeal.Final

namespace Cert.AdaBwdRefIdeal.Final

open Cert.AdaBwdRefIdeal Cert.AdaBwdIdeal.Final Cert.Adam

variable (x0 : Vec Ideal S1024x8 .f32) (x1 : Vec Ideal S4x8x768 .f32) (x2 x3 x4 : Vec Ideal S4x1024x768 .f32)
  (i : S4x1024x768.Idx)

/-- The reference's gradient is the same sum. -/
theorem ref_g : Read.val_main_v2 (F := Ideal) x0 x1 i = Gg x0 x1 i := by
  pointwise [Read.val_main_v2, Read.val_main_v1, Read.val_main_v0, Read.val_main_call0_v0, Read.val_main_call0_v1,
    Read.val_main_call0_cst, Read.val_main_call0_v2, Read.val_main_call0_v3, Read.val_main_call0_cst_0,
    Read.val_main_call0_v4, Read.val_main_call0_v5]
  unfold Gg silu
  simp only [zero_sub]
  exact Finset.sum_congr rfl fun b _ => mul_comm _ _

theorem ref_m : Read.val_main_v7 (F := Ideal) x0 x1 x3 i = newM (x3 i) (Gg x0 x1 i) := by
  rw [← ref_g]
  rfl

theorem ref_v : Read.val_main_v13 (F := Ideal) x0 x1 x4 i = newV (x4 i) (Gg x0 x1 i) := by
  rw [← ref_g]
  rfl

theorem ref_d : Read.val_main_v26 (F := Ideal) x0 x1 x2 x3 x4 i = delta (x2 i) (x3 i) (x4 i) (Gg x0 x1 i) := by
  rw [← ref_g]
  rfl

end Cert.AdaBwdRefIdeal.Final
namespace Cert.Proof.AdaBwdClaims

theorem frame_k : Cert.quiescent_AdaBwd := fun m g _ => Cert.AdaBwd.Gen.frame m g
theorem frame_ki : Cert.quiescent_AdaBwdIdeal := fun m g _ => Cert.AdaBwdIdeal.Gen.frame m g
theorem frame_ri : Cert.quiescent_AdaBwdRefIdeal := fun m g _ =>
  (θ_run Cert.AdaBwdRefIdeal.defs _ _).mono (fun r h => ⟨fun c => (h c).2.2.2.2, Idealize.ShloMosaic.sem_eq_zero_of_no_sems (by decide) r.2⟩)
    (Cert.AdaBwdRefIdeal.Value.run (F := Ideal) m g)
theorem preserves : Cert.preserves_AdaBwd_AdaBwdIdeal := trivial

/-- At the extended reals the kernel's four results and the reference's are equal at every index. -/
theorem algebraic : Cert.algebraic_AdaBwdIdeal_AdaBwdRefIdeal := by
  intro m g m' g' _ h
  refine ⟨fun c => Cert.AdaBwdIdeal.Final.Gg (m ((c.tc : Thread Cert.AdaBwdIdeal.nD Cert.AdaBwdIdeal.τ).loc Cert.AdaBwdIdeal.main_arg0)) (m ((c.tc : Thread Cert.AdaBwdIdeal.nD Cert.AdaBwdIdeal.τ).loc Cert.AdaBwdIdeal.main_arg1)),
    fun c i => Cert.Adam.delta ((m ((c.tc : Thread Cert.AdaBwdIdeal.nD Cert.AdaBwdIdeal.τ).loc Cert.AdaBwdIdeal.main_arg2)) i) ((m ((c.tc : Thread Cert.AdaBwdIdeal.nD Cert.AdaBwdIdeal.τ).loc Cert.AdaBwdIdeal.main_arg3)) i) ((m ((c.tc : Thread Cert.AdaBwdIdeal.nD Cert.AdaBwdIdeal.τ).loc Cert.AdaBwdIdeal.main_arg4)) i) (Cert.AdaBwdIdeal.Final.Gg (m ((c.tc : Thread Cert.AdaBwdIdeal.nD Cert.AdaBwdIdeal.τ).loc Cert.AdaBwdIdeal.main_arg0)) (m ((c.tc : Thread Cert.AdaBwdIdeal.nD Cert.AdaBwdIdeal.τ).loc Cert.AdaBwdIdeal.main_arg1)) i),
    fun c i => Cert.Adam.newM ((m ((c.tc : Thread Cert.AdaBwdIdeal.nD Cert.AdaBwdIdeal.τ).loc Cert.AdaBwdIdeal.main_arg3)) i) (Cert.AdaBwdIdeal.Final.Gg (m ((c.tc : Thread Cert.AdaBwdIdeal.nD Cert.AdaBwdIdeal.τ).loc Cert.AdaBwdIdeal.main_arg0)) (m ((c.tc : Thread Cert.AdaBwdIdeal.nD Cert.AdaBwdIdeal.τ).loc Cert.AdaBwdIdeal.main_arg1)) i),
    fun c i => Cert.Adam.newV ((m ((c.tc : Thread Cert.AdaBwdIdeal.nD Cert.AdaBwdIdeal.τ).loc Cert.AdaBwdIdeal.main_arg4)) i) (Cert.AdaBwdIdeal.Final.Gg (m ((c.tc : Thread Cert.AdaBwdIdeal.nD Cert.AdaBwdIdeal.τ).loc Cert.AdaBwdIdeal.main_arg0)) (m ((c.tc : Thread Cert.AdaBwdIdeal.nD Cert.AdaBwdIdeal.τ).loc Cert.AdaBwdIdeal.main_arg1)) i), ?_, ?_⟩
  · exact (θ_run Cert.AdaBwdIdeal.defs _ _).mono (fun _ h c => ⟨(h c).1.trans (Cert.AdaBwdIdeal.Final.final_g m c),
        (h c).2.1.trans (Cert.AdaBwdIdeal.Final.final_d m c), (h c).2.2.1.trans (Cert.AdaBwdIdeal.Final.final_m m c),
        (h c).2.2.2.1.trans (Cert.AdaBwdIdeal.Final.final_v m c), (h c).2.2.2.2⟩)
      (Cert.AdaBwdIdeal.Final.run_blocks (F := Ideal) m g)
  refine (θ_run Cert.AdaBwdRefIdeal.defs _ _).mono (fun _ h' c => ⟨(h' c).1.trans ?_, (h' c).2.1.trans ?_,
      (h' c).2.2.1.trans ?_, (h' c).2.2.2.1.trans ?_, (h' c).2.2.2.2⟩)
    (Cert.AdaBwdRefIdeal.Value.run (F := Ideal) m' g')
  · refine (Cert.AdaBwdRefIdeal.Read.val_main_v2_eq _ _).trans ((funext (Cert.AdaBwdRefIdeal.Final.ref_g _ _)).trans ?_)
    rw [(h c).1, (h c).2.1]
  · refine (Cert.AdaBwdRefIdeal.Read.val_main_v26_eq _ _ _ _ _).trans ((funext (Cert.AdaBwdRefIdeal.Final.ref_d _ _ _ _ _)).trans ?_)
    rw [(h c).1, (h c).2.1, (h c).2.2.1, (h c).2.2.2.1, (h c).2.2.2.2]
    rfl
  · refine (Cert.AdaBwdRefIdeal.Read.val_main_v7_eq _ _ _).trans ((funext (Cert.AdaBwdRefIdeal.Final.ref_m _ _ _)).trans ?_)
    rw [(h c).1, (h c).2.1, (h c).2.2.2.1]
    rfl
  · refine (Cert.AdaBwdRefIdeal.Read.val_main_v13_eq _ _ _).trans ((funext (Cert.AdaBwdRefIdeal.Final.ref_v _ _ _)).trans ?_)
    rw [(h c).1, (h c).2.1, (h c).2.2.2.2]
    rfl

end Cert.Proof.AdaBwdClaims

end
-- ==== Proof.AdamwEven.lean ====
/-
  The AdamW step of one layer of the gated blocks' weights: layer 0 of each array takes the step, layer 1 keeps what the
  array given held. Each grid point takes an eighth of the rows, entry by entry; the reference takes the step of the
  whole layer and stacks the kept layer under it.
-/
module

public import proofs.«01_k».proof.Defs
public import proofs.«01_k».proof.Proof.AdamStep
public import proofs.«01_k».proof.Proof.Gen.AdamwEven
public import proofs.«01_k».proof.Proof.Gen.AdamwEven.Frame
public import proofs.«01_k».proof.Proof.Gen.AdamwEvenIdeal
public import proofs.«01_k».proof.Proof.Gen.AdamwEvenIdeal.Frame
public import proofs.«01_k».proof.Proof.Gen.AdamwEvenIdeal.Value
public import proofs.«01_k».proof.Proof.Gen.AdamwEvenRefIdeal
public import proofs.«01_k».proof.Proof.Gen.AdamwEvenRefIdeal.Run
public import proofs.«01_k».proof.Proof.Gen.AdamwEvenRefIdeal.Read
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamwEvenIdeal.Final

open Cert.AdamwEvenIdeal Cert.AdamwEvenIdeal.Gen Cert.Adam

variable (m : (ℓ : Loc nD τ sig) → Buf (Elt Ideal) ℓ)

/-! ### The weight of 1024 rows and 1792 columns -/

/-- The gradient's entry, the new first moment's, the new second moment's and the step's, in the first layer. -/
def G0 (g : S1024x1792.Idx → EReal) (old : S2x1024x1792.Idx → EReal) : S2x1024x1792.Idx → EReal := fun i =>
  first (i 0).val (g (ix2 (i 1) (i 2))) (old i)
def D0 (w : S2x1024x1792.Idx → EReal) (g : S1024x1792.Idx → EReal) (mm v old : S2x1024x1792.Idx → EReal) : S2x1024x1792.Idx → EReal := fun i =>
  first (i 0).val (delta (w i) (mm i) (v i) (g (ix2 (i 1) (i 2)))) (old i)
def M0 (g : S1024x1792.Idx → EReal) (mm old : S2x1024x1792.Idx → EReal) : S2x1024x1792.Idx → EReal := fun i =>
  first (i 0).val (newM (mm i) (g (ix2 (i 1) (i 2)))) (old i)
def V0 (g : S1024x1792.Idx → EReal) (v old : S2x1024x1792.Idx → EReal) : S2x1024x1792.Idx → EReal := fun i =>
  first (i 0).val (newV (v i) (g (ix2 (i 1) (i 2)))) (old i)

theorem G0_old (g : S1024x1792.Idx → EReal) (old : S2x1024x1792.Idx → EReal) (i : S2x1024x1792.Idx) (h : ¬ (i 0).val = 0) :
    G0 g old i = old i := first_old h _ _
theorem D0_old (w : S2x1024x1792.Idx → EReal) (g : S1024x1792.Idx → EReal) (mm v old : S2x1024x1792.Idx → EReal) (i : S2x1024x1792.Idx) (h : ¬ (i 0).val = 0) :
    D0 w g mm v old i = old i := first_old h _ _
theorem M0_old (g : S1024x1792.Idx → EReal) (mm old : S2x1024x1792.Idx → EReal) (i : S2x1024x1792.Idx) (h : ¬ (i 0).val = 0) :
    M0 g mm old i = old i := first_old h _ _
theorem V0_old (g : S1024x1792.Idx → EReal) (v old : S2x1024x1792.Idx → EReal) (i : S2x1024x1792.Idx) (h : ¬ (i 0).val = 0) :
    V0 g v old i = old i := first_old h _ _

theorem pay_g0 (g : Vec Ideal S128x1792 .bf16) (j : S1x128x1792.Idx) :
    k0_pay6 g j = g (ix2 (j 1) (j 2)) := by
  pointwise [k0_pay5, k0_pay6, k0_pay7, k0_pay8, k0_pay9, k0_pay10, k0_pay11, k0_pay12]

theorem pay_d0 (w mm v : Vec Ideal S1x128x1792 .f32) (g : Vec Ideal S128x1792 .bf16) (j : S1x128x1792.Idx) :
    k0_pay10 (k0_pay9 g w mm v) j = delta (w j) (mm j) (v j) (g (ix2 (j 1) (j 2))) := by
  pointwise [k0_pay5, k0_pay6, k0_pay7, k0_pay8, k0_pay9, k0_pay10, k0_pay11, k0_pay12]
  rfl

theorem pay_m0 (mm : Vec Ideal S1x128x1792 .f32) (g : Vec Ideal S128x1792 .bf16) (j : S1x128x1792.Idx) :
    k0_pay11 (k0_pay7 g mm) j = newM (mm j) (g (ix2 (j 1) (j 2))) := by
  pointwise [k0_pay5, k0_pay6, k0_pay7, k0_pay8, k0_pay9, k0_pay10, k0_pay11, k0_pay12]
  rfl

theorem pay_v0 (v : Vec Ideal S1x128x1792 .f32) (g : Vec Ideal S128x1792 .bf16) (j : S1x128x1792.Idx) :
    k0_pay12 (k0_pay8 g v) j = newV (v j) (g (ix2 (j 1) (j 2))) := by
  pointwise [k0_pay5, k0_pay6, k0_pay7, k0_pay8, k0_pay9, k0_pay10, k0_pay11, k0_pay12]
  rfl

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, t.val, 0] :=
  (by decide +kernel : ∀ t : Fin grid0.N, win0_2.index t = ![0, t.val, 0])
theorem idx3 : ∀ t : Fin cfg0.N, win0_3.index t = ![0, t.val, 0] :=
  (by decide +kernel : ∀ t : Fin grid0.N, win0_3.index t = ![0, t.val, 0])
theorem idx8 : ∀ t : Fin cfg0.N, win0_8.index t = ![0, t.val, 0] :=
  (by decide +kernel : ∀ t : Fin grid0.N, win0_8.index t = ![0, t.val, 0])
theorem idx9 : ∀ t : Fin cfg0.N, win0_9.index t = ![0, t.val, 0] :=
  (by decide +kernel : ∀ t : Fin grid0.N, win0_9.index t = ![0, t.val, 0])
theorem idx10 : ∀ t : Fin cfg0.N, win0_10.index t = ![0, t.val, 0] :=
  (by decide +kernel : ∀ t : Fin grid0.N, win0_10.index t = ![0, t.val, 0])
theorem idx11 : ∀ t : Fin cfg0.N, win0_11.index t = ![0, t.val, 0] :=
  (by decide +kernel : ∀ t : Fin grid0.N, win0_11.index t = ![0, t.val, 0])

/-- Outside the first layer the result is what the array given held. -/
theorem old8 (c : Dev nD) (j : (cfg0.win 8).shape.Idx) (hj : ¬ (cfg0.win 8).cell j (0 : Fin _) = 0) :
    (dats m 0 c).A 8 ((cfg0.win 8).arr.view.emb j) = G0 (m ((c : Thread nD τ).loc main_arg1)) (m ((c : Thread nD τ).loc main_arg4)) ((cfg0.win 8).arr.view.emb j) := by
  have h0 : ¬ ((cfg0.win 8).arr.view.emb j 0).val = 0 := by
    intro h
    refine hj ?_
    blk_simp [Pipeline.Window.cell_apply] at h ⊢
    omega
  refine Eq.trans ?_ (G0_old _ _ _ h0).symm
  rw [A_eq]
  show V m c main_v0_0 _ = _
  unfold V
  after_results
  rfl

theorem final8 (c : Dev nD) : (dats m 0 c).arrAt 8 cfg0.N = G0 (m ((c : Thread nD τ).loc main_arg1)) (m ((c : Thread nD τ).loc main_arg4)) := by
  refine (dats m 0 c).arrAt_eq_of_coversWhere_of_agree 8 _ (fun β => β (0 : Fin _) = 0) (by decide +kernel)
    (fun t hf y => ?_) (fun j hj => ?_)
  · blk_simp
    rw [after0_8]
    dsimp only [outsAt0]
    frame_out
    rw [pay_g0]
    refine Eq.trans ?_ (first_new (by blk_simp [idx8]; try omega) _ _).symm
    blk_ext [iblk, V_main_arg1, idx1, idx8]
  · exact old8 m c j hj

/-- Outside the first layer the result is what the array given held. -/
theorem old9 (c : Dev nD) (j : (cfg0.win 9).shape.Idx) (hj : ¬ (cfg0.win 9).cell j (0 : Fin _) = 0) :
    (dats m 0 c).A 9 ((cfg0.win 9).arr.view.emb j) = D0 (m ((c : Thread nD τ).loc main_arg0)) (m ((c : Thread nD τ).loc main_arg1)) (m ((c : Thread nD τ).loc main_arg2)) (m ((c : Thread nD τ).loc main_arg3)) (m ((c : Thread nD τ).loc main_arg5)) ((cfg0.win 9).arr.view.emb j) := by
  have h0 : ¬ ((cfg0.win 9).arr.view.emb j 0).val = 0 := by
    intro h
    refine hj ?_
    blk_simp [Pipeline.Window.cell_apply] at h ⊢
    omega
  refine Eq.trans ?_ (D0_old _ _ _ _ _ _ h0).symm
  rw [A_eq]
  show V m c main_v0_1 _ = _
  unfold V
  after_results
  rfl

theorem final9 (c : Dev nD) : (dats m 0 c).arrAt 9 cfg0.N = D0 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 9 _ (fun β => β (0 : Fin _) = 0) (by decide +kernel)
    (fun t hf y => ?_) (fun j hj => ?_)
  · blk_simp
    rw [after0_9]
    frame_out
    rw [pay_d0]
    refine Eq.trans ?_ (first_new (by blk_simp [idx9]; try omega) _ _).symm
    refine congr4 delta ?_ ?_ ?_ ?_
    · blk_ext [iblk, V_main_arg0, idx0, idx9]
    · blk_ext [iblk, V_main_arg2, idx2, idx9]
    · blk_ext [iblk, V_main_arg3, idx3, idx9]
    · blk_ext [iblk, V_main_arg1, idx1, idx9]
  · exact old9 m c j hj

/-- Outside the first layer the result is what the array given held. -/
theorem old10 (c : Dev nD) (j : (cfg0.win 10).shape.Idx) (hj : ¬ (cfg0.win 10).cell j (0 : Fin _) = 0) :
    (dats m 0 c).A 10 ((cfg0.win 10).arr.view.emb j) = M0 (m ((c : Thread nD τ).loc main_arg1)) (m ((c : Thread nD τ).loc main_arg2)) (m ((c : Thread nD τ).loc main_arg6)) ((cfg0.win 10).arr.view.emb j) := by
  have h0 : ¬ ((cfg0.win 10).arr.view.emb j 0).val = 0 := by
    intro h
    refine hj ?_
    blk_simp [Pipeline.Window.cell_apply] at h ⊢
    omega
  refine Eq.trans ?_ (M0_old _ _ _ _ h0).symm
  rw [A_eq]
  show V m c main_v0_2 _ = _
  unfold V
  after_results
  rfl

theorem final10 (c : Dev nD) : (dats m 0 c).arrAt 10 cfg0.N = M0 (m ((c : Thread nD τ).loc main_arg1)) (m ((c : Thread nD τ).loc main_arg2)) (m ((c : Thread nD τ).loc main_arg6)) := by
  refine (dats m 0 c).arrAt_eq_of_coversWhere_of_agree 10 _ (fun β => β (0 : Fin _) = 0) (by decide +kernel)
    (fun t hf y => ?_) (fun j hj => ?_)
  · blk_simp
    rw [after0_10]
    frame_out
    rw [pay_m0]
    refine Eq.trans ?_ (first_new (by blk_simp [idx10]; try omega) _ _).symm
    refine congrArg₂ newM ?_ ?_
    · blk_ext [iblk, V_main_arg2, idx2, idx10]
    · blk_ext [iblk, V_main_arg1, idx1, idx10]
  · exact old10 m c j hj

/-- Outside the first layer the result is what the array given held. -/
theorem old11 (c : Dev nD) (j : (cfg0.win 11).shape.Idx) (hj : ¬ (cfg0.win 11).cell j (0 : Fin _) = 0) :
    (dats m 0 c).A 11 ((cfg0.win 11).arr.view.emb j) = V0 (m ((c : Thread nD τ).loc main_arg1)) (m ((c : Thread nD τ).loc main_arg3)) (m ((c : Thread nD τ).loc main_arg7)) ((cfg0.win 11).arr.view.emb j) := by
  have h0 : ¬ ((cfg0.win 11).arr.view.emb j 0).val = 0 := by
    intro h
    refine hj ?_
    blk_simp [Pipeline.Window.cell_apply] at h ⊢
    omega
  refine Eq.trans ?_ (V0_old _ _ _ _ h0).symm
  rw [A_eq]
  show V m c main_v0_3 _ = _
  unfold V
  after_results
  rfl

theorem final11 (c : Dev nD) : (dats m 0 c).arrAt 11 cfg0.N = V0 (m ((c : Thread nD τ).loc main_arg1)) (m ((c : Thread nD τ).loc main_arg3)) (m ((c : Thread nD τ).loc main_arg7)) := by
  refine (dats m 0 c).arrAt_eq_of_coversWhere_of_agree 11 _ (fun β => β (0 : Fin _) = 0) (by decide +kernel)
    (fun t hf y => ?_) (fun j hj => ?_)
  · blk_simp
    rw [after0_11]
    frame_out
    rw [pay_v0]
    refine Eq.trans ?_ (first_new (by blk_simp [idx11]; try omega) _ _).symm
    refine congrArg₂ newV ?_ ?_
    · blk_ext [iblk, V_main_arg3, idx3, idx11]
    · blk_ext [iblk, V_main_arg1, idx1, idx11]
  · exact old11 m c j hj

/-! ### The weight of 512 rows and 1024 columns -/

/-- The gradient's entry, the new first moment's, the new second moment's and the step's, in the first layer. -/
def G1 (g : S512x1024.Idx → EReal) (old : S2x512x1024.Idx → EReal) : S2x512x1024.Idx → EReal := fun i =>
  first (i 0).val (g (ix2 (i 1) (i 2))) (old i)
def D1 (w : S2x512x1024.Idx → EReal) (g : S512x1024.Idx → EReal) (mm v old : S2x512x1024.Idx → EReal) : S2x512x1024.Idx → EReal := fun i =>
  first (i 0).val (delta (w i) (mm i) (v i) (g (ix2 (i 1) (i 2)))) (old i)
def M1 (g : S512x1024.Idx → EReal) (mm old : S2x512x1024.Idx → EReal) : S2x512x1024.Idx → EReal := fun i =>
  first (i 0).val (newM (mm i) (g (ix2 (i 1) (i 2)))) (old i)
def V1 (g : S512x1024.Idx → EReal) (v old : S2x512x1024.Idx → EReal) : S2x512x1024.Idx → EReal := fun i =>
  first (i 0).val (newV (v i) (g (ix2 (i 1) (i 2)))) (old i)

theorem G1_old (g : S512x1024.Idx → EReal) (old : S2x512x1024.Idx → EReal) (i : S2x512x1024.Idx) (h : ¬ (i 0).val = 0) :
    G1 g old i = old i := first_old h _ _
theorem D1_old (w : S2x512x1024.Idx → EReal) (g : S512x1024.Idx → EReal) (mm v old : S2x512x1024.Idx → EReal) (i : S2x512x1024.Idx) (h : ¬ (i 0).val = 0) :
    D1 w g mm v old i = old i := first_old h _ _
theorem M1_old (g : S512x1024.Idx → EReal) (mm old : S2x512x1024.Idx → EReal) (i : S2x512x1024.Idx) (h : ¬ (i 0).val = 0) :
    M1 g mm old i = old i := first_old h _ _
theorem V1_old (g : S512x1024.Idx → EReal) (v old : S2x512x1024.Idx → EReal) (i : S2x512x1024.Idx) (h : ¬ (i 0).val = 0) :
    V1 g v old i = old i := first_old h _ _

theorem pay_g1 (g : Vec Ideal S64x1024 .bf16) (j : S1x64x1024.Idx) :
    k0_pay14 g j = g (ix2 (j 1) (j 2)) := by
  pointwise [k0_pay1, k0_pay2, k0_pay3, k0_pay4, k0_pay13, k0_pay14, k0_pay15, k0_pay16, k0_pay17, k0_pay18, k0_pay19]

theorem pay_d1 (w mm v : Vec Ideal S1x64x1024 .f32) (g : Vec Ideal S64x1024 .bf16) (j : S1x64x1024.Idx) :
    k0_pay2 (k0_pay15 w) (k0_pay16 g mm) (k0_pay17 v) (k0_pay18 g) (k0_pay19 (F := Ideal)) j = delta (w j) (mm j) (v j) (g (ix2 (j 1) (j 2))) := by
  pointwise [k0_pay1, k0_pay2, k0_pay3, k0_pay4, k0_pay13, k0_pay14, k0_pay15, k0_pay16, k0_pay17, k0_pay18, k0_pay19]
  rfl

theorem pay_m1 (mm : Vec Ideal S1x64x1024 .f32) (g : Vec Ideal S64x1024 .bf16) (j : S1x64x1024.Idx) :
    k0_pay3 (k0_pay16 g mm) j = newM (mm j) (g (ix2 (j 1) (j 2))) := by
  pointwise [k0_pay1, k0_pay2, k0_pay3, k0_pay4, k0_pay13, k0_pay14, k0_pay15, k0_pay16, k0_pay17, k0_pay18, k0_pay19]
  rfl

theorem pay_v1 (v : Vec Ideal S1x64x1024 .f32) (g : Vec Ideal S64x1024 .bf16) (j : S1x64x1024.Idx) :
    k0_pay4 (k0_pay17 v) (k0_pay18 g) (k0_pay19 (F := Ideal)) j = newV (v j) (g (ix2 (j 1) (j 2))) := by
  pointwise [k0_pay1, k0_pay2, k0_pay3, k0_pay4, k0_pay13, k0_pay14, k0_pay15, k0_pay16, k0_pay17, k0_pay18, k0_pay19]
  rfl

theorem idx4 : ∀ t : Fin cfg0.N, win0_4.index t = ![0, t.val, 0] :=
  (by decide +kernel : ∀ t : Fin grid0.N, win0_4.index t = ![0, t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![0, t.val, 0] :=
  (by decide +kernel : ∀ t : Fin grid0.N, win0_6.index t = ![0, t.val, 0])
theorem idx7 : ∀ t : Fin cfg0.N, win0_7.index t = ![0, t.val, 0] :=
  (by decide +kernel : ∀ t : Fin grid0.N, win0_7.index t = ![0, t.val, 0])
theorem idx12 : ∀ t : Fin cfg0.N, win0_12.index t = ![0, t.val, 0] :=
  (by decide +kernel : ∀ t : Fin grid0.N, win0_12.index t = ![0, t.val, 0])
theorem idx13 : ∀ t : Fin cfg0.N, win0_13.index t = ![0, t.val, 0] :=
  (by decide +kernel : ∀ t : Fin grid0.N, win0_13.index t = ![0, t.val, 0])
theorem idx14 : ∀ t : Fin cfg0.N, win0_14.index t = ![0, t.val, 0] :=
  (by decide +kernel : ∀ t : Fin grid0.N, win0_14.index t = ![0, t.val, 0])
theorem idx15 : ∀ t : Fin cfg0.N, win0_15.index t = ![0, t.val, 0] :=
  (by decide +kernel : ∀ t : Fin grid0.N, win0_15.index t = ![0, t.val, 0])

/-- Outside the first layer the result is what the array given held. -/
theorem old12 (c : Dev nD) (j : (cfg0.win 12).shape.Idx) (hj : ¬ (cfg0.win 12).cell j (0 : Fin _) = 0) :
    (dats m 0 c).A 12 ((cfg0.win 12).arr.view.emb j) = G1 (m ((c : Thread nD τ).loc main_arg9)) (m ((c : Thread nD τ).loc main_arg12)) ((cfg0.win 12).arr.view.emb j) := by
  have h0 : ¬ ((cfg0.win 12).arr.view.emb j 0).val = 0 := by
    intro h
    refine hj ?_
    blk_simp [Pipeline.Window.cell_apply] at h ⊢
    omega
  refine Eq.trans ?_ (G1_old _ _ _ h0).symm
  rw [A_eq]
  show V m c main_v0_4 _ = _
  unfold V
  after_results
  rfl

theorem final12 (c : Dev nD) : (dats m 0 c).arrAt 12 cfg0.N = G1 (m ((c : Thread nD τ).loc main_arg9)) (m ((c : Thread nD τ).loc main_arg12)) := by
  refine (dats m 0 c).arrAt_eq_of_coversWhere_of_agree 12 _ (fun β => β (0 : Fin _) = 0) (by decide +kernel)
    (fun t hf y => ?_) (fun j hj => ?_)
  · blk_simp
    rw [after0_12]
    frame_out
    rw [pay_g1]
    refine Eq.trans ?_ (first_new (by blk_simp [idx12]; try omega) _ _).symm
    blk_ext [iblk, V_main_arg9, idx5, idx12]
  · exact old12 m c j hj

/-- Outside the first layer the result is what the array given held. -/
theorem old13 (c : Dev nD) (j : (cfg0.win 13).shape.Idx) (hj : ¬ (cfg0.win 13).cell j (0 : Fin _) = 0) :
    (dats m 0 c).A 13 ((cfg0.win 13).arr.view.emb j) = D1 (m ((c : Thread nD τ).loc main_arg8)) (m ((c : Thread nD τ).loc main_arg9)) (m ((c : Thread nD τ).loc main_arg10)) (m ((c : Thread nD τ).loc main_arg11)) (m ((c : Thread nD τ).loc main_arg13)) ((cfg0.win 13).arr.view.emb j) := by
  have h0 : ¬ ((cfg0.win 13).arr.view.emb j 0).val = 0 := by
    intro h
    refine hj ?_
    blk_simp [Pipeline.Window.cell_apply] at h ⊢
    omega
  refine Eq.trans ?_ (D1_old _ _ _ _ _ _ h0).symm
  rw [A_eq]
  show V m c main_v0_5 _ = _
  unfold V
  after_results
  rfl

theorem final13 (c : Dev nD) : (dats m 0 c).arrAt 13 cfg0.N = D1 (m ((c : Thread nD τ).loc main_arg8)) (m ((c : Thread nD τ).loc main_arg9)) (m ((c : Thread nD τ).loc main_arg10)) (m ((c : Thread nD τ).loc main_arg11)) (m ((c : Thread nD τ).loc main_arg13)) := by
  refine (dats m 0 c).arrAt_eq_of_coversWhere_of_agree 13 _ (fun β => β (0 : Fin _) = 0) (by decide +kernel)
    (fun t hf y => ?_) (fun j hj => ?_)
  · blk_simp
    rw [after0_13]
    frame_out
    rw [pay_d1]
    refine Eq.trans ?_ (first_new (by blk_simp [idx13]; try omega) _ _).symm
    refine congr4 delta ?_ ?_ ?_ ?_
    · blk_ext [iblk, V_main_arg8, idx4, idx13]
    · blk_ext [iblk, V_main_arg10, idx6, idx13]
    · blk_ext [iblk, V_main_arg11, idx7, idx13]
    · blk_ext [iblk, V_main_arg9, idx5, idx13]
  · exact old13 m c j hj

/-- Outside the first layer the result is what the array given held. -/
theorem old14 (c : Dev nD) (j : (cfg0.win 14).shape.Idx) (hj : ¬ (cfg0.win 14).cell j (0 : Fin _) = 0) :
    (dats m 0 c).A 14 ((cfg0.win 14).arr.view.emb j) = M1 (m ((c : Thread nD τ).loc main_arg9)) (m ((c : Thread nD τ).loc main_arg10)) (m ((c : Thread nD τ).loc main_arg14)) ((cfg0.win 14).arr.view.emb j) := by
  have h0 : ¬ ((cfg0.win 14).arr.view.emb j 0).val = 0 := by
    intro h
    refine hj ?_
    blk_simp [Pipeline.Window.cell_apply] at h ⊢
    omega
  refine Eq.trans ?_ (M1_old _ _ _ _ h0).symm
  rw [A_eq]
  show V m c main_v0_6 _ = _
  unfold V
  after_results
  rfl

theorem final14 (c : Dev nD) : (dats m 0 c).arrAt 14 cfg0.N = M1 (m ((c : Thread nD τ).loc main_arg9)) (m ((c : Thread nD τ).loc main_arg10)) (m ((c : Thread nD τ).loc main_arg14)) := by
  refine (dats m 0 c).arrAt_eq_of_coversWhere_of_agree 14 _ (fun β => β (0 : Fin _) = 0) (by decide +kernel)
    (fun t hf y => ?_) (fun j hj => ?_)
  · blk_simp
    rw [after0_14]
    frame_out
    rw [pay_m1]
    refine Eq.trans ?_ (first_new (by blk_simp [idx14]; try omega) _ _).symm
    refine congrArg₂ newM ?_ ?_
    · blk_ext [iblk, V_main_arg10, idx6, idx14]
    · blk_ext [iblk, V_main_arg9, idx5, idx14]
  · exact old14 m c j hj

/-- Outside the first layer the result is what the array given held. -/
theorem old15 (c : Dev nD) (j : (cfg0.win 15).shape.Idx) (hj : ¬ (cfg0.win 15).cell j (0 : Fin _) = 0) :
    (dats m 0 c).A 15 ((cfg0.win 15).arr.view.emb j) = V1 (m ((c : Thread nD τ).loc main_arg9)) (m ((c : Thread nD τ).loc main_arg11)) (m ((c : Thread nD τ).loc main_arg15)) ((cfg0.win 15).arr.view.emb j) := by
  have h0 : ¬ ((cfg0.win 15).arr.view.emb j 0).val = 0 := by
    intro h
    refine hj ?_
    blk_simp [Pipeline.Window.cell_apply] at h ⊢
    omega
  refine Eq.trans ?_ (V1_old _ _ _ _ h0).symm
  rw [A_eq]
  show V m c main_v0_7 _ = _
  unfold V
  after_results
  rfl

theorem final15 (c : Dev nD) : (dats m 0 c).arrAt 15 cfg0.N = V1 (m ((c : Thread nD τ).loc main_arg9)) (m ((c : Thread nD τ).loc main_arg11)) (m ((c : Thread nD τ).loc main_arg15)) := by
  refine (dats m 0 c).arrAt_eq_of_coversWhere_of_agree 15 _ (fun β => β (0 : Fin _) = 0) (by decide +kernel)
    (fun t hf y => ?_) (fun j hj => ?_)
  · blk_simp
    rw [after0_15]
    frame_out
    rw [pay_v1]
    refine Eq.trans ?_ (first_new (by blk_simp [idx15]; try omega) _ _).symm
    refine congrArg₂ newV ?_ ?_
    · blk_ext [iblk, V_main_arg11, idx7, idx15]
    · blk_ext [iblk, V_main_arg9, idx5, idx15]
  · exact old15 m c j hj

end Cert.AdamwEvenIdeal.Final

namespace Cert.AdamwEvenRefIdeal.Final

open Cert.AdamwEvenRefIdeal Cert.Adam Cert.AdamwEvenIdeal.Final

theorem ref_g0 (g : Vec Ideal S1024x1792 .bf16) (old : Vec Ideal S2x1024x1792 .f32) (i : S2x1024x1792.Idx) :
    Read.val_main_v35 (F := Ideal) g old i = G0 g old i := by
  by_cases h : (i 0).val = 0
  · refine Eq.trans ?_ (first_new h _ _).symm
    have hi : i = ix3 0 (i 1) (i 2) := at_first i h
    rw [hi]
    pointwise [
      Read.val_main_v0, Read.val_main_v33, Read.val_main_v31, Read.val_main_v32, Read.val_main_v34,
      Read.val_main_v35]
  · refine Eq.trans ?_ (first_old h _ _).symm
    have hi : i = ix3 1 (i 1) (i 2) := at_second i h
    rw [hi]
    pointwise [
      Read.val_main_v0, Read.val_main_v33, Read.val_main_v31, Read.val_main_v32, Read.val_main_v34,
      Read.val_main_v35]

theorem ref_d0 (w : Vec Ideal S2x1024x1792 .f32) (g : Vec Ideal S1024x1792 .bf16) (mm : Vec Ideal S2x1024x1792 .f32) (v : Vec Ideal S2x1024x1792 .f32) (old : Vec Ideal S2x1024x1792 .f32) (i : S2x1024x1792.Idx) :
    Read.val_main_v40 (F := Ideal) w g mm v old i = D0 w g mm v old i := by
  by_cases h : (i 0).val = 0
  · refine Eq.trans ?_ (first_new h _ _).symm
    have hi : i = ix3 0 (i 1) (i 2) := at_first i h
    rw [hi]
    pointwise [
      Read.val_main_cst_7, Read.val_main_v29, Read.val_main_cst, Read.val_main_v7, Read.val_main_v3,
      Read.val_main_v4, Read.val_main_v8, Read.val_main_cst_0, Read.val_main_v9, Read.val_main_v0,
      Read.val_main_v10, Read.val_main_v11, Read.val_main_cst_3, Read.val_main_v18, Read.val_main_v19,
      Read.val_main_cst_1, Read.val_main_v12, Read.val_main_v5, Read.val_main_v6, Read.val_main_v13,
      Read.val_main_cst_2, Read.val_main_v15, Read.val_main_v14, Read.val_main_v16, Read.val_main_v17,
      Read.val_main_cst_4, Read.val_main_v20, Read.val_main_v21, Read.val_main_v22, Read.val_main_cst_5,
      Read.val_main_v23, Read.val_main_v24, Read.val_main_v25, Read.val_main_cst_6, Read.val_main_v26,
      Read.val_main_v1, Read.val_main_v2, Read.val_main_v27, Read.val_main_v28, Read.val_main_v30,
      Read.val_main_v38, Read.val_main_v36, Read.val_main_v37, Read.val_main_v39, Read.val_main_v40]
    rfl
  · refine Eq.trans ?_ (first_old h _ _).symm
    have hi : i = ix3 1 (i 1) (i 2) := at_second i h
    rw [hi]
    pointwise [
      Read.val_main_cst_7, Read.val_main_v29, Read.val_main_cst, Read.val_main_v7, Read.val_main_v3,
      Read.val_main_v4, Read.val_main_v8, Read.val_main_cst_0, Read.val_main_v9, Read.val_main_v0,
      Read.val_main_v10, Read.val_main_v11, Read.val_main_cst_3, Read.val_main_v18, Read.val_main_v19,
      Read.val_main_cst_1, Read.val_main_v12, Read.val_main_v5, Read.val_main_v6, Read.val_main_v13,
      Read.val_main_cst_2, Read.val_main_v15, Read.val_main_v14, Read.val_main_v16, Read.val_main_v17,
      Read.val_main_cst_4, Read.val_main_v20, Read.val_main_v21, Read.val_main_v22, Read.val_main_cst_5,
      Read.val_main_v23, Read.val_main_v24, Read.val_main_v25, Read.val_main_cst_6, Read.val_main_v26,
      Read.val_main_v1, Read.val_main_v2, Read.val_main_v27, Read.val_main_v28, Read.val_main_v30,
      Read.val_main_v38, Read.val_main_v36, Read.val_main_v37, Read.val_main_v39, Read.val_main_v40]

theorem ref_m0 (g : Vec Ideal S1024x1792 .bf16) (mm : Vec Ideal S2x1024x1792 .f32) (old : Vec Ideal S2x1024x1792 .f32) (i : S2x1024x1792.Idx) :
    Read.val_main_v45 (F := Ideal) g mm old i = M0 g mm old i := by
  by_cases h : (i 0).val = 0
  · refine Eq.trans ?_ (first_new h _ _).symm
    have hi : i = ix3 0 (i 1) (i 2) := at_first i h
    rw [hi]
    pointwise [
      Read.val_main_cst, Read.val_main_v7, Read.val_main_v3, Read.val_main_v4, Read.val_main_v8,
      Read.val_main_cst_0, Read.val_main_v9, Read.val_main_v0, Read.val_main_v10, Read.val_main_v11,
      Read.val_main_v43, Read.val_main_v41, Read.val_main_v42, Read.val_main_v44, Read.val_main_v45]
    rfl
  · refine Eq.trans ?_ (first_old h _ _).symm
    have hi : i = ix3 1 (i 1) (i 2) := at_second i h
    rw [hi]
    pointwise [
      Read.val_main_cst, Read.val_main_v7, Read.val_main_v3, Read.val_main_v4, Read.val_main_v8,
      Read.val_main_cst_0, Read.val_main_v9, Read.val_main_v0, Read.val_main_v10, Read.val_main_v11,
      Read.val_main_v43, Read.val_main_v41, Read.val_main_v42, Read.val_main_v44, Read.val_main_v45]

theorem ref_v0 (g : Vec Ideal S1024x1792 .bf16) (v : Vec Ideal S2x1024x1792 .f32) (old : Vec Ideal S2x1024x1792 .f32) (i : S2x1024x1792.Idx) :
    Read.val_main_v50 (F := Ideal) g v old i = V0 g v old i := by
  by_cases h : (i 0).val = 0
  · refine Eq.trans ?_ (first_new h _ _).symm
    have hi : i = ix3 0 (i 1) (i 2) := at_first i h
    rw [hi]
    pointwise [
      Read.val_main_cst_1, Read.val_main_v12, Read.val_main_v5, Read.val_main_v6, Read.val_main_v13,
      Read.val_main_cst_2, Read.val_main_v15, Read.val_main_v0, Read.val_main_v14, Read.val_main_v16,
      Read.val_main_v17, Read.val_main_v48, Read.val_main_v46, Read.val_main_v47, Read.val_main_v49,
      Read.val_main_v50]
    rfl
  · refine Eq.trans ?_ (first_old h _ _).symm
    have hi : i = ix3 1 (i 1) (i 2) := at_second i h
    rw [hi]
    pointwise [
      Read.val_main_cst_1, Read.val_main_v12, Read.val_main_v5, Read.val_main_v6, Read.val_main_v13,
      Read.val_main_cst_2, Read.val_main_v15, Read.val_main_v0, Read.val_main_v14, Read.val_main_v16,
      Read.val_main_v17, Read.val_main_v48, Read.val_main_v46, Read.val_main_v47, Read.val_main_v49,
      Read.val_main_v50]

theorem ref_g1 (g : Vec Ideal S512x1024 .bf16) (old : Vec Ideal S2x512x1024 .f32) (i : S2x512x1024.Idx) :
    Read.val_main_v86 (F := Ideal) g old i = G1 g old i := by
  by_cases h : (i 0).val = 0
  · refine Eq.trans ?_ (first_new h _ _).symm
    have hi : i = ix3 0 (i 1) (i 2) := at_first i h
    rw [hi]
    pointwise [
      Read.val_main_v51, Read.val_main_v84, Read.val_main_v82, Read.val_main_v83, Read.val_main_v85,
      Read.val_main_v86]
  · refine Eq.trans ?_ (first_old h _ _).symm
    have hi : i = ix3 1 (i 1) (i 2) := at_second i h
    rw [hi]
    pointwise [
      Read.val_main_v51, Read.val_main_v84, Read.val_main_v82, Read.val_main_v83, Read.val_main_v85,
      Read.val_main_v86]

theorem ref_d1 (w : Vec Ideal S2x512x1024 .f32) (g : Vec Ideal S512x1024 .bf16) (mm : Vec Ideal S2x512x1024 .f32) (v : Vec Ideal S2x512x1024 .f32) (old : Vec Ideal S2x512x1024 .f32) (i : S2x512x1024.Idx) :
    Read.val_main_v91 (F := Ideal) w g mm v old i = D1 w g mm v old i := by
  by_cases h : (i 0).val = 0
  · refine Eq.trans ?_ (first_new h _ _).symm
    have hi : i = ix3 0 (i 1) (i 2) := at_first i h
    rw [hi]
    pointwise [
      Read.val_main_cst_16, Read.val_main_v80, Read.val_main_cst_8, Read.val_main_v58, Read.val_main_v54,
      Read.val_main_v55, Read.val_main_v59, Read.val_main_cst_9, Read.val_main_v60, Read.val_main_v51,
      Read.val_main_v61, Read.val_main_v62, Read.val_main_cst_12, Read.val_main_v69, Read.val_main_v70,
      Read.val_main_cst_10, Read.val_main_v63, Read.val_main_v56, Read.val_main_v57, Read.val_main_v64,
      Read.val_main_cst_11, Read.val_main_v66, Read.val_main_v65, Read.val_main_v67, Read.val_main_v68,
      Read.val_main_cst_13, Read.val_main_v71, Read.val_main_v72, Read.val_main_v73, Read.val_main_cst_14,
      Read.val_main_v74, Read.val_main_v75, Read.val_main_v76, Read.val_main_cst_15, Read.val_main_v77,
      Read.val_main_v52, Read.val_main_v53, Read.val_main_v78, Read.val_main_v79, Read.val_main_v81,
      Read.val_main_v89, Read.val_main_v87, Read.val_main_v88, Read.val_main_v90, Read.val_main_v91]
    rfl
  · refine Eq.trans ?_ (first_old h _ _).symm
    have hi : i = ix3 1 (i 1) (i 2) := at_second i h
    rw [hi]
    pointwise [
      Read.val_main_cst_16, Read.val_main_v80, Read.val_main_cst_8, Read.val_main_v58, Read.val_main_v54,
      Read.val_main_v55, Read.val_main_v59, Read.val_main_cst_9, Read.val_main_v60, Read.val_main_v51,
      Read.val_main_v61, Read.val_main_v62, Read.val_main_cst_12, Read.val_main_v69, Read.val_main_v70,
      Read.val_main_cst_10, Read.val_main_v63, Read.val_main_v56, Read.val_main_v57, Read.val_main_v64,
      Read.val_main_cst_11, Read.val_main_v66, Read.val_main_v65, Read.val_main_v67, Read.val_main_v68,
      Read.val_main_cst_13, Read.val_main_v71, Read.val_main_v72, Read.val_main_v73, Read.val_main_cst_14,
      Read.val_main_v74, Read.val_main_v75, Read.val_main_v76, Read.val_main_cst_15, Read.val_main_v77,
      Read.val_main_v52, Read.val_main_v53, Read.val_main_v78, Read.val_main_v79, Read.val_main_v81,
      Read.val_main_v89, Read.val_main_v87, Read.val_main_v88, Read.val_main_v90, Read.val_main_v91]

theorem ref_m1 (g : Vec Ideal S512x1024 .bf16) (mm : Vec Ideal S2x512x1024 .f32) (old : Vec Ideal S2x512x1024 .f32) (i : S2x512x1024.Idx) :
    Read.val_main_v96 (F := Ideal) g mm old i = M1 g mm old i := by
  by_cases h : (i 0).val = 0
  · refine Eq.trans ?_ (first_new h _ _).symm
    have hi : i = ix3 0 (i 1) (i 2) := at_first i h
    rw [hi]
    pointwise [
      Read.val_main_cst_8, Read.val_main_v58, Read.val_main_v54, Read.val_main_v55, Read.val_main_v59,
      Read.val_main_cst_9, Read.val_main_v60, Read.val_main_v51, Read.val_main_v61, Read.val_main_v62,
      Read.val_main_v94, Read.val_main_v92, Read.val_main_v93, Read.val_main_v95, Read.val_main_v96]
    rfl
  · refine Eq.trans ?_ (first_old h _ _).symm
    have hi : i = ix3 1 (i 1) (i 2) := at_second i h
    rw [hi]
    pointwise [
      Read.val_main_cst_8, Read.val_main_v58, Read.val_main_v54, Read.val_main_v55, Read.val_main_v59,
      Read.val_main_cst_9, Read.val_main_v60, Read.val_main_v51, Read.val_main_v61, Read.val_main_v62,
      Read.val_main_v94, Read.val_main_v92, Read.val_main_v93, Read.val_main_v95, Read.val_main_v96]

theorem ref_v1 (g : Vec Ideal S512x1024 .bf16) (v : Vec Ideal S2x512x1024 .f32) (old : Vec Ideal S2x512x1024 .f32) (i : S2x512x1024.Idx) :
    Read.val_main_v101 (F := Ideal) g v old i = V1 g v old i := by
  by_cases h : (i 0).val = 0
  · refine Eq.trans ?_ (first_new h _ _).symm
    have hi : i = ix3 0 (i 1) (i 2) := at_first i h
    rw [hi]
    pointwise [
      Read.val_main_cst_10, Read.val_main_v63, Read.val_main_v56, Read.val_main_v57, Read.val_main_v64,
      Read.val_main_cst_11, Read.val_main_v66, Read.val_main_v51, Read.val_main_v65, Read.val_main_v67,
      Read.val_main_v68, Read.val_main_v99, Read.val_main_v97, Read.val_main_v98, Read.val_main_v100,
      Read.val_main_v101]
    rfl
  · refine Eq.trans ?_ (first_old h _ _).symm
    have hi : i = ix3 1 (i 1) (i 2) := at_second i h
    rw [hi]
    pointwise [
      Read.val_main_cst_10, Read.val_main_v63, Read.val_main_v56, Read.val_main_v57, Read.val_main_v64,
      Read.val_main_cst_11, Read.val_main_v66, Read.val_main_v51, Read.val_main_v65, Read.val_main_v67,
      Read.val_main_v68, Read.val_main_v99, Read.val_main_v97, Read.val_main_v98, Read.val_main_v100,
      Read.val_main_v101]

end Cert.AdamwEvenRefIdeal.Final

namespace Cert.Proof.AdamwEvenClaims

theorem frame_k : Cert.quiescent_AdamwEven := fun m g _ => Cert.AdamwEven.Gen.frame m g
theorem frame_ki : Cert.quiescent_AdamwEvenIdeal := fun m g _ => Cert.AdamwEvenIdeal.Gen.frame m g
theorem frame_ri : Cert.quiescent_AdamwEvenRefIdeal := fun m g _ =>
  (θ_run Cert.AdamwEvenRefIdeal.defs _ _).mono (fun r h => ⟨fun c => (h c).2.2.2.2.2.2.2.2, Idealize.ShloMosaic.sem_eq_zero_of_no_sems (by decide) r.2⟩)
    (Cert.AdamwEvenRefIdeal.Value.run (F := Ideal) m g)
theorem preserves : Cert.preserves_AdamwEven_AdamwEvenIdeal := trivial

/-- At the extended reals the kernel's results and the reference's are equal at every index. -/
theorem algebraic : Cert.algebraic_AdamwEvenIdeal_AdamwEvenRefIdeal := by
  intro m g m' g' _ h
  refine ⟨fun c => Cert.AdamwEvenIdeal.Final.G0 (m ((c.tc : Thread Cert.AdamwEvenIdeal.nD Cert.AdamwEvenIdeal.τ).loc Cert.AdamwEvenIdeal.main_arg1)) (m ((c.tc : Thread Cert.AdamwEvenIdeal.nD Cert.AdamwEvenIdeal.τ).loc Cert.AdamwEvenIdeal.main_arg4)),
    fun c => Cert.AdamwEvenIdeal.Final.D0 (m ((c.tc : Thread Cert.AdamwEvenIdeal.nD Cert.AdamwEvenIdeal.τ).loc Cert.AdamwEvenIdeal.main_arg0)) (m ((c.tc : Thread Cert.AdamwEvenIdeal.nD Cert.AdamwEvenIdeal.τ).loc Cert.AdamwEvenIdeal.main_arg1)) (m ((c.tc : Thread Cert.AdamwEvenIdeal.nD Cert.AdamwEvenIdeal.τ).loc Cert.AdamwEvenIdeal.main_arg2)) (m ((c.tc : Thread Cert.AdamwEvenIdeal.nD Cert.AdamwEvenIdeal.τ).loc Cert.AdamwEvenIdeal.main_arg3)) (m ((c.tc : Thread Cert.AdamwEvenIdeal.nD Cert.AdamwEvenIdeal.τ).loc Cert.AdamwEvenIdeal.main_arg5)),
    fun c => Cert.AdamwEvenIdeal.Final.M0 (m ((c.tc : Thread Cert.AdamwEvenIdeal.nD Cert.AdamwEvenIdeal.τ).loc Cert.AdamwEvenIdeal.main_arg1)) (m ((c.tc : Thread Cert.AdamwEvenIdeal.nD Cert.AdamwEvenIdeal.τ).loc Cert.AdamwEvenIdeal.main_arg2)) (m ((c.tc : Thread Cert.AdamwEvenIdeal.nD Cert.AdamwEvenIdeal.τ).loc Cert.AdamwEvenIdeal.main_arg6)),
    fun c => Cert.AdamwEvenIdeal.Final.V0 (m ((c.tc : Thread Cert.AdamwEvenIdeal.nD Cert.AdamwEvenIdeal.τ).loc Cert.AdamwEvenIdeal.main_arg1)) (m ((c.tc : Thread Cert.AdamwEvenIdeal.nD Cert.AdamwEvenIdeal.τ).loc Cert.AdamwEvenIdeal.main_arg3)) (m ((c.tc : Thread Cert.AdamwEvenIdeal.nD Cert.AdamwEvenIdeal.τ).loc Cert.AdamwEvenIdeal.main_arg7)),
    fun c => Cert.AdamwEvenIdeal.Final.G1 (m ((c.tc : Thread Cert.AdamwEvenIdeal.nD Cert.AdamwEvenIdeal.τ).loc Cert.AdamwEvenIdeal.main_arg9)) (m ((c.tc : Thread Cert.AdamwEvenIdeal.nD Cert.AdamwEvenIdeal.τ).loc Cert.AdamwEvenIdeal.main_arg12)),
    fun c => Cert.AdamwEvenIdeal.Final.D1 (m ((c.tc : Thread Cert.AdamwEvenIdeal.nD Cert.AdamwEvenIdeal.τ).loc Cert.AdamwEvenIdeal.main_arg8)) (m ((c.tc : Thread Cert.AdamwEvenIdeal.nD Cert.AdamwEvenIdeal.τ).loc Cert.AdamwEvenIdeal.main_arg9)) (m ((c.tc : Thread Cert.AdamwEvenIdeal.nD Cert.AdamwEvenIdeal.τ).loc Cert.AdamwEvenIdeal.main_arg10)) (m ((c.tc : Thread Cert.AdamwEvenIdeal.nD Cert.AdamwEvenIdeal.τ).loc Cert.AdamwEvenIdeal.main_arg11)) (m ((c.tc : Thread Cert.AdamwEvenIdeal.nD Cert.AdamwEvenIdeal.τ).loc Cert.AdamwEvenIdeal.main_arg13)),
    fun c => Cert.AdamwEvenIdeal.Final.M1 (m ((c.tc : Thread Cert.AdamwEvenIdeal.nD Cert.AdamwEvenIdeal.τ).loc Cert.AdamwEvenIdeal.main_arg9)) (m ((c.tc : Thread Cert.AdamwEvenIdeal.nD Cert.AdamwEvenIdeal.τ).loc Cert.AdamwEvenIdeal.main_arg10)) (m ((c.tc : Thread Cert.AdamwEvenIdeal.nD Cert.AdamwEvenIdeal.τ).loc Cert.AdamwEvenIdeal.main_arg14)),
    fun c => Cert.AdamwEvenIdeal.Final.V1 (m ((c.tc : Thread Cert.AdamwEvenIdeal.nD Cert.AdamwEvenIdeal.τ).loc Cert.AdamwEvenIdeal.main_arg9)) (m ((c.tc : Thread Cert.AdamwEvenIdeal.nD Cert.AdamwEvenIdeal.τ).loc Cert.AdamwEvenIdeal.main_arg11)) (m ((c.tc : Thread Cert.AdamwEvenIdeal.nD Cert.AdamwEvenIdeal.τ).loc Cert.AdamwEvenIdeal.main_arg15)), ?_, ?_⟩
  · exact (θ_run Cert.AdamwEvenIdeal.defs _ _).mono (fun _ h c => ⟨(h c).1.trans (Cert.AdamwEvenIdeal.Final.final8 m c),
        (h c).2.1.trans (Cert.AdamwEvenIdeal.Final.final9 m c),
        (h c).2.2.1.trans (Cert.AdamwEvenIdeal.Final.final10 m c),
        (h c).2.2.2.1.trans (Cert.AdamwEvenIdeal.Final.final11 m c),
        (h c).2.2.2.2.1.trans (Cert.AdamwEvenIdeal.Final.final12 m c),
        (h c).2.2.2.2.2.1.trans (Cert.AdamwEvenIdeal.Final.final13 m c),
        (h c).2.2.2.2.2.2.1.trans (Cert.AdamwEvenIdeal.Final.final14 m c),
        (h c).2.2.2.2.2.2.2.1.trans (Cert.AdamwEvenIdeal.Final.final15 m c), (h c).2.2.2.2.2.2.2.2⟩)
      (Cert.AdamwEvenIdeal.Value.run_blocks (F := Ideal) m g)
  refine (θ_run Cert.AdamwEvenRefIdeal.defs _ _).mono (fun _ h' c => ⟨(h' c).1.trans ?_,
      (h' c).2.1.trans ?_,
      (h' c).2.2.1.trans ?_,
      (h' c).2.2.2.1.trans ?_,
      (h' c).2.2.2.2.1.trans ?_,
      (h' c).2.2.2.2.2.1.trans ?_,
      (h' c).2.2.2.2.2.2.1.trans ?_,
      (h' c).2.2.2.2.2.2.2.1.trans ?_, (h' c).2.2.2.2.2.2.2.2⟩)
    (Cert.AdamwEvenRefIdeal.Value.run (F := Ideal) m' g')
  · refine (Cert.AdamwEvenRefIdeal.Read.val_main_v35_eq _ _).trans ((funext (Cert.AdamwEvenRefIdeal.Final.ref_g0 _ _)).trans ?_)
    rw [(h c).2.1, (h c).2.2.2.2.1]
  · refine (Cert.AdamwEvenRefIdeal.Read.val_main_v40_eq _ _ _ _ _).trans ((funext (Cert.AdamwEvenRefIdeal.Final.ref_d0 _ _ _ _ _)).trans ?_)
    rw [(h c).1, (h c).2.1, (h c).2.2.1, (h c).2.2.2.1, (h c).2.2.2.2.2.1]
  · refine (Cert.AdamwEvenRefIdeal.Read.val_main_v45_eq _ _ _).trans ((funext (Cert.AdamwEvenRefIdeal.Final.ref_m0 _ _ _)).trans ?_)
    rw [(h c).2.1, (h c).2.2.1, (h c).2.2.2.2.2.2.1]
  · refine (Cert.AdamwEvenRefIdeal.Read.val_main_v50_eq _ _ _).trans ((funext (Cert.AdamwEvenRefIdeal.Final.ref_v0 _ _ _)).trans ?_)
    rw [(h c).2.1, (h c).2.2.2.1, (h c).2.2.2.2.2.2.2.1]
  · refine (Cert.AdamwEvenRefIdeal.Read.val_main_v86_eq _ _).trans ((funext (Cert.AdamwEvenRefIdeal.Final.ref_g1 _ _)).trans ?_)
    rw [(h c).2.2.2.2.2.2.2.2.2.1, (h c).2.2.2.2.2.2.2.2.2.2.2.2.1]
  · refine (Cert.AdamwEvenRefIdeal.Read.val_main_v91_eq _ _ _ _ _).trans ((funext (Cert.AdamwEvenRefIdeal.Final.ref_d1 _ _ _ _ _)).trans ?_)
    rw [(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.2.1]
  · refine (Cert.AdamwEvenRefIdeal.Read.val_main_v96_eq _ _ _).trans ((funext (Cert.AdamwEvenRefIdeal.Final.ref_m1 _ _ _)).trans ?_)
    rw [(h c).2.2.2.2.2.2.2.2.2.1, (h c).2.2.2.2.2.2.2.2.2.2.1, (h c).2.2.2.2.2.2.2.2.2.2.2.2.2.2.1]
  · refine (Cert.AdamwEvenRefIdeal.Read.val_main_v101_eq _ _ _).trans ((funext (Cert.AdamwEvenRefIdeal.Final.ref_v1 _ _ _)).trans ?_)
    rw [(h c).2.2.2.2.2.2.2.2.2.1, (h c).2.2.2.2.2.2.2.2.2.2.2.1, (h c).2.2.2.2.2.2.2.2.2.2.2.2.2.2.2]

end Cert.Proof.AdamwEvenClaims

end
-- ==== Proof.AdamwOdd.lean ====
/-
  The AdamW step of one layer of the mixing blocks' weights: layer 0 of each array takes the step, layer 1 keeps what the
  array given held. Each grid point takes an eighth of the rows, entry by entry; the reference takes the step of the
  whole layer and stacks the kept layer under it.
-/
module

public import proofs.«01_k».proof.Defs
public import proofs.«01_k».proof.Proof.AdamStep
public import proofs.«01_k».proof.Proof.Gen.AdamwOdd
public import proofs.«01_k».proof.Proof.Gen.AdamwOdd.Frame
public import proofs.«01_k».proof.Proof.Gen.AdamwOddIdeal
public import proofs.«01_k».proof.Proof.Gen.AdamwOddIdeal.Frame
public import proofs.«01_k».proof.Proof.Gen.AdamwOddIdeal.Value
public import proofs.«01_k».proof.Proof.Gen.AdamwOddRefIdeal
public import proofs.«01_k».proof.Proof.Gen.AdamwOddRefIdeal.Run
public import proofs.«01_k».proof.Proof.Gen.AdamwOddRefIdeal.Read
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamwOddIdeal.Final

open Cert.AdamwOddIdeal Cert.AdamwOddIdeal.Gen Cert.Adam

variable (m : (ℓ : Loc nD τ sig) → Buf (Elt Ideal) ℓ)

/-! ### The weight of 1024 rows and 1024 columns -/

/-- The gradient's entry, the new first moment's, the new second moment's and the step's, in the first layer. -/
def G0 (g : S1024x1024.Idx → EReal) (old : S2x1024x1024.Idx → EReal) : S2x1024x1024.Idx → EReal := fun i =>
  first (i 0).val (g (ix2 (i 1) (i 2))) (old i)
def D0 (w : S2x1024x1024.Idx → EReal) (g : S1024x1024.Idx → EReal) (mm v old : S2x1024x1024.Idx → EReal) : S2x1024x1024.Idx → EReal := fun i =>
  first (i 0).val (delta (w i) (mm i) (v i) (g (ix2 (i 1) (i 2)))) (old i)
def M0 (g : S1024x1024.Idx → EReal) (mm old : S2x1024x1024.Idx → EReal) : S2x1024x1024.Idx → EReal := fun i =>
  first (i 0).val (newM (mm i) (g (ix2 (i 1) (i 2)))) (old i)
def V0 (g : S1024x1024.Idx → EReal) (v old : S2x1024x1024.Idx → EReal) : S2x1024x1024.Idx → EReal := fun i =>
  first (i 0).val (newV (v i) (g (ix2 (i 1) (i 2)))) (old i)

theorem G0_old (g : S1024x1024.Idx → EReal) (old : S2x1024x1024.Idx → EReal) (i : S2x1024x1024.Idx) (h : ¬ (i 0).val = 0) :
    G0 g old i = old i := first_old h _ _
theorem D0_old (w : S2x1024x1024.Idx → EReal) (g : S1024x1024.Idx → EReal) (mm v old : S2x1024x1024.Idx → EReal) (i : S2x1024x1024.Idx) (h : ¬ (i 0).val = 0) :
    D0 w g mm v old i = old i := first_old h _ _
theorem M0_old (g : S1024x1024.Idx → EReal) (mm old : S2x1024x1024.Idx → EReal) (i : S2x1024x1024.Idx) (h : ¬ (i 0).val = 0) :
    M0 g mm old i = old i := first_old h _ _
theorem V0_old (g : S1024x1024.Idx → EReal) (v old : S2x1024x1024.Idx → EReal) (i : S2x1024x1024.Idx) (h : ¬ (i 0).val = 0) :
    V0 g v old i = old i := first_old h _ _

theorem pay_g0 (g : Vec Ideal S128x1024 .bf16) (j : S1x128x1024.Idx) :
    k0_pay2 g j = g (ix2 (j 1) (j 2)) := by
  pointwise [k0_pay1, k0_pay2, k0_pay3, k0_pay4, k0_pay5, k0_pay6, k0_pay7, k0_pay8]

theorem pay_d0 (w mm v : Vec Ideal S1x128x1024 .f32) (g : Vec Ideal S128x1024 .bf16) (j : S1x128x1024.Idx) :
    k0_pay6 (k0_pay5 g w mm v) j = delta (w j) (mm j) (v j) (g (ix2 (j 1) (j 2))) := by
  pointwise [k0_pay1, k0_pay2, k0_pay3, k0_pay4, k0_pay5, k0_pay6, k0_pay7, k0_pay8]
  rfl

theorem pay_m0 (mm : Vec Ideal S1x128x1024 .f32) (g : Vec Ideal S128x1024 .bf16) (j : S1x128x1024.Idx) :
    k0_pay7 (k0_pay3 g mm) j = newM (mm j) (g (ix2 (j 1) (j 2))) := by
  pointwise [k0_pay1, k0_pay2, k0_pay3, k0_pay4, k0_pay5, k0_pay6, k0_pay7, k0_pay8]
  rfl

theorem pay_v0 (v : Vec Ideal S1x128x1024 .f32) (g : Vec Ideal S128x1024 .bf16) (j : S1x128x1024.Idx) :
    k0_pay8 (k0_pay4 g v) j = newV (v j) (g (ix2 (j 1) (j 2))) := by
  pointwise [k0_pay1, k0_pay2, k0_pay3, k0_pay4, k0_pay5, k0_pay6, k0_pay7, k0_pay8]
  rfl

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, t.val, 0] :=
  (by decide +kernel : ∀ t : Fin grid0.N, win0_2.index t = ![0, t.val, 0])
theorem idx3 : ∀ t : Fin cfg0.N, win0_3.index t = ![0, t.val, 0] :=
  (by decide +kernel : ∀ t : Fin grid0.N, win0_3.index t = ![0, t.val, 0])
theorem idx12 : ∀ t : Fin cfg0.N, win0_12.index t = ![0, t.val, 0] :=
  (by decide +kernel : ∀ t : Fin grid0.N, win0_12.index t = ![0, t.val, 0])
theorem idx13 : ∀ t : Fin cfg0.N, win0_13.index t = ![0, t.val, 0] :=
  (by decide +kernel : ∀ t : Fin grid0.N, win0_13.index t = ![0, t.val, 0])
theorem idx14 : ∀ t : Fin cfg0.N, win0_14.index t = ![0, t.val, 0] :=
  (by decide +kernel : ∀ t : Fin grid0.N, win0_14.index t = ![0, t.val, 0])
theorem idx15 : ∀ t : Fin cfg0.N, win0_15.index t = ![0, t.val, 0] :=
  (by decide +kernel : ∀ t : Fin grid0.N, win0_15.index t = ![0, t.val, 0])

/-- Outside the first layer the result is what the array given held. -/
theorem old12 (c : Dev nD) (j : (cfg0.win 12).shape.Idx) (hj : ¬ (cfg0.win 12).cell j (0 : Fin _) = 0) :
    (dats m 0 c).A 12 ((cfg0.win 12).arr.view.emb j) = G0 (m ((c : Thread nD τ).loc main_arg1)) (m ((c : Thread nD τ).loc main_arg4)) ((cfg0.win 12).arr.view.emb j) := by
  have h0 : ¬ ((cfg0.win 12).arr.view.emb j 0).val = 0 := by
    intro h
    refine hj ?_
    blk_simp [Pipeline.Window.cell_apply] at h ⊢
    omega
  refine Eq.trans ?_ (G0_old _ _ _ h0).symm
  rw [A_eq]
  show V m c main_v0_0 _ = _
  unfold V
  after_results
  rfl

theorem final12 (c : Dev nD) : (dats m 0 c).arrAt 12 cfg0.N = G0 (m ((c : Thread nD τ).loc main_arg1)) (m ((c : Thread nD τ).loc main_arg4)) := by
  refine (dats m 0 c).arrAt_eq_of_coversWhere_of_agree 12 _ (fun β => β (0 : Fin _) = 0) (by decide +kernel)
    (fun t hf y => ?_) (fun j hj => ?_)
  · blk_simp
    rw [after0_12]
    dsimp only [outsAt0]
    frame_out
    rw [pay_g0]
    refine Eq.trans ?_ (first_new (by blk_simp [idx12]; try omega) _ _).symm
    blk_ext [iblk, V_main_arg1, idx1, idx12]
  · exact old12 m c j hj

/-- Outside the first layer the result is what the array given held. -/
theorem old13 (c : Dev nD) (j : (cfg0.win 13).shape.Idx) (hj : ¬ (cfg0.win 13).cell j (0 : Fin _) = 0) :
    (dats m 0 c).A 13 ((cfg0.win 13).arr.view.emb j) = D0 (m ((c : Thread nD τ).loc main_arg0)) (m ((c : Thread nD τ).loc main_arg1)) (m ((c : Thread nD τ).loc main_arg2)) (m ((c : Thread nD τ).loc main_arg3)) (m ((c : Thread nD τ).loc main_arg5)) ((cfg0.win 13).arr.view.emb j) := by
  have h0 : ¬ ((cfg0.win 13).arr.view.emb j 0).val = 0 := by
    intro h
    refine hj ?_
    blk_simp [Pipeline.Window.cell_apply] at h ⊢
    omega
  refine Eq.trans ?_ (D0_old _ _ _ _ _ _ h0).symm
  rw [A_eq]
  show V m c main_v0_1 _ = _
  unfold V
  after_results
  rfl

set_option maxHeartbeats 1000000 in
theorem final13 (c : Dev nD) : (dats m 0 c).arrAt 13 cfg0.N = D0 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 13 _ (fun β => β (0 : Fin _) = 0) (by decide +kernel)
    (fun t hf y => ?_) (fun j hj => ?_)
  · blk_simp
    rw [after0_13]
    frame_out
    rw [pay_d0]
    refine Eq.trans ?_ (first_new (by blk_simp [idx13]; try omega) _ _).symm
    refine congr4 delta ?_ ?_ ?_ ?_
    · blk_ext [iblk, V_main_arg0, idx0, idx13]
    · blk_ext [iblk, V_main_arg2, idx2, idx13]
    · blk_ext [iblk, V_main_arg3, idx3, idx13]
    · blk_ext [iblk, V_main_arg1, idx1, idx13]
  · exact old13 m c j hj

/-- Outside the first layer the result is what the array given held. -/
theorem old14 (c : Dev nD) (j : (cfg0.win 14).shape.Idx) (hj : ¬ (cfg0.win 14).cell j (0 : Fin _) = 0) :
    (dats m 0 c).A 14 ((cfg0.win 14).arr.view.emb j) = M0 (m ((c : Thread nD τ).loc main_arg1)) (m ((c : Thread nD τ).loc main_arg2)) (m ((c : Thread nD τ).loc main_arg6)) ((cfg0.win 14).arr.view.emb j) := by
  have h0 : ¬ ((cfg0.win 14).arr.view.emb j 0).val = 0 := by
    intro h
    refine hj ?_
    blk_simp [Pipeline.Window.cell_apply] at h ⊢
    omega
  refine Eq.trans ?_ (M0_old _ _ _ _ h0).symm
  rw [A_eq]
  show V m c main_v0_2 _ = _
  unfold V
  after_results
  rfl

theorem final14 (c : Dev nD) : (dats m 0 c).arrAt 14 cfg0.N = M0 (m ((c : Thread nD τ).loc main_arg1)) (m ((c : Thread nD τ).loc main_arg2)) (m ((c : Thread nD τ).loc main_arg6)) := by
  refine (dats m 0 c).arrAt_eq_of_coversWhere_of_agree 14 _ (fun β => β (0 : Fin _) = 0) (by decide +kernel)
    (fun t hf y => ?_) (fun j hj => ?_)
  · blk_simp
    rw [after0_14]
    frame_out
    rw [pay_m0]
    refine Eq.trans ?_ (first_new (by blk_simp [idx14]; try omega) _ _).symm
    refine congrArg₂ newM ?_ ?_
    · blk_ext [iblk, V_main_arg2, idx2, idx14]
    · blk_ext [iblk, V_main_arg1, idx1, idx14]
  · exact old14 m c j hj

/-- Outside the first layer the result is what the array given held. -/
theorem old15 (c : Dev nD) (j : (cfg0.win 15).shape.Idx) (hj : ¬ (cfg0.win 15).cell j (0 : Fin _) = 0) :
    (dats m 0 c).A 15 ((cfg0.win 15).arr.view.emb j) = V0 (m ((c : Thread nD τ).loc main_arg1)) (m ((c : Thread nD τ).loc main_arg3)) (m ((c : Thread nD τ).loc main_arg7)) ((cfg0.win 15).arr.view.emb j) := by
  have h0 : ¬ ((cfg0.win 15).arr.view.emb j 0).val = 0 := by
    intro h
    refine hj ?_
    blk_simp [Pipeline.Window.cell_apply] at h ⊢
    omega
  refine Eq.trans ?_ (V0_old _ _ _ _ h0).symm
  rw [A_eq]
  show V m c main_v0_3 _ = _
  unfold V
  after_results
  rfl

theorem final15 (c : Dev nD) : (dats m 0 c).arrAt 15 cfg0.N = V0 (m ((c : Thread nD τ).loc main_arg1)) (m ((c : Thread nD τ).loc main_arg3)) (m ((c : Thread nD τ).loc main_arg7)) := by
  refine (dats m 0 c).arrAt_eq_of_coversWhere_of_agree 15 _ (fun β => β (0 : Fin _) = 0) (by decide +kernel)
    (fun t hf y => ?_) (fun j hj => ?_)
  · blk_simp
    rw [after0_15]
    frame_out
    rw [pay_v0]
    refine Eq.trans ?_ (first_new (by blk_simp [idx15]; try omega) _ _).symm
    refine congrArg₂ newV ?_ ?_
    · blk_ext [iblk, V_main_arg3, idx3, idx15]
    · blk_ext [iblk, V_main_arg1, idx1, idx15]
  · exact old15 m c j hj

/-! ### The weight of 512 rows and 512 columns -/

/-- The gradient's entry, the new first moment's, the new second moment's and the step's, in the first layer. -/
def G1 (g : S512x512.Idx → EReal) (old : S2x512x512.Idx → EReal) : S2x512x512.Idx → EReal := fun i =>
  first (i 0).val (g (ix2 (i 1) (i 2))) (old i)
def D1 (w : S2x512x512.Idx → EReal) (g : S512x512.Idx → EReal) (mm v old : S2x512x512.Idx → EReal) : S2x512x512.Idx → EReal := fun i =>
  first (i 0).val (delta (w i) (mm i) (v i) (g (ix2 (i 1) (i 2)))) (old i)
def M1 (g : S512x512.Idx → EReal) (mm old : S2x512x512.Idx → EReal) : S2x512x512.Idx → EReal := fun i =>
  first (i 0).val (newM (mm i) (g (ix2 (i 1) (i 2)))) (old i)
def V1 (g : S512x512.Idx → EReal) (v old : S2x512x512.Idx → EReal) : S2x512x512.Idx → EReal := fun i =>
  first (i 0).val (newV (v i) (g (ix2 (i 1) (i 2)))) (old i)

theorem G1_old (g : S512x512.Idx → EReal) (old : S2x512x512.Idx → EReal) (i : S2x512x512.Idx) (h : ¬ (i 0).val = 0) :
    G1 g old i = old i := first_old h _ _
theorem D1_old (w : S2x512x512.Idx → EReal) (g : S512x512.Idx → EReal) (mm v old : S2x512x512.Idx → EReal) (i : S2x512x512.Idx) (h : ¬ (i 0).val = 0) :
    D1 w g mm v old i = old i := first_old h _ _
theorem M1_old (g : S512x512.Idx → EReal) (mm old : S2x512x512.Idx → EReal) (i : S2x512x512.Idx) (h : ¬ (i 0).val = 0) :
    M1 g mm old i = old i := first_old h _ _
theorem V1_old (g : S512x512.Idx → EReal) (v old : S2x512x512.Idx → EReal) (i : S2x512x512.Idx) (h : ¬ (i 0).val = 0) :
    V1 g v old i = old i := first_old h _ _

theorem pay_g1 (g : Vec Ideal S64x512 .bf16) (j : S1x64x512.Idx) :
    k0_pay10 g j = g (ix2 (j 1) (j 2)) := by
  pointwise [k0_pay9, k0_pay10, k0_pay11, k0_pay12, k0_pay13, k0_pay14, k0_pay15, k0_pay16, k0_pay17, k0_pay18, k0_pay19]

theorem pay_d1 (w mm v : Vec Ideal S1x64x512 .f32) (g : Vec Ideal S64x512 .bf16) (j : S1x64x512.Idx) :
    k0_pay17 (k0_pay11 w) (k0_pay12 g mm) (k0_pay13 v) (k0_pay14 g) (k0_pay15 (F := Ideal)) j = delta (w j) (mm j) (v j) (g (ix2 (j 1) (j 2))) := by
  pointwise [k0_pay9, k0_pay10, k0_pay11, k0_pay12, k0_pay13, k0_pay14, k0_pay15, k0_pay16, k0_pay17, k0_pay18, k0_pay19]
  rfl

theorem pay_m1 (mm : Vec Ideal S1x64x512 .f32) (g : Vec Ideal S64x512 .bf16) (j : S1x64x512.Idx) :
    k0_pay18 (k0_pay12 g mm) j = newM (mm j) (g (ix2 (j 1) (j 2))) := by
  pointwise [k0_pay9, k0_pay10, k0_pay11, k0_pay12, k0_pay13, k0_pay14, k0_pay15, k0_pay16, k0_pay17, k0_pay18, k0_pay19]
  rfl

theorem pay_v1 (v : Vec Ideal S1x64x512 .f32) (g : Vec Ideal S64x512 .bf16) (j : S1x64x512.Idx) :
    k0_pay19 (k0_pay13 v) (k0_pay14 g) (k0_pay15 (F := Ideal)) j = newV (v j) (g (ix2 (j 1) (j 2))) := by
  pointwise [k0_pay9, k0_pay10, k0_pay11, k0_pay12, k0_pay13, k0_pay14, k0_pay15, k0_pay16, k0_pay17, k0_pay18, k0_pay19]
  rfl

theorem idx4 : ∀ t : Fin cfg0.N, win0_4.index t = ![0, t.val, 0] :=
  (by decide +kernel : ∀ t : Fin grid0.N, win0_4.index t = ![0, t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![0, t.val, 0] :=
  (by decide +kernel : ∀ t : Fin grid0.N, win0_6.index t = ![0, t.val, 0])
theorem idx7 : ∀ t : Fin cfg0.N, win0_7.index t = ![0, t.val, 0] :=
  (by decide +kernel : ∀ t : Fin grid0.N, win0_7.index t = ![0, t.val, 0])
theorem idx16 : ∀ t : Fin cfg0.N, win0_16.index t = ![0, t.val, 0] :=
  (by decide +kernel : ∀ t : Fin grid0.N, win0_16.index t = ![0, t.val, 0])
theorem idx17 : ∀ t : Fin cfg0.N, win0_17.index t = ![0, t.val, 0] :=
  (by decide +kernel : ∀ t : Fin grid0.N, win0_17.index t = ![0, t.val, 0])
theorem idx18 : ∀ t : Fin cfg0.N, win0_18.index t = ![0, t.val, 0] :=
  (by decide +kernel : ∀ t : Fin grid0.N, win0_18.index t = ![0, t.val, 0])
theorem idx19 : ∀ t : Fin cfg0.N, win0_19.index t = ![0, t.val, 0] :=
  (by decide +kernel : ∀ t : Fin grid0.N, win0_19.index t = ![0, t.val, 0])

/-- Outside the first layer the result is what the array given held. -/
theorem old16 (c : Dev nD) (j : (cfg0.win 16).shape.Idx) (hj : ¬ (cfg0.win 16).cell j (0 : Fin _) = 0) :
    (dats m 0 c).A 16 ((cfg0.win 16).arr.view.emb j) = G1 (m ((c : Thread nD τ).loc main_arg9)) (m ((c : Thread nD τ).loc main_arg12)) ((cfg0.win 16).arr.view.emb j) := by
  have h0 : ¬ ((cfg0.win 16).arr.view.emb j 0).val = 0 := by
    intro h
    refine hj ?_
    blk_simp [Pipeline.Window.cell_apply] at h ⊢
    omega
  refine Eq.trans ?_ (G1_old _ _ _ h0).symm
  rw [A_eq]
  show V m c main_v0_4 _ = _
  unfold V
  after_results
  rfl

theorem final16 (c : Dev nD) : (dats m 0 c).arrAt 16 cfg0.N = G1 (m ((c : Thread nD τ).loc main_arg9)) (m ((c : Thread nD τ).loc main_arg12)) := by
  refine (dats m 0 c).arrAt_eq_of_coversWhere_of_agree 16 _ (fun β => β (0 : Fin _) = 0) (by decide +kernel)
    (fun t hf y => ?_) (fun j hj => ?_)
  · blk_simp
    rw [after0_16]
    frame_out
    rw [pay_g1]
    refine Eq.trans ?_ (first_new (by blk_simp [idx16]; try omega) _ _).symm
    blk_ext [iblk, V_main_arg9, idx5, idx16]
  · exact old16 m c j hj

/-- Outside the first layer the result is what the array given held. -/
theorem old17 (c : Dev nD) (j : (cfg0.win 17).shape.Idx) (hj : ¬ (cfg0.win 17).cell j (0 : Fin _) = 0) :
    (dats m 0 c).A 17 ((cfg0.win 17).arr.view.emb j) = D1 (m ((c : Thread nD τ).loc main_arg8)) (m ((c : Thread nD τ).loc main_arg9)) (m ((c : Thread nD τ).loc main_arg10)) (m ((c : Thread nD τ).loc main_arg11)) (m ((c : Thread nD τ).loc main_arg13)) ((cfg0.win 17).arr.view.emb j) := by
  have h0 : ¬ ((cfg0.win 17).arr.view.emb j 0).val = 0 := by
    intro h
    refine hj ?_
    blk_simp [Pipeline.Window.cell_apply] at h ⊢
    omega
  refine Eq.trans ?_ (D1_old _ _ _ _ _ _ h0).symm
  rw [A_eq]
  show V m c main_v0_5 _ = _
  unfold V
  after_results
  rfl

set_option maxHeartbeats 1000000 in
theorem final17 (c : Dev nD) : (dats m 0 c).arrAt 17 cfg0.N = D1 (m ((c : Thread nD τ).loc main_arg8)) (m ((c : Thread nD τ).loc main_arg9)) (m ((c : Thread nD τ).loc main_arg10)) (m ((c : Thread nD τ).loc main_arg11)) (m ((c : Thread nD τ).loc main_arg13)) := by
  refine (dats m 0 c).arrAt_eq_of_coversWhere_of_agree 17 _ (fun β => β (0 : Fin _) = 0) (by decide +kernel)
    (fun t hf y => ?_) (fun j hj => ?_)
  · blk_simp
    rw [after0_17]
    frame_out
    rw [pay_d1]
    refine Eq.trans ?_ (first_new (by blk_simp [idx17]; try omega) _ _).symm
    refine congr4 delta ?_ ?_ ?_ ?_
    · blk_ext [iblk, V_main_arg8, idx4, idx17]
    · blk_ext [iblk, V_main_arg10, idx6, idx17]
    · blk_ext [iblk, V_main_arg11, idx7, idx17]
    · blk_ext [iblk, V_main_arg9, idx5, idx17]
  · exact old17 m c j hj

/-- Outside the first layer the result is what the array given held. -/
theorem old18 (c : Dev nD) (j : (cfg0.win 18).shape.Idx) (hj : ¬ (cfg0.win 18).cell j (0 : Fin _) = 0) :
    (dats m 0 c).A 18 ((cfg0.win 18).arr.view.emb j) = M1 (m ((c : Thread nD τ).loc main_arg9)) (m ((c : Thread nD τ).loc main_arg10)) (m ((c : Thread nD τ).loc main_arg14)) ((cfg0.win 18).arr.view.emb j) := by
  have h0 : ¬ ((cfg0.win 18).arr.view.emb j 0).val = 0 := by
    intro h
    refine hj ?_
    blk_simp [Pipeline.Window.cell_apply] at h ⊢
    omega
  refine Eq.trans ?_ (M1_old _ _ _ _ h0).symm
  rw [A_eq]
  show V m c main_v0_6 _ = _
  unfold V
  after_results
  rfl

theorem final18 (c : Dev nD) : (dats m 0 c).arrAt 18 cfg0.N = M1 (m ((c : Thread nD τ).loc main_arg9)) (m ((c : Thread nD τ).loc main_arg10)) (m ((c : Thread nD τ).loc main_arg14)) := by
  refine (dats m 0 c).arrAt_eq_of_coversWhere_of_agree 18 _ (fun β => β (0 : Fin _) = 0) (by decide +kernel)
    (fun t hf y => ?_) (fun j hj => ?_)
  · blk_simp
    rw [after0_18]
    frame_out
    rw [pay_m1]
    refine Eq.trans ?_ (first_new (by blk_simp [idx18]; try omega) _ _).symm
    refine congrArg₂ newM ?_ ?_
    · blk_ext [iblk, V_main_arg10, idx6, idx18]
    · blk_ext [iblk, V_main_arg9, idx5, idx18]
  · exact old18 m c j hj

/-- Outside the first layer the result is what the array given held. -/
theorem old19 (c : Dev nD) (j : (cfg0.win 19).shape.Idx) (hj : ¬ (cfg0.win 19).cell j (0 : Fin _) = 0) :
    (dats m 0 c).A 19 ((cfg0.win 19).arr.view.emb j) = V1 (m ((c : Thread nD τ).loc main_arg9)) (m ((c : Thread nD τ).loc main_arg11)) (m ((c : Thread nD τ).loc main_arg15)) ((cfg0.win 19).arr.view.emb j) := by
  have h0 : ¬ ((cfg0.win 19).arr.view.emb j 0).val = 0 := by
    intro h
    refine hj ?_
    blk_simp [Pipeline.Window.cell_apply] at h ⊢
    omega
  refine Eq.trans ?_ (V1_old _ _ _ _ h0).symm
  rw [A_eq]
  show V m c main_v0_7 _ = _
  unfold V
  after_results
  rfl

theorem final19 (c : Dev nD) : (dats m 0 c).arrAt 19 cfg0.N = V1 (m ((c : Thread nD τ).loc main_arg9)) (m ((c : Thread nD τ).loc main_arg11)) (m ((c : Thread nD τ).loc main_arg15)) := by
  refine (dats m 0 c).arrAt_eq_of_coversWhere_of_agree 19 _ (fun β => β (0 : Fin _) = 0) (by decide +kernel)
    (fun t hf y => ?_) (fun j hj => ?_)
  · blk_simp
    rw [after0_19]
    frame_out
    rw [pay_v1]
    refine Eq.trans ?_ (first_new (by blk_simp [idx19]; try omega) _ _).symm
    refine congrArg₂ newV ?_ ?_
    · blk_ext [iblk, V_main_arg11, idx7, idx19]
    · blk_ext [iblk, V_main_arg9, idx5, idx19]
  · exact old19 m c j hj

/-! ### The weight of 512 rows and 1024 columns -/

/-- The gradient's entry, the new first moment's, the new second moment's and the step's, in the first layer. -/
def G2 (g : S512x1024.Idx → EReal) (old : S2x512x1024.Idx → EReal) : S2x512x1024.Idx → EReal := fun i =>
  first (i 0).val (g (ix2 (i 1) (i 2))) (old i)
def D2 (w : S2x512x1024.Idx → EReal) (g : S512x1024.Idx → EReal) (mm v old : S2x512x1024.Idx → EReal) : S2x512x1024.Idx → EReal := fun i =>
  first (i 0).val (delta (w i) (mm i) (v i) (g (ix2 (i 1) (i 2)))) (old i)
def M2 (g : S512x1024.Idx → EReal) (mm old : S2x512x1024.Idx → EReal) : S2x512x1024.Idx → EReal := fun i =>
  first (i 0).val (newM (mm i) (g (ix2 (i 1) (i 2)))) (old i)
def V2 (g : S512x1024.Idx → EReal) (v old : S2x512x1024.Idx → EReal) : S2x512x1024.Idx → EReal := fun i =>
  first (i 0).val (newV (v i) (g (ix2 (i 1) (i 2)))) (old i)

theorem G2_old (g : S512x1024.Idx → EReal) (old : S2x512x1024.Idx → EReal) (i : S2x512x1024.Idx) (h : ¬ (i 0).val = 0) :
    G2 g old i = old i := first_old h _ _
theorem D2_old (w : S2x512x1024.Idx → EReal) (g : S512x1024.Idx → EReal) (mm v old : S2x512x1024.Idx → EReal) (i : S2x512x1024.Idx) (h : ¬ (i 0).val = 0) :
    D2 w g mm v old i = old i := first_old h _ _
theorem M2_old (g : S512x1024.Idx → EReal) (mm old : S2x512x1024.Idx → EReal) (i : S2x512x1024.Idx) (h : ¬ (i 0).val = 0) :
    M2 g mm old i = old i := first_old h _ _
theorem V2_old (g : S512x1024.Idx → EReal) (v old : S2x512x1024.Idx → EReal) (i : S2x512x1024.Idx) (h : ¬ (i 0).val = 0) :
    V2 g v old i = old i := first_old h _ _

theorem pay_g2 (g : Vec Ideal S64x1024 .bf16) (j : S1x64x1024.Idx) :
    k0_pay21 g j = g (ix2 (j 1) (j 2)) := by
  pointwise [k0_pay20, k0_pay21, k0_pay22, k0_pay23, k0_pay24, k0_pay25, k0_pay26, k0_pay27]

theorem pay_d2 (w mm v : Vec Ideal S1x64x1024 .f32) (g : Vec Ideal S64x1024 .bf16) (j : S1x64x1024.Idx) :
    k0_pay25 (k0_pay20 g) (k0_pay22 w) mm v j = delta (w j) (mm j) (v j) (g (ix2 (j 1) (j 2))) := by
  pointwise [k0_pay20, k0_pay21, k0_pay22, k0_pay23, k0_pay24, k0_pay25, k0_pay26, k0_pay27]
  rfl

theorem pay_m2 (mm : Vec Ideal S1x64x1024 .f32) (g : Vec Ideal S64x1024 .bf16) (j : S1x64x1024.Idx) :
    k0_pay26 (k0_pay20 g) mm j = newM (mm j) (g (ix2 (j 1) (j 2))) := by
  pointwise [k0_pay20, k0_pay21, k0_pay22, k0_pay23, k0_pay24, k0_pay25, k0_pay26, k0_pay27]
  rfl

theorem pay_v2 (v : Vec Ideal S1x64x1024 .f32) (g : Vec Ideal S64x1024 .bf16) (j : S1x64x1024.Idx) :
    k0_pay27 (k0_pay20 g) v j = newV (v j) (g (ix2 (j 1) (j 2))) := by
  pointwise [k0_pay20, k0_pay21, k0_pay22, k0_pay23, k0_pay24, k0_pay25, k0_pay26, k0_pay27]
  rfl

theorem idx8 : ∀ t : Fin cfg0.N, win0_8.index t = ![0, t.val, 0] :=
  (by decide +kernel : ∀ t : Fin grid0.N, win0_8.index t = ![0, t.val, 0])
theorem idx9 : ∀ t : Fin cfg0.N, win0_9.index t = ![t.val, 0] :=
  (by decide +kernel : ∀ t : Fin grid0.N, win0_9.index t = ![t.val, 0])
theorem idx10 : ∀ t : Fin cfg0.N, win0_10.index t = ![0, t.val, 0] :=
  (by decide +kernel : ∀ t : Fin grid0.N, win0_10.index t = ![0, t.val, 0])
theorem idx11 : ∀ t : Fin cfg0.N, win0_11.index t = ![0, t.val, 0] :=
  (by decide +kernel : ∀ t : Fin grid0.N, win0_11.index t = ![0, t.val, 0])
theorem idx20 : ∀ t : Fin cfg0.N, win0_20.index t = ![0, t.val, 0] :=
  (by decide +kernel : ∀ t : Fin grid0.N, win0_20.index t = ![0, t.val, 0])
theorem idx21 : ∀ t : Fin cfg0.N, win0_21.index t = ![0, t.val, 0] :=
  (by decide +kernel : ∀ t : Fin grid0.N, win0_21.index t = ![0, t.val, 0])
theorem idx22 : ∀ t : Fin cfg0.N, win0_22.index t = ![0, t.val, 0] :=
  (by decide +kernel : ∀ t : Fin grid0.N, win0_22.index t = ![0, t.val, 0])
theorem idx23 : ∀ t : Fin cfg0.N, win0_23.index t = ![0, t.val, 0] :=
  (by decide +kernel : ∀ t : Fin grid0.N, win0_23.index t = ![0, t.val, 0])

/-- Outside the first layer the result is what the array given held. -/
theorem old20 (c : Dev nD) (j : (cfg0.win 20).shape.Idx) (hj : ¬ (cfg0.win 20).cell j (0 : Fin _) = 0) :
    (dats m 0 c).A 20 ((cfg0.win 20).arr.view.emb j) = G2 (m ((c : Thread nD τ).loc main_arg17)) (m ((c : Thread nD τ).loc main_arg20)) ((cfg0.win 20).arr.view.emb j) := by
  have h0 : ¬ ((cfg0.win 20).arr.view.emb j 0).val = 0 := by
    intro h
    refine hj ?_
    blk_simp [Pipeline.Window.cell_apply] at h ⊢
    omega
  refine Eq.trans ?_ (G2_old _ _ _ h0).symm
  rw [A_eq]
  show V m c main_v0_8 _ = _
  unfold V
  after_results
  rfl

theorem final20 (c : Dev nD) : (dats m 0 c).arrAt 20 cfg0.N = G2 (m ((c : Thread nD τ).loc main_arg17)) (m ((c : Thread nD τ).loc main_arg20)) := by
  refine (dats m 0 c).arrAt_eq_of_coversWhere_of_agree 20 _ (fun β => β (0 : Fin _) = 0) (by decide +kernel)
    (fun t hf y => ?_) (fun j hj => ?_)
  · blk_simp
    rw [after0_20]
    frame_out
    rw [pay_g2]
    refine Eq.trans ?_ (first_new (by blk_simp [idx20]; try omega) _ _).symm
    blk_ext [iblk, V_main_arg17, idx9, idx20]
  · exact old20 m c j hj

/-- Outside the first layer the result is what the array given held. -/
theorem old21 (c : Dev nD) (j : (cfg0.win 21).shape.Idx) (hj : ¬ (cfg0.win 21).cell j (0 : Fin _) = 0) :
    (dats m 0 c).A 21 ((cfg0.win 21).arr.view.emb j) = D2 (m ((c : Thread nD τ).loc main_arg16)) (m ((c : Thread nD τ).loc main_arg17)) (m ((c : Thread nD τ).loc main_arg18)) (m ((c : Thread nD τ).loc main_arg19)) (m ((c : Thread nD τ).loc main_arg21)) ((cfg0.win 21).arr.view.emb j) := by
  have h0 : ¬ ((cfg0.win 21).arr.view.emb j 0).val = 0 := by
    intro h
    refine hj ?_
    blk_simp [Pipeline.Window.cell_apply] at h ⊢
    omega
  refine Eq.trans ?_ (D2_old _ _ _ _ _ _ h0).symm
  rw [A_eq]
  show V m c main_v0_9 _ = _
  unfold V
  after_results
  rfl

set_option maxHeartbeats 1000000 in
theorem final21 (c : Dev nD) : (dats m 0 c).arrAt 21 cfg0.N = D2 (m ((c : Thread nD τ).loc main_arg16)) (m ((c : Thread nD τ).loc main_arg17)) (m ((c : Thread nD τ).loc main_arg18)) (m ((c : Thread nD τ).loc main_arg19)) (m ((c : Thread nD τ).loc main_arg21)) := by
  refine (dats m 0 c).arrAt_eq_of_coversWhere_of_agree 21 _ (fun β => β (0 : Fin _) = 0) (by decide +kernel)
    (fun t hf y => ?_) (fun j hj => ?_)
  · blk_simp
    rw [after0_21]
    frame_out
    rw [pay_d2]
    refine Eq.trans ?_ (first_new (by blk_simp [idx21]; try omega) _ _).symm
    refine congr4 delta ?_ ?_ ?_ ?_
    · blk_ext [iblk, V_main_arg16, idx8, idx21]
    · blk_ext [iblk, V_main_arg18, idx10, idx21]
    · blk_ext [iblk, V_main_arg19, idx11, idx21]
    · blk_ext [iblk, V_main_arg17, idx9, idx21]
  · exact old21 m c j hj

/-- Outside the first layer the result is what the array given held. -/
theorem old22 (c : Dev nD) (j : (cfg0.win 22).shape.Idx) (hj : ¬ (cfg0.win 22).cell j (0 : Fin _) = 0) :
    (dats m 0 c).A 22 ((cfg0.win 22).arr.view.emb j) = M2 (m ((c : Thread nD τ).loc main_arg17)) (m ((c : Thread nD τ).loc main_arg18)) (m ((c : Thread nD τ).loc main_arg22)) ((cfg0.win 22).arr.view.emb j) := by
  have h0 : ¬ ((cfg0.win 22).arr.view.emb j 0).val = 0 := by
    intro h
    refine hj ?_
    blk_simp [Pipeline.Window.cell_apply] at h ⊢
    omega
  refine Eq.trans ?_ (M2_old _ _ _ _ h0).symm
  rw [A_eq]
  show V m c main_v0_10 _ = _
  unfold V
  after_results
  rfl

theorem final22 (c : Dev nD) : (dats m 0 c).arrAt 22 cfg0.N = M2 (m ((c : Thread nD τ).loc main_arg17)) (m ((c : Thread nD τ).loc main_arg18)) (m ((c : Thread nD τ).loc main_arg22)) := by
  refine (dats m 0 c).arrAt_eq_of_coversWhere_of_agree 22 _ (fun β => β (0 : Fin _) = 0) (by decide +kernel)
    (fun t hf y => ?_) (fun j hj => ?_)
  · blk_simp
    rw [after0_22]
    frame_out
    rw [pay_m2]
    refine Eq.trans ?_ (first_new (by blk_simp [idx22]; try omega) _ _).symm
    refine congrArg₂ newM ?_ ?_
    · blk_ext [iblk, V_main_arg18, idx10, idx22]
    · blk_ext [iblk, V_main_arg17, idx9, idx22]
  · exact old22 m c j hj

/-- Outside the first layer the result is what the array given held. -/
theorem old23 (c : Dev nD) (j : (cfg0.win 23).shape.Idx) (hj : ¬ (cfg0.win 23).cell j (0 : Fin _) = 0) :
    (dats m 0 c).A 23 ((cfg0.win 23).arr.view.emb j) = V2 (m ((c : Thread nD τ).loc main_arg17)) (m ((c : Thread nD τ).loc main_arg19)) (m ((c : Thread nD τ).loc main_arg23)) ((cfg0.win 23).arr.view.emb j) := by
  have h0 : ¬ ((cfg0.win 23).arr.view.emb j 0).val = 0 := by
    intro h
    refine hj ?_
    blk_simp [Pipeline.Window.cell_apply] at h ⊢
    omega
  refine Eq.trans ?_ (V2_old _ _ _ _ h0).symm
  rw [A_eq]
  show V m c main_v0_11 _ = _
  unfold V
  after_results
  rfl

theorem final23 (c : Dev nD) : (dats m 0 c).arrAt 23 cfg0.N = V2 (m ((c : Thread nD τ).loc main_arg17)) (m ((c : Thread nD τ).loc main_arg19)) (m ((c : Thread nD τ).loc main_arg23)) := by
  refine (dats m 0 c).arrAt_eq_of_coversWhere_of_agree 23 _ (fun β => β (0 : Fin _) = 0) (by decide +kernel)
    (fun t hf y => ?_) (fun j hj => ?_)
  · blk_simp
    rw [after0_23]
    frame_out
    rw [pay_v2]
    refine Eq.trans ?_ (first_new (by blk_simp [idx23]; try omega) _ _).symm
    refine congrArg₂ newV ?_ ?_
    · blk_ext [iblk, V_main_arg19, idx11, idx23]
    · blk_ext [iblk, V_main_arg17, idx9, idx23]
  · exact old23 m c j hj

end Cert.AdamwOddIdeal.Final

namespace Cert.AdamwOddRefIdeal.Final

open Cert.AdamwOddRefIdeal Cert.Adam Cert.AdamwOddIdeal.Final

theorem ref_g0 (g : Vec Ideal S1024x1024 .bf16) (old : Vec Ideal S2x1024x1024 .f32) (i : S2x1024x1024.Idx) :
    Read.val_main_v35 (F := Ideal) g old i = G0 g old i := by
  by_cases h : (i 0).val = 0
  · refine Eq.trans ?_ (first_new h _ _).symm
    have hi : i = ix3 0 (i 1) (i 2) := at_first i h
    rw [hi]
    pointwise [
      Read.val_main_v0, Read.val_main_v33, Read.val_main_v31, Read.val_main_v32, Read.val_main_v34,
      Read.val_main_v35]
  · refine Eq.trans ?_ (first_old h _ _).symm
    have hi : i = ix3 1 (i 1) (i 2) := at_second i h
    rw [hi]
    pointwise [
      Read.val_main_v0, Read.val_main_v33, Read.val_main_v31, Read.val_main_v32, Read.val_main_v34,
      Read.val_main_v35]

theorem ref_d0 (w : Vec Ideal S2x1024x1024 .f32) (g : Vec Ideal S1024x1024 .bf16) (mm : Vec Ideal S2x1024x1024 .f32) (v : Vec Ideal S2x1024x1024 .f32) (old : Vec Ideal S2x1024x1024 .f32) (i : S2x1024x1024.Idx) :
    Read.val_main_v40 (F := Ideal) w g mm v old i = D0 w g mm v old i := by
  by_cases h : (i 0).val = 0
  · refine Eq.trans ?_ (first_new h _ _).symm
    have hi : i = ix3 0 (i 1) (i 2) := at_first i h
    rw [hi]
    pointwise [
      Read.val_main_cst_7, Read.val_main_v29, Read.val_main_cst, Read.val_main_v7, Read.val_main_v3,
      Read.val_main_v4, Read.val_main_v8, Read.val_main_cst_0, Read.val_main_v9, Read.val_main_v0,
      Read.val_main_v10, Read.val_main_v11, Read.val_main_cst_3, Read.val_main_v18, Read.val_main_v19,
      Read.val_main_cst_1, Read.val_main_v12, Read.val_main_v5, Read.val_main_v6, Read.val_main_v13,
      Read.val_main_cst_2, Read.val_main_v15, Read.val_main_v14, Read.val_main_v16, Read.val_main_v17,
      Read.val_main_cst_4, Read.val_main_v20, Read.val_main_v21, Read.val_main_v22, Read.val_main_cst_5,
      Read.val_main_v23, Read.val_main_v24, Read.val_main_v25, Read.val_main_cst_6, Read.val_main_v26,
      Read.val_main_v1, Read.val_main_v2, Read.val_main_v27, Read.val_main_v28, Read.val_main_v30,
      Read.val_main_v38, Read.val_main_v36, Read.val_main_v37, Read.val_main_v39, Read.val_main_v40]
    rfl
  · refine Eq.trans ?_ (first_old h _ _).symm
    have hi : i = ix3 1 (i 1) (i 2) := at_second i h
    rw [hi]
    pointwise [
      Read.val_main_cst_7, Read.val_main_v29, Read.val_main_cst, Read.val_main_v7, Read.val_main_v3,
      Read.val_main_v4, Read.val_main_v8, Read.val_main_cst_0, Read.val_main_v9, Read.val_main_v0,
      Read.val_main_v10, Read.val_main_v11, Read.val_main_cst_3, Read.val_main_v18, Read.val_main_v19,
      Read.val_main_cst_1, Read.val_main_v12, Read.val_main_v5, Read.val_main_v6, Read.val_main_v13,
      Read.val_main_cst_2, Read.val_main_v15, Read.val_main_v14, Read.val_main_v16, Read.val_main_v17,
      Read.val_main_cst_4, Read.val_main_v20, Read.val_main_v21, Read.val_main_v22, Read.val_main_cst_5,
      Read.val_main_v23, Read.val_main_v24, Read.val_main_v25, Read.val_main_cst_6, Read.val_main_v26,
      Read.val_main_v1, Read.val_main_v2, Read.val_main_v27, Read.val_main_v28, Read.val_main_v30,
      Read.val_main_v38, Read.val_main_v36, Read.val_main_v37, Read.val_main_v39, Read.val_main_v40]

theorem ref_m0 (g : Vec Ideal S1024x1024 .bf16) (mm : Vec Ideal S2x1024x1024 .f32) (old : Vec Ideal S2x1024x1024 .f32) (i : S2x1024x1024.Idx) :
    Read.val_main_v45 (F := Ideal) g mm old i = M0 g mm old i := by
  by_cases h : (i 0).val = 0
  · refine Eq.trans ?_ (first_new h _ _).symm
    have hi : i = ix3 0 (i 1) (i 2) := at_first i h
    rw [hi]
    pointwise [
      Read.val_main_cst, Read.val_main_v7, Read.val_main_v3, Read.val_main_v4, Read.val_main_v8,
      Read.val_main_cst_0, Read.val_main_v9, Read.val_main_v0, Read.val_main_v10, Read.val_main_v11,
      Read.val_main_v43, Read.val_main_v41, Read.val_main_v42, Read.val_main_v44, Read.val_main_v45]
    rfl
  · refine Eq.trans ?_ (first_old h _ _).symm
    have hi : i = ix3 1 (i 1) (i 2) := at_second i h
    rw [hi]
    pointwise [
      Read.val_main_cst, Read.val_main_v7, Read.val_main_v3, Read.val_main_v4, Read.val_main_v8,
      Read.val_main_cst_0, Read.val_main_v9, Read.val_main_v0, Read.val_main_v10, Read.val_main_v11,
      Read.val_main_v43, Read.val_main_v41, Read.val_main_v42, Read.val_main_v44, Read.val_main_v45]

theorem ref_v0 (g : Vec Ideal S1024x1024 .bf16) (v : Vec Ideal S2x1024x1024 .f32) (old : Vec Ideal S2x1024x1024 .f32) (i : S2x1024x1024.Idx) :
    Read.val_main_v50 (F := Ideal) g v old i = V0 g v old i := by
  by_cases h : (i 0).val = 0
  · refine Eq.trans ?_ (first_new h _ _).symm
    have hi : i = ix3 0 (i 1) (i 2) := at_first i h
    rw [hi]
    pointwise [
      Read.val_main_cst_1, Read.val_main_v12, Read.val_main_v5, Read.val_main_v6, Read.val_main_v13,
      Read.val_main_cst_2, Read.val_main_v15, Read.val_main_v0, Read.val_main_v14, Read.val_main_v16,
      Read.val_main_v17, Read.val_main_v48, Read.val_main_v46, Read.val_main_v47, Read.val_main_v49,
      Read.val_main_v50]
    rfl
  · refine Eq.trans ?_ (first_old h _ _).symm
    have hi : i = ix3 1 (i 1) (i 2) := at_second i h
    rw [hi]
    pointwise [
      Read.val_main_cst_1, Read.val_main_v12, Read.val_main_v5, Read.val_main_v6, Read.val_main_v13,
      Read.val_main_cst_2, Read.val_main_v15, Read.val_main_v0, Read.val_main_v14, Read.val_main_v16,
      Read.val_main_v17, Read.val_main_v48, Read.val_main_v46, Read.val_main_v47, Read.val_main_v49,
      Read.val_main_v50]

theorem ref_g1 (g : Vec Ideal S512x512 .bf16) (old : Vec Ideal S2x512x512 .f32) (i : S2x512x512.Idx) :
    Read.val_main_v86 (F := Ideal) g old i = G1 g old i := by
  by_cases h : (i 0).val = 0
  · refine Eq.trans ?_ (first_new h _ _).symm
    have hi : i = ix3 0 (i 1) (i 2) := at_first i h
    rw [hi]
    pointwise [
      Read.val_main_v51, Read.val_main_v84, Read.val_main_v82, Read.val_main_v83, Read.val_main_v85,
      Read.val_main_v86]
  · refine Eq.trans ?_ (first_old h _ _).symm
    have hi : i = ix3 1 (i 1) (i 2) := at_second i h
    rw [hi]
    pointwise [
      Read.val_main_v51, Read.val_main_v84, Read.val_main_v82, Read.val_main_v83, Read.val_main_v85,
      Read.val_main_v86]

theorem ref_d1 (w : Vec Ideal S2x512x512 .f32) (g : Vec Ideal S512x512 .bf16) (mm : Vec Ideal S2x512x512 .f32) (v : Vec Ideal S2x512x512 .f32) (old : Vec Ideal S2x512x512 .f32) (i : S2x512x512.Idx) :
    Read.val_main_v91 (F := Ideal) w g mm v old i = D1 w g mm v old i := by
  by_cases h : (i 0).val = 0
  · refine Eq.trans ?_ (first_new h _ _).symm
    have hi : i = ix3 0 (i 1) (i 2) := at_first i h
    rw [hi]
    pointwise [
      Read.val_main_cst_16, Read.val_main_v80, Read.val_main_cst_8, Read.val_main_v58, Read.val_main_v54,
      Read.val_main_v55, Read.val_main_v59, Read.val_main_cst_9, Read.val_main_v60, Read.val_main_v51,
      Read.val_main_v61, Read.val_main_v62, Read.val_main_cst_12, Read.val_main_v69, Read.val_main_v70,
      Read.val_main_cst_10, Read.val_main_v63, Read.val_main_v56, Read.val_main_v57, Read.val_main_v64,
      Read.val_main_cst_11, Read.val_main_v66, Read.val_main_v65, Read.val_main_v67, Read.val_main_v68,
      Read.val_main_cst_13, Read.val_main_v71, Read.val_main_v72, Read.val_main_v73, Read.val_main_cst_14,
      Read.val_main_v74, Read.val_main_v75, Read.val_main_v76, Read.val_main_cst_15, Read.val_main_v77,
      Read.val_main_v52, Read.val_main_v53, Read.val_main_v78, Read.val_main_v79, Read.val_main_v81,
      Read.val_main_v89, Read.val_main_v87, Read.val_main_v88, Read.val_main_v90, Read.val_main_v91]
    rfl
  · refine Eq.trans ?_ (first_old h _ _).symm
    have hi : i = ix3 1 (i 1) (i 2) := at_second i h
    rw [hi]
    pointwise [
      Read.val_main_cst_16, Read.val_main_v80, Read.val_main_cst_8, Read.val_main_v58, Read.val_main_v54,
      Read.val_main_v55, Read.val_main_v59, Read.val_main_cst_9, Read.val_main_v60, Read.val_main_v51,
      Read.val_main_v61, Read.val_main_v62, Read.val_main_cst_12, Read.val_main_v69, Read.val_main_v70,
      Read.val_main_cst_10, Read.val_main_v63, Read.val_main_v56, Read.val_main_v57, Read.val_main_v64,
      Read.val_main_cst_11, Read.val_main_v66, Read.val_main_v65, Read.val_main_v67, Read.val_main_v68,
      Read.val_main_cst_13, Read.val_main_v71, Read.val_main_v72, Read.val_main_v73, Read.val_main_cst_14,
      Read.val_main_v74, Read.val_main_v75, Read.val_main_v76, Read.val_main_cst_15, Read.val_main_v77,
      Read.val_main_v52, Read.val_main_v53, Read.val_main_v78, Read.val_main_v79, Read.val_main_v81,
      Read.val_main_v89, Read.val_main_v87, Read.val_main_v88, Read.val_main_v90, Read.val_main_v91]

theorem ref_m1 (g : Vec Ideal S512x512 .bf16) (mm : Vec Ideal S2x512x512 .f32) (old : Vec Ideal S2x512x512 .f32) (i : S2x512x512.Idx) :
    Read.val_main_v96 (F := Ideal) g mm old i = M1 g mm old i := by
  by_cases h : (i 0).val = 0
  · refine Eq.trans ?_ (first_new h _ _).symm
    have hi : i = ix3 0 (i 1) (i 2) := at_first i h
    rw [hi]
    pointwise [
      Read.val_main_cst_8, Read.val_main_v58, Read.val_main_v54, Read.val_main_v55, Read.val_main_v59,
      Read.val_main_cst_9, Read.val_main_v60, Read.val_main_v51, Read.val_main_v61, Read.val_main_v62,
      Read.val_main_v94, Read.val_main_v92, Read.val_main_v93, Read.val_main_v95, Read.val_main_v96]
    rfl
  · refine Eq.trans ?_ (first_old h _ _).symm
    have hi : i = ix3 1 (i 1) (i 2) := at_second i h
    rw [hi]
    pointwise [
      Read.val_main_cst_8, Read.val_main_v58, Read.val_main_v54, Read.val_main_v55, Read.val_main_v59,
      Read.val_main_cst_9, Read.val_main_v60, Read.val_main_v51, Read.val_main_v61, Read.val_main_v62,
      Read.val_main_v94, Read.val_main_v92, Read.val_main_v93, Read.val_main_v95, Read.val_main_v96]

theorem ref_v1 (g : Vec Ideal S512x512 .bf16) (v : Vec Ideal S2x512x512 .f32) (old : Vec Ideal S2x512x512 .f32) (i : S2x512x512.Idx) :
    Read.val_main_v101 (F := Ideal) g v old i = V1 g v old i := by
  by_cases h : (i 0).val = 0
  · refine Eq.trans ?_ (first_new h _ _).symm
    have hi : i = ix3 0 (i 1) (i 2) := at_first i h
    rw [hi]
    pointwise [
      Read.val_main_cst_10, Read.val_main_v63, Read.val_main_v56, Read.val_main_v57, Read.val_main_v64,
      Read.val_main_cst_11, Read.val_main_v66, Read.val_main_v51, Read.val_main_v65, Read.val_main_v67,
      Read.val_main_v68, Read.val_main_v99, Read.val_main_v97, Read.val_main_v98, Read.val_main_v100,
      Read.val_main_v101]
    rfl
  · refine Eq.trans ?_ (first_old h _ _).symm
    have hi : i = ix3 1 (i 1) (i 2) := at_second i h
    rw [hi]
    pointwise [
      Read.val_main_cst_10, Read.val_main_v63, Read.val_main_v56, Read.val_main_v57, Read.val_main_v64,
      Read.val_main_cst_11, Read.val_main_v66, Read.val_main_v51, Read.val_main_v65, Read.val_main_v67,
      Read.val_main_v68, Read.val_main_v99, Read.val_main_v97, Read.val_main_v98, Read.val_main_v100,
      Read.val_main_v101]

theorem ref_g2 (g : Vec Ideal S512x1024 .bf16) (old : Vec Ideal S2x512x1024 .f32) (i : S2x512x1024.Idx) :
    Read.val_main_v137 (F := Ideal) g old i = G2 g old i := by
  by_cases h : (i 0).val = 0
  · refine Eq.trans ?_ (first_new h _ _).symm
    have hi : i = ix3 0 (i 1) (i 2) := at_first i h
    rw [hi]
    pointwise [
      Read.val_main_v102, Read.val_main_v135, Read.val_main_v133, Read.val_main_v134, Read.val_main_v136,
      Read.val_main_v137]
  · refine Eq.trans ?_ (first_old h _ _).symm
    have hi : i = ix3 1 (i 1) (i 2) := at_second i h
    rw [hi]
    pointwise [
      Read.val_main_v102, Read.val_main_v135, Read.val_main_v133, Read.val_main_v134, Read.val_main_v136,
      Read.val_main_v137]

theorem ref_d2 (w : Vec Ideal S2x512x1024 .f32) (g : Vec Ideal S512x1024 .bf16) (mm : Vec Ideal S2x512x1024 .f32) (v : Vec Ideal S2x512x1024 .f32) (old : Vec Ideal S2x512x1024 .f32) (i : S2x512x1024.Idx) :
    Read.val_main_v142 (F := Ideal) w g mm v old i = D2 w g mm v old i := by
  by_cases h : (i 0).val = 0
  · refine Eq.trans ?_ (first_new h _ _).symm
    have hi : i = ix3 0 (i 1) (i 2) := at_first i h
    rw [hi]
    pointwise [
      Read.val_main_cst_25, Read.val_main_v131, Read.val_main_cst_17, Read.val_main_v109, Read.val_main_v105,
      Read.val_main_v106, Read.val_main_v110, Read.val_main_cst_18, Read.val_main_v111, Read.val_main_v102,
      Read.val_main_v112, Read.val_main_v113, Read.val_main_cst_21, Read.val_main_v120, Read.val_main_v121,
      Read.val_main_cst_19, Read.val_main_v114, Read.val_main_v107, Read.val_main_v108, Read.val_main_v115,
      Read.val_main_cst_20, Read.val_main_v117, Read.val_main_v116, Read.val_main_v118, Read.val_main_v119,
      Read.val_main_cst_22, Read.val_main_v122, Read.val_main_v123, Read.val_main_v124, Read.val_main_cst_23,
      Read.val_main_v125, Read.val_main_v126, Read.val_main_v127, Read.val_main_cst_24, Read.val_main_v128,
      Read.val_main_v103, Read.val_main_v104, Read.val_main_v129, Read.val_main_v130, Read.val_main_v132,
      Read.val_main_v140, Read.val_main_v138, Read.val_main_v139, Read.val_main_v141, Read.val_main_v142]
    rfl
  · refine Eq.trans ?_ (first_old h _ _).symm
    have hi : i = ix3 1 (i 1) (i 2) := at_second i h
    rw [hi]
    pointwise [
      Read.val_main_cst_25, Read.val_main_v131, Read.val_main_cst_17, Read.val_main_v109, Read.val_main_v105,
      Read.val_main_v106, Read.val_main_v110, Read.val_main_cst_18, Read.val_main_v111, Read.val_main_v102,
      Read.val_main_v112, Read.val_main_v113, Read.val_main_cst_21, Read.val_main_v120, Read.val_main_v121,
      Read.val_main_cst_19, Read.val_main_v114, Read.val_main_v107, Read.val_main_v108, Read.val_main_v115,
      Read.val_main_cst_20, Read.val_main_v117, Read.val_main_v116, Read.val_main_v118, Read.val_main_v119,
      Read.val_main_cst_22, Read.val_main_v122, Read.val_main_v123, Read.val_main_v124, Read.val_main_cst_23,
      Read.val_main_v125, Read.val_main_v126, Read.val_main_v127, Read.val_main_cst_24, Read.val_main_v128,
      Read.val_main_v103, Read.val_main_v104, Read.val_main_v129, Read.val_main_v130, Read.val_main_v132,
      Read.val_main_v140, Read.val_main_v138, Read.val_main_v139, Read.val_main_v141, Read.val_main_v142]

theorem ref_m2 (g : Vec Ideal S512x1024 .bf16) (mm : Vec Ideal S2x512x1024 .f32) (old : Vec Ideal S2x512x1024 .f32) (i : S2x512x1024.Idx) :
    Read.val_main_v147 (F := Ideal) g mm old i = M2 g mm old i := by
  by_cases h : (i 0).val = 0
  · refine Eq.trans ?_ (first_new h _ _).symm
    have hi : i = ix3 0 (i 1) (i 2) := at_first i h
    rw [hi]
    pointwise [
      Read.val_main_cst_17, Read.val_main_v109, Read.val_main_v105, Read.val_main_v106, Read.val_main_v110,
      Read.val_main_cst_18, Read.val_main_v111, Read.val_main_v102, Read.val_main_v112, Read.val_main_v113,
      Read.val_main_v145, Read.val_main_v143, Read.val_main_v144, Read.val_main_v146, Read.val_main_v147]
    rfl
  · refine Eq.trans ?_ (first_old h _ _).symm
    have hi : i = ix3 1 (i 1) (i 2) := at_second i h
    rw [hi]
    pointwise [
      Read.val_main_cst_17, Read.val_main_v109, Read.val_main_v105, Read.val_main_v106, Read.val_main_v110,
      Read.val_main_cst_18, Read.val_main_v111, Read.val_main_v102, Read.val_main_v112, Read.val_main_v113,
      Read.val_main_v145, Read.val_main_v143, Read.val_main_v144, Read.val_main_v146, Read.val_main_v147]

theorem ref_v2 (g : Vec Ideal S512x1024 .bf16) (v : Vec Ideal S2x512x1024 .f32) (old : Vec Ideal S2x512x1024 .f32) (i : S2x512x1024.Idx) :
    Read.val_main_v152 (F := Ideal) g v old i = V2 g v old i := by
  by_cases h : (i 0).val = 0
  · refine Eq.trans ?_ (first_new h _ _).symm
    have hi : i = ix3 0 (i 1) (i 2) := at_first i h
    rw [hi]
    pointwise [
      Read.val_main_cst_19, Read.val_main_v114, Read.val_main_v107, Read.val_main_v108, Read.val_main_v115,
      Read.val_main_cst_20, Read.val_main_v117, Read.val_main_v102, Read.val_main_v116, Read.val_main_v118,
      Read.val_main_v119, Read.val_main_v150, Read.val_main_v148, Read.val_main_v149, Read.val_main_v151,
      Read.val_main_v152]
    rfl
  · refine Eq.trans ?_ (first_old h _ _).symm
    have hi : i = ix3 1 (i 1) (i 2) := at_second i h
    rw [hi]
    pointwise [
      Read.val_main_cst_19, Read.val_main_v114, Read.val_main_v107, Read.val_main_v108, Read.val_main_v115,
      Read.val_main_cst_20, Read.val_main_v117, Read.val_main_v102, Read.val_main_v116, Read.val_main_v118,
      Read.val_main_v119, Read.val_main_v150, Read.val_main_v148, Read.val_main_v149, Read.val_main_v151,
      Read.val_main_v152]

end Cert.AdamwOddRefIdeal.Final

namespace Cert.Proof.AdamwOddClaims

theorem frame_k : Cert.quiescent_AdamwOdd := fun m g _ => Cert.AdamwOdd.Gen.frame m g
theorem frame_ki : Cert.quiescent_AdamwOddIdeal := fun m g _ => Cert.AdamwOddIdeal.Gen.frame m g
theorem frame_ri : Cert.quiescent_AdamwOddRefIdeal := fun m g _ =>
  (θ_run Cert.AdamwOddRefIdeal.defs _ _).mono (fun r h => ⟨fun c => (h c).2.2.2.2.2.2.2.2.2.2.2.2, Idealize.ShloMosaic.sem_eq_zero_of_no_sems (by decide) r.2⟩)
    (Cert.AdamwOddRefIdeal.Value.run (F := Ideal) m g)
theorem preserves : Cert.preserves_AdamwOdd_AdamwOddIdeal := trivial

/-- At the extended reals the kernel's results and the reference's are equal at every index. -/
theorem algebraic : Cert.algebraic_AdamwOddIdeal_AdamwOddRefIdeal := by
  intro m g m' g' _ h
  refine ⟨fun c => Cert.AdamwOddIdeal.Final.G0 (m ((c.tc : Thread Cert.AdamwOddIdeal.nD Cert.AdamwOddIdeal.τ).loc Cert.AdamwOddIdeal.main_arg1)) (m ((c.tc : Thread Cert.AdamwOddIdeal.nD Cert.AdamwOddIdeal.τ).loc Cert.AdamwOddIdeal.main_arg4)),
    fun c => Cert.AdamwOddIdeal.Final.D0 (m ((c.tc : Thread Cert.AdamwOddIdeal.nD Cert.AdamwOddIdeal.τ).loc Cert.AdamwOddIdeal.main_arg0)) (m ((c.tc : Thread Cert.AdamwOddIdeal.nD Cert.AdamwOddIdeal.τ).loc Cert.AdamwOddIdeal.main_arg1)) (m ((c.tc : Thread Cert.AdamwOddIdeal.nD Cert.AdamwOddIdeal.τ).loc Cert.AdamwOddIdeal.main_arg2)) (m ((c.tc : Thread Cert.AdamwOddIdeal.nD Cert.AdamwOddIdeal.τ).loc Cert.AdamwOddIdeal.main_arg3)) (m ((c.tc : Thread Cert.AdamwOddIdeal.nD Cert.AdamwOddIdeal.τ).loc Cert.AdamwOddIdeal.main_arg5)),
    fun c => Cert.AdamwOddIdeal.Final.M0 (m ((c.tc : Thread Cert.AdamwOddIdeal.nD Cert.AdamwOddIdeal.τ).loc Cert.AdamwOddIdeal.main_arg1)) (m ((c.tc : Thread Cert.AdamwOddIdeal.nD Cert.AdamwOddIdeal.τ).loc Cert.AdamwOddIdeal.main_arg2)) (m ((c.tc : Thread Cert.AdamwOddIdeal.nD Cert.AdamwOddIdeal.τ).loc Cert.AdamwOddIdeal.main_arg6)),
    fun c => Cert.AdamwOddIdeal.Final.V0 (m ((c.tc : Thread Cert.AdamwOddIdeal.nD Cert.AdamwOddIdeal.τ).loc Cert.AdamwOddIdeal.main_arg1)) (m ((c.tc : Thread Cert.AdamwOddIdeal.nD Cert.AdamwOddIdeal.τ).loc Cert.AdamwOddIdeal.main_arg3)) (m ((c.tc : Thread Cert.AdamwOddIdeal.nD Cert.AdamwOddIdeal.τ).loc Cert.AdamwOddIdeal.main_arg7)),
    fun c => Cert.AdamwOddIdeal.Final.G1 (m ((c.tc : Thread Cert.AdamwOddIdeal.nD Cert.AdamwOddIdeal.τ).loc Cert.AdamwOddIdeal.main_arg9)) (m ((c.tc : Thread Cert.AdamwOddIdeal.nD Cert.AdamwOddIdeal.τ).loc Cert.AdamwOddIdeal.main_arg12)),
    fun c => Cert.AdamwOddIdeal.Final.D1 (m ((c.tc : Thread Cert.AdamwOddIdeal.nD Cert.AdamwOddIdeal.τ).loc Cert.AdamwOddIdeal.main_arg8)) (m ((c.tc : Thread Cert.AdamwOddIdeal.nD Cert.AdamwOddIdeal.τ).loc Cert.AdamwOddIdeal.main_arg9)) (m ((c.tc : Thread Cert.AdamwOddIdeal.nD Cert.AdamwOddIdeal.τ).loc Cert.AdamwOddIdeal.main_arg10)) (m ((c.tc : Thread Cert.AdamwOddIdeal.nD Cert.AdamwOddIdeal.τ).loc Cert.AdamwOddIdeal.main_arg11)) (m ((c.tc : Thread Cert.AdamwOddIdeal.nD Cert.AdamwOddIdeal.τ).loc Cert.AdamwOddIdeal.main_arg13)),
    fun c => Cert.AdamwOddIdeal.Final.M1 (m ((c.tc : Thread Cert.AdamwOddIdeal.nD Cert.AdamwOddIdeal.τ).loc Cert.AdamwOddIdeal.main_arg9)) (m ((c.tc : Thread Cert.AdamwOddIdeal.nD Cert.AdamwOddIdeal.τ).loc Cert.AdamwOddIdeal.main_arg10)) (m ((c.tc : Thread Cert.AdamwOddIdeal.nD Cert.AdamwOddIdeal.τ).loc Cert.AdamwOddIdeal.main_arg14)),
    fun c => Cert.AdamwOddIdeal.Final.V1 (m ((c.tc : Thread Cert.AdamwOddIdeal.nD Cert.AdamwOddIdeal.τ).loc Cert.AdamwOddIdeal.main_arg9)) (m ((c.tc : Thread Cert.AdamwOddIdeal.nD Cert.AdamwOddIdeal.τ).loc Cert.AdamwOddIdeal.main_arg11)) (m ((c.tc : Thread Cert.AdamwOddIdeal.nD Cert.AdamwOddIdeal.τ).loc Cert.AdamwOddIdeal.main_arg15)),
    fun c => Cert.AdamwOddIdeal.Final.G2 (m ((c.tc : Thread Cert.AdamwOddIdeal.nD Cert.AdamwOddIdeal.τ).loc Cert.AdamwOddIdeal.main_arg17)) (m ((c.tc : Thread Cert.AdamwOddIdeal.nD Cert.AdamwOddIdeal.τ).loc Cert.AdamwOddIdeal.main_arg20)),
    fun c => Cert.AdamwOddIdeal.Final.D2 (m ((c.tc : Thread Cert.AdamwOddIdeal.nD Cert.AdamwOddIdeal.τ).loc Cert.AdamwOddIdeal.main_arg16)) (m ((c.tc : Thread Cert.AdamwOddIdeal.nD Cert.AdamwOddIdeal.τ).loc Cert.AdamwOddIdeal.main_arg17)) (m ((c.tc : Thread Cert.AdamwOddIdeal.nD Cert.AdamwOddIdeal.τ).loc Cert.AdamwOddIdeal.main_arg18)) (m ((c.tc : Thread Cert.AdamwOddIdeal.nD Cert.AdamwOddIdeal.τ).loc Cert.AdamwOddIdeal.main_arg19)) (m ((c.tc : Thread Cert.AdamwOddIdeal.nD Cert.AdamwOddIdeal.τ).loc Cert.AdamwOddIdeal.main_arg21)),
    fun c => Cert.AdamwOddIdeal.Final.M2 (m ((c.tc : Thread Cert.AdamwOddIdeal.nD Cert.AdamwOddIdeal.τ).loc Cert.AdamwOddIdeal.main_arg17)) (m ((c.tc : Thread Cert.AdamwOddIdeal.nD Cert.AdamwOddIdeal.τ).loc Cert.AdamwOddIdeal.main_arg18)) (m ((c.tc : Thread Cert.AdamwOddIdeal.nD Cert.AdamwOddIdeal.τ).loc Cert.AdamwOddIdeal.main_arg22)),
    fun c => Cert.AdamwOddIdeal.Final.V2 (m ((c.tc : Thread Cert.AdamwOddIdeal.nD Cert.AdamwOddIdeal.τ).loc Cert.AdamwOddIdeal.main_arg17)) (m ((c.tc : Thread Cert.AdamwOddIdeal.nD Cert.AdamwOddIdeal.τ).loc Cert.AdamwOddIdeal.main_arg19)) (m ((c.tc : Thread Cert.AdamwOddIdeal.nD Cert.AdamwOddIdeal.τ).loc Cert.AdamwOddIdeal.main_arg23)), ?_, ?_⟩
  · exact (θ_run Cert.AdamwOddIdeal.defs _ _).mono (fun _ h c => ⟨(h c).1.trans (Cert.AdamwOddIdeal.Final.final12 m c),
        (h c).2.1.trans (Cert.AdamwOddIdeal.Final.final13 m c),
        (h c).2.2.1.trans (Cert.AdamwOddIdeal.Final.final14 m c),
        (h c).2.2.2.1.trans (Cert.AdamwOddIdeal.Final.final15 m c),
        (h c).2.2.2.2.1.trans (Cert.AdamwOddIdeal.Final.final16 m c),
        (h c).2.2.2.2.2.1.trans (Cert.AdamwOddIdeal.Final.final17 m c),
        (h c).2.2.2.2.2.2.1.trans (Cert.AdamwOddIdeal.Final.final18 m c),
        (h c).2.2.2.2.2.2.2.1.trans (Cert.AdamwOddIdeal.Final.final19 m c),
        (h c).2.2.2.2.2.2.2.2.1.trans (Cert.AdamwOddIdeal.Final.final20 m c),
        (h c).2.2.2.2.2.2.2.2.2.1.trans (Cert.AdamwOddIdeal.Final.final21 m c),
        (h c).2.2.2.2.2.2.2.2.2.2.1.trans (Cert.AdamwOddIdeal.Final.final22 m c),
        (h c).2.2.2.2.2.2.2.2.2.2.2.1.trans (Cert.AdamwOddIdeal.Final.final23 m c), (h c).2.2.2.2.2.2.2.2.2.2.2.2⟩)
      (Cert.AdamwOddIdeal.Value.run_blocks (F := Ideal) m g)
  refine (θ_run Cert.AdamwOddRefIdeal.defs _ _).mono (fun _ h' c => ⟨(h' c).1.trans ?_,
      (h' c).2.1.trans ?_,
      (h' c).2.2.1.trans ?_,
      (h' c).2.2.2.1.trans ?_,
      (h' c).2.2.2.2.1.trans ?_,
      (h' c).2.2.2.2.2.1.trans ?_,
      (h' c).2.2.2.2.2.2.1.trans ?_,
      (h' c).2.2.2.2.2.2.2.1.trans ?_,
      (h' c).2.2.2.2.2.2.2.2.1.trans ?_,
      (h' c).2.2.2.2.2.2.2.2.2.1.trans ?_,
      (h' c).2.2.2.2.2.2.2.2.2.2.1.trans ?_,
      (h' c).2.2.2.2.2.2.2.2.2.2.2.1.trans ?_, (h' c).2.2.2.2.2.2.2.2.2.2.2.2⟩)
    (Cert.AdamwOddRefIdeal.Value.run (F := Ideal) m' g')
  · refine (Cert.AdamwOddRefIdeal.Read.val_main_v35_eq _ _).trans ((funext (Cert.AdamwOddRefIdeal.Final.ref_g0 _ _)).trans ?_)
    rw [(h c).2.1, (h c).2.2.2.2.1]
  · refine (Cert.AdamwOddRefIdeal.Read.val_main_v40_eq _ _ _ _ _).trans ((funext (Cert.AdamwOddRefIdeal.Final.ref_d0 _ _ _ _ _)).trans ?_)
    rw [(h c).1, (h c).2.1, (h c).2.2.1, (h c).2.2.2.1, (h c).2.2.2.2.2.1]
  · refine (Cert.AdamwOddRefIdeal.Read.val_main_v45_eq _ _ _).trans ((funext (Cert.AdamwOddRefIdeal.Final.ref_m0 _ _ _)).trans ?_)
    rw [(h c).2.1, (h c).2.2.1, (h c).2.2.2.2.2.2.1]
  · refine (Cert.AdamwOddRefIdeal.Read.val_main_v50_eq _ _ _).trans ((funext (Cert.AdamwOddRefIdeal.Final.ref_v0 _ _ _)).trans ?_)
    rw [(h c).2.1, (h c).2.2.2.1, (h c).2.2.2.2.2.2.2.1]
  · refine (Cert.AdamwOddRefIdeal.Read.val_main_v86_eq _ _).trans ((funext (Cert.AdamwOddRefIdeal.Final.ref_g1 _ _)).trans ?_)
    rw [(h c).2.2.2.2.2.2.2.2.2.1, (h c).2.2.2.2.2.2.2.2.2.2.2.2.1]
  · refine (Cert.AdamwOddRefIdeal.Read.val_main_v91_eq _ _ _ _ _).trans ((funext (Cert.AdamwOddRefIdeal.Final.ref_d1 _ _ _ _ _)).trans ?_)
    rw [(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.2.1]
  · refine (Cert.AdamwOddRefIdeal.Read.val_main_v96_eq _ _ _).trans ((funext (Cert.AdamwOddRefIdeal.Final.ref_m1 _ _ _)).trans ?_)
    rw [(h c).2.2.2.2.2.2.2.2.2.1, (h c).2.2.2.2.2.2.2.2.2.2.1, (h c).2.2.2.2.2.2.2.2.2.2.2.2.2.2.1]
  · refine (Cert.AdamwOddRefIdeal.Read.val_main_v101_eq _ _ _).trans ((funext (Cert.AdamwOddRefIdeal.Final.ref_v1 _ _ _)).trans ?_)
    rw [(h c).2.2.2.2.2.2.2.2.2.1, (h c).2.2.2.2.2.2.2.2.2.2.2.1, (h c).2.2.2.2.2.2.2.2.2.2.2.2.2.2.2.1]
  · refine (Cert.AdamwOddRefIdeal.Read.val_main_v137_eq _ _).trans ((funext (Cert.AdamwOddRefIdeal.Final.ref_g2 _ _)).trans ?_)
    rw [(h c).2.2.2.2.2.2.2.2.2.2.2.2.2.2.2.2.2.1, (h c).2.2.2.2.2.2.2.2.2.2.2.2.2.2.2.2.2.2.2.2.1]
  · refine (Cert.AdamwOddRefIdeal.Read.val_main_v142_eq _ _ _ _ _).trans ((funext (Cert.AdamwOddRefIdeal.Final.ref_d2 _ _ _ _ _)).trans ?_)
    rw [(h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.2.1]
  · refine (Cert.AdamwOddRefIdeal.Read.val_main_v147_eq _ _ _).trans ((funext (Cert.AdamwOddRefIdeal.Final.ref_m2 _ _ _)).trans ?_)
    rw [(h c).2.2.2.2.2.2.2.2.2.2.2.2.2.2.2.2.2.1, (h c).2.2.2.2.2.2.2.2.2.2.2.2.2.2.2.2.2.2.1, (h c).2.2.2.2.2.2.2.2.2.2.2.2.2.2.2.2.2.2.2.2.2.2.1]
  · refine (Cert.AdamwOddRefIdeal.Read.val_main_v152_eq _ _ _).trans ((funext (Cert.AdamwOddRefIdeal.Final.ref_v2 _ _ _)).trans ?_)
    rw [(h c).2.2.2.2.2.2.2.2.2.2.2.2.2.2.2.2.2.1, (h c).2.2.2.2.2.2.2.2.2.2.2.2.2.2.2.2.2.2.2.1, (h c).2.2.2.2.2.2.2.2.2.2.2.2.2.2.2.2.2.2.2.2.2.2.2]

end Cert.Proof.AdamwOddClaims

end
-- ==== Proof.lean ====
module

public import proofs.«01_k».proof.Defs
public import proofs.«01_k».proof.Proof.EvenDw
public import proofs.«01_k».proof.Proof.OddDw
public import proofs.«01_k».proof.Proof.EvenDh
public import proofs.«01_k».proof.Proof.OddDh
public import proofs.«01_k».proof.Proof.OutBwd
public import proofs.«01_k».proof.Proof.EvenFwd
public import proofs.«01_k».proof.Proof.OddFwd
public import proofs.«01_k».proof.Proof.OutProj
public import proofs.«01_k».proof.Proof.OutProjLast
public import proofs.«01_k».proof.Proof.OddMixFwd
public import proofs.«01_k».proof.Proof.EvenMixFwd
public import proofs.«01_k».proof.Proof.OddMixBwd
public import proofs.«01_k».proof.Proof.AdaBwd
public import proofs.«01_k».proof.Proof.AdamwEven
public import proofs.«01_k».proof.Proof.AdamwOdd
public import Idealize.ShloMosaic.Adequacy
public import Idealize.ShloMosaic.Init

@[expose] public section

noncomputable section

namespace Cert.Proof

open Idealize.ShloMosaic Idealize.SL.Sem

theorem claim : Cert.Claim :=
  ⟨Cert.EvenDw.Gen.facts,
    Cert.EvenDwIdeal.Gen.facts,
    Cert.EvenDwRefIdeal.Gen.facts,
    Cert.OddDw.Gen.facts,
    Cert.OddDwIdeal.Gen.facts,
    Cert.OddDwRefIdeal.Gen.facts,
    Cert.EvenDh.Gen.facts,
    Cert.EvenDhIdeal.Gen.facts,
    Cert.EvenDhRefIdeal.Gen.facts,
    Cert.OddDh.Gen.facts,
    Cert.OddDhIdeal.Gen.facts,
    Cert.OddDhRefIdeal.Gen.facts,
    Cert.OutBwd.Gen.facts,
    Cert.OutBwdIdeal.Gen.facts,
    Cert.OutBwdRefIdeal.Gen.facts,
    Cert.EvenFwd.Gen.facts,
    Cert.EvenFwdIdeal.Gen.facts,
    Cert.EvenFwdRefIdeal.Gen.facts,
    Cert.OddFwd.Gen.facts,
    Cert.OddFwdIdeal.Gen.facts,
    Cert.OddFwdRefIdeal.Gen.facts,
    Cert.OutProj.Gen.facts,
    Cert.OutProjIdeal.Gen.facts,
    Cert.OutProjRefIdeal.Gen.facts,
    Cert.OutProjLast.Gen.facts,
    Cert.OutProjLastIdeal.Gen.facts,
    Cert.OutProjLastRefIdeal.Gen.facts,
    Cert.OddMixFwd.Gen.facts,
    Cert.OddMixFwdIdeal.Gen.facts,
    Cert.OddMixFwdRefIdeal.Gen.facts,
    Cert.EvenMixFwd.Gen.facts,
    Cert.EvenMixFwdIdeal.Gen.facts,
    Cert.EvenMixFwdRefIdeal.Gen.facts,
    Cert.OddMixBwd.Gen.facts,
    Cert.OddMixBwdIdeal.Gen.facts,
    Cert.OddMixBwdRefIdeal.Gen.facts,
    Cert.AdaBwd.Gen.facts,
    Cert.AdaBwdIdeal.Gen.facts,
    Cert.AdaBwdRefIdeal.Gen.facts,
    Cert.AdamwEven.Gen.facts,
    Cert.AdamwEvenIdeal.Gen.facts,
    Cert.AdamwEvenRefIdeal.Gen.facts,
    Cert.AdamwOdd.Gen.facts,
    Cert.AdamwOddIdeal.Gen.facts,
    Cert.AdamwOddRefIdeal.Gen.facts,
    Cert.Pre_odd_finite.Gen.facts,
    EvenDwClaims.frame_k,
    EvenDwClaims.frame_ki,
    EvenDwClaims.frame_ri,
    OddDwClaims.frame_k,
    OddDwClaims.frame_ki,
    OddDwClaims.frame_ri,
    EvenDhClaims.frame_k,
    EvenDhClaims.frame_ki,
    EvenDhClaims.frame_ri,
    OddDhClaims.frame_k,
    OddDhClaims.frame_ki,
    OddDhClaims.frame_ri,
    OutBwdClaims.frame_k,
    OutBwdClaims.frame_ki,
    OutBwdClaims.frame_ri,
    EvenFwdClaims.frame_k,
    EvenFwdClaims.frame_ki,
    EvenFwdClaims.frame_ri,
    OddFwdClaims.frame_k,
    OddFwdClaims.frame_ki,
    OddFwdClaims.frame_ri,
    OutProjClaims.frame_k,
    OutProjClaims.frame_ki,
    OutProjClaims.frame_ri,
    OutProjLastClaims.frame_k,
    OutProjLastClaims.frame_ki,
    OutProjLastClaims.frame_ri,
    OddMixFwdClaims.frame_k,
    OddMixFwdClaims.frame_ki,
    OddMixFwdClaims.frame_ri,
    EvenMixFwdClaims.frame_k,
    EvenMixFwdClaims.frame_ki,
    EvenMixFwdClaims.frame_ri,
    OddMixBwdClaims.frame_k,
    OddMixBwdClaims.frame_ki,
    OddMixBwdClaims.frame_ki_pre,
    OddMixBwdClaims.frame_ri,
    OddMixBwdClaims.frame_ri_pre,
    AdaBwdClaims.frame_k,
    AdaBwdClaims.frame_ki,
    AdaBwdClaims.frame_ri,
    AdamwEvenClaims.frame_k,
    AdamwEvenClaims.frame_ki,
    AdamwEvenClaims.frame_ri,
    AdamwOddClaims.frame_k,
    AdamwOddClaims.frame_ki,
    AdamwOddClaims.frame_ri,
    EvenDwClaims.preserves,
    EvenDwClaims.algebraic,
    OddDwClaims.preserves,
    OddDwClaims.algebraic,
    EvenDhClaims.preserves,
    EvenDhClaims.algebraic,
    OddDhClaims.preserves,
    OddDhClaims.algebraic,
    OutBwdClaims.preserves,
    OutBwdClaims.algebraic,
    EvenFwdClaims.preserves,
    EvenFwdClaims.algebraic,
    OddFwdClaims.preserves,
    OddFwdClaims.algebraic,
    OutProjClaims.preserves,
    OutProjClaims.algebraic,
    OutProjLastClaims.preserves,
    OutProjLastClaims.algebraic,
    OddMixFwdClaims.preserves,
    OddMixFwdClaims.algebraic,
    EvenMixFwdClaims.preserves,
    EvenMixFwdClaims.algebraic,
    OddMixBwdClaims.preserves,
    OddMixBwdClaims.algebraic,
    AdaBwdClaims.preserves,
    AdaBwdClaims.algebraic,
    AdamwEvenClaims.preserves,
    AdamwEvenClaims.algebraic,
    AdamwOddClaims.preserves,
    AdamwOddClaims.algebraic⟩

end Cert.Proof

end
